-- ==== Defs.lean ====
def Pre_ModGrads (m : (ℓ : Loc Cert.ModGrads.nD Cert.ModGrads.τ Cert.ModGrads.sig) → Buf (Elt Bits) ℓ) : Prop :=
  True

def Pre_ModGradsIdeal (m : (ℓ : Loc Cert.ModGradsIdeal.nD Cert.ModGradsIdeal.τ Cert.ModGradsIdeal.sig) → Buf (Elt Ideal) ℓ) : Prop :=
  True

def Pre_ModGradsRefIdeal (m : (ℓ : Loc Cert.ModGradsRefIdeal.nD Cert.ModGradsRefIdeal.τ Cert.ModGradsRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite [hPre_finite : Cert.Pre_finite.Facts] (m : (ℓ : Loc Cert.MixerIdeal.nD Cert.MixerIdeal.τ Cert.MixerIdeal.sig) → Buf (Elt Ideal) ℓ) : Prop :=
  ∀ c : Dev Cert.MixerIdeal.nD,
    (Cert.Pre_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_finite [hPre_finite : Cert.Pre_finite.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))) = (fun _ => 1#1)

def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInIdeal_finite_in [hPre_finite_in : Cert.Pre_finite_in.Facts] (m : (ℓ : Loc Cert.BwdInIdeal.nD Cert.BwdInIdeal.τ Cert.BwdInIdeal.sig) → Buf (Elt Ideal) ℓ) : Prop :=
  ∀ c : Dev Cert.BwdInIdeal.nD,
    (Cert.Pre_finite_in.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6))) = (fun _ => 1#1)

def Pre_BwdInRefIdeal (m : (ℓ : Loc Cert.BwdInRefIdeal.nD Cert.BwdInRefIdeal.τ Cert.BwdInRefIdeal.sig) → Buf (Elt Ideal) ℓ) : Prop :=
  True

def Pre_BwdInRefIdeal_finite_in [hPre_finite_in : Cert.Pre_finite_in.Facts] (m : (ℓ : Loc Cert.BwdInRefIdeal.nD Cert.BwdInRefIdeal.τ Cert.BwdInRefIdeal.sig) → Buf (Elt Ideal) ℓ) : Prop :=
  ∀ c : Dev Cert.BwdInRefIdeal.nD,
    (Cert.Pre_finite_in.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6))) = (fun _ => 1#1)

def Pre_BwdFc2 (m : (ℓ : Loc Cert.BwdFc2.nD Cert.BwdFc2.τ Cert.BwdFc2.sig) → Buf (Elt Bits) ℓ) : Prop :=
  True

def Pre_BwdFc2Ideal (m : (ℓ : Loc Cert.BwdFc2Ideal.nD Cert.BwdFc2Ideal.τ Cert.BwdFc2Ideal.sig) → Buf (Elt Ideal) ℓ) : Prop :=
  True

def Pre_BwdFc2RefIdeal (m : (ℓ : Loc Cert.BwdFc2RefIdeal.nD Cert.BwdFc2RefIdeal.τ Cert.BwdFc2RefIdeal.sig) → Buf (Elt Ideal) ℓ) : Prop :=
  True

def Pre_BwdMid (m : (ℓ : Loc Cert.BwdMid.nD Cert.BwdMid.τ Cert.BwdMid.sig) → Buf (Elt Bits) ℓ) : Prop :=
  True

def Pre_BwdMidIdeal (m : (ℓ : Loc Cert.BwdMidIdeal.nD Cert.BwdMidIdeal.τ Cert.BwdMidIdeal.sig) → Buf (Elt Ideal) ℓ) : Prop :=
  True

def Pre_BwdMidIdeal_finite_mid [hPre_finite_mid : Cert.Pre_finite_mid.Facts] (m : (ℓ : Loc Cert.BwdMidIdeal.nD Cert.BwdMidIdeal.τ Cert.BwdMidIdeal.sig) → Buf (Elt Ideal) ℓ) : Prop :=
  ∀ c : Dev Cert.BwdMidIdeal.nD,
    (Cert.Pre_finite_mid.fn (F := Ideal) (m ((c.tc : Thread Cert.BwdMidIdeal.nD Cert.BwdMidIdeal.τ).loc Cert.BwdMidIdeal.main_arg0)) (m ((c.tc : Thread Cert.BwdMidIdeal.nD Cert.BwdMidIdeal.τ).loc Cert.BwdMidIdeal.main_arg1)) (m ((c.tc : Thread Cert.BwdMidIdeal.nD Cert.BwdMidIdeal.τ).loc Cert.BwdMidIdeal.main_arg2)) (m ((c.tc : Thread Cert.BwdMidIdeal.nD Cert.BwdMidIdeal.τ).loc Cert.BwdMidIdeal.main_arg3)) (m ((c.tc : Thread Cert.BwdMidIdeal.nD Cert.BwdMidIdeal.τ).loc Cert.BwdMidIdeal.main_arg4)) (m ((c.tc : Thread Cert.BwdMidIdeal.nD Cert.BwdMidIdeal.τ).loc Cert.BwdMidIdeal.main_arg5)) (m ((c.tc : Thread Cert.BwdMidIdeal.nD Cert.BwdMidIdeal.τ).loc Cert.BwdMidIdeal.main_arg6)) (m ((c.tc : Thread Cert.BwdMidIdeal.nD Cert.BwdMidIdeal.τ).loc Cert.BwdMidIdeal.main_arg7)) (m ((c.tc : Thread Cert.BwdMidIdeal.nD Cert.BwdMidIdeal.τ).loc Cert.BwdMidIdeal.main_arg8)) (m ((c.tc : Thread Cert.BwdMidIdeal.nD Cert.BwdMidIdeal.τ).loc Cert.BwdMidIdeal.main_arg9))) = (fun _ => 1#1)

def Pre_BwdMidRefIdeal (m : (ℓ : Loc Cert.BwdMidRefIdeal.nD Cert.BwdMidRefIdeal.τ Cert.BwdMidRefIdeal.sig) → Buf (Elt Ideal) ℓ) : Prop :=
  True

def Pre_BwdMidRefIdeal_finite_mid [hPre_finite_mid : Cert.Pre_finite_mid.Facts] (m : (ℓ : Loc Cert.BwdMidRefIdeal.nD Cert.BwdMidRefIdeal.τ Cert.BwdMidRefIdeal.sig) → Buf (Elt Ideal) ℓ) : Prop :=
  ∀ c : Dev Cert.BwdMidRefIdeal.nD,
    (Cert.Pre_finite_mid.fn (F := Ideal) (m ((c.tc : Thread Cert.BwdMidRefIdeal.nD Cert.BwdMidRefIdeal.τ).loc Cert.BwdMidRefIdeal.main_arg0)) (m ((c.tc : Thread Cert.BwdMidRefIdeal.nD Cert.BwdMidRefIdeal.τ).loc Cert.BwdMidRefIdeal.main_arg1)) (m ((c.tc : Thread Cert.BwdMidRefIdeal.nD Cert.BwdMidRefIdeal.τ).loc Cert.BwdMidRefIdeal.main_arg2)) (m ((c.tc : Thread Cert.BwdMidRefIdeal.nD Cert.BwdMidRefIdeal.τ).loc Cert.BwdMidRefIdeal.main_arg3)) (m ((c.tc : Thread Cert.BwdMidRefIdeal.nD Cert.BwdMidRefIdeal.τ).loc Cert.BwdMidRefIdeal.main_arg4)) (m ((c.tc : Thread Cert.BwdMidRefIdeal.nD Cert.BwdMidRefIdeal.τ).loc Cert.BwdMidRefIdeal.main_arg5)) (m ((c.tc : Thread Cert.BwdMidRefIdeal.nD Cert.BwdMidRefIdeal.τ).loc Cert.BwdMidRefIdeal.main_arg6)) (m ((c.tc : Thread Cert.BwdMidRefIdeal.nD Cert.BwdMidRefIdeal.τ).loc Cert.BwdMidRefIdeal.main_arg7)) (m ((c.tc : Thread Cert.BwdMidRefIdeal.nD Cert.BwdMidRefIdeal.τ).loc Cert.BwdMidRefIdeal.main_arg8)) (m ((c.tc : Thread Cert.BwdMidRefIdeal.nD Cert.BwdMidRefIdeal.τ).loc Cert.BwdMidRefIdeal.main_arg9))) = (fun _ => 1#1)

def quiescent_ModGrads [hModGrads : Cert.ModGrads.Facts] : Prop :=
  ∀ (m : (ℓ : Loc Cert.ModGrads.nD Cert.ModGrads.τ Cert.ModGrads.sig) → Buf (Elt Bits) ℓ) (g : Dev Cert.ModGrads.nD → PrngReg), Pre_ModGrads m →
    θ_run (Cert.ModGrads.defs (F := Bits)) (onTc (τ := Cert.ModGrads.τ) (Cert.ModGrads.main (F := Bits))) ⟨m, fun _ => 0, g⟩ (fun r => (∀ c : Dev Cert.ModGrads.nD,
      r.2.mem ((c.tc : Thread Cert.ModGrads.nD Cert.ModGrads.τ).loc Cert.ModGrads.main_arg0) = m ((c.tc : Thread Cert.ModGrads.nD Cert.ModGrads.τ).loc Cert.ModGrads.main_arg0)
      ∧ r.2.mem ((c.tc : Thread Cert.ModGrads.nD Cert.ModGrads.τ).loc Cert.ModGrads.main_arg1) = m ((c.tc : Thread Cert.ModGrads.nD Cert.ModGrads.τ).loc Cert.ModGrads.main_arg1)
      ∧ r.2.mem ((c.tc : Thread Cert.ModGrads.nD Cert.ModGrads.τ).loc Cert.ModGrads.main_arg2) = m ((c.tc : Thread Cert.ModGrads.nD Cert.ModGrads.τ).loc Cert.ModGrads.main_arg2)
      ∧ r.2.mem ((c.tc : Thread Cert.ModGrads.nD Cert.ModGrads.τ).loc Cert.ModGrads.main_arg3) = m ((c.tc : Thread Cert.ModGrads.nD Cert.ModGrads.τ).loc Cert.ModGrads.main_arg3)
      ∧ r.2.mem ((c.tc : Thread Cert.ModGrads.nD Cert.ModGrads.τ).loc Cert.ModGrads.main_arg4) = m ((c.tc : Thread Cert.ModGrads.nD Cert.ModGrads.τ).loc Cert.ModGrads.main_arg4)
      ∧ r.2.mem ((c.tc : Thread Cert.ModGrads.nD Cert.ModGrads.τ).loc Cert.ModGrads.main_arg5) = m ((c.tc : Thread Cert.ModGrads.nD Cert.ModGrads.τ).loc Cert.ModGrads.main_arg5)
      ∧ r.2.mem ((c.tc : Thread Cert.ModGrads.nD Cert.ModGrads.τ).loc Cert.ModGrads.main_arg6) = m ((c.tc : Thread Cert.ModGrads.nD Cert.ModGrads.τ).loc Cert.ModGrads.main_arg6)
      ∧ r.2.mem ((c.tc : Thread Cert.ModGrads.nD Cert.ModGrads.τ).loc Cert.ModGrads.main_arg7) = m ((c.tc : Thread Cert.ModGrads.nD Cert.ModGrads.τ).loc Cert.ModGrads.main_arg7)
      ∧ r.2.mem ((c.tc : Thread Cert.ModGrads.nD Cert.ModGrads.τ).loc Cert.ModGrads.main_arg8) = m ((c.tc : Thread Cert.ModGrads.nD Cert.ModGrads.τ).loc Cert.ModGrads.main_arg8)
      ∧ r.2.mem ((c.tc : Thread Cert.ModGrads.nD Cert.ModGrads.τ).loc Cert.ModGrads.main_arg9) = m ((c.tc : Thread Cert.ModGrads.nD Cert.ModGrads.τ).loc Cert.ModGrads.main_arg9)
      ∧ r.2.mem ((c.tc : Thread Cert.ModGrads.nD Cert.ModGrads.τ).loc Cert.ModGrads.main_arg10) = m ((c.tc : Thread Cert.ModGrads.nD Cert.ModGrads.τ).loc Cert.ModGrads.main_arg10))
      ∧ r.2.sem = fun _ => 0)

def quiescent_ModGradsIdeal [hModGradsIdeal : Cert.ModGradsIdeal.Facts] : Prop :=
  ∀ (m : (ℓ : Loc Cert.ModGradsIdeal.nD Cert.ModGradsIdeal.τ Cert.ModGradsIdeal.sig) → Buf (Elt Ideal) ℓ) (g : Dev Cert.ModGradsIdeal.nD → PrngReg), Pre_ModGradsIdeal m →
    θ_run (Cert.ModGradsIdeal.defs (F := Ideal)) (onTc (τ := Cert.ModGradsIdeal.τ) (Cert.ModGradsIdeal.main (F := Ideal))) ⟨m, fun _ => 0, g⟩ (fun r => (∀ c : Dev Cert.ModGradsIdeal.nD,
      r.2.mem ((c.tc : Thread Cert.ModGradsIdeal.nD Cert.ModGradsIdeal.τ).loc Cert.ModGradsIdeal.main_arg0) = m ((c.tc : Thread Cert.ModGradsIdeal.nD Cert.ModGradsIdeal.τ).loc Cert.ModGradsIdeal.main_arg0)
      ∧ r.2.mem ((c.tc : Thread Cert.ModGradsIdeal.nD Cert.ModGradsIdeal.τ).loc Cert.ModGradsIdeal.main_arg1) = m ((c.tc : Thread Cert.ModGradsIdeal.nD Cert.ModGradsIdeal.τ).loc Cert.ModGradsIdeal.main_arg1)
      ∧ r.2.mem ((c.tc : Thread Cert.ModGradsIdeal.nD Cert.ModGradsIdeal.τ).loc Cert.ModGradsIdeal.main_arg2) = m ((c.tc : Thread Cert.ModGradsIdeal.nD Cert.ModGradsIdeal.τ).loc Cert.ModGradsIdeal.main_arg2)
      ∧ r.2.mem ((c.tc : Thread Cert.ModGradsIdeal.nD Cert.ModGradsIdeal.τ).loc Cert.ModGradsIdeal.main_arg3) = m ((c.tc : Thread Cert.ModGradsIdeal.nD Cert.ModGradsIdeal.τ).loc Cert.ModGradsIdeal.main_arg3)
      ∧ r.2.mem ((c.tc : Thread Cert.ModGradsIdeal.nD Cert.ModGradsIdeal.τ).loc Cert.ModGradsIdeal.main_arg4) = m ((c.tc : Thread Cert.ModGradsIdeal.nD Cert.ModGradsIdeal.τ).loc Cert.ModGradsIdeal.main_arg4)
      ∧ r.2.mem ((c.tc : Thread Cert.ModGradsIdeal.nD Cert.ModGradsIdeal.τ).loc Cert.ModGradsIdeal.main_arg5) = m ((c.tc : Thread Cert.ModGradsIdeal.nD Cert.ModGradsIdeal.τ).loc Cert.ModGradsIdeal.main_arg5)
      ∧ r.2.mem ((c.tc : Thread Cert.ModGradsIdeal.nD Cert.ModGradsIdeal.τ).loc Cert.ModGradsIdeal.main_arg6) = m ((c.tc : Thread Cert.ModGradsIdeal.nD Cert.ModGradsIdeal.τ).loc Cert.ModGradsIdeal.main_arg6)
      ∧ r.2.mem ((c.tc : Thread Cert.ModGradsIdeal.nD Cert.ModGradsIdeal.τ).loc Cert.ModGradsIdeal.main_arg7) = m ((c.tc : Thread Cert.ModGradsIdeal.nD Cert.ModGradsIdeal.τ).loc Cert.ModGradsIdeal.main_arg7)
      ∧ r.2.mem ((c.tc : Thread Cert.ModGradsIdeal.nD Cert.ModGradsIdeal.τ).loc Cert.ModGradsIdeal.main_arg8) = m ((c.tc : Thread Cert.ModGradsIdeal.nD Cert.ModGradsIdeal.τ).loc Cert.ModGradsIdeal.main_arg8)
      ∧ r.2.mem ((c.tc : Thread Cert.ModGradsIdeal.nD Cert.ModGradsIdeal.τ).loc Cert.ModGradsIdeal.main_arg9) = m ((c.tc : Thread Cert.ModGradsIdeal.nD Cert.ModGradsIdeal.τ).loc Cert.ModGradsIdeal.main_arg9)
      ∧ r.2.mem ((c.tc : Thread Cert.ModGradsIdeal.nD Cert.ModGradsIdeal.τ).loc Cert.ModGradsIdeal.main_arg10) = m ((c.tc : Thread Cert.ModGradsIdeal.nD Cert.ModGradsIdeal.τ).loc Cert.ModGradsIdeal.main_arg10))
      ∧ r.2.sem = fun _ => 0)

def quiescent_ModGradsRefIdeal [hModGradsRefIdeal : Cert.ModGradsRefIdeal.Facts] : Prop :=
  ∀ (m : (ℓ : Loc Cert.ModGradsRefIdeal.nD Cert.ModGradsRefIdeal.τ Cert.ModGradsRefIdeal.sig) → Buf (Elt Ideal) ℓ) (g : Dev Cert.ModGradsRefIdeal.nD → PrngReg), Pre_ModGradsRefIdeal m →
    θ_run (Cert.ModGradsRefIdeal.defs (F := Ideal)) (onTc (τ := Cert.ModGradsRefIdeal.τ) (Cert.ModGradsRefIdeal.main (F := Ideal))) ⟨m, fun _ => 0, g⟩ (fun r => (∀ c : Dev Cert.ModGradsRefIdeal.nD,
      r.2.mem ((c.tc : Thread Cert.ModGradsRefIdeal.nD Cert.ModGradsRefIdeal.τ).loc Cert.ModGradsRefIdeal.main_arg0) = m ((c.tc : Thread Cert.ModGradsRefIdeal.nD Cert.ModGradsRefIdeal.τ).loc Cert.ModGradsRefIdeal.main_arg0)
      ∧ r.2.mem ((c.tc : Thread Cert.ModGradsRefIdeal.nD Cert.ModGradsRefIdeal.τ).loc Cert.ModGradsRefIdeal.main_arg1) = m ((c.tc : Thread Cert.ModGradsRefIdeal.nD Cert.ModGradsRefIdeal.τ).loc Cert.ModGradsRefIdeal.main_arg1)
      ∧ r.2.mem ((c.tc : Thread Cert.ModGradsRefIdeal.nD Cert.ModGradsRefIdeal.τ).loc Cert.ModGradsRefIdeal.main_arg2) = m ((c.tc : Thread Cert.ModGradsRefIdeal.nD Cert.ModGradsRefIdeal.τ).loc Cert.ModGradsRefIdeal.main_arg2)
      ∧ r.2.mem ((c.tc : Thread Cert.ModGradsRefIdeal.nD Cert.ModGradsRefIdeal.τ).loc Cert.ModGradsRefIdeal.main_arg3) = m ((c.tc : Thread Cert.ModGradsRefIdeal.nD Cert.ModGradsRefIdeal.τ).loc Cert.ModGradsRefIdeal.main_arg3)
      ∧ r.2.mem ((c.tc : Thread Cert.ModGradsRefIdeal.nD Cert.ModGradsRefIdeal.τ).loc Cert.ModGradsRefIdeal.main_arg4) = m ((c.tc : Thread Cert.ModGradsRefIdeal.nD Cert.ModGradsRefIdeal.τ).loc Cert.ModGradsRefIdeal.main_arg4)
      ∧ r.2.mem ((c.tc : Thread Cert.ModGradsRefIdeal.nD Cert.ModGradsRefIdeal.τ).loc Cert.ModGradsRefIdeal.main_arg5) = m ((c.tc : Thread Cert.ModGradsRefIdeal.nD Cert.ModGradsRefIdeal.τ).loc Cert.ModGradsRefIdeal.main_arg5)
      ∧ r.2.mem ((c.tc : Thread Cert.ModGradsRefIdeal.nD Cert.ModGradsRefIdeal.τ).loc Cert.ModGradsRefIdeal.main_arg6) = m ((c.tc : Thread Cert.ModGradsRefIdeal.nD Cert.ModGradsRefIdeal.τ).loc Cert.ModGradsRefIdeal.main_arg6)
      ∧ r.2.mem ((c.tc : Thread Cert.ModGradsRefIdeal.nD Cert.ModGradsRefIdeal.τ).loc Cert.ModGradsRefIdeal.main_arg7) = m ((c.tc : Thread Cert.ModGradsRefIdeal.nD Cert.ModGradsRefIdeal.τ).loc Cert.ModGradsRefIdeal.main_arg7)
      ∧ r.2.mem ((c.tc : Thread Cert.ModGradsRefIdeal.nD Cert.ModGradsRefIdeal.τ).loc Cert.ModGradsRefIdeal.main_arg8) = m ((c.tc : Thread Cert.ModGradsRefIdeal.nD Cert.ModGradsRefIdeal.τ).loc Cert.ModGradsRefIdeal.main_arg8)
      ∧ r.2.mem ((c.tc : Thread Cert.ModGradsRefIdeal.nD Cert.ModGradsRefIdeal.τ).loc Cert.ModGradsRefIdeal.main_arg9) = m ((c.tc : Thread Cert.ModGradsRefIdeal.nD Cert.ModGradsRefIdeal.τ).loc Cert.ModGradsRefIdeal.main_arg9)
      ∧ r.2.mem ((c.tc : Thread Cert.ModGradsRefIdeal.nD Cert.ModGradsRefIdeal.τ).loc Cert.ModGradsRefIdeal.main_arg10) = m ((c.tc : Thread Cert.ModGradsRefIdeal.nD Cert.ModGradsRefIdeal.τ).loc Cert.ModGradsRefIdeal.main_arg10))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ r.2.sem = fun _ => 0)

def quiescent_MixerIdeal_pre_finite [hMixerIdeal : Cert.MixerIdeal.Facts] [hPre_finite : Cert.Pre_finite.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9))
      ∧ r.2.sem = fun _ => 0)

def quiescent_MixerRefIdeal_pre_finite [hMixerRefIdeal : Cert.MixerRefIdeal.Facts] [hPre_finite : Cert.Pre_finite.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_finite m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4)
      ∧ r.2.mem ((c.tc : Thread Cert.BwdIn.nD Cert.BwdIn.τ).loc Cert.BwdIn.main_arg5) = m ((c.tc : Thread Cert.BwdIn.nD Cert.BwdIn.τ).loc Cert.BwdIn.main_arg5)
      ∧ r.2.mem ((c.tc : Thread Cert.BwdIn.nD Cert.BwdIn.τ).loc Cert.BwdIn.main_arg6) = m ((c.tc : Thread Cert.BwdIn.nD Cert.BwdIn.τ).loc Cert.BwdIn.main_arg6))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
      ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
      ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6))
      ∧ r.2.sem = fun _ => 0)

def quiescent_BwdInIdeal_pre_finite_in [hBwdInIdeal : Cert.BwdInIdeal.Facts] [hPre_finite_in : Cert.Pre_finite_in.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal_finite_in m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
      ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
      ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6))
      ∧ r.2.sem = fun _ => 0)

def quiescent_BwdInRefIdeal [hBwdInRefIdeal : Cert.BwdInRefIdeal.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4)
      ∧ r.2.mem ((c.tc : Thread Cert.BwdInRefIdeal.nD Cert.BwdInRefIdeal.τ).loc Cert.BwdInRefIdeal.main_arg5) = m ((c.tc : Thread Cert.BwdInRefIdeal.nD Cert.BwdInRefIdeal.τ).loc Cert.BwdInRefIdeal.main_arg5)
      ∧ r.2.mem ((c.tc : Thread Cert.BwdInRefIdeal.nD Cert.BwdInRefIdeal.τ).loc Cert.BwdInRefIdeal.main_arg6) = m ((c.tc : Thread Cert.BwdInRefIdeal.nD Cert.BwdInRefIdeal.τ).loc Cert.BwdInRefIdeal.main_arg6))
      ∧ r.2.sem = fun _ => 0)

def quiescent_BwdInRefIdeal_pre_finite_in [hBwdInRefIdeal : Cert.BwdInRefIdeal.Facts] [hPre_finite_in : Cert.Pre_finite_in.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal_finite_in m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4)
      ∧ r.2.mem ((c.tc : Thread Cert.BwdInRefIdeal.nD Cert.BwdInRefIdeal.τ).loc Cert.BwdInRefIdeal.main_arg5) = m ((c.tc : Thread Cert.BwdInRefIdeal.nD Cert.BwdInRefIdeal.τ).loc Cert.BwdInRefIdeal.main_arg5)
      ∧ r.2.mem ((c.tc : Thread Cert.BwdInRefIdeal.nD Cert.BwdInRefIdeal.τ).loc Cert.BwdInRefIdeal.main_arg6) = m ((c.tc : Thread Cert.BwdInRefIdeal.nD Cert.BwdInRefIdeal.τ).loc Cert.BwdInRefIdeal.main_arg6))
      ∧ r.2.sem = fun _ => 0)

def quiescent_BwdFc2 [hBwdFc2 : Cert.BwdFc2.Facts] : Prop :=
  ∀ (m : (ℓ : Loc Cert.BwdFc2.nD Cert.BwdFc2.τ Cert.BwdFc2.sig) → Buf (Elt Bits) ℓ) (g : Dev Cert.BwdFc2.nD → PrngReg), Pre_BwdFc2 m →
    θ_run (Cert.BwdFc2.defs (F := Bits)) (onTc (τ := Cert.BwdFc2.τ) (Cert.BwdFc2.main (F := Bits))) ⟨m, fun _ => 0, g⟩ (fun r => (∀ c : Dev Cert.BwdFc2.nD,
      r.2.mem ((c.tc : Thread Cert.BwdFc2.nD Cert.BwdFc2.τ).loc Cert.BwdFc2.main_arg0) = m ((c.tc : Thread Cert.BwdFc2.nD Cert.BwdFc2.τ).loc Cert.BwdFc2.main_arg0)
      ∧ r.2.mem ((c.tc : Thread Cert.BwdFc2.nD Cert.BwdFc2.τ).loc Cert.BwdFc2.main_arg1) = m ((c.tc : Thread Cert.BwdFc2.nD Cert.BwdFc2.τ).loc Cert.BwdFc2.main_arg1)
      ∧ r.2.mem ((c.tc : Thread Cert.BwdFc2.nD Cert.BwdFc2.τ).loc Cert.BwdFc2.main_arg2) = m ((c.tc : Thread Cert.BwdFc2.nD Cert.BwdFc2.τ).loc Cert.BwdFc2.main_arg2))
      ∧ r.2.sem = fun _ => 0)

def quiescent_BwdFc2Ideal [hBwdFc2Ideal : Cert.BwdFc2Ideal.Facts] : Prop :=
  ∀ (m : (ℓ : Loc Cert.BwdFc2Ideal.nD Cert.BwdFc2Ideal.τ Cert.BwdFc2Ideal.sig) → Buf (Elt Ideal) ℓ) (g : Dev Cert.BwdFc2Ideal.nD → PrngReg), Pre_BwdFc2Ideal m →
    θ_run (Cert.BwdFc2Ideal.defs (F := Ideal)) (onTc (τ := Cert.BwdFc2Ideal.τ) (Cert.BwdFc2Ideal.main (F := Ideal))) ⟨m, fun _ => 0, g⟩ (fun r => (∀ c : Dev Cert.BwdFc2Ideal.nD,
      r.2.mem ((c.tc : Thread Cert.BwdFc2Ideal.nD Cert.BwdFc2Ideal.τ).loc Cert.BwdFc2Ideal.main_arg0) = m ((c.tc : Thread Cert.BwdFc2Ideal.nD Cert.BwdFc2Ideal.τ).loc Cert.BwdFc2Ideal.main_arg0)
      ∧ r.2.mem ((c.tc : Thread Cert.BwdFc2Ideal.nD Cert.BwdFc2Ideal.τ).loc Cert.BwdFc2Ideal.main_arg1) = m ((c.tc : Thread Cert.BwdFc2Ideal.nD Cert.BwdFc2Ideal.τ).loc Cert.BwdFc2Ideal.main_arg1)
      ∧ r.2.mem ((c.tc : Thread Cert.BwdFc2Ideal.nD Cert.BwdFc2Ideal.τ).loc Cert.BwdFc2Ideal.main_arg2) = m ((c.tc : Thread Cert.BwdFc2Ideal.nD Cert.BwdFc2Ideal.τ).loc Cert.BwdFc2Ideal.main_arg2))
      ∧ r.2.sem = fun _ => 0)

def quiescent_BwdFc2RefIdeal [hBwdFc2RefIdeal : Cert.BwdFc2RefIdeal.Facts] : Prop :=
  ∀ (m : (ℓ : Loc Cert.BwdFc2RefIdeal.nD Cert.BwdFc2RefIdeal.τ Cert.BwdFc2RefIdeal.sig) → Buf (Elt Ideal) ℓ) (g : Dev Cert.BwdFc2RefIdeal.nD → PrngReg), Pre_BwdFc2RefIdeal m →
    θ_run (Cert.BwdFc2RefIdeal.defs (F := Ideal)) (onTc (τ := Cert.BwdFc2RefIdeal.τ) (Cert.BwdFc2RefIdeal.main (F := Ideal))) ⟨m, fun _ => 0, g⟩ (fun r => (∀ c : Dev Cert.BwdFc2RefIdeal.nD,
      r.2.mem ((c.tc : Thread Cert.BwdFc2RefIdeal.nD Cert.BwdFc2RefIdeal.τ).loc Cert.BwdFc2RefIdeal.main_arg0) = m ((c.tc : Thread Cert.BwdFc2RefIdeal.nD Cert.BwdFc2RefIdeal.τ).loc Cert.BwdFc2RefIdeal.main_arg0)
      ∧ r.2.mem ((c.tc : Thread Cert.BwdFc2RefIdeal.nD Cert.BwdFc2RefIdeal.τ).loc Cert.BwdFc2RefIdeal.main_arg1) = m ((c.tc : Thread Cert.BwdFc2RefIdeal.nD Cert.BwdFc2RefIdeal.τ).loc Cert.BwdFc2RefIdeal.main_arg1)
      ∧ r.2.mem ((c.tc : Thread Cert.BwdFc2RefIdeal.nD Cert.BwdFc2RefIdeal.τ).loc Cert.BwdFc2RefIdeal.main_arg2) = m ((c.tc : Thread Cert.BwdFc2RefIdeal.nD Cert.BwdFc2RefIdeal.τ).loc Cert.BwdFc2RefIdeal.main_arg2))
      ∧ r.2.sem = fun _ => 0)

def quiescent_BwdMid [hBwdMid : Cert.BwdMid.Facts] : Prop :=
  ∀ (m : (ℓ : Loc Cert.BwdMid.nD Cert.BwdMid.τ Cert.BwdMid.sig) → Buf (Elt Bits) ℓ) (g : Dev Cert.BwdMid.nD → PrngReg), Pre_BwdMid m →
    θ_run (Cert.BwdMid.defs (F := Bits)) (onTc (τ := Cert.BwdMid.τ) (Cert.BwdMid.main (F := Bits))) ⟨m, fun _ => 0, g⟩ (fun r => (∀ c : Dev Cert.BwdMid.nD,
      r.2.mem ((c.tc : Thread Cert.BwdMid.nD Cert.BwdMid.τ).loc Cert.BwdMid.main_arg0) = m ((c.tc : Thread Cert.BwdMid.nD Cert.BwdMid.τ).loc Cert.BwdMid.main_arg0)
      ∧ r.2.mem ((c.tc : Thread Cert.BwdMid.nD Cert.BwdMid.τ).loc Cert.BwdMid.main_arg1) = m ((c.tc : Thread Cert.BwdMid.nD Cert.BwdMid.τ).loc Cert.BwdMid.main_arg1)
      ∧ r.2.mem ((c.tc : Thread Cert.BwdMid.nD Cert.BwdMid.τ).loc Cert.BwdMid.main_arg2) = m ((c.tc : Thread Cert.BwdMid.nD Cert.BwdMid.τ).loc Cert.BwdMid.main_arg2)
      ∧ r.2.mem ((c.tc : Thread Cert.BwdMid.nD Cert.BwdMid.τ).loc Cert.BwdMid.main_arg3) = m ((c.tc : Thread Cert.BwdMid.nD Cert.BwdMid.τ).loc Cert.BwdMid.main_arg3)
      ∧ r.2.mem ((c.tc : Thread Cert.BwdMid.nD Cert.BwdMid.τ).loc Cert.BwdMid.main_arg4) = m ((c.tc : Thread Cert.BwdMid.nD Cert.BwdMid.τ).loc Cert.BwdMid.main_arg4)
      ∧ r.2.mem ((c.tc : Thread Cert.BwdMid.nD Cert.BwdMid.τ).loc Cert.BwdMid.main_arg5) = m ((c.tc : Thread Cert.BwdMid.nD Cert.BwdMid.τ).loc Cert.BwdMid.main_arg5)
      ∧ r.2.mem ((c.tc : Thread Cert.BwdMid.nD Cert.BwdMid.τ).loc Cert.BwdMid.main_arg6) = m ((c.tc : Thread Cert.BwdMid.nD Cert.BwdMid.τ).loc Cert.BwdMid.main_arg6)
      ∧ r.2.mem ((c.tc : Thread Cert.BwdMid.nD Cert.BwdMid.τ).loc Cert.BwdMid.main_arg7) = m ((c.tc : Thread Cert.BwdMid.nD Cert.BwdMid.τ).loc Cert.BwdMid.main_arg7)
      ∧ r.2.mem ((c.tc : Thread Cert.BwdMid.nD Cert.BwdMid.τ).loc Cert.BwdMid.main_arg8) = m ((c.tc : Thread Cert.BwdMid.nD Cert.BwdMid.τ).loc Cert.BwdMid.main_arg8)
      ∧ r.2.mem ((c.tc : Thread Cert.BwdMid.nD Cert.BwdMid.τ).loc Cert.BwdMid.main_arg9) = m ((c.tc : Thread Cert.BwdMid.nD Cert.BwdMid.τ).loc Cert.BwdMid.main_arg9))
      ∧ r.2.sem = fun _ => 0)

def quiescent_BwdMidIdeal [hBwdMidIdeal : Cert.BwdMidIdeal.Facts] : Prop :=
  ∀ (m : (ℓ : Loc Cert.BwdMidIdeal.nD Cert.BwdMidIdeal.τ Cert.BwdMidIdeal.sig) → Buf (Elt Ideal) ℓ) (g : Dev Cert.BwdMidIdeal.nD → PrngReg), Pre_BwdMidIdeal m →
    θ_run (Cert.BwdMidIdeal.defs (F := Ideal)) (onTc (τ := Cert.BwdMidIdeal.τ) (Cert.BwdMidIdeal.main (F := Ideal))) ⟨m, fun _ => 0, g⟩ (fun r => (∀ c : Dev Cert.BwdMidIdeal.nD,
      r.2.mem ((c.tc : Thread Cert.BwdMidIdeal.nD Cert.BwdMidIdeal.τ).loc Cert.BwdMidIdeal.main_arg0) = m ((c.tc : Thread Cert.BwdMidIdeal.nD Cert.BwdMidIdeal.τ).loc Cert.BwdMidIdeal.main_arg0)
      ∧ r.2.mem ((c.tc : Thread Cert.BwdMidIdeal.nD Cert.BwdMidIdeal.τ).loc Cert.BwdMidIdeal.main_arg1) = m ((c.tc : Thread Cert.BwdMidIdeal.nD Cert.BwdMidIdeal.τ).loc Cert.BwdMidIdeal.main_arg1)
      ∧ r.2.mem ((c.tc : Thread Cert.BwdMidIdeal.nD Cert.BwdMidIdeal.τ).loc Cert.BwdMidIdeal.main_arg2) = m ((c.tc : Thread Cert.BwdMidIdeal.nD Cert.BwdMidIdeal.τ).loc Cert.BwdMidIdeal.main_arg2)
      ∧ r.2.mem ((c.tc : Thread Cert.BwdMidIdeal.nD Cert.BwdMidIdeal.τ).loc Cert.BwdMidIdeal.main_arg3) = m ((c.tc : Thread Cert.BwdMidIdeal.nD Cert.BwdMidIdeal.τ).loc Cert.BwdMidIdeal.main_arg3)
      ∧ r.2.mem ((c.tc : Thread Cert.BwdMidIdeal.nD Cert.BwdMidIdeal.τ).loc Cert.BwdMidIdeal.main_arg4) = m ((c.tc : Thread Cert.BwdMidIdeal.nD Cert.BwdMidIdeal.τ).loc Cert.BwdMidIdeal.main_arg4)
      ∧ r.2.mem ((c.tc : Thread Cert.BwdMidIdeal.nD Cert.BwdMidIdeal.τ).loc Cert.BwdMidIdeal.main_arg5) = m ((c.tc : Thread Cert.BwdMidIdeal.nD Cert.BwdMidIdeal.τ).loc Cert.BwdMidIdeal.main_arg5)
      ∧ r.2.mem ((c.tc : Thread Cert.BwdMidIdeal.nD Cert.BwdMidIdeal.τ).loc Cert.BwdMidIdeal.main_arg6) = m ((c.tc : Thread Cert.BwdMidIdeal.nD Cert.BwdMidIdeal.τ).loc Cert.BwdMidIdeal.main_arg6)
      ∧ r.2.mem ((c.tc : Thread Cert.BwdMidIdeal.nD Cert.BwdMidIdeal.τ).loc Cert.BwdMidIdeal.main_arg7) = m ((c.tc : Thread Cert.BwdMidIdeal.nD Cert.BwdMidIdeal.τ).loc Cert.BwdMidIdeal.main_arg7)
      ∧ r.2.mem ((c.tc : Thread Cert.BwdMidIdeal.nD Cert.BwdMidIdeal.τ).loc Cert.BwdMidIdeal.main_arg8) = m ((c.tc : Thread Cert.BwdMidIdeal.nD Cert.BwdMidIdeal.τ).loc Cert.BwdMidIdeal.main_arg8)
      ∧ r.2.mem ((c.tc : Thread Cert.BwdMidIdeal.nD Cert.BwdMidIdeal.τ).loc Cert.BwdMidIdeal.main_arg9) = m ((c.tc : Thread Cert.BwdMidIdeal.nD Cert.BwdMidIdeal.τ).loc Cert.BwdMidIdeal.main_arg9))
      ∧ r.2.sem = fun _ => 0)

def quiescent_BwdMidIdeal_pre_finite_mid [hBwdMidIdeal : Cert.BwdMidIdeal.Facts] [hPre_finite_mid : Cert.Pre_finite_mid.Facts] : Prop :=
  ∀ (m : (ℓ : Loc Cert.BwdMidIdeal.nD Cert.BwdMidIdeal.τ Cert.BwdMidIdeal.sig) → Buf (Elt Ideal) ℓ) (g : Dev Cert.BwdMidIdeal.nD → PrngReg), Pre_BwdMidIdeal_finite_mid m →
    θ_run (Cert.BwdMidIdeal.defs (F := Ideal)) (onTc (τ := Cert.BwdMidIdeal.τ) (Cert.BwdMidIdeal.main (F := Ideal))) ⟨m, fun _ => 0, g⟩ (fun r => (∀ c : Dev Cert.BwdMidIdeal.nD,
      r.2.mem ((c.tc : Thread Cert.BwdMidIdeal.nD Cert.BwdMidIdeal.τ).loc Cert.BwdMidIdeal.main_arg0) = m ((c.tc : Thread Cert.BwdMidIdeal.nD Cert.BwdMidIdeal.τ).loc Cert.BwdMidIdeal.main_arg0)
      ∧ r.2.mem ((c.tc : Thread Cert.BwdMidIdeal.nD Cert.BwdMidIdeal.τ).loc Cert.BwdMidIdeal.main_arg1) = m ((c.tc : Thread Cert.BwdMidIdeal.nD Cert.BwdMidIdeal.τ).loc Cert.BwdMidIdeal.main_arg1)
      ∧ r.2.mem ((c.tc : Thread Cert.BwdMidIdeal.nD Cert.BwdMidIdeal.τ).loc Cert.BwdMidIdeal.main_arg2) = m ((c.tc : Thread Cert.BwdMidIdeal.nD Cert.BwdMidIdeal.τ).loc Cert.BwdMidIdeal.main_arg2)
      ∧ r.2.mem ((c.tc : Thread Cert.BwdMidIdeal.nD Cert.BwdMidIdeal.τ).loc Cert.BwdMidIdeal.main_arg3) = m ((c.tc : Thread Cert.BwdMidIdeal.nD Cert.BwdMidIdeal.τ).loc Cert.BwdMidIdeal.main_arg3)
      ∧ r.2.mem ((c.tc : Thread Cert.BwdMidIdeal.nD Cert.BwdMidIdeal.τ).loc Cert.BwdMidIdeal.main_arg4) = m ((c.tc : Thread Cert.BwdMidIdeal.nD Cert.BwdMidIdeal.τ).loc Cert.BwdMidIdeal.main_arg4)
      ∧ r.2.mem ((c.tc : Thread Cert.BwdMidIdeal.nD Cert.BwdMidIdeal.τ).loc Cert.BwdMidIdeal.main_arg5) = m ((c.tc : Thread Cert.BwdMidIdeal.nD Cert.BwdMidIdeal.τ).loc Cert.BwdMidIdeal.main_arg5)
      ∧ r.2.mem ((c.tc : Thread Cert.BwdMidIdeal.nD Cert.BwdMidIdeal.τ).loc Cert.BwdMidIdeal.main_arg6) = m ((c.tc : Thread Cert.BwdMidIdeal.nD Cert.BwdMidIdeal.τ).loc Cert.BwdMidIdeal.main_arg6)
      ∧ r.2.mem ((c.tc : Thread Cert.BwdMidIdeal.nD Cert.BwdMidIdeal.τ).loc Cert.BwdMidIdeal.main_arg7) = m ((c.tc : Thread Cert.BwdMidIdeal.nD Cert.BwdMidIdeal.τ).loc Cert.BwdMidIdeal.main_arg7)
      ∧ r.2.mem ((c.tc : Thread Cert.BwdMidIdeal.nD Cert.BwdMidIdeal.τ).loc Cert.BwdMidIdeal.main_arg8) = m ((c.tc : Thread Cert.BwdMidIdeal.nD Cert.BwdMidIdeal.τ).loc Cert.BwdMidIdeal.main_arg8)
      ∧ r.2.mem ((c.tc : Thread Cert.BwdMidIdeal.nD Cert.BwdMidIdeal.τ).loc Cert.BwdMidIdeal.main_arg9) = m ((c.tc : Thread Cert.BwdMidIdeal.nD Cert.BwdMidIdeal.τ).loc Cert.BwdMidIdeal.main_arg9))
      ∧ r.2.sem = fun _ => 0)

def quiescent_BwdMidRefIdeal [hBwdMidRefIdeal : Cert.BwdMidRefIdeal.Facts] : Prop :=
  ∀ (m : (ℓ : Loc Cert.BwdMidRefIdeal.nD Cert.BwdMidRefIdeal.τ Cert.BwdMidRefIdeal.sig) → Buf (Elt Ideal) ℓ) (g : Dev Cert.BwdMidRefIdeal.nD → PrngReg), Pre_BwdMidRefIdeal m →
    θ_run (Cert.BwdMidRefIdeal.defs (F := Ideal)) (onTc (τ := Cert.BwdMidRefIdeal.τ) (Cert.BwdMidRefIdeal.main (F := Ideal))) ⟨m, fun _ => 0, g⟩ (fun r => (∀ c : Dev Cert.BwdMidRefIdeal.nD,
      r.2.mem ((c.tc : Thread Cert.BwdMidRefIdeal.nD Cert.BwdMidRefIdeal.τ).loc Cert.BwdMidRefIdeal.main_arg0) = m ((c.tc : Thread Cert.BwdMidRefIdeal.nD Cert.BwdMidRefIdeal.τ).loc Cert.BwdMidRefIdeal.main_arg0)
      ∧ r.2.mem ((c.tc : Thread Cert.BwdMidRefIdeal.nD Cert.BwdMidRefIdeal.τ).loc Cert.BwdMidRefIdeal.main_arg1) = m ((c.tc : Thread Cert.BwdMidRefIdeal.nD Cert.BwdMidRefIdeal.τ).loc Cert.BwdMidRefIdeal.main_arg1)
      ∧ r.2.mem ((c.tc : Thread Cert.BwdMidRefIdeal.nD Cert.BwdMidRefIdeal.τ).loc Cert.BwdMidRefIdeal.main_arg2) = m ((c.tc : Thread Cert.BwdMidRefIdeal.nD Cert.BwdMidRefIdeal.τ).loc Cert.BwdMidRefIdeal.main_arg2)
      ∧ r.2.mem ((c.tc : Thread Cert.BwdMidRefIdeal.nD Cert.BwdMidRefIdeal.τ).loc Cert.BwdMidRefIdeal.main_arg3) = m ((c.tc : Thread Cert.BwdMidRefIdeal.nD Cert.BwdMidRefIdeal.τ).loc Cert.BwdMidRefIdeal.main_arg3)
      ∧ r.2.mem ((c.tc : Thread Cert.BwdMidRefIdeal.nD Cert.BwdMidRefIdeal.τ).loc Cert.BwdMidRefIdeal.main_arg4) = m ((c.tc : Thread Cert.BwdMidRefIdeal.nD Cert.BwdMidRefIdeal.τ).loc Cert.BwdMidRefIdeal.main_arg4)
      ∧ r.2.mem ((c.tc : Thread Cert.BwdMidRefIdeal.nD Cert.BwdMidRefIdeal.τ).loc Cert.BwdMidRefIdeal.main_arg5) = m ((c.tc : Thread Cert.BwdMidRefIdeal.nD Cert.BwdMidRefIdeal.τ).loc Cert.BwdMidRefIdeal.main_arg5)
      ∧ r.2.mem ((c.tc : Thread Cert.BwdMidRefIdeal.nD Cert.BwdMidRefIdeal.τ).loc Cert.BwdMidRefIdeal.main_arg6) = m ((c.tc : Thread Cert.BwdMidRefIdeal.nD Cert.BwdMidRefIdeal.τ).loc Cert.BwdMidRefIdeal.main_arg6)
      ∧ r.2.mem ((c.tc : Thread Cert.BwdMidRefIdeal.nD Cert.BwdMidRefIdeal.τ).loc Cert.BwdMidRefIdeal.main_arg7) = m ((c.tc : Thread Cert.BwdMidRefIdeal.nD Cert.BwdMidRefIdeal.τ).loc Cert.BwdMidRefIdeal.main_arg7)
      ∧ r.2.mem ((c.tc : Thread Cert.BwdMidRefIdeal.nD Cert.BwdMidRefIdeal.τ).loc Cert.BwdMidRefIdeal.main_arg8) = m ((c.tc : Thread Cert.BwdMidRefIdeal.nD Cert.BwdMidRefIdeal.τ).loc Cert.BwdMidRefIdeal.main_arg8)
      ∧ r.2.mem ((c.tc : Thread Cert.BwdMidRefIdeal.nD Cert.BwdMidRefIdeal.τ).loc Cert.BwdMidRefIdeal.main_arg9) = m ((c.tc : Thread Cert.BwdMidRefIdeal.nD Cert.BwdMidRefIdeal.τ).loc Cert.BwdMidRefIdeal.main_arg9))
      ∧ r.2.sem = fun _ => 0)

def quiescent_BwdMidRefIdeal_pre_finite_mid [hBwdMidRefIdeal : Cert.BwdMidRefIdeal.Facts] [hPre_finite_mid : Cert.Pre_finite_mid.Facts] : Prop :=
  ∀ (m : (ℓ : Loc Cert.BwdMidRefIdeal.nD Cert.BwdMidRefIdeal.τ Cert.BwdMidRefIdeal.sig) → Buf (Elt Ideal) ℓ) (g : Dev Cert.BwdMidRefIdeal.nD → PrngReg), Pre_BwdMidRefIdeal_finite_mid m →
    θ_run (Cert.BwdMidRefIdeal.defs (F := Ideal)) (onTc (τ := Cert.BwdMidRefIdeal.τ) (Cert.BwdMidRefIdeal.main (F := Ideal))) ⟨m, fun _ => 0, g⟩ (fun r => (∀ c : Dev Cert.BwdMidRefIdeal.nD,
      r.2.mem ((c.tc : Thread Cert.BwdMidRefIdeal.nD Cert.BwdMidRefIdeal.τ).loc Cert.BwdMidRefIdeal.main_arg0) = m ((c.tc : Thread Cert.BwdMidRefIdeal.nD Cert.BwdMidRefIdeal.τ).loc Cert.BwdMidRefIdeal.main_arg0)
      ∧ r.2.mem ((c.tc : Thread Cert.BwdMidRefIdeal.nD Cert.BwdMidRefIdeal.τ).loc Cert.BwdMidRefIdeal.main_arg1) = m ((c.tc : Thread Cert.BwdMidRefIdeal.nD Cert.BwdMidRefIdeal.τ).loc Cert.BwdMidRefIdeal.main_arg1)
      ∧ r.2.mem ((c.tc : Thread Cert.BwdMidRefIdeal.nD Cert.BwdMidRefIdeal.τ).loc Cert.BwdMidRefIdeal.main_arg2) = m ((c.tc : Thread Cert.BwdMidRefIdeal.nD Cert.BwdMidRefIdeal.τ).loc Cert.BwdMidRefIdeal.main_arg2)
      ∧ r.2.mem ((c.tc : Thread Cert.BwdMidRefIdeal.nD Cert.BwdMidRefIdeal.τ).loc Cert.BwdMidRefIdeal.main_arg3) = m ((c.tc : Thread Cert.BwdMidRefIdeal.nD Cert.BwdMidRefIdeal.τ).loc Cert.BwdMidRefIdeal.main_arg3)
      ∧ r.2.mem ((c.tc : Thread Cert.BwdMidRefIdeal.nD Cert.BwdMidRefIdeal.τ).loc Cert.BwdMidRefIdeal.main_arg4) = m ((c.tc : Thread Cert.BwdMidRefIdeal.nD Cert.BwdMidRefIdeal.τ).loc Cert.BwdMidRefIdeal.main_arg4)
      ∧ r.2.mem ((c.tc : Thread Cert.BwdMidRefIdeal.nD Cert.BwdMidRefIdeal.τ).loc Cert.BwdMidRefIdeal.main_arg5) = m ((c.tc : Thread Cert.BwdMidRefIdeal.nD Cert.BwdMidRefIdeal.τ).loc Cert.BwdMidRefIdeal.main_arg5)
      ∧ r.2.mem ((c.tc : Thread Cert.BwdMidRefIdeal.nD Cert.BwdMidRefIdeal.τ).loc Cert.BwdMidRefIdeal.main_arg6) = m ((c.tc : Thread Cert.BwdMidRefIdeal.nD Cert.BwdMidRefIdeal.τ).loc Cert.BwdMidRefIdeal.main_arg6)
      ∧ r.2.mem ((c.tc : Thread Cert.BwdMidRefIdeal.nD Cert.BwdMidRefIdeal.τ).loc Cert.BwdMidRefIdeal.main_arg7) = m ((c.tc : Thread Cert.BwdMidRefIdeal.nD Cert.BwdMidRefIdeal.τ).loc Cert.BwdMidRefIdeal.main_arg7)
      ∧ r.2.mem ((c.tc : Thread Cert.BwdMidRefIdeal.nD Cert.BwdMidRefIdeal.τ).loc Cert.BwdMidRefIdeal.main_arg8) = m ((c.tc : Thread Cert.BwdMidRefIdeal.nD Cert.BwdMidRefIdeal.τ).loc Cert.BwdMidRefIdeal.main_arg8)
      ∧ r.2.mem ((c.tc : Thread Cert.BwdMidRefIdeal.nD Cert.BwdMidRefIdeal.τ).loc Cert.BwdMidRefIdeal.main_arg9) = m ((c.tc : Thread Cert.BwdMidRefIdeal.nD Cert.BwdMidRefIdeal.τ).loc Cert.BwdMidRefIdeal.main_arg9))
      ∧ r.2.sem = fun _ => 0)

def preserves_ModGrads_ModGradsIdeal : Prop :=
  True

def algebraic_ModGradsIdeal_ModGradsRefIdeal [hModGradsIdeal : Cert.ModGradsIdeal.Facts] [hModGradsRefIdeal : Cert.ModGradsRefIdeal.Facts] : Prop :=
  ∀ (m : (ℓ : Loc Cert.ModGradsIdeal.nD Cert.ModGradsIdeal.τ Cert.ModGradsIdeal.sig) → Buf (Elt Ideal) ℓ) (g : Dev Cert.ModGradsIdeal.nD → PrngReg)
    (m' : (ℓ : Loc Cert.ModGradsRefIdeal.nD Cert.ModGradsRefIdeal.τ Cert.ModGradsRefIdeal.sig) → Buf (Elt Ideal) ℓ) (g' : Dev Cert.ModGradsRefIdeal.nD → PrngReg), Pre_ModGradsIdeal m →
    (∀ c : Dev Cert.ModGradsIdeal.nD,
      m' ((c.tc : Thread Cert.ModGradsRefIdeal.nD Cert.ModGradsRefIdeal.τ).loc Cert.ModGradsRefIdeal.main_arg0) = m ((c.tc : Thread Cert.ModGradsIdeal.nD Cert.ModGradsIdeal.τ).loc Cert.ModGradsIdeal.main_arg0)
      ∧ m' ((c.tc : Thread Cert.ModGradsRefIdeal.nD Cert.ModGradsRefIdeal.τ).loc Cert.ModGradsRefIdeal.main_arg1) = m ((c.tc : Thread Cert.ModGradsIdeal.nD Cert.ModGradsIdeal.τ).loc Cert.ModGradsIdeal.main_arg1)
      ∧ m' ((c.tc : Thread Cert.ModGradsRefIdeal.nD Cert.ModGradsRefIdeal.τ).loc Cert.ModGradsRefIdeal.main_arg2) = m ((c.tc : Thread Cert.ModGradsIdeal.nD Cert.ModGradsIdeal.τ).loc Cert.ModGradsIdeal.main_arg2)
      ∧ m' ((c.tc : Thread Cert.ModGradsRefIdeal.nD Cert.ModGradsRefIdeal.τ).loc Cert.ModGradsRefIdeal.main_arg3) = m ((c.tc : Thread Cert.ModGradsIdeal.nD Cert.ModGradsIdeal.τ).loc Cert.ModGradsIdeal.main_arg3)
      ∧ m' ((c.tc : Thread Cert.ModGradsRefIdeal.nD Cert.ModGradsRefIdeal.τ).loc Cert.ModGradsRefIdeal.main_arg4) = m ((c.tc : Thread Cert.ModGradsIdeal.nD Cert.ModGradsIdeal.τ).loc Cert.ModGradsIdeal.main_arg4)
      ∧ m' ((c.tc : Thread Cert.ModGradsRefIdeal.nD Cert.ModGradsRefIdeal.τ).loc Cert.ModGradsRefIdeal.main_arg5) = m ((c.tc : Thread Cert.ModGradsIdeal.nD Cert.ModGradsIdeal.τ).loc Cert.ModGradsIdeal.main_arg5)
      ∧ m' ((c.tc : Thread Cert.ModGradsRefIdeal.nD Cert.ModGradsRefIdeal.τ).loc Cert.ModGradsRefIdeal.main_arg6) = m ((c.tc : Thread Cert.ModGradsIdeal.nD Cert.ModGradsIdeal.τ).loc Cert.ModGradsIdeal.main_arg6)
      ∧ m' ((c.tc : Thread Cert.ModGradsRefIdeal.nD Cert.ModGradsRefIdeal.τ).loc Cert.ModGradsRefIdeal.main_arg7) = m ((c.tc : Thread Cert.ModGradsIdeal.nD Cert.ModGradsIdeal.τ).loc Cert.ModGradsIdeal.main_arg7)
      ∧ m' ((c.tc : Thread Cert.ModGradsRefIdeal.nD Cert.ModGradsRefIdeal.τ).loc Cert.ModGradsRefIdeal.main_arg8) = m ((c.tc : Thread Cert.ModGradsIdeal.nD Cert.ModGradsIdeal.τ).loc Cert.ModGradsIdeal.main_arg8)
      ∧ m' ((c.tc : Thread Cert.ModGradsRefIdeal.nD Cert.ModGradsRefIdeal.τ).loc Cert.ModGradsRefIdeal.main_arg9) = m ((c.tc : Thread Cert.ModGradsIdeal.nD Cert.ModGradsIdeal.τ).loc Cert.ModGradsIdeal.main_arg9)
      ∧ m' ((c.tc : Thread Cert.ModGradsRefIdeal.nD Cert.ModGradsRefIdeal.τ).loc Cert.ModGradsRefIdeal.main_arg10) = m ((c.tc : Thread Cert.ModGradsIdeal.nD Cert.ModGradsIdeal.τ).loc Cert.ModGradsIdeal.main_arg10)) →
    ∃ (v0 : (c : Dev Cert.ModGradsIdeal.nD) → Buf (Elt Ideal) ((c.tc : Thread Cert.ModGradsIdeal.nD Cert.ModGradsIdeal.τ).loc Cert.ModGradsIdeal.main_v4_0)) (v1 : (c : Dev Cert.ModGradsIdeal.nD) → Buf (Elt Ideal) ((c.tc : Thread Cert.ModGradsIdeal.nD Cert.ModGradsIdeal.τ).loc Cert.ModGradsIdeal.main_v4_1)),
      θ_run (Cert.ModGradsIdeal.defs (F := Ideal)) (onTc (τ := Cert.ModGradsIdeal.τ) (Cert.ModGradsIdeal.main (F := Ideal))) ⟨m, fun _ => 0, g⟩ (fun r => ∀ c : Dev Cert.ModGradsIdeal.nD,
          r.2.mem ((c.tc : Thread Cert.ModGradsIdeal.nD Cert.ModGradsIdeal.τ).loc Cert.ModGradsIdeal.main_v4_0) = v0 c
          ∧ r.2.mem ((c.tc : Thread Cert.ModGradsIdeal.nD Cert.ModGradsIdeal.τ).loc Cert.ModGradsIdeal.main_v4_1) = v1 c
          ∧ r.2.mem ((c.tc : Thread Cert.ModGradsIdeal.nD Cert.ModGradsIdeal.τ).loc Cert.ModGradsIdeal.main_arg0) = m ((c.tc : Thread Cert.ModGradsIdeal.nD Cert.ModGradsIdeal.τ).loc Cert.ModGradsIdeal.main_arg0)
          ∧ r.2.mem ((c.tc : Thread Cert.ModGradsIdeal.nD Cert.ModGradsIdeal.τ).loc Cert.ModGradsIdeal.main_arg1) = m ((c.tc : Thread Cert.ModGradsIdeal.nD Cert.ModGradsIdeal.τ).loc Cert.ModGradsIdeal.main_arg1)
          ∧ r.2.mem ((c.tc : Thread Cert.ModGradsIdeal.nD Cert.ModGradsIdeal.τ).loc Cert.ModGradsIdeal.main_arg2) = m ((c.tc : Thread Cert.ModGradsIdeal.nD Cert.ModGradsIdeal.τ).loc Cert.ModGradsIdeal.main_arg2)
          ∧ r.2.mem ((c.tc : Thread Cert.ModGradsIdeal.nD Cert.ModGradsIdeal.τ).loc Cert.ModGradsIdeal.main_arg3) = m ((c.tc : Thread Cert.ModGradsIdeal.nD Cert.ModGradsIdeal.τ).loc Cert.ModGradsIdeal.main_arg3)
          ∧ r.2.mem ((c.tc : Thread Cert.ModGradsIdeal.nD Cert.ModGradsIdeal.τ).loc Cert.ModGradsIdeal.main_arg4) = m ((c.tc : Thread Cert.ModGradsIdeal.nD Cert.ModGradsIdeal.τ).loc Cert.ModGradsIdeal.main_arg4)
          ∧ r.2.mem ((c.tc : Thread Cert.ModGradsIdeal.nD Cert.ModGradsIdeal.τ).loc Cert.ModGradsIdeal.main_arg5) = m ((c.tc : Thread Cert.ModGradsIdeal.nD Cert.ModGradsIdeal.τ).loc Cert.ModGradsIdeal.main_arg5)
          ∧ r.2.mem ((c.tc : Thread Cert.ModGradsIdeal.nD Cert.ModGradsIdeal.τ).loc Cert.ModGradsIdeal.main_arg6) = m ((c.tc : Thread Cert.ModGradsIdeal.nD Cert.ModGradsIdeal.τ).loc Cert.ModGradsIdeal.main_arg6)
          ∧ r.2.mem ((c.tc : Thread Cert.ModGradsIdeal.nD Cert.ModGradsIdeal.τ).loc Cert.ModGradsIdeal.main_arg7) = m ((c.tc : Thread Cert.ModGradsIdeal.nD Cert.ModGradsIdeal.τ).loc Cert.ModGradsIdeal.main_arg7)
          ∧ r.2.mem ((c.tc : Thread Cert.ModGradsIdeal.nD Cert.ModGradsIdeal.τ).loc Cert.ModGradsIdeal.main_arg8) = m ((c.tc : Thread Cert.ModGradsIdeal.nD Cert.ModGradsIdeal.τ).loc Cert.ModGradsIdeal.main_arg8)
          ∧ r.2.mem ((c.tc : Thread Cert.ModGradsIdeal.nD Cert.ModGradsIdeal.τ).loc Cert.ModGradsIdeal.main_arg9) = m ((c.tc : Thread Cert.ModGradsIdeal.nD Cert.ModGradsIdeal.τ).loc Cert.ModGradsIdeal.main_arg9)
          ∧ r.2.mem ((c.tc : Thread Cert.ModGradsIdeal.nD Cert.ModGradsIdeal.τ).loc Cert.ModGradsIdeal.main_arg10) = m ((c.tc : Thread Cert.ModGradsIdeal.nD Cert.ModGradsIdeal.τ).loc Cert.ModGradsIdeal.main_arg10))
      ∧ θ_run (Cert.ModGradsRefIdeal.defs (F := Ideal)) (onTc (τ := Cert.ModGradsRefIdeal.τ) (Cert.ModGradsRefIdeal.main (F := Ideal))) ⟨m', fun _ => 0, g'⟩ (fun r => ∀ c : Dev Cert.ModGradsRefIdeal.nD,
          r.2.mem ((c.tc : Thread Cert.ModGradsRefIdeal.nD Cert.ModGradsRefIdeal.τ).loc Cert.ModGradsRefIdeal.main_v50) = v0 c
          ∧ r.2.mem ((c.tc : Thread Cert.ModGradsRefIdeal.nD Cert.ModGradsRefIdeal.τ).loc Cert.ModGradsRefIdeal.main_v55) = v1 c
          ∧ r.2.mem ((c.tc : Thread Cert.ModGradsRefIdeal.nD Cert.ModGradsRefIdeal.τ).loc Cert.ModGradsRefIdeal.main_arg0) = m' ((c.tc : Thread Cert.ModGradsRefIdeal.nD Cert.ModGradsRefIdeal.τ).loc Cert.ModGradsRefIdeal.main_arg0)
          ∧ r.2.mem ((c.tc : Thread Cert.ModGradsRefIdeal.nD Cert.ModGradsRefIdeal.τ).loc Cert.ModGradsRefIdeal.main_arg1) = m' ((c.tc : Thread Cert.ModGradsRefIdeal.nD Cert.ModGradsRefIdeal.τ).loc Cert.ModGradsRefIdeal.main_arg1)
          ∧ r.2.mem ((c.tc : Thread Cert.ModGradsRefIdeal.nD Cert.ModGradsRefIdeal.τ).loc Cert.ModGradsRefIdeal.main_arg2) = m' ((c.tc : Thread Cert.ModGradsRefIdeal.nD Cert.ModGradsRefIdeal.τ).loc Cert.ModGradsRefIdeal.main_arg2)
          ∧ r.2.mem ((c.tc : Thread Cert.ModGradsRefIdeal.nD Cert.ModGradsRefIdeal.τ).loc Cert.ModGradsRefIdeal.main_arg3) = m' ((c.tc : Thread Cert.ModGradsRefIdeal.nD Cert.ModGradsRefIdeal.τ).loc Cert.ModGradsRefIdeal.main_arg3)
          ∧ r.2.mem ((c.tc : Thread Cert.ModGradsRefIdeal.nD Cert.ModGradsRefIdeal.τ).loc Cert.ModGradsRefIdeal.main_arg4) = m' ((c.tc : Thread Cert.ModGradsRefIdeal.nD Cert.ModGradsRefIdeal.τ).loc Cert.ModGradsRefIdeal.main_arg4)
          ∧ r.2.mem ((c.tc : Thread Cert.ModGradsRefIdeal.nD Cert.ModGradsRefIdeal.τ).loc Cert.ModGradsRefIdeal.main_arg5) = m' ((c.tc : Thread Cert.ModGradsRefIdeal.nD Cert.ModGradsRefIdeal.τ).loc Cert.ModGradsRefIdeal.main_arg5)
          ∧ r.2.mem ((c.tc : Thread Cert.ModGradsRefIdeal.nD Cert.ModGradsRefIdeal.τ).loc Cert.ModGradsRefIdeal.main_arg6) = m' ((c.tc : Thread Cert.ModGradsRefIdeal.nD Cert.ModGradsRefIdeal.τ).loc Cert.ModGradsRefIdeal.main_arg6)
          ∧ r.2.mem ((c.tc : Thread Cert.ModGradsRefIdeal.nD Cert.ModGradsRefIdeal.τ).loc Cert.ModGradsRefIdeal.main_arg7) = m' ((c.tc : Thread Cert.ModGradsRefIdeal.nD Cert.ModGradsRefIdeal.τ).loc Cert.ModGradsRefIdeal.main_arg7)
          ∧ r.2.mem ((c.tc : Thread Cert.ModGradsRefIdeal.nD Cert.ModGradsRefIdeal.τ).loc Cert.ModGradsRefIdeal.main_arg8) = m' ((c.tc : Thread Cert.ModGradsRefIdeal.nD Cert.ModGradsRefIdeal.τ).loc Cert.ModGradsRefIdeal.main_arg8)
          ∧ r.2.mem ((c.tc : Thread Cert.ModGradsRefIdeal.nD Cert.ModGradsRefIdeal.τ).loc Cert.ModGradsRefIdeal.main_arg9) = m' ((c.tc : Thread Cert.ModGradsRefIdeal.nD Cert.ModGradsRefIdeal.τ).loc Cert.ModGradsRefIdeal.main_arg9)
          ∧ r.2.mem ((c.tc : Thread Cert.ModGradsRefIdeal.nD Cert.ModGradsRefIdeal.τ).loc Cert.ModGradsRefIdeal.main_arg10) = m' ((c.tc : Thread Cert.ModGradsRefIdeal.nD Cert.ModGradsRefIdeal.τ).loc Cert.ModGradsRefIdeal.main_arg10))

def preserves_Mixer_MixerIdeal : Prop :=
  IdealRules.named_const.Statement Cert.MixerIdeal.κ "k0k1" .f32 0x3D122279#32 ((80338380498831 / 2251799813685248 : ℝ) : EReal)
  ∧ IdealRules.named_const.Statement Cert.MixerIdeal.κ "three_k0k1" .f32 0x3DDB33B6#32 ((241015141496493 / 2251799813685248 : ℝ) : EReal)

def algebraic_MixerIdeal_MixerRefIdeal_pre_finite [hMixerIdeal : Cert.MixerIdeal.Facts] [hMixerRefIdeal : Cert.MixerRefIdeal.Facts] [hPre_finite : Cert.Pre_finite.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_finite m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)) →
    ∃ (v0 : (c : Dev Cert.MixerIdeal.nD) → Buf (Elt Ideal) ((c.tc : Thread Cert.MixerIdeal.nD Cert.MixerIdeal.τ).loc Cert.MixerIdeal.main_v7_0)) (v1 : (c : Dev Cert.MixerIdeal.nD) → Buf (Elt Ideal) ((c.tc : Thread Cert.MixerIdeal.nD Cert.MixerIdeal.τ).loc Cert.MixerIdeal.main_v7_1)) (v2 : (c : Dev Cert.MixerIdeal.nD) → Buf (Elt Ideal) ((c.tc : Thread Cert.MixerIdeal.nD Cert.MixerIdeal.τ).loc Cert.MixerIdeal.main_v7_2)) (v3 : (c : Dev Cert.MixerIdeal.nD) → Buf (Elt Ideal) ((c.tc : Thread Cert.MixerIdeal.nD Cert.MixerIdeal.τ).loc Cert.MixerIdeal.main_v7_3)) (v4 : (c : Dev Cert.MixerIdeal.nD) → Buf (Elt Ideal) ((c.tc : Thread Cert.MixerIdeal.nD Cert.MixerIdeal.τ).loc Cert.MixerIdeal.main_v7_4)) (v5 : (c : Dev Cert.MixerIdeal.nD) → Buf (Elt Ideal) ((c.tc : Thread Cert.MixerIdeal.nD Cert.MixerIdeal.τ).loc Cert.MixerIdeal.main_v7_5)) (v6 : (c : Dev Cert.MixerIdeal.nD) → Buf (Elt Ideal) ((c.tc : Thread Cert.MixerIdeal.nD Cert.MixerIdeal.τ).loc Cert.MixerIdeal.main_v7_6)) (v7 : (c : Dev Cert.MixerIdeal.nD) → Buf (Elt Ideal) ((c.tc : Thread Cert.MixerIdeal.nD Cert.MixerIdeal.τ).loc Cert.MixerIdeal.main_v7_7)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v7_0) = v0 c
          ∧ r.2.mem ((c.tc : Thread Cert.MixerIdeal.nD Cert.MixerIdeal.τ).loc Cert.MixerIdeal.main_v7_1) = v1 c
          ∧ r.2.mem ((c.tc : Thread Cert.MixerIdeal.nD Cert.MixerIdeal.τ).loc Cert.MixerIdeal.main_v7_2) = v2 c
          ∧ r.2.mem ((c.tc : Thread Cert.MixerIdeal.nD Cert.MixerIdeal.τ).loc Cert.MixerIdeal.main_v7_3) = v3 c
          ∧ r.2.mem ((c.tc : Thread Cert.MixerIdeal.nD Cert.MixerIdeal.τ).loc Cert.MixerIdeal.main_v7_4) = v4 c
          ∧ r.2.mem ((c.tc : Thread Cert.MixerIdeal.nD Cert.MixerIdeal.τ).loc Cert.MixerIdeal.main_v7_5) = v5 c
          ∧ r.2.mem ((c.tc : Thread Cert.MixerIdeal.nD Cert.MixerIdeal.τ).loc Cert.MixerIdeal.main_v7_6) = v6 c
          ∧ r.2.mem ((c.tc : Thread Cert.MixerIdeal.nD Cert.MixerIdeal.τ).loc Cert.MixerIdeal.main_v7_7) = v7 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v292) = v0 c
          ∧ r.2.mem ((c.tc : Thread Cert.MixerRefIdeal.nD Cert.MixerRefIdeal.τ).loc Cert.MixerRefIdeal.main_v240) = v1 c
          ∧ r.2.mem ((c.tc : Thread Cert.MixerRefIdeal.nD Cert.MixerRefIdeal.τ).loc Cert.MixerRefIdeal.main_v293) = v2 c
          ∧ r.2.mem ((c.tc : Thread Cert.MixerRefIdeal.nD Cert.MixerRefIdeal.τ).loc Cert.MixerRefIdeal.main_v294) = v3 c
          ∧ r.2.mem ((c.tc : Thread Cert.MixerRefIdeal.nD Cert.MixerRefIdeal.τ).loc Cert.MixerRefIdeal.main_v295) = v4 c
          ∧ r.2.mem ((c.tc : Thread Cert.MixerRefIdeal.nD Cert.MixerRefIdeal.τ).loc Cert.MixerRefIdeal.main_v167) = v5 c
          ∧ r.2.mem ((c.tc : Thread Cert.MixerRefIdeal.nD Cert.MixerRefIdeal.τ).loc Cert.MixerRefIdeal.main_v296) = v6 c
          ∧ r.2.mem ((c.tc : Thread Cert.MixerRefIdeal.nD Cert.MixerRefIdeal.τ).loc Cert.MixerRefIdeal.main_v297) = v7 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v38) = v0 c
          ∧ r.2.mem ((c.tc : Thread Cert.LossRefIdeal.nD Cert.LossRefIdeal.τ).loc Cert.LossRefIdeal.main_v59) = v1 c
          ∧ r.2.mem ((c.tc : Thread Cert.LossRefIdeal.nD Cert.LossRefIdeal.τ).loc Cert.LossRefIdeal.main_v60) = v2 c
          ∧ r.2.mem ((c.tc : Thread Cert.LossRefIdeal.nD Cert.LossRefIdeal.τ).loc Cert.LossRefIdeal.main_v61) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_BwdIn_BwdInIdeal : Prop :=
  True

def algebraic_BwdInIdeal_BwdInRefIdeal_pre_finite_in [hBwdInIdeal : Cert.BwdInIdeal.Facts] [hBwdInRefIdeal : Cert.BwdInRefIdeal.Facts] [hPre_finite_in : Cert.Pre_finite_in.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInRefIdeal.nD Cert.BwdInRefIdeal.τ Cert.BwdInRefIdeal.sig) → Buf (Elt Ideal) ℓ) (g' : Dev Cert.BwdInRefIdeal.nD → PrngReg), Pre_BwdInIdeal_finite_in m →
    (∀ c : Dev Cert.BwdInIdeal.nD,
      m' ((c.tc : Thread Cert.BwdInRefIdeal.nD Cert.BwdInRefIdeal.τ).loc Cert.BwdInRefIdeal.main_arg0) = m ((c.tc : Thread Cert.BwdInIdeal.nD Cert.BwdInIdeal.τ).loc Cert.BwdInIdeal.main_arg0)
      ∧ m' ((c.tc : Thread Cert.BwdInRefIdeal.nD Cert.BwdInRefIdeal.τ).loc Cert.BwdInRefIdeal.main_arg1) = m ((c.tc : Thread Cert.BwdInIdeal.nD Cert.BwdInIdeal.τ).loc Cert.BwdInIdeal.main_arg1)
      ∧ m' ((c.tc : Thread Cert.BwdInRefIdeal.nD Cert.BwdInRefIdeal.τ).loc Cert.BwdInRefIdeal.main_arg2) = m ((c.tc : Thread Cert.BwdInIdeal.nD Cert.BwdInIdeal.τ).loc Cert.BwdInIdeal.main_arg2)
      ∧ m' ((c.tc : Thread Cert.BwdInRefIdeal.nD Cert.BwdInRefIdeal.τ).loc Cert.BwdInRefIdeal.main_arg3) = m ((c.tc : Thread Cert.BwdInIdeal.nD Cert.BwdInIdeal.τ).loc Cert.BwdInIdeal.main_arg3)
      ∧ m' ((c.tc : Thread Cert.BwdInRefIdeal.nD Cert.BwdInRefIdeal.τ).loc Cert.BwdInRefIdeal.main_arg4) = m ((c.tc : Thread Cert.BwdInIdeal.nD Cert.BwdInIdeal.τ).loc Cert.BwdInIdeal.main_arg4)
      ∧ m' ((c.tc : Thread Cert.BwdInRefIdeal.nD Cert.BwdInRefIdeal.τ).loc Cert.BwdInRefIdeal.main_arg5) = m ((c.tc : Thread Cert.BwdInIdeal.nD Cert.BwdInIdeal.τ).loc Cert.BwdInIdeal.main_arg5)
      ∧ m' ((c.tc : Thread Cert.BwdInRefIdeal.nD Cert.BwdInRefIdeal.τ).loc Cert.BwdInRefIdeal.main_arg6) = m ((c.tc : Thread Cert.BwdInIdeal.nD Cert.BwdInIdeal.τ).loc Cert.BwdInIdeal.main_arg6)) →
    ∃ (v0 : (c : Dev Cert.BwdInIdeal.nD) → Buf (Elt Ideal) ((c.tc : Thread Cert.BwdInIdeal.nD Cert.BwdInIdeal.τ).loc Cert.BwdInIdeal.main_v1_0)) (v1 : (c : Dev Cert.BwdInIdeal.nD) → Buf (Elt Ideal) ((c.tc : Thread Cert.BwdInIdeal.nD Cert.BwdInIdeal.τ).loc Cert.BwdInIdeal.main_v1_1)) (v2 : (c : Dev Cert.BwdInIdeal.nD) → Buf (Elt Ideal) ((c.tc : Thread Cert.BwdInIdeal.nD Cert.BwdInIdeal.τ).loc Cert.BwdInIdeal.main_v1_2)) (v3 : (c : Dev Cert.BwdInIdeal.nD) → Buf (Elt Ideal) ((c.tc : Thread Cert.BwdInIdeal.nD Cert.BwdInIdeal.τ).loc Cert.BwdInIdeal.main_v1_3)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v1_0) = v0 c
          ∧ r.2.mem ((c.tc : Thread Cert.BwdInIdeal.nD Cert.BwdInIdeal.τ).loc Cert.BwdInIdeal.main_v1_1) = v1 c
          ∧ r.2.mem ((c.tc : Thread Cert.BwdInIdeal.nD Cert.BwdInIdeal.τ).loc Cert.BwdInIdeal.main_v1_2) = v2 c
          ∧ r.2.mem ((c.tc : Thread Cert.BwdInIdeal.nD Cert.BwdInIdeal.τ).loc Cert.BwdInIdeal.main_v1_3) = v3 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
          ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
          ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6))
      ∧ θ_run (Cert.BwdInRefIdeal.defs (F := Ideal)) (onTc (τ := Cert.BwdInRefIdeal.τ) (Cert.BwdInRefIdeal.main (F := Ideal))) ⟨m', fun _ => 0, g'⟩ (fun r => ∀ c : Dev Cert.BwdInRefIdeal.nD,
          r.2.mem ((c.tc : Thread Cert.BwdInRefIdeal.nD Cert.BwdInRefIdeal.τ).loc Cert.BwdInRefIdeal.main_v59) = v0 c
          ∧ r.2.mem ((c.tc : Thread Cert.BwdInRefIdeal.nD Cert.BwdInRefIdeal.τ).loc Cert.BwdInRefIdeal.main_v60) = v1 c
          ∧ r.2.mem ((c.tc : Thread Cert.BwdInRefIdeal.nD Cert.BwdInRefIdeal.τ).loc Cert.BwdInRefIdeal.main_v61) = v2 c
          ∧ r.2.mem ((c.tc : Thread Cert.BwdInRefIdeal.nD Cert.BwdInRefIdeal.τ).loc Cert.BwdInRefIdeal.main_v62) = v3 c
          ∧ r.2.mem ((c.tc : Thread Cert.BwdInRefIdeal.nD Cert.BwdInRefIdeal.τ).loc Cert.BwdInRefIdeal.main_arg0) = m' ((c.tc : Thread Cert.BwdInRefIdeal.nD Cert.BwdInRefIdeal.τ).loc Cert.BwdInRefIdeal.main_arg0)
          ∧ r.2.mem ((c.tc : Thread Cert.BwdInRefIdeal.nD Cert.BwdInRefIdeal.τ).loc Cert.BwdInRefIdeal.main_arg1) = m' ((c.tc : Thread Cert.BwdInRefIdeal.nD Cert.BwdInRefIdeal.τ).loc Cert.BwdInRefIdeal.main_arg1)
          ∧ r.2.mem ((c.tc : Thread Cert.BwdInRefIdeal.nD Cert.BwdInRefIdeal.τ).loc Cert.BwdInRefIdeal.main_arg2) = m' ((c.tc : Thread Cert.BwdInRefIdeal.nD Cert.BwdInRefIdeal.τ).loc Cert.BwdInRefIdeal.main_arg2)
          ∧ r.2.mem ((c.tc : Thread Cert.BwdInRefIdeal.nD Cert.BwdInRefIdeal.τ).loc Cert.BwdInRefIdeal.main_arg3) = m' ((c.tc : Thread Cert.BwdInRefIdeal.nD Cert.BwdInRefIdeal.τ).loc Cert.BwdInRefIdeal.main_arg3)
          ∧ r.2.mem ((c.tc : Thread Cert.BwdInRefIdeal.nD Cert.BwdInRefIdeal.τ).loc Cert.BwdInRefIdeal.main_arg4) = m' ((c.tc : Thread Cert.BwdInRefIdeal.nD Cert.BwdInRefIdeal.τ).loc Cert.BwdInRefIdeal.main_arg4)
          ∧ r.2.mem ((c.tc : Thread Cert.BwdInRefIdeal.nD Cert.BwdInRefIdeal.τ).loc Cert.BwdInRefIdeal.main_arg5) = m' ((c.tc : Thread Cert.BwdInRefIdeal.nD Cert.BwdInRefIdeal.τ).loc Cert.BwdInRefIdeal.main_arg5)
          ∧ r.2.mem ((c.tc : Thread Cert.BwdInRefIdeal.nD Cert.BwdInRefIdeal.τ).loc Cert.BwdInRefIdeal.main_arg6) = m' ((c.tc : Thread Cert.BwdInRefIdeal.nD Cert.BwdInRefIdeal.τ).loc Cert.BwdInRefIdeal.main_arg6))

def preserves_BwdFc2_BwdFc2Ideal : Prop :=
  True

def algebraic_BwdFc2Ideal_BwdFc2RefIdeal [hBwdFc2Ideal : Cert.BwdFc2Ideal.Facts] [hBwdFc2RefIdeal : Cert.BwdFc2RefIdeal.Facts] : Prop :=
  ∀ (m : (ℓ : Loc Cert.BwdFc2Ideal.nD Cert.BwdFc2Ideal.τ Cert.BwdFc2Ideal.sig) → Buf (Elt Ideal) ℓ) (g : Dev Cert.BwdFc2Ideal.nD → PrngReg)
    (m' : (ℓ : Loc Cert.BwdFc2RefIdeal.nD Cert.BwdFc2RefIdeal.τ Cert.BwdFc2RefIdeal.sig) → Buf (Elt Ideal) ℓ) (g' : Dev Cert.BwdFc2RefIdeal.nD → PrngReg), Pre_BwdFc2Ideal m →
    (∀ c : Dev Cert.BwdFc2Ideal.nD,
      m' ((c.tc : Thread Cert.BwdFc2RefIdeal.nD Cert.BwdFc2RefIdeal.τ).loc Cert.BwdFc2RefIdeal.main_arg0) = m ((c.tc : Thread Cert.BwdFc2Ideal.nD Cert.BwdFc2Ideal.τ).loc Cert.BwdFc2Ideal.main_arg0)
      ∧ m' ((c.tc : Thread Cert.BwdFc2RefIdeal.nD Cert.BwdFc2RefIdeal.τ).loc Cert.BwdFc2RefIdeal.main_arg1) = m ((c.tc : Thread Cert.BwdFc2Ideal.nD Cert.BwdFc2Ideal.τ).loc Cert.BwdFc2Ideal.main_arg1)
      ∧ m' ((c.tc : Thread Cert.BwdFc2RefIdeal.nD Cert.BwdFc2RefIdeal.τ).loc Cert.BwdFc2RefIdeal.main_arg2) = m ((c.tc : Thread Cert.BwdFc2Ideal.nD Cert.BwdFc2Ideal.τ).loc Cert.BwdFc2Ideal.main_arg2)) →
    ∃ (v0 : (c : Dev Cert.BwdFc2Ideal.nD) → Buf (Elt Ideal) ((c.tc : Thread Cert.BwdFc2Ideal.nD Cert.BwdFc2Ideal.τ).loc Cert.BwdFc2Ideal.main_v4_0)) (v1 : (c : Dev Cert.BwdFc2Ideal.nD) → Buf (Elt Ideal) ((c.tc : Thread Cert.BwdFc2Ideal.nD Cert.BwdFc2Ideal.τ).loc Cert.BwdFc2Ideal.main_v4_1)),
      θ_run (Cert.BwdFc2Ideal.defs (F := Ideal)) (onTc (τ := Cert.BwdFc2Ideal.τ) (Cert.BwdFc2Ideal.main (F := Ideal))) ⟨m, fun _ => 0, g⟩ (fun r => ∀ c : Dev Cert.BwdFc2Ideal.nD,
          r.2.mem ((c.tc : Thread Cert.BwdFc2Ideal.nD Cert.BwdFc2Ideal.τ).loc Cert.BwdFc2Ideal.main_v4_0) = v0 c
          ∧ r.2.mem ((c.tc : Thread Cert.BwdFc2Ideal.nD Cert.BwdFc2Ideal.τ).loc Cert.BwdFc2Ideal.main_v4_1) = v1 c
          ∧ r.2.mem ((c.tc : Thread Cert.BwdFc2Ideal.nD Cert.BwdFc2Ideal.τ).loc Cert.BwdFc2Ideal.main_arg0) = m ((c.tc : Thread Cert.BwdFc2Ideal.nD Cert.BwdFc2Ideal.τ).loc Cert.BwdFc2Ideal.main_arg0)
          ∧ r.2.mem ((c.tc : Thread Cert.BwdFc2Ideal.nD Cert.BwdFc2Ideal.τ).loc Cert.BwdFc2Ideal.main_arg1) = m ((c.tc : Thread Cert.BwdFc2Ideal.nD Cert.BwdFc2Ideal.τ).loc Cert.BwdFc2Ideal.main_arg1)
          ∧ r.2.mem ((c.tc : Thread Cert.BwdFc2Ideal.nD Cert.BwdFc2Ideal.τ).loc Cert.BwdFc2Ideal.main_arg2) = m ((c.tc : Thread Cert.BwdFc2Ideal.nD Cert.BwdFc2Ideal.τ).loc Cert.BwdFc2Ideal.main_arg2))
      ∧ θ_run (Cert.BwdFc2RefIdeal.defs (F := Ideal)) (onTc (τ := Cert.BwdFc2RefIdeal.τ) (Cert.BwdFc2RefIdeal.main (F := Ideal))) ⟨m', fun _ => 0, g'⟩ (fun r => ∀ c : Dev Cert.BwdFc2RefIdeal.nD,
          r.2.mem ((c.tc : Thread Cert.BwdFc2RefIdeal.nD Cert.BwdFc2RefIdeal.τ).loc Cert.BwdFc2RefIdeal.main_v18) = v0 c
          ∧ r.2.mem ((c.tc : Thread Cert.BwdFc2RefIdeal.nD Cert.BwdFc2RefIdeal.τ).loc Cert.BwdFc2RefIdeal.main_v19) = v1 c
          ∧ r.2.mem ((c.tc : Thread Cert.BwdFc2RefIdeal.nD Cert.BwdFc2RefIdeal.τ).loc Cert.BwdFc2RefIdeal.main_arg0) = m' ((c.tc : Thread Cert.BwdFc2RefIdeal.nD Cert.BwdFc2RefIdeal.τ).loc Cert.BwdFc2RefIdeal.main_arg0)
          ∧ r.2.mem ((c.tc : Thread Cert.BwdFc2RefIdeal.nD Cert.BwdFc2RefIdeal.τ).loc Cert.BwdFc2RefIdeal.main_arg1) = m' ((c.tc : Thread Cert.BwdFc2RefIdeal.nD Cert.BwdFc2RefIdeal.τ).loc Cert.BwdFc2RefIdeal.main_arg1)
          ∧ r.2.mem ((c.tc : Thread Cert.BwdFc2RefIdeal.nD Cert.BwdFc2RefIdeal.τ).loc Cert.BwdFc2RefIdeal.main_arg2) = m' ((c.tc : Thread Cert.BwdFc2RefIdeal.nD Cert.BwdFc2RefIdeal.τ).loc Cert.BwdFc2RefIdeal.main_arg2))

def preserves_BwdMid_BwdMidIdeal : Prop :=
  True

def algebraic_BwdMidIdeal_BwdMidRefIdeal_pre_finite_mid [hBwdMidIdeal : Cert.BwdMidIdeal.Facts] [hBwdMidRefIdeal : Cert.BwdMidRefIdeal.Facts] [hPre_finite_mid : Cert.Pre_finite_mid.Facts] : Prop :=
  ∀ (m : (ℓ : Loc Cert.BwdMidIdeal.nD Cert.BwdMidIdeal.τ Cert.BwdMidIdeal.sig) → Buf (Elt Ideal) ℓ) (g : Dev Cert.BwdMidIdeal.nD → PrngReg)
    (m' : (ℓ : Loc Cert.BwdMidRefIdeal.nD Cert.BwdMidRefIdeal.τ Cert.BwdMidRefIdeal.sig) → Buf (Elt Ideal) ℓ) (g' : Dev Cert.BwdMidRefIdeal.nD → PrngReg), Pre_BwdMidIdeal_finite_mid m →
    (∀ c : Dev Cert.BwdMidIdeal.nD,
      m' ((c.tc : Thread Cert.BwdMidRefIdeal.nD Cert.BwdMidRefIdeal.τ).loc Cert.BwdMidRefIdeal.main_arg0) = m ((c.tc : Thread Cert.BwdMidIdeal.nD Cert.BwdMidIdeal.τ).loc Cert.BwdMidIdeal.main_arg0)
      ∧ m' ((c.tc : Thread Cert.BwdMidRefIdeal.nD Cert.BwdMidRefIdeal.τ).loc Cert.BwdMidRefIdeal.main_arg1) = m ((c.tc : Thread Cert.BwdMidIdeal.nD Cert.BwdMidIdeal.τ).loc Cert.BwdMidIdeal.main_arg1)
      ∧ m' ((c.tc : Thread Cert.BwdMidRefIdeal.nD Cert.BwdMidRefIdeal.τ).loc Cert.BwdMidRefIdeal.main_arg2) = m ((c.tc : Thread Cert.BwdMidIdeal.nD Cert.BwdMidIdeal.τ).loc Cert.BwdMidIdeal.main_arg2)
      ∧ m' ((c.tc : Thread Cert.BwdMidRefIdeal.nD Cert.BwdMidRefIdeal.τ).loc Cert.BwdMidRefIdeal.main_arg3) = m ((c.tc : Thread Cert.BwdMidIdeal.nD Cert.BwdMidIdeal.τ).loc Cert.BwdMidIdeal.main_arg3)
      ∧ m' ((c.tc : Thread Cert.BwdMidRefIdeal.nD Cert.BwdMidRefIdeal.τ).loc Cert.BwdMidRefIdeal.main_arg4) = m ((c.tc : Thread Cert.BwdMidIdeal.nD Cert.BwdMidIdeal.τ).loc Cert.BwdMidIdeal.main_arg4)
      ∧ m' ((c.tc : Thread Cert.BwdMidRefIdeal.nD Cert.BwdMidRefIdeal.τ).loc Cert.BwdMidRefIdeal.main_arg5) = m ((c.tc : Thread Cert.BwdMidIdeal.nD Cert.BwdMidIdeal.τ).loc Cert.BwdMidIdeal.main_arg5)
      ∧ m' ((c.tc : Thread Cert.BwdMidRefIdeal.nD Cert.BwdMidRefIdeal.τ).loc Cert.BwdMidRefIdeal.main_arg6) = m ((c.tc : Thread Cert.BwdMidIdeal.nD Cert.BwdMidIdeal.τ).loc Cert.BwdMidIdeal.main_arg6)
      ∧ m' ((c.tc : Thread Cert.BwdMidRefIdeal.nD Cert.BwdMidRefIdeal.τ).loc Cert.BwdMidRefIdeal.main_arg7) = m ((c.tc : Thread Cert.BwdMidIdeal.nD Cert.BwdMidIdeal.τ).loc Cert.BwdMidIdeal.main_arg7)
      ∧ m' ((c.tc : Thread Cert.BwdMidRefIdeal.nD Cert.BwdMidRefIdeal.τ).loc Cert.BwdMidRefIdeal.main_arg8) = m ((c.tc : Thread Cert.BwdMidIdeal.nD Cert.BwdMidIdeal.τ).loc Cert.BwdMidIdeal.main_arg8)
      ∧ m' ((c.tc : Thread Cert.BwdMidRefIdeal.nD Cert.BwdMidRefIdeal.τ).loc Cert.BwdMidRefIdeal.main_arg9) = m ((c.tc : Thread Cert.BwdMidIdeal.nD Cert.BwdMidIdeal.τ).loc Cert.BwdMidIdeal.main_arg9)) →
    ∃ (v0 : (c : Dev Cert.BwdMidIdeal.nD) → Buf (Elt Ideal) ((c.tc : Thread Cert.BwdMidIdeal.nD Cert.BwdMidIdeal.τ).loc Cert.BwdMidIdeal.main_v47_0)) (v1 : (c : Dev Cert.BwdMidIdeal.nD) → Buf (Elt Ideal) ((c.tc : Thread Cert.BwdMidIdeal.nD Cert.BwdMidIdeal.τ).loc Cert.BwdMidIdeal.main_v47_1)) (v2 : (c : Dev Cert.BwdMidIdeal.nD) → Buf (Elt Ideal) ((c.tc : Thread Cert.BwdMidIdeal.nD Cert.BwdMidIdeal.τ).loc Cert.BwdMidIdeal.main_v47_2)) (v3 : (c : Dev Cert.BwdMidIdeal.nD) → Buf (Elt Ideal) ((c.tc : Thread Cert.BwdMidIdeal.nD Cert.BwdMidIdeal.τ).loc Cert.BwdMidIdeal.main_v47_3)) (v4 : (c : Dev Cert.BwdMidIdeal.nD) → Buf (Elt Ideal) ((c.tc : Thread Cert.BwdMidIdeal.nD Cert.BwdMidIdeal.τ).loc Cert.BwdMidIdeal.main_v47_4)) (v5 : (c : Dev Cert.BwdMidIdeal.nD) → Buf (Elt Ideal) ((c.tc : Thread Cert.BwdMidIdeal.nD Cert.BwdMidIdeal.τ).loc Cert.BwdMidIdeal.main_v47_5)) (v6 : (c : Dev Cert.BwdMidIdeal.nD) → Buf (Elt Ideal) ((c.tc : Thread Cert.BwdMidIdeal.nD Cert.BwdMidIdeal.τ).loc Cert.BwdMidIdeal.main_v47_6)),
      θ_run (Cert.BwdMidIdeal.defs (F := Ideal)) (onTc (τ := Cert.BwdMidIdeal.τ) (Cert.BwdMidIdeal.main (F := Ideal))) ⟨m, fun _ => 0, g⟩ (fun r => ∀ c : Dev Cert.BwdMidIdeal.nD,
          r.2.mem ((c.tc : Thread Cert.BwdMidIdeal.nD Cert.BwdMidIdeal.τ).loc Cert.BwdMidIdeal.main_v47_0) = v0 c
          ∧ r.2.mem ((c.tc : Thread Cert.BwdMidIdeal.nD Cert.BwdMidIdeal.τ).loc Cert.BwdMidIdeal.main_v47_1) = v1 c
          ∧ r.2.mem ((c.tc : Thread Cert.BwdMidIdeal.nD Cert.BwdMidIdeal.τ).loc Cert.BwdMidIdeal.main_v47_2) = v2 c
          ∧ r.2.mem ((c.tc : Thread Cert.BwdMidIdeal.nD Cert.BwdMidIdeal.τ).loc Cert.BwdMidIdeal.main_v47_3) = v3 c
          ∧ r.2.mem ((c.tc : Thread Cert.BwdMidIdeal.nD Cert.BwdMidIdeal.τ).loc Cert.BwdMidIdeal.main_v47_4) = v4 c
          ∧ r.2.mem ((c.tc : Thread Cert.BwdMidIdeal.nD Cert.BwdMidIdeal.τ).loc Cert.BwdMidIdeal.main_v47_5) = v5 c
          ∧ r.2.mem ((c.tc : Thread Cert.BwdMidIdeal.nD Cert.BwdMidIdeal.τ).loc Cert.BwdMidIdeal.main_v47_6) = v6 c
          ∧ r.2.mem ((c.tc : Thread Cert.BwdMidIdeal.nD Cert.BwdMidIdeal.τ).loc Cert.BwdMidIdeal.main_arg0) = m ((c.tc : Thread Cert.BwdMidIdeal.nD Cert.BwdMidIdeal.τ).loc Cert.BwdMidIdeal.main_arg0)
          ∧ r.2.mem ((c.tc : Thread Cert.BwdMidIdeal.nD Cert.BwdMidIdeal.τ).loc Cert.BwdMidIdeal.main_arg1) = m ((c.tc : Thread Cert.BwdMidIdeal.nD Cert.BwdMidIdeal.τ).loc Cert.BwdMidIdeal.main_arg1)
          ∧ r.2.mem ((c.tc : Thread Cert.BwdMidIdeal.nD Cert.BwdMidIdeal.τ).loc Cert.BwdMidIdeal.main_arg2) = m ((c.tc : Thread Cert.BwdMidIdeal.nD Cert.BwdMidIdeal.τ).loc Cert.BwdMidIdeal.main_arg2)
          ∧ r.2.mem ((c.tc : Thread Cert.BwdMidIdeal.nD Cert.BwdMidIdeal.τ).loc Cert.BwdMidIdeal.main_arg3) = m ((c.tc : Thread Cert.BwdMidIdeal.nD Cert.BwdMidIdeal.τ).loc Cert.BwdMidIdeal.main_arg3)
          ∧ r.2.mem ((c.tc : Thread Cert.BwdMidIdeal.nD Cert.BwdMidIdeal.τ).loc Cert.BwdMidIdeal.main_arg4) = m ((c.tc : Thread Cert.BwdMidIdeal.nD Cert.BwdMidIdeal.τ).loc Cert.BwdMidIdeal.main_arg4)
          ∧ r.2.mem ((c.tc : Thread Cert.BwdMidIdeal.nD Cert.BwdMidIdeal.τ).loc Cert.BwdMidIdeal.main_arg5) = m ((c.tc : Thread Cert.BwdMidIdeal.nD Cert.BwdMidIdeal.τ).loc Cert.BwdMidIdeal.main_arg5)
          ∧ r.2.mem ((c.tc : Thread Cert.BwdMidIdeal.nD Cert.BwdMidIdeal.τ).loc Cert.BwdMidIdeal.main_arg6) = m ((c.tc : Thread Cert.BwdMidIdeal.nD Cert.BwdMidIdeal.τ).loc Cert.BwdMidIdeal.main_arg6)
          ∧ r.2.mem ((c.tc : Thread Cert.BwdMidIdeal.nD Cert.BwdMidIdeal.τ).loc Cert.BwdMidIdeal.main_arg7) = m ((c.tc : Thread Cert.BwdMidIdeal.nD Cert.BwdMidIdeal.τ).loc Cert.BwdMidIdeal.main_arg7)
          ∧ r.2.mem ((c.tc : Thread Cert.BwdMidIdeal.nD Cert.BwdMidIdeal.τ).loc Cert.BwdMidIdeal.main_arg8) = m ((c.tc : Thread Cert.BwdMidIdeal.nD Cert.BwdMidIdeal.τ).loc Cert.BwdMidIdeal.main_arg8)
          ∧ r.2.mem ((c.tc : Thread Cert.BwdMidIdeal.nD Cert.BwdMidIdeal.τ).loc Cert.BwdMidIdeal.main_arg9) = m ((c.tc : Thread Cert.BwdMidIdeal.nD Cert.BwdMidIdeal.τ).loc Cert.BwdMidIdeal.main_arg9))
      ∧ θ_run (Cert.BwdMidRefIdeal.defs (F := Ideal)) (onTc (τ := Cert.BwdMidRefIdeal.τ) (Cert.BwdMidRefIdeal.main (F := Ideal))) ⟨m', fun _ => 0, g'⟩ (fun r => ∀ c : Dev Cert.BwdMidRefIdeal.nD,
          r.2.mem ((c.tc : Thread Cert.BwdMidRefIdeal.nD Cert.BwdMidRefIdeal.τ).loc Cert.BwdMidRefIdeal.main_v83) = v0 c
          ∧ r.2.mem ((c.tc : Thread Cert.BwdMidRefIdeal.nD Cert.BwdMidRefIdeal.τ).loc Cert.BwdMidRefIdeal.main_v107) = v1 c
          ∧ r.2.mem ((c.tc : Thread Cert.BwdMidRefIdeal.nD Cert.BwdMidRefIdeal.τ).loc Cert.BwdMidRefIdeal.main_v109) = v2 c
          ∧ r.2.mem ((c.tc : Thread Cert.BwdMidRefIdeal.nD Cert.BwdMidRefIdeal.τ).loc Cert.BwdMidRefIdeal.main_v110) = v3 c
          ∧ r.2.mem ((c.tc : Thread Cert.BwdMidRefIdeal.nD Cert.BwdMidRefIdeal.τ).loc Cert.BwdMidRefIdeal.main_v111) = v4 c
          ∧ r.2.mem ((c.tc : Thread Cert.BwdMidRefIdeal.nD Cert.BwdMidRefIdeal.τ).loc Cert.BwdMidRefIdeal.main_v112) = v5 c
          ∧ r.2.mem ((c.tc : Thread Cert.BwdMidRefIdeal.nD Cert.BwdMidRefIdeal.τ).loc Cert.BwdMidRefIdeal.main_v113) = v6 c
          ∧ r.2.mem ((c.tc : Thread Cert.BwdMidRefIdeal.nD Cert.BwdMidRefIdeal.τ).loc Cert.BwdMidRefIdeal.main_arg0) = m' ((c.tc : Thread Cert.BwdMidRefIdeal.nD Cert.BwdMidRefIdeal.τ).loc Cert.BwdMidRefIdeal.main_arg0)
          ∧ r.2.mem ((c.tc : Thread Cert.BwdMidRefIdeal.nD Cert.BwdMidRefIdeal.τ).loc Cert.BwdMidRefIdeal.main_arg1) = m' ((c.tc : Thread Cert.BwdMidRefIdeal.nD Cert.BwdMidRefIdeal.τ).loc Cert.BwdMidRefIdeal.main_arg1)
          ∧ r.2.mem ((c.tc : Thread Cert.BwdMidRefIdeal.nD Cert.BwdMidRefIdeal.τ).loc Cert.BwdMidRefIdeal.main_arg2) = m' ((c.tc : Thread Cert.BwdMidRefIdeal.nD Cert.BwdMidRefIdeal.τ).loc Cert.BwdMidRefIdeal.main_arg2)
          ∧ r.2.mem ((c.tc : Thread Cert.BwdMidRefIdeal.nD Cert.BwdMidRefIdeal.τ).loc Cert.BwdMidRefIdeal.main_arg3) = m' ((c.tc : Thread Cert.BwdMidRefIdeal.nD Cert.BwdMidRefIdeal.τ).loc Cert.BwdMidRefIdeal.main_arg3)
          ∧ r.2.mem ((c.tc : Thread Cert.BwdMidRefIdeal.nD Cert.BwdMidRefIdeal.τ).loc Cert.BwdMidRefIdeal.main_arg4) = m' ((c.tc : Thread Cert.BwdMidRefIdeal.nD Cert.BwdMidRefIdeal.τ).loc Cert.BwdMidRefIdeal.main_arg4)
          ∧ r.2.mem ((c.tc : Thread Cert.BwdMidRefIdeal.nD Cert.BwdMidRefIdeal.τ).loc Cert.BwdMidRefIdeal.main_arg5) = m' ((c.tc : Thread Cert.BwdMidRefIdeal.nD Cert.BwdMidRefIdeal.τ).loc Cert.BwdMidRefIdeal.main_arg5)
          ∧ r.2.mem ((c.tc : Thread Cert.BwdMidRefIdeal.nD Cert.BwdMidRefIdeal.τ).loc Cert.BwdMidRefIdeal.main_arg6) = m' ((c.tc : Thread Cert.BwdMidRefIdeal.nD Cert.BwdMidRefIdeal.τ).loc Cert.BwdMidRefIdeal.main_arg6)
          ∧ r.2.mem ((c.tc : Thread Cert.BwdMidRefIdeal.nD Cert.BwdMidRefIdeal.τ).loc Cert.BwdMidRefIdeal.main_arg7) = m' ((c.tc : Thread Cert.BwdMidRefIdeal.nD Cert.BwdMidRefIdeal.τ).loc Cert.BwdMidRefIdeal.main_arg7)
          ∧ r.2.mem ((c.tc : Thread Cert.BwdMidRefIdeal.nD Cert.BwdMidRefIdeal.τ).loc Cert.BwdMidRefIdeal.main_arg8) = m' ((c.tc : Thread Cert.BwdMidRefIdeal.nD Cert.BwdMidRefIdeal.τ).loc Cert.BwdMidRefIdeal.main_arg8)
          ∧ r.2.mem ((c.tc : Thread Cert.BwdMidRefIdeal.nD Cert.BwdMidRefIdeal.τ).loc Cert.BwdMidRefIdeal.main_arg9) = m' ((c.tc : Thread Cert.BwdMidRefIdeal.nD Cert.BwdMidRefIdeal.τ).loc Cert.BwdMidRefIdeal.main_arg9))

def Claim : Prop :=
  ∃ (hModGrads : Cert.ModGrads.Facts) (hModGradsIdeal : Cert.ModGradsIdeal.Facts) (hModGradsRefIdeal : Cert.ModGradsRefIdeal.Facts) (hMixer : Cert.Mixer.Facts) (hMixerIdeal : Cert.MixerIdeal.Facts) (hMixerRefIdeal : Cert.MixerRefIdeal.Facts) (hLoss : Cert.Loss.Facts) (hLossIdeal : Cert.LossIdeal.Facts) (hLossRefIdeal : Cert.LossRefIdeal.Facts) (hBwdIn : Cert.BwdIn.Facts) (hBwdInIdeal : Cert.BwdInIdeal.Facts) (hBwdInRefIdeal : Cert.BwdInRefIdeal.Facts) (hBwdFc2 : Cert.BwdFc2.Facts) (hBwdFc2Ideal : Cert.BwdFc2Ideal.Facts) (hBwdFc2RefIdeal : Cert.BwdFc2RefIdeal.Facts) (hBwdMid : Cert.BwdMid.Facts) (hBwdMidIdeal : Cert.BwdMidIdeal.Facts) (hBwdMidRefIdeal : Cert.BwdMidRefIdeal.Facts) (hPre_finite : Cert.Pre_finite.Facts) (hPre_finite_loss : Cert.Pre_finite_loss.Facts) (hPre_finite_in : Cert.Pre_finite_in.Facts) (hPre_finite_mid : Cert.Pre_finite_mid.Facts),
    quiescent_ModGrads (hModGrads := hModGrads)
    ∧ quiescent_ModGradsIdeal (hModGradsIdeal := hModGradsIdeal)
    ∧ quiescent_ModGradsRefIdeal (hModGradsRefIdeal := hModGradsRefIdeal)
    ∧ quiescent_Mixer (hMixer := hMixer)
    ∧ quiescent_MixerIdeal (hMixerIdeal := hMixerIdeal)
    ∧ quiescent_MixerIdeal_pre_finite (hMixerIdeal := hMixerIdeal) (hPre_finite := hPre_finite)
    ∧ quiescent_MixerRefIdeal (hMixerRefIdeal := hMixerRefIdeal)
    ∧ quiescent_MixerRefIdeal_pre_finite (hMixerRefIdeal := hMixerRefIdeal) (hPre_finite := hPre_finite)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_BwdIn (hBwdIn := hBwdIn)
    ∧ quiescent_BwdInIdeal (hBwdInIdeal := hBwdInIdeal)
    ∧ quiescent_BwdInIdeal_pre_finite_in (hBwdInIdeal := hBwdInIdeal) (hPre_finite_in := hPre_finite_in)
    ∧ quiescent_BwdInRefIdeal (hBwdInRefIdeal := hBwdInRefIdeal)
    ∧ quiescent_BwdInRefIdeal_pre_finite_in (hBwdInRefIdeal := hBwdInRefIdeal) (hPre_finite_in := hPre_finite_in)
    ∧ quiescent_BwdFc2 (hBwdFc2 := hBwdFc2)
    ∧ quiescent_BwdFc2Ideal (hBwdFc2Ideal := hBwdFc2Ideal)
    ∧ quiescent_BwdFc2RefIdeal (hBwdFc2RefIdeal := hBwdFc2RefIdeal)
    ∧ quiescent_BwdMid (hBwdMid := hBwdMid)
    ∧ quiescent_BwdMidIdeal (hBwdMidIdeal := hBwdMidIdeal)
    ∧ quiescent_BwdMidIdeal_pre_finite_mid (hBwdMidIdeal := hBwdMidIdeal) (hPre_finite_mid := hPre_finite_mid)
    ∧ quiescent_BwdMidRefIdeal (hBwdMidRefIdeal := hBwdMidRefIdeal)
    ∧ quiescent_BwdMidRefIdeal_pre_finite_mid (hBwdMidRefIdeal := hBwdMidRefIdeal) (hPre_finite_mid := hPre_finite_mid)
    ∧ preserves_ModGrads_ModGradsIdeal
    ∧ algebraic_ModGradsIdeal_ModGradsRefIdeal (hModGradsIdeal := hModGradsIdeal) (hModGradsRefIdeal := hModGradsRefIdeal)
    ∧ preserves_Mixer_MixerIdeal
    ∧ algebraic_MixerIdeal_MixerRefIdeal_pre_finite (hMixerIdeal := hMixerIdeal) (hMixerRefIdeal := hMixerRefIdeal) (hPre_finite := hPre_finite)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_BwdIn_BwdInIdeal
    ∧ algebraic_BwdInIdeal_BwdInRefIdeal_pre_finite_in (hBwdInIdeal := hBwdInIdeal) (hBwdInRefIdeal := hBwdInRefIdeal) (hPre_finite_in := hPre_finite_in)
    ∧ preserves_BwdFc2_BwdFc2Ideal
    ∧ algebraic_BwdFc2Ideal_BwdFc2RefIdeal (hBwdFc2Ideal := hBwdFc2Ideal) (hBwdFc2RefIdeal := hBwdFc2RefIdeal)
    ∧ preserves_BwdMid_BwdMidIdeal
    ∧ algebraic_BwdMidIdeal_BwdMidRefIdeal_pre_finite_mid (hBwdMidIdeal := hBwdMidIdeal) (hBwdMidRefIdeal := hBwdMidRefIdeal) (hPre_finite_mid := hPre_finite_mid)
-- ==== Pre_finite.lean ====
abbrev S4096x1536 : Shape := ⟨2, ![4096, 1536]⟩
abbrev S4096x1024 : Shape := ⟨2, ![4096, 1024]⟩
abbrev S4x128x128 : Shape := ⟨3, ![4, 128, 128]⟩
abbrev S4x128 : Shape := ⟨2, ![4, 128]⟩
abbrev S512 : Shape := ⟨1, ![512]⟩
abbrev S4x2x256x1024 : Shape := ⟨4, ![4, 2, 256, 1024]⟩
abbrev S_ : Shape := ⟨0, ![]⟩

class Facts : Prop where
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg8 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512 .f32) (main_arg5 : FVec F S512 .f32) (main_arg6 : FVec F S4x128x128 .f32) (main_arg8 : FVec F S512 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S4x128x128 .f32 := Host.absf main_arg6
  let main_cst_10 : FVec F S_ .f32 := constant S_ .f32 0x7F800000#32
  let main_v30 : FVec F S4x128x128 .f32 := broadcastInDim S4x128x128 ![] bcast_S_S4x128x128 main_cst_10
  let main_v31 : IVec S4x128x128 1 := cmpf .olt main_v29 main_v30
  let main_c_11 : IVec S_ 1 := constantI S_ 1 1#1
  let main_v32 : IVec S_ 1 := (fun x v => Host.reduce IntOp.andi x v reducesTo_S4x128x128_S_d0_1_2 h_S_) main_v31 main_c_11
  let main_v33 : IVec S_ 1 := andi main_v28 main_v32
  fn_part2 (F := F) main_arg8 main_v33

def fn {F : FTy → Type} [FloatOps F] (main_arg0 : FVec F S4096x1536 .f32) (main_arg1 : FVec F S4096x1024 .f32) (main_arg2 : FVec F S4x128x128 .f32) (main_arg3 : FVec F S4x128 .f32) (main_arg4 : FVec F S512 .f32) (main_arg5 : FVec F S512 .f32) (main_arg6 : FVec F S4x128x128 .f32) (main_arg7 : FVec F S4x128 .f32) (main_arg8 : FVec F S512 .f32) (main_arg9 : FVec F S4x2x256x1024 .bf16) : IVec S_ 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_c : IVec S_ 1 := constantI S_ 1 1#1
  let main_v3 : IVec S_ 1 := (fun x v => Host.reduce IntOp.andi x v reducesTo_S4096x1536_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4x128x128 .f32 := Host.absf main_arg2
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128 .f32 := Host.absf main_arg3
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg4 main_arg5 main_arg6 main_arg8 main_v13 main_v16
-- ==== Pre_finite_in.lean ====
abbrev S4096x1024 : Shape := ⟨2, ![4096, 1024]⟩
abbrev S4096x1536 : Shape := ⟨2, ![4096, 1536]⟩
abbrev S6x1024 : Shape := ⟨2, ![6, 1024]⟩
abbrev S1024 : Shape := ⟨1, ![1024]⟩
abbrev S4x1024x384 : Shape := ⟨3, ![4, 1024, 384]⟩
abbrev S4x2x256x1024 : Shape := ⟨4, ![4, 2, 256, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x1536 : S_.BroadcastsInDim S4096x1536 (![] : Fin 0 → Fin S4096x1536.rank)
  reducesTo_S4096x1536_S_d0_1 : S4096x1536.ReducesTo [0, 1] S_
  bcast_S_S6x1024 : S_.BroadcastsInDim S6x1024 (![] : Fin 0 → Fin S6x1024.rank)
  reducesTo_S6x1024_S_d0_1 : S6x1024.ReducesTo [0, 1] S_
  bcast_S_S1024 : S_.BroadcastsInDim S1024 (![] : Fin 0 → Fin S1024.rank)
  reducesTo_S1024_S_d0 : S1024.ReducesTo [0] S_
  bcast_S_S4x1024x384 : S_.BroadcastsInDim S4x1024x384 (![] : Fin 0 → Fin S4x1024x384.rank)
  reducesTo_S4x1024x384_S_d0_1_2 : S4x1024x384.ReducesTo [0, 1, 2] S_

variable [Facts]

def fn_part1 {F : FTy → Type} [FloatOps F] (main_arg4 : FVec F S1024 .f32) (main_arg5 : FVec F S4x1024x384 .bf16) (main_v13 : IVec S_ 1) (main_v16 : IVec S6x1024 1) : IVec S_ 1 :=
  let main_c_5 : IVec S_ 1 := constantI S_ 1 1#1
  let main_v17 : IVec S_ 1 := (fun x v => Host.reduce IntOp.andi x v reducesTo_S6x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S4x1024x384 .bf16 := Host.absf main_arg5
  let main_cst_8 : FVec F S_ .bf16 := constant S_ .bf16 0x7F80#16
  let main_v25 : FVec F S4x1024x384 .bf16 := broadcastInDim S4x1024x384 ![] bcast_S_S4x1024x384 main_cst_8
  let main_v26 : IVec S4x1024x384 1 := cmpf .olt main_v24 main_v25
  let main_c_9 : IVec S_ 1 := constantI S_ 1 1#1
  let main_v27 : IVec S_ 1 := (fun x v => Host.reduce IntOp.andi x v reducesTo_S4x1024x384_S_d0_1_2 h_S_) main_v26 main_c_9
  let main_v28 : IVec S_ 1 := andi main_v23 main_v27
  main_v28

def fn {F : FTy → Type} [FloatOps F] (main_arg0 : FVec F S4096x1024 .f32) (main_arg1 : FVec F S4096x1536 .bf16) (main_arg2 : FVec F S4096x1024 .f32) (main_arg3 : FVec F S6x1024 .f32) (main_arg4 : FVec F S1024 .f32) (main_arg5 : FVec F S4x1024x384 .bf16) (main_arg6 : FVec F S4x2x256x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1536 .bf16 := Host.absf main_arg1
  let main_cst_0 : FVec F S_ .bf16 := constant S_ .bf16 0x7F80#16
  let main_v5 : FVec F S4096x1536 .bf16 := broadcastInDim S4096x1536 ![] bcast_S_S4096x1536 main_cst_0
  let main_v6 : IVec S4096x1536 1 := cmpf .olt main_v4 main_v5
  let main_c_1 : IVec S_ 1 := constantI S_ 1 1#1
  let main_v7 : IVec S_ 1 := (fun x v => Host.reduce IntOp.andi x v reducesTo_S4096x1536_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S6x1024 .f32 := Host.absf main_arg3
  let main_cst_4 : FVec F S_ .f32 := constant S_ .f32 0x7F800000#32
  let main_v15 : FVec F S6x1024 .f32 := broadcastInDim S6x1024 ![] bcast_S_S6x1024 main_cst_4
  let main_v16 : IVec S6x1024 1 := cmpf .olt main_v14 main_v15
  fn_part1 (F := F) main_arg4 main_arg5 main_v13 main_v16
-- ==== Pre_finite_loss.lean ====
abbrev S4096x4096 : Shape := ⟨2, ![4096, 4096]⟩
abbrev S4096x1024 : Shape := ⟨2, ![4096, 1024]⟩
abbrev S6x1024 : Shape := ⟨2, ![6, 1024]⟩
abbrev S1024 : Shape := ⟨1, ![1024]⟩
abbrev S4x1024x1024 : Shape := ⟨3, ![4, 1024, 1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S6x1024 : S_.BroadcastsInDim S6x1024 (![] : Fin 0 → Fin S6x1024.rank)
  reducesTo_S6x1024_S_d0_1 : S6x1024.ReducesTo [0, 1] S_
  bcast_S_S1024 : S_.BroadcastsInDim S1024 (![] : Fin 0 → Fin S1024.rank)
  reducesTo_S1024_S_d0 : S1024.ReducesTo [0] S_
  bcast_S_S4x1024x1024 : S_.BroadcastsInDim S4x1024x1024 (![] : Fin 0 → Fin S4x1024x1024.rank)
  reducesTo_S4x1024x1024_S_d0_1_2 : S4x1024x1024.ReducesTo [0, 1, 2] S_

variable [Facts]

def fn_part1 {F : FTy → Type} [FloatOps F] (main_arg4 : FVec F S1024 .f32) (main_arg5 : FVec F S4x1024x1024 .bf16) (main_v13 : IVec S_ 1) (main_v16 : IVec S6x1024 1) : IVec S_ 1 :=
  let main_c_5 : IVec S_ 1 := constantI S_ 1 1#1
  let main_v17 : IVec S_ 1 := (fun x v => Host.reduce IntOp.andi x v reducesTo_S6x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S4x1024x1024 .bf16 := Host.absf main_arg5
  let main_cst_8 : FVec F S_ .bf16 := constant S_ .bf16 0x7F80#16
  let main_v25 : FVec F S4x1024x1024 .bf16 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  main_v28

def fn {F : FTy → Type} [FloatOps F] (main_arg0 : FVec F S4096x4096 .bf16) (main_arg1 : FVec F S4096x1024 .f32) (main_arg2 : FVec F S4096x1024 .f32) (main_arg3 : FVec F S6x1024 .f32) (main_arg4 : FVec F S1024 .f32) (main_arg5 : FVec F S4x1024x1024 .bf16) : IVec S_ 1 :=
  let main_v0 : FVec F S4096x4096 .bf16 := Host.absf main_arg0
  let main_cst : FVec F S_ .bf16 := constant S_ .bf16 0x7F80#16
  let main_v1 : FVec F S4096x4096 .bf16 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S6x1024 .f32 := Host.absf main_arg3
  let main_cst_4 : FVec F S_ .f32 := constant S_ .f32 0x7F800000#32
  let main_v15 : FVec F S6x1024 .f32 := broadcastInDim S6x1024 ![] bcast_S_S6x1024 main_cst_4
  let main_v16 : IVec S6x1024 1 := cmpf .olt main_v14 main_v15
  fn_part1 (F := F) main_arg4 main_arg5 main_v13 main_v16
-- ==== Pre_finite_mid.lean ====
abbrev S4096x1024 : Shape := ⟨2, ![4096, 1024]⟩
abbrev S4096x4096 : Shape := ⟨2, ![4096, 4096]⟩
abbrev S6x1024 : Shape := ⟨2, ![6, 1024]⟩
abbrev S1024 : Shape := ⟨1, ![1024]⟩
abbrev S4x1024x1024 : Shape := ⟨3, ![4, 1024, 1024]⟩
abbrev S4x256x1024 : Shape := ⟨3, ![4, 256, 1024]⟩
abbrev S4x2x256x1024 : Shape := ⟨4, ![4, 2, 256, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S6x1024 : S_.BroadcastsInDim S6x1024 (![] : Fin 0 → Fin S6x1024.rank)
  reducesTo_S6x1024_S_d0_1 : S6x1024.ReducesTo [0, 1] S_
  bcast_S_S1024 : S_.BroadcastsInDim S1024 (![] : Fin 0 → Fin S1024.rank)
  reducesTo_S1024_S_d0 : S1024.ReducesTo [0] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x256x1024 : S_.BroadcastsInDim S4x256x1024 (![] : Fin 0 → Fin S4x256x1024.rank)
  reducesTo_S4x256x1024_S_d0_1_2 : S4x256x1024.ReducesTo [0, 1, 2] S_

variable [Facts]

def fn_part2 {F : FTy → Type} [FloatOps F] (main_arg7 : FVec F S4x1024x1024 .bf16) (main_arg8 : FVec F S4x256x1024 .bf16) (main_v33 : IVec S_ 1) : IVec S_ 1 :=
  let main_v34 : FVec F S4x1024x1024 .bf16 := Host.absf main_arg7
  let main_cst_12 : FVec F S_ .bf16 := constant S_ .bf16 0x7F80#16
  let main_v35 : FVec F S4x1024x1024 .bf16 := broadcastInDim S4x1024x1024 ![] bcast_S_S4x1024x1024 main_cst_12
  let main_v36 : IVec S4x1024x1024 1 := cmpf .olt main_v34 main_v35
  let main_c_13 : IVec S_ 1 := constantI S_ 1 1#1
  let main_v37 : IVec S_ 1 := (fun x v => Host.reduce IntOp.andi x v reducesTo_S4x1024x1024_S_d0_1_2 h_S_) main_v36 main_c_13
  let main_v38 : IVec S_ 1 := andi main_v33 main_v37
  let main_v39 : FVec F S4x256x1024 .bf16 := Host.absf main_arg8
  let main_cst_14 : FVec F S_ .bf16 := constant S_ .bf16 0x7F80#16
  let main_v40 : FVec F S4x256x1024 .bf16 := broadcastInDim S4x256x1024 ![] bcast_S_S4x256x1024 main_cst_14
  let main_v41 : IVec S4x256x1024 1 := cmpf .olt main_v39 main_v40
  let main_c_15 : IVec S_ 1 := constantI S_ 1 1#1
  let main_v42 : IVec S_ 1 := (fun x v => Host.reduce IntOp.andi x v reducesTo_S4x256x1024_S_d0_1_2 h_S_) main_v41 main_c_15
  let main_v43 : IVec S_ 1 := andi main_v38 main_v42
  main_v43

def fn_part1 {F : FTy → Type} [FloatOps F] (main_arg4 : FVec F S6x1024 .f32) (main_arg5 : FVec F S1024 .f32) (main_arg6 : FVec F S1024 .f32) (main_arg7 : FVec F S4x1024x1024 .bf16) (main_arg8 : FVec F S4x256x1024 .bf16) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S6x1024 .f32 := Host.absf main_arg4
  let main_cst_6 : FVec F S_ .f32 := constant S_ .f32 0x7F800000#32
  let main_v20 : FVec F S6x1024 .f32 := broadcastInDim S6x1024 ![] bcast_S_S6x1024 main_cst_6
  let main_v21 : IVec S6x1024 1 := cmpf .olt main_v19 main_v20
  let main_c_7 : IVec S_ 1 := constantI S_ 1 1#1
  let main_v22 : IVec S_ 1 := (fun x v => Host.reduce IntOp.andi x v reducesTo_S6x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x1024 .bf16) (main_arg2 : FVec F S4096x4096 .bf16) (main_arg3 : FVec F S4096x1024 .f32) (main_arg4 : FVec F S6x1024 .f32) (main_arg5 : FVec F S1024 .f32) (main_arg6 : FVec F S1024 .f32) (main_arg7 : FVec F S4x1024x1024 .bf16) (main_arg8 : FVec F S4x256x1024 .bf16) (main_arg9 : FVec F S4x2x256x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .bf16 := Host.absf main_arg1
  let main_cst_0 : FVec F S_ .bf16 := constant S_ .bf16 0x7F80#16
  let main_v5 : FVec F S4096x1024 .bf16 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x4096 .bf16 := Host.absf main_arg2
  let main_cst_2 : FVec F S_ .bf16 := constant S_ .bf16 0x7F80#16
  let main_v10 : FVec F S4096x4096 .bf16 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_v13 main_v16
-- ==== ModGrads.lean ====
abbrev S1x1024 : Shape := ⟨2, ![1, 1024]⟩
abbrev S6x1024 : Shape := ⟨2, ![6, 1024]⟩
abbrev S1024 : Shape := ⟨1, ![1024]⟩
abbrev S4x1024 : Shape := ⟨2, ![4, 1024]⟩

abbrev nBuf : Space → Nat
  | .hbm => 17
  | .vmem => 13
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S6x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S6x1024, .f32⟩
  | .hbm, ⟨16, _⟩ => ⟨S4x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S6x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S6x1024, .f32⟩
  | .local _ .vmem, ⟨12, _⟩ => ⟨S4x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== ModGradsRefIdeal.lean ====
abbrev S1x1024 : Shape := ⟨2, ![1, 1024]⟩
abbrev S6x1024 : Shape := ⟨2, ![6, 1024]⟩
abbrev S1024 : Shape := ⟨1, ![1024]⟩
abbrev S_ : Shape := ⟨0, ![]⟩
abbrev S4x1024 : Shape := ⟨2, ![4, 1024]⟩

abbrev nBuf : Space → Nat
  | .hbm => 75
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S6x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S6x1024, .f32⟩
  | .hbm, ⟨50, _⟩ => ⟨S1x1024, .f32⟩
  | .hbm, ⟨51, _⟩ => ⟨S_, .f32⟩
  | .hbm, ⟨52, _⟩ => ⟨S6x1024, .f32⟩
  | .hbm, ⟨53, _⟩ => ⟨S6x1024, .f32⟩
  | .hbm, ⟨54, _⟩ => ⟨S1x1024, .f32⟩
  | .hbm, ⟨55, _⟩ => ⟨S_, .f32⟩
  | .hbm, ⟨56, _⟩ => ⟨S6x1024, .f32⟩
  | .hbm, ⟨57, _⟩ => ⟨S6x1024, .f32⟩
  | .hbm, ⟨58, _⟩ => ⟨S1x1024, .f32⟩
  | .hbm, ⟨59, _⟩ => ⟨S_, .f32⟩
  | .hbm, ⟨60, _⟩ => ⟨S6x1024, .f32⟩
  | .hbm, ⟨61, _⟩ => ⟨S6x1024, .f32⟩
  | .hbm, ⟨62, _⟩ => ⟨S1x1024, .f32⟩
  | .hbm, ⟨63, _⟩ => ⟨S_, .f32⟩
  | .hbm, ⟨64, _⟩ => ⟨S6x1024, .f32⟩
  | .hbm, ⟨65, _⟩ => ⟨S6x1024, .f32⟩
  | .hbm, ⟨66, _⟩ => ⟨S1x1024, .f32⟩
  | .hbm, ⟨67, _⟩ => ⟨S_, .f32⟩
  | .hbm, ⟨68, _⟩ => ⟨S6x1024, .f32⟩
  | .hbm, ⟨69, _⟩ => ⟨S6x1024, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S4x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_1 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Mixer.lean ====
abbrev S4096x1536 : Shape := ⟨2, ![4096, 1536]⟩
abbrev S4096x1024 : Shape := ⟨2, ![4096, 1024]⟩
abbrev S4x128x128 : Shape := ⟨3, ![4, 128, 128]⟩
abbrev S4x128 : Shape := ⟨2, ![4, 128]⟩
abbrev S512 : Shape := ⟨1, ![512]⟩
abbrev S4x2x256x1024 : Shape := ⟨4, ![4, 2, 256, 1024]⟩
abbrev S128x4 : Shape := ⟨2, ![128, 4]⟩
abbrev S128x4x128 : Shape := ⟨3, ![128, 4, 128]⟩
abbrev S128x512 : Shape := ⟨2, ![128, 512]⟩
abbrev S1x512 : Shape := ⟨2, ![1, 512]⟩
abbrev S4x128x1 : Shape := ⟨3, ![4, 128, 1]⟩
abbrev S512x1536 : Shape := ⟨2, ![512, 1536]⟩
abbrev S16x512 : Shape := ⟨2, ![16, 512]⟩
abbrev S512x1024 : Shape := ⟨2, ![512, 1024]⟩
abbrev S512x512 : Shape := ⟨2, ![512, 512]⟩
abbrev S128x128 : Shape := ⟨2, ![128, 128]⟩
abbrev S1x128x128 : Shape := ⟨3, ![1, 128, 128]⟩
abbrev S512x1 : Shape := ⟨2, ![512, 1]⟩
abbrev S1x128x1 : Shape := ⟨3, ![1, 128, 1]⟩
abbrev S128x1 : Shape := ⟨2, ![128, 1]⟩
abbrev S128 : Shape := ⟨1, ![128]⟩
abbrev S528x512 : Shape := ⟨2, ![528, 512]⟩
abbrev S544x512 : Shape := ⟨2, ![544, 512]⟩
abbrev S544x128 : Shape := ⟨2, ![544, 128]⟩
abbrev S528x1 : Shape := ⟨2, ![528, 1]⟩
abbrev S528x128 : Shape := ⟨2, ![528, 128]⟩
abbrev S512x128 : Shape := ⟨2, ![512, 128]⟩
abbrev S1x128 : Shape := ⟨2, ![1, 128]⟩

abbrev nBuf : Space → Nat
  | .hbm => 25
  | .vmem => 28
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S4x128x128, .f32⟩
  | .hbm, ⟨3, _⟩ => ⟨S4x128, .f32⟩
  | .hbm, ⟨4, _⟩ => ⟨S512, .f32⟩
  | .hbm, ⟨5, _⟩ => ⟨S512, .f32⟩
  | .hbm, ⟨6, _⟩ => ⟨S4x128x128, .f32⟩
  | .hbm, ⟨7, _⟩ => ⟨S4x128, .f32⟩
  | .hbm, ⟨8, _⟩ => ⟨S512, .f32⟩
  | .hbm, ⟨9, _⟩ => ⟨S4x2x256x1024, .bf16⟩
  | .hbm, ⟨10, _⟩ => ⟨S128x4, .f32⟩
  | .hbm, ⟨11, _⟩ => ⟨S128x4x128, .f32⟩
  | .hbm, ⟨12, _⟩ => ⟨S128x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S4096x1536, .bf16⟩
  | .hbm, ⟨18, _⟩ => ⟨S4x128x128, .f32⟩
  | .hbm, ⟨19, _⟩ => ⟨S4x128x1, .f32⟩
  | .hbm, ⟨20, _⟩ => ⟨S1x512, .f32⟩
  | .hbm, ⟨21, _⟩ => ⟨S1x512, .f32⟩
  | .hbm, ⟨22, _⟩ => ⟨S4x128x128, .f32⟩
  | .hbm, ⟨23, _⟩ => ⟨S1x512, .f32⟩
  | .hbm, ⟨24, _⟩ => ⟨S1x512, .f32⟩
  | .local _ .vmem, ⟨0, _⟩ => ⟨S512x1536, .f32⟩
  | .local _ .vmem, ⟨1, _⟩ => ⟨S512x1536, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S512x1024, .f32⟩
  | .local _ .vmem, ⟨7, _⟩ => ⟨S512x1024, .f32⟩
  | .local _ .vmem, ⟨8, _⟩ => ⟨S16x512, .f32⟩
  | .local _ .vmem, ⟨9, _⟩ => ⟨S16x512, .f32⟩
  | .local _ .vmem, ⟨10, _⟩ => ⟨S4x128x128, .f32⟩
  | .local _ .vmem, ⟨11, _⟩ => ⟨S128x512, .f32⟩
  | .local _ .vmem, ⟨12, _⟩ => ⟨S1x512, .f32⟩
  | .local _ .vmem, ⟨13, _⟩ => ⟨S1x512, .f32⟩
  | .local _ .vmem, ⟨14, _⟩ => ⟨S4x128x128, .f32⟩
  | .local _ .vmem, ⟨15, _⟩ => ⟨S1x512, .f32⟩
  | .local _ .vmem, ⟨16, _⟩ => ⟨S1x512, .f32⟩
  | .local _ .vmem, ⟨17, _⟩ => ⟨S512x1536, .bf16⟩
  | .local _ .vmem, ⟨18, _⟩ => ⟨S512x1536, .bf16⟩
  | .local _ .vmem, ⟨19, _⟩ => ⟨S4x128x128, .f32⟩
  | .local _ .vmem, ⟨20, _⟩ => ⟨S4x128x1, .f32⟩
  | .local _ .vmem, ⟨21, _⟩ => ⟨S1x512, .f32⟩
  | .local _ .vmem, ⟨22, _⟩ => ⟨S1x512, .f32⟩
  | .local _ .vmem, ⟨23, _⟩ => ⟨S4x128x128, .f32⟩
  | .local _ .vmem, ⟨24, _⟩ => ⟨S1x512, .f32⟩
  | .local _ .vmem, ⟨25, _⟩ => ⟨S1x512, .f32⟩
  | .local _ .vmem, ⟨26, _⟩ => ⟨S512x512, .f32⟩
  | .local _ .vmem, ⟨27, _⟩ => ⟨S512x512, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v7_5 : Ref sig .tc := ⟨.hbm, 22, rfl⟩
abbrev main_v7_6 : Ref sig .tc := ⟨.hbm, 23, rfl⟩
abbrev main_v7_7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c2_i32 : BitVec 32 := 2#32
  let c0_i32 : BitVec 32 := 0#32
  ![v2.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c1_i32_0 : BitVec 32 := 1#32
  let c0_i32 : BitVec 32 := 0#32
  ![v2.toNat, c1_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== MixerIdeal.lean ====
variable {F : FTy → Type} [FloatOps F] [Named F]
def κ : String → Option EReal := fun
  | "k0k1" => some ((80338380498831 / 2251799813685248 : ℝ) : EReal)
  | "three_k0k1" => some ((241015141496493 / 2251799813685248 : ℝ) : EReal)
  | _ => none
-- ==== MixerRefIdeal.lean ====
abbrev S4096x1536 : Shape := ⟨2, ![4096, 1536]⟩
abbrev S4096x1024 : Shape := ⟨2, ![4096, 1024]⟩
abbrev S4x128x128 : Shape := ⟨3, ![4, 128, 128]⟩
abbrev S4x128 : Shape := ⟨2, ![4, 128]⟩
abbrev S512 : Shape := ⟨1, ![512]⟩
abbrev S4x2x256x1024 : Shape := ⟨4, ![4, 2, 256, 1024]⟩
abbrev S_ : Shape := ⟨0, ![]⟩
abbrev S4096x512 : Shape := ⟨2, ![4096, 512]⟩
abbrev S4096 : Shape := ⟨1, ![4096]⟩
abbrev S4096x1 : Shape := ⟨2, ![4096, 1]⟩
abbrev S1x512 : Shape := ⟨2, ![1, 512]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S128x4x1 : Shape := ⟨3, ![128, 4, 1]⟩
abbrev S1x128x4x1 : Shape := ⟨4, ![1, 128, 4, 1]⟩
abbrev S4096x4x128 : Shape := ⟨3, ![4096, 4, 128]⟩
abbrev S1x4x128 : Shape := ⟨3, ![1, 4, 128]⟩
abbrev S4097x4x128 : Shape := ⟨3, ![4097, 4, 128]⟩
abbrev S4097x1x128 : Shape := ⟨3, ![4097, 1, 128]⟩
abbrev S4097x128 : Shape := ⟨2, ![4097, 128]⟩
abbrev S1x128 : Shape := ⟨2, ![1, 128]⟩
abbrev S4095x128 : Shape := ⟨2, ![4095, 128]⟩
abbrev S4096x128 : Shape := ⟨2, ![4096, 128]⟩
abbrev S3x128 : Shape := ⟨2, ![3, 128]⟩
abbrev S4093x128 : Shape := ⟨2, ![4093, 128]⟩
abbrev S7x128 : Shape := ⟨2, ![7, 128]⟩
abbrev S4089x128 : Shape := ⟨2, ![4089, 128]⟩
abbrev S15x128 : Shape := ⟨2, ![15, 128]⟩
abbrev S4081x128 : Shape := ⟨2, ![4081, 128]⟩
abbrev S4096x1x128 : Shape := ⟨3, ![4096, 1, 128]⟩
abbrev S4x128x4096 : Shape := ⟨3, ![4, 128, 4096]⟩
abbrev S4x4096x128 : Shape := ⟨3, ![4, 4096, 128]⟩
abbrev S4x128x1 : Shape := ⟨3, ![4, 128, 1]⟩

abbrev nBuf : Space → Nat
  | .hbm => 390
  | .vmem => 0
  | .smem => 0
  | _ => 0

abbrev hbmTy0_0 (i : Nat) : BufTy := match i % 128 with
  | 0 => ⟨S4096x1536, .f32⟩
  | 1 => ⟨S4096x1024, .f32⟩
  | 2 => ⟨S4x128x128, .f32⟩
  | 3 => ⟨S4x128, .f32⟩
  | 4 => ⟨S512, .f32⟩
  | 5 => ⟨S512, .f32⟩
  | 6 => ⟨S4x128x128, .f32⟩
  | 7 => ⟨S4x128, .f32⟩
  | 8 => ⟨S512, .f32⟩
  | 9 => ⟨S4x2x256x1024, .bf16⟩
  | 10 => ⟨S4096x1024, .f32⟩
  | 11 => ⟨S4096x1024, .f32⟩
  | 12 => ⟨S4096x1024, .f32⟩
  | 13 => ⟨S4096x1024, .f32⟩
  | 14 => ⟨S_, .f32⟩
  | 15 => ⟨S4096x1024, .f32⟩
  | 16 => ⟨S4096x1024, .f32⟩
  | 17 => ⟨S_, .f32⟩
  | 18 => ⟨S4096x1024, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S4096x1024, .f32⟩
  | 32 => ⟨S_, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S4096x1024, .f32⟩
  | 39 => ⟨S4096x512, .f32⟩
  | 40 => ⟨S4096x512, .f32⟩
  | 41 => ⟨S_, .f32⟩
  | 42 => ⟨S4096, .f32⟩
  | 43 => ⟨S4096x1, .f32⟩
  | 44 => ⟨S_, .f32⟩
  | 45 => ⟨S4096x1, .f32⟩
  | 46 => ⟨S4096x1, .f32⟩
  | 47 => ⟨S4096x512, .f32⟩
  | 48 => ⟨S4096x512, .f32⟩
  | 49 => ⟨S4096x512, .f32⟩
  | 50 => ⟨S_, .f32⟩
  | 51 => ⟨S4096x512, .f32⟩
  | 52 => ⟨S4096x512, .f32⟩
  | 53 => ⟨S_, .f32⟩
  | 54 => ⟨S4096, .f32⟩
  | 55 => ⟨S4096x1, .f32⟩
  | 56 => ⟨S_, .f32⟩
  | 57 => ⟨S4096x1, .f32⟩
  | 58 => ⟨S4096x1, .f32⟩
  | 59 => ⟨S4096x512, .f32⟩
  | 60 => ⟨S4096x512, .f32⟩
  | 61 => ⟨S_, .f32⟩
  | 62 => ⟨S4096x1, .f32⟩
  | 63 => ⟨S4096x1, .f32⟩
  | 64 => ⟨S4096x1, .f32⟩
  | 65 => ⟨S4096x1, .f32⟩
  | 66 => ⟨S_, .f32⟩
  | 67 => ⟨S4096x1, .f32⟩
  | 68 => ⟨S4096x1, .f32⟩
  | 69 => ⟨S4096x512, .f32⟩
  | 70 => ⟨S4096x512, .f32⟩
  | 71 => ⟨S1x512, .f32⟩
  | 72 => ⟨S4096x512, .f32⟩
  | 73 => ⟨S4096x512, .f32⟩
  | 74 => ⟨S1x512, .f32⟩
  | 75 => ⟨S4096x512, .f32⟩
  | 76 => ⟨S4096x512, .f32⟩
  | 77 => ⟨S32x128x4x128, .f32⟩
  | 78 => ⟨S_, .f32⟩
  | 79 => ⟨S128x128, .f32⟩
  | 80 => ⟨S128x128, .i32⟩
  | 81 => ⟨S_, .i32⟩
  | 82 => ⟨S128x128, .i32⟩
  | 83 => ⟨S128x128, .i32⟩
  | 84 => ⟨S128x128, .i32⟩
  | 85 => ⟨S128x128, .i1⟩
  | 86 => ⟨S_, .f32⟩
  | 87 => ⟨S128x128, .f32⟩
  | 88 => ⟨S128x128, .f32⟩
  | 89 => ⟨S1x128x128, .f32⟩
  | 90 => ⟨S4x128x128, .f32⟩
  | 91 => ⟨S4x128x128, .f32⟩
  | 92 => ⟨S4x32x128x128, .f32⟩
  | 93 => ⟨S32x128x4x128, .f32⟩
  | 94 => ⟨S128x4, .f32⟩
  | 95 => ⟨S128x4x1, .f32⟩
  | 96 => ⟨S1x128x4x1, .f32⟩
  | 97 => ⟨S32x128x4x128, .f32⟩
  | 98 => ⟨S32x128x4x128, .f32⟩
  | 99 => ⟨S4096x512, .f32⟩
  | 100 => ⟨S4096x512, .f32⟩
  | 101 => ⟨S4096x512, .f32⟩
  | 102 => ⟨S4096x4x128, .f32⟩
  | 103 => ⟨S_, .f32⟩
  | 104 => ⟨S1x4x128, .f32⟩
  | 105 => ⟨S_, .f32⟩
  | 106 => ⟨S_, .f32⟩
  | 107 => ⟨S4096x4x128, .f32⟩
  | 108 => ⟨S4097x4x128, .f32⟩
  | 109 => ⟨S_, .f32⟩
  | 110 => ⟨S1x4x128, .f32⟩
  | 111 => ⟨S4096, .f32⟩
  | 112 => ⟨S4097x1x128, .f32⟩
  | 113 => ⟨S4097x128, .f32⟩
  | 114 => ⟨S_, .f32⟩
  | 115 => ⟨S1x128, .f32⟩
  | 116 => ⟨S4095x128, .f32⟩
  | 117 => ⟨S4096x128, .f32⟩
  | 118 => ⟨S_, .f32⟩
  | 119 => ⟨S1x128, .f32⟩
  | 120 => ⟨S_, .f32⟩
  | 121 => ⟨S4096, .f32⟩
  | 122 => ⟨S4096, .f32⟩
  | 123 => ⟨S_, .f32⟩
  | 124 => ⟨S4096, .f32⟩
  | 125 => ⟨S4096, .f32⟩
  | 126 => ⟨S4096x1, .f32⟩
  | 127 => ⟨S4096x128, .f32⟩
  | _ => ⟨S4096x1536, .f32⟩

abbrev hbmTy0_1 (i : Nat) : BufTy := match i % 128 with
  | 0 => ⟨S4096x128, .f32⟩
  | 1 => ⟨S4096x128, .f32⟩
  | 2 => ⟨S4096x128, .f32⟩
  | 3 => ⟨S4097x1x128, .f32⟩
  | 4 => ⟨S4097x128, .f32⟩
  | 5 => ⟨S_, .f32⟩
  | 6 => ⟨S3x128, .f32⟩
  | 7 => ⟨S4093x128, .f32⟩
  | 8 => ⟨S4096x128, .f32⟩
  | 9 => ⟨S_, .f32⟩
  | 10 => ⟨S3x128, .f32⟩
  | 11 => ⟨S_, .f32⟩
  | 12 => ⟨S4096, .f32⟩
  | 13 => ⟨S4096, .f32⟩
  | 14 => ⟨S_, .f32⟩
  | 15 => ⟨S4096, .f32⟩
  | 16 => ⟨S4096, .f32⟩
  | 17 => ⟨S4096x1, .f32⟩
  | 18 => ⟨S4096x128, .f32⟩
  | 19 => ⟨S4096x128, .f32⟩
  | 20 => ⟨S4096x128, .f32⟩
  | 21 => ⟨S4096x128, .f32⟩
  | 22 => ⟨S4097x1x128, .f32⟩
  | 23 => ⟨S4097x128, .f32⟩
  | 24 => ⟨S_, .f32⟩
  | 25 => ⟨S7x128, .f32⟩
  | 26 => ⟨S4089x128, .f32⟩
  | 27 => ⟨S4096x128, .f32⟩
  | 28 => ⟨S_, .f32⟩
  | 29 => ⟨S7x128, .f32⟩
  | 30 => ⟨S_, .f32⟩
  | 31 => ⟨S4096, .f32⟩
  | 32 => ⟨S4096, .f32⟩
  | 33 => ⟨S_, .f32⟩
  | 34 => ⟨S4096, .f32⟩
  | 35 => ⟨S4096, .f32⟩
  | 36 => ⟨S4096x1, .f32⟩
  | 37 => ⟨S4096x128, .f32⟩
  | 38 => ⟨S4096x128, .f32⟩
  | 39 => ⟨S4096x128, .f32⟩
  | 40 => ⟨S4096x128, .f32⟩
  | 41 => ⟨S4097x1x128, .f32⟩
  | 42 => ⟨S4097x128, .f32⟩
  | 43 => ⟨S_, .f32⟩
  | 44 => ⟨S15x128, .f32⟩
  | 45 => ⟨S4081x128, .f32⟩
  | 46 => ⟨S4096x128, .f32⟩
  | 47 => ⟨S_, .f32⟩
  | 48 => ⟨S15x128, .f32⟩
  | 49 => ⟨S_, .f32⟩
  | 50 => ⟨S4096, .f32⟩
  | 51 => ⟨S4096, .f32⟩
  | 52 => ⟨S_, .f32⟩
  | 53 => ⟨S4096, .f32⟩
  | 54 => ⟨S4096, .f32⟩
  | 55 => ⟨S4096x1, .f32⟩
  | 56 => ⟨S4096x128, .f32⟩
  | 57 => ⟨S4096x128, .f32⟩
  | 58 => ⟨S4096x128, .f32⟩
  | 59 => ⟨S4096x128, .f32⟩
  | 60 => ⟨S4096x1x128, .f32⟩
  | 61 => ⟨S4096x1x128, .f32⟩
  | 62 => ⟨S4096x1x128, .f32⟩
  | 63 => ⟨S4096x1x128, .f32⟩
  | 64 => ⟨S4096x4x128, .f32⟩
  | 65 => ⟨S4096x4x128, .f32⟩
  | 66 => ⟨S4x128x4096, .f32⟩
  | 67 => ⟨S4096x4x128, .f32⟩
  | 68 => ⟨S1x4x128, .f32⟩
  | 69 => ⟨S4096x4x128, .f32⟩
  | 70 => ⟨S4096x4x128, .f32⟩
  | 71 => ⟨S4096x512, .f32⟩
  | 72 => ⟨S1x512, .f32⟩
  | 73 => ⟨S4096x512, .f32⟩
  | 74 => ⟨S4096x512, .f32⟩
  | 75 => ⟨S4096x1024, .f32⟩
  | 76 => ⟨S4096x512, .f32⟩
  | 77 => ⟨S4096x512, .f32⟩
  | 78 => ⟨S4096x512, .f32⟩
  | 79 => ⟨S_, .f32⟩
  | 80 => ⟨S512, .f32⟩
  | 81 => ⟨S1x512, .f32⟩
  | 82 => ⟨S4096x512, .f32⟩
  | 83 => ⟨S4096x512, .f32⟩
  | 84 => ⟨S_, .f32⟩
  | 85 => ⟨S512, .f32⟩
  | 86 => ⟨S4096x4x128, .f32⟩
  | 87 => ⟨S_, .f32⟩
  | 88 => ⟨S4x128, .f32⟩
  | 89 => ⟨S1x4x128, .f32⟩
  | 90 => ⟨S_, .f32⟩
  | 91 => ⟨S4x128, .f32⟩
  | 92 => ⟨S4x128x4096, .f32⟩
  | 93 => ⟨S4x4096x128, .f32⟩
  | 94 => ⟨S4096x4x128, .f32⟩
  | 95 => ⟨S4x128x128, .f32⟩
  | 96 => ⟨S4x128x128, .f32⟩
  | 97 => ⟨S4096x4x128, .f32⟩
  | 98 => ⟨S4096x1x128, .f32⟩
  | 99 => ⟨S4096x128, .f32⟩
  | 100 => ⟨S4096x1x128, .f32⟩
  | 101 => ⟨S4096x128, .f32⟩
  | 102 => ⟨S4096x1x128, .f32⟩
  | 103 => ⟨S4096x128, .f32⟩
  | 104 => ⟨S4096x1x128, .f32⟩
  | 105 => ⟨S4096x128, .f32⟩
  | 106 => ⟨S4096x128, .f32⟩
  | 107 => ⟨S4096x128, .f32⟩
  | 108 => ⟨S4096x128, .f32⟩
  | 109 => ⟨S_, .f32⟩
  | 110 => ⟨S4097x128, .f32⟩
  | 111 => ⟨S15x128, .f32⟩
  | 112 => ⟨S4081x128, .f32⟩
  | 113 => ⟨S_, .f32⟩
  | 114 => ⟨S4097x128, .f32⟩
  | 115 => ⟨S4097x128, .f32⟩
  | 116 => ⟨S4097x1x128, .f32⟩
  | 117 => ⟨S_, .f32⟩
  | 118 => ⟨S4097x4x128, .f32⟩
  | 119 => ⟨S4096x128, .f32⟩
  | 120 => ⟨S4096x128, .f32⟩
  | 121 => ⟨S4096x128, .f32⟩
  | 122 => ⟨S_, .f32⟩
  | 123 => ⟨S4097x128, .f32⟩
  | 124 => ⟨S7x128, .f32⟩
  | 125 => ⟨S4089x128, .f32⟩
  | 126 => ⟨S_, .f32⟩
  | 127 => ⟨S4097x128, .f32⟩
  | _ => ⟨S4096x1536, .f32⟩

abbrev hbmTy0_2 (i : Nat) : BufTy := match i % 128 with
  | 0 => ⟨S4097x128, .f32⟩
  | 1 => ⟨S4097x1x128, .f32⟩
  | 2 => ⟨S_, .f32⟩
  | 3 => ⟨S4097x4x128, .f32⟩
  | 4 => ⟨S4097x4x128, .f32⟩
  | 5 => ⟨S4096x128, .f32⟩
  | 6 => ⟨S4096x128, .f32⟩
  | 7 => ⟨S4096x128, .f32⟩
  | 8 => ⟨S_, .f32⟩
  | 9 => ⟨S4097x128, .f32⟩
  | 10 => ⟨S3x128, .f32⟩
  | 11 => ⟨S4093x128, .f32⟩
  | 12 => ⟨S_, .f32⟩
  | 13 => ⟨S4097x128, .f32⟩
  | 14 => ⟨S4097x128, .f32⟩
  | 15 => ⟨S4097x1x128, .f32⟩
  | 16 => ⟨S_, .f32⟩
  | 17 => ⟨S4097x4x128, .f32⟩
  | 18 => ⟨S4097x4x128, .f32⟩
  | 19 => ⟨S4096x128, .f32⟩
  | 20 => ⟨S4096x128, .f32⟩
  | 21 => ⟨S4096x128, .f32⟩
  | 22 => ⟨S_, .f32⟩
  | 23 => ⟨S4097x128, .f32⟩
  | 24 => ⟨S1x128, .f32⟩
  | 25 => ⟨S4095x128, .f32⟩
  | 26 => ⟨S_, .f32⟩
  | 27 => ⟨S4097x128, .f32⟩
  | 28 => ⟨S4097x128, .f32⟩
  | 29 => ⟨S4097x1x128, .f32⟩
  | 30 => ⟨S_, .f32⟩
  | 31 => ⟨S4097x4x128, .f32⟩
  | 32 => ⟨S4097x4x128, .f32⟩
  | 33 => ⟨S1x4x128, .f32⟩
  | 34 => ⟨S4096x4x128, .f32⟩
  | 35 => ⟨S_, .f32⟩
  | 36 => ⟨S_, .f32⟩
  | 37 => ⟨S4096x4x128, .f32⟩
  | 38 => ⟨S4096x4x128, .f32⟩
  | 39 => ⟨S4096x512, .f32⟩
  | 40 => ⟨S_, .f32⟩
  | 41 => ⟨S4096x1536, .f32⟩
  | 42 => ⟨S4096x512, .f32⟩
  | 43 => ⟨S4096x512, .f32⟩
  | 44 => ⟨S32x128x4x128, .f32⟩
  | 45 => ⟨S_, .f32⟩
  | 46 => ⟨S128x4, .f32⟩
  | 47 => ⟨S1x128x4x1, .f32⟩
  | 48 => ⟨S_, .f32⟩
  | 49 => ⟨S128x4, .f32⟩
  | 50 => ⟨S128x4x1, .f32⟩
  | 51 => ⟨S_, .f32⟩
  | 52 => ⟨S128x4, .f32⟩
  | 53 => ⟨S4x128, .f32⟩
  | 54 => ⟨S4x32x128x128, .f32⟩
  | 55 => ⟨S4x128x128, .f32⟩
  | 56 => ⟨S4x32x128x128, .f32⟩
  | 57 => ⟨S32x128x4x128, .f32⟩
  | 58 => ⟨S4x128x128, .f32⟩
  | 59 => ⟨S4x128x128, .f32⟩
  | 60 => ⟨S4096x512, .f32⟩
  | 61 => ⟨S_, .f32⟩
  | 62 => ⟨S512, .f32⟩
  | 63 => ⟨S1x512, .f32⟩
  | 64 => ⟨S_, .f32⟩
  | 65 => ⟨S512, .f32⟩
  | 66 => ⟨S4096x512, .f32⟩
  | 67 => ⟨S_, .f32⟩
  | 68 => ⟨S512, .f32⟩
  | 69 => ⟨S1x512, .f32⟩
  | 70 => ⟨S4096x512, .f32⟩
  | 71 => ⟨S4096x512, .f32⟩
  | 72 => ⟨S_, .f32⟩
  | 73 => ⟨S512, .f32⟩
  | 74 => ⟨S4096x512, .f32⟩
  | 75 => ⟨S_, .f32⟩
  | 76 => ⟨S4096, .f32⟩
  | 77 => ⟨S4096x1, .f32⟩
  | 78 => ⟨S4096x512, .f32⟩
  | 79 => ⟨S4096x512, .f32⟩
  | 80 => ⟨S4096x1, .f32⟩
  | 81 => ⟨S4096x512, .f32⟩
  | 82 => ⟨S_, .f32⟩
  | 83 => ⟨S4096, .f32⟩
  | 84 => ⟨S4096x1, .f32⟩
  | 85 => ⟨S_, .f32⟩
  | 86 => ⟨S4096x1, .f32⟩
  | 87 => ⟨S4096x1, .f32⟩
  | 88 => ⟨S_, .f32⟩
  | 89 => ⟨S4096, .f32⟩
  | 90 => ⟨S4096x512, .f32⟩
  | 91 => ⟨S4096x512, .f32⟩
  | 92 => ⟨S4096x512, .f32⟩
  | 93 => ⟨S_, .f32⟩
  | 94 => ⟨S4096, .f32⟩
  | 95 => ⟨S4096x1, .f32⟩
  | 96 => ⟨S4096x512, .f32⟩
  | 97 => ⟨S4096x1, .f32⟩
  | 98 => ⟨S_, .f32⟩
  | 99 => ⟨S4096x1, .f32⟩
  | 100 => ⟨S4096x1, .f32⟩
  | 101 => ⟨S_, .f32⟩
  | 102 => ⟨S4096, .f32⟩
  | 103 => ⟨S4096x512, .f32⟩
  | 104 => ⟨S4096x512, .f32⟩
  | 105 => ⟨S_, .f32⟩
  | 106 => ⟨S4096x1024, .f32⟩
  | 107 => ⟨S_, .f32⟩
  | 108 => ⟨S4096x1024, .f32⟩
  | 109 => ⟨S4096x1024, .f32⟩
  | 110 => ⟨S4096x1024, .f32⟩
  | 111 => ⟨S4096x1024, .f32⟩
  | 112 => ⟨S_, .f32⟩
  | 113 => ⟨S4096x1024, .f32⟩
  | 114 => ⟨S4096x1024, .f32⟩
  | 115 => ⟨S4096x1024, .f32⟩
  | 116 => ⟨S_, .f32⟩
  | 117 => ⟨S4096x1024, .f32⟩
  | 118 => ⟨S4096x1024, .f32⟩
  | 119 => ⟨S4096x1024, .f32⟩
  | 120 => ⟨S_, .f32⟩
  | 121 => ⟨S4096x1024, .f32⟩
  | 122 => ⟨S4096x1024, .f32⟩
  | 123 => ⟨S4096x1024, .f32⟩
  | 124 => ⟨S4096x1024, .f32⟩
  | 125 => ⟨S_, .f32⟩
  | 126 => ⟨S4096x1536, .f32⟩
  | 127 => ⟨S4096x1536, .f32⟩
  | _ => ⟨S4096x1536, .f32⟩

abbrev hbmTy0_3 (i : Nat) : BufTy := match i % 128 with
  | 0 => ⟨S4096x1536, .bf16⟩
  | 1 => ⟨S4x128x1, .f32⟩
  | 2 => ⟨S1x512, .f32⟩
  | 3 => ⟨S1x512, .f32⟩
  | 4 => ⟨S1x512, .f32⟩
  | 5 => ⟨S1x512, .f32⟩
  | _ => ⟨S4096x1536, .f32⟩

abbrev hbmTy (i : Nat) : BufTy := match i / 128 with
  | 0 => hbmTy0_0 i
  | 1 => hbmTy0_1 i
  | 2 => hbmTy0_2 i
  | 3 => hbmTy0_3 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_11 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_call0_v0 : Ref sig .tc := ⟨.hbm, 80, rfl⟩
abbrev main_call0_c : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_cst : Ref sig .tc := ⟨.hbm, 86, rfl⟩
abbrev main_call0_v5 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_14 : Ref sig .tc := ⟨.hbm, 103, rfl⟩
abbrev main_v70 : Ref sig .tc := ⟨.hbm, 104, rfl⟩
abbrev main_call1_call0_cst : Ref sig .tc := ⟨.hbm, 105, rfl⟩
abbrev main_call1_call0_v0 : Ref sig .tc := ⟨.hbm, 106, rfl⟩
abbrev main_v71 : Ref sig .tc := ⟨.hbm, 107, rfl⟩
abbrev main_v72 : Ref sig .tc := ⟨.hbm, 108, rfl⟩
abbrev main_cst_15 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_16 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_17 : Ref sig .tc := ⟨.hbm, 118, rfl⟩
abbrev main_v80 : Ref sig .tc := ⟨.hbm, 119, rfl⟩
abbrev main_cst_18 : Ref sig .tc := ⟨.hbm, 120, rfl⟩
abbrev main_v81 : Ref sig .tc := ⟨.hbm, 121, rfl⟩
abbrev main_v82 : Ref sig .tc := ⟨.hbm, 122, rfl⟩
abbrev main_cst_19 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_20 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_21 : Ref sig .tc := ⟨.hbm, 137, rfl⟩
abbrev main_v95 : Ref sig .tc := ⟨.hbm, 138, rfl⟩
abbrev main_cst_22 : Ref sig .tc := ⟨.hbm, 139, rfl⟩
abbrev main_v96 : Ref sig .tc := ⟨.hbm, 140, rfl⟩
abbrev main_v97 : Ref sig .tc := ⟨.hbm, 141, rfl⟩
abbrev main_cst_23 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_24 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_25 : Ref sig .tc := ⟨.hbm, 156, rfl⟩
abbrev main_v110 : Ref sig .tc := ⟨.hbm, 157, rfl⟩
abbrev main_cst_26 : Ref sig .tc := ⟨.hbm, 158, rfl⟩
abbrev main_v111 : Ref sig .tc := ⟨.hbm, 159, rfl⟩
abbrev main_v112 : Ref sig .tc := ⟨.hbm, 160, rfl⟩
abbrev main_cst_27 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_28 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_29 : Ref sig .tc := ⟨.hbm, 175, rfl⟩
abbrev main_v125 : Ref sig .tc := ⟨.hbm, 176, rfl⟩
abbrev main_cst_30 : Ref sig .tc := ⟨.hbm, 177, rfl⟩
abbrev main_v126 : Ref sig .tc := ⟨.hbm, 178, rfl⟩
abbrev main_v127 : Ref sig .tc := ⟨.hbm, 179, rfl⟩
abbrev main_cst_31 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_cst_32 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_cst_33 : Ref sig .tc := ⟨.hbm, 212, rfl⟩
abbrev main_v158 : Ref sig .tc := ⟨.hbm, 213, rfl⟩
abbrev main_v159 : Ref sig .tc := ⟨.hbm, 214, rfl⟩
abbrev main_cst_34 : Ref sig .tc := ⟨.hbm, 215, rfl⟩
abbrev main_v160 : Ref sig .tc := ⟨.hbm, 216, rfl⟩
abbrev main_v161 : Ref sig .tc := ⟨.hbm, 217, rfl⟩
abbrev main_cst_35 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_cst_36 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_cst_37 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_cst_38 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_cst_39 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_cst_40 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_cst_41 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_cst_42 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_cst_43 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_cst_44 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_cst_45 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_cst_46 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_cst_47 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_call2_call0_cst : Ref sig .tc := ⟨.hbm, 291, rfl⟩
abbrev main_call2_call0_v0 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_cst_48 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_cst_49 : Ref sig .tc := ⟨.hbm, 301, rfl⟩
abbrev main_v229 : Ref sig .tc := ⟨.hbm, 302, rfl⟩
abbrev main_v230 : Ref sig .tc := ⟨.hbm, 303, rfl⟩
abbrev main_cst_50 : Ref sig .tc := ⟨.hbm, 304, rfl⟩
abbrev main_v231 : Ref sig .tc := ⟨.hbm, 305, rfl⟩
abbrev main_v232 : Ref sig .tc := ⟨.hbm, 306, rfl⟩
abbrev main_cst_51 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_v241 : Ref sig .tc := ⟨.hbm, 316, rfl⟩
abbrev main_cst_52 : Ref sig .tc := ⟨.hbm, 317, rfl⟩
abbrev main_v242 : Ref sig .tc := ⟨.hbm, 318, rfl⟩
abbrev main_v243 : Ref sig .tc := ⟨.hbm, 319, rfl⟩
abbrev main_cst_53 : Ref sig .tc := ⟨.hbm, 320, rfl⟩
abbrev main_v244 : Ref sig .tc := ⟨.hbm, 321, rfl⟩
abbrev main_v245 : Ref sig .tc := ⟨.hbm, 322, rfl⟩
abbrev main_cst_54 : Ref sig .tc := ⟨.hbm, 323, rfl⟩
abbrev main_v246 : Ref sig .tc := ⟨.hbm, 324, rfl⟩
abbrev main_v247 : Ref sig .tc := ⟨.hbm, 325, rfl⟩
abbrev main_v248 : Ref sig .tc := ⟨.hbm, 326, rfl⟩
abbrev main_v249 : Ref sig .tc := ⟨.hbm, 327, rfl⟩
abbrev main_cst_55 : Ref sig .tc := ⟨.hbm, 328, rfl⟩
abbrev main_v250 : Ref sig .tc := ⟨.hbm, 329, rfl⟩
abbrev main_v251 : Ref sig .tc := ⟨.hbm, 330, rfl⟩
abbrev main_cst_56 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_cst_57 : Ref sig .tc := ⟨.hbm, 338, rfl⟩
abbrev main_v258 : Ref sig .tc := ⟨.hbm, 339, rfl⟩
abbrev main_v259 : Ref sig .tc := ⟨.hbm, 340, rfl⟩
abbrev main_cst_58 : Ref sig .tc := ⟨.hbm, 341, rfl⟩
abbrev main_v260 : Ref sig .tc := ⟨.hbm, 342, rfl⟩
abbrev main_v261 : Ref sig .tc := ⟨.hbm, 343, rfl⟩
abbrev main_cst_59 : Ref sig .tc := ⟨.hbm, 344, rfl⟩
abbrev main_v262 : Ref sig .tc := ⟨.hbm, 345, rfl⟩
abbrev main_v263 : Ref sig .tc := ⟨.hbm, 346, rfl⟩
abbrev main_v264 : Ref sig .tc := ⟨.hbm, 347, rfl⟩
abbrev main_v265 : Ref sig .tc := ⟨.hbm, 348, rfl⟩
abbrev main_cst_60 : Ref sig .tc := ⟨.hbm, 349, rfl⟩
abbrev main_v266 : Ref sig .tc := ⟨.hbm, 350, rfl⟩
abbrev main_v267 : Ref sig .tc := ⟨.hbm, 351, rfl⟩
abbrev main_v268 : Ref sig .tc := ⟨.hbm, 352, rfl⟩
abbrev main_v269 : Ref sig .tc := ⟨.hbm, 353, rfl⟩
abbrev main_cst_61 : Ref sig .tc := ⟨.hbm, 354, rfl⟩
abbrev main_v270 : Ref sig .tc := ⟨.hbm, 355, rfl⟩
abbrev main_v271 : Ref sig .tc := ⟨.hbm, 356, rfl⟩
abbrev main_cst_62 : Ref sig .tc := ⟨.hbm, 357, rfl⟩
abbrev main_v272 : Ref sig .tc := ⟨.hbm, 358, rfl⟩
abbrev main_v273 : Ref sig .tc := ⟨.hbm, 359, rfl⟩
abbrev main_v274 : Ref sig .tc := ⟨.hbm, 360, rfl⟩
abbrev main_cst_63 : Ref sig .tc := ⟨.hbm, 361, rfl⟩
abbrev main_v275 : Ref sig .tc := ⟨.hbm, 362, rfl⟩
abbrev main_cst_64 : Ref sig .tc := ⟨.hbm, 363, rfl⟩
abbrev main_v276 : Ref sig .tc := ⟨.hbm, 364, rfl⟩
abbrev main_v277 : Ref sig .tc := ⟨.hbm, 365, rfl⟩
abbrev main_v278 : Ref sig .tc := ⟨.hbm, 366, rfl⟩
abbrev main_v279 : Ref sig .tc := ⟨.hbm, 367, rfl⟩
abbrev main_cst_65 : Ref sig .tc := ⟨.hbm, 368, rfl⟩
abbrev main_v280 : Ref sig .tc := ⟨.hbm, 369, rfl⟩
abbrev main_v281 : Ref sig .tc := ⟨.hbm, 370, rfl⟩
abbrev main_v282 : Ref sig .tc := ⟨.hbm, 371, rfl⟩
abbrev main_cst_66 : Ref sig .tc := ⟨.hbm, 372, rfl⟩
abbrev main_v283 : Ref sig .tc := ⟨.hbm, 373, rfl⟩
abbrev main_v284 : Ref sig .tc := ⟨.hbm, 374, rfl⟩
abbrev main_v285 : Ref sig .tc := ⟨.hbm, 375, rfl⟩
abbrev main_cst_67 : Ref sig .tc := ⟨.hbm, 376, rfl⟩
abbrev main_v286 : Ref sig .tc := ⟨.hbm, 377, rfl⟩
abbrev main_v287 : Ref sig .tc := ⟨.hbm, 378, rfl⟩
abbrev main_v288 : Ref sig .tc := ⟨.hbm, 379, rfl⟩
abbrev main_v289 : Ref sig .tc := ⟨.hbm, 380, rfl⟩
abbrev main_cst_68 : Ref sig .tc := ⟨.hbm, 381, rfl⟩
abbrev main_v290 : Ref sig .tc := ⟨.hbm, 382, rfl⟩
abbrev main_v291 : Ref sig .tc := ⟨.hbm, 383, rfl⟩
abbrev main_v292 : Ref sig .tc := ⟨.hbm, 384, rfl⟩
abbrev main_v293 : Ref sig .tc := ⟨.hbm, 385, rfl⟩
abbrev main_v294 : Ref sig .tc := ⟨.hbm, 386, rfl⟩
abbrev main_v295 : Ref sig .tc := ⟨.hbm, 387, rfl⟩
abbrev main_v296 : Ref sig .tc := ⟨.hbm, 388, rfl⟩
abbrev main_v297 : Ref sig .tc := ⟨.hbm, 389, rfl⟩

abbrev nD : Nat := 1
abbrev τ : Topo := Topo.v7x

variable {F : FTy → Type} [FloatOps F]
-- ==== Loss.lean ====
abbrev S4096x4096 : Shape := ⟨2, ![4096, 4096]⟩
abbrev S4096x1024 : Shape := ⟨2, ![4096, 1024]⟩
abbrev S6x1024 : Shape := ⟨2, ![6, 1024]⟩
abbrev S1024 : Shape := ⟨1, ![1024]⟩
abbrev S4x1024x1024 : Shape := ⟨3, ![4, 1024, 1024]⟩
abbrev S1x1024 : Shape := ⟨2, ![1, 1024]⟩
abbrev S1x1 : Shape := ⟨2, ![1, 1]⟩
abbrev S512x4096 : Shape := ⟨2, ![512, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1 : Shape := ⟨1, ![1]⟩

abbrev nBuf : Space → Nat
  | .hbm => 11
  | .vmem => 15
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S6x1024, .f32⟩
  | .hbm, ⟨4, _⟩ => ⟨S1024, .f32⟩
  | .hbm, ⟨5, _⟩ => ⟨S4x1024x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1, .f32⟩
  | .hbm, ⟨10, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S6x1024, .f32⟩
  | .local _ .vmem, ⟨7, _⟩ => ⟨S1x1024, .f32⟩
  | .local _ .vmem, ⟨8, _⟩ => ⟨S4x1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1, .f32⟩
  | .local _ .vmem, ⟨14, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S4096x4096 : Shape := ⟨2, ![4096, 4096]⟩
abbrev S4096x1024 : Shape := ⟨2, ![4096, 1024]⟩
abbrev S6x1024 : Shape := ⟨2, ![6, 1024]⟩
abbrev S1024 : Shape := ⟨1, ![1024]⟩
abbrev S4x1024x1024 : Shape := ⟨3, ![4, 1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 85
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S6x1024, .f32⟩
  | .hbm, ⟨4, _⟩ => ⟨S1024, .f32⟩
  | .hbm, ⟨5, _⟩ => ⟨S4x1024x1024, .bf16⟩
  | .hbm, ⟨6, _⟩ => ⟨S4096x4096, .f32⟩
  | .hbm, ⟨7, _⟩ => ⟨S4x1024x1024, .f32⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S1024, .f32⟩
  | .hbm, ⟨12, _⟩ => ⟨S1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .bf16⟩
  | .hbm, ⟨83, _⟩ => ⟨S1x1, .f32⟩
  | .hbm, ⟨84, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_cst_8 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_14 : Ref sig .tc := ⟨.hbm, 72, rfl⟩
abbrev main_v51 : Ref sig .tc := ⟨.hbm, 73, rfl⟩
abbrev main_v52 : Ref sig .tc := ⟨.hbm, 74, rfl⟩
abbrev main_cst_15 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== BwdIn.lean ====
abbrev S4096x1024 : Shape := ⟨2, ![4096, 1024]⟩
abbrev S4096x1536 : Shape := ⟨2, ![4096, 1536]⟩
abbrev S6x1024 : Shape := ⟨2, ![6, 1024]⟩
abbrev S1024 : Shape := ⟨1, ![1024]⟩
abbrev S4x1024x384 : Shape := ⟨3, ![4, 1024, 384]⟩
abbrev S4x2x256x1024 : Shape := ⟨4, ![4, 2, 256, 1024]⟩
abbrev S1x1024 : Shape := ⟨2, ![1, 1024]⟩
abbrev S4x2x512x384 : Shape := ⟨4, ![4, 2, 512, 384]⟩
abbrev S512x1536 : Shape := ⟨2, ![512, 1536]⟩
abbrev S512x1024 : Shape := ⟨2, ![512, 1024]⟩
abbrev S1024x1536 : Shape := ⟨2, ![1024, 1536]⟩
abbrev S4 : Shape := ⟨1, ![4]⟩
abbrev S1x1024x384 : Shape := ⟨3, ![1, 1024, 384]⟩
abbrev S1024x384 : Shape := ⟨2, ![1024, 384]⟩
abbrev S512 : Shape := ⟨1, ![512]⟩
abbrev S512x1 : Shape := ⟨2, ![512, 1]⟩
abbrev S1x2x512x384 : Shape := ⟨4, ![1, 2, 512, 384]⟩
abbrev S2x512x384 : Shape := ⟨3, ![2, 512, 384]⟩
abbrev S1 : Shape := ⟨1, ![1]⟩
abbrev S_ : Shape := ⟨0, ![]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1536, .bf16⟩
  | .hbm, ⟨2, _⟩ => ⟨S4096x1024, .f32⟩
  | .hbm, ⟨3, _⟩ => ⟨S6x1024, .f32⟩
  | .hbm, ⟨4, _⟩ => ⟨S1024, .f32⟩
  | .hbm, ⟨5, _⟩ => ⟨S4x1024x384, .bf16⟩
  | .hbm, ⟨6, _⟩ => ⟨S4x2x256x1024, .bf16⟩
  | .hbm, ⟨7, _⟩ => ⟨S1x1024, .f32⟩
  | .hbm, ⟨8, _⟩ => ⟨S4096x1024, .f32⟩
  | .hbm, ⟨9, _⟩ => ⟨S1x1024, .f32⟩
  | .hbm, ⟨10, _⟩ => ⟨S1x1024, .f32⟩
  | .hbm, ⟨11, _⟩ => ⟨S4x2x512x384, .f32⟩
  | .local _ .vmem, ⟨0, _⟩ => ⟨S512x1536, .bf16⟩
  | .local _ .vmem, ⟨1, _⟩ => ⟨S512x1536, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S6x1024, .f32⟩
  | .local _ .vmem, ⟨7, _⟩ => ⟨S1x1024, .f32⟩
  | .local _ .vmem, ⟨8, _⟩ => ⟨S4x1024x384, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S4x2x512x384, .f32⟩
  | .local _ .vmem, ⟨14, _⟩ => ⟨S1024x1536, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== BwdInRefIdeal.lean ====
abbrev S4096x1024 : Shape := ⟨2, ![4096, 1024]⟩
abbrev S4096x1536 : Shape := ⟨2, ![4096, 1536]⟩
abbrev S6x1024 : Shape := ⟨2, ![6, 1024]⟩
abbrev S1024 : Shape := ⟨1, ![1024]⟩
abbrev S4x1024x384 : Shape := ⟨3, ![4, 1024, 384]⟩
abbrev S4x2x256x1024 : Shape := ⟨4, ![4, 2, 256, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4x384 : Shape := ⟨3, ![1024, 4, 384]⟩
abbrev S1024x1536 : Shape := ⟨2, ![1024, 1536]⟩
abbrev S1536x1024 : Shape := ⟨2, ![1536, 1024]⟩
abbrev S4x2x512x384 : Shape := ⟨4, ![4, 2, 512, 384]⟩

abbrev nBuf : Space → Nat
  | .hbm => 82
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1536, .bf16⟩
  | .hbm, ⟨2, _⟩ => ⟨S4096x1024, .f32⟩
  | .hbm, ⟨3, _⟩ => ⟨S6x1024, .f32⟩
  | .hbm, ⟨4, _⟩ => ⟨S1024, .f32⟩
  | .hbm, ⟨5, _⟩ => ⟨S4x1024x384, .bf16⟩
  | .hbm, ⟨6, _⟩ => ⟨S4x2x256x1024, .bf16⟩
  | .hbm, ⟨7, _⟩ => ⟨S1x1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S4x1024x384, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1024x4x384, .f32⟩
  | .hbm, ⟨40, _⟩ => ⟨S1024x1536, .f32⟩
  | .hbm, ⟨41, _⟩ => ⟨S4096x1536, .f32⟩
  | .hbm, ⟨42, _⟩ => ⟨S4096x1536, .f32⟩
  | .hbm, ⟨43, _⟩ => ⟨S1536x1024, .f32⟩
  | .hbm, ⟨44, _⟩ => ⟨S1024x1536, .f32⟩
  | .hbm, ⟨45, _⟩ => ⟨S4096x1024, .f32⟩
  | .hbm, ⟨46, _⟩ => ⟨S1024x4x384, .f32⟩
  | .hbm, ⟨47, _⟩ => ⟨S4x1024x384, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S1x1024, .f32⟩
  | .hbm, ⟨80, _⟩ => ⟨S1x1024, .f32⟩
  | .hbm, ⟨81, _⟩ => ⟨S4x2x512x384, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== BwdFc2.lean ====
abbrev S4096x4096 : Shape := ⟨2, ![4096, 4096]⟩
abbrev S4096x1024 : Shape := ⟨2, ![4096, 1024]⟩
abbrev S4x1024x1024 : Shape := ⟨3, ![4, 1024, 1024]⟩
abbrev S_ : Shape := ⟨0, ![]⟩
abbrev S4x2x512x1024 : Shape := ⟨4, ![4, 2, 512, 1024]⟩
abbrev S512x1024 : Shape := ⟨2, ![512, 1024]⟩
abbrev S512x4096 : Shape := ⟨2, ![512, 4096]⟩
abbrev S4 : Shape := ⟨1, ![4]⟩
abbrev S1x2x512x1024 : Shape := ⟨4, ![1, 2, 512, 1024]⟩
abbrev S2x512x1024 : Shape := ⟨3, ![2, 512, 1024]⟩
abbrev S1024x1024 : Shape := ⟨2, ![1024, 1024]⟩
abbrev S1 : Shape := ⟨1, ![1]⟩
abbrev S1x1024x1024 : Shape := ⟨3, ![1, 1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4x1024x1024, .bf16⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x4096, .bf16⟩
  | .hbm, ⟨9, _⟩ => ⟨S4x2x512x1024, .f32⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S4x1024x1024, .bf16⟩
  | .local _ .vmem, ⟨5, _⟩ => ⟨S512x4096, .bf16⟩
  | .local _ .vmem, ⟨6, _⟩ => ⟨S512x4096, .bf16⟩
  | .local _ .vmem, ⟨7, _⟩ => ⟨S4x2x512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== BwdFc2RefIdeal.lean ====
abbrev S4096x4096 : Shape := ⟨2, ![4096, 4096]⟩
abbrev S4096x1024 : Shape := ⟨2, ![4096, 1024]⟩
abbrev S4x1024x1024 : Shape := ⟨3, ![4, 1024, 1024]⟩
abbrev S_ : Shape := ⟨0, ![]⟩
abbrev S1024x4096 : Shape := ⟨2, ![1024, 4096]⟩
abbrev S4x2x512x1024 : Shape := ⟨4, ![4, 2, 512, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4x1024x1024, .bf16⟩
  | .hbm, ⟨3, _⟩ => ⟨S4x1024x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1024x4096, .f32⟩
  | .hbm, ⟨20, _⟩ => ⟨S4096x1024, .f32⟩
  | .hbm, ⟨21, _⟩ => ⟨S4096x4096, .f32⟩
  | .hbm, ⟨22, _⟩ => ⟨S4x1024x1024, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .bf16⟩
  | .hbm, ⟨28, _⟩ => ⟨S4x2x512x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== BwdMid.lean ====
abbrev S4096x1024 : Shape := ⟨2, ![4096, 1024]⟩
abbrev S4096x4096 : Shape := ⟨2, ![4096, 4096]⟩
abbrev S6x1024 : Shape := ⟨2, ![6, 1024]⟩
abbrev S1024 : Shape := ⟨1, ![1024]⟩
abbrev S4x1024x1024 : Shape := ⟨3, ![4, 1024, 1024]⟩
abbrev S4x256x1024 : Shape := ⟨3, ![4, 256, 1024]⟩
abbrev S4x2x256x1024 : Shape := ⟨4, ![4, 2, 256, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4x2x512x1024 : Shape := ⟨4, ![4, 2, 512, 1024]⟩
abbrev S4x2x128x1024 : Shape := ⟨4, ![4, 2, 128, 1024]⟩
abbrev S256x4096 : Shape := ⟨2, ![256, 4096]⟩
abbrev S256x1024 : Shape := ⟨2, ![256, 1024]⟩
abbrev S4 : Shape := ⟨1, ![4]⟩
abbrev S1x2x512x1024 : Shape := ⟨4, ![1, 2, 512, 1024]⟩
abbrev S2x512x1024 : Shape := ⟨3, ![2, 512, 1024]⟩
abbrev S1 : Shape := ⟨1, ![1]⟩
abbrev S1x1024x1024 : Shape := ⟨3, ![1, 1024, 1024]⟩
abbrev S256 : Shape := ⟨1, ![256]⟩
abbrev S256x1 : Shape := ⟨2, ![256, 1]⟩
abbrev S1x2x128x1024 : Shape := ⟨4, ![1, 2, 128, 1024]⟩
abbrev S2x128x1024 : Shape := ⟨3, ![2, 128, 1024]⟩
abbrev S1x256x1024 : Shape := ⟨3, ![1, 256, 1024]⟩
abbrev S256x256 : Shape := ⟨2, ![256, 256]⟩

abbrev nBuf : Space → Nat
  | .hbm => 71
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .bf16⟩
  | .hbm, ⟨3, _⟩ => ⟨S4096x1024, .f32⟩
  | .hbm, ⟨4, _⟩ => ⟨S6x1024, .f32⟩
  | .hbm, ⟨5, _⟩ => ⟨S1024, .f32⟩
  | .hbm, ⟨6, _⟩ => ⟨S1024, .f32⟩
  | .hbm, ⟨7, _⟩ => ⟨S4x1024x1024, .bf16⟩
  | .hbm, ⟨8, _⟩ => ⟨S4x256x1024, .bf16⟩
  | .hbm, ⟨9, _⟩ => ⟨S4x2x256x1024, .bf16⟩
  | .hbm, ⟨10, _⟩ => ⟨S4096x1024, .f32⟩
  | .hbm, ⟨11, _⟩ => ⟨S4x256x1024, .f32⟩
  | .hbm, ⟨12, _⟩ => ⟨S1024x1024, .f32⟩
  | .hbm, ⟨13, _⟩ => ⟨S4096x1024, .f32⟩
  | .hbm, ⟨14, _⟩ => ⟨S1x1024, .f32⟩
  | .hbm, ⟨15, _⟩ => ⟨S1024, .f32⟩
  | .hbm, ⟨16, _⟩ => ⟨S1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S1024, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | .hbm, ⟨62, _⟩ => ⟨S1x1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S4x2x512x1024, .f32⟩
  | .hbm, ⟨70, _⟩ => ⟨S4x2x128x1024, .f32⟩
  | .local _ .vmem, ⟨0, _⟩ => ⟨S256x4096, .bf16⟩
  | .local _ .vmem, ⟨1, _⟩ => ⟨S256x4096, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S6x1024, .f32⟩
  | .local _ .vmem, ⟨13, _⟩ => ⟨S1x1024, .f32⟩
  | .local _ .vmem, ⟨14, _⟩ => ⟨S1x1024, .f32⟩
  | .local _ .vmem, ⟨15, _⟩ => ⟨S4x1024x1024, .bf16⟩
  | .local _ .vmem, ⟨16, _⟩ => ⟨S4x256x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S4x2x512x1024, .f32⟩
  | .local _ .vmem, ⟨25, _⟩ => ⟨S4x2x128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47_0 : Ref sig .tc := ⟨.hbm, 64, rfl⟩
abbrev main_v47_1 : Ref sig .tc := ⟨.hbm, 65, rfl⟩
abbrev main_v47_2 : Ref sig .tc := ⟨.hbm, 66, rfl⟩
abbrev main_v47_3 : Ref sig .tc := ⟨.hbm, 67, rfl⟩
abbrev main_v47_4 : Ref sig .tc := ⟨.hbm, 68, rfl⟩
abbrev main_v47_5 : Ref sig .tc := ⟨.hbm, 69, rfl⟩
abbrev main_v47_6 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== BwdMidRefIdeal.lean ====
abbrev S4096x1024 : Shape := ⟨2, ![4096, 1024]⟩
abbrev S4096x4096 : Shape := ⟨2, ![4096, 4096]⟩
abbrev S6x1024 : Shape := ⟨2, ![6, 1024]⟩
abbrev S1024 : Shape := ⟨1, ![1024]⟩
abbrev S4x1024x1024 : Shape := ⟨3, ![4, 1024, 1024]⟩
abbrev S4x256x1024 : Shape := ⟨3, ![4, 256, 1024]⟩
abbrev S4x2x256x1024 : Shape := ⟨4, ![4, 2, 256, 1024]⟩
abbrev S1x1024 : Shape := ⟨2, ![1, 1024]⟩
abbrev S_ : Shape := ⟨0, ![]⟩
abbrev S1024x1024 : Shape := ⟨2, ![1024, 1024]⟩
abbrev S4096 : Shape := ⟨1, ![4096]⟩
abbrev S4096x1 : Shape := ⟨2, ![4096, 1]⟩
abbrev S1024x4x1024 : Shape := ⟨3, ![1024, 4, 1024]⟩
abbrev S1024x4096 : Shape := ⟨2, ![1024, 4096]⟩
abbrev S4x2x512x1024 : Shape := ⟨4, ![4, 2, 512, 1024]⟩
abbrev S4x2x128x1024 : Shape := ⟨4, ![4, 2, 128, 1024]⟩

abbrev nBuf : Space → Nat
  | .hbm => 145
  | .vmem => 0
  | .smem => 0
  | _ => 0

abbrev hbmTy0_0 (i : Nat) : BufTy := match i % 128 with
  | 0 => ⟨S4096x1024, .f32⟩
  | 1 => ⟨S4096x1024, .bf16⟩
  | 2 => ⟨S4096x4096, .bf16⟩
  | 3 => ⟨S4096x1024, .f32⟩
  | 4 => ⟨S6x1024, .f32⟩
  | 5 => ⟨S1024, .f32⟩
  | 6 => ⟨S1024, .f32⟩
  | 7 => ⟨S4x1024x1024, .bf16⟩
  | 8 => ⟨S4x256x1024, .bf16⟩
  | 9 => ⟨S4x2x256x1024, .bf16⟩
  | 10 => ⟨S4096x1024, .f32⟩
  | 11 => ⟨S1x1024, .f32⟩
  | 12 => ⟨S1024, .f32⟩
  | 13 => ⟨S1024, .f32⟩
  | 14 => ⟨S1x1024, .f32⟩
  | 15 => ⟨S1024, .f32⟩
  | 16 => ⟨S_, .f32⟩
  | 17 => ⟨S1024, .f32⟩
  | 18 => ⟨S1024, .f32⟩
  | 19 => ⟨S1024, .f32⟩
  | 20 => ⟨S1x1024, .f32⟩
  | 21 => ⟨S1024, .f32⟩
  | 22 => ⟨S4x1024x1024, .f32⟩
  | 23 => ⟨S4x256x1024, .f32⟩
  | 24 => ⟨S1024x1024, .f32⟩
  | 25 => ⟨S4096x1024, .f32⟩
  | 26 => ⟨S4096x1024, .f32⟩
  | 27 => ⟨S_, .f32⟩
  | 28 => ⟨S4096, .f32⟩
  | 29 => ⟨S4096x1, .f32⟩
  | 30 => ⟨S_, .f32⟩
  | 31 => ⟨S4096x1, .f32⟩
  | 32 => ⟨S4096x1, .f32⟩
  | 33 => ⟨S_, .f32⟩
  | 34 => ⟨S4096x1, .f32⟩
  | 35 => ⟨S4096x1, .f32⟩
  | 36 => ⟨S4096x1, .f32⟩
  | 37 => ⟨S4096x1, .f32⟩
  | 38 => ⟨S_, .f32⟩
  | 39 => ⟨S4096x1, .f32⟩
  | 40 => ⟨S4096x1, .f32⟩
  | 41 => ⟨S4096x1024, .f32⟩
  | 42 => ⟨S4096x1024, .f32⟩
  | 43 => ⟨S1x1024, .f32⟩
  | 44 => ⟨S4096x1024, .f32⟩
  | 45 => ⟨S4096x1024, .f32⟩
  | 46 => ⟨S4096x1024, .f32⟩
  | 47 => ⟨S4096x1024, .f32⟩
  | 48 => ⟨S_, .f32⟩
  | 49 => ⟨S4096, .f32⟩
  | 50 => ⟨S4096x1, .f32⟩
  | 51 => ⟨S_, .f32⟩
  | 52 => ⟨S4096x1, .f32⟩
  | 53 => ⟨S4096x1, .f32⟩
  | 54 => ⟨S_, .f32⟩
  | 55 => ⟨S4096x1, .f32⟩
  | 56 => ⟨S4096x1, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x1024, .f32⟩
  | 63 => ⟨S4096x1024, .f32⟩
  | 64 => ⟨S1x1024, .f32⟩
  | 65 => ⟨S4096x1024, .f32⟩
  | 66 => ⟨S4096x1024, .f32⟩
  | 67 => ⟨S1x1024, .f32⟩
  | 68 => ⟨S4096x1024, .f32⟩
  | 69 => ⟨S4096x1024, .f32⟩
  | 70 => ⟨S1024x4x1024, .f32⟩
  | 71 => ⟨S1024x4096, .f32⟩
  | 72 => ⟨S4096x4096, .f32⟩
  | 73 => ⟨S4096x4096, .f32⟩
  | 74 => ⟨S4096x1024, .f32⟩
  | 75 => ⟨S1024x4096, .f32⟩
  | 76 => ⟨S4096x1024, .f32⟩
  | 77 => ⟨S1024x4x1024, .f32⟩
  | 78 => ⟨S4x1024x1024, .f32⟩
  | 79 => ⟨S_, .f32⟩
  | 80 => ⟨S1024, .f32⟩
  | 81 => ⟨S1x1024, .f32⟩
  | 82 => ⟨S_, .f32⟩
  | 83 => ⟨S1024, .f32⟩
  | 84 => ⟨S4096x1024, .f32⟩
  | 85 => ⟨S_, .f32⟩
  | 86 => ⟨S1024, .f32⟩
  | 87 => ⟨S1x1024, .f32⟩
  | 88 => ⟨S4096x1024, .f32⟩
  | 89 => ⟨S4096x1024, .f32⟩
  | 90 => ⟨S_, .f32⟩
  | 91 => ⟨S1024, .f32⟩
  | 92 => ⟨S4096x1024, .f32⟩
  | 93 => ⟨S_, .f32⟩
  | 94 => ⟨S4096, .f32⟩
  | 95 => ⟨S4096x1, .f32⟩
  | 96 => ⟨S4096x1024, .f32⟩
  | 97 => ⟨S4096x1024, .f32⟩
  | 98 => ⟨S4096x1024, .f32⟩
  | 99 => ⟨S4096x1, .f32⟩
  | 100 => ⟨S_, .f32⟩
  | 101 => ⟨S4096x1, .f32⟩
  | 102 => ⟨S4096x1, .f32⟩
  | 103 => ⟨S_, .f32⟩
  | 104 => ⟨S4096, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S_, .f32⟩
  | 113 => ⟨S1024, .f32⟩
  | 114 => ⟨S1x1024, .f32⟩
  | 115 => ⟨S4096x1024, .f32⟩
  | 116 => ⟨S4096x1024, .f32⟩
  | 117 => ⟨S_, .f32⟩
  | 118 => ⟨S1024, .f32⟩
  | 119 => ⟨S4096x1024, .f32⟩
  | 120 => ⟨S_, .f32⟩
  | 121 => ⟨S4096, .f32⟩
  | 122 => ⟨S4096x1, .f32⟩
  | 123 => ⟨S4096x1024, .f32⟩
  | 124 => ⟨S4096x1024, .f32⟩
  | 125 => ⟨S4096x1, .f32⟩
  | 126 => ⟨S_, .f32⟩
  | 127 => ⟨S4096x1, .f32⟩
  | _ => ⟨S4096x1024, .f32⟩

abbrev hbmTy0_1 (i : Nat) : BufTy := match i % 128 with
  | 0 => ⟨S4096x1, .f32⟩
  | 1 => ⟨S_, .f32⟩
  | 2 => ⟨S4096, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S1024x1024, .f32⟩
  | 9 => ⟨S1024x1024, .f32⟩
  | 10 => ⟨S4096x1024, .f32⟩
  | 11 => ⟨S4x256x1024, .f32⟩
  | 12 => ⟨S1x1024, .f32⟩
  | 13 => ⟨S1x1024, .f32⟩
  | 14 => ⟨S1x1024, .f32⟩
  | 15 => ⟨S4x2x512x1024, .f32⟩
  | 16 => ⟨S4x2x128x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_cst_9 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_15 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_16 : Ref sig .tc := ⟨.hbm, 117, rfl⟩
abbrev main_v90 : Ref sig .tc := ⟨.hbm, 118, rfl⟩
abbrev main_v91 : Ref sig .tc := ⟨.hbm, 119, rfl⟩
abbrev main_cst_17 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_18 : Ref sig .tc := ⟨.hbm, 126, rfl⟩
abbrev main_v97 : Ref sig .tc := ⟨.hbm, 127, rfl⟩
abbrev main_v98 : Ref sig .tc := ⟨.hbm, 128, rfl⟩
abbrev main_cst_19 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩

abbrev nD : Nat := 1
abbrev τ : Topo := Topo.v7x

variable {F : FTy → Type} [FloatOps F]
-- ==== Proof.ModGrads.lean ====
/-
  The modulation gradients: what the call of one point writes into its two results, read at an index, and the same two
  arrays as the gradients of the modulated gains.
-/
module

public import proofs.«01_k».proof.Defs
public import proofs.«01_k».proof.Proof.Gen.ModGrads.Frame
public import proofs.«01_k».proof.Proof.Gen.ModGradsIdeal.Value
public import proofs.«01_k».proof.Proof.Gen.ModGradsRefIdeal.Run
public import proofs.«01_k».proof.Proof.Gen.ModGradsRefIdeal.Read
public import Idealize.ShloMosaic.Lib.Pointwise
public import Idealize.ShloMosaic.Lib.Pipeline.Value
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ModGradsIdeal.Hand

open Cert.ModGradsIdeal Cert.ModGradsIdeal.Gen

variable (m : (ℓ : Loc nD τ sig) → Buf (Elt Ideal) ℓ)

/-- The one point's block of the first result is the whole array. -/
theorem mem_blk11 (t : Fin cfg0.N) (i : S6x1024.Idx) : i ∈ ((cfg0.win 11).blk t).view.set := by
  have h0 : (i 0 : Nat) < 6 := (i 0).isLt
  have h1 : (i 1 : Nat) < 1024 := (i 1).isLt
  show i ∈ ((View.whole main_v4_0).slice (win0_11.rect t)).set
  rw [View.set_slice_whole, Rect.mem_set_unit]
  have e : win0_11.index t 0 * win0_11.size 0 = 0 ∧ win0_11.xsize (grid0.coords t) 0 = 6
      ∧ win0_11.index t 1 * win0_11.size 1 = 0 ∧ win0_11.xsize (grid0.coords t) 1 = 1024 := by
    rcases fin_N0 t with rfl; decide +kernel
  intro a
  match a with
  | ⟨0, _⟩ => show win0_11.index t 0 * win0_11.size 0 ≤ (i 0 : Nat) ∧ (i 0 : Nat) < win0_11.index t 0 * win0_11.size 0 + win0_11.xsize (grid0.coords t) 0
              rw [e.1, e.2.1]; omega
  | ⟨1, _⟩ => show win0_11.index t 1 * win0_11.size 1 ≤ (i 1 : Nat) ∧ (i 1 : Nat) < win0_11.index t 1 * win0_11.size 1 + win0_11.xsize (grid0.coords t) 1
              rw [e.2.2.1, e.2.2.2]; omega

/-- The one point's block of the second result is the whole array. -/
theorem mem_blk12 (t : Fin cfg0.N) (i : S4x1024.Idx) : i ∈ ((cfg0.win 12).blk t).view.set := by
  have h0 : (i 0 : Nat) < 4 := (i 0).isLt
  have h1 : (i 1 : Nat) < 1024 := (i 1).isLt
  show i ∈ ((View.whole main_v4_1).slice (win0_12.rect t)).set
  rw [View.set_slice_whole, Rect.mem_set_unit]
  have e : win0_12.index t 0 * win0_12.size 0 = 0 ∧ win0_12.xsize (grid0.coords t) 0 = 4
      ∧ win0_12.index t 1 * win0_12.size 1 = 0 ∧ win0_12.xsize (grid0.coords t) 1 = 1024 := by
    rcases fin_N0 t with rfl; decide +kernel
  intro a
  match a with
  | ⟨0, _⟩ => show win0_12.index t 0 * win0_12.size 0 ≤ (i 0 : Nat) ∧ (i 0 : Nat) < win0_12.index t 0 * win0_12.size 0 + win0_12.xsize (grid0.coords t) 0
              rw [e.1, e.2.1]; omega
  | ⟨1, _⟩ => show win0_12.index t 1 * win0_12.size 1 ≤ (i 1 : Nat) ∧ (i 1 : Nat) < win0_12.index t 1 * win0_12.size 1 + win0_12.xsize (grid0.coords t) 1
              rw [e.2.2.1, e.2.2.2]; omega

/-- The first result of the body, of the arrays the region finds. -/
abbrev modsOf (c : Dev nD) : Vec Ideal S6x1024 .f32 :=
  out0_11 (V m c main_arg0) (V m c main_arg1) (V m c main_arg2) (V m c main_arg3) (V m c main_arg4) (V m c main_arg5) (V m c main_arg6)
    (V m c main_v0) (V m c main_v1) (V m c main_v2) (V m c main_v3)

/-- The second result of the body, of the arrays the region finds. -/
abbrev normsOf (c : Dev nD) : Vec Ideal S4x1024 .f32 :=
  out0_12 (V m c main_arg0) (V m c main_arg1) (V m c main_arg2) (V m c main_arg3) (V m c main_arg4) (V m c main_arg5) (V m c main_arg6)
    (V m c main_v0) (V m c main_v1) (V m c main_v2) (V m c main_v3)

theorem read0 (X : main_arg0.ty.Contents (Elt Ideal)) : (win0_0.blk t0_0).view.read (Elt Ideal) X = X :=
  have hz : (fun a => win0_0.index t0_0 a * main_arg0.ty.shape.size a) = fun _ => 0 := funext fun a => by fin_cases a <;> decide
  Memref.read_access_unit_zero (Elt Ideal) main_arg0 hz (fun a => by rw [congrFun hz a]; simp) X

theorem iblk0 (c : Dev nD) : iblk m c 0 t0_0 = V m c main_arg0 := read0 _

theorem read1 (X : main_arg1.ty.Contents (Elt Ideal)) : (win0_1.blk t0_0).view.read (Elt Ideal) X = X :=
  have hz : (fun a => win0_1.index t0_0 a * main_arg1.ty.shape.size a) = fun _ => 0 := funext fun a => by fin_cases a <;> decide
  Memref.read_access_unit_zero (Elt Ideal) main_arg1 hz (fun a => by rw [congrFun hz a]; simp) X

theorem iblk1 (c : Dev nD) : iblk m c 1 t0_0 = V m c main_arg1 := read1 _

theorem read2 (X : main_arg2.ty.Contents (Elt Ideal)) : (win0_2.blk t0_0).view.read (Elt Ideal) X = X :=
  have hz : (fun a => win0_2.index t0_0 a * main_arg2.ty.shape.size a) = fun _ => 0 := funext fun a => by fin_cases a <;> decide
  Memref.read_access_unit_zero (Elt Ideal) main_arg2 hz (fun a => by rw [congrFun hz a]; simp) X

theorem iblk2 (c : Dev nD) : iblk m c 2 t0_0 = V m c main_arg2 := read2 _

theorem read3 (X : main_arg3.ty.Contents (Elt Ideal)) : (win0_3.blk t0_0).view.read (Elt Ideal) X = X :=
  have hz : (fun a => win0_3.index t0_0 a * main_arg3.ty.shape.size a) = fun _ => 0 := funext fun a => by fin_cases a <;> decide
  Memref.read_access_unit_zero (Elt Ideal) main_arg3 hz (fun a => by rw [congrFun hz a]; simp) X

theorem iblk3 (c : Dev nD) : iblk m c 3 t0_0 = V m c main_arg3 := read3 _

theorem read4 (X : main_arg4.ty.Contents (Elt Ideal)) : (win0_4.blk t0_0).view.read (Elt Ideal) X = X :=
  have hz : (fun a => win0_4.index t0_0 a * main_arg4.ty.shape.size a) = fun _ => 0 := funext fun a => by fin_cases a <;> decide
  Memref.read_access_unit_zero (Elt Ideal) main_arg4 hz (fun a => by rw [congrFun hz a]; simp) X

theorem iblk4 (c : Dev nD) : iblk m c 4 t0_0 = V m c main_arg4 := read4 _

theorem read5 (X : main_arg5.ty.Contents (Elt Ideal)) : (win0_5.blk t0_0).view.read (Elt Ideal) X = X :=
  have hz : (fun a => win0_5.index t0_0 a * main_arg5.ty.shape.size a) = fun _ => 0 := funext fun a => by fin_cases a <;> decide
  Memref.read_access_unit_zero (Elt Ideal) main_arg5 hz (fun a => by rw [congrFun hz a]; simp) X

theorem iblk5 (c : Dev nD) : iblk m c 5 t0_0 = V m c main_arg5 := read5 _

theorem read6 (X : main_arg6.ty.Contents (Elt Ideal)) : (win0_6.blk t0_0).view.read (Elt Ideal) X = X :=
  have hz : (fun a => win0_6.index t0_0 a * main_arg6.ty.shape.size a) = fun _ => 0 := funext fun a => by fin_cases a <;> decide
  Memref.read_access_unit_zero (Elt Ideal) main_arg6 hz (fun a => by rw [congrFun hz a]; simp) X

theorem iblk6 (c : Dev nD) : iblk m c 6 t0_0 = V m c main_arg6 := read6 _

theorem read7 (X : main_v0.ty.Contents (Elt Ideal)) : (win0_7.blk t0_0).view.read (Elt Ideal) X = X :=
  have hz : (fun a => win0_7.index t0_0 a * main_v0.ty.shape.size a) = fun _ => 0 := funext fun a => by fin_cases a <;> decide
  Memref.read_access_unit_zero (Elt Ideal) main_v0 hz (fun a => by rw [congrFun hz a]; simp) X

theorem iblk7 (c : Dev nD) : iblk m c 7 t0_0 = V m c main_v0 := read7 _

theorem read8 (X : main_v1.ty.Contents (Elt Ideal)) : (win0_8.blk t0_0).view.read (Elt Ideal) X = X :=
  have hz : (fun a => win0_8.index t0_0 a * main_v1.ty.shape.size a) = fun _ => 0 := funext fun a => by fin_cases a <;> decide
  Memref.read_access_unit_zero (Elt Ideal) main_v1 hz (fun a => by rw [congrFun hz a]; simp) X

theorem iblk8 (c : Dev nD) : iblk m c 8 t0_0 = V m c main_v1 := read8 _

theorem read9 (X : main_v2.ty.Contents (Elt Ideal)) : (win0_9.blk t0_0).view.read (Elt Ideal) X = X :=
  have hz : (fun a => win0_9.index t0_0 a * main_v2.ty.shape.size a) = fun _ => 0 := funext fun a => by fin_cases a <;> decide
  Memref.read_access_unit_zero (Elt Ideal) main_v2 hz (fun a => by rw [congrFun hz a]; simp) X

theorem iblk9 (c : Dev nD) : iblk m c 9 t0_0 = V m c main_v2 := read9 _

theorem read10 (X : main_v3.ty.Contents (Elt Ideal)) : (win0_10.blk t0_0).view.read (Elt Ideal) X = X :=
  have hz : (fun a => win0_10.index t0_0 a * main_v3.ty.shape.size a) = fun _ => 0 := funext fun a => by fin_cases a <;> decide
  Memref.read_access_unit_zero (Elt Ideal) main_v3 hz (fun a => by rw [congrFun hz a]; simp) X

theorem iblk10 (c : Dev nD) : iblk m c 10 t0_0 = V m c main_v3 := read10 _

theorem read11 (X : main_v4_0.ty.Contents (Elt Ideal)) : (win0_11.blk t0_0).view.read (Elt Ideal) X = X :=
  have hz : (fun a => win0_11.index t0_0 a * main_v4_0.ty.shape.size a) = fun _ => 0 := funext fun a => by fin_cases a <;> decide
  Memref.read_access_unit_zero (Elt Ideal) main_v4_0 hz (fun a => by rw [congrFun hz a]; simp) X

theorem read12 (X : main_v4_1.ty.Contents (Elt Ideal)) : (win0_12.blk t0_0).view.read (Elt Ideal) X = X :=
  have hz : (fun a => win0_12.index t0_0 a * main_v4_1.ty.shape.size a) = fun _ => 0 := funext fun a => by fin_cases a <;> decide
  Memref.read_access_unit_zero (Elt Ideal) main_v4_1 hz (fun a => by rw [congrFun hz a]; simp) X

theorem final11 (c : Dev nD) : (dats m 0 c).arrAt 11 cfg0.N = modsOf m c :=
  (dats m 0 c).arrAt_eq_of_cover 11 (modsOf m c)
    (fun t _ => by
      obtain rfl := fin_N0 t
      rw [Value.flushed11]
      rw [iblk0, iblk1, iblk2, iblk3, iblk4, iblk5, iblk6, iblk7, iblk8, iblk9, iblk10]
      exact (read11 (modsOf m c)).symm)
    (fun i => ⟨t0_0, rfl, mem_blk11 t0_0 i⟩)

theorem final12 (c : Dev nD) : (dats m 0 c).arrAt 12 cfg0.N = normsOf m c :=
  (dats m 0 c).arrAt_eq_of_cover 12 (normsOf m c)
    (fun t _ => by
      obtain rfl := fin_N0 t
      rw [Value.flushed12]
      rw [iblk0, iblk1, iblk2, iblk3, iblk4, iblk5, iblk6, iblk7, iblk8, iblk9, iblk10]
      exact (read12 (normsOf m c)).symm)
    (fun i => ⟨t0_0, rfl, mem_blk12 t0_0 i⟩)

/-! ## The body's two results at an index -/

section Body

variable (x0 x1 x2 x3 x4 x5 x7 x8 x9 x10 : Vec Ideal S1x1024 .f32) (x6 : Vec Ideal S6x1024 .f32)

theorem mods_apply (r : Fin 6) (l : Fin 1024) :
    out0_11 (F := Ideal) x0 x1 x2 x3 x4 x5 x6 x7 x8 x9 x10 (ix2 r l)
      = ![x1 (ix2 0 l), x0 (ix2 0 l) * x7 (ix2 0 l), x2 (ix2 0 l) * x8 (ix2 0 l),
          x4 (ix2 0 l), x3 (ix2 0 l) * x9 (ix2 0 l), x5 (ix2 0 l) * x10 (ix2 0 l)] r := by
  unfold out0_11
  canon_tiles x h using cover0_11 ..
  all_goals
    obtain ⟨r, hr⟩ := r
    obtain ⟨k, q, rfl⟩ : ∃ (k : Fin 1) (q : Fin 1024), x = ix2 k q := ⟨x 0, x 1, eq_ix2 x⟩
    have hk : k = 0 := Subsingleton.elim _ _
    subst hk
    obtain rfl : l = q := Fin.ext h1
    have hr' := h0
    simp at hr'
    subst hr'
    pointwise [k0_pay5, k0_pay6, k0_pay7, k0_pay8]
    first | rfl | skip

theorem norms_apply (r : Fin 4) (l : Fin 1024) :
    out0_12 (F := Ideal) x0 x1 x2 x3 x4 x5 x6 x7 x8 x9 x10 (ix2 r l)
      = ![x0 (ix2 0 l) * (1 + x6 (ix2 1 l)), x2 (ix2 0 l) * x6 (ix2 2 l),
          x3 (ix2 0 l) * (1 + x6 (ix2 4 l)), x5 (ix2 0 l) * x6 (ix2 5 l)] r := by
  unfold out0_12
  canon_tiles x h using cover0_12 ..
  all_goals
    obtain ⟨r, hr⟩ := r
    obtain ⟨k, q, rfl⟩ : ∃ (k : Fin 1) (q : Fin 1024), x = ix2 k q := ⟨x 0, x 1, eq_ix2 x⟩
    have hk : k = 0 := Subsingleton.elim _ _
    subst hk
    obtain rfl : l = q := Fin.ext h1
    have hr' := h0
    simp at hr'
    subst hr'
    pointwise [k0_pay1, k0_pay2, k0_pay3, k0_pay4]
    first | rfl | skip

end Body

end Cert.ModGradsIdeal.Hand

namespace Cert.ModGradsRefIdeal.Hand

open Cert.ModGradsRefIdeal Cert.ModGradsRefIdeal.Gen Cert.ModGradsRefIdeal.Read

variable (x0 x1 x2 x3 x4 x5 : Vec Ideal S1x1024 .f32) (x7 x8 x9 x10 : Vec Ideal S1024 .f32) (x6 : Vec Ideal S6x1024 .f32)

theorem mods_apply (r : Fin 6) (l : Fin 1024) :
    val_main_v50 (F := Ideal) x0 x1 x2 x3 x4 x5 x7 x8 x9 x10 (ix2 r l)
      = ![x1 (ix2 0 l), x0 (ix2 0 l) * x7 (ix1 l), x2 (ix2 0 l) * x8 (ix1 l),
          x4 (ix2 0 l), x3 (ix2 0 l) * x9 (ix1 l), x5 (ix2 0 l) * x10 (ix1 l)] r := by
  fin_cases r <;> pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_cst, val_main_cst_0, val_main_cst_1, val_main_cst_2, val_main_cst_3, val_main_cst_4, val_main_cst_5, val_main_cst_6] <;> exact mul_comm _ _

theorem norms_apply (r : Fin 4) (l : Fin 1024) :
    val_main_v55 (F := Ideal) x0 x2 x3 x5 x6 (ix2 r l)
      = ![x0 (ix2 0 l) * (1 + x6 (ix2 1 l)), x2 (ix2 0 l) * x6 (ix2 2 l),
          x3 (ix2 0 l) * (1 + x6 (ix2 4 l)), x5 (ix2 0 l) * x6 (ix2 5 l)] r := by
  fin_cases r <;> pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_cst, val_main_cst_0, val_main_cst_1, val_main_cst_2, val_main_cst_3, val_main_cst_4, val_main_cst_5, val_main_cst_6] <;> exact mul_comm _ _

end Cert.ModGradsRefIdeal.Hand

namespace Cert.ModGradsIdeal.Hand

open Cert.ModGradsIdeal Cert.ModGradsIdeal.Gen

variable (m : (ℓ : Loc nD τ sig) → Buf (Elt Ideal) ℓ)

/-! ## The four gains, as the call finds them: rows -/

theorem gain7 (c : Dev nD) (l : Fin 1024) : (V m c main_v0 : Vec Ideal S1x1024 .f32) (ix2 0 l) = (m ((c : Thread nD τ).loc main_arg7) : Vec Ideal S1024 .f32) (ix1 l) := by
  entry_read; pointwise

theorem gain8 (c : Dev nD) (l : Fin 1024) : (V m c main_v1 : Vec Ideal S1x1024 .f32) (ix2 0 l) = (m ((c : Thread nD τ).loc main_arg8) : Vec Ideal S1024 .f32) (ix1 l) := by
  entry_read; pointwise

theorem gain9 (c : Dev nD) (l : Fin 1024) : (V m c main_v2 : Vec Ideal S1x1024 .f32) (ix2 0 l) = (m ((c : Thread nD τ).loc main_arg9) : Vec Ideal S1024 .f32) (ix1 l) := by
  entry_read; pointwise

theorem gain10 (c : Dev nD) (l : Fin 1024) : (V m c main_v3 : Vec Ideal S1x1024 .f32) (ix2 0 l) = (m ((c : Thread nD τ).loc main_arg10) : Vec Ideal S1024 .f32) (ix1 l) := by
  entry_read; pointwise

/-- The call's first result is the gradient by the six rows of the modulation. -/
theorem mods_eq (c : Dev nD) :
    modsOf m c = Cert.ModGradsRefIdeal.Read.val_main_v50 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg7)) (m ((c : Thread nD τ).loc main_arg8)) (m ((c : Thread nD τ).loc main_arg9)) (m ((c : Thread nD τ).loc main_arg10)) := by
  funext i
  obtain ⟨r, l, rfl⟩ : ∃ (r : Fin 6) (l : Fin 1024), i = ix2 r l := ⟨i 0, i 1, eq_ix2 i⟩
  refine (mods_apply ..).trans (Eq.trans ?_ (Cert.ModGradsRefIdeal.Hand.mods_apply ..).symm)
  rw [gain7, gain8, gain9, gain10, V_main_arg0, V_main_arg1, V_main_arg2, V_main_arg3, V_main_arg4, V_main_arg5]

/-- The call's second result is the gradient by the four norms' gains. -/
theorem norms_eq (c : Dev nD) :
    normsOf m c = Cert.ModGradsRefIdeal.Read.val_main_v55 (F := Ideal) (m ((c : Thread nD τ).loc main_arg0)) (m ((c : Thread nD τ).loc main_arg2))
      (m ((c : Thread nD τ).loc main_arg3)) (m ((c : Thread nD τ).loc main_arg5)) (m ((c : Thread nD τ).loc main_arg6)) := by
  funext i
  obtain ⟨r, l, rfl⟩ : ∃ (r : Fin 4) (l : Fin 1024), i = ix2 r l := ⟨i 0, i 1, eq_ix2 i⟩
  refine (norms_apply ..).trans (Eq.trans ?_ (Cert.ModGradsRefIdeal.Hand.norms_apply ..).symm)
  rw [V_main_arg0, V_main_arg2, V_main_arg3, V_main_arg5, V_main_arg6]

end Cert.ModGradsIdeal.Hand

namespace Cert.Proof.ModGrads

open Cert.ModGradsIdeal.Hand

/-- The reference runs and keeps its arguments. -/
theorem frame_ref : Cert.quiescent_ModGradsRefIdeal := fun m ρ _ =>
  (θ_run Cert.ModGradsRefIdeal.defs _ _).mono (fun r h => ⟨fun c => (h c).2.2, sem_eq_zero_of_no_sems rfl r.2⟩)
    (Cert.ModGradsRefIdeal.Value.run (F := Ideal) m ρ)

/-- The call's two results are the gradients of the modulated gains. -/
theorem algebraic : Cert.algebraic_ModGradsIdeal_ModGradsRefIdeal := by
  intro m ρ m' ρ' _ hagree
  refine ⟨fun c => modsOf m c, fun c => normsOf m c, ?_, ?_⟩
  · exact (θ_run Cert.ModGradsIdeal.defs _ _).mono
      (fun _ h c => ⟨(h c).1.trans (final11 m c), (h c).2.1.trans (final12 m c), (h c).2.2⟩)
      (Cert.ModGradsIdeal.Value.run_blocks m ρ)
  · refine (θ_run Cert.ModGradsRefIdeal.defs _ _).mono
      (fun _ h c => ⟨(h c).1.trans ?_, (h c).2.1.trans ?_, (h c).2.2⟩)
      (Cert.ModGradsRefIdeal.Value.run (F := Ideal) m' ρ')
    · obtain ⟨a0, a1, a2, a3, a4, a5, a6, a7, a8, a9, a10⟩ := hagree c
      refine (Cert.ModGradsRefIdeal.Read.val_main_v50_eq ..).trans ?_
      rw [a0, a1, a2, a3, a4, a5, a7, a8, a9, a10]
      exact (mods_eq m c).symm
    · obtain ⟨a0, a1, a2, a3, a4, a5, a6, a7, a8, a9, a10⟩ := hagree c
      refine (Cert.ModGradsRefIdeal.Read.val_main_v55_eq ..).trans ?_
      rw [a0, a2, a3, a5, a6]
      exact (norms_eq m c).symm

end Cert.Proof.ModGrads

end
-- ==== Proof.MixerMath.lean ====
module

public import Idealize.ShloMosaic.PureOps
public import Idealize.ShloMosaic.Lib.Pointwise
public import Idealize.ShloMosaic.Lib.Pipeline.ValueKit

/-!
The mixer's gradients in real numbers: the token mixing with its spatial gate, the multi-scale pool, and what each of
their arguments receives from a cotangent. Rows and columns are natural numbers, so that a tile's row `r` of tile `t`
is the row `512 t + r`. The kernel and the reference are both compared with these definitions.
-/

@[expose] public section

set_option maxRecDepth 16384

noncomputable section

namespace Cert.MixerMath

open Idealize.ShloMosaic

/-! ## The gelu -/

/-- `√(2/π)` as a 32-bit float holds it. -/
def K0 : ℝ := 6693141 / 8388608
/-- `0.044715` as a 32-bit float holds it. -/
def K1 : ℝ := 12003091 / 268435456

def th (x : ℝ) : ℝ := Real.tanh (K0 * (x + K1 * (x * x * x)))
def gelu (x : ℝ) : ℝ := x * (1 / 2 * (1 + th x))
def dgelu (x : ℝ) : ℝ := 1 / 2 * (1 + th x) + x * (1 / 2 * ((1 - th x * th x) * (K0 * (1 + 3 * K1 * (x * x)))))

/-! ## The layer norm of a row of 512 and its gradient -/

/-- The float nearest `1e-6`, the layer norm's epsilon. -/
def eps : ℝ := 8796093 / 8796093022208

def rowMean (f : ℕ → ℝ) : ℝ := (∑ j ∈ Finset.range 512, f j) / 512
def cen (f : ℕ → ℝ) (j : ℕ) : ℝ := f j - rowMean f
def var (f : ℕ → ℝ) : ℝ := rowMean fun j => cen f j * cen f j
def rstd (f : ℕ → ℝ) : ℝ := (Real.sqrt (var f + eps))⁻¹
def hat (f : ℕ → ℝ) (j : ℕ) : ℝ := cen f j * rstd f
/-- What a row receives from the cotangent `d` of its normalisation. -/
def dnorm (f d : ℕ → ℝ) (j : ℕ) : ℝ := rstd f * (d j - rowMean d - hat f j * rowMean fun i => d i * hat f i)

/-! ## The pool's windows -/

/-- Group `g`'s window. -/
def win (j : ℕ) : ℕ := 2 ^ (j / 128 + 1)
/-- The number of rows of the window that ends at row `s`. -/
def cnt (w s : ℕ) : ℝ := min ((s : ℝ) + 1) w
/-- The sum over the `w` rows ending at `s`. -/
def back (f : ℕ → ℝ) (w s : ℕ) : ℝ := ∑ k ∈ Finset.range w, if k ≤ s then f (s - k) else 0
/-- The sum over the `w` rows beginning at `s`. -/
def ahead (f : ℕ → ℝ) (w s : ℕ) : ℝ := ∑ k ∈ Finset.range w, if s + k < 4096 then f (s + k) else 0

/-! ## The mixer -/

/-- The real arguments: the activations and their cotangent, the spatial weights and biases of the four heads, the norm's
    gain and bias, the pool's weights and its scale. -/
structure Inp where
  Z : ℕ → ℕ → ℝ
  D : ℕ → ℕ → ℝ
  W : ℕ → ℕ → ℕ → ℝ
  B : ℕ → ℕ → ℝ
  Ga : ℕ → ℝ
  Be : ℕ → ℝ
  P : ℕ → ℕ → ℕ → ℝ
  Sc : ℕ → ℝ

namespace Inp

variable (I : Inp)

def u (s j : ℕ) : ℝ := gelu (I.Z s j)
def v (s j : ℕ) : ℝ := gelu (I.Z s (512 + j))
def vn (s j : ℕ) : ℝ := hat (I.v s) j * I.Ga j + I.Be j
/-- The causal spatial weights. -/
def Wc (h t s : ℕ) : ℝ := if s ≤ t then I.W h t s else 0
def mixed (s j : ℕ) : ℝ :=
  (∑ k ∈ Finset.range 128, I.Wc (j / 128) (s % 128) k * I.vn (s / 128 * 128 + k) j) + I.B (j / 128) (s % 128)
def dm (s j : ℕ) : ℝ := I.D s j * I.u s j
def dvn (s j : ℕ) : ℝ := ∑ k ∈ Finset.range 128, I.Wc (j / 128) k (s % 128) * I.dm (s / 128 * 128 + k) j
def dv (s : ℕ) : ℕ → ℝ := dnorm (I.v s) fun j => I.dvn s j * I.Ga j

def zb (s j : ℕ) : ℝ := I.Z s (1024 + j)
def diff (s j : ℕ) : ℝ := back (fun i => I.zb i j) (win j) s / cnt (win j) s - I.zb s j
def lin (s j : ℕ) : ℝ := ∑ c ∈ Finset.range 128, I.diff s (j / 128 * 128 + c) * I.P (j / 128) c (j % 128)
def dl (s j : ℕ) : ℝ := I.D s (512 + j) * I.Sc j
def dd (s j : ℕ) : ℝ := ∑ d ∈ Finset.range 128, I.dl s (j / 128 * 128 + d) * I.P (j / 128) (j % 128) d
def dzb (s j : ℕ) : ℝ := ahead (fun i => I.dd i j / cnt (win j) i) (win j) s - I.dd s j

/-! ### The gradients, each over the rows of one tile or of all -/

def dz (s j : ℕ) : ℝ :=
  if j < 512 then I.D s j * I.mixed s j * dgelu (I.Z s j)
  else if j < 1024 then I.dv s (j - 512) * dgelu (I.Z s j) else I.dzb s (j - 1024)
/-- The spatial weights' gradient over the chunks `lo ≤ n < lo + len`. -/
def dws (lo len h t s : ℕ) : ℝ :=
  if s ≤ t then ∑ n ∈ Finset.range len, ∑ d ∈ Finset.range 128,
    I.dm ((lo + n) * 128 + t) (h * 128 + d) * I.vn ((lo + n) * 128 + s) (h * 128 + d) else 0
def dbs (lo len h t : ℕ) : ℝ :=
  ∑ n ∈ Finset.range len, ∑ d ∈ Finset.range 128, I.dm ((lo + n) * 128 + t) (h * 128 + d)
def dgain (lo len j : ℕ) : ℝ := ∑ s ∈ Finset.range len, I.dvn (lo + s) j * hat (I.v (lo + s)) j
def dbias (lo len j : ℕ) : ℝ := ∑ s ∈ Finset.range len, I.dvn (lo + s) j
def dwp (lo len g c d : ℕ) : ℝ :=
  ∑ s ∈ Finset.range len, I.diff (lo + s) (g * 128 + c) * I.dl (lo + s) (g * 128 + d)
def dbp (lo len j : ℕ) : ℝ := ∑ s ∈ Finset.range len, I.dl (lo + s) j

end Inp

/-! ## Real algebra -/

theorem sum_cen (f : ℕ → ℝ) : ∑ j ∈ Finset.range 512, cen f j = 0 := by
  simp only [cen, Finset.sum_sub_distrib, Finset.sum_const, Finset.card_range, nsmul_eq_mul, rowMean]
  push_cast
  ring

theorem eps_pos : 0 < eps := by norm_num [eps]

theorem var_nonneg (f : ℕ → ℝ) : 0 ≤ var f :=
  div_nonneg (Finset.sum_nonneg fun _ _ => mul_self_nonneg _) (by norm_num)

theorem var_eps_pos (f : ℕ → ℝ) : 0 < var f + eps := add_pos_of_nonneg_of_pos (var_nonneg f) eps_pos

theorem rstd_sq (f : ℕ → ℝ) : rstd f * rstd f = (var f + eps)⁻¹ := by
  rw [rstd, ← mul_inv, Real.mul_self_sqrt (var_eps_pos f).le]

/-- The layer norm's gradient as differentiating its lines gives it: the normalised difference's part, the variance's part,
    and the mean's part with the opposite sign. -/
theorem dnorm_eq (f d : ℕ → ℝ) (j : ℕ) :
    (2 * cen f j * ((∑ i ∈ Finset.range 512, cen f i * d i) * (-(1 / 2) * (rstd f / (var f + eps))) / 512) + d j * rstd f)
      + (-(∑ i ∈ Finset.range 512, d i * rstd f)
        + -(∑ i ∈ Finset.range 512, 2 * cen f i * ((∑ i ∈ Finset.range 512, cen f i * d i) * (-(1 / 2) * (rstd f / (var f + eps))) / 512))) / 512
      = dnorm f d j := by
  have h2 : ∀ c : ℝ, ∑ i ∈ Finset.range 512, 2 * cen f i * c = 0 := fun c => by
    rw [← Finset.sum_mul, ← Finset.mul_sum, sum_cen, mul_zero, zero_mul]
  have h3 : ∑ i ∈ Finset.range 512, d i * (cen f i * rstd f) = (∑ i ∈ Finset.range 512, cen f i * d i) * rstd f := by
    rw [Finset.sum_mul]
    exact Finset.sum_congr rfl fun i _ => by ring
  rw [h2, ← Finset.sum_mul]
  simp only [dnorm, hat, rowMean, h3]
  rw [div_eq_mul_inv (rstd f), ← rstd_sq]
  ring

/-- A window's sum is the difference of two running sums. -/
theorem back_eq (f : ℕ → ℝ) (w s : ℕ) :
    (∑ i ∈ Finset.range (s + 1), f i) - ∑ i ∈ Finset.range (s + 1 - w), f i = back f w s := by
  induction w with
  | zero => simp [back]
  | succ w ih =>
    rw [show back f (w + 1) s = back f w s + _ from Finset.sum_range_succ _ _, ← ih]
    by_cases h : w ≤ s
    · rw [if_pos h, show s + 1 - (w + 1) = s - w by omega, show s + 1 - w = (s - w) + 1 by omega, Finset.sum_range_succ _ (s - w)]
      ring
    · rw [if_neg h, show s + 1 - (w + 1) = s + 1 - w by omega, add_zero]

/-- The same for the sums that run backwards from the last row. -/
theorem ahead_eq (f : ℕ → ℝ) (w s : ℕ) :
    (∑ i ∈ Finset.range (4096 - s), f (s + i)) - ∑ i ∈ Finset.range (4096 - s - w), f (s + w + i) = ahead f w s := by
  induction w with
  | zero => simp [ahead]
  | succ w ih =>
    rw [show ahead f (w + 1) s = ahead f w s + _ from Finset.sum_range_succ _ _, ← ih]
    by_cases h : s + w < 4096
    · rw [if_pos h, show 4096 - s - w = (4096 - s - (w + 1)) + 1 by omega, Finset.sum_range_succ']
      simp only [add_zero, show ∀ i, s + w + (i + 1) = s + (w + 1) + i from fun i => by omega]
      ring
    · rw [if_neg h, show 4096 - s - (w + 1) = 0 by omega, show 4096 - s - w = 0 by omega]
      simp

/-- A sum over `n` tiles of `m` rows is the sum over all their rows. -/
theorem sum_tiles {M : Type*} [AddCommMonoid M] (f : ℕ → M) (m n : ℕ) :
    ∑ t ∈ Finset.range n, ∑ r ∈ Finset.range m, f (t * m + r) = ∑ s ∈ Finset.range (n * m), f s := by
  induction n with
  | zero => simp
  | succ n ih => rw [Finset.sum_range_succ, ih, Nat.succ_mul, Finset.sum_range_add]

/-- Doubling: a window of `2 w` rows is two of `w`. -/
theorem sum_double (f : ℕ → ℝ) (w : ℕ) :
    (∑ k ∈ Finset.range w, f k) + ∑ k ∈ Finset.range w, f (w + k) = ∑ k ∈ Finset.range (2 * w), f k := by
  rw [two_mul, Finset.sum_range_add]

/-! ## Sums of reals among the extended reals -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem sum_fin {n : ℕ} (f : ℕ → ℝ) (g : Fin n → EReal) (h : ∀ k : Fin n, g k = ((f k.val : ℝ) : EReal)) :
    ∑ k : Fin n, g k = ((∑ k ∈ Finset.range n, f k : ℝ) : EReal) := by
  rw [Finset.sum_congr rfl fun k _ => h k, coe_sum, Finset.sum_range]

end Cert.MixerMath
-- ==== Proof.MixerOps.lean ====
module

public import Idealize.ShloMosaic.PureOps
public import Idealize.ShloMosaic.Lib.Pointwise
public import Idealize.ShloMosaic.Lib.Pointwise.IndexVar
public import Idealize.ShloMosaic.Lib.MatmulPlain
public import Idealize.ShloMosaic.Lib.Pipeline.Value
public import Idealize.ShloMosaic.Lib.Pipeline.ValueKit
public import proofs.«01_k».proof.Proof.MixerMath

/-!
The vector operations on arrays given by a function of natural-number indices. `tab f` is the matrix whose entry at row
`r` and column `c` is `f r c`; each lemma says what an operation makes of such matrices, so that rewriting with them
computes what a chain of operations holds.
-/

@[expose] public section

set_option maxRecDepth 16384

noncomputable section

namespace Cert.MixerOps

open Idealize.ShloMosaic Idealize.ShloMosaic.TcCoe Idealize.SL.Sem
open Idealize.ShloMosaic.Pipeline (Dat)

/-- The vector with entries `f r`. -/
def tab1 {m : ℕ} {α : Type} (f : ℕ → α) : (⟨1, ![m]⟩ : Shape).Idx → α := fun y => f (y 0).val
/-- The matrix with entries `f r c`. -/
def tab {m n : ℕ} {α : Type} (f : ℕ → ℕ → α) : (⟨2, ![m, n]⟩ : Shape).Idx → α := fun y => f (y 0).val (y 1).val
/-- The box with entries `f a r c`. -/
def tab3 {k m n : ℕ} {α : Type} (f : ℕ → ℕ → ℕ → α) : (⟨3, ![k, m, n]⟩ : Shape).Idx → α :=
  fun y => f (y 0).val (y 1).val (y 2).val

section
variable {k m n p q : ℕ} {α : Type}

theorem tab1_congr {f g : ℕ → α} (h : ∀ a < m, f a = g a) : tab1 (m := m) f = tab1 g := funext fun y => h _ (y 0).isLt
theorem tab_congr {f g : ℕ → ℕ → α} (h : ∀ a < m, ∀ b < n, f a b = g a b) : tab (m := m) (n := n) f = tab g :=
  funext fun y => h _ (y 0).isLt _ (y 1).isLt
theorem tab3_congr {f g : ℕ → ℕ → ℕ → α} (h : ∀ l < k, ∀ a < m, ∀ b < n, f l a b = g l a b) :
    tab3 (k := k) (m := m) (n := n) f = tab3 g :=
  funext fun y => h _ (y 0).isLt _ (y 1).isLt _ (y 2).isLt

/-! ### Elementwise -/

variable {φ ψ : FTy}

theorem mulf_tab (f g : ℕ → ℕ → EReal) :
    mulf (F := Ideal) (s := ⟨2, ![m, n]⟩) (φ := φ) (tab f) (tab g) = tab fun a b => f a b * g a b := rfl
theorem addf_tab (f g : ℕ → ℕ → EReal) :
    addf (F := Ideal) (s := ⟨2, ![m, n]⟩) (φ := φ) (tab f) (tab g) = tab fun a b => f a b + g a b := rfl
theorem subf_tab (f g : ℕ → ℕ → EReal) :
    subf (F := Ideal) (s := ⟨2, ![m, n]⟩) (φ := φ) (tab f) (tab g) = tab fun a b => f a b - g a b := rfl
theorem divf_tab (f g : ℕ → ℕ → EReal) :
    divf (F := Ideal) (s := ⟨2, ![m, n]⟩) (φ := φ) (tab f) (tab g) = tab fun a b => Ideal.div (f a b) (g a b) := rfl
theorem minimumf_tab (f g : ℕ → ℕ → EReal) :
    minimumf (F := Ideal) (s := ⟨2, ![m, n]⟩) (φ := φ) (tab f) (tab g) = tab fun a b => min (f a b) (g a b) := rfl
theorem truncf_tab (h) (f : ℕ → ℕ → EReal) :
    truncf (F := Ideal) (s := ⟨2, ![m, n]⟩) (φ := φ) ψ (tab f) h = tab f := rfl
theorem tanh_tab (f : ℕ → ℕ → EReal) :
    tanh (F := Ideal) (s := ⟨2, ![m, n]⟩) (φ := φ) (tab f) = tab fun a b => Ideal.tanh (f a b) := rfl
theorem rsqrt_tab (f : ℕ → ℕ → EReal) :
    rsqrt (F := Ideal) (s := ⟨2, ![m, n]⟩) (φ := φ) (tab f) = tab fun a b => Ideal.rsqrt (f a b) := rfl
theorem broadcast_tab (x : α) : broadcast (⟨2, ![m, n]⟩ : Shape) x = tab fun _ _ => x := rfl
theorem select_tab (c : ℕ → ℕ → BitVec 1) (f g : ℕ → ℕ → α) :
    select (s := ⟨2, ![m, n]⟩) (tab c) (tab f) (tab g) = tab fun a b => Scalar.select (c a b) (f a b) (g a b) := rfl

/-! ### Reindexing -/

theorem slice_tab (o r : ℕ) (f : ℕ → ℕ → α) (h) :
    extractStridedSlice (s := ⟨2, ![m, n]⟩) (⟨2, ![p, q]⟩ : Shape) ![o, r] (tab f) h = tab fun a b => f (o + a) (r + b) := rfl
theorem cast_tab (f : ℕ → ℕ → α) (h) : shapeCast (s := ⟨2, ![m, n]⟩) (⟨2, ![m, n]⟩ : Shape) (tab f) h = tab f :=
  shapeCast_self _ _
theorem cast_tab3 (f : ℕ → ℕ → ℕ → α) (h) :
    shapeCast (s := ⟨3, ![1, m, n]⟩) (⟨2, ![m, n]⟩ : Shape) (tab3 f) h = tab fun a b => f 0 a b := by
  funext y
  show tab3 f (Shape.reshapeEquiv h y) = _
  rw [Shape.reshapeEquiv_eq_of_rowMajor h (y := ValueIdx.ix3 0 (y 0) (y 1))]
  · rfl
  · rw [rowMajor_val3 _ (m * n) n rfl rfl, rowMajor_val2 _ n rfl]
    show 0 * (m * n) + (y 0).val * n + (y 1).val = (y 0).val * n + (y 1).val
    ring
theorem cast_to_tab3 (f : ℕ → ℕ → α) (h) :
    shapeCast (s := ⟨2, ![m, n]⟩) (⟨3, ![1, m, n]⟩ : Shape) (tab f) h = tab3 fun _ a b => f a b := by
  funext y
  show tab f (Shape.reshapeEquiv h y) = _
  rw [Shape.reshapeEquiv_eq_of_rowMajor h (y := ValueIdx.ix2 (y 1) (y 2))]
  · rfl
  · rw [rowMajor_val3 _ (m * n) n rfl rfl, rowMajor_val2 _ n rfl]
    have : (y 0).val = 0 := Nat.lt_one_iff.mp (y 0).isLt
    show (y 1).val * n + (y 2).val = (y 0).val * (m * n) + (y 1).val * n + (y 2).val
    rw [this]; ring
theorem cast_col (f : ℕ → α) (h) : shapeCast (s := ⟨1, ![m]⟩) (⟨2, ![m, 1]⟩ : Shape) (tab1 f) h = tab fun a _ => f a := by
  funext y
  show tab1 f (Shape.reshapeEquiv h y) = _
  rw [Shape.reshapeEquiv_eq_of_rowMajor h (y := ValueIdx.ix1 (y 0))]
  · rfl
  · rw [rowMajor_val1, rowMajor_val2 _ 1 rfl]
    have : (y 1).val = 0 := Nat.lt_one_iff.mp (y 1).isLt
    show (y 0).val = (y 0).val * 1 + (y 1).val
    omega
theorem cast_row (f : ℕ → α) (h) : shapeCast (s := ⟨1, ![n]⟩) (⟨2, ![1, n]⟩ : Shape) (tab1 f) h = tab fun _ b => f b := by
  funext y
  show tab1 f (Shape.reshapeEquiv h y) = _
  rw [Shape.reshapeEquiv_eq_of_rowMajor h (y := ValueIdx.ix1 (y 1))]
  · rfl
  · rw [rowMajor_val1, rowMajor_val2 _ n rfl]
    have : (y 0).val = 0 := Nat.lt_one_iff.mp (y 0).isLt
    show (y 1).val = (y 0).val * n + (y 1).val
    rw [this]; ring
theorem broadcastTo_col (f : ℕ → ℕ → α) (h) :
    broadcastTo (s := ⟨2, ![m, 1]⟩) (⟨2, ![m, n]⟩ : Shape) (tab f) h = tab fun a _ => f a 0 := by
  funext y
  have h0 : (y 0).val < m := (y 0).isLt
  simp only [broadcastTo, tab]
  congr 1
  by_cases h1 : m = 1
  · subst h1; simp
  · simp [h1]
theorem broadcastTo_row (f : ℕ → ℕ → α) (h) :
    broadcastTo (s := ⟨2, ![1, n]⟩) (⟨2, ![m, n]⟩ : Shape) (tab f) h = tab fun _ b => f 0 b := by
  funext y
  have h0 : (y 1).val < n := (y 1).isLt
  simp only [broadcastTo, tab]
  congr 1
  by_cases h1 : n = 1
  · subst h1; simp
  · simp [h1]
theorem rotate_tab (s : BitVec 32) (f : ℕ → ℕ → α) (h) :
    dynamicRotate (s := ⟨2, ![m, n]⟩) 0 s none (tab f) h = tab fun a b => f ((a + m - s.toNat % m) % m) b := rfl
theorem concat_rows (f g : ℕ → ℕ → α) (h) :
    concatenate (⟨2, ![p, n]⟩ : Shape) 0 [⟨⟨2, ![m, n]⟩, tab f⟩, ⟨⟨2, ![k, n]⟩, tab g⟩] h
      = tab fun a b => if a < m then f a b else g (a - m) b := by
  funext y
  rw [concatenate_pair_apply]
  by_cases hy : (y 0).val < m
  · simp [tab, hy, Shape.Idx.norm]
  · simp [tab, hy, Shape.Idx.norm]

theorem concat_cols (f₀ f₁ f₂ f₃ : ℕ → ℕ → α) (h) :
    concatenate (⟨2, ![m, k + k + k + k]⟩ : Shape) 1
      [⟨⟨2, ![m, k]⟩, tab f₀⟩, ⟨⟨2, ![m, k]⟩, tab f₁⟩, ⟨⟨2, ![m, k]⟩, tab f₂⟩, ⟨⟨2, ![m, k]⟩, tab f₃⟩] h
      = tab fun a b => if b < k then f₀ a b else if b - k < k then f₁ a (b - k)
          else if b - k - k < k then f₂ a (b - k - k) else f₃ a (b - k - k - k) := by
  funext y
  rw [concatenate_cons_apply]
  simp only [concatenateAt_cons, concatenateAt_singleton]
  simp [tab, Shape.Idx.norm]

/-! ### Whole numbers -/

theorem iota_rows (h) : iota .tc (⟨2, ![m, n]⟩ : Shape) 32 [0] h = tab fun a _ => BitVec.ofNat 32 a := by
  funext y; simp [iota, tab]
theorem iota_cols (h) : iota .tc (⟨2, ![m, n]⟩ : Shape) 32 [1] h = tab fun _ b => BitVec.ofNat 32 b := by
  funext y; simp [iota, tab]
theorem addi_tab (f g : ℕ → ℕ → BitVec 32) :
    addi (s := ⟨2, ![m, n]⟩) (tab f) (tab g) = tab fun a b => f a b + g a b := rfl
theorem cmpi_tab (f g : ℕ → ℕ → BitVec 32) (P) :
    cmpi (s := ⟨2, ![m, n]⟩) P (tab f) (tab g) = tab fun a b => IntOp.cmpi P (f a b) (g a b) := rfl
theorem extui_tab (f : ℕ → ℕ → BitVec 1) (h) :
    extui (s := ⟨2, ![m, n]⟩) 32 (tab f) h = tab fun a b => (f a b).setWidth 32 := rfl
theorem sitofp_tab (f : ℕ → ℕ → BitVec 32) :
    sitofp (F := Ideal) (s := ⟨2, ![m, n]⟩) φ (tab f) = tab fun a b => (((f a b).toInt : ℝ) : EReal) := rfl
theorem cmpf_tab (f g : ℕ → ℕ → EReal) (P) :
    cmpf (F := Ideal) (s := ⟨2, ![m, n]⟩) (φ := φ) P (tab f) (tab g)
      = tab fun a b => FloatOps.cmpf (F := Ideal) (φ := φ) P (f a b) (g a b) := rfl

/-! ### Sums and products -/

theorem rows_tab (f : ℕ → ℕ → EReal) (acc h hφ hacc) :
    multiReduction (F := Ideal) (s := ⟨2, ![m, n]⟩) (φ := .f32) .add [1] (⟨1, ![m]⟩ : Shape) (tab f) acc h hφ hacc
      = tab1 fun a => ∑ b ∈ Finset.range n, f a b := by
  funext y
  rw [multiReduction_add_apply, Ideal.reduceAdd_def, Ideal.reduceAdd_r2_a1]
  exact Fin.sum_univ_eq_sum_range (fun b => f (y 0).val b) n
theorem cols_tab (f : ℕ → ℕ → EReal) (acc h hφ hacc) :
    multiReduction (F := Ideal) (s := ⟨2, ![m, n]⟩) (φ := .f32) .add [0] (⟨1, ![n]⟩ : Shape) (tab f) acc h hφ hacc
      = tab1 fun b => ∑ a ∈ Finset.range m, f a b := by
  funext y
  rw [multiReduction_add_apply, Ideal.reduceAdd_def, Ideal.reduceAdd_r2_a0]
  exact Fin.sum_univ_eq_sum_range (fun a => f a (y 0).val) m
theorem zero_tab : constant (F := Ideal) (⟨2, ![m, n]⟩ : Shape) .f32 0#32 = tab fun _ _ => 0 := by
  funext y; exact Ideal.ofBits_zero_f32
theorem matmul_plain (d : DotDims ⟨2, ![m, k]⟩ ⟨2, ![k, n]⟩ ⟨2, ![m, n]⟩) (hd : d = DotDims.plain m k n) (pr)
    (f g : ℕ → ℕ → EReal) :
    matmul (F := Ideal) (φ₁ := φ) (φ₂ := ψ) d pr (tab f) (tab g) (tab fun _ _ => 0)
      = tab fun a b => ∑ i ∈ Finset.range k, f a i * g i b := by
  subst hd
  funext y
  rw [ValueIdx.eq_ix2 y]
  refine (Ideal.matmul_plain_apply ..).trans ?_
  exact (zero_add _).trans (Fin.sum_univ_eq_sum_range (fun i => f (y 0).val i * g i (y 1).val) k)
theorem matmul_right (d : DotDims ⟨2, ![m, k]⟩ ⟨2, ![n, k]⟩ ⟨2, ![m, n]⟩) (hd : d = DotDims.transposedRhs m k n) (pr)
    (f g : ℕ → ℕ → EReal) :
    matmul (F := Ideal) (φ₁ := φ) (φ₂ := ψ) d pr (tab f) (tab g) (tab fun _ _ => 0)
      = tab fun a b => ∑ i ∈ Finset.range k, f a i * g b i := by
  subst hd
  funext y
  rw [ValueIdx.eq_ix2 y]
  refine (Ideal.matmul_transposedRhs_apply ..).trans ?_
  exact (zero_add _).trans (Fin.sum_univ_eq_sum_range (fun i => f (y 0).val i * g (y 1).val i) k)

theorem matmul_left (hk : k = 128 ∨ k = 512) (d : DotDims ⟨2, ![k, 128]⟩ ⟨2, ![k, 128]⟩ ⟨2, ![128, 128]⟩) (hd : d.lhsContracting = [0])
    (hr : d.rhsContracting = [0]) (hl : d.lhsNonContracting = [1]) (hn : d.rhsNonContracting = [1]) (hb : d.lhsBatch = [])
    (hB : d.rhsBatch = []) (pr) (f g : ℕ → ℕ → EReal) :
    matmul (F := Ideal) (φ₁ := φ) (φ₂ := ψ) d pr (tab f) (tab g) (tab fun _ _ => 0)
      = tab fun a b => ∑ i ∈ Finset.range k, f i a * g i b := by
  obtain ⟨_, _, _, _, _, _, _⟩ := d
  subst hd hr hl hn hb hB
  funext y
  rcases hk with rfl | rfl <;> pointwise
  all_goals exact (zero_add _).trans (Fin.sum_univ_eq_sum_range (fun i => f i (y 0).val * g i (y 1).val) _)

end

end Cert.MixerOps
-- ==== Proof.MixerTile.lean ====
module

public import proofs.«01_k».proof.Proof.Gen.MixerIdeal.Value
public import proofs.«01_k».proof.Proof.MixerOps

@[expose] public section

set_option maxRecDepth 16384

noncomputable section

namespace Cert.MixerIdeal.Hand

open Idealize.ShloMosaic Idealize.ShloMosaic.TcCoe Idealize.SL.Sem
open Idealize.ShloMosaic.Pipeline (Dat)
open Cert.MixerIdeal Cert.MixerIdeal.Gen Cert.MixerOps Cert.MixerMath

theorem c_k0 : Scalar.ofBits (F := Ideal) .f32 0x3F4C422A#32 = ((K0 : ℝ) : EReal) := by
  show Ideal.ofBits .f32 0x3F4C422A#32 = _
  simp [Ideal.ofBits, Ideal.ieee, -EReal.coe_mul, K0]; norm_num
theorem c_half : Scalar.ofBits (F := Ideal) .f32 0x3F000000#32 = ((1 / 2 : ℝ) : EReal) := by
  show Ideal.ofBits .f32 0x3F000000#32 = _
  simp [Ideal.ofBits, Ideal.ieee, -EReal.coe_mul]; norm_num
theorem c_one : Scalar.ofBits (F := Ideal) .f32 0x3F800000#32 = ((1 : ℝ) : EReal) := by
  show Ideal.ofBits .f32 0x3F800000#32 = _
  simp [Ideal.ofBits, Ideal.ieee, -EReal.coe_mul]; norm_num
theorem c_eps : Scalar.ofBits (F := Ideal) .f32 0x358637BD#32 = ((eps : ℝ) : EReal) := by
  show Ideal.ofBits .f32 0x358637BD#32 = _
  simp [Ideal.ofBits, Ideal.ieee, -EReal.coe_mul, eps]; norm_num
theorem c_512 : Scalar.ofBits (F := Ideal) .f32 0x44000000#32 = ((512 : ℝ) : EReal) := by
  show Ideal.ofBits .f32 0x44000000#32 = _
  simp [Ideal.ofBits, Ideal.ieee, -EReal.coe_mul]; norm_num
theorem c_k0k1 : Named.named (F := Ideal) κ "k0k1" (φ := .f32) 0x3D122279#32 = ((K0 * K1 : ℝ) : EReal) := by
  rw [show ((K0 * K1 : ℝ) : EReal) = _ from congrArg _ (show K0 * K1 = ((80338380498831 / 2251799813685248 : ℝ)) by norm_num [K0, K1])]
  exact (IdealRules.named_const.ideal_named_scalar _ _ _ _ rfl).trans (by norm_num)

/-! ### Loads of part of a block -/

section
variable {k l m n p q : ℕ}
theorem load_tab (c : Dev nD) (M : Memref sig .tc .vmem ⟨2, ![m, n]⟩ .f32) (hM : M.IsWhole) (o r : ℕ) (inb)
    (f : ℕ → ℕ → EReal) :
    View.readAt (κ := Proc.kind (Dev.tc (τ := τ) c).2) (Elt Ideal) (Memref.view (κ := Proc.kind (Dev.tc (τ := τ) c).2) M)
        (Rect.unit (s := ⟨2, ![m, n]⟩) ![o, r] ![p, q] inb).toLoadRect (hM.unread (tab f))
      = tab fun a b => f (o + a) (r + b) := by
  refine Eq.trans (View.readAt_eq_ld ..) ?_
  refine Eq.trans (congrArg (View.ld · _) (hM.read_unread _)) ?_
  funext y
  show f (o + 1 * (y 0).val) (r + 1 * (y 1).val) = f (o + (y 0).val) (r + (y 1).val)
  rw [Nat.one_mul, Nat.one_mul]
theorem load_tab3 (c : Dev nD) (M : Memref sig .tc .vmem ⟨3, ![l, m, n]⟩ .f32) (hM : M.IsWhole) (s o r : ℕ) (inb)
    (f : ℕ → ℕ → ℕ → EReal) :
    View.readAt (κ := Proc.kind (Dev.tc (τ := τ) c).2) (Elt Ideal) (Memref.view (κ := Proc.kind (Dev.tc (τ := τ) c).2) M)
        (Rect.unit (s := ⟨3, ![l, m, n]⟩) ![s, o, r] ![k, p, q] inb).toLoadRect (hM.unread (tab3 f))
      = tab3 fun a b c => f (s + a) (o + b) (r + c) := by
  refine Eq.trans (View.readAt_eq_ld ..) ?_
  refine Eq.trans (congrArg (View.ld · _) (hM.read_unread _)) ?_
  funext y
  show f (s + 1 * (y 0).val) (o + 1 * (y 1).val) (r + 1 * (y 2).val) = f (s + (y 0).val) (o + (y 1).val) (r + (y 2).val)
  rw [Nat.one_mul, Nat.one_mul, Nat.one_mul]

end

theorem rows_512 (f : ℕ → ℕ → EReal) (h hφ) (hacc : 0x00000000#32 = 0x00000000#32) :
    multiReduction (F := Ideal) (s := S512x512) (φ := .f32) .add (no_index [1]) S512 (tab f) (no_index 0x00000000#32) h hφ hacc
      = tab1 fun a => ∑ b ∈ Finset.range 512, f a b := rows_tab ..
theorem rows_128 (f : ℕ → ℕ → EReal) (h hφ) (hacc : 0x00000000#32 = 0x00000000#32) :
    multiReduction (F := Ideal) (s := S128x128) (φ := .f32) .add (no_index [1]) S128 (tab f) (no_index 0x00000000#32) h hφ hacc
      = tab1 fun a => ∑ b ∈ Finset.range 128, f a b := rows_tab ..
theorem cols_512 (f : ℕ → ℕ → EReal) (h hφ) (hacc : 0x00000000#32 = 0x00000000#32) :
    multiReduction (F := Ideal) (s := S512x512) (φ := .f32) .add (no_index [0]) S512 (tab f) (no_index 0x00000000#32) h hφ hacc
      = tab1 fun b => ∑ a ∈ Finset.range 512, f a b := cols_tab ..

theorem div_real {x y : ℝ} (h : y ≠ 0) : Ideal.div (x : EReal) (y : EReal) = ((x / y : ℝ) : EReal) := by
  rw [Ideal.div_coe h, ← EReal.coe_mul, mul_one_div]
theorem rsqrt_pos {x : ℝ} (h : 0 < x) : Ideal.rsqrt (x : EReal) = (((Real.sqrt x)⁻¹ : ℝ) : EReal) := by
  rw [Ideal.rsqrt_coe, if_neg h.le.not_gt, if_neg h.ne']
theorem div_512 (x : ℝ) : Ideal.div (x : EReal) ((512 : ℝ) : EReal) = ((x / 512 : ℝ) : EReal) := div_real (by norm_num)
theorem c_zero : Scalar.ofBits (F := Ideal) .f32 0x00000000#32 = ((0 : ℝ) : EReal) := Ideal.ofBits_zero_f32
theorem c_3k0k1 : Named.named (F := Ideal) κ "three_k0k1" (φ := .f32) 0x3DDB33B6#32 = ((3 * K0 * K1 : ℝ) : EReal) := by
  rw [show ((3 * K0 * K1 : ℝ) : EReal) = _ from congrArg _ (show 3 * K0 * K1 = ((241015141496493 / 2251799813685248 : ℝ)) by norm_num [K0, K1])]
  exact (IdealRules.named_const.ideal_named_scalar _ _ _ _ rfl).trans (by norm_num)

/- A tile's arguments in real numbers: the whole arrays, the tile's number, the rows of the activations before and after it, the
    rows of the cotangent after it; and the pool's bias, which may be any extended real. -/
variable (I : Inp) (t : ℕ) (Zp Zn Dn : ℕ → ℕ → ℝ) (bp : ℕ → EReal) (c : Dev nD)

def X0 : Vec Ideal S512x1536 .f32 := tab fun r j => ((I.Z (512 * t + r) j : ℝ) : EReal)
def X1 : Vec Ideal S16x512 .f32 := tab fun r j => ((Zp r j : ℝ) : EReal)
def X2 : Vec Ideal S16x512 .f32 := tab fun r j => ((Zn r j : ℝ) : EReal)
def X3 : Vec Ideal S512x1024 .f32 := tab fun r j => ((I.D (512 * t + r) j : ℝ) : EReal)
def X4 : Vec Ideal S16x512 .f32 := tab fun r j => ((Dn r j : ℝ) : EReal)
def X5 : Vec Ideal S4x128x128 .f32 := tab3 fun h a b => ((I.W h a b : ℝ) : EReal)
def X6 : Vec Ideal S128x512 .f32 := tab fun r j => ((I.B (j / 128) r : ℝ) : EReal)
def X7 : Vec Ideal S1x512 .f32 := tab fun _ j => ((I.Ga j : ℝ) : EReal)
def X8 : Vec Ideal S1x512 .f32 := tab fun _ j => ((I.Be j : ℝ) : EReal)
def X9 : Vec Ideal S4x128x128 .f32 := tab3 fun g a b => ((I.P g a b : ℝ) : EReal)
def X10 : Vec Ideal S1x512 .f32 := tab fun _ j => bp j
def X11 : Vec Ideal S1x512 .f32 := tab fun _ j => ((I.Sc j : ℝ) : EReal)

/- What the accumulated results hold before a tile is added. -/
variable (qws qwp : ℕ → ℕ → ℕ → ℝ) (qbs : ℕ → ℕ → ℝ) (qga qbi qbp : ℕ → ℝ) (qps : ℕ → EReal)

def Q13 : Vec Ideal S4x128x128 .f32 := tab3 fun h a b => ((qws h a b : ℝ) : EReal)
def Q14 : Vec Ideal S4x128x1 .f32 := tab3 fun h a _ => ((qbs h a : ℝ) : EReal)
def Q15 : Vec Ideal S1x512 .f32 := tab fun _ j => ((qga j : ℝ) : EReal)
def Q19 : Vec Ideal S1x512 .f32 := tab fun _ j => qps j

/-! ### The printed products, counters and concatenations -/

theorem mm_plain (f g : ℕ → ℕ → EReal) :
    matmul (F := Ideal) (φ₁ := .bf16) (φ₂ := .bf16) dot_S128x128_S128x128_S128x128_1_0_0_1_n_n none (tab f) (tab g) (tab fun _ _ => 0)
      = tab fun a b => ∑ i ∈ Finset.range 128, f a i * g i b := matmul_plain _ rfl none f g
theorem mm_right (f g : ℕ → ℕ → EReal) :
    matmul (F := Ideal) (φ₁ := .bf16) (φ₂ := .bf16) dot_S128x128_S128x128_S128x128_1_1_0_0_n_n none (tab f) (tab g) (tab fun _ _ => 0)
      = tab fun a b => ∑ i ∈ Finset.range 128, f a i * g b i := matmul_right _ rfl none f g
theorem mm_left (f g : ℕ → ℕ → EReal) :
    matmul (F := Ideal) (φ₁ := .bf16) (φ₂ := .bf16) dot_S128x128_S128x128_S128x128_0_0_1_1_n_n none (tab f) (tab g) (tab fun _ _ => 0)
      = tab fun a b => ∑ i ∈ Finset.range 128, f i a * g i b := matmul_left (.inl rfl) _ rfl rfl rfl rfl rfl rfl none f g
theorem mm_plain_512 (f g : ℕ → ℕ → EReal) :
    matmul (F := Ideal) (φ₁ := .bf16) (φ₂ := .bf16) dot_S512x128_S128x128_S512x128_1_0_0_1_n_n none (tab f) (tab g) (tab fun _ _ => 0)
      = tab fun a b => ∑ i ∈ Finset.range 128, f a i * g i b := matmul_plain _ rfl none f g
theorem mm_left_512 (f g : ℕ → ℕ → EReal) :
    matmul (F := Ideal) (φ₁ := .bf16) (φ₂ := .bf16) dot_S512x128_S512x128_S128x128_0_0_1_1_n_n none (tab f) (tab g) (tab fun _ _ => 0)
      = tab fun a b => ∑ i ∈ Finset.range 512, f i a * g i b := matmul_left (.inr rfl) _ rfl rfl rfl rfl rfl rfl none f g
theorem mm_right_528 (f g : ℕ → ℕ → EReal) :
    matmul (F := Ideal) (φ₁ := .bf16) (φ₂ := .bf16) dot_S528x128_S128x128_S528x128_1_1_0_0_n_n none (tab f) (tab g) (tab fun _ _ => 0)
      = tab fun a b => ∑ i ∈ Finset.range 128, f a i * g b i := matmul_right _ rfl none f g
theorem iota_0 (h) : iota .tc S128x128 32 (no_index [0]) h = tab fun a _ => BitVec.ofNat 32 a := iota_rows h
theorem iota_1 (h) : iota .tc S128x128 32 (no_index [1]) h = tab fun _ b => BitVec.ofNat 32 b := iota_cols h
theorem iota_528 (h) : iota .tc S528x1 32 (no_index [0]) h = tab fun a _ => BitVec.ofNat 32 a := iota_rows h

variable (i : grid0.Coords)
variable (arg1 : Memref sig .tc .vmem S512x1536 .f32) (harg1 : arg1.IsWhole) (arg2 : Memref sig .tc .vmem S16x512 .f32) (harg2 : arg2.IsWhole) (arg3 : Memref sig .tc .vmem S16x512 .f32) (harg3 : arg3.IsWhole) (arg4 : Memref sig .tc .vmem S512x1024 .f32) (harg4 : arg4.IsWhole) (arg5 : Memref sig .tc .vmem S16x512 .f32) (harg5 : arg5.IsWhole) (arg6 : Memref sig .tc .vmem S4x128x128 .f32) (harg6 : arg6.IsWhole) (arg7 : Memref sig .tc .vmem S128x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S4x128x128 .f32) (harg10 : arg10.IsWhole) (arg11 : Memref sig .tc .vmem S1x512 .f32) (harg11 : arg11.IsWhole) (arg12 : Memref sig .tc .vmem S1x512 .f32) (harg12 : arg12.IsWhole) (arg14 : Memref sig .tc .vmem S512x1536 .bf16) (harg14 : arg14.IsWhole) (arg15 : Memref sig .tc .vmem S4x128x128 .f32) (harg15 : arg15.IsWhole) (arg16 : Memref sig .tc .vmem S4x128x1 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S4x128x128 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S512x512 .f32) (harg22 : arg22.IsWhole) (arg23 : Memref sig .tc .vmem S512x512 .f32) (harg23 : arg23.IsWhole)

/-! ### The gelu and the norm -/

theorem w_r_5 : kernelRun0_B.sl.r_5 (F := Ideal) c arg1 harg1 (X0 I t) = tab fun r j => ((I.Z (512 * t + r) j : ℝ) : EReal) := by
  simp only [kernelRun0_B.sl.r_5, X0, load_tab c arg1 harg1, Nat.zero_add]
theorem w_r_7 : kernelRun0_B.sl.r_7 (F := Ideal) c arg1 harg1 (X0 I t) = tab fun r j => ((I.Z (512 * t + r) j * I.Z (512 * t + r) j : ℝ) : EReal) := by
  simp only [kernelRun0_B.sl.r_7, X0, load_tab c arg1 harg1, Nat.zero_add, k0_pay17, mulf_tab, ← EReal.coe_mul]
theorem w_r_8 : kernelRun0_B.sl.r_8 (F := Ideal) c arg1 harg1 (X0 I t) = tab fun r j => ((th (I.Z (512 * t + r) j) : ℝ) : EReal) := by
  simp only [kernelRun0_B.sl.r_8, X0, load_tab c arg1 harg1, Nat.zero_add, k0_pay18, k0_pay17, broadcast_tab, mulf_tab, addf_tab, tanh_tab,
    c_k0, c_k0k1, ← EReal.coe_mul, ← EReal.coe_add, Ideal.tanh_coe]
  refine tab_congr fun a _ b _ => congrArg _ (congrArg Real.tanh ?_)
  ring
theorem w_r_9 : kernelRun0_B.sl.r_9 (F := Ideal) c arg1 harg1 (X0 I t) = tab fun r j => ((dgelu (I.Z (512 * t + r) j) : ℝ) : EReal) := by
  simp only [kernelRun0_B.sl.r_9, w_r_5, w_r_7, w_r_8,  k0_pay21, k0_pay19, broadcast_tab, mulf_tab,
    addf_tab, subf_tab, c_half, c_one, c_k0, c_3k0k1, ← EReal.coe_mul, ← EReal.coe_add, ← EReal.coe_sub]
  refine tab_congr fun a _ b _ => congrArg _ ?_
  rw [dgelu]; ring
theorem w_pay20 : k0_pay20 (kernelRun0_B.sl.r_5 (F := Ideal) c arg1 harg1 (X0 I t)) (kernelRun0_B.sl.r_8 (F := Ideal) c arg1 harg1 (X0 I t)) = tab fun r j => ((gelu (I.Z (512 * t + r) j) : ℝ) : EReal) := by
  simp only [w_r_5, w_r_8, k0_pay20, k0_pay19, broadcast_tab, mulf_tab, addf_tab, c_half, ← EReal.coe_mul, ← EReal.coe_add]
  refine tab_congr fun a _ b _ => congrArg _ ?_
  rw [gelu]; ring
theorem w_r_10 : kernelRun0_B.sl.r_10 (F := Ideal) c arg1 harg1 (X0 I t) = tab fun r j => ((I.u (512 * t + r) j : ℝ) : EReal) := by
  simp only [kernelRun0_B.sl.r_10, k0_pay22, w_pay20, slice_tab, Nat.zero_add]; rfl
theorem w_pay23 : k0_pay23 (kernelRun0_B.sl.r_5 (F := Ideal) c arg1 harg1 (X0 I t)) (kernelRun0_B.sl.r_8 (F := Ideal) c arg1 harg1 (X0 I t)) = tab fun r j => ((cen (I.v (512 * t + r)) j : ℝ) : EReal) := by
  simp only [k0_pay23, w_pay20, slice_tab, rows_512, cast_col, broadcast_tab, divf_tab, c_512, coe_sum, div_512, broadcastTo_col,
    subf_tab, ← EReal.coe_sub, Nat.zero_add]; rfl
theorem w_r_11 : kernelRun0_B.sl.r_11 (F := Ideal) c arg1 harg1 (X0 I t) = tab fun r _ => ((rstd (I.v (512 * t + r)) : ℝ) : EReal) := by
  simp only [kernelRun0_B.sl.r_11, k0_pay24, w_pay23, mulf_tab, rows_512, cast_col, broadcast_tab, divf_tab, c_512, c_eps, coe_sum, div_512, addf_tab,
    rsqrt_tab, ← EReal.coe_mul, ← EReal.coe_add]
  exact tab_congr fun a _ b _ => rsqrt_pos (var_eps_pos (I.v (512 * t + a)))
theorem w_r_12 : kernelRun0_B.sl.r_12 (F := Ideal) c arg1 harg1 (X0 I t) = tab fun r j => ((hat (I.v (512 * t + r)) j : ℝ) : EReal) := by
  have h := w_r_11 I t c arg1 harg1
  simp only [kernelRun0_B.sl.r_11] at h
  simp only [kernelRun0_B.sl.r_12, k0_pay25, w_pay23, h, broadcastTo_col, mulf_tab, ← EReal.coe_mul]; rfl
theorem w_r_13 : kernelRun0_B.sl.r_13 (F := Ideal) c arg1 harg1 arg8 harg8 arg9 harg9 (X0 I t) (X7 I) (X8 I) = tab fun r j => ((I.vn (512 * t + r) j : ℝ) : EReal) := by
  have h := w_r_12 I t c arg1 harg1
  simp only [kernelRun0_B.sl.r_12] at h
  simp only [kernelRun0_B.sl.r_13, kernelRun0_B.sl.r_4, kernelRun0_B.sl.r_6, k0_pay26, k0_pay15, k0_pay16, X7, X8, h, load_tab c arg8 harg8, load_tab c arg9 harg9, cast_tab, broadcastTo_row,
    mulf_tab, addf_tab, truncf_tab, ← EReal.coe_mul, ← EReal.coe_add, Nat.zero_add]; rfl

/-! ### The mixed chunks -/

theorem mask_val {a b : ℕ} (ha : a < 128) (hb : b < 128) :
    ((((IntOp.cmpi .sle (BitVec.ofNat 32 b) (BitVec.ofNat 32 a)).setWidth 32).toInt : ℝ)) = if b ≤ a then 1 else 0 := by
  have h : (BitVec.ofNat 32 b).sle (BitVec.ofNat 32 a) = decide (b ≤ a) := by
    rw [BitVec.sle_eq_decide, BitVec.toInt_eq_toNat_of_lt (by simp; omega), BitVec.toInt_eq_toNat_of_lt (by simp; omega)]
    simp [Nat.mod_eq_of_lt (show a < 4294967296 by omega), Nat.mod_eq_of_lt (show b < 4294967296 by omega)]
  unfold IntOp.cmpi
  simp only [h]
  by_cases hab : b ≤ a <;> simp [hab]
theorem mask_mul {a b : ℕ} (ha : a < 128) (hb : b < 128) (x : ℝ) :
    x * ((((IntOp.cmpi .sle (BitVec.ofNat 32 b) (BitVec.ofNat 32 a)).setWidth 32).toInt : ℝ)) = if b ≤ a then x else 0 := by
  rw [mask_val ha hb]; split <;> simp
theorem w_pay10 : k0_pay10 (F := Ideal) = tab fun a b =>
    (((((IntOp.cmpi .sle (BitVec.ofNat 32 b) (BitVec.ofNat 32 a)).setWidth 32).toInt : ℝ)) : EReal) := by
  simp only [k0_pay10, iota_0, iota_1, cmpi_tab, extui_tab, sitofp_tab]
theorem w_r : kernelRun0_B.sl.r (F := Ideal) c arg6 harg6 (X5 I) = tab fun a b => ((I.Wc 0 a b : ℝ) : EReal) := by
  simp only [kernelRun0_B.sl.r, k0_pay11, w_pay10, X5, load_tab3 c arg6 harg6, cast_tab3, mulf_tab, truncf_tab, Nat.zero_add, Nat.add_zero, ← EReal.coe_mul]
  exact tab_congr fun a ha b hb => congrArg _ (mask_mul ha hb _)
theorem w_r_1 : kernelRun0_B.sl.r_1 (F := Ideal) c arg6 harg6 (X5 I) = tab fun a b => ((I.Wc 1 a b : ℝ) : EReal) := by
  simp only [kernelRun0_B.sl.r_1, k0_pay12, w_pay10, X5, load_tab3 c arg6 harg6, cast_tab3, mulf_tab, truncf_tab, Nat.zero_add, Nat.add_zero, ← EReal.coe_mul]
  exact tab_congr fun a ha b hb => congrArg _ (mask_mul ha hb _)
theorem w_r_2 : kernelRun0_B.sl.r_2 (F := Ideal) c arg6 harg6 (X5 I) = tab fun a b => ((I.Wc 2 a b : ℝ) : EReal) := by
  simp only [kernelRun0_B.sl.r_2, k0_pay13, w_pay10, X5, load_tab3 c arg6 harg6, cast_tab3, mulf_tab, truncf_tab, Nat.zero_add, Nat.add_zero, ← EReal.coe_mul]
  exact tab_congr fun a ha b hb => congrArg _ (mask_mul ha hb _)
theorem w_r_3 : kernelRun0_B.sl.r_3 (F := Ideal) c arg6 harg6 (X5 I) = tab fun a b => ((I.Wc 3 a b : ℝ) : EReal) := by
  simp only [kernelRun0_B.sl.r_3, k0_pay14, w_pay10, X5, load_tab3 c arg6 harg6, cast_tab3, mulf_tab, truncf_tab, Nat.zero_add, Nat.add_zero, ← EReal.coe_mul]
  exact tab_congr fun a ha b hb => congrArg _ (mask_mul ha hb _)
theorem w_cst_32 : kernelRun0_B.sl.cst_32 (F := Ideal) = tab fun _ _ => 0 := zero_tab
theorem mixed_at (o p h : ℕ) (ho : o % 128 = 0) (hp : p = 128 * h) {a b : ℕ} (ha : a < 128) (hb : b < 128) :
    (∑ k ∈ Finset.range 128, I.Wc h a k * I.vn (512 * t + (o + k)) (p + b)) + I.B ((p + b) / 128) (0 + a)
      = I.mixed (512 * t + (o + a)) (p + b) := by
  have e1 : (p + b) / 128 = h := by omega
  have e2 : (512 * t + (o + a)) % 128 = a := by omega
  have e3 : (512 * t + (o + a)) / 128 * 128 = 512 * t + o := by omega
  rw [Inp.mixed, e1, e2, e3, Nat.zero_add]
  simp only [Nat.add_assoc]
theorem dvn_at (o p h : ℕ) (ho : o % 128 = 0) (hp : p = 128 * h) {a b : ℕ} (ha : a < 128) (hb : b < 128) :
    (∑ k ∈ Finset.range 128, I.Wc h k a * I.dm (512 * t + (o + k)) (p + b)) = I.dvn (512 * t + (o + a)) (p + b) := by
  have e1 : (p + b) / 128 = h := by omega
  have e2 : (512 * t + (o + a)) % 128 = a := by omega
  have e3 : (512 * t + (o + a)) / 128 * 128 = 512 * t + o := by omega
  rw [Inp.dvn, e1, e2, e3]
  simp only [Nat.add_assoc]
/-- A tile stored at a place is the array's part there. -/
theorem tab_piece {M N m n : ℕ} (o p : ℕ) (inb) (g G : ℕ → ℕ → EReal)
    (h : ∀ a < m, ∀ b < n, g a b = G (o + a) (p + b)) (x : Shape.Idx ⟨2, ![m, n]⟩) :
    tab (m := m) (n := n) g x = tab (m := M) (n := N) G ((Rect.unit (s := ⟨2, ![M, N]⟩) ![o, p] ![m, n] inb).emb x) := by
  refine (h _ (x 0).isLt _ (x 1).isLt).trans ?_
  show G _ _ = G (o + 1 * (x 0).val) (p + 1 * (x 1).val)
  rw [Nat.one_mul, Nat.one_mul]
/-- Reading a whole array through its own box. -/
theorem tab_at {M N : ℕ} {inb} (G : ℕ → ℕ → EReal) (y) :
    tab (m := M) (n := N) G ((Rect.unit (s := ⟨2, ![M, N]⟩) ![0, 0] ![M, N] inb).toLoadRect.idx y) = tab (m := M) (n := N) G y := by
  show G (0 + 1 * (y 0).val) (0 + 1 * (y 1).val) = _
  simp only [Nat.zero_add, Nat.one_mul]; rfl
theorem w_r_14 : kernelRun0_B.sl.r_14 (F := Ideal) c arg1 harg1 arg6 harg6 arg7 harg7 arg8 harg8 arg9 harg9 (X0 I t) (X5 I) (X6 I) (X7 I) (X8 I) = tab fun a b => ((I.mixed (512 * t + (0 + a)) (0 + b) : ℝ) : EReal) := by
  have h := w_r_13 I t c arg1 harg1 arg8 harg8 arg9 harg9
  simp only [kernelRun0_B.sl.r_13] at h
  simp only [kernelRun0_B.sl.r_14, k0_pay27, h, w_r, slice_tab, zero_tab, mm_plain, X6, load_tab c arg7 harg7, cast_tab, addf_tab, ← EReal.coe_mul, ← EReal.coe_add, coe_sum]
  exact tab_congr fun a ha b hb => congrArg _ (mixed_at I t 0 0 0 rfl rfl ha hb)
theorem w_v205 : kernelRun0_B.sl.v205 (F := Ideal) c arg1 harg1 arg6 harg6 arg7 harg7 arg8 harg8 arg9 harg9 arg22 (X0 I t) (X5 I) (X6 I) (X7 I) (X8 I) = tab fun r j => ((I.mixed (512 * t + r) j : ℝ) : EReal) := by
  simp only [kernelRun0_B.sl.v205]
  rw [View.readCov_eq_canon']
  funext y
  refine (View.canon_apply_of_pieces (tab fun r j => ((I.mixed (512 * t + r) j : ℝ) : EReal)) _ ?_ _ (View.cover_of_tiled_head _ _ _ rfl _)).trans ?_
  · simp only [kernelRun0_B.sl.HS0_16, kernelRun0_B.sl.v83, kernelRun0_B.sl.v84, kernelRun0_B.sl.v85, kernelRun0_B.sl.v87, kernelRun0_B.sl.v88, kernelRun0_B.sl.v91, kernelRun0_B.sl.v92, kernelRun0_B.sl.v93, kernelRun0_B.sl.v95, kernelRun0_B.sl.v96, kernelRun0_B.sl.v99, kernelRun0_B.sl.v100, kernelRun0_B.sl.v101, kernelRun0_B.sl.v103, kernelRun0_B.sl.v104, kernelRun0_B.sl.v107, kernelRun0_B.sl.v108, kernelRun0_B.sl.v109, kernelRun0_B.sl.v111, kernelRun0_B.sl.v112, kernelRun0_B.sl.v115, kernelRun0_B.sl.v116, kernelRun0_B.sl.v117, kernelRun0_B.sl.v120, kernelRun0_B.sl.v123, kernelRun0_B.sl.v124, kernelRun0_B.sl.v125, kernelRun0_B.sl.v128, kernelRun0_B.sl.v131, kernelRun0_B.sl.v132, kernelRun0_B.sl.v133, kernelRun0_B.sl.v136, kernelRun0_B.sl.v139, kernelRun0_B.sl.v140, kernelRun0_B.sl.v141, kernelRun0_B.sl.v144, kernelRun0_B.sl.v147, kernelRun0_B.sl.v148, kernelRun0_B.sl.v149, kernelRun0_B.sl.v152, kernelRun0_B.sl.v155, kernelRun0_B.sl.v156, kernelRun0_B.sl.v157, kernelRun0_B.sl.v160, kernelRun0_B.sl.v163, kernelRun0_B.sl.v164, kernelRun0_B.sl.v165, kernelRun0_B.sl.v168, kernelRun0_B.sl.v171, kernelRun0_B.sl.v172, kernelRun0_B.sl.v173, kernelRun0_B.sl.v176, kernelRun0_B.sl.v179, kernelRun0_B.sl.v180, kernelRun0_B.sl.v181, kernelRun0_B.sl.v184, kernelRun0_B.sl.v187, kernelRun0_B.sl.v188, kernelRun0_B.sl.v189, kernelRun0_B.sl.v192, kernelRun0_B.sl.v195, kernelRun0_B.sl.v196, kernelRun0_B.sl.v197, kernelRun0_B.sl.v200, kernelRun0_B.sl.v203, List.forall_mem_cons, w_r, w_r_1, w_r_2, w_r_3, w_r_13, w_r_14, w_cst_32, slice_tab, mm_plain, cast_tab]
    simp only [X6, load_tab c arg7 harg7, cast_tab, addf_tab, ← EReal.coe_mul, ← EReal.coe_add, coe_sum]
    refine ⟨tab_piece 384 384 _ _ _ fun a ha b hb => congrArg _ (mixed_at I t 384 384 3 rfl rfl ha hb), ?_⟩
    refine ⟨tab_piece 384 256 _ _ _ fun a ha b hb => congrArg _ (mixed_at I t 384 256 2 rfl rfl ha hb), ?_⟩
    refine ⟨tab_piece 384 128 _ _ _ fun a ha b hb => congrArg _ (mixed_at I t 384 128 1 rfl rfl ha hb), ?_⟩
    refine ⟨tab_piece 384 0 _ _ _ fun a ha b hb => congrArg _ (mixed_at I t 384 0 0 rfl rfl ha hb), ?_⟩
    refine ⟨tab_piece 256 384 _ _ _ fun a ha b hb => congrArg _ (mixed_at I t 256 384 3 rfl rfl ha hb), ?_⟩
    refine ⟨tab_piece 256 256 _ _ _ fun a ha b hb => congrArg _ (mixed_at I t 256 256 2 rfl rfl ha hb), ?_⟩
    refine ⟨tab_piece 256 128 _ _ _ fun a ha b hb => congrArg _ (mixed_at I t 256 128 1 rfl rfl ha hb), ?_⟩
    refine ⟨tab_piece 256 0 _ _ _ fun a ha b hb => congrArg _ (mixed_at I t 256 0 0 rfl rfl ha hb), ?_⟩
    refine ⟨tab_piece 128 384 _ _ _ fun a ha b hb => congrArg _ (mixed_at I t 128 384 3 rfl rfl ha hb), ?_⟩
    refine ⟨tab_piece 128 256 _ _ _ fun a ha b hb => congrArg _ (mixed_at I t 128 256 2 rfl rfl ha hb), ?_⟩
    refine ⟨tab_piece 128 128 _ _ _ fun a ha b hb => congrArg _ (mixed_at I t 128 128 1 rfl rfl ha hb), ?_⟩
    refine ⟨tab_piece 128 0 _ _ _ fun a ha b hb => congrArg _ (mixed_at I t 128 0 0 rfl rfl ha hb), ?_⟩
    refine ⟨tab_piece 0 384 _ _ _ fun a ha b hb => congrArg _ (mixed_at I t 0 384 3 rfl rfl ha hb), ?_⟩
    refine ⟨tab_piece 0 256 _ _ _ fun a ha b hb => congrArg _ (mixed_at I t 0 256 2 rfl rfl ha hb), ?_⟩
    refine ⟨tab_piece 0 128 _ _ _ fun a ha b hb => congrArg _ (mixed_at I t 0 128 1 rfl rfl ha hb), ?_⟩
    refine ⟨tab_piece 0 0 _ _ _ fun a ha b hb => rfl, ?_⟩
    simp
  · exact tab_at _ y
theorem w_v206 : kernelRun0_B.sl.v206 (F := Ideal) c arg1 harg1 arg4 harg4 arg6 harg6 arg7 harg7 arg8 harg8 arg9 harg9 arg22 (X0 I t) (X3 I t) (X5 I) (X6 I) (X7 I) (X8 I) = tab fun r j => ((I.D (512 * t + r) j * I.mixed (512 * t + r) j : ℝ) : EReal) := by
  simp only [kernelRun0_B.sl.v206, w_v205, X3, load_tab c arg4 harg4, mulf_tab, Nat.zero_add, ← EReal.coe_mul]
theorem w_v207 : kernelRun0_B.sl.v207 (F := Ideal) c arg1 harg1 arg4 harg4 (X0 I t) (X3 I t) = tab fun r j => ((I.dm (512 * t + r) j : ℝ) : EReal) := by
  simp only [kernelRun0_B.sl.v207, w_r_10, X3, load_tab c arg4 harg4, mulf_tab, Nat.zero_add, ← EReal.coe_mul, Inp.dm]
theorem w_v208 : kernelRun0_B.sl.v208 (F := Ideal) c arg1 harg1 arg4 harg4 (X0 I t) (X3 I t) = tab fun r j => ((I.dm (512 * t + r) j : ℝ) : EReal) := by
  simp only [kernelRun0_B.sl.v208, w_v207, truncf_tab]
theorem w_v425 : kernelRun0_B.sl.v425 (F := Ideal) c arg1 harg1 arg4 harg4 arg6 harg6 arg23 (X0 I t) (X3 I t) (X5 I) = tab fun r j => ((I.dvn (512 * t + r) j : ℝ) : EReal) := by
  simp only [kernelRun0_B.sl.v425]
  rw [View.readCov_eq_canon']
  funext y
  refine (View.canon_apply_of_pieces (tab fun r j => ((I.dvn (512 * t + r) j : ℝ) : EReal)) _ ?_ _ (View.cover_of_tiled_head _ _ _ rfl _)).trans ?_
  · simp only [kernelRun0_B.sl.HS1_16, kernelRun0_B.sl.v230, kernelRun0_B.sl.v231, kernelRun0_B.sl.v232, kernelRun0_B.sl.v234, kernelRun0_B.sl.v237, kernelRun0_B.sl.v238, kernelRun0_B.sl.v240, kernelRun0_B.sl.v241, kernelRun0_B.sl.v243, kernelRun0_B.sl.v246, kernelRun0_B.sl.v247, kernelRun0_B.sl.v249, kernelRun0_B.sl.v250, kernelRun0_B.sl.v252, kernelRun0_B.sl.v255, kernelRun0_B.sl.v256, kernelRun0_B.sl.v258, kernelRun0_B.sl.v259, kernelRun0_B.sl.v261, kernelRun0_B.sl.v264, kernelRun0_B.sl.v266, kernelRun0_B.sl.v267, kernelRun0_B.sl.v268, kernelRun0_B.sl.v271, kernelRun0_B.sl.v272, kernelRun0_B.sl.v273, kernelRun0_B.sl.v274, kernelRun0_B.sl.v275, kernelRun0_B.sl.v276, kernelRun0_B.sl.v277, kernelRun0_B.sl.v280, kernelRun0_B.sl.v281, kernelRun0_B.sl.v283, kernelRun0_B.sl.v285, kernelRun0_B.sl.v288, kernelRun0_B.sl.v289, kernelRun0_B.sl.v291, kernelRun0_B.sl.v292, kernelRun0_B.sl.v294, kernelRun0_B.sl.v297, kernelRun0_B.sl.v298, kernelRun0_B.sl.v300, kernelRun0_B.sl.v301, kernelRun0_B.sl.v303, kernelRun0_B.sl.v306, kernelRun0_B.sl.v307, kernelRun0_B.sl.v309, kernelRun0_B.sl.v310, kernelRun0_B.sl.v312, kernelRun0_B.sl.v315, kernelRun0_B.sl.v316, kernelRun0_B.sl.v317, kernelRun0_B.sl.v318, kernelRun0_B.sl.v319, kernelRun0_B.sl.v322, kernelRun0_B.sl.v323, kernelRun0_B.sl.v324, kernelRun0_B.sl.v325, kernelRun0_B.sl.v326, kernelRun0_B.sl.v327, kernelRun0_B.sl.v328, kernelRun0_B.sl.v331, kernelRun0_B.sl.v332, kernelRun0_B.sl.v334, kernelRun0_B.sl.v336, kernelRun0_B.sl.v339, kernelRun0_B.sl.v340, kernelRun0_B.sl.v342, kernelRun0_B.sl.v343, kernelRun0_B.sl.v345, kernelRun0_B.sl.v348, kernelRun0_B.sl.v349, kernelRun0_B.sl.v351, kernelRun0_B.sl.v352, kernelRun0_B.sl.v354, kernelRun0_B.sl.v357, kernelRun0_B.sl.v358, kernelRun0_B.sl.v360, kernelRun0_B.sl.v361, kernelRun0_B.sl.v363, kernelRun0_B.sl.v366, kernelRun0_B.sl.v367, kernelRun0_B.sl.v368, kernelRun0_B.sl.v369, kernelRun0_B.sl.v370, kernelRun0_B.sl.v373, kernelRun0_B.sl.v374, kernelRun0_B.sl.v375, kernelRun0_B.sl.v376, kernelRun0_B.sl.v377, kernelRun0_B.sl.v378, kernelRun0_B.sl.v379, kernelRun0_B.sl.v382, kernelRun0_B.sl.v383, kernelRun0_B.sl.v385, kernelRun0_B.sl.v387, kernelRun0_B.sl.v390, kernelRun0_B.sl.v391, kernelRun0_B.sl.v393, kernelRun0_B.sl.v394, kernelRun0_B.sl.v396, kernelRun0_B.sl.v399, kernelRun0_B.sl.v400, kernelRun0_B.sl.v402, kernelRun0_B.sl.v403, kernelRun0_B.sl.v405, kernelRun0_B.sl.v408, kernelRun0_B.sl.v409, kernelRun0_B.sl.v411, kernelRun0_B.sl.v412, kernelRun0_B.sl.v414, kernelRun0_B.sl.v417, List.forall_mem_cons, w_r, w_r_1, w_r_2, w_r_3, w_v208, w_cst_32, slice_tab, mm_left, cast_tab, ← EReal.coe_mul, coe_sum]
    refine ⟨tab_piece 384 384 _ _ _ fun a ha b hb => congrArg _ (dvn_at I t 384 384 3 rfl rfl ha hb), ?_⟩
    refine ⟨tab_piece 256 384 _ _ _ fun a ha b hb => congrArg _ (dvn_at I t 256 384 3 rfl rfl ha hb), ?_⟩
    refine ⟨tab_piece 128 384 _ _ _ fun a ha b hb => congrArg _ (dvn_at I t 128 384 3 rfl rfl ha hb), ?_⟩
    refine ⟨tab_piece 0 384 _ _ _ fun a ha b hb => congrArg _ (dvn_at I t 0 384 3 rfl rfl ha hb), ?_⟩
    refine ⟨tab_piece 384 256 _ _ _ fun a ha b hb => congrArg _ (dvn_at I t 384 256 2 rfl rfl ha hb), ?_⟩
    refine ⟨tab_piece 256 256 _ _ _ fun a ha b hb => congrArg _ (dvn_at I t 256 256 2 rfl rfl ha hb), ?_⟩
    refine ⟨tab_piece 128 256 _ _ _ fun a ha b hb => congrArg _ (dvn_at I t 128 256 2 rfl rfl ha hb), ?_⟩
    refine ⟨tab_piece 0 256 _ _ _ fun a ha b hb => congrArg _ (dvn_at I t 0 256 2 rfl rfl ha hb), ?_⟩
    refine ⟨tab_piece 384 128 _ _ _ fun a ha b hb => congrArg _ (dvn_at I t 384 128 1 rfl rfl ha hb), ?_⟩
    refine ⟨tab_piece 256 128 _ _ _ fun a ha b hb => congrArg _ (dvn_at I t 256 128 1 rfl rfl ha hb), ?_⟩
    refine ⟨tab_piece 128 128 _ _ _ fun a ha b hb => congrArg _ (dvn_at I t 128 128 1 rfl rfl ha hb), ?_⟩
    refine ⟨tab_piece 0 128 _ _ _ fun a ha b hb => congrArg _ (dvn_at I t 0 128 1 rfl rfl ha hb), ?_⟩
    refine ⟨tab_piece 384 0 _ _ _ fun a ha b hb => congrArg _ (dvn_at I t 384 0 0 rfl rfl ha hb), ?_⟩
    refine ⟨tab_piece 256 0 _ _ _ fun a ha b hb => congrArg _ (dvn_at I t 256 0 0 rfl rfl ha hb), ?_⟩
    refine ⟨tab_piece 128 0 _ _ _ fun a ha b hb => congrArg _ (dvn_at I t 128 0 0 rfl rfl ha hb), ?_⟩
    refine ⟨tab_piece 0 0 _ _ _ fun a ha b hb => congrArg _ (dvn_at I t 0 0 0 rfl rfl ha hb), ?_⟩
    simp
  · exact tab_at _ y

/-! ### The sums over a tile -/

theorem four (f : ℕ → ℝ) : ∑ n ∈ Finset.range 4, f n = f 0 + f 1 + f 2 + f 3 := by simp [Finset.sum_range_succ]
theorem dbs_tile (h p : ℕ) (hp : p = h * 128) (a : ℕ) :
    ∑ d ∈ Finset.range 128, (I.dm (512 * t + (0 + (0 + a))) (0 + (p + d)) + I.dm (512 * t + (128 + (0 + a))) (0 + (p + d))
      + I.dm (512 * t + (256 + (0 + a))) (0 + (p + d)) + I.dm (512 * t + (384 + (0 + a))) (0 + (p + d))) = I.dbs (4 * t) 4 h a := by
  subst hp
  simp only [Inp.dbs, four, Finset.sum_add_distrib, Nat.zero_add, show (4 * t + 0) * 128 + a = 512 * t + a by omega,
    show (4 * t + 1) * 128 + a = 512 * t + (128 + a) by omega, show (4 * t + 2) * 128 + a = 512 * t + (256 + a) by omega,
    show (4 * t + 3) * 128 + a = 512 * t + (384 + a) by omega]
theorem dws_tile (h p : ℕ) (hp : p = h * 128) {a b : ℕ} (ha : a < 128) (hb : b < 128) :
    ((∑ d ∈ Finset.range 128, I.dm (512 * t + (0 + a)) (p + d) * I.vn (512 * t + (0 + b)) (p + d))
      + (∑ d ∈ Finset.range 128, I.dm (512 * t + (128 + a)) (p + d) * I.vn (512 * t + (128 + b)) (p + d))
      + (∑ d ∈ Finset.range 128, I.dm (512 * t + (256 + a)) (p + d) * I.vn (512 * t + (256 + b)) (p + d))
      + ∑ d ∈ Finset.range 128, I.dm (512 * t + (384 + a)) (p + d) * I.vn (512 * t + (384 + b)) (p + d))
      * ((((IntOp.cmpi .sle (BitVec.ofNat 32 b) (BitVec.ofNat 32 a)).setWidth 32).toInt : ℝ)) = I.dws (4 * t) 4 h a b := by
  subst hp
  rw [mask_mul ha hb]
  simp only [Inp.dws, four, Nat.zero_add, show ∀ x, (4 * t + 0) * 128 + x = 512 * t + x by omega,
    show ∀ x, (4 * t + 1) * 128 + x = 512 * t + (128 + x) by omega, show ∀ x, (4 * t + 2) * 128 + x = 512 * t + (256 + x) by omega,
    show ∀ x, (4 * t + 3) * 128 + x = 512 * t + (384 + x) by omega]
theorem w_v215 : kernelRun0_B.sl.v215 (F := Ideal) c arg1 harg1 arg4 harg4 (X0 I t) (X3 I t) = tab fun a b => ((I.dm (512 * t + (0 + a)) (0 + b) + I.dm (512 * t + (128 + a)) (0 + b)
    + I.dm (512 * t + (256 + a)) (0 + b) + I.dm (512 * t + (384 + a)) (0 + b) : ℝ) : EReal) := by
  simp only [kernelRun0_B.sl.v215, kernelRun0_B.sl.v214, kernelRun0_B.sl.v213, kernelRun0_B.sl.v212, kernelRun0_B.sl.v211, kernelRun0_B.sl.v210, kernelRun0_B.sl.v209, w_v207, slice_tab, addf_tab, ← EReal.coe_add]
theorem w_v220 : kernelRun0_B.sl.v220 (F := Ideal) = tab fun a b =>
    (((((IntOp.cmpi .sle (BitVec.ofNat 32 b) (BitVec.ofNat 32 a)).setWidth 32).toInt : ℝ)) : EReal) := by
  simp only [kernelRun0_B.sl.v216, kernelRun0_B.sl.v217, kernelRun0_B.sl.v219, kernelRun0_B.sl.v220, iota_0, iota_1, cmpi_tab, extui_tab, sitofp_tab]
theorem w_v229 : kernelRun0_B.sl.v229 (F := Ideal) c arg1 harg1 arg4 harg4 arg16 harg16 (X0 I t) (X3 I t) (Q14 qbs) = tab3 fun _ a _ => ((qbs 0 a + I.dbs (4 * t) 4 0 a : ℝ) : EReal) := by
  simp only [kernelRun0_B.sl.v229, kernelRun0_B.sl.v226, kernelRun0_B.sl.v225, kernelRun0_B.sl.v224, kernelRun0_B.sl.v223, kernelRun0_B.sl.v222, kernelRun0_B.sl.r_15, w_v215, Q14, load_tab3 c arg16 harg16, cast_tab3, slice_tab, rows_128, cast_col, addf_tab, coe_sum, ← EReal.coe_add,
    cast_to_tab3, dbs_tile I t 0 0 rfl]
  simp only [Nat.zero_add]
theorem w_v280 : kernelRun0_B.sl.v280 (F := Ideal) c arg1 harg1 arg4 harg4 arg16 harg16 (X0 I t) (X3 I t) (Q14 qbs) = tab3 fun _ a _ => ((qbs 1 a + I.dbs (4 * t) 4 1 a : ℝ) : EReal) := by
  simp only [kernelRun0_B.sl.v280, kernelRun0_B.sl.v277, kernelRun0_B.sl.v276, kernelRun0_B.sl.v275, kernelRun0_B.sl.v274, kernelRun0_B.sl.v273, kernelRun0_B.sl.v272, w_v215, Q14, load_tab3 c arg16 harg16, cast_tab3, slice_tab, rows_128, cast_col, addf_tab, coe_sum, ← EReal.coe_add,
    cast_to_tab3, dbs_tile I t 1 128 rfl]
  simp only [Nat.zero_add]
theorem w_v331 : kernelRun0_B.sl.v331 (F := Ideal) c arg1 harg1 arg4 harg4 arg16 harg16 (X0 I t) (X3 I t) (Q14 qbs) = tab3 fun _ a _ => ((qbs 2 a + I.dbs (4 * t) 4 2 a : ℝ) : EReal) := by
  simp only [kernelRun0_B.sl.v331, kernelRun0_B.sl.v328, kernelRun0_B.sl.v327, kernelRun0_B.sl.v326, kernelRun0_B.sl.v325, kernelRun0_B.sl.v324, kernelRun0_B.sl.v323, w_v215, Q14, load_tab3 c arg16 harg16, cast_tab3, slice_tab, rows_128, cast_col, addf_tab, coe_sum, ← EReal.coe_add,
    cast_to_tab3, dbs_tile I t 2 256 rfl]
  simp only [Nat.zero_add]
theorem w_v382 : kernelRun0_B.sl.v382 (F := Ideal) c arg1 harg1 arg4 harg4 arg16 harg16 (X0 I t) (X3 I t) (Q14 qbs) = tab3 fun _ a _ => ((qbs 3 a + I.dbs (4 * t) 4 3 a : ℝ) : EReal) := by
  simp only [kernelRun0_B.sl.v382, kernelRun0_B.sl.v379, kernelRun0_B.sl.v378, kernelRun0_B.sl.v377, kernelRun0_B.sl.v376, kernelRun0_B.sl.v375, kernelRun0_B.sl.v374, w_v215, Q14, load_tab3 c arg16 harg16, cast_tab3, slice_tab, rows_128, cast_col, addf_tab, coe_sum, ← EReal.coe_add,
    cast_to_tab3, dbs_tile I t 3 384 rfl]
  simp only [Nat.zero_add]
theorem w_v271 : kernelRun0_B.sl.v271 (F := Ideal) c arg1 harg1 arg4 harg4 arg8 harg8 arg9 harg9 arg15 harg15 (X0 I t) (X3 I t) (X7 I) (X8 I) (Q13 qws) = tab3 fun _ a b => ((qws 0 a b + I.dws (4 * t) 4 0 a b : ℝ) : EReal) := by
  simp only [kernelRun0_B.sl.v271, kernelRun0_B.sl.v230, kernelRun0_B.sl.v231, kernelRun0_B.sl.v232, kernelRun0_B.sl.v234, kernelRun0_B.sl.v237, kernelRun0_B.sl.v238, kernelRun0_B.sl.v240, kernelRun0_B.sl.v241, kernelRun0_B.sl.v243, kernelRun0_B.sl.v246, kernelRun0_B.sl.v247, kernelRun0_B.sl.v249, kernelRun0_B.sl.v250, kernelRun0_B.sl.v252, kernelRun0_B.sl.v255, kernelRun0_B.sl.v256, kernelRun0_B.sl.v258, kernelRun0_B.sl.v259, kernelRun0_B.sl.v261, kernelRun0_B.sl.v264, kernelRun0_B.sl.v266, kernelRun0_B.sl.v267, kernelRun0_B.sl.v268, kernelRun0_B.sl.v84, kernelRun0_B.sl.v116, kernelRun0_B.sl.v148, kernelRun0_B.sl.v180, kernelRun0_B.sl.v108, kernelRun0_B.sl.v140, kernelRun0_B.sl.v172, kernelRun0_B.sl.v92, kernelRun0_B.sl.v124, kernelRun0_B.sl.v156, kernelRun0_B.sl.v188, kernelRun0_B.sl.v100, kernelRun0_B.sl.v132, kernelRun0_B.sl.v164, kernelRun0_B.sl.v196, w_v208, w_r_13, w_cst_32, slice_tab, mm_right, addf_tab, coe_sum,
    ← EReal.coe_mul, ← EReal.coe_add]
  simp only [w_v220, Q13, load_tab3 c arg15 harg15, cast_tab3, mulf_tab, addf_tab, ← EReal.coe_mul, ← EReal.coe_add, cast_to_tab3]
  refine tab3_congr fun l _ a ha b hb => congrArg _ ?_
  rw [dws_tile I t 0 0 rfl ha hb]
  simp only [Nat.zero_add, Nat.add_zero]
theorem w_v322 : kernelRun0_B.sl.v322 (F := Ideal) c arg1 harg1 arg4 harg4 arg8 harg8 arg9 harg9 arg15 harg15 (X0 I t) (X3 I t) (X7 I) (X8 I) (Q13 qws) = tab3 fun _ a b => ((qws 1 a b + I.dws (4 * t) 4 1 a b : ℝ) : EReal) := by
  simp only [kernelRun0_B.sl.v322, kernelRun0_B.sl.v281, kernelRun0_B.sl.v283, kernelRun0_B.sl.v285, kernelRun0_B.sl.v288, kernelRun0_B.sl.v289, kernelRun0_B.sl.v291, kernelRun0_B.sl.v292, kernelRun0_B.sl.v294, kernelRun0_B.sl.v297, kernelRun0_B.sl.v298, kernelRun0_B.sl.v300, kernelRun0_B.sl.v301, kernelRun0_B.sl.v303, kernelRun0_B.sl.v306, kernelRun0_B.sl.v307, kernelRun0_B.sl.v309, kernelRun0_B.sl.v310, kernelRun0_B.sl.v312, kernelRun0_B.sl.v315, kernelRun0_B.sl.v316, kernelRun0_B.sl.v317, kernelRun0_B.sl.v318, kernelRun0_B.sl.v319, kernelRun0_B.sl.v84, kernelRun0_B.sl.v116, kernelRun0_B.sl.v148, kernelRun0_B.sl.v180, kernelRun0_B.sl.v108, kernelRun0_B.sl.v140, kernelRun0_B.sl.v172, kernelRun0_B.sl.v92, kernelRun0_B.sl.v124, kernelRun0_B.sl.v156, kernelRun0_B.sl.v188, kernelRun0_B.sl.v100, kernelRun0_B.sl.v132, kernelRun0_B.sl.v164, kernelRun0_B.sl.v196, w_v208, w_r_13, w_cst_32, slice_tab, mm_right, addf_tab, coe_sum,
    ← EReal.coe_mul, ← EReal.coe_add]
  simp only [w_v220, Q13, load_tab3 c arg15 harg15, cast_tab3, mulf_tab, addf_tab, ← EReal.coe_mul, ← EReal.coe_add, cast_to_tab3]
  refine tab3_congr fun l _ a ha b hb => congrArg _ ?_
  rw [dws_tile I t 1 128 rfl ha hb]
  simp only [Nat.zero_add, Nat.add_zero]
theorem w_v373 : kernelRun0_B.sl.v373 (F := Ideal) c arg1 harg1 arg4 harg4 arg8 harg8 arg9 harg9 arg15 harg15 (X0 I t) (X3 I t) (X7 I) (X8 I) (Q13 qws) = tab3 fun _ a b => ((qws 2 a b + I.dws (4 * t) 4 2 a b : ℝ) : EReal) := by
  simp only [kernelRun0_B.sl.v373, kernelRun0_B.sl.v332, kernelRun0_B.sl.v334, kernelRun0_B.sl.v336, kernelRun0_B.sl.v339, kernelRun0_B.sl.v340, kernelRun0_B.sl.v342, kernelRun0_B.sl.v343, kernelRun0_B.sl.v345, kernelRun0_B.sl.v348, kernelRun0_B.sl.v349, kernelRun0_B.sl.v351, kernelRun0_B.sl.v352, kernelRun0_B.sl.v354, kernelRun0_B.sl.v357, kernelRun0_B.sl.v358, kernelRun0_B.sl.v360, kernelRun0_B.sl.v361, kernelRun0_B.sl.v363, kernelRun0_B.sl.v366, kernelRun0_B.sl.v367, kernelRun0_B.sl.v368, kernelRun0_B.sl.v369, kernelRun0_B.sl.v370, kernelRun0_B.sl.v84, kernelRun0_B.sl.v116, kernelRun0_B.sl.v148, kernelRun0_B.sl.v180, kernelRun0_B.sl.v108, kernelRun0_B.sl.v140, kernelRun0_B.sl.v172, kernelRun0_B.sl.v92, kernelRun0_B.sl.v124, kernelRun0_B.sl.v156, kernelRun0_B.sl.v188, kernelRun0_B.sl.v100, kernelRun0_B.sl.v132, kernelRun0_B.sl.v164, kernelRun0_B.sl.v196, w_v208, w_r_13, w_cst_32, slice_tab, mm_right, addf_tab, coe_sum,
    ← EReal.coe_mul, ← EReal.coe_add]
  simp only [w_v220, Q13, load_tab3 c arg15 harg15, cast_tab3, mulf_tab, addf_tab, ← EReal.coe_mul, ← EReal.coe_add, cast_to_tab3]
  refine tab3_congr fun l _ a ha b hb => congrArg _ ?_
  rw [dws_tile I t 2 256 rfl ha hb]
  simp only [Nat.zero_add, Nat.add_zero]
theorem w_v424 : kernelRun0_B.sl.v424 (F := Ideal) c arg1 harg1 arg4 harg4 arg8 harg8 arg9 harg9 arg15 harg15 (X0 I t) (X3 I t) (X7 I) (X8 I) (Q13 qws) = tab3 fun _ a b => ((qws 3 a b + I.dws (4 * t) 4 3 a b : ℝ) : EReal) := by
  simp only [kernelRun0_B.sl.v424, kernelRun0_B.sl.v383, kernelRun0_B.sl.v385, kernelRun0_B.sl.v387, kernelRun0_B.sl.v390, kernelRun0_B.sl.v391, kernelRun0_B.sl.v393, kernelRun0_B.sl.v394, kernelRun0_B.sl.v396, kernelRun0_B.sl.v399, kernelRun0_B.sl.v400, kernelRun0_B.sl.v402, kernelRun0_B.sl.v403, kernelRun0_B.sl.v405, kernelRun0_B.sl.v408, kernelRun0_B.sl.v409, kernelRun0_B.sl.v411, kernelRun0_B.sl.v412, kernelRun0_B.sl.v414, kernelRun0_B.sl.v417, kernelRun0_B.sl.v418, kernelRun0_B.sl.v419, kernelRun0_B.sl.v420, kernelRun0_B.sl.v421, kernelRun0_B.sl.v84, kernelRun0_B.sl.v116, kernelRun0_B.sl.v148, kernelRun0_B.sl.v180, kernelRun0_B.sl.v108, kernelRun0_B.sl.v140, kernelRun0_B.sl.v172, kernelRun0_B.sl.v92, kernelRun0_B.sl.v124, kernelRun0_B.sl.v156, kernelRun0_B.sl.v188, kernelRun0_B.sl.v100, kernelRun0_B.sl.v132, kernelRun0_B.sl.v164, kernelRun0_B.sl.v196, w_v208, w_r_13, w_cst_32, slice_tab, mm_right, addf_tab, coe_sum,
    ← EReal.coe_mul, ← EReal.coe_add]
  simp only [w_v220, Q13, load_tab3 c arg15 harg15, cast_tab3, mulf_tab, addf_tab, ← EReal.coe_mul, ← EReal.coe_add, cast_to_tab3]
  refine tab3_congr fun l _ a ha b hb => congrArg _ ?_
  rw [dws_tile I t 3 384 rfl ha hb]
  simp only [Nat.zero_add, Nat.add_zero]
theorem w_v431 : kernelRun0_B.sl.v431 (F := Ideal) c arg1 harg1 arg4 harg4 arg6 harg6 arg17 harg17 arg23 (X0 I t) (X3 I t) (X5 I) (Q15 qga) = tab fun _ j => ((qga j + I.dgain (512 * t) 512 j : ℝ) : EReal) := by
  simp only [kernelRun0_B.sl.v431, kernelRun0_B.sl.v430, kernelRun0_B.sl.v429, kernelRun0_B.sl.v428, kernelRun0_B.sl.v427, w_v425, w_r_12, Q15, load_tab c arg17 harg17, cast_tab, mulf_tab, cols_512, cast_row, addf_tab,
    coe_sum, ← EReal.coe_mul, ← EReal.coe_add, Nat.zero_add]; rfl
theorem w_v437 : kernelRun0_B.sl.v437 (F := Ideal) c arg1 harg1 arg4 harg4 arg6 harg6 arg18 harg18 arg23 (X0 I t) (X3 I t) (X5 I) (Q15 qbi) = tab fun _ j => ((qbi j + I.dbias (512 * t) 512 j : ℝ) : EReal) := by
  simp only [kernelRun0_B.sl.v437, kernelRun0_B.sl.v436, kernelRun0_B.sl.v435, kernelRun0_B.sl.v434, w_v425, Q15, load_tab c arg18 harg18, cast_tab, cols_512, cast_row, addf_tab,
    coe_sum, ← EReal.coe_add, Nat.zero_add]; rfl

/-! ### The norm's gradient -/

theorem c_512' : FloatOps.ofBits (F := Ideal) .f32 1140850688#32 = ((512 : ℝ) : EReal) := c_512
theorem w_v440 : kernelRun0_B.sl.v440 (F := Ideal) c arg1 harg1 arg4 harg4 arg6 harg6 arg8 harg8 arg23 (X0 I t) (X3 I t) (X5 I) (X7 I) = tab fun r j => ((I.dvn (512 * t + r) j * I.Ga j : ℝ) : EReal) := by
  simp only [kernelRun0_B.sl.v440, kernelRun0_B.sl.v439, kernelRun0_B.sl.r_4, k0_pay15, w_v425, X7, load_tab c arg8 harg8, cast_tab, broadcastTo_row, mulf_tab, ← EReal.coe_mul, Nat.zero_add]
theorem w_v456 : kernelRun0_B.sl.v456 (F := Ideal) c arg1 harg1 arg4 harg4 arg6 harg6 arg8 harg8 arg23 (X0 I t) (X3 I t) (X5 I) (X7 I) = tab fun r j => ((I.dv (512 * t + r) j : ℝ) : EReal) := by
  simp only [kernelRun0_B.sl.v456, kernelRun0_B.sl.v455, kernelRun0_B.sl.v454, kernelRun0_B.sl.v453, kernelRun0_B.sl.v452, kernelRun0_B.sl.v451, kernelRun0_B.sl.v449, kernelRun0_B.sl.v448, kernelRun0_B.sl.v447, kernelRun0_B.sl.v446, kernelRun0_B.sl.v445, kernelRun0_B.sl.v444, kernelRun0_B.sl.v443, kernelRun0_B.sl.v442, kernelRun0_B.sl.v441, kernelRun0_B.sl.cst_237, w_v440, w_r_12, w_r_11, mulf_tab, rows_512, cast_col,
    broadcast_tab, c_512', coe_sum, divf_tab, div_512, broadcastTo_col, subf_tab, ← EReal.coe_mul, ← EReal.coe_sub]; rfl
theorem w_v459 : kernelRun0_B.sl.v459 (F := Ideal) c arg1 harg1 arg4 harg4 arg6 harg6 arg7 harg7 arg8 harg8 arg9 harg9 arg22 (X0 I t) (X3 I t) (X5 I) (X6 I) (X7 I) (X8 I) = tab fun r j => ((I.D (512 * t + r) j * I.mixed (512 * t + r) j * dgelu (I.Z (512 * t + r) j) : ℝ) : EReal) := by
  simp only [kernelRun0_B.sl.v459, kernelRun0_B.sl.v458, kernelRun0_B.sl.v457, w_v206, w_r_9, slice_tab, mulf_tab, truncf_tab, ← EReal.coe_mul, Nat.zero_add]
theorem w_v463 : kernelRun0_B.sl.v463 (F := Ideal) c arg1 harg1 arg4 harg4 arg6 harg6 arg8 harg8 arg23 (X0 I t) (X3 I t) (X5 I) (X7 I) = tab fun r j => ((I.dv (512 * t + r) j * dgelu (I.Z (512 * t + r) (512 + j)) : ℝ) : EReal) := by
  simp only [kernelRun0_B.sl.v463, kernelRun0_B.sl.v462, kernelRun0_B.sl.v461, w_v456, w_r_9, slice_tab, mulf_tab, truncf_tab, ← EReal.coe_mul, Nat.zero_add]

/-! ### The pool -/

/-- A column of `n` rows plus itself rotated down by `w`. -/
def rotSum (n w : ℕ) (e : ℕ → ℝ) (a : ℕ) : ℝ := e a + e ((a + n - w) % n)
theorem rotSum_back (e g : ℕ → ℝ) (w : ℕ) (hw : w ≤ 16) (h : ∀ a < 544, w - 1 ≤ a → g a = ∑ k ∈ Finset.range w, e (a - k))
    (a : ℕ) (ha : a < 544) (h2 : 2 * w - 1 ≤ a) : rotSum 544 w g a = ∑ k ∈ Finset.range (2 * w), e (a - k) := by
  rcases Nat.eq_zero_or_pos w with rfl | h0
  · have := h a ha (by omega)
    simp [rotSum] at this ⊢
    rw [Nat.mod_eq_of_lt ha, this]; simp
  · have e1 : (a + 544 - w) % 544 = a - w := by omega
    rw [rotSum, e1, h a ha (by omega), h (a - w) (by omega) (by omega), ← sum_double fun k => e (a - k)]
    simp only [Nat.sub_sub]
theorem rotSum_ahead (e g : ℕ → ℝ) (w : ℕ) (hw : w ≤ 16) (h0 : 0 < w) (h : ∀ a, a + w ≤ 528 → g a = ∑ k ∈ Finset.range w, e (a + k))
    (a : ℕ) (ha : a + 2 * w ≤ 528) : rotSum 528 (528 - w) g a = ∑ k ∈ Finset.range (2 * w), e (a + k) := by
  have e1 : (a + 528 - (528 - w)) % 528 = a + w := by omega
  rw [rotSum, e1, h a (by omega), h (a + w) (by omega), ← sum_double fun k => e (a + k)]
  simp only [Nat.add_assoc]
def back2 (e : ℕ → ℝ) := rotSum 544 1 e
def back4 (e : ℕ → ℝ) := rotSum 544 2 (back2 e)
def back8 (e : ℕ → ℝ) := rotSum 544 4 (back4 e)
def back16 (e : ℕ → ℝ) := rotSum 544 8 (back8 e)
def ahead2 (e : ℕ → ℝ) := rotSum 528 527 e
def ahead4 (e : ℕ → ℝ) := rotSum 528 526 (ahead2 e)
def ahead8 (e : ℕ → ℝ) := rotSum 528 524 (ahead4 e)
def ahead16 (e : ℕ → ℝ) := rotSum 528 520 (ahead8 e)
section
variable (e : ℕ → ℝ) (a : ℕ)
theorem back2_eq (ha : a < 544) (h : 1 ≤ a) : back2 e a = ∑ k ∈ Finset.range 2, e (a - k) :=
  rotSum_back e e 1 (by norm_num) (fun _ _ _ => by simp) a ha h
theorem back4_eq (ha : a < 544) (h : 3 ≤ a) : back4 e a = ∑ k ∈ Finset.range 4, e (a - k) :=
  rotSum_back e _ 2 (by norm_num) (back2_eq e) a ha h
theorem back8_eq (ha : a < 544) (h : 7 ≤ a) : back8 e a = ∑ k ∈ Finset.range 8, e (a - k) :=
  rotSum_back e _ 4 (by norm_num) (back4_eq e) a ha h
theorem back16_eq (ha : a < 544) (h : 15 ≤ a) : back16 e a = ∑ k ∈ Finset.range 16, e (a - k) :=
  rotSum_back e _ 8 (by norm_num) (back8_eq e) a ha h
theorem ahead2_eq (ha : a + 2 ≤ 528) : ahead2 e a = ∑ k ∈ Finset.range 2, e (a + k) :=
  rotSum_ahead e e 1 (by norm_num) (by norm_num) (fun _ _ => by simp) a ha
theorem ahead4_eq (ha : a + 4 ≤ 528) : ahead4 e a = ∑ k ∈ Finset.range 4, e (a + k) :=
  rotSum_ahead e _ 2 (by norm_num) (by norm_num) (ahead2_eq e) a ha
theorem ahead8_eq (ha : a + 8 ≤ 528) : ahead8 e a = ∑ k ∈ Finset.range 8, e (a + k) :=
  rotSum_ahead e _ 4 (by norm_num) (by norm_num) (ahead4_eq e) a ha
theorem ahead16_eq (ha : a + 16 ≤ 528) : ahead16 e a = ∑ k ∈ Finset.range 16, e (a + k) :=
  rotSum_ahead e _ 8 (by norm_num) (by norm_num) (ahead8_eq e) a ha
end

/-- The pool's input over a tile with the sixteen rows after it, and with those before it too. -/
def zx (a j : ℕ) : ℝ := if a < 512 then I.zb (512 * t + a) j else Zn (a - 512) j
def ext (a j : ℕ) : ℝ := if a < 16 then (if t = 0 then 0 else Zp a j) else zx I t Zn (a - 16) j
/-- The pool's cotangent over a tile and the sixteen rows after it. -/
def dx (a j : ℕ) : ℝ := if a < 512 then I.D (512 * t + a) (512 + j) else Dn (a - 512) j

section
variable (hZ : 0 < t → ∀ r < 16, ∀ j, Zp r j = I.zb (512 * t - 16 + r) j)
  (hD : ∀ r < 16, 512 * t + 512 + r < 4096 → ∀ j, Dn r j = I.D (512 * t + 512 + r) (512 + j))
include hZ in
theorem sum_ext (w : ℕ) (hw : w ≤ 16) {q : ℕ} (hq : q < 512) (j : ℕ) :
    ∑ k ∈ Finset.range w, ext I t Zp Zn (16 + q - k) j = back (fun i => I.zb i j) w (512 * t + q) := by
  refine Finset.sum_congr rfl fun k hk => ?_
  have hk := Finset.mem_range.mp hk
  unfold ext
  split
  · split
    · rw [if_neg (by omega)]
    · rw [if_pos (by omega), hZ (by omega) _ (by omega)]
      congr 1; omega
  · rw [if_pos (by omega), zx, if_pos (by omega)]
    congr 1; omega
include hD in
theorem dx_eq {a : ℕ} (ha : a < 528) (h : 512 * t + a < 4096) (j : ℕ) : dx I t Dn a j = I.D (512 * t + a) (512 + j) := by
  unfold dx
  split
  · rfl
  · rw [hD _ (by omega) (by omega)]
    congr 1; omega
end

theorem sel_first (hi : (i 0).val = t) (ht : t < 8) {α : Type} (x y : α) :
    Scalar.select (kernelRun0_B.sl.v0 i)  x y = if t = 0 then x else y := by
  simp only [kernelRun0_B.sl.v0, hi]
  interval_cases t <;> rfl
theorem pos_val (ht : t < 8) {a : ℕ} (ha : a < 528) :
    ((Scalar.muli (BitVec.ofNat 32 t) 512#32 + BitVec.ofNat 32 a).toInt : ℝ) = ((512 * t + a : ℕ) : ℝ) := by
  have h : (Scalar.muli (BitVec.ofNat 32 t) 512#32 + BitVec.ofNat 32 a).toNat = 512 * t + a := by
    show (BitVec.ofNat 32 t * 512#32 + BitVec.ofNat 32 a).toNat = _
    simp only [BitVec.toNat_add, BitVec.toNat_mul, BitVec.toNat_ofNat]
    omega
  rw [BitVec.toInt_eq_toNat_of_lt (by rw [h]; omega), h]
  norm_cast
theorem sel_lt (x y : ℝ) {α : Type} (p q : α) :
    Scalar.select (FloatOps.cmpf (F := Ideal) (φ := .f32) .olt (x : EReal) (y : EReal)) p q = if x < y then p else q := by
  show (if Ideal.cmp .olt (x : EReal) (y : EReal) = 1 then p else q) = _
  simp only [Ideal.cmp, EReal.coe_lt_coe_iff]
  by_cases h : x < y <;> simp [h]

theorem concat_rows_of {α : Type} {m k n p : ℕ} {x : Shape.Idx ⟨2, ![m, n]⟩ → α} {y : Shape.Idx ⟨2, ![k, n]⟩ → α} {f g : ℕ → ℕ → α}
    (hx : x = tab f) (hy : y = tab g) (h) :
    concatenate (⟨2, ![p, n]⟩ : Shape) 0 [⟨⟨2, ![m, n]⟩, x⟩, ⟨⟨2, ![k, n]⟩, y⟩] h
      = tab fun a b => if a < m then f a b else g (a - m) b := by
  subst hx; subst hy; exact concat_rows f g h
theorem concat_cols_of {α : Type} {m : ℕ} {x₀ x₁ x₂ x₃ : Shape.Idx ⟨2, ![m, 128]⟩ → α} {f : ℕ → ℕ → α}
    (h₀ : x₀ = tab fun a b => f a (0 + b)) (h₁ : x₁ = tab fun a b => f a (128 + b)) (h₂ : x₂ = tab fun a b => f a (256 + b))
    (h₃ : x₃ = tab fun a b => f a (384 + b)) (h) :
    concatenate (⟨2, ![m, 512]⟩ : Shape) 1 [⟨⟨2, ![m, 128]⟩, x₀⟩, ⟨⟨2, ![m, 128]⟩, x₁⟩, ⟨⟨2, ![m, 128]⟩, x₂⟩, ⟨⟨2, ![m, 128]⟩, x₃⟩] h
      = tab f := by
  subst h₀; subst h₁; subst h₂; subst h₃
  refine (concat_cols (k := 128) _ _ _ _ h).trans (tab_congr fun a _ b _ => ?_)
  split
  · rw [Nat.zero_add]
  · split
    · rw [show 128 + (b - 128) = b by omega]
    · split
      · rw [show 256 + (b - 128 - 128) = b by omega]
      · rw [show 384 + (b - 128 - 128 - 128) = b by omega]
theorem c_1 : kernelRun0_B.sl.cst_250 (F := Ideal) = ((1 : ℝ) : EReal) := c_one
theorem c_0 : kernelRun0_B.sl.cst_247 (F := Ideal) = ((0 : ℝ) : EReal) := c_zero
theorem c_2 : kernelRun0_B.sl.cst_251 (F := Ideal) = ((2 : ℕ) : ℝ) := by
  show Ideal.ofBits .f32 1073741824#32 = _
  simp [Ideal.ofBits, Ideal.ieee, -EReal.coe_mul]; norm_num
theorem c_4 : kernelRun0_B.sl.cst_254 (F := Ideal) = ((4 : ℕ) : ℝ) := by
  show Ideal.ofBits .f32 1082130432#32 = _
  simp [Ideal.ofBits, Ideal.ieee, -EReal.coe_mul]; norm_num
theorem c_8 : kernelRun0_B.sl.cst_257 (F := Ideal) = ((8 : ℕ) : ℝ) := by
  show Ideal.ofBits .f32 1090519040#32 = _
  simp [Ideal.ofBits, Ideal.ieee, -EReal.coe_mul]; norm_num
theorem c_16 : kernelRun0_B.sl.cst_260 (F := Ideal) = ((16 : ℕ) : ℝ) := by
  show Ideal.ofBits .f32 1098907648#32 = _
  simp [Ideal.ofBits, Ideal.ieee, -EReal.coe_mul]; norm_num
theorem c_4096 : kernelRun0_B.sl.cst_287 (F := Ideal) = ((4096 : ℝ) : EReal) := by
  show Ideal.ofBits .f32 1166016512#32 = _
  simp [Ideal.ofBits, Ideal.ieee, -EReal.coe_mul]; norm_num
theorem min_coe (x y : ℝ) : min (x : EReal) (y : EReal) = ((min x y : ℝ) : EReal) := (EReal.coe_strictMono.monotone.map_min).symm
theorem cnt_pos {w : ℕ} (hw : 0 < w) (s : ℕ) : 0 < cnt w s := lt_min (by positivity) (by exact_mod_cast hw)
theorem inv_cnt {w : ℕ} (hw : 0 < w) (s : ℕ) :
    Ideal.div ((1 : ℝ) : EReal) ((cnt w s : ℝ) : EReal) = ((1 / cnt w s : ℝ) : EReal) := div_real (cnt_pos hw s).ne'

section
variable (hi : (i 0).val = t) (ht : t < 8)
include hi ht

theorem w_v489 : kernelRun0_B.sl.v489 (F := Ideal) i = tab fun a _ => (((512 * t + a : ℕ) : ℝ) : EReal) := by
  simp only [kernelRun0_B.sl.v489, kernelRun0_B.sl.v488, kernelRun0_B.sl.v487, kernelRun0_B.sl.v486, kernelRun0_B.sl.v485, hi, iota_528, broadcast_tab, addi_tab, sitofp_tab]
  exact tab_congr fun a ha b _ => congrArg _ (pos_val t ht ha)
theorem w_v491 : kernelRun0_B.sl.v491 (F := Ideal) i = tab fun a _ => ((((512 * t + a : ℕ) : ℝ) + 1 : ℝ) : EReal) := by
  simp only [kernelRun0_B.sl.v491, kernelRun0_B.sl.v490, w_v489 t i hi ht, c_1, broadcast_tab, addf_tab, ← EReal.coe_add]
theorem w_v495 : kernelRun0_B.sl.v495 (F := Ideal) i = tab fun a _ => ((1 / cnt 2 (512 * t + a) : ℝ) : EReal) := by
  simp only [kernelRun0_B.sl.v495, kernelRun0_B.sl.v493, kernelRun0_B.sl.v492, kernelRun0_B.sl.v490, w_v491 t i hi ht, c_1, c_2, broadcast_tab, minimumf_tab, min_coe, divf_tab]
  exact tab_congr fun a _ b _ => inv_cnt (by norm_num) _
theorem w_v501 : kernelRun0_B.sl.v501 (F := Ideal) i = tab fun a _ => ((1 / cnt 4 (512 * t + a) : ℝ) : EReal) := by
  simp only [kernelRun0_B.sl.v501, kernelRun0_B.sl.v499, kernelRun0_B.sl.v498, kernelRun0_B.sl.v490, w_v491 t i hi ht, c_1, c_4, broadcast_tab, minimumf_tab, min_coe, divf_tab]
  exact tab_congr fun a _ b _ => inv_cnt (by norm_num) _
theorem w_v507 : kernelRun0_B.sl.v507 (F := Ideal) i = tab fun a _ => ((1 / cnt 8 (512 * t + a) : ℝ) : EReal) := by
  simp only [kernelRun0_B.sl.v507, kernelRun0_B.sl.v505, kernelRun0_B.sl.v504, kernelRun0_B.sl.v490, w_v491 t i hi ht, c_1, c_8, broadcast_tab, minimumf_tab, min_coe, divf_tab]
  exact tab_congr fun a _ b _ => inv_cnt (by norm_num) _
theorem w_v513 : kernelRun0_B.sl.v513 (F := Ideal) i = tab fun a _ => ((1 / cnt 16 (512 * t + a) : ℝ) : EReal) := by
  simp only [kernelRun0_B.sl.v513, kernelRun0_B.sl.v511, kernelRun0_B.sl.v510, kernelRun0_B.sl.v490, w_v491 t i hi ht, c_1, c_16, broadcast_tab, minimumf_tab, min_coe, divf_tab]
  exact tab_congr fun a _ b _ => inv_cnt (by norm_num) _
theorem w_v469 : kernelRun0_B.sl.v469 (F := Ideal) c i arg2 harg2 (X1 Zp) = tab fun a j => (((if t = 0 then 0 else Zp a j : ℝ)) : EReal) := by
  simp only [kernelRun0_B.sl.v469, kernelRun0_B.sl.v468, sel_first t i hi ht, X1, load_tab c arg2 harg2, c_0, broadcast_tab]
  refine Eq.trans (b := tab fun a j => if t = 0 then ((0 : ℝ) : EReal) else ((Zp a j : ℝ) : EReal)) ?_ ?_
  · split <;> simp
  · exact tab_congr fun a _ b _ => by split <;> rfl
omit hi ht in
theorem w_v471 : kernelRun0_B.sl.v471 (F := Ideal) c arg1 harg1 arg3 harg3 (X0 I t) (X2 Zn) = tab fun a j => ((zx I t Zn a j : ℝ) : EReal) := by
  simp only [kernelRun0_B.sl.v471, X0, X2]
  refine (concat_rows_of (load_tab c arg1 harg1 ..) (load_tab c arg3 harg3 ..) _).trans ?_
  exact tab_congr fun a _ b _ => by unfold zx Inp.zb; split <;> simp only [Nat.zero_add]
theorem w_v472 : kernelRun0_B.sl.v472 (F := Ideal) c i arg1 harg1 arg2 harg2 arg3 harg3 (X0 I t) (X1 Zp) (X2 Zn) = tab fun a j => ((ext I t Zp Zn a j : ℝ) : EReal) := by
  simp only [kernelRun0_B.sl.v472]
  refine (concat_rows_of (w_v469 t Zp c i arg2 harg2 hi ht) (w_v471 I t Zn c arg1 harg1 arg3 harg3) _).trans ?_
  exact tab_congr fun a _ b _ => by unfold ext; split <;> rfl
theorem w_v474 : kernelRun0_B.sl.v474 (F := Ideal) c i arg1 harg1 arg2 harg2 arg3 harg3 (X0 I t) (X1 Zp) (X2 Zn) = tab fun a j => ((back2 (fun q => ext I t Zp Zn q j) a : ℝ) : EReal) := by
  simp only [kernelRun0_B.sl.v474, kernelRun0_B.sl.v473, w_v472 I t Zp Zn c i arg1 harg1 arg2 harg2 arg3 harg3 hi ht, rotate_tab, addf_tab, ← EReal.coe_add]
  rfl
theorem w_v477 : kernelRun0_B.sl.v477 (F := Ideal) c i arg1 harg1 arg2 harg2 arg3 harg3 (X0 I t) (X1 Zp) (X2 Zn) = tab fun a j => ((back4 (fun q => ext I t Zp Zn q j) a : ℝ) : EReal) := by
  simp only [kernelRun0_B.sl.v477, kernelRun0_B.sl.v476, w_v474 I t Zp Zn c i arg1 harg1 arg2 harg2 arg3 harg3 hi ht, rotate_tab, addf_tab, ← EReal.coe_add]
  rfl
theorem w_v480 : kernelRun0_B.sl.v480 (F := Ideal) c i arg1 harg1 arg2 harg2 arg3 harg3 (X0 I t) (X1 Zp) (X2 Zn) = tab fun a j => ((back8 (fun q => ext I t Zp Zn q j) a : ℝ) : EReal) := by
  simp only [kernelRun0_B.sl.v480, kernelRun0_B.sl.v479, w_v477 I t Zp Zn c i arg1 harg1 arg2 harg2 arg3 harg3 hi ht, rotate_tab, addf_tab, ← EReal.coe_add]
  rfl
theorem w_v483 : kernelRun0_B.sl.v483 (F := Ideal) c i arg1 harg1 arg2 harg2 arg3 harg3 (X0 I t) (X1 Zp) (X2 Zn) = tab fun a j => ((back16 (fun q => ext I t Zp Zn q j) a : ℝ) : EReal) := by
  simp only [kernelRun0_B.sl.v483, kernelRun0_B.sl.v482, w_v480 I t Zp Zn c i arg1 harg1 arg2 harg2 arg3 harg3 hi ht, rotate_tab, addf_tab, ← EReal.coe_add]
  rfl
end
theorem w_v516 : kernelRun0_B.sl.v516 (F := Ideal) c arg4 harg4 arg5 harg5 (X3 I t) (X4 Dn) = tab fun a j => ((dx I t Dn a j : ℝ) : EReal) := by
  simp only [kernelRun0_B.sl.v516, X3, X4]
  refine (concat_rows_of (load_tab c arg4 harg4 ..) (load_tab c arg5 harg5 ..) _).trans ?_
  exact tab_congr fun a _ b _ => by unfold dx; split <;> simp only [Nat.zero_add]
theorem w_v520 : kernelRun0_B.sl.v520 (F := Ideal) c arg4 harg4 arg5 harg5 arg12 harg12 (X3 I t) (X4 Dn) (X11 I) = tab fun a j => ((dx I t Dn a j * I.Sc j : ℝ) : EReal) := by
  simp only [kernelRun0_B.sl.v520, kernelRun0_B.sl.v519, kernelRun0_B.sl.v518, w_v516, X11, load_tab c arg12 harg12, cast_tab, broadcastTo_row, mulf_tab, Nat.zero_add, ← EReal.coe_mul]
theorem dx_low {a : ℕ} (ha : a < 512) (j : ℕ) : dx I t Dn a j = I.D (512 * t + a) (512 + j) := if_pos ha
theorem w_v526 : kernelRun0_B.sl.v526 (F := Ideal) c arg4 harg4 arg5 harg5 arg12 harg12 arg20 harg20 (X3 I t) (X4 Dn) (X11 I) (Q15 qbp) = tab fun _ j => ((qbp j + I.dbp (512 * t) 512 j : ℝ) : EReal) := by
  simp only [kernelRun0_B.sl.v526, kernelRun0_B.sl.v525, kernelRun0_B.sl.v524, kernelRun0_B.sl.v523, kernelRun0_B.sl.v522, w_v520, Q15, load_tab c arg20 harg20, slice_tab, cast_tab, cols_512, cast_row, addf_tab, coe_sum, Nat.zero_add,
    ← EReal.coe_add]
  refine tab_congr fun _ _ b _ => congrArg _ (congrArg _ (Finset.sum_congr rfl fun k hk => ?_))
  rw [dx_low I t Dn (Finset.mem_range.mp hk)]; rfl

/-! ### The four groups of the pool -/

theorem win_eq (g : ℕ) {b : ℕ} (hb : b < 128) : win (g * 128 + b) = 2 ^ (g + 1) := by
  rw [win, show (g * 128 + b) / 128 = g by omega]
theorem w_cst_276 : kernelRun0_B.sl.cst_276 (F := Ideal) = tab fun _ _ => 0 := zero_tab
theorem w_cst_286 : kernelRun0_B.sl.cst_286 (F := Ideal) = tab fun _ _ => 0 := zero_tab
/-- The pool's cotangent divided by its window's count, nothing past the last row. -/
def ddq (s j : ℕ) : ℝ := if s < 4096 then I.dd s j * (1 / cnt (win j) s) else 0
section
variable (hZ : 0 < t → ∀ r < 16, ∀ j, Zp r j = I.zb (512 * t - 16 + r) j)
  (hD : ∀ r < 16, 512 * t + 512 + r < 4096 → ∀ j, Dn r j = I.D (512 * t + 512 + r) (512 + j))
include hZ in
theorem diff_at (g w p : ℕ) (hp : p = g * 128) (hw : w = 2 ^ (g + 1)) (h16 : w ≤ 16) {a b : ℕ} (ha : a < 512) (hb : b < 128) (S : ℝ)
    (hS : S = ∑ k ∈ Finset.range w, ext I t Zp Zn (16 + a - k) (p + b)) :
    S * (1 / cnt w (512 * t + a)) - zx I t Zn a (p + b) = I.diff (512 * t + a) (p + b) := by
  subst hp; subst hw
  rw [hS, sum_ext I t Zp Zn hZ _ h16 ha, Inp.diff, win_eq g hb, mul_one_div, zx, if_pos ha]
theorem lin_at (g p : ℕ) (hp : p = g * 128) (s : ℕ) {b : ℕ} (hb : b < 128) :
    ∑ k ∈ Finset.range 128, I.diff s (p + k) * I.P g k b = I.lin s (p + b) := by
  subst hp
  rw [Inp.lin, show (g * 128 + b) / 128 = g by omega, show (g * 128 + b) % 128 = b by omega]
theorem dwp_at (g p : ℕ) (hp : p = g * 128) (a b : ℕ) :
    ∑ s ∈ Finset.range 512, I.diff (512 * t + s) (p + a) * (dx I t Dn s (p + b) * I.Sc (p + b)) = I.dwp (512 * t) 512 g a b := by
  subst hp
  exact Finset.sum_congr rfl fun s hs => by rw [dx_low I t Dn (Finset.mem_range.mp hs)]; rfl
include hD in
theorem dd_at (g p : ℕ) (hp : p = g * 128) {a b : ℕ} (ha : a < 528) (h : 512 * t + a < 4096) (hb : b < 128) :
    ∑ k ∈ Finset.range 128, dx I t Dn a (p + k) * I.Sc (p + k) * I.P g b k = I.dd (512 * t + a) (p + b) := by
  subst hp
  rw [Inp.dd, show (g * 128 + b) / 128 = g by omega, show (g * 128 + b) % 128 = b by omega]
  exact Finset.sum_congr rfl fun k _ => by rw [dx_eq I t Dn hD ha h]; rfl
include hD in
theorem ddq_at (g w p : ℕ) (hp : p = g * 128) (hw : w = 2 ^ (g + 1)) {a b : ℕ} (ha : a < 528) (hb : b < 128) :
    Scalar.select (FloatOps.cmpf (F := Ideal) (φ := .f32) .olt (((512 * t + a : ℕ) : ℝ) : EReal) ((4096 : ℝ) : EReal))
      (((∑ k ∈ Finset.range 128, dx I t Dn a (p + k) * I.Sc (p + k) * I.P g b k) * (1 / cnt w (512 * t + a)) : ℝ) : EReal) ((0 : ℝ) : EReal)
      = ((ddq I (512 * t + a) (p + b) : ℝ) : EReal) := by
  rw [sel_lt, ddq]
  by_cases h : 512 * t + a < 4096
  · rw [if_pos (by exact_mod_cast h), if_pos h, dd_at I t Dn hD g p hp ha h hb]
    subst hp; subst hw
    rw [win_eq g hb]
  · rw [if_neg (by exact_mod_cast h), if_neg h]
end
section
variable (hi : (i 0).val = t) (ht : t < 8) (hZ : 0 < t → ∀ r < 16, ∀ j, Zp r j = I.zb (512 * t - 16 + r) j)
  (hD : ∀ r < 16, 512 * t + 512 + r < 4096 → ∀ j, Dn r j = I.D (512 * t + 512 + r) (512 + j))
include hi ht hZ in
theorem w_v539 : kernelRun0_B.sl.v539 (F := Ideal) c i arg1 harg1 arg2 harg2 arg3 harg3 (X0 I t) (X1 Zp) (X2 Zn) = tab fun a b => ((I.diff (512 * t + (0 + a)) (0 + (0 + b)) : ℝ) : EReal) := by
  simp only [kernelRun0_B.sl.v539, kernelRun0_B.sl.v533, kernelRun0_B.sl.v532, kernelRun0_B.sl.v531, kernelRun0_B.sl.v530, kernelRun0_B.sl.v529, kernelRun0_B.sl.v528, kernelRun0_B.sl.v475, w_v474 I t Zp Zn c i arg1 harg1 arg2 harg2 arg3 harg3 hi ht, w_v471, w_v495 t i hi ht,
    slice_tab, broadcastTo_col, mulf_tab, subf_tab, truncf_tab, ← EReal.coe_mul, ← EReal.coe_sub]
  refine tab_congr fun a ha b hb => congrArg _ ?_
  simp only [Nat.zero_add]
  simpa only [Nat.zero_add] using diff_at I t Zp Zn hZ 0 2 0 rfl rfl (by norm_num) ha hb _
    (back2_eq (fun q => ext I t Zp Zn q (0 + b)) (16 + a) (by omega) (by omega))
omit hi ht hZ hD in
theorem w_v536 : kernelRun0_B.sl.v536 (F := Ideal) c arg10 harg10 (X9 I) = tab fun a b => ((I.P 0 a b : ℝ) : EReal) := by
  simp only [kernelRun0_B.sl.v535, kernelRun0_B.sl.v536, X9, load_tab3 c arg10 harg10, cast_tab3, truncf_tab, Nat.zero_add, Nat.add_zero]
omit hi ht hZ hD in
theorem w_v538 : kernelRun0_B.sl.v538 (F := Ideal) c arg4 harg4 arg5 harg5 arg12 harg12 (X3 I t) (X4 Dn) (X11 I) = tab fun a b => ((dx I t Dn (0 + a) (0 + b) * I.Sc (0 + b) : ℝ) : EReal) := by
  simp only [kernelRun0_B.sl.v538, kernelRun0_B.sl.v537, w_v520, slice_tab, truncf_tab]
include hi ht hZ in
theorem w_v544 : kernelRun0_B.sl.v544 (F := Ideal) c i arg1 harg1 arg2 harg2 arg3 harg3 arg10 harg10 arg11 harg11 (X0 I t) (X1 Zp) (X2 Zn) (X9 I) (X10 bp) = tab fun a b => ((I.lin (512 * t + a) (0 + b) : ℝ) : EReal) + bp (0 + b) := by
  simp only [kernelRun0_B.sl.v544, kernelRun0_B.sl.v540, kernelRun0_B.sl.v542, kernelRun0_B.sl.v543, w_v539 I t Zp Zn c i arg1 harg1 arg2 harg2 arg3 harg3 hi ht hZ, w_v536, w_cst_276, mm_plain_512, X10, load_tab c arg11 harg11, cast_tab, broadcastTo_row,
    addf_tab, coe_sum, ← EReal.coe_mul, Nat.zero_add]
  exact tab_congr fun a ha b hb => by
    simpa only [Nat.zero_add] using congrArg (fun x : ℝ => (x : EReal) + bp (0 + b)) (lin_at I 0 0 rfl (512 * t + a) hb)
include hi ht hZ in
theorem w_v553 : kernelRun0_B.sl.v553 (F := Ideal) c i arg1 harg1 arg2 harg2 arg3 harg3 arg4 harg4 arg5 harg5 arg12 harg12 arg19 harg19 (X0 I t) (X1 Zp) (X2 Zn) (X3 I t) (X4 Dn) (X11 I) (Q13 qwp) = tab3 fun _ a b => ((qwp 0 a b + I.dwp (512 * t) 512 0 a b : ℝ) : EReal) := by
  simp only [kernelRun0_B.sl.v553, kernelRun0_B.sl.v550, kernelRun0_B.sl.v549, kernelRun0_B.sl.v548, kernelRun0_B.sl.v546, w_v539 I t Zp Zn c i arg1 harg1 arg2 harg2 arg3 harg3 hi ht hZ, w_v538, w_cst_32, slice_tab, mm_left_512, Q13, load_tab3 c arg19 harg19,
    cast_tab3, addf_tab, coe_sum, ← EReal.coe_mul, ← EReal.coe_add, cast_to_tab3, Nat.zero_add, Nat.add_zero]
  exact tab3_congr fun l _ a ha b hb => by
    simpa only [Nat.zero_add] using congrArg (fun x : ℝ => ((qwp 0 a b + x : ℝ) : EReal)) (dwp_at I t Dn 0 0 rfl a b)
omit hi ht hZ hD in
theorem w_v554 : kernelRun0_B.sl.v554 (F := Ideal) c arg4 harg4 arg5 harg5 arg10 harg10 arg12 harg12 (X3 I t) (X4 Dn) (X9 I) (X11 I) = tab fun a b => ((∑ k ∈ Finset.range 128, dx I t Dn a (0 + k) * I.Sc (0 + k) * I.P 0 b k : ℝ) : EReal) := by
  simp only [kernelRun0_B.sl.v554, w_v538, w_v536, w_cst_286, mm_right_528, coe_sum, ← EReal.coe_mul, Nat.zero_add]
include hi ht hD in
theorem w_v562 : kernelRun0_B.sl.v562 (F := Ideal) c i arg4 harg4 arg5 harg5 arg10 harg10 arg12 harg12 (X3 I t) (X4 Dn) (X9 I) (X11 I) = tab fun a b => ((ddq I (512 * t + a) (0 + b) : ℝ) : EReal) := by
  simp only [kernelRun0_B.sl.v562, kernelRun0_B.sl.v558, kernelRun0_B.sl.v529, kernelRun0_B.sl.v561, kernelRun0_B.sl.v560, kernelRun0_B.sl.v559, kernelRun0_B.sl.v556, kernelRun0_B.sl.v555, w_v554, w_v489 t i hi ht, w_v495 t i hi ht, c_4096, c_0, broadcast_tab, broadcastTo_col, cast_tab, mulf_tab,
    cmpf_tab, select_tab, ← EReal.coe_mul]
  exact tab_congr fun a ha b hb => ddq_at I t Dn hD 0 2 0 rfl rfl ha hb
end
section
variable (hi : (i 0).val = t) (ht : t < 8) (hZ : 0 < t → ∀ r < 16, ∀ j, Zp r j = I.zb (512 * t - 16 + r) j)
  (hD : ∀ r < 16, 512 * t + 512 + r < 4096 → ∀ j, Dn r j = I.D (512 * t + 512 + r) (512 + j))
include hi ht hZ in
theorem w_v574 : kernelRun0_B.sl.v574 (F := Ideal) c i arg1 harg1 arg2 harg2 arg3 harg3 (X0 I t) (X1 Zp) (X2 Zn) = tab fun a b => ((I.diff (512 * t + (0 + a)) (128 + (0 + b)) : ℝ) : EReal) := by
  simp only [kernelRun0_B.sl.v574, kernelRun0_B.sl.v568, kernelRun0_B.sl.v567, kernelRun0_B.sl.v566, kernelRun0_B.sl.v565, kernelRun0_B.sl.v564, kernelRun0_B.sl.v563, kernelRun0_B.sl.v478, w_v477 I t Zp Zn c i arg1 harg1 arg2 harg2 arg3 harg3 hi ht, w_v471, w_v501 t i hi ht,
    slice_tab, broadcastTo_col, mulf_tab, subf_tab, truncf_tab, ← EReal.coe_mul, ← EReal.coe_sub]
  refine tab_congr fun a ha b hb => congrArg _ ?_
  simp only [Nat.zero_add]
  simpa only [Nat.zero_add] using diff_at I t Zp Zn hZ 1 4 128 rfl rfl (by norm_num) ha hb _
    (back4_eq (fun q => ext I t Zp Zn q (128 + b)) (16 + a) (by omega) (by omega))
omit hi ht hZ hD in
theorem w_v571 : kernelRun0_B.sl.v571 (F := Ideal) c arg10 harg10 (X9 I) = tab fun a b => ((I.P 1 a b : ℝ) : EReal) := by
  simp only [kernelRun0_B.sl.v570, kernelRun0_B.sl.v571, X9, load_tab3 c arg10 harg10, cast_tab3, truncf_tab, Nat.zero_add, Nat.add_zero]
omit hi ht hZ hD in
theorem w_v573 : kernelRun0_B.sl.v573 (F := Ideal) c arg4 harg4 arg5 harg5 arg12 harg12 (X3 I t) (X4 Dn) (X11 I) = tab fun a b => ((dx I t Dn (0 + a) (128 + b) * I.Sc (128 + b) : ℝ) : EReal) := by
  simp only [kernelRun0_B.sl.v573, kernelRun0_B.sl.v572, w_v520, slice_tab, truncf_tab]
include hi ht hZ in
theorem w_v579 : kernelRun0_B.sl.v579 (F := Ideal) c i arg1 harg1 arg2 harg2 arg3 harg3 arg10 harg10 arg11 harg11 (X0 I t) (X1 Zp) (X2 Zn) (X9 I) (X10 bp) = tab fun a b => ((I.lin (512 * t + a) (128 + b) : ℝ) : EReal) + bp (128 + b) := by
  simp only [kernelRun0_B.sl.v579, kernelRun0_B.sl.v575, kernelRun0_B.sl.v577, kernelRun0_B.sl.v578, w_v574 I t Zp Zn c i arg1 harg1 arg2 harg2 arg3 harg3 hi ht hZ, w_v571, w_cst_276, mm_plain_512, X10, load_tab c arg11 harg11, cast_tab, broadcastTo_row,
    addf_tab, coe_sum, ← EReal.coe_mul, Nat.zero_add]
  exact tab_congr fun a ha b hb => by
    simpa only [Nat.zero_add] using congrArg (fun x : ℝ => (x : EReal) + bp (128 + b)) (lin_at I 1 128 rfl (512 * t + a) hb)
include hi ht hZ in
theorem w_v588 : kernelRun0_B.sl.v588 (F := Ideal) c i arg1 harg1 arg2 harg2 arg3 harg3 arg4 harg4 arg5 harg5 arg12 harg12 arg19 harg19 (X0 I t) (X1 Zp) (X2 Zn) (X3 I t) (X4 Dn) (X11 I) (Q13 qwp) = tab3 fun _ a b => ((qwp 1 a b + I.dwp (512 * t) 512 1 a b : ℝ) : EReal) := by
  simp only [kernelRun0_B.sl.v588, kernelRun0_B.sl.v585, kernelRun0_B.sl.v584, kernelRun0_B.sl.v583, kernelRun0_B.sl.v580, kernelRun0_B.sl.v581, w_v574 I t Zp Zn c i arg1 harg1 arg2 harg2 arg3 harg3 hi ht hZ, w_v573, w_cst_32, slice_tab, mm_left_512, Q13, load_tab3 c arg19 harg19,
    cast_tab3, addf_tab, coe_sum, ← EReal.coe_mul, ← EReal.coe_add, cast_to_tab3, Nat.zero_add, Nat.add_zero]
  exact tab3_congr fun l _ a ha b hb => by
    simpa only [Nat.zero_add] using congrArg (fun x : ℝ => ((qwp 1 a b + x : ℝ) : EReal)) (dwp_at I t Dn 1 128 rfl a b)
omit hi ht hZ hD in
theorem w_v589 : kernelRun0_B.sl.v589 (F := Ideal) c arg4 harg4 arg5 harg5 arg10 harg10 arg12 harg12 (X3 I t) (X4 Dn) (X9 I) (X11 I) = tab fun a b => ((∑ k ∈ Finset.range 128, dx I t Dn a (128 + k) * I.Sc (128 + k) * I.P 1 b k : ℝ) : EReal) := by
  simp only [kernelRun0_B.sl.v589, w_v573, w_v571, w_cst_286, mm_right_528, coe_sum, ← EReal.coe_mul, Nat.zero_add]
include hi ht hD in
theorem w_v597 : kernelRun0_B.sl.v597 (F := Ideal) c i arg4 harg4 arg5 harg5 arg10 harg10 arg12 harg12 (X3 I t) (X4 Dn) (X9 I) (X11 I) = tab fun a b => ((ddq I (512 * t + a) (128 + b) : ℝ) : EReal) := by
  simp only [kernelRun0_B.sl.v597, kernelRun0_B.sl.v593, kernelRun0_B.sl.v564, kernelRun0_B.sl.v561, kernelRun0_B.sl.v560, kernelRun0_B.sl.v559, kernelRun0_B.sl.v556, kernelRun0_B.sl.v555, w_v589, w_v489 t i hi ht, w_v501 t i hi ht, c_4096, c_0, broadcast_tab, broadcastTo_col, cast_tab, mulf_tab,
    cmpf_tab, select_tab, ← EReal.coe_mul]
  exact tab_congr fun a ha b hb => ddq_at I t Dn hD 1 4 128 rfl rfl ha hb
end
section
variable (hi : (i 0).val = t) (ht : t < 8) (hZ : 0 < t → ∀ r < 16, ∀ j, Zp r j = I.zb (512 * t - 16 + r) j)
  (hD : ∀ r < 16, 512 * t + 512 + r < 4096 → ∀ j, Dn r j = I.D (512 * t + 512 + r) (512 + j))
include hi ht hZ in
theorem w_v609 : kernelRun0_B.sl.v609 (F := Ideal) c i arg1 harg1 arg2 harg2 arg3 harg3 (X0 I t) (X1 Zp) (X2 Zn) = tab fun a b => ((I.diff (512 * t + (0 + a)) (256 + (0 + b)) : ℝ) : EReal) := by
  simp only [kernelRun0_B.sl.v609, kernelRun0_B.sl.v603, kernelRun0_B.sl.v602, kernelRun0_B.sl.v601, kernelRun0_B.sl.v600, kernelRun0_B.sl.v599, kernelRun0_B.sl.v598, kernelRun0_B.sl.v481, w_v480 I t Zp Zn c i arg1 harg1 arg2 harg2 arg3 harg3 hi ht, w_v471, w_v507 t i hi ht,
    slice_tab, broadcastTo_col, mulf_tab, subf_tab, truncf_tab, ← EReal.coe_mul, ← EReal.coe_sub]
  refine tab_congr fun a ha b hb => congrArg _ ?_
  simp only [Nat.zero_add]
  simpa only [Nat.zero_add] using diff_at I t Zp Zn hZ 2 8 256 rfl rfl (by norm_num) ha hb _
    (back8_eq (fun q => ext I t Zp Zn q (256 + b)) (16 + a) (by omega) (by omega))
omit hi ht hZ hD in
theorem w_v606 : kernelRun0_B.sl.v606 (F := Ideal) c arg10 harg10 (X9 I) = tab fun a b => ((I.P 2 a b : ℝ) : EReal) := by
  simp only [kernelRun0_B.sl.v605, kernelRun0_B.sl.v606, X9, load_tab3 c arg10 harg10, cast_tab3, truncf_tab, Nat.zero_add, Nat.add_zero]
omit hi ht hZ hD in
theorem w_v608 : kernelRun0_B.sl.v608 (F := Ideal) c arg4 harg4 arg5 harg5 arg12 harg12 (X3 I t) (X4 Dn) (X11 I) = tab fun a b => ((dx I t Dn (0 + a) (256 + b) * I.Sc (256 + b) : ℝ) : EReal) := by
  simp only [kernelRun0_B.sl.v608, kernelRun0_B.sl.v607, w_v520, slice_tab, truncf_tab]
include hi ht hZ in
theorem w_v614 : kernelRun0_B.sl.v614 (F := Ideal) c i arg1 harg1 arg2 harg2 arg3 harg3 arg10 harg10 arg11 harg11 (X0 I t) (X1 Zp) (X2 Zn) (X9 I) (X10 bp) = tab fun a b => ((I.lin (512 * t + a) (256 + b) : ℝ) : EReal) + bp (256 + b) := by
  simp only [kernelRun0_B.sl.v614, kernelRun0_B.sl.v610, kernelRun0_B.sl.v612, kernelRun0_B.sl.v613, w_v609 I t Zp Zn c i arg1 harg1 arg2 harg2 arg3 harg3 hi ht hZ, w_v606, w_cst_276, mm_plain_512, X10, load_tab c arg11 harg11, cast_tab, broadcastTo_row,
    addf_tab, coe_sum, ← EReal.coe_mul, Nat.zero_add]
  exact tab_congr fun a ha b hb => by
    simpa only [Nat.zero_add] using congrArg (fun x : ℝ => (x : EReal) + bp (256 + b)) (lin_at I 2 256 rfl (512 * t + a) hb)
include hi ht hZ in
theorem w_v623 : kernelRun0_B.sl.v623 (F := Ideal) c i arg1 harg1 arg2 harg2 arg3 harg3 arg4 harg4 arg5 harg5 arg12 harg12 arg19 harg19 (X0 I t) (X1 Zp) (X2 Zn) (X3 I t) (X4 Dn) (X11 I) (Q13 qwp) = tab3 fun _ a b => ((qwp 2 a b + I.dwp (512 * t) 512 2 a b : ℝ) : EReal) := by
  simp only [kernelRun0_B.sl.v623, kernelRun0_B.sl.v620, kernelRun0_B.sl.v619, kernelRun0_B.sl.v618, kernelRun0_B.sl.v615, kernelRun0_B.sl.v616, w_v609 I t Zp Zn c i arg1 harg1 arg2 harg2 arg3 harg3 hi ht hZ, w_v608, w_cst_32, slice_tab, mm_left_512, Q13, load_tab3 c arg19 harg19,
    cast_tab3, addf_tab, coe_sum, ← EReal.coe_mul, ← EReal.coe_add, cast_to_tab3, Nat.zero_add, Nat.add_zero]
  exact tab3_congr fun l _ a ha b hb => by
    simpa only [Nat.zero_add] using congrArg (fun x : ℝ => ((qwp 2 a b + x : ℝ) : EReal)) (dwp_at I t Dn 2 256 rfl a b)
omit hi ht hZ hD in
theorem w_v624 : kernelRun0_B.sl.v624 (F := Ideal) c arg4 harg4 arg5 harg5 arg10 harg10 arg12 harg12 (X3 I t) (X4 Dn) (X9 I) (X11 I) = tab fun a b => ((∑ k ∈ Finset.range 128, dx I t Dn a (256 + k) * I.Sc (256 + k) * I.P 2 b k : ℝ) : EReal) := by
  simp only [kernelRun0_B.sl.v624, w_v608, w_v606, w_cst_286, mm_right_528, coe_sum, ← EReal.coe_mul, Nat.zero_add]
include hi ht hD in
theorem w_v632 : kernelRun0_B.sl.v632 (F := Ideal) c i arg4 harg4 arg5 harg5 arg10 harg10 arg12 harg12 (X3 I t) (X4 Dn) (X9 I) (X11 I) = tab fun a b => ((ddq I (512 * t + a) (256 + b) : ℝ) : EReal) := by
  simp only [kernelRun0_B.sl.v632, kernelRun0_B.sl.v628, kernelRun0_B.sl.v599, kernelRun0_B.sl.v561, kernelRun0_B.sl.v560, kernelRun0_B.sl.v559, kernelRun0_B.sl.v556, kernelRun0_B.sl.v555, w_v624, w_v489 t i hi ht, w_v507 t i hi ht, c_4096, c_0, broadcast_tab, broadcastTo_col, cast_tab, mulf_tab,
    cmpf_tab, select_tab, ← EReal.coe_mul]
  exact tab_congr fun a ha b hb => ddq_at I t Dn hD 2 8 256 rfl rfl ha hb
end
section
variable (hi : (i 0).val = t) (ht : t < 8) (hZ : 0 < t → ∀ r < 16, ∀ j, Zp r j = I.zb (512 * t - 16 + r) j)
  (hD : ∀ r < 16, 512 * t + 512 + r < 4096 → ∀ j, Dn r j = I.D (512 * t + 512 + r) (512 + j))
include hi ht hZ in
theorem w_v644 : kernelRun0_B.sl.v644 (F := Ideal) c i arg1 harg1 arg2 harg2 arg3 harg3 (X0 I t) (X1 Zp) (X2 Zn) = tab fun a b => ((I.diff (512 * t + (0 + a)) (384 + (0 + b)) : ℝ) : EReal) := by
  simp only [kernelRun0_B.sl.v644, kernelRun0_B.sl.v638, kernelRun0_B.sl.v637, kernelRun0_B.sl.v636, kernelRun0_B.sl.v635, kernelRun0_B.sl.v634, kernelRun0_B.sl.v633, kernelRun0_B.sl.v484, w_v483 I t Zp Zn c i arg1 harg1 arg2 harg2 arg3 harg3 hi ht, w_v471, w_v513 t i hi ht,
    slice_tab, broadcastTo_col, mulf_tab, subf_tab, truncf_tab, ← EReal.coe_mul, ← EReal.coe_sub]
  refine tab_congr fun a ha b hb => congrArg _ ?_
  simp only [Nat.zero_add]
  simpa only [Nat.zero_add] using diff_at I t Zp Zn hZ 3 16 384 rfl rfl (by norm_num) ha hb _
    (back16_eq (fun q => ext I t Zp Zn q (384 + b)) (16 + a) (by omega) (by omega))
omit hi ht hZ hD in
theorem w_v641 : kernelRun0_B.sl.v641 (F := Ideal) c arg10 harg10 (X9 I) = tab fun a b => ((I.P 3 a b : ℝ) : EReal) := by
  simp only [kernelRun0_B.sl.v640, kernelRun0_B.sl.v641, X9, load_tab3 c arg10 harg10, cast_tab3, truncf_tab, Nat.zero_add, Nat.add_zero]
omit hi ht hZ hD in
theorem w_v643 : kernelRun0_B.sl.v643 (F := Ideal) c arg4 harg4 arg5 harg5 arg12 harg12 (X3 I t) (X4 Dn) (X11 I) = tab fun a b => ((dx I t Dn (0 + a) (384 + b) * I.Sc (384 + b) : ℝ) : EReal) := by
  simp only [kernelRun0_B.sl.v643, kernelRun0_B.sl.v642, w_v520, slice_tab, truncf_tab]
include hi ht hZ in
theorem w_v649 : kernelRun0_B.sl.v649 (F := Ideal) c i arg1 harg1 arg2 harg2 arg3 harg3 arg10 harg10 arg11 harg11 (X0 I t) (X1 Zp) (X2 Zn) (X9 I) (X10 bp) = tab fun a b => ((I.lin (512 * t + a) (384 + b) : ℝ) : EReal) + bp (384 + b) := by
  simp only [kernelRun0_B.sl.v649, kernelRun0_B.sl.v645, kernelRun0_B.sl.v647, kernelRun0_B.sl.v648, w_v644 I t Zp Zn c i arg1 harg1 arg2 harg2 arg3 harg3 hi ht hZ, w_v641, w_cst_276, mm_plain_512, X10, load_tab c arg11 harg11, cast_tab, broadcastTo_row,
    addf_tab, coe_sum, ← EReal.coe_mul, Nat.zero_add]
  exact tab_congr fun a ha b hb => by
    simpa only [Nat.zero_add] using congrArg (fun x : ℝ => (x : EReal) + bp (384 + b)) (lin_at I 3 384 rfl (512 * t + a) hb)
include hi ht hZ in
theorem w_v658 : kernelRun0_B.sl.v658 (F := Ideal) c i arg1 harg1 arg2 harg2 arg3 harg3 arg4 harg4 arg5 harg5 arg12 harg12 arg19 harg19 (X0 I t) (X1 Zp) (X2 Zn) (X3 I t) (X4 Dn) (X11 I) (Q13 qwp) = tab3 fun _ a b => ((qwp 3 a b + I.dwp (512 * t) 512 3 a b : ℝ) : EReal) := by
  simp only [kernelRun0_B.sl.v658, kernelRun0_B.sl.v655, kernelRun0_B.sl.v654, kernelRun0_B.sl.v653, kernelRun0_B.sl.v650, kernelRun0_B.sl.v651, w_v644 I t Zp Zn c i arg1 harg1 arg2 harg2 arg3 harg3 hi ht hZ, w_v643, w_cst_32, slice_tab, mm_left_512, Q13, load_tab3 c arg19 harg19,
    cast_tab3, addf_tab, coe_sum, ← EReal.coe_mul, ← EReal.coe_add, cast_to_tab3, Nat.zero_add, Nat.add_zero]
  exact tab3_congr fun l _ a ha b hb => by
    simpa only [Nat.zero_add] using congrArg (fun x : ℝ => ((qwp 3 a b + x : ℝ) : EReal)) (dwp_at I t Dn 3 384 rfl a b)
omit hi ht hZ hD in
theorem w_v659 : kernelRun0_B.sl.v659 (F := Ideal) c arg4 harg4 arg5 harg5 arg10 harg10 arg12 harg12 (X3 I t) (X4 Dn) (X9 I) (X11 I) = tab fun a b => ((∑ k ∈ Finset.range 128, dx I t Dn a (384 + k) * I.Sc (384 + k) * I.P 3 b k : ℝ) : EReal) := by
  simp only [kernelRun0_B.sl.v659, w_v643, w_v641, w_cst_286, mm_right_528, coe_sum, ← EReal.coe_mul, Nat.zero_add]
include hi ht hD in
theorem w_v667 : kernelRun0_B.sl.v667 (F := Ideal) c i arg4 harg4 arg5 harg5 arg10 harg10 arg12 harg12 (X3 I t) (X4 Dn) (X9 I) (X11 I) = tab fun a b => ((ddq I (512 * t + a) (384 + b) : ℝ) : EReal) := by
  simp only [kernelRun0_B.sl.v667, kernelRun0_B.sl.v663, kernelRun0_B.sl.v634, kernelRun0_B.sl.v561, kernelRun0_B.sl.v560, kernelRun0_B.sl.v559, kernelRun0_B.sl.v556, kernelRun0_B.sl.v555, w_v659, w_v489 t i hi ht, w_v513 t i hi ht, c_4096, c_0, broadcast_tab, broadcastTo_col, cast_tab, mulf_tab,
    cmpf_tab, select_tab, ← EReal.coe_mul]
  exact tab_congr fun a ha b hb => ddq_at I t Dn hD 3 16 384 rfl rfl ha hb
end
-- ==== Proof.MixerBlocks.lean ====
module

public import proofs.«01_k».proof.Proof.MixerTile
public import Idealize.ShloMosaic.Lib.Pipeline.ReadBack

/-! What one step of the mixer's backward pass leaves in each of its results, at the step's number. -/

@[expose] public section

namespace Cert.MixerIdeal.Hand

open Idealize.ShloMosaic Idealize.ShloMosaic.TcCoe Idealize.SL.Sem
open Idealize.ShloMosaic.Pipeline (Dat)
open Cert.MixerIdeal Cert.MixerIdeal.Gen Cert.MixerOps Cert.MixerMath

variable (I : Inp) (t : ℕ) (Zp Zn Dn : ℕ → ℕ → ℝ) (bp : ℕ → EReal) (c : Dev nD)
variable (qws qwp : ℕ → ℕ → ℕ → ℝ) (qbs : ℕ → ℕ → ℝ) (qga qbi qbp : ℕ → ℝ) (qps : ℕ → EReal)
variable (i : grid0.Coords)
variable (arg1 : Memref sig .tc .vmem S512x1536 .f32) (harg1 : arg1.IsWhole) (arg2 : Memref sig .tc .vmem S16x512 .f32) (harg2 : arg2.IsWhole) (arg3 : Memref sig .tc .vmem S16x512 .f32) (harg3 : arg3.IsWhole) (arg4 : Memref sig .tc .vmem S512x1024 .f32) (harg4 : arg4.IsWhole) (arg5 : Memref sig .tc .vmem S16x512 .f32) (harg5 : arg5.IsWhole) (arg6 : Memref sig .tc .vmem S4x128x128 .f32) (harg6 : arg6.IsWhole) (arg7 : Memref sig .tc .vmem S128x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S4x128x128 .f32) (harg10 : arg10.IsWhole) (arg11 : Memref sig .tc .vmem S1x512 .f32) (harg11 : arg11.IsWhole) (arg12 : Memref sig .tc .vmem S1x512 .f32) (harg12 : arg12.IsWhole) (arg14 : Memref sig .tc .vmem S512x1536 .bf16) (harg14 : arg14.IsWhole) (arg15 : Memref sig .tc .vmem S4x128x128 .f32) (harg15 : arg15.IsWhole) (arg16 : Memref sig .tc .vmem S4x128x1 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S4x128x128 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S512x512 .f32) (harg22 : arg22.IsWhole) (arg23 : Memref sig .tc .vmem S512x512 .f32) (harg23 : arg23.IsWhole)

theorem sum_dd (w j : ℕ) (s : ℕ) (hw : win j = w) :
    ∑ k ∈ Finset.range w, ddq I (s + k) j = ahead (fun i => I.dd i j / cnt (win j) i) (win j) s := by
  subst hw
  exact Finset.sum_congr rfl fun k _ => by unfold ddq; split <;> simp only [mul_one_div]

section
variable (hi : (i 0).val = t) (ht : t < 8) (hZ : 0 < t → ∀ r < 16, ∀ j, Zp r j = I.zb (512 * t - 16 + r) j)
  (hD : ∀ r < 16, 512 * t + 512 + r < 4096 → ∀ j, Dn r j = I.D (512 * t + 512 + r) (512 + j))
section
include hi ht hD
theorem w_pay139 : k0_pay139 (kernelRun0_B.sl.v562 (F := Ideal) c i arg4 harg4 arg5 harg5 arg10 harg10 arg12 harg12 (X3 I t) (X4 Dn) (X9 I) (X11 I)) (kernelRun0_B.sl.v597 (F := Ideal) c i arg4 harg4 arg5 harg5 arg10 harg10 arg12 harg12 (X3 I t) (X4 Dn) (X9 I) (X11 I)) (kernelRun0_B.sl.v632 (F := Ideal) c i arg4 harg4 arg5 harg5 arg10 harg10 arg12 harg12 (X3 I t) (X4 Dn) (X9 I) (X11 I)) (kernelRun0_B.sl.v667 (F := Ideal) c i arg4 harg4 arg5 harg5 arg10 harg10 arg12 harg12 (X3 I t) (X4 Dn) (X9 I) (X11 I)) = tab fun a j => ((ahead2 (fun q => ddq I (512 * t + q) j) a : ℝ) : EReal) := by
  simp only [k0_pay139]
  rw [concat_cols_of (f := fun a j => ((ddq I (512 * t + a) j : ℝ) : EReal)) (w_v562 I t Dn c i arg4 harg4 arg5 harg5 arg10 harg10 arg12 harg12 hi ht hD) (w_v597 I t Dn c i arg4 harg4 arg5 harg5 arg10 harg10 arg12 harg12 hi ht hD) (w_v632 I t Dn c i arg4 harg4 arg5 harg5 arg10 harg10 arg12 harg12 hi ht hD) (w_v667 I t Dn c i arg4 harg4 arg5 harg5 arg10 harg10 arg12 harg12 hi ht hD)]
  rfl
theorem w_pay140 : k0_pay140 (kernelRun0_B.sl.v562 (F := Ideal) c i arg4 harg4 arg5 harg5 arg10 harg10 arg12 harg12 (X3 I t) (X4 Dn) (X9 I) (X11 I)) (kernelRun0_B.sl.v597 (F := Ideal) c i arg4 harg4 arg5 harg5 arg10 harg10 arg12 harg12 (X3 I t) (X4 Dn) (X9 I) (X11 I)) (kernelRun0_B.sl.v632 (F := Ideal) c i arg4 harg4 arg5 harg5 arg10 harg10 arg12 harg12 (X3 I t) (X4 Dn) (X9 I) (X11 I)) (kernelRun0_B.sl.v667 (F := Ideal) c i arg4 harg4 arg5 harg5 arg10 harg10 arg12 harg12 (X3 I t) (X4 Dn) (X9 I) (X11 I)) = tab fun a j => ((ahead4 (fun q => ddq I (512 * t + q) j) a : ℝ) : EReal) := by
  simp only [k0_pay140, w_pay139 I t Dn c i arg4 harg4 arg5 harg5 arg10 harg10 arg12 harg12 hi ht hD, rotate_tab, addf_tab, ← EReal.coe_add]
  rfl
theorem w_pay141 : k0_pay141 (kernelRun0_B.sl.v562 (F := Ideal) c i arg4 harg4 arg5 harg5 arg10 harg10 arg12 harg12 (X3 I t) (X4 Dn) (X9 I) (X11 I)) (kernelRun0_B.sl.v597 (F := Ideal) c i arg4 harg4 arg5 harg5 arg10 harg10 arg12 harg12 (X3 I t) (X4 Dn) (X9 I) (X11 I)) (kernelRun0_B.sl.v632 (F := Ideal) c i arg4 harg4 arg5 harg5 arg10 harg10 arg12 harg12 (X3 I t) (X4 Dn) (X9 I) (X11 I)) (kernelRun0_B.sl.v667 (F := Ideal) c i arg4 harg4 arg5 harg5 arg10 harg10 arg12 harg12 (X3 I t) (X4 Dn) (X9 I) (X11 I)) = tab fun a j => ((ahead8 (fun q => ddq I (512 * t + q) j) a : ℝ) : EReal) := by
  simp only [k0_pay141, w_pay140 I t Dn c i arg4 harg4 arg5 harg5 arg10 harg10 arg12 harg12 hi ht hD, rotate_tab, addf_tab, ← EReal.coe_add]
  rfl
theorem w_pay142 : addf (k0_pay141 (kernelRun0_B.sl.v562 (F := Ideal) c i arg4 harg4 arg5 harg5 arg10 harg10 arg12 harg12 (X3 I t) (X4 Dn) (X9 I) (X11 I)) (kernelRun0_B.sl.v597 (F := Ideal) c i arg4 harg4 arg5 harg5 arg10 harg10 arg12 harg12 (X3 I t) (X4 Dn) (X9 I) (X11 I)) (kernelRun0_B.sl.v632 (F := Ideal) c i arg4 harg4 arg5 harg5 arg10 harg10 arg12 harg12 (X3 I t) (X4 Dn) (X9 I) (X11 I)) (kernelRun0_B.sl.v667 (F := Ideal) c i arg4 harg4 arg5 harg5 arg10 harg10 arg12 harg12 (X3 I t) (X4 Dn) (X9 I) (X11 I))) (dynamicRotate 0 520#32 none (k0_pay141 (kernelRun0_B.sl.v562 (F := Ideal) c i arg4 harg4 arg5 harg5 arg10 harg10 arg12 harg12 (X3 I t) (X4 Dn) (X9 I) (X11 I)) (kernelRun0_B.sl.v597 (F := Ideal) c i arg4 harg4 arg5 harg5 arg10 harg10 arg12 harg12 (X3 I t) (X4 Dn) (X9 I) (X11 I)) (kernelRun0_B.sl.v632 (F := Ideal) c i arg4 harg4 arg5 harg5 arg10 harg10 arg12 harg12 (X3 I t) (X4 Dn) (X9 I) (X11 I)) (kernelRun0_B.sl.v667 (F := Ideal) c i arg4 harg4 arg5 harg5 arg10 harg10 arg12 harg12 (X3 I t) (X4 Dn) (X9 I) (X11 I))) rotates_S528x512_d0)
    = tab fun a j => ((ahead16 (fun q => ddq I (512 * t + q) j) a : ℝ) : EReal) := by
  simp only [w_pay141 I t Dn c i arg4 harg4 arg5 harg5 arg10 harg10 arg12 harg12 hi ht hD]
  rfl
theorem dzb_at (g w p : ℕ) (hp : p = g * 128) (hw : w = 2 ^ (g + 1)) {a b : ℕ} (ha : a < 512) (hb : b < 128) (S : ℝ)
    (hS : S = ∑ k ∈ Finset.range w, ddq I (512 * t + (a + k)) (p + b)) :
    S - (∑ k ∈ Finset.range 128, dx I t Dn a (p + k) * I.Sc (p + k) * I.P g b k) = I.dzb (512 * t + a) (p + b) := by
  rw [hS, dd_at I t Dn hD g p hp (by omega) (by omega) hb, Inp.dzb, ← sum_dd I w (p + b) (512 * t + a) (by rw [hp, hw, win_eq g hb])]
  simp only [Nat.add_assoc]
theorem w_dzb0 : k0_pay143 (kernelRun0_B.sl.v554 (F := Ideal) c arg4 harg4 arg5 harg5 arg10 harg10 arg12 harg12 (X3 I t) (X4 Dn) (X9 I) (X11 I)) (kernelRun0_B.sl.v562 (F := Ideal) c i arg4 harg4 arg5 harg5 arg10 harg10 arg12 harg12 (X3 I t) (X4 Dn) (X9 I) (X11 I)) (kernelRun0_B.sl.v597 (F := Ideal) c i arg4 harg4 arg5 harg5 arg10 harg10 arg12 harg12 (X3 I t) (X4 Dn) (X9 I) (X11 I)) (kernelRun0_B.sl.v632 (F := Ideal) c i arg4 harg4 arg5 harg5 arg10 harg10 arg12 harg12 (X3 I t) (X4 Dn) (X9 I) (X11 I)) (kernelRun0_B.sl.v667 (F := Ideal) c i arg4 harg4 arg5 harg5 arg10 harg10 arg12 harg12 (X3 I t) (X4 Dn) (X9 I) (X11 I)) = tab fun a b => ((I.dzb (512 * t + a) (0 + b) : ℝ) : EReal) := by
  simp only [k0_pay143, w_pay139 I t Dn c i arg4 harg4 arg5 harg5 arg10 harg10 arg12 harg12 hi ht hD, w_v554, slice_tab, rotate_tab, addf_tab, subf_tab, truncf_tab, ← EReal.coe_sub, ← EReal.coe_add]
  refine tab_congr fun a ha b hb => congrArg _ ?_
  simp only [Nat.zero_add]
  simpa only [Nat.zero_add] using dzb_at I t Dn i hi ht hD 0 2 0 rfl rfl ha hb _ (ahead2_eq (fun q => ddq I (512 * t + q) (0 + b)) a (by omega))
theorem w_dzb1 : k0_pay144 (kernelRun0_B.sl.v562 (F := Ideal) c i arg4 harg4 arg5 harg5 arg10 harg10 arg12 harg12 (X3 I t) (X4 Dn) (X9 I) (X11 I)) (kernelRun0_B.sl.v589 (F := Ideal) c arg4 harg4 arg5 harg5 arg10 harg10 arg12 harg12 (X3 I t) (X4 Dn) (X9 I) (X11 I)) (kernelRun0_B.sl.v597 (F := Ideal) c i arg4 harg4 arg5 harg5 arg10 harg10 arg12 harg12 (X3 I t) (X4 Dn) (X9 I) (X11 I)) (kernelRun0_B.sl.v632 (F := Ideal) c i arg4 harg4 arg5 harg5 arg10 harg10 arg12 harg12 (X3 I t) (X4 Dn) (X9 I) (X11 I)) (kernelRun0_B.sl.v667 (F := Ideal) c i arg4 harg4 arg5 harg5 arg10 harg10 arg12 harg12 (X3 I t) (X4 Dn) (X9 I) (X11 I)) = tab fun a b => ((I.dzb (512 * t + a) (128 + b) : ℝ) : EReal) := by
  simp only [k0_pay144, w_pay140 I t Dn c i arg4 harg4 arg5 harg5 arg10 harg10 arg12 harg12 hi ht hD, w_v589, slice_tab, rotate_tab, addf_tab, subf_tab, truncf_tab, ← EReal.coe_sub, ← EReal.coe_add]
  refine tab_congr fun a ha b hb => congrArg _ ?_
  simp only [Nat.zero_add]
  simpa only [Nat.zero_add] using dzb_at I t Dn i hi ht hD 1 4 128 rfl rfl ha hb _ (ahead4_eq (fun q => ddq I (512 * t + q) (128 + b)) a (by omega))
theorem w_dzb2 : k0_pay1 (kernelRun0_B.sl.r_17 (F := Ideal) c i arg4 harg4 arg5 harg5 arg10 harg10 arg12 harg12 (X3 I t) (X4 Dn) (X9 I) (X11 I)) (kernelRun0_B.sl.r_18 (F := Ideal) c arg4 harg4 arg5 harg5 arg10 harg10 arg12 harg12 (X3 I t) (X4 Dn) (X9 I) (X11 I)) = tab fun a b => ((I.dzb (512 * t + a) (256 + b) : ℝ) : EReal) := by
  simp only [k0_pay1, kernelRun0_B.sl.r_17, kernelRun0_B.sl.r_18, k0_pay145, k0_pay146, w_pay141 I t Dn c i arg4 harg4 arg5 harg5 arg10 harg10 arg12 harg12 hi ht hD, w_v624, slice_tab, rotate_tab, addf_tab, subf_tab, truncf_tab, ← EReal.coe_sub, ← EReal.coe_add]
  refine tab_congr fun a ha b hb => congrArg _ ?_
  simp only [Nat.zero_add]
  simpa only [Nat.zero_add] using dzb_at I t Dn i hi ht hD 2 8 256 rfl rfl ha hb _ (ahead8_eq (fun q => ddq I (512 * t + q) (256 + b)) a (by omega))
theorem w_dzb3 : k0_pay2 (kernelRun0_B.sl.v659 (F := Ideal) c arg4 harg4 arg5 harg5 arg10 harg10 arg12 harg12 (X3 I t) (X4 Dn) (X9 I) (X11 I)) (kernelRun0_B.sl.r_16 (F := Ideal) c i arg4 harg4 arg5 harg5 arg10 harg10 arg12 harg12 (X3 I t) (X4 Dn) (X9 I) (X11 I)) = tab fun a b => ((I.dzb (512 * t + a) (384 + b) : ℝ) : EReal) := by
  simp only [k0_pay2, kernelRun0_B.sl.r_16, k0_pay142, w_pay142 I t Dn c i arg4 harg4 arg5 harg5 arg10 harg10 arg12 harg12 hi ht hD, w_v659, slice_tab, rotate_tab, addf_tab, subf_tab, truncf_tab, ← EReal.coe_sub, ← EReal.coe_add]
  refine tab_congr fun a ha b hb => congrArg _ ?_
  simp only [Nat.zero_add]
  simpa only [Nat.zero_add] using dzb_at I t Dn i hi ht hD 3 16 384 rfl rfl ha hb _ (ahead16_eq (fun q => ddq I (512 * t + q) (384 + b)) a (by omega))
end
include hi ht hZ in
theorem w_ps : k0_pay138 (kernelRun0_B.sl.v669 (F := Ideal) c arg21 harg21 (Q19 qps)) (kernelRun0_B.sl.v672 (F := Ideal) c i arg1 harg1 arg2 harg2 arg3 harg3 arg4 harg4 arg5 harg5 arg10 harg10 arg11 harg11 (X0 I t) (X1 Zp) (X2 Zn) (X3 I t) (X4 Dn) (X9 I) (X10 bp)) = tab fun _ j =>
    qps j + ∑ s ∈ Finset.range 512, ((I.D (512 * t + s) (512 + j) : ℝ) : EReal) * (((I.lin (512 * t + s) j : ℝ) : EReal) + bp j) := by
  simp only [k0_pay138, kernelRun0_B.sl.v669, kernelRun0_B.sl.v670, kernelRun0_B.sl.v671, kernelRun0_B.sl.v672, w_v516, Q19, load_tab c arg21 harg21, cast_tab, slice_tab]
  rw [concat_cols_of (f := fun a j => ((I.lin (512 * t + a) j : ℝ) : EReal) + bp j)
    ((w_v544 I t Zp Zn bp c i arg1 harg1 arg2 harg2 arg3 harg3 arg10 harg10 arg11 harg11 hi ht hZ).trans (by simp only [Nat.zero_add]))
    (w_v579 I t Zp Zn bp c i arg1 harg1 arg2 harg2 arg3 harg3 arg10 harg10 arg11 harg11 hi ht hZ)
    (w_v614 I t Zp Zn bp c i arg1 harg1 arg2 harg2 arg3 harg3 arg10 harg10 arg11 harg11 hi ht hZ)
    (w_v649 I t Zp Zn bp c i arg1 harg1 arg2 harg2 arg3 harg3 arg10 harg10 arg11 harg11 hi ht hZ)]
  simp only [mulf_tab, cols_512, cast_row, addf_tab, Nat.zero_add]
  exact tab_congr fun _ _ b _ => congrArg _ (Finset.sum_congr rfl fun k hk => by rw [dx_low I t Dn (Finset.mem_range.mp hk)])
end

/-- A slab stored at a place is the box's part there. -/
theorem tab3_piece {L M N l m n : ℕ} (o p q : ℕ) (inb) (g G : ℕ → ℕ → ℕ → EReal)
    (h : ∀ d < l, ∀ a < m, ∀ b < n, g d a b = G (o + d) (p + a) (q + b)) (x : Shape.Idx ⟨3, ![l, m, n]⟩) :
    tab3 (k := l) (m := m) (n := n) g x
      = tab3 (k := L) (m := M) (n := N) G ((Rect.unit (s := ⟨3, ![L, M, N]⟩) ![o, p, q] ![l, m, n] inb).emb x) := by
  refine (h _ (x 0).isLt _ (x 1).isLt _ (x 2).isLt).trans ?_
  show G _ _ _ = G (o + 1 * (x 0).val) (p + 1 * (x 1).val) (q + 1 * (x 2).val)
  rw [Nat.one_mul, Nat.one_mul, Nat.one_mul]

theorem dz_low {s j : ℕ} (h : j < 512) : I.dz s j = I.D s j * I.mixed s j * dgelu (I.Z s j) := if_pos h
theorem dz_mid {s j : ℕ} (h : j < 512) : I.dz s (512 + j) = I.dv s j * dgelu (I.Z s (512 + j)) := by
  rw [Inp.dz, if_neg (by omega), if_pos (by omega), Nat.add_sub_cancel_left]
theorem dz_high (s j : ℕ) : I.dz s (1024 + j) = I.dzb s j := by
  rw [Inp.dz, if_neg (by omega), if_neg (by omega), Nat.add_sub_cancel_left]

section
variable (hcB : ¬cond0_0 i) (hcA : cond0_0 i)
variable (hi : (i 0).val = t) (ht : t < 8) (hZ : 0 < t → ∀ r < 16, ∀ j, Zp r j = I.zb (512 * t - 16 + r) j)
  (hD : ∀ r < 16, 512 * t + 512 + r < 4096 → ∀ j, Dn r j = I.D (512 * t + 512 + r) (512 + j))
include hi ht hD in
theorem outB_12 : out0_B_12 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcB (X0 I t) (X1 Zp) (X2 Zn) (X3 I t) (X4 Dn) (X5 I) (X6 I) (X7 I) (X8 I) (X9 I) (X10 bp) (X11 I) (Q13 qws) (Q14 qbs) (Q15 qga) (Q15 qbi) (Q13 qwp) (Q15 qbp) (Q19 qps) = tab fun a j => ((I.dz (512 * t + a) j : ℝ) : EReal) := by
  have hc := cover0_B_12 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcB (X0 I t) (X1 Zp) (X2 Zn) (X3 I t) (X4 Dn) (X5 I) (X6 I) (X7 I) (X8 I) (X9 I) (X10 bp) (X11 I) (Q13 qws) (Q14 qbs) (Q15 qga) (Q15 qbi) (Q13 qwp) (Q15 qbp) (Q19 qps)
  unfold out0_B_12
  rw [View.read_writes_eq_canon _ _ _ hc]
  funext y
  refine View.canon_apply_of_pieces _ _ ?_ y (hc y)
  unfold kernelRun0_B
  dsimp only
  simp only [List.forall_mem_cons, w_v459, w_v463]
  refine ⟨?_, ?_, ?_, ?_, ?_, ?_, by simp⟩
  · intro x
    rw [w_dzb3 I t Dn c i arg4 harg4 arg5 harg5 arg10 harg10 arg12 harg12 hi ht hD]
    exact tab_piece 0 1408 _ _ _ (fun a _ b _ => by rw [show 1408 + b = 1024 + (384 + b) by omega, dz_high]; simp only [Nat.zero_add]) x
  · intro x
    rw [w_dzb2 I t Dn c i arg4 harg4 arg5 harg5 arg10 harg10 arg12 harg12 hi ht hD]
    exact tab_piece 0 1280 _ _ _ (fun a _ b _ => by rw [show 1280 + b = 1024 + (256 + b) by omega, dz_high]; simp only [Nat.zero_add]) x
  · intro x
    rw [w_dzb1 I t Dn c i arg4 harg4 arg5 harg5 arg10 harg10 arg12 harg12 hi ht hD]
    exact tab_piece 0 1152 _ _ _ (fun a _ b _ => by rw [show 1152 + b = 1024 + (128 + b) by omega, dz_high]; simp only [Nat.zero_add]) x
  · intro x
    rw [w_dzb0 I t Dn c i arg4 harg4 arg5 harg5 arg10 harg10 arg12 harg12 hi ht hD]
    exact tab_piece 0 1024 _ _ _ (fun a _ b _ => by rw [show 1024 + b = 1024 + (0 + b) by omega, dz_high]; simp only [Nat.zero_add]) x
  · exact tab_piece 0 512 _ _ _ fun a _ b hb => by rw [Nat.zero_add, dz_mid I hb]
  · exact tab_piece 0 0 _ _ _ fun a _ b hb => by rw [Nat.zero_add, Nat.zero_add, dz_low I hb]

theorem outB_13 : out0_B_13 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcB (X0 I t) (X1 Zp) (X2 Zn) (X3 I t) (X4 Dn) (X5 I) (X6 I) (X7 I) (X8 I) (X9 I) (X10 bp) (X11 I) (Q13 qws) (Q14 qbs) (Q15 qga) (Q15 qbi) (Q13 qwp) (Q15 qbp) (Q19 qps) = tab3 fun h a b => ((qws h a b + I.dws (4 * t) 4 h a b : ℝ) : EReal) := by
  have hc := cover0_B_13 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcB (X0 I t) (X1 Zp) (X2 Zn) (X3 I t) (X4 Dn) (X5 I) (X6 I) (X7 I) (X8 I) (X9 I) (X10 bp) (X11 I) (Q13 qws) (Q14 qbs) (Q15 qga) (Q15 qbi) (Q13 qwp) (Q15 qbp) (Q19 qps)
  unfold out0_B_13
  rw [View.read_writes_eq_canon _ _ _ hc]
  funext y
  refine View.canon_apply_of_pieces _ _ ?_ y (hc y)
  unfold kernelRun0_B
  dsimp only
  simp only [List.forall_mem_cons, w_v271, w_v322, w_v373, w_v424]
  exact ⟨tab3_piece 3 0 0 _ _ _ fun d hd a _ b _ => by simp only [Nat.zero_add, show d = 0 by omega, Nat.add_zero], tab3_piece 2 0 0 _ _ _ fun d hd a _ b _ => by simp only [Nat.zero_add, show d = 0 by omega, Nat.add_zero], tab3_piece 1 0 0 _ _ _ fun d hd a _ b _ => by simp only [Nat.zero_add, show d = 0 by omega, Nat.add_zero], tab3_piece 0 0 0 _ _ _ fun d hd a _ b _ => by simp only [Nat.zero_add, show d = 0 by omega, Nat.add_zero], by simp⟩

theorem outB_14 : out0_B_14 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcB (X0 I t) (X1 Zp) (X2 Zn) (X3 I t) (X4 Dn) (X5 I) (X6 I) (X7 I) (X8 I) (X9 I) (X10 bp) (X11 I) (Q13 qws) (Q14 qbs) (Q15 qga) (Q15 qbi) (Q13 qwp) (Q15 qbp) (Q19 qps) = tab3 fun h a _ => ((qbs h a + I.dbs (4 * t) 4 h a : ℝ) : EReal) := by
  have hc := cover0_B_14 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcB (X0 I t) (X1 Zp) (X2 Zn) (X3 I t) (X4 Dn) (X5 I) (X6 I) (X7 I) (X8 I) (X9 I) (X10 bp) (X11 I) (Q13 qws) (Q14 qbs) (Q15 qga) (Q15 qbi) (Q13 qwp) (Q15 qbp) (Q19 qps)
  unfold out0_B_14
  rw [View.read_writes_eq_canon _ _ _ hc]
  funext y
  refine View.canon_apply_of_pieces _ _ ?_ y (hc y)
  unfold kernelRun0_B
  dsimp only
  simp only [List.forall_mem_cons, w_v229, w_v280, w_v331, w_v382]
  exact ⟨tab3_piece 3 0 0 _ _ _ fun d hd a _ b _ => by simp only [Nat.zero_add, show d = 0 by omega, Nat.add_zero], tab3_piece 2 0 0 _ _ _ fun d hd a _ b _ => by simp only [Nat.zero_add, show d = 0 by omega, Nat.add_zero], tab3_piece 1 0 0 _ _ _ fun d hd a _ b _ => by simp only [Nat.zero_add, show d = 0 by omega, Nat.add_zero], tab3_piece 0 0 0 _ _ _ fun d hd a _ b _ => by simp only [Nat.zero_add, show d = 0 by omega, Nat.add_zero], by simp⟩

theorem outB_15 : out0_B_15 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcB (X0 I t) (X1 Zp) (X2 Zn) (X3 I t) (X4 Dn) (X5 I) (X6 I) (X7 I) (X8 I) (X9 I) (X10 bp) (X11 I) (Q13 qws) (Q14 qbs) (Q15 qga) (Q15 qbi) (Q13 qwp) (Q15 qbp) (Q19 qps) = tab fun _ j => ((qga j + I.dgain (512 * t) 512 j : ℝ) : EReal) := by
  have hc := cover0_B_15 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcB (X0 I t) (X1 Zp) (X2 Zn) (X3 I t) (X4 Dn) (X5 I) (X6 I) (X7 I) (X8 I) (X9 I) (X10 bp) (X11 I) (Q13 qws) (Q14 qbs) (Q15 qga) (Q15 qbi) (Q13 qwp) (Q15 qbp) (Q19 qps)
  unfold out0_B_15
  rw [View.read_writes_eq_canon _ _ _ hc]
  funext y
  refine View.canon_apply_of_pieces _ _ ?_ y (hc y)
  unfold kernelRun0_B
  dsimp only
  simp only [List.forall_mem_cons, w_v431]
  exact ⟨tab_piece 0 0 _ _ _ fun a _ b _ => by simp only [Nat.zero_add], by simp⟩

theorem outB_16 : out0_B_16 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcB (X0 I t) (X1 Zp) (X2 Zn) (X3 I t) (X4 Dn) (X5 I) (X6 I) (X7 I) (X8 I) (X9 I) (X10 bp) (X11 I) (Q13 qws) (Q14 qbs) (Q15 qga) (Q15 qbi) (Q13 qwp) (Q15 qbp) (Q19 qps) = tab fun _ j => ((qbi j + I.dbias (512 * t) 512 j : ℝ) : EReal) := by
  have hc := cover0_B_16 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcB (X0 I t) (X1 Zp) (X2 Zn) (X3 I t) (X4 Dn) (X5 I) (X6 I) (X7 I) (X8 I) (X9 I) (X10 bp) (X11 I) (Q13 qws) (Q14 qbs) (Q15 qga) (Q15 qbi) (Q13 qwp) (Q15 qbp) (Q19 qps)
  unfold out0_B_16
  rw [View.read_writes_eq_canon _ _ _ hc]
  funext y
  refine View.canon_apply_of_pieces _ _ ?_ y (hc y)
  unfold kernelRun0_B
  dsimp only
  simp only [List.forall_mem_cons, w_v437]
  exact ⟨tab_piece 0 0 _ _ _ fun a _ b _ => by simp only [Nat.zero_add], by simp⟩
include hi ht hZ in
theorem outB_17 : out0_B_17 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcB (X0 I t) (X1 Zp) (X2 Zn) (X3 I t) (X4 Dn) (X5 I) (X6 I) (X7 I) (X8 I) (X9 I) (X10 bp) (X11 I) (Q13 qws) (Q14 qbs) (Q15 qga) (Q15 qbi) (Q13 qwp) (Q15 qbp) (Q19 qps) = tab3 fun h a b => ((qwp h a b + I.dwp (512 * t) 512 h a b : ℝ) : EReal) := by
  have hc := cover0_B_17 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcB (X0 I t) (X1 Zp) (X2 Zn) (X3 I t) (X4 Dn) (X5 I) (X6 I) (X7 I) (X8 I) (X9 I) (X10 bp) (X11 I) (Q13 qws) (Q14 qbs) (Q15 qga) (Q15 qbi) (Q13 qwp) (Q15 qbp) (Q19 qps)
  unfold out0_B_17
  rw [View.read_writes_eq_canon _ _ _ hc]
  funext y
  refine View.canon_apply_of_pieces _ _ ?_ y (hc y)
  unfold kernelRun0_B
  dsimp only
  simp only [List.forall_mem_cons, w_v553 I t Zp Zn Dn c qwp i arg1 harg1 arg2 harg2 arg3 harg3 arg4 harg4 arg5 harg5 arg12 harg12 arg19 harg19 hi ht hZ, w_v588 I t Zp Zn Dn c qwp i arg1 harg1 arg2 harg2 arg3 harg3 arg4 harg4 arg5 harg5 arg12 harg12 arg19 harg19 hi ht hZ, w_v623 I t Zp Zn Dn c qwp i arg1 harg1 arg2 harg2 arg3 harg3 arg4 harg4 arg5 harg5 arg12 harg12 arg19 harg19 hi ht hZ, w_v658 I t Zp Zn Dn c qwp i arg1 harg1 arg2 harg2 arg3 harg3 arg4 harg4 arg5 harg5 arg12 harg12 arg19 harg19 hi ht hZ]
  exact ⟨tab3_piece 3 0 0 _ _ _ fun d hd a _ b _ => by simp only [Nat.zero_add, show d = 0 by omega, Nat.add_zero], tab3_piece 2 0 0 _ _ _ fun d hd a _ b _ => by simp only [Nat.zero_add, show d = 0 by omega, Nat.add_zero], tab3_piece 1 0 0 _ _ _ fun d hd a _ b _ => by simp only [Nat.zero_add, show d = 0 by omega, Nat.add_zero], tab3_piece 0 0 0 _ _ _ fun d hd a _ b _ => by simp only [Nat.zero_add, show d = 0 by omega, Nat.add_zero], by simp⟩

theorem outB_18 : out0_B_18 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcB (X0 I t) (X1 Zp) (X2 Zn) (X3 I t) (X4 Dn) (X5 I) (X6 I) (X7 I) (X8 I) (X9 I) (X10 bp) (X11 I) (Q13 qws) (Q14 qbs) (Q15 qga) (Q15 qbi) (Q13 qwp) (Q15 qbp) (Q19 qps) = tab fun _ j => ((qbp j + I.dbp (512 * t) 512 j : ℝ) : EReal) := by
  have hc := cover0_B_18 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcB (X0 I t) (X1 Zp) (X2 Zn) (X3 I t) (X4 Dn) (X5 I) (X6 I) (X7 I) (X8 I) (X9 I) (X10 bp) (X11 I) (Q13 qws) (Q14 qbs) (Q15 qga) (Q15 qbi) (Q13 qwp) (Q15 qbp) (Q19 qps)
  unfold out0_B_18
  rw [View.read_writes_eq_canon _ _ _ hc]
  funext y
  refine View.canon_apply_of_pieces _ _ ?_ y (hc y)
  unfold kernelRun0_B
  dsimp only
  simp only [List.forall_mem_cons, w_v526]
  exact ⟨tab_piece 0 0 _ _ _ fun a _ b _ => by simp only [Nat.zero_add], by simp⟩
include hi ht hZ in
theorem outB_19 : out0_B_19 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcB (X0 I t) (X1 Zp) (X2 Zn) (X3 I t) (X4 Dn) (X5 I) (X6 I) (X7 I) (X8 I) (X9 I) (X10 bp) (X11 I) (Q13 qws) (Q14 qbs) (Q15 qga) (Q15 qbi) (Q13 qwp) (Q15 qbp) (Q19 qps) = tab fun _ j => qps j + ∑ s ∈ Finset.range 512, ((I.D (512 * t + s) (512 + j) : ℝ) : EReal) * (((I.lin (512 * t + s) j : ℝ) : EReal) + bp j) := by
  have hc := cover0_B_19 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcB (X0 I t) (X1 Zp) (X2 Zn) (X3 I t) (X4 Dn) (X5 I) (X6 I) (X7 I) (X8 I) (X9 I) (X10 bp) (X11 I) (Q13 qws) (Q14 qbs) (Q15 qga) (Q15 qbi) (Q13 qwp) (Q15 qbp) (Q19 qps)
  unfold out0_B_19
  rw [View.read_writes_eq_canon _ _ _ hc]
  funext y
  refine View.canon_apply_of_pieces _ _ ?_ y (hc y)
  unfold kernelRun0_B
  dsimp only
  simp only [List.forall_mem_cons, w_ps I t Zp Zn Dn bp c qps i arg1 harg1 arg2 harg2 arg3 harg3 arg4 harg4 arg5 harg5 arg10 harg10 arg11 harg11 arg21 harg21 hi ht hZ]
  exact ⟨tab_piece 0 0 _ _ _ fun a _ b _ => by simp only [Nat.zero_add], by simp⟩

/-! ### The first step, which begins with nothing -/

theorem zero3 : k0_pay3 (F := Ideal) = Q13 fun _ _ _ => 0 := by funext y; exact Ideal.ofBits_zero_f32
theorem zero4 : k0_pay4 (F := Ideal) = Q14 fun _ _ => 0 := by funext y; exact Ideal.ofBits_zero_f32
theorem zero5 : k0_pay5 (F := Ideal) = Q15 fun _ => 0 := by funext y; exact Ideal.ofBits_zero_f32
theorem zero6 : k0_pay6 (F := Ideal) = Q15 fun _ => 0 := by funext y; exact Ideal.ofBits_zero_f32
theorem zero7 : k0_pay7 (F := Ideal) = Q13 fun _ _ _ => 0 := by funext y; exact Ideal.ofBits_zero_f32
theorem zero8 : k0_pay8 (F := Ideal) = Q15 fun _ => 0 := by funext y; exact Ideal.ofBits_zero_f32
theorem zero9 : k0_pay9 (F := Ideal) = Q19 fun _ => 0 := by funext y; exact Ideal.ofBits_zero_f32
/-- Reading a part of what was filled is reading it in the filling. -/
theorem read_fill {S : Shape} (M : Memref sig .tc .vmem S .f32) (hM : M.IsWhole) {off : Fin S.rank → ℕ} (inb) (Z Q : Vec Ideal S .f32)
    (hZ : Z = Q) (hoff : ∀ a, off a = 0) (B : Rect S) :
    View.readCov (κ := Proc.kind (Dev.tc (τ := τ) c).2) (Memref.view (κ := Proc.kind (Dev.tc (τ := τ) c).2) M)
        [(⟨Rect.unit off S.size inb, Z⟩ : View.Piece (Elt Ideal) S .f32)] B.toLoadRect
      = View.readAt (κ := Proc.kind (Dev.tc (τ := τ) c).2) (Elt Ideal) (Memref.view (κ := Proc.kind (Dev.tc (τ := τ) c).2) M)
        B.toLoadRect (hM.unread Q) := by
  subst hZ
  refine (View.readCov_fill _ inb Z [] B hoff).trans ?_
  refine Eq.symm (Eq.trans (View.readAt_eq_ld ..) ?_)
  exact congrArg (View.ld · _) (hM.read_unread _)
theorem a_v266 : kernelRun0_A.sl.v266 (F := Ideal) c arg15 = kernelRun0_B.sl.v266 (F := Ideal) c arg15 harg15 (Q13 fun _ _ _ => 0) := by
  simp only [kernelRun0_A.sl.v266, kernelRun0_A.sl.v265, kernelRun0_A.sl.H13_1, kernelRun0_B.sl.v266]
  rw [read_fill c arg15 harg15 _ _ _ zero3 (by decide) _]
theorem a_v316 : kernelRun0_A.sl.v316 (F := Ideal) c arg1 harg1 arg4 harg4 arg8 harg8 arg9 harg9 arg15 (X0 I t) (X3 I t) (X7 I) (X8 I) = kernelRun0_B.sl.v316 (F := Ideal) c arg15 harg15 (Q13 fun _ _ _ => 0) := by
  simp only [kernelRun0_A.sl.v316, kernelRun0_A.sl.H13_1, kernelRun0_A.sl.H13_2, kernelRun0_B.sl.v316]
  rw [View.readCov_skip _ _ _ _ _ rfl, read_fill c arg15 harg15 _ _ _ zero3 (by decide) _]
theorem a_v367 : kernelRun0_A.sl.v367 (F := Ideal) c arg1 harg1 arg4 harg4 arg8 harg8 arg9 harg9 arg15 (X0 I t) (X3 I t) (X7 I) (X8 I) = kernelRun0_B.sl.v367 (F := Ideal) c arg15 harg15 (Q13 fun _ _ _ => 0) := by
  simp only [kernelRun0_A.sl.v367, kernelRun0_A.sl.H13_1, kernelRun0_A.sl.H13_2, kernelRun0_A.sl.H13_3, kernelRun0_B.sl.v367]
  rw [View.readCov_skip _ _ _ _ _ rfl, View.readCov_skip _ _ _ _ _ rfl, read_fill c arg15 harg15 _ _ _ zero3 (by decide) _]
theorem a_v418 : kernelRun0_A.sl.v418 (F := Ideal) c arg1 harg1 arg4 harg4 arg8 harg8 arg9 harg9 arg15 (X0 I t) (X3 I t) (X7 I) (X8 I) = kernelRun0_B.sl.v418 (F := Ideal) c arg15 harg15 (Q13 fun _ _ _ => 0) := by
  simp only [kernelRun0_A.sl.v418, kernelRun0_A.sl.H13_1, kernelRun0_A.sl.H13_2, kernelRun0_A.sl.H13_3, kernelRun0_A.sl.H13_4, kernelRun0_B.sl.v418]
  rw [View.readCov_skip _ _ _ _ _ rfl, View.readCov_skip _ _ _ _ _ rfl, View.readCov_skip _ _ _ _ _ rfl, read_fill c arg15 harg15 _ _ _ zero3 (by decide) _]
theorem a_v222 : kernelRun0_A.sl.v222 (F := Ideal) c arg16 = kernelRun0_B.sl.v222 (F := Ideal) c arg16 harg16 (Q14 fun _ _ => 0) := by
  simp only [kernelRun0_A.sl.v222, kernelRun0_A.sl.v221, kernelRun0_A.sl.H14_1, kernelRun0_B.sl.v222, kernelRun0_B.sl.r_15]
  rw [read_fill c arg16 harg16 _ _ _ zero4 (by decide) _]
theorem a_v272 : kernelRun0_A.sl.v272 (F := Ideal) c arg1 harg1 arg4 harg4 arg16 (X0 I t) (X3 I t) = kernelRun0_B.sl.v272 (F := Ideal) c arg16 harg16 (Q14 fun _ _ => 0) := by
  simp only [kernelRun0_A.sl.v272, kernelRun0_A.sl.H14_1, kernelRun0_A.sl.H14_2, kernelRun0_B.sl.v272]
  rw [View.readCov_skip _ _ _ _ _ rfl, read_fill c arg16 harg16 _ _ _ zero4 (by decide) _]
theorem a_v323 : kernelRun0_A.sl.v323 (F := Ideal) c arg1 harg1 arg4 harg4 arg16 (X0 I t) (X3 I t) = kernelRun0_B.sl.v323 (F := Ideal) c arg16 harg16 (Q14 fun _ _ => 0) := by
  simp only [kernelRun0_A.sl.v323, kernelRun0_A.sl.H14_1, kernelRun0_A.sl.H14_2, kernelRun0_A.sl.H14_3, kernelRun0_B.sl.v323]
  rw [View.readCov_skip _ _ _ _ _ rfl, View.readCov_skip _ _ _ _ _ rfl, read_fill c arg16 harg16 _ _ _ zero4 (by decide) _]
theorem a_v374 : kernelRun0_A.sl.v374 (F := Ideal) c arg1 harg1 arg4 harg4 arg16 (X0 I t) (X3 I t) = kernelRun0_B.sl.v374 (F := Ideal) c arg16 harg16 (Q14 fun _ _ => 0) := by
  simp only [kernelRun0_A.sl.v374, kernelRun0_A.sl.H14_1, kernelRun0_A.sl.H14_2, kernelRun0_A.sl.H14_3, kernelRun0_A.sl.H14_4, kernelRun0_B.sl.v374]
  rw [View.readCov_skip _ _ _ _ _ rfl, View.readCov_skip _ _ _ _ _ rfl, View.readCov_skip _ _ _ _ _ rfl, read_fill c arg16 harg16 _ _ _ zero4 (by decide) _]
theorem a_v427 : kernelRun0_A.sl.v427 (F := Ideal) c arg17 = kernelRun0_B.sl.v427 (F := Ideal) c arg17 harg17 (Q15 fun _ => 0) := by
  simp only [kernelRun0_A.sl.v427, kernelRun0_A.sl.v426, kernelRun0_A.sl.H15_1, kernelRun0_B.sl.v427]
  rw [read_fill c arg17 harg17 _ _ _ zero5 (by decide) _]
theorem a_v434 : kernelRun0_A.sl.v434 (F := Ideal) c arg18 = kernelRun0_B.sl.v434 (F := Ideal) c arg18 harg18 (Q15 fun _ => 0) := by
  simp only [kernelRun0_A.sl.v434, kernelRun0_A.sl.v433, kernelRun0_A.sl.H16_1, kernelRun0_B.sl.v434]
  rw [read_fill c arg18 harg18 _ _ _ zero6 (by decide) _]
theorem a_v546 : kernelRun0_A.sl.v546 (F := Ideal) c arg19 = kernelRun0_B.sl.v546 (F := Ideal) c arg19 harg19 (Q13 fun _ _ _ => 0) := by
  simp only [kernelRun0_A.sl.v546, kernelRun0_A.sl.v545, kernelRun0_A.sl.H17_1, kernelRun0_B.sl.v546]
  rw [read_fill c arg19 harg19 _ _ _ zero7 (by decide) _]
theorem a_v580 : kernelRun0_A.sl.v580 (F := Ideal) c i arg1 harg1 arg2 harg2 arg3 harg3 arg4 harg4 arg5 harg5 arg12 harg12 arg19 (X0 I t) (X1 Zp) (X2 Zn) (X3 I t) (X4 Dn) (X11 I) = kernelRun0_B.sl.v580 (F := Ideal) c arg19 harg19 (Q13 fun _ _ _ => 0) := by
  simp only [kernelRun0_A.sl.v580, kernelRun0_A.sl.H17_1, kernelRun0_A.sl.H17_2, kernelRun0_B.sl.v580]
  rw [View.readCov_skip _ _ _ _ _ rfl, read_fill c arg19 harg19 _ _ _ zero7 (by decide) _]
theorem a_v615 : kernelRun0_A.sl.v615 (F := Ideal) c i arg1 harg1 arg2 harg2 arg3 harg3 arg4 harg4 arg5 harg5 arg12 harg12 arg19 (X0 I t) (X1 Zp) (X2 Zn) (X3 I t) (X4 Dn) (X11 I) = kernelRun0_B.sl.v615 (F := Ideal) c arg19 harg19 (Q13 fun _ _ _ => 0) := by
  simp only [kernelRun0_A.sl.v615, kernelRun0_A.sl.H17_1, kernelRun0_A.sl.H17_2, kernelRun0_A.sl.H17_3, kernelRun0_B.sl.v615]
  rw [View.readCov_skip _ _ _ _ _ rfl, View.readCov_skip _ _ _ _ _ rfl, read_fill c arg19 harg19 _ _ _ zero7 (by decide) _]
theorem a_v650 : kernelRun0_A.sl.v650 (F := Ideal) c i arg1 harg1 arg2 harg2 arg3 harg3 arg4 harg4 arg5 harg5 arg12 harg12 arg19 (X0 I t) (X1 Zp) (X2 Zn) (X3 I t) (X4 Dn) (X11 I) = kernelRun0_B.sl.v650 (F := Ideal) c arg19 harg19 (Q13 fun _ _ _ => 0) := by
  simp only [kernelRun0_A.sl.v650, kernelRun0_A.sl.H17_1, kernelRun0_A.sl.H17_2, kernelRun0_A.sl.H17_3, kernelRun0_A.sl.H17_4, kernelRun0_B.sl.v650]
  rw [View.readCov_skip _ _ _ _ _ rfl, View.readCov_skip _ _ _ _ _ rfl, View.readCov_skip _ _ _ _ _ rfl, read_fill c arg19 harg19 _ _ _ zero7 (by decide) _]
theorem a_v522 : kernelRun0_A.sl.v522 (F := Ideal) c arg20 = kernelRun0_B.sl.v522 (F := Ideal) c arg20 harg20 (Q15 fun _ => 0) := by
  simp only [kernelRun0_A.sl.v522, kernelRun0_A.sl.v521, kernelRun0_A.sl.H18_1, kernelRun0_B.sl.v522]
  rw [read_fill c arg20 harg20 _ _ _ zero8 (by decide) _]
theorem a_v669 : kernelRun0_A.sl.v669 (F := Ideal) c arg21 = kernelRun0_B.sl.v669 (F := Ideal) c arg21 harg21 (Q19 fun _ => 0) := by
  simp only [kernelRun0_A.sl.v669, kernelRun0_A.sl.v668, kernelRun0_A.sl.H19_1, kernelRun0_B.sl.v669]
  rw [read_fill c arg21 harg21 _ _ _ zero9 (by decide) _]
theorem a_v271 : kernelRun0_A.sl.v271 (F := Ideal) c arg1 harg1 arg4 harg4 arg8 harg8 arg9 harg9 arg15 (X0 I t) (X3 I t) (X7 I) (X8 I) = kernelRun0_B.sl.v271 (F := Ideal) c arg1 harg1 arg4 harg4 arg8 harg8 arg9 harg9 arg15 harg15 (X0 I t) (X3 I t) (X7 I) (X8 I) (Q13 fun _ _ _ => 0) := by
  have h : kernelRun0_A.sl.v266 (F := Ideal) c arg15 = kernelRun0_B.sl.v266 (F := Ideal) c arg15 harg15 (Q13 fun _ _ _ => 0) := a_v266 ..
  simp only [kernelRun0_A.sl.v271, kernelRun0_A.sl.v268, kernelRun0_B.sl.v271, kernelRun0_B.sl.v268, h]; rfl
theorem a_v322 : kernelRun0_A.sl.v322 (F := Ideal) c arg1 harg1 arg4 harg4 arg8 harg8 arg9 harg9 arg15 (X0 I t) (X3 I t) (X7 I) (X8 I) = kernelRun0_B.sl.v322 (F := Ideal) c arg1 harg1 arg4 harg4 arg8 harg8 arg9 harg9 arg15 harg15 (X0 I t) (X3 I t) (X7 I) (X8 I) (Q13 fun _ _ _ => 0) := by
  have h : kernelRun0_A.sl.v316 (F := Ideal) c arg1 harg1 arg4 harg4 arg8 harg8 arg9 harg9 arg15 (X0 I t) (X3 I t) (X7 I) (X8 I) = kernelRun0_B.sl.v316 (F := Ideal) c arg15 harg15 (Q13 fun _ _ _ => 0) := a_v316 ..
  simp only [kernelRun0_A.sl.v322, kernelRun0_A.sl.v319, kernelRun0_A.sl.v317, kernelRun0_B.sl.v322, kernelRun0_B.sl.v319, kernelRun0_B.sl.v317, h]; rfl
theorem a_v373 : kernelRun0_A.sl.v373 (F := Ideal) c arg1 harg1 arg4 harg4 arg8 harg8 arg9 harg9 arg15 (X0 I t) (X3 I t) (X7 I) (X8 I) = kernelRun0_B.sl.v373 (F := Ideal) c arg1 harg1 arg4 harg4 arg8 harg8 arg9 harg9 arg15 harg15 (X0 I t) (X3 I t) (X7 I) (X8 I) (Q13 fun _ _ _ => 0) := by
  have h : kernelRun0_A.sl.v367 (F := Ideal) c arg1 harg1 arg4 harg4 arg8 harg8 arg9 harg9 arg15 (X0 I t) (X3 I t) (X7 I) (X8 I) = kernelRun0_B.sl.v367 (F := Ideal) c arg15 harg15 (Q13 fun _ _ _ => 0) := a_v367 ..
  simp only [kernelRun0_A.sl.v373, kernelRun0_A.sl.v370, kernelRun0_A.sl.v368, kernelRun0_B.sl.v373, kernelRun0_B.sl.v370, kernelRun0_B.sl.v368, h]; rfl
theorem a_v424 : kernelRun0_A.sl.v424 (F := Ideal) c arg1 harg1 arg4 harg4 arg8 harg8 arg9 harg9 arg15 (X0 I t) (X3 I t) (X7 I) (X8 I) = kernelRun0_B.sl.v424 (F := Ideal) c arg1 harg1 arg4 harg4 arg8 harg8 arg9 harg9 arg15 harg15 (X0 I t) (X3 I t) (X7 I) (X8 I) (Q13 fun _ _ _ => 0) := by
  have h : kernelRun0_A.sl.v418 (F := Ideal) c arg1 harg1 arg4 harg4 arg8 harg8 arg9 harg9 arg15 (X0 I t) (X3 I t) (X7 I) (X8 I) = kernelRun0_B.sl.v418 (F := Ideal) c arg15 harg15 (Q13 fun _ _ _ => 0) := a_v418 ..
  simp only [kernelRun0_A.sl.v424, kernelRun0_A.sl.v421, kernelRun0_A.sl.v419, kernelRun0_B.sl.v424, kernelRun0_B.sl.v421, kernelRun0_B.sl.v419, h]; rfl
theorem a_v229 : kernelRun0_A.sl.v229 (F := Ideal) c arg1 harg1 arg4 harg4 arg16 (X0 I t) (X3 I t) = kernelRun0_B.sl.v229 (F := Ideal) c arg1 harg1 arg4 harg4 arg16 harg16 (X0 I t) (X3 I t) (Q14 fun _ _ => 0) := by
  have h : kernelRun0_A.sl.v222 (F := Ideal) c arg16 = kernelRun0_B.sl.v222 (F := Ideal) c arg16 harg16 (Q14 fun _ _ => 0) := a_v222 ..
  simp only [kernelRun0_A.sl.v229, kernelRun0_A.sl.v226, kernelRun0_B.sl.v229, kernelRun0_B.sl.v226, h]; rfl
theorem a_v280 : kernelRun0_A.sl.v280 (F := Ideal) c arg1 harg1 arg4 harg4 arg16 (X0 I t) (X3 I t) = kernelRun0_B.sl.v280 (F := Ideal) c arg1 harg1 arg4 harg4 arg16 harg16 (X0 I t) (X3 I t) (Q14 fun _ _ => 0) := by
  have h : kernelRun0_A.sl.v272 (F := Ideal) c arg1 harg1 arg4 harg4 arg16 (X0 I t) (X3 I t) = kernelRun0_B.sl.v272 (F := Ideal) c arg16 harg16 (Q14 fun _ _ => 0) := a_v272 ..
  simp only [kernelRun0_A.sl.v280, kernelRun0_A.sl.v277, kernelRun0_A.sl.v273, kernelRun0_B.sl.v280, kernelRun0_B.sl.v277, kernelRun0_B.sl.v273, h]; rfl
theorem a_v331 : kernelRun0_A.sl.v331 (F := Ideal) c arg1 harg1 arg4 harg4 arg16 (X0 I t) (X3 I t) = kernelRun0_B.sl.v331 (F := Ideal) c arg1 harg1 arg4 harg4 arg16 harg16 (X0 I t) (X3 I t) (Q14 fun _ _ => 0) := by
  have h : kernelRun0_A.sl.v323 (F := Ideal) c arg1 harg1 arg4 harg4 arg16 (X0 I t) (X3 I t) = kernelRun0_B.sl.v323 (F := Ideal) c arg16 harg16 (Q14 fun _ _ => 0) := a_v323 ..
  simp only [kernelRun0_A.sl.v331, kernelRun0_A.sl.v328, kernelRun0_A.sl.v324, kernelRun0_B.sl.v331, kernelRun0_B.sl.v328, kernelRun0_B.sl.v324, h]; rfl
theorem a_v382 : kernelRun0_A.sl.v382 (F := Ideal) c arg1 harg1 arg4 harg4 arg16 (X0 I t) (X3 I t) = kernelRun0_B.sl.v382 (F := Ideal) c arg1 harg1 arg4 harg4 arg16 harg16 (X0 I t) (X3 I t) (Q14 fun _ _ => 0) := by
  have h : kernelRun0_A.sl.v374 (F := Ideal) c arg1 harg1 arg4 harg4 arg16 (X0 I t) (X3 I t) = kernelRun0_B.sl.v374 (F := Ideal) c arg16 harg16 (Q14 fun _ _ => 0) := a_v374 ..
  simp only [kernelRun0_A.sl.v382, kernelRun0_A.sl.v379, kernelRun0_A.sl.v375, kernelRun0_B.sl.v382, kernelRun0_B.sl.v379, kernelRun0_B.sl.v375, h]; rfl
theorem a_v431 : kernelRun0_A.sl.v431 (F := Ideal) c arg1 harg1 arg4 harg4 arg6 harg6 arg17 arg23 (X0 I t) (X3 I t) (X5 I) = kernelRun0_B.sl.v431 (F := Ideal) c arg1 harg1 arg4 harg4 arg6 harg6 arg17 harg17 arg23 (X0 I t) (X3 I t) (X5 I) (Q15 fun _ => 0) := by
  have h : kernelRun0_A.sl.v427 (F := Ideal) c arg17 = kernelRun0_B.sl.v427 (F := Ideal) c arg17 harg17 (Q15 fun _ => 0) := a_v427 ..
  simp only [kernelRun0_A.sl.v431, kernelRun0_B.sl.v431, h]; rfl
theorem a_v437 : kernelRun0_A.sl.v437 (F := Ideal) c arg1 harg1 arg4 harg4 arg6 harg6 arg18 arg23 (X0 I t) (X3 I t) (X5 I) = kernelRun0_B.sl.v437 (F := Ideal) c arg1 harg1 arg4 harg4 arg6 harg6 arg18 harg18 arg23 (X0 I t) (X3 I t) (X5 I) (Q15 fun _ => 0) := by
  have h : kernelRun0_A.sl.v434 (F := Ideal) c arg18 = kernelRun0_B.sl.v434 (F := Ideal) c arg18 harg18 (Q15 fun _ => 0) := a_v434 ..
  simp only [kernelRun0_A.sl.v437, kernelRun0_B.sl.v437, h]; rfl
theorem a_v553 : kernelRun0_A.sl.v553 (F := Ideal) c i arg1 harg1 arg2 harg2 arg3 harg3 arg4 harg4 arg5 harg5 arg12 harg12 arg19 (X0 I t) (X1 Zp) (X2 Zn) (X3 I t) (X4 Dn) (X11 I) = kernelRun0_B.sl.v553 (F := Ideal) c i arg1 harg1 arg2 harg2 arg3 harg3 arg4 harg4 arg5 harg5 arg12 harg12 arg19 harg19 (X0 I t) (X1 Zp) (X2 Zn) (X3 I t) (X4 Dn) (X11 I) (Q13 fun _ _ _ => 0) := by
  have h : kernelRun0_A.sl.v546 (F := Ideal) c arg19 = kernelRun0_B.sl.v546 (F := Ideal) c arg19 harg19 (Q13 fun _ _ _ => 0) := a_v546 ..
  simp only [kernelRun0_A.sl.v553, kernelRun0_A.sl.v550, kernelRun0_B.sl.v553, kernelRun0_B.sl.v550, h]; rfl
theorem a_v588 : kernelRun0_A.sl.v588 (F := Ideal) c i arg1 harg1 arg2 harg2 arg3 harg3 arg4 harg4 arg5 harg5 arg12 harg12 arg19 (X0 I t) (X1 Zp) (X2 Zn) (X3 I t) (X4 Dn) (X11 I) = kernelRun0_B.sl.v588 (F := Ideal) c i arg1 harg1 arg2 harg2 arg3 harg3 arg4 harg4 arg5 harg5 arg12 harg12 arg19 harg19 (X0 I t) (X1 Zp) (X2 Zn) (X3 I t) (X4 Dn) (X11 I) (Q13 fun _ _ _ => 0) := by
  have h : kernelRun0_A.sl.v580 (F := Ideal) c i arg1 harg1 arg2 harg2 arg3 harg3 arg4 harg4 arg5 harg5 arg12 harg12 arg19 (X0 I t) (X1 Zp) (X2 Zn) (X3 I t) (X4 Dn) (X11 I) = kernelRun0_B.sl.v580 (F := Ideal) c arg19 harg19 (Q13 fun _ _ _ => 0) := a_v580 ..
  simp only [kernelRun0_A.sl.v588, kernelRun0_A.sl.v585, kernelRun0_A.sl.v581, kernelRun0_B.sl.v588, kernelRun0_B.sl.v585, kernelRun0_B.sl.v581, h]; rfl
theorem a_v623 : kernelRun0_A.sl.v623 (F := Ideal) c i arg1 harg1 arg2 harg2 arg3 harg3 arg4 harg4 arg5 harg5 arg12 harg12 arg19 (X0 I t) (X1 Zp) (X2 Zn) (X3 I t) (X4 Dn) (X11 I) = kernelRun0_B.sl.v623 (F := Ideal) c i arg1 harg1 arg2 harg2 arg3 harg3 arg4 harg4 arg5 harg5 arg12 harg12 arg19 harg19 (X0 I t) (X1 Zp) (X2 Zn) (X3 I t) (X4 Dn) (X11 I) (Q13 fun _ _ _ => 0) := by
  have h : kernelRun0_A.sl.v615 (F := Ideal) c i arg1 harg1 arg2 harg2 arg3 harg3 arg4 harg4 arg5 harg5 arg12 harg12 arg19 (X0 I t) (X1 Zp) (X2 Zn) (X3 I t) (X4 Dn) (X11 I) = kernelRun0_B.sl.v615 (F := Ideal) c arg19 harg19 (Q13 fun _ _ _ => 0) := a_v615 ..
  simp only [kernelRun0_A.sl.v623, kernelRun0_A.sl.v620, kernelRun0_A.sl.v616, kernelRun0_B.sl.v623, kernelRun0_B.sl.v620, kernelRun0_B.sl.v616, h]; rfl
theorem a_v658 : kernelRun0_A.sl.v658 (F := Ideal) c i arg1 harg1 arg2 harg2 arg3 harg3 arg4 harg4 arg5 harg5 arg12 harg12 arg19 (X0 I t) (X1 Zp) (X2 Zn) (X3 I t) (X4 Dn) (X11 I) = kernelRun0_B.sl.v658 (F := Ideal) c i arg1 harg1 arg2 harg2 arg3 harg3 arg4 harg4 arg5 harg5 arg12 harg12 arg19 harg19 (X0 I t) (X1 Zp) (X2 Zn) (X3 I t) (X4 Dn) (X11 I) (Q13 fun _ _ _ => 0) := by
  have h : kernelRun0_A.sl.v650 (F := Ideal) c i arg1 harg1 arg2 harg2 arg3 harg3 arg4 harg4 arg5 harg5 arg12 harg12 arg19 (X0 I t) (X1 Zp) (X2 Zn) (X3 I t) (X4 Dn) (X11 I) = kernelRun0_B.sl.v650 (F := Ideal) c arg19 harg19 (Q13 fun _ _ _ => 0) := a_v650 ..
  simp only [kernelRun0_A.sl.v658, kernelRun0_A.sl.v655, kernelRun0_A.sl.v651, kernelRun0_B.sl.v658, kernelRun0_B.sl.v655, kernelRun0_B.sl.v651, h]; rfl
theorem a_v526 : kernelRun0_A.sl.v526 (F := Ideal) c arg4 harg4 arg5 harg5 arg12 harg12 arg20 (X3 I t) (X4 Dn) (X11 I) = kernelRun0_B.sl.v526 (F := Ideal) c arg4 harg4 arg5 harg5 arg12 harg12 arg20 harg20 (X3 I t) (X4 Dn) (X11 I) (Q15 fun _ => 0) := by
  have h : kernelRun0_A.sl.v522 (F := Ideal) c arg20 = kernelRun0_B.sl.v522 (F := Ideal) c arg20 harg20 (Q15 fun _ => 0) := a_v522 ..
  simp only [kernelRun0_A.sl.v526, kernelRun0_B.sl.v526, h]; rfl
theorem a_v459 : kernelRun0_A.sl.v459 (F := Ideal) c arg1 harg1 arg4 harg4 arg6 harg6 arg7 harg7 arg8 harg8 arg9 harg9 arg22 (X0 I t) (X3 I t) (X5 I) (X6 I) (X7 I) (X8 I) = kernelRun0_B.sl.v459 (F := Ideal) c arg1 harg1 arg4 harg4 arg6 harg6 arg7 harg7 arg8 harg8 arg9 harg9 arg22 (X0 I t) (X3 I t) (X5 I) (X6 I) (X7 I) (X8 I) := rfl
theorem a_v463 : kernelRun0_A.sl.v463 (F := Ideal) c arg1 harg1 arg4 harg4 arg6 harg6 arg8 harg8 arg23 (X0 I t) (X3 I t) (X5 I) (X7 I) = kernelRun0_B.sl.v463 (F := Ideal) c arg1 harg1 arg4 harg4 arg6 harg6 arg8 harg8 arg23 (X0 I t) (X3 I t) (X5 I) (X7 I) := rfl
theorem a_v554 : kernelRun0_A.sl.v554 (F := Ideal) c arg4 harg4 arg5 harg5 arg10 harg10 arg12 harg12 (X3 I t) (X4 Dn) (X9 I) (X11 I) = kernelRun0_B.sl.v554 (F := Ideal) c arg4 harg4 arg5 harg5 arg10 harg10 arg12 harg12 (X3 I t) (X4 Dn) (X9 I) (X11 I) := rfl
theorem a_v562 : kernelRun0_A.sl.v562 (F := Ideal) c i arg4 harg4 arg5 harg5 arg10 harg10 arg12 harg12 (X3 I t) (X4 Dn) (X9 I) (X11 I) = kernelRun0_B.sl.v562 (F := Ideal) c i arg4 harg4 arg5 harg5 arg10 harg10 arg12 harg12 (X3 I t) (X4 Dn) (X9 I) (X11 I) := rfl
theorem a_v589 : kernelRun0_A.sl.v589 (F := Ideal) c arg4 harg4 arg5 harg5 arg10 harg10 arg12 harg12 (X3 I t) (X4 Dn) (X9 I) (X11 I) = kernelRun0_B.sl.v589 (F := Ideal) c arg4 harg4 arg5 harg5 arg10 harg10 arg12 harg12 (X3 I t) (X4 Dn) (X9 I) (X11 I) := rfl
theorem a_v597 : kernelRun0_A.sl.v597 (F := Ideal) c i arg4 harg4 arg5 harg5 arg10 harg10 arg12 harg12 (X3 I t) (X4 Dn) (X9 I) (X11 I) = kernelRun0_B.sl.v597 (F := Ideal) c i arg4 harg4 arg5 harg5 arg10 harg10 arg12 harg12 (X3 I t) (X4 Dn) (X9 I) (X11 I) := rfl
theorem a_v624 : kernelRun0_A.sl.v624 (F := Ideal) c arg4 harg4 arg5 harg5 arg10 harg10 arg12 harg12 (X3 I t) (X4 Dn) (X9 I) (X11 I) = kernelRun0_B.sl.v624 (F := Ideal) c arg4 harg4 arg5 harg5 arg10 harg10 arg12 harg12 (X3 I t) (X4 Dn) (X9 I) (X11 I) := rfl
theorem a_v632 : kernelRun0_A.sl.v632 (F := Ideal) c i arg4 harg4 arg5 harg5 arg10 harg10 arg12 harg12 (X3 I t) (X4 Dn) (X9 I) (X11 I) = kernelRun0_B.sl.v632 (F := Ideal) c i arg4 harg4 arg5 harg5 arg10 harg10 arg12 harg12 (X3 I t) (X4 Dn) (X9 I) (X11 I) := rfl
theorem a_v659 : kernelRun0_A.sl.v659 (F := Ideal) c arg4 harg4 arg5 harg5 arg10 harg10 arg12 harg12 (X3 I t) (X4 Dn) (X9 I) (X11 I) = kernelRun0_B.sl.v659 (F := Ideal) c arg4 harg4 arg5 harg5 arg10 harg10 arg12 harg12 (X3 I t) (X4 Dn) (X9 I) (X11 I) := rfl
theorem a_v667 : kernelRun0_A.sl.v667 (F := Ideal) c i arg4 harg4 arg5 harg5 arg10 harg10 arg12 harg12 (X3 I t) (X4 Dn) (X9 I) (X11 I) = kernelRun0_B.sl.v667 (F := Ideal) c i arg4 harg4 arg5 harg5 arg10 harg10 arg12 harg12 (X3 I t) (X4 Dn) (X9 I) (X11 I) := rfl
theorem a_v672 : kernelRun0_A.sl.v672 (F := Ideal) c i arg1 harg1 arg2 harg2 arg3 harg3 arg4 harg4 arg5 harg5 arg10 harg10 arg11 harg11 (X0 I t) (X1 Zp) (X2 Zn) (X3 I t) (X4 Dn) (X9 I) (X10 bp) = kernelRun0_B.sl.v672 (F := Ideal) c i arg1 harg1 arg2 harg2 arg3 harg3 arg4 harg4 arg5 harg5 arg10 harg10 arg11 harg11 (X0 I t) (X1 Zp) (X2 Zn) (X3 I t) (X4 Dn) (X9 I) (X10 bp) := rfl
theorem a_r_15 : kernelRun0_A.sl.r_15 (F := Ideal) c i arg4 harg4 arg5 harg5 arg10 harg10 arg12 harg12 (X3 I t) (X4 Dn) (X9 I) (X11 I) = kernelRun0_B.sl.r_16 (F := Ideal) c i arg4 harg4 arg5 harg5 arg10 harg10 arg12 harg12 (X3 I t) (X4 Dn) (X9 I) (X11 I) := rfl
theorem a_r_16 : kernelRun0_A.sl.r_16 (F := Ideal) c i arg4 harg4 arg5 harg5 arg10 harg10 arg12 harg12 (X3 I t) (X4 Dn) (X9 I) (X11 I) = kernelRun0_B.sl.r_17 (F := Ideal) c i arg4 harg4 arg5 harg5 arg10 harg10 arg12 harg12 (X3 I t) (X4 Dn) (X9 I) (X11 I) := rfl
theorem a_r_17 : kernelRun0_A.sl.r_17 (F := Ideal) c arg4 harg4 arg5 harg5 arg10 harg10 arg12 harg12 (X3 I t) (X4 Dn) (X9 I) (X11 I) = kernelRun0_B.sl.r_18 (F := Ideal) c arg4 harg4 arg5 harg5 arg10 harg10 arg12 harg12 (X3 I t) (X4 Dn) (X9 I) (X11 I) := rfl

/-- Stores that together cover an array leave what they hold, whatever was stored before them. -/
theorem canon_front {S : Shape} {e : EltTy} (G : Vec Ideal S e) (L₂ : List (View.Piece (Elt Ideal) S e)) :
    ∀ (L : List (View.Piece (Elt Ideal) S e)), (∀ p ∈ L, ∀ x : p.1.shape.Idx, p.2 x = G (p.1.emb x)) → ∀ y : S.Idx,
      (∃ p ∈ L, y ∈ p.1.set) → View.canon (L ++ L₂) y = G y
  | [], _, _, h => by obtain ⟨p, hp, _⟩ := h; exact absurd hp List.not_mem_nil
  | p :: L, hL, y, h => by
    rw [List.cons_append]
    by_cases hy : y ∈ p.1.set
    · obtain ⟨x, hx⟩ := p.1.exists_idx_of_mem hy
      subst hx
      exact (View.canon_cons_emb p.1 p.2 (L ++ L₂) x).trans (hL p List.mem_cons_self x)
    · rw [View.canon_cons_of_not_mem p (L ++ L₂) hy]
      refine canon_front G L₂ L (fun q hq => hL q (List.mem_cons_of_mem _ hq)) y ?_
      obtain ⟨q, hq, hyq⟩ := h
      rcases List.mem_cons.mp hq with rfl | hq
      · exact absurd hyq hy
      · exact ⟨q, hq, hyq⟩
include hi ht hD in
theorem outA_12 : out0_A_12 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcA (X0 I t) (X1 Zp) (X2 Zn) (X3 I t) (X4 Dn) (X5 I) (X6 I) (X7 I) (X8 I) (X9 I) (X10 bp) (X11 I) = tab fun a j => ((I.dz (512 * t + a) j : ℝ) : EReal) := by
  have hc := cover0_A_12 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcA (X0 I t) (X1 Zp) (X2 Zn) (X3 I t) (X4 Dn) (X5 I) (X6 I) (X7 I) (X8 I) (X9 I) (X10 bp) (X11 I)
  unfold out0_A_12
  rw [View.read_writes_eq_canon _ _ _ hc]
  funext y
  refine View.canon_apply_of_pieces _ _ ?_ y (hc y)
  unfold kernelRun0_A
  dsimp only
  simp only [List.forall_mem_cons, a_r_15, a_r_16, a_r_17, a_v459, a_v463, a_v554, a_v562, a_v589, a_v597, a_v624, a_v632, a_v659, a_v667, w_v459, w_v463]
  refine ⟨?_, ?_, ?_, ?_, ?_, ?_, by simp⟩
  · intro x
    rw [w_dzb3 I t Dn c i arg4 harg4 arg5 harg5 arg10 harg10 arg12 harg12 hi ht hD]
    exact tab_piece 0 1408 _ _ _ (fun a _ b _ => by rw [show 1408 + b = 1024 + (384 + b) by omega, dz_high]; simp only [Nat.zero_add]) x
  · intro x
    rw [w_dzb2 I t Dn c i arg4 harg4 arg5 harg5 arg10 harg10 arg12 harg12 hi ht hD]
    exact tab_piece 0 1280 _ _ _ (fun a _ b _ => by rw [show 1280 + b = 1024 + (256 + b) by omega, dz_high]; simp only [Nat.zero_add]) x
  · intro x
    rw [w_dzb1 I t Dn c i arg4 harg4 arg5 harg5 arg10 harg10 arg12 harg12 hi ht hD]
    exact tab_piece 0 1152 _ _ _ (fun a _ b _ => by rw [show 1152 + b = 1024 + (128 + b) by omega, dz_high]; simp only [Nat.zero_add]) x
  · intro x
    rw [w_dzb0 I t Dn c i arg4 harg4 arg5 harg5 arg10 harg10 arg12 harg12 hi ht hD]
    exact tab_piece 0 1024 _ _ _ (fun a _ b _ => by rw [show 1024 + b = 1024 + (0 + b) by omega, dz_high]; simp only [Nat.zero_add]) x
  · exact tab_piece 0 512 _ _ _ fun a _ b hb => by rw [Nat.zero_add, dz_mid I hb]
  · exact tab_piece 0 0 _ _ _ fun a _ b hb => by rw [Nat.zero_add, Nat.zero_add, dz_low I hb]

theorem outA_13 : out0_A_13 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcA (X0 I t) (X1 Zp) (X2 Zn) (X3 I t) (X4 Dn) (X5 I) (X6 I) (X7 I) (X8 I) (X9 I) (X10 bp) (X11 I) = tab3 fun h a b => ((0 + I.dws (4 * t) 4 h a b : ℝ) : EReal) := by
  have hc := cover0_A_13 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcA (X0 I t) (X1 Zp) (X2 Zn) (X3 I t) (X4 Dn) (X5 I) (X6 I) (X7 I) (X8 I) (X9 I) (X10 bp) (X11 I)
  unfold out0_A_13
  rw [View.read_writes_eq_canon _ _ _ hc]
  funext y
  unfold kernelRun0_A
  dsimp only
  refine canon_front _ _ [_, _, _, _] ?_ y (View.cover_of_tiled_head _ _ _ rfl y)
  have e0 : kernelRun0_A.sl.v271 (F := Ideal) c arg1 harg1 arg4 harg4 arg8 harg8 arg9 harg9 arg15 (X0 I t) (X3 I t) (X7 I) (X8 I) = kernelRun0_B.sl.v271 (F := Ideal) c arg1 harg1 arg4 harg4 arg8 harg8 arg9 harg9 arg15 harg15 (X0 I t) (X3 I t) (X7 I) (X8 I) (Q13 fun _ _ _ => 0) := a_v271 ..
  have e1 : kernelRun0_A.sl.v322 (F := Ideal) c arg1 harg1 arg4 harg4 arg8 harg8 arg9 harg9 arg15 (X0 I t) (X3 I t) (X7 I) (X8 I) = kernelRun0_B.sl.v322 (F := Ideal) c arg1 harg1 arg4 harg4 arg8 harg8 arg9 harg9 arg15 harg15 (X0 I t) (X3 I t) (X7 I) (X8 I) (Q13 fun _ _ _ => 0) := a_v322 ..
  have e2 : kernelRun0_A.sl.v373 (F := Ideal) c arg1 harg1 arg4 harg4 arg8 harg8 arg9 harg9 arg15 (X0 I t) (X3 I t) (X7 I) (X8 I) = kernelRun0_B.sl.v373 (F := Ideal) c arg1 harg1 arg4 harg4 arg8 harg8 arg9 harg9 arg15 harg15 (X0 I t) (X3 I t) (X7 I) (X8 I) (Q13 fun _ _ _ => 0) := a_v373 ..
  have e3 : kernelRun0_A.sl.v424 (F := Ideal) c arg1 harg1 arg4 harg4 arg8 harg8 arg9 harg9 arg15 (X0 I t) (X3 I t) (X7 I) (X8 I) = kernelRun0_B.sl.v424 (F := Ideal) c arg1 harg1 arg4 harg4 arg8 harg8 arg9 harg9 arg15 harg15 (X0 I t) (X3 I t) (X7 I) (X8 I) (Q13 fun _ _ _ => 0) := a_v424 ..
  simp only [List.forall_mem_cons, e0, e1, e2, e3, w_v271, w_v322, w_v373, w_v424]
  exact ⟨tab3_piece 3 0 0 _ _ _ fun d hd a _ b _ => by simp only [Nat.zero_add, show d = 0 by omega, Nat.add_zero], tab3_piece 2 0 0 _ _ _ fun d hd a _ b _ => by simp only [Nat.zero_add, show d = 0 by omega, Nat.add_zero], tab3_piece 1 0 0 _ _ _ fun d hd a _ b _ => by simp only [Nat.zero_add, show d = 0 by omega, Nat.add_zero], tab3_piece 0 0 0 _ _ _ fun d hd a _ b _ => by simp only [Nat.zero_add, show d = 0 by omega, Nat.add_zero], by simp⟩

theorem outA_14 : out0_A_14 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcA (X0 I t) (X1 Zp) (X2 Zn) (X3 I t) (X4 Dn) (X5 I) (X6 I) (X7 I) (X8 I) (X9 I) (X10 bp) (X11 I) = tab3 fun h a _ => ((0 + I.dbs (4 * t) 4 h a : ℝ) : EReal) := by
  have hc := cover0_A_14 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcA (X0 I t) (X1 Zp) (X2 Zn) (X3 I t) (X4 Dn) (X5 I) (X6 I) (X7 I) (X8 I) (X9 I) (X10 bp) (X11 I)
  unfold out0_A_14
  rw [View.read_writes_eq_canon _ _ _ hc]
  funext y
  unfold kernelRun0_A
  dsimp only
  refine canon_front _ _ [_, _, _, _] ?_ y (View.cover_of_tiled_head _ _ _ rfl y)
  have e0 : kernelRun0_A.sl.v229 (F := Ideal) c arg1 harg1 arg4 harg4 arg16 (X0 I t) (X3 I t) = kernelRun0_B.sl.v229 (F := Ideal) c arg1 harg1 arg4 harg4 arg16 harg16 (X0 I t) (X3 I t) (Q14 fun _ _ => 0) := a_v229 ..
  have e1 : kernelRun0_A.sl.v280 (F := Ideal) c arg1 harg1 arg4 harg4 arg16 (X0 I t) (X3 I t) = kernelRun0_B.sl.v280 (F := Ideal) c arg1 harg1 arg4 harg4 arg16 harg16 (X0 I t) (X3 I t) (Q14 fun _ _ => 0) := a_v280 ..
  have e2 : kernelRun0_A.sl.v331 (F := Ideal) c arg1 harg1 arg4 harg4 arg16 (X0 I t) (X3 I t) = kernelRun0_B.sl.v331 (F := Ideal) c arg1 harg1 arg4 harg4 arg16 harg16 (X0 I t) (X3 I t) (Q14 fun _ _ => 0) := a_v331 ..
  have e3 : kernelRun0_A.sl.v382 (F := Ideal) c arg1 harg1 arg4 harg4 arg16 (X0 I t) (X3 I t) = kernelRun0_B.sl.v382 (F := Ideal) c arg1 harg1 arg4 harg4 arg16 harg16 (X0 I t) (X3 I t) (Q14 fun _ _ => 0) := a_v382 ..
  simp only [List.forall_mem_cons, e0, e1, e2, e3, w_v229, w_v280, w_v331, w_v382]
  exact ⟨tab3_piece 3 0 0 _ _ _ fun d hd a _ b _ => by simp only [Nat.zero_add, show d = 0 by omega, Nat.add_zero], tab3_piece 2 0 0 _ _ _ fun d hd a _ b _ => by simp only [Nat.zero_add, show d = 0 by omega, Nat.add_zero], tab3_piece 1 0 0 _ _ _ fun d hd a _ b _ => by simp only [Nat.zero_add, show d = 0 by omega, Nat.add_zero], tab3_piece 0 0 0 _ _ _ fun d hd a _ b _ => by simp only [Nat.zero_add, show d = 0 by omega, Nat.add_zero], by simp⟩

theorem outA_15 : out0_A_15 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcA (X0 I t) (X1 Zp) (X2 Zn) (X3 I t) (X4 Dn) (X5 I) (X6 I) (X7 I) (X8 I) (X9 I) (X10 bp) (X11 I) = tab fun _ j => ((0 + I.dgain (512 * t) 512 j : ℝ) : EReal) := by
  have hc := cover0_A_15 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcA (X0 I t) (X1 Zp) (X2 Zn) (X3 I t) (X4 Dn) (X5 I) (X6 I) (X7 I) (X8 I) (X9 I) (X10 bp) (X11 I)
  unfold out0_A_15
  rw [View.read_writes_eq_canon _ _ _ hc]
  funext y
  unfold kernelRun0_A
  dsimp only
  refine canon_front _ _ [_] ?_ y (View.cover_of_tiled_head _ _ _ rfl y)
  have e0 : kernelRun0_A.sl.v431 (F := Ideal) c arg1 harg1 arg4 harg4 arg6 harg6 arg17 arg23 (X0 I t) (X3 I t) (X5 I) = kernelRun0_B.sl.v431 (F := Ideal) c arg1 harg1 arg4 harg4 arg6 harg6 arg17 harg17 arg23 (X0 I t) (X3 I t) (X5 I) (Q15 fun _ => 0) := a_v431 ..
  simp only [List.forall_mem_cons, e0, w_v431]
  exact ⟨tab_piece 0 0 _ _ _ fun a _ b _ => by simp only [Nat.zero_add], by simp⟩

theorem outA_16 : out0_A_16 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcA (X0 I t) (X1 Zp) (X2 Zn) (X3 I t) (X4 Dn) (X5 I) (X6 I) (X7 I) (X8 I) (X9 I) (X10 bp) (X11 I) = tab fun _ j => ((0 + I.dbias (512 * t) 512 j : ℝ) : EReal) := by
  have hc := cover0_A_16 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcA (X0 I t) (X1 Zp) (X2 Zn) (X3 I t) (X4 Dn) (X5 I) (X6 I) (X7 I) (X8 I) (X9 I) (X10 bp) (X11 I)
  unfold out0_A_16
  rw [View.read_writes_eq_canon _ _ _ hc]
  funext y
  unfold kernelRun0_A
  dsimp only
  refine canon_front _ _ [_] ?_ y (View.cover_of_tiled_head _ _ _ rfl y)
  have e0 : kernelRun0_A.sl.v437 (F := Ideal) c arg1 harg1 arg4 harg4 arg6 harg6 arg18 arg23 (X0 I t) (X3 I t) (X5 I) = kernelRun0_B.sl.v437 (F := Ideal) c arg1 harg1 arg4 harg4 arg6 harg6 arg18 harg18 arg23 (X0 I t) (X3 I t) (X5 I) (Q15 fun _ => 0) := a_v437 ..
  simp only [List.forall_mem_cons, e0, w_v437]
  exact ⟨tab_piece 0 0 _ _ _ fun a _ b _ => by simp only [Nat.zero_add], by simp⟩
include hi ht hZ in
theorem outA_17 : out0_A_17 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcA (X0 I t) (X1 Zp) (X2 Zn) (X3 I t) (X4 Dn) (X5 I) (X6 I) (X7 I) (X8 I) (X9 I) (X10 bp) (X11 I) = tab3 fun h a b => ((0 + I.dwp (512 * t) 512 h a b : ℝ) : EReal) := by
  have hc := cover0_A_17 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcA (X0 I t) (X1 Zp) (X2 Zn) (X3 I t) (X4 Dn) (X5 I) (X6 I) (X7 I) (X8 I) (X9 I) (X10 bp) (X11 I)
  unfold out0_A_17
  rw [View.read_writes_eq_canon _ _ _ hc]
  funext y
  unfold kernelRun0_A
  dsimp only
  refine canon_front _ _ [_, _, _, _] ?_ y (View.cover_of_tiled_head _ _ _ rfl y)
  have e0 : kernelRun0_A.sl.v553 (F := Ideal) c i arg1 harg1 arg2 harg2 arg3 harg3 arg4 harg4 arg5 harg5 arg12 harg12 arg19 (X0 I t) (X1 Zp) (X2 Zn) (X3 I t) (X4 Dn) (X11 I) = kernelRun0_B.sl.v553 (F := Ideal) c i arg1 harg1 arg2 harg2 arg3 harg3 arg4 harg4 arg5 harg5 arg12 harg12 arg19 harg19 (X0 I t) (X1 Zp) (X2 Zn) (X3 I t) (X4 Dn) (X11 I) (Q13 fun _ _ _ => 0) := a_v553 ..
  have e1 : kernelRun0_A.sl.v588 (F := Ideal) c i arg1 harg1 arg2 harg2 arg3 harg3 arg4 harg4 arg5 harg5 arg12 harg12 arg19 (X0 I t) (X1 Zp) (X2 Zn) (X3 I t) (X4 Dn) (X11 I) = kernelRun0_B.sl.v588 (F := Ideal) c i arg1 harg1 arg2 harg2 arg3 harg3 arg4 harg4 arg5 harg5 arg12 harg12 arg19 harg19 (X0 I t) (X1 Zp) (X2 Zn) (X3 I t) (X4 Dn) (X11 I) (Q13 fun _ _ _ => 0) := a_v588 ..
  have e2 : kernelRun0_A.sl.v623 (F := Ideal) c i arg1 harg1 arg2 harg2 arg3 harg3 arg4 harg4 arg5 harg5 arg12 harg12 arg19 (X0 I t) (X1 Zp) (X2 Zn) (X3 I t) (X4 Dn) (X11 I) = kernelRun0_B.sl.v623 (F := Ideal) c i arg1 harg1 arg2 harg2 arg3 harg3 arg4 harg4 arg5 harg5 arg12 harg12 arg19 harg19 (X0 I t) (X1 Zp) (X2 Zn) (X3 I t) (X4 Dn) (X11 I) (Q13 fun _ _ _ => 0) := a_v623 ..
  have e3 : kernelRun0_A.sl.v658 (F := Ideal) c i arg1 harg1 arg2 harg2 arg3 harg3 arg4 harg4 arg5 harg5 arg12 harg12 arg19 (X0 I t) (X1 Zp) (X2 Zn) (X3 I t) (X4 Dn) (X11 I) = kernelRun0_B.sl.v658 (F := Ideal) c i arg1 harg1 arg2 harg2 arg3 harg3 arg4 harg4 arg5 harg5 arg12 harg12 arg19 harg19 (X0 I t) (X1 Zp) (X2 Zn) (X3 I t) (X4 Dn) (X11 I) (Q13 fun _ _ _ => 0) := a_v658 ..
  simp only [List.forall_mem_cons, e0, e1, e2, e3, w_v553 I t Zp Zn Dn c (fun _ _ _ => 0) i arg1 harg1 arg2 harg2 arg3 harg3 arg4 harg4 arg5 harg5 arg12 harg12 arg19 harg19 hi ht hZ, w_v588 I t Zp Zn Dn c (fun _ _ _ => 0) i arg1 harg1 arg2 harg2 arg3 harg3 arg4 harg4 arg5 harg5 arg12 harg12 arg19 harg19 hi ht hZ, w_v623 I t Zp Zn Dn c (fun _ _ _ => 0) i arg1 harg1 arg2 harg2 arg3 harg3 arg4 harg4 arg5 harg5 arg12 harg12 arg19 harg19 hi ht hZ, w_v658 I t Zp Zn Dn c (fun _ _ _ => 0) i arg1 harg1 arg2 harg2 arg3 harg3 arg4 harg4 arg5 harg5 arg12 harg12 arg19 harg19 hi ht hZ]
  exact ⟨tab3_piece 3 0 0 _ _ _ fun d hd a _ b _ => by simp only [Nat.zero_add, show d = 0 by omega, Nat.add_zero], tab3_piece 2 0 0 _ _ _ fun d hd a _ b _ => by simp only [Nat.zero_add, show d = 0 by omega, Nat.add_zero], tab3_piece 1 0 0 _ _ _ fun d hd a _ b _ => by simp only [Nat.zero_add, show d = 0 by omega, Nat.add_zero], tab3_piece 0 0 0 _ _ _ fun d hd a _ b _ => by simp only [Nat.zero_add, show d = 0 by omega, Nat.add_zero], by simp⟩

theorem outA_18 : out0_A_18 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcA (X0 I t) (X1 Zp) (X2 Zn) (X3 I t) (X4 Dn) (X5 I) (X6 I) (X7 I) (X8 I) (X9 I) (X10 bp) (X11 I) = tab fun _ j => ((0 + I.dbp (512 * t) 512 j : ℝ) : EReal) := by
  have hc := cover0_A_18 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcA (X0 I t) (X1 Zp) (X2 Zn) (X3 I t) (X4 Dn) (X5 I) (X6 I) (X7 I) (X8 I) (X9 I) (X10 bp) (X11 I)
  unfold out0_A_18
  rw [View.read_writes_eq_canon _ _ _ hc]
  funext y
  unfold kernelRun0_A
  dsimp only
  refine canon_front _ _ [_] ?_ y (View.cover_of_tiled_head _ _ _ rfl y)
  have e0 : kernelRun0_A.sl.v526 (F := Ideal) c arg4 harg4 arg5 harg5 arg12 harg12 arg20 (X3 I t) (X4 Dn) (X11 I) = kernelRun0_B.sl.v526 (F := Ideal) c arg4 harg4 arg5 harg5 arg12 harg12 arg20 harg20 (X3 I t) (X4 Dn) (X11 I) (Q15 fun _ => 0) := a_v526 ..
  simp only [List.forall_mem_cons, e0, w_v526]
  exact ⟨tab_piece 0 0 _ _ _ fun a _ b _ => by simp only [Nat.zero_add], by simp⟩
include hi ht hZ in
theorem outA_19 : out0_A_19 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcA (X0 I t) (X1 Zp) (X2 Zn) (X3 I t) (X4 Dn) (X5 I) (X6 I) (X7 I) (X8 I) (X9 I) (X10 bp) (X11 I) = tab fun _ j => 0 + ∑ s ∈ Finset.range 512, ((I.D (512 * t + s) (512 + j) : ℝ) : EReal) * (((I.lin (512 * t + s) j : ℝ) : EReal) + bp j) := by
  have hc := cover0_A_19 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hcA (X0 I t) (X1 Zp) (X2 Zn) (X3 I t) (X4 Dn) (X5 I) (X6 I) (X7 I) (X8 I) (X9 I) (X10 bp) (X11 I)
  unfold out0_A_19
  rw [View.read_writes_eq_canon _ _ _ hc]
  funext y
  unfold kernelRun0_A
  dsimp only
  refine canon_front _ _ [_] ?_ y (View.cover_of_tiled_head _ _ _ rfl y)
  have e1 : kernelRun0_A.sl.v669 (F := Ideal) c arg21 = kernelRun0_B.sl.v669 (F := Ideal) c arg21 harg21 (Q19 fun _ => 0) := a_v669 ..
  simp only [List.forall_mem_cons, e1, a_v672, w_ps I t Zp Zn Dn bp c (fun _ => 0) i arg1 harg1 arg2 harg2 arg3 harg3 arg4 harg4 arg5 harg5 arg10 harg10 arg11 harg11 arg21 harg21 hi ht hZ]
  exact ⟨tab_piece 0 0 _ _ _ fun a _ b _ => by simp only [Nat.zero_add], by simp⟩
end

end Cert.MixerIdeal.Hand
-- ==== Proof.MixerKernel.lean ====
module

public import proofs.«01_k».proof.Proof.MixerBlocks
public import proofs.«01_k».proof.Proof.Gen.MixerIdeal.Value
public import Idealize.ShloMosaic.Lib.Claim

/-! The mixer's backward pass over all its steps: the blocks its steps read, the running sums they leave, and the eight
arrays after the last step, as functions of the call's arguments. -/

@[expose] public section

set_option maxRecDepth 16384

noncomputable section

namespace Cert.MixerIdeal.Hand

open Cert.MixerIdeal Cert.MixerIdeal.Gen Cert.MixerMath Cert.MixerOps Idealize.ShloMosaic Idealize.ShloMosaic.TcCoe Idealize.SL.Sem
open Idealize.ShloMosaic.Pipeline (Dat)

variable (m : (ℓ : Loc nD τ sig) → Buf (Elt Ideal) ℓ) (c : Dev nD) (I : Inp) (bp : ℕ → EReal) (t : Fin cfg0.N)

/-- The call's arguments are the arrays `I` and the pool's bias `bp`. -/
structure Holds : Prop where
  a0 : (m ((c : Thread nD τ).loc main_arg0) : Vec Ideal S4096x1536 .f32) = tab fun s j => ((I.Z s j : ℝ) : EReal)
  a1 : (m ((c : Thread nD τ).loc main_arg1) : Vec Ideal S4096x1024 .f32) = tab fun s j => ((I.D s j : ℝ) : EReal)
  a2 : (m ((c : Thread nD τ).loc main_arg2) : Vec Ideal S4x128x128 .f32) = tab3 fun h a b => ((I.W h a b : ℝ) : EReal)
  a3 : (m ((c : Thread nD τ).loc main_arg3) : Vec Ideal S4x128 .f32) = tab fun h a => ((I.B h a : ℝ) : EReal)
  a4 : (m ((c : Thread nD τ).loc main_arg4) : Vec Ideal S512 .f32) = tab1 fun j => ((I.Ga j : ℝ) : EReal)
  a5 : (m ((c : Thread nD τ).loc main_arg5) : Vec Ideal S512 .f32) = tab1 fun j => ((I.Be j : ℝ) : EReal)
  a6 : (m ((c : Thread nD τ).loc main_arg6) : Vec Ideal S4x128x128 .f32) = tab3 fun g a b => ((I.P g a b : ℝ) : EReal)
  a7 : (m ((c : Thread nD τ).loc main_arg7) : Vec Ideal S4x128 .f32) = tab fun g b => bp (g * 128 + b)
  a8 : (m ((c : Thread nD τ).loc main_arg8) : Vec Ideal S512 .f32) = tab1 fun j => ((I.Sc j : ℝ) : EReal)

theorem coord : (grid0.coords t 0).val = t.val := (by decide +kernel : ∀ t : Fin grid0.N, (grid0.coords t 0).val = t.val) t

/-! ### The blocks a step reads -/

theorem index0 : win0_0.index t = ![t.val, 0] := (by decide +kernel : ∀ t : Fin grid0.N, win0_0.index t = ![t.val, 0]) t
theorem index1 : win0_1.index t = ![32 * t.val - 1, 2] := (by decide +kernel : ∀ t : Fin grid0.N, win0_1.index t = ![32 * t.val - 1, 2]) t
theorem index2 : win0_2.index t = ![min (32 * (t.val + 1)) 255, 2] := (by decide +kernel : ∀ t : Fin grid0.N, win0_2.index t = ![min (32 * (t.val + 1)) 255, 2]) t
theorem index3 : win0_3.index t = ![t.val, 0] := (by decide +kernel : ∀ t : Fin grid0.N, win0_3.index t = ![t.val, 0]) t
theorem index4 : win0_4.index t = ![min (32 * (t.val + 1)) 255, 1] := (by decide +kernel : ∀ t : Fin grid0.N, win0_4.index t = ![min (32 * (t.val + 1)) 255, 1]) t
theorem index5 : win0_5.index t = ![0, 0, 0] := (by decide +kernel : ∀ t : Fin grid0.N, win0_5.index t = ![0, 0, 0]) t
theorem index6 : win0_6.index t = ![0, 0] := (by decide +kernel : ∀ t : Fin grid0.N, win0_6.index t = ![0, 0]) t
theorem index7 : win0_7.index t = ![0, 0] := (by decide +kernel : ∀ t : Fin grid0.N, win0_7.index t = ![0, 0]) t
theorem index8 : win0_8.index t = ![0, 0] := (by decide +kernel : ∀ t : Fin grid0.N, win0_8.index t = ![0, 0]) t
theorem index9 : win0_9.index t = ![0, 0, 0] := (by decide +kernel : ∀ t : Fin grid0.N, win0_9.index t = ![0, 0, 0]) t
theorem index10 : win0_10.index t = ![0, 0] := (by decide +kernel : ∀ t : Fin grid0.N, win0_10.index t = ![0, 0]) t
theorem index11 : win0_11.index t = ![0, 0] := (by decide +kernel : ∀ t : Fin grid0.N, win0_11.index t = ![0, 0]) t
theorem index12 : win0_12.index t = ![t.val, 0] := (by decide +kernel : ∀ t : Fin grid0.N, win0_12.index t = ![t.val, 0]) t

/-- The sixteen rows before a tile, the sixteen after it, and their cotangents, as the windows give them. -/
def zp (r j : ℕ) : ℝ := I.Z ((32 * t.val - 1) * 16 + r) (2 * 512 + j)
def zn (r j : ℕ) : ℝ := I.Z (min (32 * (t.val + 1)) 255 * 16 + r) (2 * 512 + j)
def dn (r j : ℕ) : ℝ := I.D (min (32 * (t.val + 1)) 255 * 16 + r) (1 * 512 + j)

theorem zp_eq : 0 < t.val → ∀ r < 16, ∀ j, zp I t r j = I.zb (512 * t.val - 16 + r) j := fun h r _ j => by
  rw [zp, Inp.zb, show (32 * t.val - 1) * 16 + r = 512 * t.val - 16 + r by omega]

theorem dn_eq : ∀ r < 16, 512 * t.val + 512 + r < 4096 → ∀ j, dn I t r j = I.D (512 * t.val + 512 + r) (512 + j) := fun r _ h j => by
  rw [dn, show min (32 * (t.val + 1)) 255 * 16 + r = 512 * t.val + 512 + r by omega, Nat.one_mul]

variable {m c I bp}

theorem V_v2 (h : Holds m c I bp) : (V m c main_v2 : Vec Ideal S128x512 .f32) = X6 I := by
  funext i
  obtain ⟨r, j, rfl⟩ : ∃ (r : Fin 128) (j : Fin 512), i = ix2 r j := ⟨i 0, i 1, eq_ix2 i⟩
  entry_read
  rw [h.a3]
  pointwise
  rfl
theorem V_v3 (h : Holds m c I bp) : (V m c main_v3 : Vec Ideal S1x512 .f32) = X7 I := by
  funext i
  obtain ⟨r, j, rfl⟩ : ∃ (r : Fin 1) (j : Fin 512), i = ix2 r j := ⟨i 0, i 1, eq_ix2 i⟩
  entry_read
  rw [h.a4]
  pointwise
  rfl
theorem V_v4 (h : Holds m c I bp) : (V m c main_v4 : Vec Ideal S1x512 .f32) = X8 I := by
  funext i
  obtain ⟨r, j, rfl⟩ : ∃ (r : Fin 1) (j : Fin 512), i = ix2 r j := ⟨i 0, i 1, eq_ix2 i⟩
  entry_read
  rw [h.a5]
  pointwise
  rfl
theorem V_v5 (h : Holds m c I bp) : (V m c main_v5 : Vec Ideal S1x512 .f32) = X10 bp := by
  funext i
  obtain ⟨r, j, rfl⟩ : ∃ (r : Fin 1) (j : Fin 512), i = ix2 r j := ⟨i 0, i 1, eq_ix2 i⟩
  entry_read
  rw [h.a7]
  pointwise
  exact congrArg bp (Nat.div_add_mod' _ _)
theorem V_v6 (h : Holds m c I bp) : (V m c main_v6 : Vec Ideal S1x512 .f32) = X11 I := by
  funext i
  obtain ⟨r, j, rfl⟩ : ∃ (r : Fin 1) (j : Fin 512), i = ix2 r j := ⟨i 0, i 1, eq_ix2 i⟩
  entry_read
  rw [h.a8]
  pointwise
  rfl

theorem iblk0 (h : Holds m c I bp) : iblk m c 0 t = X0 I t.val := by
  unfold iblk
  rw [show V m c (Pipeline.arrRef spec0 0) = _ from (V_main_arg0 m c).trans h.a0]
  funext y
  blk_simp [index0, tab, tab3]
  show _ = ((I.Z (512 * t.val + (y 0).val) (y 1).val : ℝ) : EReal)
  rw [Nat.mul_comm 512]
theorem iblk1 (h : Holds m c I bp) : iblk m c 1 t = X1 (zp I t) := by
  unfold iblk
  rw [show V m c (Pipeline.arrRef spec0 1) = _ from (V_main_arg0 m c).trans h.a0]
  funext y
  blk_simp [index1, tab, tab3]
  rfl
theorem iblk2 (h : Holds m c I bp) : iblk m c 2 t = X2 (zn I t) := by
  unfold iblk
  rw [show V m c (Pipeline.arrRef spec0 2) = _ from (V_main_arg0 m c).trans h.a0]
  funext y
  blk_simp [index2, tab, tab3]
  rfl
theorem iblk3 (h : Holds m c I bp) : iblk m c 3 t = X3 I t.val := by
  unfold iblk
  rw [show V m c (Pipeline.arrRef spec0 3) = _ from (V_main_arg1 m c).trans h.a1]
  funext y
  blk_simp [index3, tab, tab3]
  show _ = ((I.D (512 * t.val + (y 0).val) (y 1).val : ℝ) : EReal)
  rw [Nat.mul_comm 512]
theorem iblk4 (h : Holds m c I bp) : iblk m c 4 t = X4 (dn I t) := by
  unfold iblk
  rw [show V m c (Pipeline.arrRef spec0 4) = _ from (V_main_arg1 m c).trans h.a1]
  funext y
  blk_simp [index4, tab, tab3]
  rfl
theorem iblk5 (h : Holds m c I bp) : iblk m c 5 t = X5 I := by
  unfold iblk
  rw [show V m c (Pipeline.arrRef spec0 5) = _ from (V_main_arg2 m c).trans h.a2]
  funext y
  blk_simp [index5, tab, tab3]
  rfl
theorem iblk6 (h : Holds m c I bp) : iblk m c 6 t = X6 I := by
  unfold iblk
  rw [show V m c (Pipeline.arrRef spec0 6) = _ from V_v2 h]
  funext y
  blk_simp [index6, tab, tab3]
  exact congrArg _ (by blk_ext [index6])
theorem iblk7 (h : Holds m c I bp) : iblk m c 7 t = X7 I := by
  unfold iblk
  rw [show V m c (Pipeline.arrRef spec0 7) = _ from V_v3 h]
  funext y
  blk_simp [index7, tab, tab3]
  exact congrArg _ (by blk_ext [index7])
theorem iblk8 (h : Holds m c I bp) : iblk m c 8 t = X8 I := by
  unfold iblk
  rw [show V m c (Pipeline.arrRef spec0 8) = _ from V_v4 h]
  funext y
  blk_simp [index8, tab, tab3]
  exact congrArg _ (by blk_ext [index8])
theorem iblk9 (h : Holds m c I bp) : iblk m c 9 t = X9 I := by
  unfold iblk
  rw [show V m c (Pipeline.arrRef spec0 9) = _ from (V_main_arg6 m c).trans h.a6]
  funext y
  blk_simp [index9, tab, tab3]
  rfl
theorem iblk10 (h : Holds m c I bp) : iblk m c 10 t = X10 bp := by
  unfold iblk
  rw [show V m c (Pipeline.arrRef spec0 10) = _ from V_v5 h]
  funext y
  blk_simp [index10, tab, tab3]
  exact congrArg _ (by blk_ext [index10])
theorem iblk11 (h : Holds m c I bp) : iblk m c 11 t = X11 I := by
  unfold iblk
  rw [show V m c (Pipeline.arrRef spec0 11) = _ from V_v6 h]
  funext y
  blk_simp [index11, tab, tab3]
  exact congrArg _ (by blk_ext [index11])

/-! ### The running sums -/

variable (I bp)

def DZ (n : ℕ) : Vec Ideal S512x1536 .bf16 := tab fun a j => ((I.dz (512 * n + a) j : ℝ) : EReal)
/-- The pool's scale's gradient over the first rows; the pool's bias may be anything. -/
def dps (len j : ℕ) : EReal := ∑ s ∈ Finset.range len, ((I.D s (512 + j) : ℝ) : EReal) * (((I.lin s j : ℝ) : EReal) + bp j)

/-- What the results' buffers hold after `n + 1` steps. -/
def after (n : ℕ) : Vec Ideal S512x1536 .bf16 × Vec Ideal S4x128x128 .f32 × Vec Ideal S4x128x1 .f32 × Vec Ideal S1x512 .f32 × Vec Ideal S1x512 .f32 × Vec Ideal S4x128x128 .f32 × Vec Ideal S1x512 .f32 × Vec Ideal S1x512 .f32 :=
  (DZ I n, Q13 (I.dws 0 (4 * (n + 1))), Q14 (I.dbs 0 (4 * (n + 1))), Q15 (I.dgain 0 (512 * (n + 1))), Q15 (I.dbias 0 (512 * (n + 1))),
    Q13 (I.dwp 0 (512 * (n + 1))), Q15 (I.dbp 0 (512 * (n + 1))), Q19 (dps I bp (512 * (n + 1))))

theorem dws_add (n k h a b : ℕ) : I.dws 0 n h a b + I.dws n k h a b = I.dws 0 (n + k) h a b := by
  unfold Inp.dws
  split
  · simp only [Nat.zero_add, Finset.sum_range_add]
  · exact add_zero _
theorem dbs_add (n k h a : ℕ) : I.dbs 0 n h a + I.dbs n k h a = I.dbs 0 (n + k) h a := by
  simp only [Inp.dbs, Nat.zero_add, Finset.sum_range_add]
theorem dgain_add (n k j : ℕ) : I.dgain 0 n j + I.dgain n k j = I.dgain 0 (n + k) j := by
  simp only [Inp.dgain, Nat.zero_add, Finset.sum_range_add]
theorem dbias_add (n k j : ℕ) : I.dbias 0 n j + I.dbias n k j = I.dbias 0 (n + k) j := by
  simp only [Inp.dbias, Nat.zero_add, Finset.sum_range_add]
theorem dwp_add (n k g a b : ℕ) : I.dwp 0 n g a b + I.dwp n k g a b = I.dwp 0 (n + k) g a b := by
  simp only [Inp.dwp, Nat.zero_add, Finset.sum_range_add]
theorem dbp_add (n k j : ℕ) : I.dbp 0 n j + I.dbp n k j = I.dbp 0 (n + k) j := by
  simp only [Inp.dbp, Nat.zero_add, Finset.sum_range_add]
theorem dps_add (n k j : ℕ) : dps I bp n j + ∑ s ∈ Finset.range k, ((I.D (n + s) (512 + j) : ℝ) : EReal) * (((I.lin (n + s) j : ℝ) : EReal) + bp j)
    = dps I bp (n + k) j := by
  simp only [dps, Finset.sum_range_add]

variable {I bp}

theorem after_zero (h : Holds m c I bp) (t : Fin cfg0.N) (ht : t.val = 0) : outsAt0 m c t.val t.isLt = after I bp t.val := by
  have hN : t.val < 8 := t.isLt.trans_eq N_0
  rw [outsAt0_A m c t (by rw [ht]), iblk0 t h, iblk1 t h, iblk2 t h, iblk3 t h, iblk4 t h, iblk5 t h, iblk6 t h, iblk7 t h, iblk8 t h, iblk9 t h, iblk10 t h, iblk11 t h]
  have z4 : 4 * t.val = 0 := by rw [ht]
  have z5 : 512 * t.val = 0 := by rw [ht]
  rw [outA_12 (hi := coord t) (ht := hN) (hD := dn_eq I t), outA_13, outA_14, outA_15, outA_16, outA_17 (hi := coord t) (ht := hN) (hZ := zp_eq I t), outA_18, outA_19 (hi := coord t) (ht := hN) (hZ := zp_eq I t)]
  refine Prod.ext rfl (Prod.ext ?_ (Prod.ext ?_ (Prod.ext ?_ (Prod.ext ?_ (Prod.ext ?_ (Prod.ext ?_ ?_))))))
  · refine funext fun y => congrArg Real.toEReal ?_
    rw [z4, zero_add, ht]
  · refine funext fun y => congrArg Real.toEReal ?_
    rw [z4, zero_add, ht]
  · refine funext fun y => congrArg Real.toEReal ?_
    rw [z5, zero_add, ht]
  · refine funext fun y => congrArg Real.toEReal ?_
    rw [z5, zero_add, ht]
  · refine funext fun y => congrArg Real.toEReal ?_
    rw [z5, zero_add, ht]
  · refine funext fun y => congrArg Real.toEReal ?_
    rw [z5, zero_add, ht]
  · refine funext fun y => ?_
    show 0 + ∑ s ∈ Finset.range 512, _ = dps I bp (512 * (t.val + 1)) _
    simp only [zero_add, ht, dps, mul_zero, mul_one]

theorem after_succ (h : Holds m c I bp) (t : Fin cfg0.N) (n : ℕ) (ht : t.val = n + 1)
    (hb : outsAt0 m c n (by have := t.isLt; omega) = after I bp n) : outsAt0 m c t.val t.isLt = after I bp t.val := by
  have hN : t.val < 8 := t.isLt.trans_eq N_0
  have e4 : 4 * (n + 1) = 4 * t.val := by rw [ht]
  have e5 : 512 * (n + 1) = 512 * t.val := by rw [ht]
  have hb' : outsAt0 m c (t.val - 1) (Nat.lt_of_le_of_lt (Nat.sub_le _ _) t.isLt) = after I bp n := by
    rw [← hb]; congr 1; omega
  rw [outsAt0_B m c t (by omega), hb', iblk0 t h, iblk1 t h, iblk2 t h, iblk3 t h, iblk4 t h, iblk5 t h, iblk6 t h, iblk7 t h, iblk8 t h, iblk9 t h, iblk10 t h, iblk11 t h]
  dsimp only [after]
  rw [e4, e5]
  rw [outB_12 (hi := coord t) (ht := hN) (hD := dn_eq I t), outB_13, outB_14, outB_15, outB_16, outB_17 (hi := coord t) (ht := hN) (hZ := zp_eq I t), outB_18, outB_19 (hi := coord t) (ht := hN) (hZ := zp_eq I t)]
  refine Prod.ext rfl (Prod.ext ?_ (Prod.ext ?_ (Prod.ext ?_ (Prod.ext ?_ (Prod.ext ?_ (Prod.ext ?_ ?_))))))
  · exact funext fun y => congrArg Real.toEReal (dws_add ..)
  · exact funext fun y => congrArg Real.toEReal (dbs_add ..)
  · exact funext fun y => congrArg Real.toEReal (dgain_add ..)
  · exact funext fun y => congrArg Real.toEReal (dbias_add ..)
  · exact funext fun y => congrArg Real.toEReal (dwp_add ..)
  · exact funext fun y => congrArg Real.toEReal (dbp_add ..)
  · exact funext fun y => dps_add ..

theorem outs_eq (h : Holds m c I bp) : ∀ (n : ℕ) (hn : n < cfg0.N), outsAt0 m c n hn = after I bp n
  | 0, hn => after_zero h ⟨0, hn⟩ rfl
  | n + 1, hn => after_succ h ⟨n + 1, hn⟩ n rfl (outs_eq h n _)

/-! ### The arrays after the last step -/

theorem final12 (h : Holds m c I bp) : (dats m 0 c).arrAt 12 cfg0.N = (tab fun s j => ((I.dz s j : ℝ) : EReal) : Vec Ideal S4096x1536 .bf16) :=
  (dats m 0 c).arrAt_eq_of_covers 12 _ (by decide +kernel) fun t hf y => by
    blk_simp
    rw [after0_12, outs_eq h]
    blk_simp [index12, tab]
    show ((I.dz (512 * t.val + (y 0).val) (y 1).val : ℝ) : EReal) = _
    rw [Nat.mul_comm 512]
theorem final13 (h : Holds m c I bp) : (dats m 0 c).arrAt 13 cfg0.N = Q13 (I.dws 0 32) :=
  (dats m 0 c).arrAt_eq_of_after_last 13 t0_7 (by decide +kernel) _ fun j => by
    blk_simp
    rw [after0_13, outs_eq h]
    rfl
theorem final14 (h : Holds m c I bp) : (dats m 0 c).arrAt 14 cfg0.N = Q14 (I.dbs 0 32) :=
  (dats m 0 c).arrAt_eq_of_after_last 14 t0_7 (by decide +kernel) _ fun j => by
    blk_simp
    rw [after0_14, outs_eq h]
    rfl
theorem final15 (h : Holds m c I bp) : (dats m 0 c).arrAt 15 cfg0.N = Q15 (I.dgain 0 4096) :=
  (dats m 0 c).arrAt_eq_of_after_last 15 t0_7 (by decide +kernel) _ fun j => by
    blk_simp
    rw [after0_15, outs_eq h]
    rfl
theorem final16 (h : Holds m c I bp) : (dats m 0 c).arrAt 16 cfg0.N = Q15 (I.dbias 0 4096) :=
  (dats m 0 c).arrAt_eq_of_after_last 16 t0_7 (by decide +kernel) _ fun j => by
    blk_simp
    rw [after0_16, outs_eq h]
    rfl
theorem final17 (h : Holds m c I bp) : (dats m 0 c).arrAt 17 cfg0.N = Q13 (I.dwp 0 4096) :=
  (dats m 0 c).arrAt_eq_of_after_last 17 t0_7 (by decide +kernel) _ fun j => by
    blk_simp
    rw [after0_17, outs_eq h]
    rfl
theorem final18 (h : Holds m c I bp) : (dats m 0 c).arrAt 18 cfg0.N = Q15 (I.dbp 0 4096) :=
  (dats m 0 c).arrAt_eq_of_after_last 18 t0_7 (by decide +kernel) _ fun j => by
    blk_simp
    rw [after0_18, outs_eq h]
    rfl
theorem final19 (h : Holds m c I bp) : (dats m 0 c).arrAt 19 cfg0.N = Q19 (dps I bp 4096) :=
  (dats m 0 c).arrAt_eq_of_after_last 19 t0_7 (by decide +kernel) _ fun j => by
    blk_simp
    rw [after0_19, outs_eq h]
    rfl

end Cert.MixerIdeal.Hand
-- ==== Proof.MixerHost.lean ====
module

public import proofs.«01_k».proof.Proof.MixerMath
public import Idealize.ShloMosaic.PureOps
public import Idealize.ShloMosaic.Lib.Pointwise
public import Idealize.ShloMosaic.Lib.KernelVsHost

/-!
The host's operations at real numbers: what each arithmetic operation makes of finite operands, and the sums and
paddings of the mixer's reference that the library states no reading lemma for.
-/

@[expose] public section

set_option maxRecDepth 16384

noncomputable section

namespace Cert.MixerHost

open Idealize.ShloMosaic Cert.MixerMath

/-! ## Arithmetic on reals -/

variable (a b : ℝ)

theorem mul_r : FloatOps.mulf (F := Ideal) (φ := .f32) (a : EReal) (b : EReal) = ((a * b : ℝ) : EReal) := (EReal.coe_mul a b).symm
theorem add_r : FloatOps.addf (F := Ideal) (φ := .f32) (a : EReal) (b : EReal) = ((a + b : ℝ) : EReal) := (EReal.coe_add a b).symm
theorem sub_r : FloatOps.subf (F := Ideal) (φ := .f32) (a : EReal) (b : EReal) = ((a - b : ℝ) : EReal) := (EReal.coe_sub a b).symm
theorem neg_r : FloatOps.hostNegf (F := Ideal) (φ := .f32) (a : EReal) = ((-a : ℝ) : EReal) := (EReal.coe_neg a).symm
theorem tanh_r : FloatOps.hostUnary (F := Ideal) (φ := .f32) .tanh (a : EReal) = ((Real.tanh a : ℝ) : EReal) := rfl
theorem min_r : FloatOps.minimumf (F := Ideal) (φ := .f32) (a : EReal) (b : EReal) = ((min a b : ℝ) : EReal) :=
  (EReal.coe_strictMono.monotone.map_min).symm
theorem div_r (h : b ≠ 0) : FloatOps.hostDivf (F := Ideal) (φ := .f32) (a : EReal) (b : EReal) = ((a / b : ℝ) : EReal) :=
  (Ideal.div_coe h _).trans (by rw [← EReal.coe_mul, mul_one_div])
theorem rsqrt_r (h : 0 < a) : FloatOps.hostUnary (F := Ideal) (φ := .f32) .rsqrt (a : EReal) = (((Real.sqrt a)⁻¹ : ℝ) : EReal) :=
  (Ideal.rsqrt_coe a).trans (by rw [if_neg h.le.not_gt, if_neg h.ne'])
theorem eadd_r : (a : EReal) + (b : EReal) = ((a + b : ℝ) : EReal) := (EReal.coe_add a b).symm
theorem emul_r : (a : EReal) * (b : EReal) = ((a * b : ℝ) : EReal) := (EReal.coe_mul a b).symm

/-! ## The constants -/

theorem w_0 : FloatOps.ofBits (F := Ideal) .f32 0x00000000#32 = ((0 : ℝ) : EReal) := Ideal.ofBits_zero_f32
theorem w_1 : FloatOps.ofBits (F := Ideal) .f32 0x3F800000#32 = ((1 : ℝ) : EReal) := by
  show Ideal.ofBits .f32 0x3F800000#32 = _
  simp [Ideal.ofBits, Ideal.ieee, -EReal.coe_mul]; norm_num
theorem w_2 : FloatOps.ofBits (F := Ideal) .f32 0x40000000#32 = ((2 : ℝ) : EReal) := by
  show Ideal.ofBits .f32 0x40000000#32 = _
  simp [Ideal.ofBits, Ideal.ieee, -EReal.coe_mul]; norm_num
theorem w_3 : FloatOps.ofBits (F := Ideal) .f32 0x40400000#32 = ((3 : ℝ) : EReal) := by
  show Ideal.ofBits .f32 0x40400000#32 = _
  simp [Ideal.ofBits, Ideal.ieee, -EReal.coe_mul]; norm_num
theorem w_4 : FloatOps.ofBits (F := Ideal) .f32 0x40800000#32 = ((4 : ℝ) : EReal) := by
  show Ideal.ofBits .f32 0x40800000#32 = _
  simp [Ideal.ofBits, Ideal.ieee, -EReal.coe_mul]; norm_num
theorem w_8 : FloatOps.ofBits (F := Ideal) .f32 0x41000000#32 = ((8 : ℝ) : EReal) := by
  show Ideal.ofBits .f32 0x41000000#32 = _
  simp [Ideal.ofBits, Ideal.ieee, -EReal.coe_mul]; norm_num
theorem w_16 : FloatOps.ofBits (F := Ideal) .f32 0x41800000#32 = ((16 : ℝ) : EReal) := by
  show Ideal.ofBits .f32 0x41800000#32 = _
  simp [Ideal.ofBits, Ideal.ieee, -EReal.coe_mul]; norm_num
theorem w_512 : FloatOps.ofBits (F := Ideal) .f32 0x44000000#32 = ((512 : ℝ) : EReal) := by
  show Ideal.ofBits .f32 0x44000000#32 = _
  simp [Ideal.ofBits, Ideal.ieee, -EReal.coe_mul]; norm_num
theorem w_half : FloatOps.ofBits (F := Ideal) .f32 0x3F000000#32 = ((1 / 2 : ℝ) : EReal) := by
  show Ideal.ofBits .f32 0x3F000000#32 = _
  simp [Ideal.ofBits, Ideal.ieee, -EReal.coe_mul]; norm_num
theorem w_mhalf : FloatOps.ofBits (F := Ideal) .f32 0xBF000000#32 = ((-(1 / 2) : ℝ) : EReal) := by
  show Ideal.ofBits .f32 0xBF000000#32 = _
  simp [Ideal.ofBits, Ideal.ieee, -EReal.coe_mul]; norm_num
theorem w_k0 : FloatOps.ofBits (F := Ideal) .f32 0x3F4C422A#32 = ((K0 : ℝ) : EReal) := by
  show Ideal.ofBits .f32 0x3F4C422A#32 = _
  simp [Ideal.ofBits, Ideal.ieee, -EReal.coe_mul, K0]; norm_num
theorem w_k1 : FloatOps.ofBits (F := Ideal) .f32 0x3D372713#32 = ((K1 : ℝ) : EReal) := by
  show Ideal.ofBits .f32 0x3D372713#32 = _
  simp [Ideal.ofBits, Ideal.ieee, -EReal.coe_mul, K1]; norm_num
theorem w_eps : FloatOps.ofBits (F := Ideal) .f32 0x358637BD#32 = ((eps : ℝ) : EReal) := by
  show Ideal.ofBits .f32 0x358637BD#32 = _
  simp [Ideal.ofBits, Ideal.ieee, -EReal.coe_mul, eps]; norm_num

/-! ## Joining and padding -/

/-- `k` rows of zeros above the rows of `y`. -/
theorem below2 {m k l n : ℕ} (x : (⟨2, ![k, n]⟩ : Shape).Idx → EReal) (y : (⟨2, ![l, n]⟩ : Shape).Idx → EReal)
    (h : Shape.Concatenates [⟨2, ![k, n]⟩, ⟨2, ![l, n]⟩] ⟨2, ![m, n]⟩ 0) (f : ℕ → ℕ → ℝ) (hx : ∀ j, x j = ((0 : ℝ) : EReal))
    (hy : ∀ j, y j = ((f (j 0).val (j 1).val : ℝ) : EReal)) (i : (⟨2, ![m, n]⟩ : Shape).Idx) :
    concatenate ⟨2, ![m, n]⟩ 0 [⟨⟨2, ![k, n]⟩, x⟩, ⟨⟨2, ![l, n]⟩, y⟩] h i
      = ((if (i 0).val < k then 0 else f ((i 0).val - k) (i 1).val : ℝ) : EReal) := by
  rw [concatenate_pair_apply]
  split
  · next hk =>
    rw [if_pos (show (i 0).val < k from hk)]
    exact hx _
  · next hk =>
    rw [if_neg (show ¬(i 0).val < k from hk)]
    exact hy _

theorem below3 {m k l n p : ℕ} (x : (⟨3, ![k, n, p]⟩ : Shape).Idx → EReal) (y : (⟨3, ![l, n, p]⟩ : Shape).Idx → EReal)
    (h : Shape.Concatenates [⟨3, ![k, n, p]⟩, ⟨3, ![l, n, p]⟩] ⟨3, ![m, n, p]⟩ 0) (f : ℕ → ℕ → ℕ → ℝ)
    (hx : ∀ j, x j = ((0 : ℝ) : EReal)) (hy : ∀ j, y j = ((f (j 0).val (j 1).val (j 2).val : ℝ) : EReal))
    (i : (⟨3, ![m, n, p]⟩ : Shape).Idx) :
    concatenate ⟨3, ![m, n, p]⟩ 0 [⟨⟨3, ![k, n, p]⟩, x⟩, ⟨⟨3, ![l, n, p]⟩, y⟩] h i
      = ((if (i 0).val < k then 0 else f ((i 0).val - k) (i 1).val (i 2).val : ℝ) : EReal) := by
  rw [concatenate_pair_apply]
  split
  · next hk =>
    rw [if_pos (show (i 0).val < k from hk)]
    exact hx _
  · next hk =>
    rw [if_neg (show ¬(i 0).val < k from hk)]
    exact hy _

/-- A padded matrix: the operand where both coordinates are inside it, zero elsewhere. -/
theorem pad2 {m n p q a b c d : ℕ} {u : Shape} (x : (⟨2, ![m, n]⟩ : Shape).Idx → EReal) (v : u.Idx → EReal)
    (h : (⟨2, ![m, n]⟩ : Shape).Pads ![a, b] ![c, d] ![0, 0] ⟨2, ![p, q]⟩) (hu : 0 < u.numel) (f : ℕ → ℕ → ℝ)
    (hx : ∀ j, x j = ((f (j 0).val (j 1).val : ℝ) : EReal)) (hv : ∀ j, v j = ((0 : ℝ) : EReal))
    (i : (⟨2, ![p, q]⟩ : Shape).Idx) :
    pad ⟨2, ![p, q]⟩ ![a, b] ![c, d] ![0, 0] x v h hu i
      = ((if (a ≤ (i 0).val ∧ (i 0).val - a < m) ∧ (b ≤ (i 1).val ∧ (i 1).val - b < n)
          then f ((i 0).val - a) ((i 1).val - b) else 0 : ℝ) : EReal) := by
  by_cases hin : (a ≤ (i 0).val ∧ (i 0).val - a < m) ∧ (b ≤ (i 1).val ∧ (i 1).val - b < n)
  · rw [if_pos hin]
    refine (pad_apply_of_inside _ _ _ x v h hu i (fun e => match e with
      | ⟨0, _⟩ => ⟨(i 0).val - a, hin.1.2⟩ | ⟨1, _⟩ => ⟨(i 1).val - b, hin.2.2⟩) fun e => ?_).trans (hx _)
    match e with
    | ⟨0, _⟩ => show (i 0).val = a + ((i 0).val - a) * 1; omega
    | ⟨1, _⟩ => show (i 1).val = b + ((i 1).val - b) * 1; omega
  · rw [if_neg hin]
    have : ¬ ∀ e : Fin 2, ((![a, b] : Fin 2 → ℕ) e ≤ (i e).val ∧ ((i e).val - (![a, b] : Fin 2 → ℕ) e) % ((![0, 0] : Fin 2 → ℕ) e + 1) = 0
        ∧ ((i e).val - (![a, b] : Fin 2 → ℕ) e) / ((![0, 0] : Fin 2 → ℕ) e + 1) < (![m, n] : Fin 2 → ℕ) e) := fun hall => hin (by
      have h0 := hall 0
      have h1 := hall 1
      change a ≤ (i 0).val ∧ ((i 0).val - a) % 1 = 0 ∧ ((i 0).val - a) / 1 < m at h0
      change b ≤ (i 1).val ∧ ((i 1).val - b) % 1 = 0 ∧ ((i 1).val - b) / 1 < n at h1
      rw [Nat.div_one] at h0 h1
      exact ⟨⟨h0.1, h0.2.2⟩, h1.1, h1.2.2⟩)
    obtain ⟨e, he⟩ := not_forall.1 this
    exact (pad_apply_of_not_inside _ _ _ x v h hu i e he).trans (hv _)

/-- A matrix set at place `g` of a middle axis of four, zero at the other places. -/
theorem pad3 {m n g k : ℕ} {u : Shape} (x : (⟨3, ![m, 1, n]⟩ : Shape).Idx → EReal) (v : u.Idx → EReal)
    (h : (⟨3, ![m, 1, n]⟩ : Shape).Pads ![0, g, 0] ![0, k, 0] ![0, 0, 0] ⟨3, ![m, 4, n]⟩) (hu : 0 < u.numel) (f : ℕ → ℕ → ℝ)
    (hx : ∀ j, x j = ((f (j 0).val (j 2).val : ℝ) : EReal)) (hv : ∀ j, v j = ((0 : ℝ) : EReal))
    (i : (⟨3, ![m, 4, n]⟩ : Shape).Idx) :
    pad ⟨3, ![m, 4, n]⟩ ![0, g, 0] ![0, k, 0] ![0, 0, 0] x v h hu i
      = ((if (i 1).val = g then f (i 0).val (i 2).val else 0 : ℝ) : EReal) := by
  by_cases hin : (i 1).val = g
  · rw [if_pos hin]
    refine (pad_apply_of_inside _ _ _ x v h hu i (fun e => match e with
      | ⟨0, _⟩ => ⟨(i 0).val, (i 0).isLt⟩ | ⟨1, _⟩ => ⟨0, Nat.one_pos⟩ | ⟨2, _⟩ => ⟨(i 2).val, (i 2).isLt⟩) fun e => ?_).trans (hx _)
    match e with
    | ⟨0, _⟩ => show (i 0).val = 0 + (i 0).val * 1; omega
    | ⟨1, _⟩ => show (i 1).val = g + 0 * 1; omega
    | ⟨2, _⟩ => show (i 2).val = 0 + (i 2).val * 1; omega
  · rw [if_neg hin]
    refine (pad_apply_of_not_inside _ _ _ x v h hu i 1 fun h1 => hin ?_).trans (hv _)
    change g ≤ (i 1).val ∧ ((i 1).val - g) % 1 = 0 ∧ ((i 1).val - g) / 1 < 1 at h1
    rw [Nat.div_one] at h1
    omega

/-- Four matrices side by side along a middle axis. -/
theorem stack4 {m n : ℕ} (x0 x1 x2 x3 : (⟨3, ![m, 1, n]⟩ : Shape).Idx → EReal)
    (h : Shape.Concatenates [⟨3, ![m, 1, n]⟩, ⟨3, ![m, 1, n]⟩, ⟨3, ![m, 1, n]⟩, ⟨3, ![m, 1, n]⟩] ⟨3, ![m, 4, n]⟩ 1) (f : ℕ → ℕ → ℕ → ℝ)
    (h0 : ∀ j, x0 j = ((f (j 0).val 0 (j 2).val : ℝ) : EReal)) (h1 : ∀ j, x1 j = ((f (j 0).val 1 (j 2).val : ℝ) : EReal))
    (h2 : ∀ j, x2 j = ((f (j 0).val 2 (j 2).val : ℝ) : EReal)) (h3 : ∀ j, x3 j = ((f (j 0).val 3 (j 2).val : ℝ) : EReal))
    (i : (⟨3, ![m, 4, n]⟩ : Shape).Idx) :
    concatenate ⟨3, ![m, 4, n]⟩ 1 [⟨⟨3, ![m, 1, n]⟩, x0⟩, ⟨⟨3, ![m, 1, n]⟩, x1⟩, ⟨⟨3, ![m, 1, n]⟩, x2⟩, ⟨⟨3, ![m, 1, n]⟩, x3⟩] h i
      = ((f (i 0).val (i 1).val (i 2).val : ℝ) : EReal) := by
  have hx : ∀ g : Fin 4, ∀ j, (![x0, x1, x2, x3] : Fin 4 → _) g j = ((f (j 0).val g.val (j 2).val : ℝ) : EReal) := fun g j => by
    match g with
    | ⟨0, _⟩ => exact h0 j
    | ⟨1, _⟩ => exact h1 j
    | ⟨2, _⟩ => exact h2 j
    | ⟨3, _⟩ => exact h3 j
  exact (concatenate_ofFn_unit_apply' (t := ⟨3, ![m, 4, n]⟩) (1 : Fin 3) (![x0, x1, x2, x3] : Fin 4 → (⟨3, ![m, 1, n]⟩ : Shape).Idx → EReal)
    h rfl i).trans (hx _ _)

/-- Running sums moved down by `k` rows: a row's entry stops `k` rows earlier. -/
theorem shifted (k : ℕ) {l n m : ℕ} (x : (⟨2, ![k, n]⟩ : Shape).Idx → EReal) (y : (⟨2, ![l, n]⟩ : Shape).Idx → EReal)
    (h : Shape.Concatenates [⟨2, ![k, n]⟩, ⟨2, ![l, n]⟩] ⟨2, ![m, n]⟩ 0) (f : ℕ → ℕ → ℝ) (hx : ∀ j, x j = ((0 : ℝ) : EReal))
    (hy : ∀ j, y j = ((∑ r ∈ Finset.range (j 0).val, f r (j 1).val : ℝ) : EReal)) (i : (⟨2, ![m, n]⟩ : Shape).Idx) :
    concatenate ⟨2, ![m, n]⟩ 0 [⟨⟨2, ![k, n]⟩, x⟩, ⟨⟨2, ![l, n]⟩, y⟩] h i
      = ((∑ r ∈ Finset.range ((i 0).val + 1 - (k + 1)), f r (i 1).val : ℝ) : EReal) := by
  refine (below2 x y h (fun s c => ∑ r ∈ Finset.range s, f r c) hx hy i).trans (congrArg Real.toEReal ?_)
  rw [Nat.add_sub_add_right]
  split
  · next hk => rw [Nat.sub_eq_zero_of_le hk.le, Finset.sum_range_zero]
  · rfl

/-- The causal mask: one where the column is not after the row. -/
theorem select_ge {a b : ℕ} (ha : a < 128) (hb : b < 128) :
    Scalar.select (IntOp.cmpi .sge (IntOp.addi (BitVec.ofNat 32 a) 0#32) (BitVec.ofNat 32 b)) ((1 : ℝ) : EReal) ((0 : ℝ) : EReal)
      = ((if b ≤ a then 1 else 0 : ℝ) : EReal) := by
  have h : (BitVec.ofNat 32 b).sle (IntOp.addi (BitVec.ofNat 32 a) 0#32) = decide (b ≤ a) := by
    rw [show IntOp.addi (BitVec.ofNat 32 a) 0#32 = BitVec.ofNat 32 a from BitVec.add_zero _]
    rw [BitVec.sle_eq_decide, BitVec.toInt_eq_toNat_of_lt (by simp; omega), BitVec.toInt_eq_toNat_of_lt (by simp; omega)]
    simp [Nat.mod_eq_of_lt (show a < 4294967296 by omega), Nat.mod_eq_of_lt (show b < 4294967296 by omega)]
  unfold IntOp.cmpi
  simp only [h]
  by_cases hab : b ≤ a <;> simp [hab, Scalar.select]

theorem cnt_ne {w : ℕ} (h : 0 < w) (s : ℕ) : cnt w s ≠ 0 :=
  (lt_min (by positivity) (by exact_mod_cast h) : (0 : ℝ) < cnt w s).ne'

/-- The pool's mean of group `g` at row `s` and the group's column `c`. -/
def _root_.Cert.MixerMath.Inp.pool (I : Inp) (g s c : ℕ) : ℝ :=
  back (fun k => I.zb k (g * 128 + c)) (2 ^ (g + 1)) s / cnt (2 ^ (g + 1)) s

theorem win_at {g c : ℕ} (h : c < 128) : win (g * 128 + c) = 2 ^ (g + 1) := by
  rw [win, show (g * 128 + c) / 128 = g by omega]

theorem _root_.Cert.MixerMath.Inp.pool_diff (I : Inp) (g s c : ℕ) (h : c < 128) :
    I.pool g s c - I.zb s (g * 128 + c) = I.diff s (g * 128 + c) := by
  rw [Inp.diff, win_at h, Inp.pool]

/-! ## Running sums -/

/-- A left fold of additions of reals is a sum. -/
theorem foldl_real {N : ℕ} (g : Fin N → EReal) (f : ℕ → ℝ) (hg : ∀ n, g n = ((f n.val : ℝ) : EReal)) :
    (List.finRange N).foldl (fun r n => r + g n) ((0 : ℝ) : EReal) = ((∑ n ∈ Finset.range N, f n : ℝ) : EReal) := by
  have hl : ∀ (l : List (Fin N)) (v : EReal), l.foldl (fun r n => r + g n) v = v + (l.map g).sum := fun l => by
    induction l with
    | nil => intro v; simp
    | cons a l ih => intro v; rw [List.foldl_cons, ih, List.map_cons, List.sum_cons, add_assoc]
  rw [hl, EReal.coe_zero, zero_add, ← Fin.sum_univ_def]
  exact sum_fin f g hg

/-- The sums over a window as high as the array and one place wide, which begins `lo` rows above it. -/
theorem window_sum {n b c lo hi : ℕ} {u : Shape} (x : FVec Ideal ⟨3, ![n, b, c]⟩ .f32) (v : FVec Ideal u .f32)
    (h : (⟨3, ![n, b, c]⟩ : Shape).ReduceWindows ![n, 1, 1] ![1, 1, 1] ![lo, 0, 0] ![hi, 0, 0] ⟨3, ![n, b, c]⟩) (hu : 0 < u.numel)
    (f : ℕ → ℕ → ℕ → ℝ) (hx : ∀ j, x j = ((f (j 0).val (j 1).val (j 2).val : ℝ) : EReal)) (hv : ∀ j, v j = ((0 : ℝ) : EReal))
    (i : (⟨3, ![n, b, c]⟩ : Shape).Idx) :
    Host.reduceWindowAdd ![n, 1, 1] ![1, 1, 1] ![lo, 0, 0] ![hi, 0, 0] x v h hu i
      = ((∑ k ∈ Finset.range n, if lo ≤ (i 0).val + k ∧ (i 0).val + k - lo < n
          then f ((i 0).val + k - lo) (i 1).val (i 2).val else 0 : ℝ) : EReal) := by
  unfold Host.reduceWindowAdd
  rw [Ideal.hostReduceWindowAdd_def]
  unfold Ideal.hostReduceWindowAdd Host.reduceWindow
  dsimp only
  rw [hv]
  have hN : (⟨3, ![n, 1, 1]⟩ : Shape).numel = n := by simp [Shape.numel, Fin.prod_univ_three]
  have hw : ∀ k : Fin (⟨3, ![n, 1, 1]⟩ : Shape).numel, ((⟨3, ![n, 1, 1]⟩ : Shape).rowMajor.symm k 0).val = k.val
      ∧ ((⟨3, ![n, 1, 1]⟩ : Shape).rowMajor.symm k 1).val = 0 ∧ ((⟨3, ![n, 1, 1]⟩ : Shape).rowMajor.symm k 2).val = 0 := fun k => by
    have h1 : ((⟨3, ![n, 1, 1]⟩ : Shape).rowMajor.symm k 1).val < 1 := Fin.isLt _
    have h2 : ((⟨3, ![n, 1, 1]⟩ : Shape).rowMajor.symm k 2).val < 1 := Fin.isLt _
    have h0 := Shape.rowMajor_val_three ((⟨3, ![n, 1, 1]⟩ : Shape).rowMajor.symm k)
    rw [Equiv.apply_symm_apply] at h0
    change k.val = (_ * 1 + _) * 1 + _ at h0
    omega
  refine (foldl_real _ _ fun k => ?_).trans (by rw [hN])
  obtain ⟨h0, h1, h2⟩ := hw k
  split
  · next hin =>
    have g0 := hin 0
    change lo ≤ (i 0).val * 1 + _ ∧ (i 0).val * 1 + _ - lo < n at g0
    rw [h0, Nat.mul_one] at g0
    rw [if_pos g0]
    refine (hx _).trans ?_
    show ((f ((i 0).val * 1 + _ - lo) ((i 1).val * 1 + _ - 0) ((i 2).val * 1 + _ - 0) : ℝ) : EReal) = _
    rw [h0, h1, h2]
    simp only [Nat.mul_one, Nat.add_zero, Nat.sub_zero]
  · next hin =>
    refine congrArg Real.toEReal (if_neg fun g0 => hin fun e => ?_).symm
    have b1 : (i 1).val < b := (i 1).isLt
    have b2 : (i 2).val < c := (i 2).isLt
    match e with
    | ⟨0, _⟩ =>
      show lo ≤ (i 0).val * 1 + ((⟨3, ![n, 1, 1]⟩ : Shape).rowMajor.symm k 0).val
        ∧ (i 0).val * 1 + ((⟨3, ![n, 1, 1]⟩ : Shape).rowMajor.symm k 0).val - lo < n
      rw [h0, Nat.mul_one]
      exact g0
    | ⟨1, _⟩ =>
      show 0 ≤ (i 1).val * 1 + ((⟨3, ![n, 1, 1]⟩ : Shape).rowMajor.symm k 1).val
        ∧ (i 1).val * 1 + ((⟨3, ![n, 1, 1]⟩ : Shape).rowMajor.symm k 1).val - 0 < b
      omega
    | ⟨2, _⟩ =>
      show 0 ≤ (i 2).val * 1 + ((⟨3, ![n, 1, 1]⟩ : Shape).rowMajor.symm k 2).val
        ∧ (i 2).val * 1 + ((⟨3, ![n, 1, 1]⟩ : Shape).rowMajor.symm k 2).val - 0 < c
      omega

/-- The running sum from the first row down: a window that ends at the row. -/
theorem running_sum (f : ℕ → ℝ) (s : ℕ) (hs : s < 4096) :
    (∑ k ∈ Finset.range 4096, if 4095 ≤ s + k ∧ s + k - 4095 < 4096 then f (s + k - 4095) else 0) = ∑ k ∈ Finset.range (s + 1), f k := by
  rw [← Finset.sum_filter]
  refine Finset.sum_nbij' (fun k => s + k - 4095) (fun k => k + 4095 - s) ?_ ?_ ?_ ?_ ?_ <;>
    · intro k hk
      simp only [Finset.mem_filter, Finset.mem_range] at hk ⊢ <;> omega

/-- The running sum from the last row up: a window that begins at the row. -/
theorem running_sum_up (f : ℕ → ℝ) (s : ℕ) (hs : s < 4096) :
    (∑ k ∈ Finset.range 4096, if 0 ≤ s + k ∧ s + k - 0 < 4096 then f (s + k - 0) else 0) = ∑ k ∈ Finset.range (4096 - s), f (s + k) := by
  rw [← Finset.sum_filter]
  refine Finset.sum_nbij' (fun k => k) (fun k => k) ?_ ?_ ?_ ?_ ?_ <;>
    · intro k hk
      simp only [Finset.mem_filter, Finset.mem_range] at hk ⊢ <;> first | omega | rfl

/-- An array put one row down, and its rows from the `k`-th on put at the top with the opposite sign. -/
theorem apart (k : ℕ) {l c : ℕ} {u u' : Shape} (x : FVec Ideal ⟨2, ![4096, 128]⟩ .f32) (y : FVec Ideal ⟨2, ![l, 128]⟩ .f32)
    (v : FVec Ideal u .f32) (v' : FVec Ideal u' .f32)
    (h : (⟨2, ![4096, 128]⟩ : Shape).Pads ![1, 0] ![0, 0] ![0, 0] ⟨2, ![4097, 128]⟩) (hu : 0 < u.numel)
    (h' : (⟨2, ![l, 128]⟩ : Shape).Pads ![0, 0] ![c, 0] ![0, 0] ⟨2, ![4097, 128]⟩) (hu' : 0 < u'.numel) (f : ℕ → ℕ → ℝ)
    (hx : ∀ j, x j = ((f (j 0).val (j 1).val : ℝ) : EReal)) (hy : ∀ j, y j = ((-f ((j 0).val + k) (j 1).val : ℝ) : EReal))
    (hv : ∀ j, v j = ((0 : ℝ) : EReal)) (hv' : ∀ j, v' j = ((0 : ℝ) : EReal)) (i : (⟨2, ![4097, 128]⟩ : Shape).Idx)
    (hl : l + k = 4096 := by decide) :
    addf (pad ⟨2, ![4097, 128]⟩ ![1, 0] ![0, 0] ![0, 0] x v h hu) (pad ⟨2, ![4097, 128]⟩ ![0, 0] ![c, 0] ![0, 0] y v' h' hu') i
      = (((if 1 ≤ (i 0).val then f ((i 0).val - 1) (i 1).val else 0)
        + if (i 0).val + (k + 1) ≤ 4096 then -f ((i 0).val + k) (i 1).val else 0 : ℝ) : EReal) := by
  have b0 : (i 0).val < 4097 := (i 0).isLt
  have b1 : (i 1).val < 128 := (i 1).isLt
  refine (congrArg₂ (FloatOps.addf (F := Ideal) (φ := .f32)) (pad2 x v h hu f hx hv i)
    (pad2 y v' h' hu' (fun s c => -f (s + k) c) hy hv' i)).trans ((add_r _ _).trans (congrArg Real.toEReal ?_))
  exact congrArg₂ (· + ·) (if_congr (by omega) rfl rfl) (if_congr (by omega) rfl rfl)

/-- Summing such an array from a row on leaves the window that begins there. -/
theorem apart_ahead (f : ℕ → ℝ) (w s : ℕ) :
    (∑ k ∈ Finset.range (4096 - s), (f (s + k) + if s + k + 1 + w ≤ 4096 then -f (s + k + w) else 0)) = ahead f w s := by
  rw [Finset.sum_add_distrib, ← ahead_eq, sub_eq_add_neg, ← Finset.sum_neg_distrib, ← Finset.sum_filter]
  congr 1
  refine Finset.sum_congr (Finset.ext fun k => ?_) fun k _ => by rw [Nat.add_right_comm]
  simp only [Finset.mem_filter, Finset.mem_range]
  omega

/-- What a row of the pool's group `g` receives, by the count of the row's window. -/
def _root_.Cert.MixerMath.Inp.share (I : Inp) (g s c : ℕ) : ℝ := I.dd s (g * 128 + c) / cnt (2 ^ (g + 1)) s

theorem _root_.Cert.MixerMath.Inp.share_dzb (I : Inp) (g s c : ℕ) (h : c < 128) :
    -I.dd s (g * 128 + c) + ahead (fun r => I.share g r c) (2 ^ (g + 1)) s = I.dzb s (g * 128 + c) := by
  rw [Inp.dzb, win_at h, neg_add_eq_sub]
  rfl

/-! ## A sum over the first and the last of four axes -/

theorem sum_a03 {n0 n1 n2 n3 : ℕ} (h : (⟨4, ![n0, n1, n2, n3]⟩ : Shape).ReducesTo [0, 3] ⟨2, ![n1, n2]⟩)
    (x : (⟨4, ![n0, n1, n2, n3]⟩ : Shape).Idx → EReal) (f : ℕ → ℕ → ℕ → ℕ → ℝ)
    (hx : ∀ j, x j = ((f (j 0).val (j 1).val (j 2).val (j 3).val : ℝ) : EReal)) (i : (⟨2, ![n1, n2]⟩ : Shape).Idx) :
    Ideal.hostReduceAdd h x ((0 : ℝ) : EReal) i
      = ((∑ a ∈ Finset.range n0, ∑ d ∈ Finset.range n3, f a (i 0).val (i 1).val d : ℝ) : EReal) := by
  have fib : ∀ j, h.drop j = i ↔ ∃ k : Fin n0 × Fin n3, ix4 k.1 (i 0) (i 1) k.2 = j := fun j => by
    constructor
    · intro e
      refine ⟨(j 0, j 3), ?_⟩
      funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext b
      apply Fin.ext
      match b with
      | ⟨0, _⟩ => rfl
      | ⟨1, _⟩ => rfl
  refine (congrArg (((0 : ℝ) : EReal) + ·) (Finset.sum_filter_eq_sum_of_fiber _
    (fun k : Fin n0 × Fin n3 => (ix4 k.1 (i 0) (i 1) k.2 : (⟨4, ![n0, n1, n2, n3]⟩ : Shape).Idx))
    (fun _ _ e => Prod.ext (congrFun e 0) (congrFun e 3)) fib x)).trans ?_
  rw [Fintype.sum_prod_type, EReal.coe_zero, zero_add]
  exact sum_fin _ _ fun a => sum_fin _ _ fun d => hx _

end Cert.MixerHost
-- ==== Proof.MixerRef.lean ====
module

public import proofs.«01_k».proof.Proof.MixerHost
public import proofs.«01_k».proof.Proof.MixerOps
public import proofs.«01_k».proof.Proof.Gen.MixerRefIdeal.Read
public import Idealize.ShloMosaic.Lib.TwoAxisContraction

/-!
What the reference of the mixer's gradients computes, one stage after another: each lemma gives a stage's array at an
index as the real number that `MixerMath` names.
-/

@[expose] public section

set_option maxRecDepth 16384

noncomputable section

namespace Cert.MixerRefIdeal.Hand

open Idealize.ShloMosaic Cert.MixerMath Cert.MixerOps Cert.MixerHost Cert.MixerRefIdeal.Gen Cert.MixerRefIdeal.Read

variable (I : Inp)

/-! ## The arguments -/

def R0 : (⟨S4096x1536, .f32⟩ : BufTy).Contents (Elt Ideal) := tab fun s j => ((I.Z s j : ℝ) : EReal)
def R1 : (⟨S4096x1024, .f32⟩ : BufTy).Contents (Elt Ideal) := tab fun s j => ((I.D s j : ℝ) : EReal)
def R2 : (⟨S4x128x128, .f32⟩ : BufTy).Contents (Elt Ideal) := tab3 fun h t s => ((I.W h t s : ℝ) : EReal)
def R3 : (⟨S4x128, .f32⟩ : BufTy).Contents (Elt Ideal) := tab fun h t => ((I.B h t : ℝ) : EReal)
def R4 : (⟨S512, .f32⟩ : BufTy).Contents (Elt Ideal) := tab1 fun j => ((I.Ga j : ℝ) : EReal)
def R5 : (⟨S512, .f32⟩ : BufTy).Contents (Elt Ideal) := tab1 fun j => ((I.Be j : ℝ) : EReal)
def R6 : (⟨S4x128x128, .f32⟩ : BufTy).Contents (Elt Ideal) := tab3 fun g c d => ((I.P g c d : ℝ) : EReal)
def R8 : (⟨S512, .f32⟩ : BufTy).Contents (Elt Ideal) := tab1 fun j => ((I.Sc j : ℝ) : EReal)

theorem r0 (i : S4096x1536.Idx) : R0 I i = ((I.Z (i 0).val (i 1).val : ℝ) : EReal) := rfl
theorem r1 (i : S4096x1024.Idx) : R1 I i = ((I.D (i 0).val (i 1).val : ℝ) : EReal) := rfl
theorem r2 (i : S4x128x128.Idx) : R2 I i = ((I.W (i 0).val (i 1).val (i 2).val : ℝ) : EReal) := rfl
theorem r3 (i : S4x128.Idx) : R3 I i = ((I.B (i 0).val (i 1).val : ℝ) : EReal) := rfl
theorem r4 (i : S512.Idx) : R4 I i = ((I.Ga (i 0).val : ℝ) : EReal) := rfl
theorem r5 (i : S512.Idx) : R5 I i = ((I.Be (i 0).val : ℝ) : EReal) := rfl
theorem r6 (i : S4x128x128.Idx) : R6 I i = ((I.P (i 0).val (i 1).val (i 2).val : ℝ) : EReal) := rfl
theorem r8 (i : S512.Idx) : R8 I i = ((I.Sc (i 0).val : ℝ) : EReal) := rfl

/-! ## The gelu -/

theorem v0 (i) : val_main_v0 (F := Ideal) (R0 I) i = ((I.Z (i 0).val (i 1).val : ℝ) : EReal) := by
  simp only [val_main_v0_apply, r0]

theorem v11 (i) : val_main_v11 (F := Ideal) (R0 I) i = ((th (I.Z (i 0).val (i 1).val) : ℝ) : EReal) := by
  simp only [val_main_v11_apply, val_main_v10_apply, val_main_v9_apply, val_main_v8_apply, val_main_cst_1_apply, val_main_v7_apply, val_main_v6_apply,
    val_main_v2_apply, val_main_cst_0_apply, val_main_v1_apply, v0, w_k0, w_k1, add_r, mul_r, tanh_r, th]

theorem v20 (i) : val_main_v20 (F := Ideal) (R0 I) i = ((1 / 2 * (1 + th (I.Z (i 0).val (i 1).val)) : ℝ) : EReal) := by
  simp only [val_main_v20_apply, val_main_v19_apply, val_main_v18_apply, val_main_cst_5_apply, val_main_v17_apply, val_main_cst_4_apply, v11, w_1, w_half,
    add_r, mul_r]

theorem v16 (i) : val_main_v16 (F := Ideal) (R0 I) i = (((1 + th (I.Z (i 0).val (i 1).val)) * (1 - th (I.Z (i 0).val (i 1).val)) : ℝ) : EReal) := by
  simp only [val_main_v16_apply, val_main_v13_apply, val_main_v15_apply, val_main_v12_apply, val_main_v14_apply, val_main_cst_2_apply, val_main_cst_3_apply,
    v11, w_1, add_r, mul_r, sub_r]

theorem v22 (i) : val_main_v22 (F := Ideal) (R0 I) i = ((I.u (i 0).val (i 1).val : ℝ) : EReal) := by
  simp only [val_main_v22_apply, val_main_v21_apply, v0, v20, mul_r]
  rfl
theorem v23 (i) : val_main_v23 (F := Ideal) (R0 I) i = ((I.v (i 0).val (i 1).val : ℝ) : EReal) := by
  simp only [val_main_v23_apply, val_main_v21_apply, v0, v20, mul_r]
  rfl
/-! ## The layer norm -/

theorem v27 (i) : val_main_v27 (F := Ideal) (R0 I) i = ((rowMean (I.v (i 0).val) : ℝ) : EReal) := by
  simp only [val_main_v27_apply, val_main_v25_apply, val_main_v26_apply, val_main_v24_apply, val_main_cst_7_apply, val_main_cst_6_apply, v23, w_0, w_512,
    coe_sum, eadd_r, zero_add, div_r _ _ (by norm_num : (512 : ℝ) ≠ 0)]
  rw [rowMean, Finset.sum_range]
theorem v29 (i) : val_main_v29 (F := Ideal) (R0 I) i = ((cen (I.v (i 0).val) (i 1).val : ℝ) : EReal) := by
  simp only [val_main_v29_apply, val_main_v28_apply, v23, v27, sub_r]
  rfl
theorem v38 (i) : val_main_v38 (F := Ideal) (R0 I) i = ((cen (I.v (i 0).val) (i 1).val : ℝ) : EReal) := by
  simp only [val_main_v38_apply, val_main_v37_apply, v23, v27, sub_r]
  rfl
theorem v32 (i) : val_main_v32 (F := Ideal) (R0 I) i = ((2 * cen (I.v (i 0).val) (i 1).val : ℝ) : EReal) := by
  simp only [val_main_v32_apply, val_main_v31_apply, val_main_cst_8_apply, v29, w_2, mul_r]

theorem v40 (i) : val_main_v40 (F := Ideal) (R0 I) i = ((var (I.v (i 0).val) + eps : ℝ) : EReal) := by
  simp only [val_main_v40_apply, val_main_v36_apply, val_main_v39_apply, val_main_v34_apply, val_main_v35_apply, val_main_cst_11_apply, val_main_v33_apply,
    val_main_cst_10_apply, val_main_v30_apply, val_main_cst_9_apply, v29, w_0, w_512, w_eps, add_r, coe_sum, eadd_r, mul_r, zero_add,
    div_r _ _ (by norm_num : (512 : ℝ) ≠ 0)]
  rw [var, rowMean, Finset.sum_range]
theorem v41 (i) : val_main_v41 (F := Ideal) (R0 I) i = ((rstd (I.v (i 0).val) : ℝ) : EReal) := by
  simp only [val_main_v41_apply, v40, rsqrt_r _ (var_eps_pos _)]
  rfl
theorem v44 (i) : val_main_v44 (F := Ideal) (R0 I) i = ((-(1 / 2) * (rstd (I.v (i 0).val) / (var (I.v (i 0).val) + eps)) : ℝ) : EReal) := by
  simp only [val_main_v44_apply, val_main_v43_apply, val_main_v42_apply, val_main_cst_12_apply, v40, v41, w_mhalf, mul_r, div_r _ _ (var_eps_pos _).ne']

theorem v46 (i) : val_main_v46 (F := Ideal) (R0 I) i = ((hat (I.v (i 0).val) (i 1).val : ℝ) : EReal) := by
  simp only [val_main_v46_apply, val_main_v45_apply, v38, v41, mul_r]
  rfl
theorem v52 (i) : val_main_v52 (F := Ideal) (R0 I) (R4 I) (R5 I) i = ((I.vn (i 0).val (i 1).val : ℝ) : EReal) := by
  simp only [val_main_v52_apply, val_main_v49_apply, val_main_v51_apply, val_main_v48_apply, val_main_v50_apply, val_main_v47_apply, v46, r4, r5, add_r, mul_r]
  rfl
/-! ## The causal token mixing -/

theorem v55 (i) : val_main_v55 (F := Ideal) i = ((if (i 1).val ≤ (i 0).val then 1 else 0 : ℝ) : EReal) := by
  simp only [val_main_v55_apply, val_main_call0_v4_apply, val_main_v54_apply, val_main_call0_v5_apply, val_main_call0_v2_apply, val_main_call0_v3_apply,
    val_main_cst_13_apply, val_main_call0_cst_apply, val_main_call0_v0_apply, val_main_call0_v1_apply, val_main_call0_c_apply, w_0, w_1]
  exact select_ge (i 0).isLt (i 1).isLt
theorem v58 (i) : val_main_v58 (F := Ideal) (R2 I) i = ((I.Wc (i 0).val (i 1).val (i 2).val : ℝ) : EReal) := by
  simp only [val_main_v58_apply, val_main_v57_apply, val_main_v56_apply, v55, r2, mul_r]
  show ((_ * (if _ then _ else _) : ℝ) : EReal) = _
  rw [mul_ite, mul_one, mul_zero]
  rfl
theorem v53 (i) : val_main_v53 (F := Ideal) (R0 I) (R4 I) (R5 I) i = ((I.vn ((i 0).val * 128 + (i 1).val) ((i 2).val * 128 + (i 3).val) : ℝ) : EReal) := by
  have b0 : (i 0).val < 32 := (i 0).isLt
  have b1 : (i 1).val < 128 := (i 1).isLt
  have b2 : (i 2).val < 4 := (i 2).isLt
  have b3 : (i 3).val < 128 := (i 3).isLt
  have e0 : ((((i 0).val * 128 + (i 1).val) * 4 + (i 2).val) * 128 + (i 3).val) / 512 = (i 0).val * 128 + (i 1).val := by omega
  have e1 : ((((i 0).val * 128 + (i 1).val) * 4 + (i 2).val) * 128 + (i 3).val) % 512 = (i 2).val * 128 + (i 3).val := by omega
  simp only [val_main_v53_apply, v52, e0, e1]

theorem v59 (i) : val_main_v59 (F := Ideal) (R0 I) (R2 I) (R4 I) (R5 I) i = ((∑ k ∈ Finset.range 128, I.vn ((i 1).val * 128 + k) ((i 0).val * 128 + (i 2).val) * I.Wc (i 0).val (i 3).val k : ℝ) : EReal) := by
  simp only [val_main_v59_apply, v53, v58, coe_sum, emul_r]
  rw [Finset.sum_range]
theorem v65 (i) : val_main_v65 (F := Ideal) (R0 I) (R2 I) (R3 I) (R4 I) (R5 I) i = (((∑ k ∈ Finset.range 128, I.vn ((i 0).val * 128 + k) ((i 2).val * 128 + (i 3).val) * I.Wc (i 2).val (i 1).val k) + I.B (i 2).val (i 1).val : ℝ) : EReal) := by
  simp only [val_main_v65_apply, val_main_v60_apply, val_main_v64_apply, val_main_v63_apply, val_main_v62_apply, val_main_v61_apply, v59, r3, add_r]

theorem v66 (i) : val_main_v66 (F := Ideal) (R0 I) (R2 I) (R3 I) (R4 I) (R5 I) i = ((I.mixed (i 0).val (i 1).val : ℝ) : EReal) := by
  have b0 : (i 0).val < 4096 := (i 0).isLt
  have b1 : (i 1).val < 512 := (i 1).isLt
  have e0 : ((i 0).val * 512 + (i 1).val) / 65536 = (i 0).val / 128 := by omega
  have e1 : ((i 0).val * 512 + (i 1).val) / 512 % 128 = (i 0).val % 128 := by omega
  have e2 : ((i 0).val * 512 + (i 1).val) / 128 % 4 = (i 1).val / 128 := by omega
  have e3 : ((i 0).val * 512 + (i 1).val) % 128 = (i 1).val % 128 := by omega
  simp only [val_main_v66_apply, v65, e0, e1, e2, e3, Nat.div_add_mod', Inp.mixed, mul_comm (I.Wc _ _ _)]

/-! ## The pool -/

theorem v69 (i) : val_main_v69 (F := Ideal) (R0 I) i = ((I.zb (i 0).val ((i 1).val * 128 + (i 2).val) : ℝ) : EReal) := by
  have b0 : (i 0).val < 4096 := (i 0).isLt
  have b1 : (i 1).val < 4 := (i 1).isLt
  have b2 : (i 2).val < 128 := (i 2).isLt
  have e0 : (((i 0).val * 4 + (i 1).val) * 128 + (i 2).val) / 512 = (i 0).val := by omega
  have e1 : (((i 0).val * 4 + (i 1).val) * 128 + (i 2).val) % 512 = (i 1).val * 128 + (i 2).val := by omega
  simp only [val_main_v69_apply, val_main_v68_apply, r0, e0, e1]
  rfl
theorem v71 (i) : val_main_v71 (F := Ideal) (R0 I) i = ((∑ k ∈ Finset.range ((i 0).val + 1), I.zb k ((i 1).val * 128 + (i 2).val) : ℝ) : EReal) := by
  exact (window_sum _ _ _ _ (fun s g c => I.zb s (g * 128 + c)) (v69 I) (fun _ => w_0) i).trans
    (congrArg Real.toEReal (running_sum (fun s => I.zb s ((i 1).val * 128 + (i 2).val)) _ (i 0).isLt))

theorem v72 (i) : val_main_v72 (F := Ideal) (R0 I) i = ((∑ k ∈ Finset.range (i 0).val, I.zb k ((i 1).val * 128 + (i 2).val) : ℝ) : EReal) := by
  refine (below3 _ _ _ (fun s g c => ∑ k ∈ Finset.range (s + 1), I.zb k (g * 128 + c)) (fun _ => w_0) (v71 I) i).trans
    (congrArg Real.toEReal ?_)
  split
  · next h => rw [Nat.lt_one_iff.1 h, Finset.sum_range_zero]
  · next h => rw [Nat.sub_add_cancel (not_lt.1 h)]

theorem v74 (i) : val_main_v74 (F := Ideal) i = (((i 0).val : ℝ) : EReal) := by
  show ((((BitVec.ofNat 32 (i 0).val).toInt : ℝ)) : EReal) = _
  have h : (i 0).val < 4096 := (i 0).isLt
  rw [BitVec.toInt_eq_toNat_of_lt (by simp; omega), BitVec.toNat_ofNat, Nat.mod_eq_of_lt (by omega), Int.cast_natCast]

theorem v76 (i) : val_main_v76 (F := Ideal) (R0 I) i = ((∑ k ∈ Finset.range (i 0).val, I.zb k (0 * 128 + (i 1).val) : ℝ) : EReal) := by
  have b0 : (i 0).val < 4097 := (i 0).isLt
  have b1 : (i 1).val < 128 := (i 1).isLt
  have e0 : ((i 0).val * 128 + (i 1).val) / 128 = (i 0).val := by omega
  have e1 : 0 = 0 := by omega
  have e2 : ((i 0).val * 128 + (i 1).val) % 128 = (i 1).val := by omega
  simp only [val_main_v76_apply, val_main_v75_apply, v72, e0, e1, e2]

theorem v78 (i) : val_main_v78 (F := Ideal) (R0 I) i = ((∑ k ∈ Finset.range (i 0).val, I.zb k (0 * 128 + (i 1).val) : ℝ) : EReal) := by
  simp only [val_main_v78_apply, v76]

theorem v79 (i) : val_main_v79 (F := Ideal) (R0 I) i = ((∑ k ∈ Finset.range ((i 0).val + 1 - 2), I.zb k (0 * 128 + (i 1).val) : ℝ) : EReal) := by
  exact shifted 1 _ _ _ (fun k c => I.zb k (0 * 128 + c)) (fun _ => w_0) (v78 I) i

theorem v85 (i) : val_main_v85 (F := Ideal) i = ((cnt 2 (i 0).val : ℝ) : EReal) := by
  simp only [val_main_v85_apply, val_main_v84_apply, val_main_v82_apply, val_main_v83_apply, val_main_v81_apply, val_main_cst_19_apply, val_main_cst_18_apply,
    v74, w_1, w_2, add_r, min_r]
  rw [cnt, Nat.cast_ofNat]
theorem v89 (i) : val_main_v89 (F := Ideal) (R0 I) i = ((back (fun k => I.zb k (0 * 128 + (i 1).val)) 2 (i 0).val / cnt 2 (i 0).val : ℝ) : EReal) := by
  simp only [val_main_v89_apply, val_main_v87_apply, val_main_v88_apply, val_main_v86_apply, v76, v79, v85, sub_r, div_r _ _ (cnt_ne (by norm_num : 0 < 2) _)]
  rw [Nat.add_comm 1 (i 0).val, back_eq]
theorem v135 (i) : val_main_v135 (F := Ideal) (R0 I) i = ((I.pool 0 (i 0).val (i 2).val : ℝ) : EReal) := by
  simp only [val_main_v135_apply, v89]
  rfl
theorem v91 (i) : val_main_v91 (F := Ideal) (R0 I) i = ((∑ k ∈ Finset.range (i 0).val, I.zb k (1 * 128 + (i 1).val) : ℝ) : EReal) := by
  have b0 : (i 0).val < 4097 := (i 0).isLt
  have b1 : (i 1).val < 128 := (i 1).isLt
  have e0 : ((i 0).val * 128 + (i 1).val) / 128 = (i 0).val := by omega
  have e1 : 0 = 0 := by omega
  have e2 : ((i 0).val * 128 + (i 1).val) % 128 = (i 1).val := by omega
  simp only [val_main_v91_apply, val_main_v90_apply, v72, e0, e1, e2]

theorem v93 (i) : val_main_v93 (F := Ideal) (R0 I) i = ((∑ k ∈ Finset.range (i 0).val, I.zb k (1 * 128 + (i 1).val) : ℝ) : EReal) := by
  simp only [val_main_v93_apply, v91]

theorem v94 (i) : val_main_v94 (F := Ideal) (R0 I) i = ((∑ k ∈ Finset.range ((i 0).val + 1 - 4), I.zb k (1 * 128 + (i 1).val) : ℝ) : EReal) := by
  exact shifted 3 _ _ _ (fun k c => I.zb k (1 * 128 + c)) (fun _ => w_0) (v93 I) i

theorem v100 (i) : val_main_v100 (F := Ideal) i = ((cnt 4 (i 0).val : ℝ) : EReal) := by
  simp only [val_main_v100_apply, val_main_v99_apply, val_main_v97_apply, val_main_v98_apply, val_main_v96_apply, val_main_cst_23_apply,
    val_main_cst_22_apply, v74, w_1, w_4, add_r, min_r]
  rw [cnt, Nat.cast_ofNat]
theorem v104 (i) : val_main_v104 (F := Ideal) (R0 I) i = ((back (fun k => I.zb k (1 * 128 + (i 1).val)) 4 (i 0).val / cnt 4 (i 0).val : ℝ) : EReal) := by
  simp only [val_main_v104_apply, val_main_v102_apply, val_main_v103_apply, val_main_v101_apply, v100, v91, v94, sub_r,
    div_r _ _ (cnt_ne (by norm_num : 0 < 4) _)]
  rw [Nat.add_comm 1 (i 0).val, back_eq]
theorem v136 (i) : val_main_v136 (F := Ideal) (R0 I) i = ((I.pool 1 (i 0).val (i 2).val : ℝ) : EReal) := by
  simp only [val_main_v136_apply, v104]
  rfl
theorem v106 (i) : val_main_v106 (F := Ideal) (R0 I) i = ((∑ k ∈ Finset.range (i 0).val, I.zb k (2 * 128 + (i 1).val) : ℝ) : EReal) := by
  have b0 : (i 0).val < 4097 := (i 0).isLt
  have b1 : (i 1).val < 128 := (i 1).isLt
  have e0 : ((i 0).val * 128 + (i 1).val) / 128 = (i 0).val := by omega
  have e1 : 0 = 0 := by omega
  have e2 : ((i 0).val * 128 + (i 1).val) % 128 = (i 1).val := by omega
  simp only [val_main_v106_apply, val_main_v105_apply, v72, e0, e1, e2]

theorem v108 (i) : val_main_v108 (F := Ideal) (R0 I) i = ((∑ k ∈ Finset.range (i 0).val, I.zb k (2 * 128 + (i 1).val) : ℝ) : EReal) := by
  simp only [val_main_v108_apply, v106]

theorem v109 (i) : val_main_v109 (F := Ideal) (R0 I) i = ((∑ k ∈ Finset.range ((i 0).val + 1 - 8), I.zb k (2 * 128 + (i 1).val) : ℝ) : EReal) := by
  exact shifted 7 _ _ _ (fun k c => I.zb k (2 * 128 + c)) (fun _ => w_0) (v108 I) i

theorem v115 (i) : val_main_v115 (F := Ideal) i = ((cnt 8 (i 0).val : ℝ) : EReal) := by
  simp only [val_main_v115_apply, val_main_v114_apply, val_main_v112_apply, val_main_v113_apply, val_main_v111_apply, val_main_cst_27_apply,
    val_main_cst_26_apply, v74, w_1, w_8, add_r, min_r]
  rw [cnt, Nat.cast_ofNat]
theorem v119 (i) : val_main_v119 (F := Ideal) (R0 I) i = ((back (fun k => I.zb k (2 * 128 + (i 1).val)) 8 (i 0).val / cnt 8 (i 0).val : ℝ) : EReal) := by
  simp only [val_main_v119_apply, val_main_v117_apply, val_main_v118_apply, val_main_v116_apply, v106, v109, v115, sub_r,
    div_r _ _ (cnt_ne (by norm_num : 0 < 8) _)]
  rw [Nat.add_comm 1 (i 0).val, back_eq]
theorem v137 (i) : val_main_v137 (F := Ideal) (R0 I) i = ((I.pool 2 (i 0).val (i 2).val : ℝ) : EReal) := by
  simp only [val_main_v137_apply, v119]
  rfl
theorem v121 (i) : val_main_v121 (F := Ideal) (R0 I) i = ((∑ k ∈ Finset.range (i 0).val, I.zb k (3 * 128 + (i 1).val) : ℝ) : EReal) := by
  have b0 : (i 0).val < 4097 := (i 0).isLt
  have b1 : (i 1).val < 128 := (i 1).isLt
  have e0 : ((i 0).val * 128 + (i 1).val) / 128 = (i 0).val := by omega
  have e1 : 0 = 0 := by omega
  have e2 : ((i 0).val * 128 + (i 1).val) % 128 = (i 1).val := by omega
  simp only [val_main_v121_apply, val_main_v120_apply, v72, e0, e1, e2]

theorem v123 (i) : val_main_v123 (F := Ideal) (R0 I) i = ((∑ k ∈ Finset.range (i 0).val, I.zb k (3 * 128 + (i 1).val) : ℝ) : EReal) := by
  simp only [val_main_v123_apply, v121]

theorem v124 (i) : val_main_v124 (F := Ideal) (R0 I) i = ((∑ k ∈ Finset.range ((i 0).val + 1 - 16), I.zb k (3 * 128 + (i 1).val) : ℝ) : EReal) := by
  exact shifted 15 _ _ _ (fun k c => I.zb k (3 * 128 + c)) (fun _ => w_0) (v123 I) i

theorem v130 (i) : val_main_v130 (F := Ideal) i = ((cnt 16 (i 0).val : ℝ) : EReal) := by
  simp only [val_main_v130_apply, val_main_v129_apply, val_main_v127_apply, val_main_v128_apply, val_main_v126_apply, val_main_cst_31_apply,
    val_main_cst_30_apply, v74, w_1, w_16, add_r, min_r]
  rw [cnt, Nat.cast_ofNat]
theorem v134 (i) : val_main_v134 (F := Ideal) (R0 I) i = ((back (fun k => I.zb k (3 * 128 + (i 1).val)) 16 (i 0).val / cnt 16 (i 0).val : ℝ) : EReal) := by
  simp only [val_main_v134_apply, val_main_v132_apply, val_main_v133_apply, val_main_v131_apply, v121, v124, v130, sub_r,
    div_r _ _ (cnt_ne (by norm_num : 0 < 16) _)]
  rw [Nat.add_comm 1 (i 0).val, back_eq]
theorem v138 (i) : val_main_v138 (F := Ideal) (R0 I) i = ((I.pool 3 (i 0).val (i 2).val : ℝ) : EReal) := by
  simp only [val_main_v138_apply, v134]
  rfl
theorem v139 (i) : val_main_v139 (F := Ideal) (R0 I) i = ((I.pool (i 1).val (i 0).val (i 2).val : ℝ) : EReal) := by
  exact stack4 _ _ _ _ _ (fun s g c => I.pool g s c) (v135 I) (v136 I) (v137 I) (v138 I) i

theorem v140 (i) : val_main_v140 (F := Ideal) (R0 I) i = ((I.diff (i 0).val ((i 1).val * 128 + (i 2).val) : ℝ) : EReal) := by
  simp only [val_main_v140_apply, v139, v69, sub_r]
  exact congrArg Real.toEReal (I.pool_diff _ _ _ (i 2).isLt)
theorem v142 (i) : val_main_v142 (F := Ideal) (R0 I) (R6 I) i = ((I.lin (i 0).val ((i 1).val * 128 + (i 2).val) : ℝ) : EReal) := by
  simp only [val_main_v142_apply, val_main_v141_apply, v140, r6, coe_sum, emul_r]
  have b2 : (i 2).val < 128 := (i 2).isLt
  rw [Inp.lin, show ((i 1).val * 128 + (i 2).val) / 128 = (i 1).val by omega,
    show ((i 1).val * 128 + (i 2).val) % 128 = (i 2).val by omega, Finset.sum_range]
  exact congrArg Real.toEReal (Finset.sum_congr rfl fun k _ => mul_comm _ _)
/-! ## The cotangent of the pool -/

theorem v157 (i) : val_main_v157 (F := Ideal) (R1 I) (R8 I) i = ((I.dl (i 0).val (i 1).val : ℝ) : EReal) := by
  simp only [val_main_v157_apply, val_main_v152_apply, val_main_v156_apply, val_main_v147_apply, r1, r8, mul_r]
  rfl
theorem v159 (i) : val_main_v159 (F := Ideal) (R1 I) (R8 I) i = ((I.dl (i 0).val ((i 1).val * 128 + (i 2).val) : ℝ) : EReal) := by
  have b0 : (i 0).val < 4096 := (i 0).isLt
  have b1 : (i 1).val < 4 := (i 1).isLt
  have b2 : (i 2).val < 128 := (i 2).isLt
  have e0 : (((i 0).val * 4 + (i 1).val) * 128 + (i 2).val) / 512 = (i 0).val := by omega
  have e1 : (((i 0).val * 4 + (i 1).val) * 128 + (i 2).val) % 512 = (i 1).val * 128 + (i 2).val := by omega
  simp only [val_main_v159_apply, v157, e0, e1]

theorem v160 (i) : val_main_v160 (F := Ideal) (R1 I) (R8 I) i = ((I.dbp 0 4096 ((i 0).val * 128 + (i 1).val) : ℝ) : EReal) := by
  simp only [val_main_v160_apply, val_main_cst_34_apply, v159, w_0, coe_sum, eadd_r, zero_add]
  rw [Inp.dbp, Finset.sum_range]
  exact congrArg Real.toEReal (Finset.sum_congr rfl fun k _ => by rw [Nat.zero_add])
theorem v161 (i) : val_main_v161 (F := Ideal) (R1 I) (R8 I) i = ((I.dbp 0 4096 ((i 1).val * 128 + (i 2).val) : ℝ) : EReal) := by
  have b0 : (i 0).val < 1 := (i 0).isLt
  have b1 : (i 1).val < 4 := (i 1).isLt
  have b2 : (i 2).val < 128 := (i 2).isLt
  have e0 : (((i 0).val * 4 + (i 1).val) * 128 + (i 2).val) / 128 = (i 1).val := by omega
  have e1 : (((i 0).val * 4 + (i 1).val) * 128 + (i 2).val) % 128 = (i 2).val := by omega
  simp only [val_main_v161_apply, v160, e0, e1]

theorem v162 (i) : val_main_v162 (F := Ideal) (R1 I) (R8 I) i = ((I.dbp 0 4096 ((i 0).val * 128 + (i 1).val) : ℝ) : EReal) := by
  simp only [val_main_v162_apply, val_main_cst_35_apply, v161, w_0, coe_sum, eadd_r, zero_add, Finset.univ_unique, Finset.sum_singleton]

theorem v296 (i) : val_main_v296 (F := Ideal) (R1 I) (R8 I) i = ((I.dbp 0 4096 (i 1).val : ℝ) : EReal) := by
  have b0 : (i 0).val < 1 := (i 0).isLt
  have b1 : (i 1).val < 512 := (i 1).isLt
  have e0 : ((i 0).val * 512 + (i 1).val) / 128 = (i 1).val / 128 := by omega
  have e1 : ((i 0).val * 512 + (i 1).val) % 128 = (i 1).val % 128 := by omega
  simp only [val_main_v296_apply, v162, e0, e1, Nat.div_add_mod']

theorem v165 (i) : val_main_v165 (F := Ideal) (R1 I) (R6 I) (R8 I) i = ((I.dd (i 0).val ((i 1).val * 128 + (i 2).val) : ℝ) : EReal) := by
  simp only [val_main_v165_apply, val_main_v164_apply, val_main_v163_apply, v159, r6, coe_sum, emul_r]
  have b2 : (i 2).val < 128 := (i 2).isLt
  rw [Inp.dd, show ((i 1).val * 128 + (i 2).val) / 128 = (i 1).val by omega,
    show ((i 1).val * 128 + (i 2).val) % 128 = (i 2).val by omega, Finset.sum_range]
theorem v167 (i) : val_main_v167 (F := Ideal) (R0 I) (R1 I) (R8 I) i = ((I.dwp 0 4096 (i 0).val (i 1).val (i 2).val : ℝ) : EReal) := by
  simp only [val_main_v167_apply, val_main_v166_apply, val_main_v163_apply, v140, v159, coe_sum, emul_r]
  rw [Inp.dwp, Finset.sum_range]
  exact congrArg Real.toEReal (Finset.sum_congr rfl fun k _ => by rw [Nat.zero_add, mul_comm])
theorem v176 (i) : val_main_v176 (F := Ideal) (R1 I) (R6 I) (R8 I) i = ((I.dd (i 0).val (3 * 128 + (i 1).val) : ℝ) : EReal) := by
  have b0 : (i 0).val < 4096 := (i 0).isLt
  have b1 : (i 1).val < 128 := (i 1).isLt
  have e0 : ((i 0).val * 128 + (i 1).val) / 128 = (i 0).val := by omega
  have e1 : 0 = 0 := by omega
  have e2 : ((i 0).val * 128 + (i 1).val) % 128 = (i 1).val := by omega
  simp only [val_main_v176_apply, val_main_v175_apply, v165, e0, e1, e2]

theorem v178 (i) : val_main_v178 (F := Ideal) (R1 I) (R6 I) (R8 I) i = ((I.share 3 ((i 0).val) ((i 1).val) : ℝ) : EReal) := by
  simp only [val_main_v178_apply, val_main_v177_apply, v130, v176, div_r _ _ (cnt_ne (by norm_num : 0 < 16) _)]
  rfl
theorem v182 (i) : val_main_v182 (F := Ideal) (R1 I) (R6 I) (R8 I) i = ((-I.share 3 ((i 0).val + 15) ((i 1).val) : ℝ) : EReal) := by
  simp only [val_main_v182_apply, val_main_v179_apply, v178, neg_r, Nat.add_comm 15]

theorem v184 (i) : val_main_v184 (F := Ideal) (R1 I) (R6 I) (R8 I) i = (((if 1 ≤ (i 0).val then I.share 3 ((i 0).val - 1) ((i 1).val) else 0) + if (i 0).val + 16 ≤ 4096 then -I.share 3 ((i 0).val + 15) ((i 1).val) else 0 : ℝ) : EReal) := by
  exact apart 15 _ _ _ _ _ _ _ _ (I.share 3) (v178 I) (v182 I) (fun _ => w_0) (fun _ => w_0) i

theorem v185 (i) : val_main_v185 (F := Ideal) (R1 I) (R6 I) (R8 I) i = (((if 1 ≤ (i 0).val then I.share 3 ((i 0).val - 1) ((i 2).val) else 0) + if (i 0).val + 16 ≤ 4096 then -I.share 3 ((i 0).val + 15) ((i 2).val) else 0 : ℝ) : EReal) := by
  simp only [val_main_v185_apply, v184]

theorem v186 (i) : val_main_v186 (F := Ideal) (R1 I) (R6 I) (R8 I) i = ((if (i 1).val = 3 then (if 1 ≤ (i 0).val then I.share 3 ((i 0).val - 1) ((i 2).val) else 0) + if (i 0).val + 16 ≤ 4096 then -I.share 3 ((i 0).val + 15) ((i 2).val) else 0 else 0 : ℝ) : EReal) := by
  exact pad3 _ _ _ _ (fun s c => (if 1 ≤ s then I.share 3 (s - 1) (c) else 0) + if s + 16 ≤ 4096 then -I.share 3 (s + 15) (c) else 0) (v185 I) (fun _ => w_0) i

theorem v174 (i) : val_main_v174 (F := Ideal) (R1 I) (R6 I) (R8 I) i = ((I.dd (i 0).val (2 * 128 + (i 1).val) : ℝ) : EReal) := by
  have b0 : (i 0).val < 4096 := (i 0).isLt
  have b1 : (i 1).val < 128 := (i 1).isLt
  have e0 : ((i 0).val * 128 + (i 1).val) / 128 = (i 0).val := by omega
  have e1 : 0 = 0 := by omega
  have e2 : ((i 0).val * 128 + (i 1).val) % 128 = (i 1).val := by omega
  simp only [val_main_v174_apply, val_main_v173_apply, v165, e0, e1, e2]

theorem v188 (i) : val_main_v188 (F := Ideal) (R1 I) (R6 I) (R8 I) i = ((I.share 2 ((i 0).val) ((i 1).val) : ℝ) : EReal) := by
  simp only [val_main_v188_apply, val_main_v187_apply, v115, v174, div_r _ _ (cnt_ne (by norm_num : 0 < 8) _)]
  rfl
theorem v192 (i) : val_main_v192 (F := Ideal) (R1 I) (R6 I) (R8 I) i = ((-I.share 2 ((i 0).val + 7) ((i 1).val) : ℝ) : EReal) := by
  simp only [val_main_v192_apply, val_main_v189_apply, v188, neg_r, Nat.add_comm 7]

theorem v194 (i) : val_main_v194 (F := Ideal) (R1 I) (R6 I) (R8 I) i = (((if 1 ≤ (i 0).val then I.share 2 ((i 0).val - 1) ((i 1).val) else 0) + if (i 0).val + 8 ≤ 4096 then -I.share 2 ((i 0).val + 7) ((i 1).val) else 0 : ℝ) : EReal) := by
  exact apart 7 _ _ _ _ _ _ _ _ (I.share 2) (v188 I) (v192 I) (fun _ => w_0) (fun _ => w_0) i

theorem v195 (i) : val_main_v195 (F := Ideal) (R1 I) (R6 I) (R8 I) i = (((if 1 ≤ (i 0).val then I.share 2 ((i 0).val - 1) ((i 2).val) else 0) + if (i 0).val + 8 ≤ 4096 then -I.share 2 ((i 0).val + 7) ((i 2).val) else 0 : ℝ) : EReal) := by
  simp only [val_main_v195_apply, v194]

theorem v196 (i) : val_main_v196 (F := Ideal) (R1 I) (R6 I) (R8 I) i = ((if (i 1).val = 2 then (if 1 ≤ (i 0).val then I.share 2 ((i 0).val - 1) ((i 2).val) else 0) + if (i 0).val + 8 ≤ 4096 then -I.share 2 ((i 0).val + 7) ((i 2).val) else 0 else 0 : ℝ) : EReal) := by
  exact pad3 _ _ _ _ (fun s c => (if 1 ≤ s then I.share 2 (s - 1) (c) else 0) + if s + 8 ≤ 4096 then -I.share 2 (s + 7) (c) else 0) (v195 I) (fun _ => w_0) i

theorem v172 (i) : val_main_v172 (F := Ideal) (R1 I) (R6 I) (R8 I) i = ((I.dd (i 0).val (1 * 128 + (i 1).val) : ℝ) : EReal) := by
  have b0 : (i 0).val < 4096 := (i 0).isLt
  have b1 : (i 1).val < 128 := (i 1).isLt
  have e0 : ((i 0).val * 128 + (i 1).val) / 128 = (i 0).val := by omega
  have e1 : 0 = 0 := by omega
  have e2 : ((i 0).val * 128 + (i 1).val) % 128 = (i 1).val := by omega
  simp only [val_main_v172_apply, val_main_v171_apply, v165, e0, e1, e2]

theorem v199 (i) : val_main_v199 (F := Ideal) (R1 I) (R6 I) (R8 I) i = ((I.share 1 ((i 0).val) ((i 1).val) : ℝ) : EReal) := by
  simp only [val_main_v199_apply, val_main_v198_apply, v100, v172, div_r _ _ (cnt_ne (by norm_num : 0 < 4) _)]
  rfl
theorem v203 (i) : val_main_v203 (F := Ideal) (R1 I) (R6 I) (R8 I) i = ((-I.share 1 ((i 0).val + 3) ((i 1).val) : ℝ) : EReal) := by
  simp only [val_main_v203_apply, val_main_v200_apply, v199, neg_r, Nat.add_comm 3]

theorem v205 (i) : val_main_v205 (F := Ideal) (R1 I) (R6 I) (R8 I) i = (((if 1 ≤ (i 0).val then I.share 1 ((i 0).val - 1) ((i 1).val) else 0) + if (i 0).val + 4 ≤ 4096 then -I.share 1 ((i 0).val + 3) ((i 1).val) else 0 : ℝ) : EReal) := by
  exact apart 3 _ _ _ _ _ _ _ _ (I.share 1) (v199 I) (v203 I) (fun _ => w_0) (fun _ => w_0) i

theorem v206 (i) : val_main_v206 (F := Ideal) (R1 I) (R6 I) (R8 I) i = (((if 1 ≤ (i 0).val then I.share 1 ((i 0).val - 1) ((i 2).val) else 0) + if (i 0).val + 4 ≤ 4096 then -I.share 1 ((i 0).val + 3) ((i 2).val) else 0 : ℝ) : EReal) := by
  simp only [val_main_v206_apply, v205]

theorem v207 (i) : val_main_v207 (F := Ideal) (R1 I) (R6 I) (R8 I) i = ((if (i 1).val = 1 then (if 1 ≤ (i 0).val then I.share 1 ((i 0).val - 1) ((i 2).val) else 0) + if (i 0).val + 4 ≤ 4096 then -I.share 1 ((i 0).val + 3) ((i 2).val) else 0 else 0 : ℝ) : EReal) := by
  exact pad3 _ _ _ _ (fun s c => (if 1 ≤ s then I.share 1 (s - 1) (c) else 0) + if s + 4 ≤ 4096 then -I.share 1 (s + 3) (c) else 0) (v206 I) (fun _ => w_0) i

theorem v170 (i) : val_main_v170 (F := Ideal) (R1 I) (R6 I) (R8 I) i = ((I.dd (i 0).val (0 * 128 + (i 1).val) : ℝ) : EReal) := by
  have b0 : (i 0).val < 4096 := (i 0).isLt
  have b1 : (i 1).val < 128 := (i 1).isLt
  have e0 : ((i 0).val * 128 + (i 1).val) / 128 = (i 0).val := by omega
  have e1 : 0 = 0 := by omega
  have e2 : ((i 0).val * 128 + (i 1).val) % 128 = (i 1).val := by omega
  simp only [val_main_v170_apply, val_main_v169_apply, v165, e0, e1, e2]

theorem v210 (i) : val_main_v210 (F := Ideal) (R1 I) (R6 I) (R8 I) i = ((I.share 0 ((i 0).val) ((i 1).val) : ℝ) : EReal) := by
  simp only [val_main_v210_apply, val_main_v209_apply, v170, v85, div_r _ _ (cnt_ne (by norm_num : 0 < 2) _)]
  rfl
theorem v214 (i) : val_main_v214 (F := Ideal) (R1 I) (R6 I) (R8 I) i = ((-I.share 0 ((i 0).val + 1) ((i 1).val) : ℝ) : EReal) := by
  simp only [val_main_v214_apply, val_main_v211_apply, v210, neg_r, Nat.add_comm 1]

theorem v216 (i) : val_main_v216 (F := Ideal) (R1 I) (R6 I) (R8 I) i = (((if 1 ≤ (i 0).val then I.share 0 ((i 0).val - 1) ((i 1).val) else 0) + if (i 0).val + 2 ≤ 4096 then -I.share 0 ((i 0).val + 1) ((i 1).val) else 0 : ℝ) : EReal) := by
  exact apart 1 _ _ _ _ _ _ _ _ (I.share 0) (v210 I) (v214 I) (fun _ => w_0) (fun _ => w_0) i

theorem v217 (i) : val_main_v217 (F := Ideal) (R1 I) (R6 I) (R8 I) i = (((if 1 ≤ (i 0).val then I.share 0 ((i 0).val - 1) ((i 2).val) else 0) + if (i 0).val + 2 ≤ 4096 then -I.share 0 ((i 0).val + 1) ((i 2).val) else 0 : ℝ) : EReal) := by
  simp only [val_main_v217_apply, v216]

theorem v218 (i) : val_main_v218 (F := Ideal) (R1 I) (R6 I) (R8 I) i = ((if (i 1).val = 0 then (if 1 ≤ (i 0).val then I.share 0 ((i 0).val - 1) ((i 2).val) else 0) + if (i 0).val + 2 ≤ 4096 then -I.share 0 ((i 0).val + 1) ((i 2).val) else 0 else 0 : ℝ) : EReal) := by
  exact pad3 _ _ _ _ (fun s c => (if 1 ≤ s then I.share 0 (s - 1) (c) else 0) + if s + 2 ≤ 4096 then -I.share 0 (s + 1) (c) else 0) (v217 I) (fun _ => w_0) i

theorem v221 (i) : val_main_v221 (F := Ideal) (R1 I) (R6 I) (R8 I) i = ((I.share (i 1).val (i 0).val (i 2).val + if (i 0).val + 1 + 2 ^ ((i 1).val + 1) ≤ 4096 then -I.share (i 1).val ((i 0).val + 2 ^ ((i 1).val + 1)) (i 2).val else 0 : ℝ) : EReal) := by
  simp only [val_main_v221_apply, val_main_v219_apply, val_main_v208_apply, val_main_v197_apply, v186, v196, v207, v218, add_r]
  have b1 : (i 1).val < 4 := (i 1).isLt
  refine congrArg Real.toEReal ?_
  rw [Nat.add_comm 1]
  obtain h | h | h | h : (i 1).val = 0 ∨ (i 1).val = 1 ∨ (i 1).val = 2 ∨ (i 1).val = 3 := by omega
  all_goals simp [h]
theorem v222 (i) : val_main_v222 (F := Ideal) (R1 I) (R6 I) (R8 I) i = ((ahead (fun s => I.share (i 1).val s (i 2).val) (2 ^ ((i 1).val + 1)) (i 0).val : ℝ) : EReal) := by
  exact (window_sum _ _ _ _ (fun s g c => I.share g s c + if s + 1 + 2 ^ (g + 1) ≤ 4096 then -I.share g (s + 2 ^ (g + 1)) c else 0)
    (v221 I) (fun _ => w_0) i).trans (congrArg Real.toEReal ((running_sum_up (fun s => I.share (i 1).val s (i 2).val
      + if s + 1 + 2 ^ ((i 1).val + 1) ≤ 4096 then -I.share (i 1).val (s + 2 ^ ((i 1).val + 1)) (i 2).val else 0) _ (i 0).isLt).trans
        (apart_ahead (fun s => I.share (i 1).val s (i 2).val) _ _)))

theorem v223 (i) : val_main_v223 (F := Ideal) (R1 I) (R6 I) (R8 I) i = ((I.dzb (i 0).val ((i 1).val * 128 + (i 2).val) : ℝ) : EReal) := by
  simp only [val_main_v223_apply, val_main_v168_apply, v165, v222, add_r, neg_r]
  exact congrArg Real.toEReal (I.share_dzb _ _ _ (i 2).isLt)
theorem v224 (i) : val_main_v224 (F := Ideal) (R1 I) (R6 I) (R8 I) i = ((I.dzb (i 0).val (i 1).val : ℝ) : EReal) := by
  have b0 : (i 0).val < 4096 := (i 0).isLt
  have b1 : (i 1).val < 512 := (i 1).isLt
  have e0 : ((i 0).val * 512 + (i 1).val) / 512 = (i 0).val := by omega
  have e1 : ((i 0).val * 512 + (i 1).val) / 128 % 4 = (i 1).val / 128 := by omega
  have e2 : ((i 0).val * 512 + (i 1).val) % 128 = (i 1).val % 128 := by omega
  simp only [val_main_v224_apply, v223, e0, e1, e2, Nat.div_add_mod']

theorem v225 (i) : val_main_v225 (F := Ideal) (R1 I) (R6 I) (R8 I) i = ((if 1024 ≤ (i 1).val then I.dzb (i 0).val ((i 1).val - 1024) else 0 : ℝ) : EReal) := by
  have b0 : (i 0).val < 4096 := (i 0).isLt
  have b1 : (i 1).val < 1536 := (i 1).isLt
  refine (pad2 _ _ _ _ I.dzb (v224 I) (fun _ => w_0) i).trans (congrArg Real.toEReal ?_)
  exact if_congr (by omega) rfl rfl

/-! ## The cotangents of the mixed rows and of the mixing -/

theorem v226 (i) : val_main_v226 (F := Ideal) (R0 I) (R1 I) i = ((I.dm (i 0).val (i 1).val : ℝ) : EReal) := by
  simp only [val_main_v226_apply, val_main_v151_apply, v22, r1, mul_r]
  exact congrArg Real.toEReal (mul_comm _ _)
theorem v227 (i) : val_main_v227 (F := Ideal) (R0 I) (R1 I) (R2 I) (R3 I) (R4 I) (R5 I) i = ((I.D (i 0).val (i 1).val * I.mixed (i 0).val (i 1).val : ℝ) : EReal) := by
  simp only [val_main_v227_apply, val_main_v151_apply, v66, r1, mul_r]

theorem v228 (i) : val_main_v228 (F := Ideal) (R0 I) (R1 I) i = ((I.dm ((i 0).val * 128 + (i 1).val) ((i 2).val * 128 + (i 3).val) : ℝ) : EReal) := by
  have b0 : (i 0).val < 32 := (i 0).isLt
  have b1 : (i 1).val < 128 := (i 1).isLt
  have b2 : (i 2).val < 4 := (i 2).isLt
  have b3 : (i 3).val < 128 := (i 3).isLt
  have e0 : ((((i 0).val * 128 + (i 1).val) * 4 + (i 2).val) * 128 + (i 3).val) / 512 = (i 0).val * 128 + (i 1).val := by omega
  have e1 : ((((i 0).val * 128 + (i 1).val) * 4 + (i 2).val) * 128 + (i 3).val) % 512 = (i 2).val * 128 + (i 3).val := by omega
  simp only [val_main_v228_apply, v226, e0, e1]

theorem v229 (i) : val_main_v229 (F := Ideal) (R0 I) (R1 I) i = ((I.dbs 0 32 (i 1).val (i 0).val : ℝ) : EReal) := by
  unfold val_main_v229
  simp only [Host.reduceAdd, Ideal.hostReduceAdd_def]
  rw [val_main_cst_49_apply, w_0]
  refine (sum_a03 reducesTo_S32x128x4x128_S128x4_d0_3 _ (fun n t h d => I.dm (n * 128 + t) (h * 128 + d)) (v228 I) i).trans ?_
  simp only [Inp.dbs, Nat.zero_add]

theorem v230 (i) : val_main_v230 (F := Ideal) (R0 I) (R1 I) i = ((I.dbs 0 32 (i 2).val (i 1).val : ℝ) : EReal) := by
  have b0 : (i 0).val < 1 := (i 0).isLt
  have b1 : (i 1).val < 128 := (i 1).isLt
  have b2 : (i 2).val < 4 := (i 2).isLt
  have b3 : (i 3).val < 1 := (i 3).isLt
  have e0 : ((((i 0).val * 128 + (i 1).val) * 4 + (i 2).val) * 1 + (i 3).val) / 4 = (i 1).val := by omega
  have e1 : ((((i 0).val * 128 + (i 1).val) * 4 + (i 2).val) * 1 + (i 3).val) % 4 = (i 2).val := by omega
  simp only [val_main_v230_apply, v229, e0, e1]

theorem v231 (i) : val_main_v231 (F := Ideal) (R0 I) (R1 I) i = ((I.dbs 0 32 (i 1).val (i 0).val : ℝ) : EReal) := by
  unfold val_main_v231
  simp only [Host.reduceAdd, Ideal.hostReduceAdd_def]
  rw [val_main_cst_50_apply, w_0]
  refine (sum_a03 reducesTo_S1x128x4x1_S128x4_d0_3 _ (fun _ t h _ => I.dbs 0 32 h t) (v230 I) i).trans ?_
  simp only [Finset.sum_range_one]

theorem v293 (i) : val_main_v293 (F := Ideal) (R0 I) (R1 I) i = ((I.dbs 0 32 (i 0).val (i 1).val : ℝ) : EReal) := by
  simp only [val_main_v293_apply, val_main_v234_apply, val_main_v233_apply, val_main_v232_apply, val_main_cst_51_apply, v231, w_0, coe_sum, eadd_r, zero_add,
    Finset.univ_unique, Finset.sum_singleton]

theorem v235 (i) : val_main_v235 (F := Ideal) (R0 I) (R1 I) i = ((I.dm ((i 1).val * 128 + (i 3).val) ((i 0).val * 128 + (i 2).val) : ℝ) : EReal) := by
  simp only [val_main_v235_apply, v228]

/-- The contraction over the chunks and the head's columns. -/
abbrev D236 := dot_S4x32x128x128_S32x128x4x128_S4x128x128_12_03_3_1_0_2

theorem v236 (i) : val_main_v236 (F := Ideal) (R0 I) (R1 I) (R4 I) (R5 I) i = ((∑ n ∈ Finset.range 32, ∑ d ∈ Finset.range 128, I.dm (n * 128 + (i 1).val) ((i 0).val * 128 + d) * I.vn (n * 128 + (i 2).val) ((i 0).val * 128 + d) : ℝ) : EReal) := by
  unfold val_main_v236
  simp only [Host.dotGeneral]
  have hr : D236.contr.rank = 2 := rfl
  have c0 : D236.contr.size ⟨0, by rw [hr]; omega⟩ = 32 := rfl
  have c1 : D236.contr.size ⟨1, by rw [hr]; omega⟩ = 128 := rfl
  rw [Ideal.dotGeneral_apply, ← Equiv.sum_comp (ValueIdx.contrEquiv2 D236 32 128 hr c0 c1).symm, Fintype.sum_prod_type]
  refine sum_fin _ _ fun n => sum_fin _ _ fun d => ?_
  have h0 := ValueIdx.contrEquiv2_symm_val0 D236 32 128 hr c0 c1 (n, d)
  have h1 := ValueIdx.contrEquiv2_symm_val1 D236 32 128 hr c0 c1 (n, d)
  have el : D236.lhsIdx i ((ValueIdx.contrEquiv2 D236 32 128 hr c0 c1).symm (n, d)) = ix4 (i 0) n d (i 1) := by
    funext a; apply Fin.ext
    match a with
    | ⟨0, _⟩ => rfl
    | ⟨1, _⟩ => exact h0
    | ⟨2, _⟩ => exact h1
    | ⟨3, _⟩ => rfl
  have er : D236.rhsIdx i ((ValueIdx.contrEquiv2 D236 32 128 hr c0 c1).symm (n, d)) = ix4 n (i 2) (i 0) d := by
    funext a; apply Fin.ext
    match a with
    | ⟨0, _⟩ => exact h0
    | ⟨1, _⟩ => rfl
    | ⟨2, _⟩ => rfl
    | ⟨3, _⟩ => exact h1
  rw [el, er]
  exact (congrArg₂ (· * ·) (v235 I _) (v53 I _)).trans (emul_r _ _)

theorem v240 (i) : val_main_v240 (F := Ideal) (R0 I) (R1 I) (R4 I) (R5 I) i = ((I.dws 0 32 (i 0).val (i 1).val (i 2).val : ℝ) : EReal) := by
  simp only [val_main_v240_apply, val_main_v239_apply, val_main_v56_apply, v236, v55, mul_r]
  refine congrArg Real.toEReal ?_
  simp only [Inp.dws, mul_ite, mul_one, mul_zero, Nat.zero_add]
theorem v237 (i) : val_main_v237 (F := Ideal) (R0 I) (R1 I) (R2 I) i = ((∑ k ∈ Finset.range 128, I.dm ((i 1).val * 128 + k) ((i 0).val * 128 + (i 2).val) * I.Wc (i 0).val k (i 3).val : ℝ) : EReal) := by
  simp only [val_main_v237_apply, v235, v58, coe_sum, emul_r]
  rw [Finset.sum_range]
theorem v241 (i) : val_main_v241 (F := Ideal) (R0 I) (R1 I) (R2 I) i = ((I.dvn (i 0).val (i 1).val : ℝ) : EReal) := by
  have b0 : (i 0).val < 4096 := (i 0).isLt
  have b1 : (i 1).val < 512 := (i 1).isLt
  have e0 : ((i 0).val * 512 + (i 1).val) / 65536 = (i 0).val / 128 := by omega
  have e1 : ((i 0).val * 512 + (i 1).val) / 512 % 128 = (i 0).val % 128 := by omega
  have e2 : ((i 0).val * 512 + (i 1).val) / 128 % 4 = (i 1).val / 128 := by omega
  have e3 : ((i 0).val * 512 + (i 1).val) % 128 = (i 1).val % 128 := by omega
  simp only [val_main_v241_apply, val_main_v238_apply, v237, e0, e1, e2, e3, Nat.div_add_mod', Inp.dvn, mul_comm (I.Wc _ _ _)]

/-! ## The layer norm's cotangents -/

theorem v243 (i) : val_main_v243 (F := Ideal) (R0 I) (R1 I) (R2 I) i = ((I.dbias 0 4096 (i 1).val : ℝ) : EReal) := by
  have b0 : (i 0).val < 1 := (i 0).isLt
  have b1 : (i 1).val < 512 := (i 1).isLt
  have e0 : (i 0).val * 512 + (i 1).val = (i 1).val := by omega
  simp only [val_main_v243_apply, val_main_v242_apply, val_main_cst_52_apply, v241, w_0, coe_sum, eadd_r, zero_add, e0]
  rw [Inp.dbias, Finset.sum_range]
  exact congrArg Real.toEReal (Finset.sum_congr rfl fun k _ => by rw [Nat.zero_add])
theorem v295 (i) : val_main_v295 (F := Ideal) (R0 I) (R1 I) (R2 I) i = ((I.dbias 0 4096 (i 1).val : ℝ) : EReal) := by
  simp only [val_main_v295_apply, val_main_v244_apply, val_main_cst_53_apply, v243, w_0, coe_sum, eadd_r, zero_add, Finset.univ_unique, Finset.sum_singleton]

theorem v247 (i) : val_main_v247 (F := Ideal) (R0 I) (R1 I) (R2 I) i = ((I.dgain 0 4096 (i 1).val : ℝ) : EReal) := by
  have b0 : (i 0).val < 1 := (i 0).isLt
  have b1 : (i 1).val < 512 := (i 1).isLt
  have e0 : (i 0).val * 512 + (i 1).val = (i 1).val := by omega
  simp only [val_main_v247_apply, val_main_v246_apply, val_main_v245_apply, val_main_cst_54_apply, v241, v46, w_0, coe_sum, eadd_r, mul_r, zero_add, e0]
  rw [Inp.dgain, Finset.sum_range]
  exact congrArg Real.toEReal (Finset.sum_congr rfl fun k _ => by rw [Nat.zero_add, mul_comm])
theorem v294 (i) : val_main_v294 (F := Ideal) (R0 I) (R1 I) (R2 I) i = ((I.dgain 0 4096 (i 1).val : ℝ) : EReal) := by
  simp only [val_main_v294_apply, val_main_v250_apply, val_main_cst_55_apply, v247, w_0, coe_sum, eadd_r, zero_add, Finset.univ_unique, Finset.sum_singleton]

theorem v249 (i) : val_main_v249 (F := Ideal) (R0 I) (R1 I) (R2 I) (R4 I) i = ((I.dvn (i 0).val (i 1).val * I.Ga (i 1).val : ℝ) : EReal) := by
  simp only [val_main_v249_apply, val_main_v248_apply, val_main_v47_apply, v241, r4, mul_r]

theorem v253 (i) : val_main_v253 (F := Ideal) (R0 I) (R1 I) (R2 I) (R4 I) i = ((∑ j ∈ Finset.range 512, cen (I.v (i 0).val) j * (I.dvn (i 0).val j * I.Ga j) : ℝ) : EReal) := by
  have b0 : (i 0).val < 4096 := (i 0).isLt
  have b1 : (i 1).val < 1 := (i 1).isLt
  have e0 : (i 0).val * 1 + (i 1).val = (i 0).val := by omega
  simp only [val_main_v253_apply, val_main_v252_apply, val_main_v251_apply, val_main_cst_56_apply, v249, v38, w_0, coe_sum, eadd_r, mul_r, zero_add, e0]
  rw [Finset.sum_range]
theorem v255 (i) : val_main_v255 (F := Ideal) (R0 I) (R1 I) (R2 I) (R4 I) i = ((I.dvn (i 0).val (i 1).val * I.Ga (i 1).val * rstd (I.v (i 0).val) : ℝ) : EReal) := by
  simp only [val_main_v255_apply, val_main_v254_apply, v249, v41, mul_r]

theorem v261 (i) : val_main_v261 (F := Ideal) (R0 I) (R1 I) (R2 I) (R4 I) i = (((∑ j ∈ Finset.range 512, cen (I.v (i 0).val) j * (I.dvn (i 0).val j * I.Ga j)) * (-(1 / 2) * (rstd (I.v (i 0).val) / (var (I.v (i 0).val) + eps))) / 512 : ℝ) : EReal) := by
  simp only [val_main_v261_apply, val_main_v256_apply, val_main_v260_apply, val_main_cst_58_apply, v253, v44, w_512, mul_r,
    div_r _ _ (by norm_num : (512 : ℝ) ≠ 0)]

theorem v264 (i) : val_main_v264 (F := Ideal) (R0 I) (R1 I) (R2 I) (R4 I) i = ((2 * cen (I.v (i 0).val) (i 1).val * ((∑ j ∈ Finset.range 512, cen (I.v (i 0).val) j * (I.dvn (i 0).val j * I.Ga j)) * (-(1 / 2) * (rstd (I.v (i 0).val) / (var (I.v (i 0).val) + eps))) / 512) : ℝ) : EReal) := by
  simp only [val_main_v264_apply, val_main_v263_apply, val_main_v262_apply, val_main_cst_59_apply, v261, v32, w_0, coe_sum, eadd_r, mul_r, zero_add,
    Finset.univ_unique, Finset.sum_singleton]
  exact congrArg Real.toEReal (mul_comm _ _)
theorem v268 (i) : val_main_v268 (F := Ideal) (R0 I) (R1 I) (R2 I) (R4 I) i = ((2 * cen (I.v (i 0).val) (i 1).val * ((∑ j ∈ Finset.range 512, cen (I.v (i 0).val) j * (I.dvn (i 0).val j * I.Ga j)) * (-(1 / 2) * (rstd (I.v (i 0).val) / (var (I.v (i 0).val) + eps))) / 512) + I.dvn (i 0).val (i 1).val * I.Ga (i 1).val * rstd (I.v (i 0).val) : ℝ) : EReal) := by
  simp only [val_main_v268_apply, v255, v264, add_r]
  exact congrArg Real.toEReal (add_comm _ _)
theorem v259 (i) : val_main_v259 (F := Ideal) (R0 I) (R1 I) (R2 I) (R4 I) i = ((-∑ j ∈ Finset.range 512, I.dvn (i 0).val j * I.Ga j * rstd (I.v (i 0).val) : ℝ) : EReal) := by
  have b0 : (i 0).val < 4096 := (i 0).isLt
  have b1 : (i 1).val < 1 := (i 1).isLt
  have e0 : (i 0).val * 1 + (i 1).val = (i 0).val := by omega
  simp only [val_main_v259_apply, val_main_v258_apply, val_main_v257_apply, val_main_cst_57_apply, v255, w_0, coe_sum, eadd_r, neg_r, zero_add, e0]
  rw [← Finset.sum_neg_distrib, Finset.sum_range]
theorem v267 (i) : val_main_v267 (F := Ideal) (R0 I) (R1 I) (R2 I) (R4 I) i = ((-∑ j ∈ Finset.range 512, 2 * cen (I.v (i 0).val) j * ((∑ j ∈ Finset.range 512, cen (I.v (i 0).val) j * (I.dvn (i 0).val j * I.Ga j)) * (-(1 / 2) * (rstd (I.v (i 0).val) / (var (I.v (i 0).val) + eps))) / 512) : ℝ) : EReal) := by
  have b0 : (i 0).val < 4096 := (i 0).isLt
  have b1 : (i 1).val < 1 := (i 1).isLt
  have e0 : (i 0).val * 1 + (i 1).val = (i 0).val := by omega
  simp only [val_main_v267_apply, val_main_v266_apply, val_main_v265_apply, val_main_cst_60_apply, v264, w_0, coe_sum, eadd_r, neg_r, zero_add, e0]
  simp only [← Finset.sum_neg_distrib, Finset.sum_range]
theorem v274 (i) : val_main_v274 (F := Ideal) (R0 I) (R1 I) (R2 I) (R4 I) i = ((I.dv (i 0).val (i 1).val : ℝ) : EReal) := by
  simp only [val_main_v274_apply, val_main_v273_apply, val_main_v272_apply, val_main_v271_apply, val_main_cst_62_apply, val_main_v269_apply,
    val_main_v270_apply, val_main_cst_61_apply, v259, v267, v268, w_0, w_512, add_r, coe_sum, eadd_r, zero_add, Finset.univ_unique,
    Finset.sum_singleton, div_r _ _ (by norm_num : (512 : ℝ) ≠ 0)]
  exact congrArg Real.toEReal (dnorm_eq _ _ _)
/-! ## The gelu's cotangent -/

theorem v275 (i) : val_main_v275 (F := Ideal) (R0 I) (R1 I) (R2 I) (R4 I) i = ((if 512 ≤ (i 1).val then I.dv (i 0).val ((i 1).val - 512) else 0 : ℝ) : EReal) := by
  have b0 : (i 0).val < 4096 := (i 0).isLt
  have b1 : (i 1).val < 1024 := (i 1).isLt
  refine (pad2 _ _ _ _ I.dv (v274 I) (fun _ => w_0) i).trans (congrArg Real.toEReal ?_)
  exact if_congr (by omega) rfl rfl

theorem v276 (i) : val_main_v276 (F := Ideal) (R0 I) (R1 I) (R2 I) (R3 I) (R4 I) (R5 I) i = ((if (i 1).val < 512 then I.D (i 0).val (i 1).val * I.mixed (i 0).val (i 1).val else 0 : ℝ) : EReal) := by
  have b0 : (i 0).val < 4096 := (i 0).isLt
  have b1 : (i 1).val < 1024 := (i 1).isLt
  refine (pad2 _ _ _ _ (fun s j => I.D s j * I.mixed s j) (v227 I) (fun _ => w_0) i).trans (congrArg Real.toEReal ?_)
  exact if_congr (by omega) rfl rfl

theorem v277 (i) : val_main_v277 (F := Ideal) (R0 I) (R1 I) (R2 I) (R3 I) (R4 I) (R5 I) i = ((if (i 1).val < 512 then I.D (i 0).val (i 1).val * I.mixed (i 0).val (i 1).val else I.dv (i 0).val ((i 1).val - 512) : ℝ) : EReal) := by
  simp only [val_main_v277_apply, v275, v276, add_r]
  refine congrArg Real.toEReal ?_
  by_cases h : (i 1).val < 512
  · rw [if_neg h.not_ge, if_pos h, if_pos h, zero_add]
  · rw [if_pos (not_lt.1 h), if_neg h, if_neg h, add_zero]
theorem v289 (i) : val_main_v289 (F := Ideal) (R0 I) (R1 I) (R2 I) (R3 I) (R4 I) (R5 I) i = (((if (i 1).val < 512 then I.D (i 0).val (i 1).val * I.mixed (i 0).val (i 1).val else I.dv (i 0).val ((i 1).val - 512)) * dgelu (I.Z (i 0).val (i 1).val) : ℝ) : EReal) := by
  simp only [val_main_v289_apply, val_main_v285_apply, val_main_v288_apply, val_main_v279_apply, val_main_v284_apply, val_main_v287_apply, val_main_v5_apply,
    val_main_v283_apply, val_main_v282_apply, val_main_v286_apply, val_main_v4_apply, val_main_v3_apply, val_main_cst_66_apply, val_main_v281_apply,
    val_main_cst_67_apply, val_main_cst_apply, val_main_v280_apply, val_main_v278_apply, val_main_cst_65_apply, v0, v16, v20, v277, w_3, w_half,
    w_k0, w_k1, add_r, mul_r]
  refine congrArg Real.toEReal ?_
  rw [dgelu]
  ring
theorem v290 (i) : val_main_v290 (F := Ideal) (R0 I) (R1 I) (R2 I) (R3 I) (R4 I) (R5 I) i = ((if (i 1).val < 1024 then (if (i 1).val < 512 then I.D (i 0).val (i 1).val * I.mixed (i 0).val (i 1).val else I.dv (i 0).val ((i 1).val - 512)) * dgelu (I.Z (i 0).val (i 1).val) else 0 : ℝ) : EReal) := by
  have b0 : (i 0).val < 4096 := (i 0).isLt
  have b1 : (i 1).val < 1536 := (i 1).isLt
  refine (pad2 _ _ _ _ (fun s j => (if j < 512 then I.D s j * I.mixed s j else I.dv s (j - 512)) * dgelu (I.Z s j)) (v289 I) (fun _ => w_0) i).trans
    (congrArg Real.toEReal ?_)
  exact if_congr (by omega) rfl rfl

theorem v291 (i) : val_main_v291 (F := Ideal) (R0 I) (R1 I) (R2 I) (R3 I) (R4 I) (R5 I) (R6 I) (R8 I) i = ((I.dz (i 0).val (i 1).val : ℝ) : EReal) := by
  simp only [val_main_v291_apply, v225, v290, add_r]
  refine congrArg Real.toEReal ?_
  rw [Inp.dz]
  by_cases h : (i 1).val < 512
  · rw [if_neg (by omega), if_pos (by omega), if_pos h, if_pos h, zero_add]
  · by_cases h' : (i 1).val < 1024
    · rw [if_neg (by omega), if_pos h', if_neg h, if_neg h, if_pos h', zero_add]
    · rw [if_pos (by omega), if_neg h', if_neg h, if_neg h', add_zero]

theorem v292 (i) : val_main_v292 (F := Ideal) (R0 I) (R1 I) (R2 I) (R3 I) (R4 I) (R5 I) (R6 I) (R8 I) i = ((I.dz (i 0).val (i 1).val : ℝ) : EReal) :=
  v291 I i

/-- The pooling bias, which need not be real. -/
def R7 (bp : ℕ → EReal) : (⟨S4x128, .f32⟩ : BufTy).Contents (Elt Ideal) := tab fun g b => bp (g * 128 + b)

theorem v153 (bp : ℕ → EReal) (i) : val_main_v153 (F := Ideal) (R0 I) (R1 I) (R6 I) (R7 bp) i
    = ((I.D (i 0).val (512 + (i 1).val) : ℝ) : EReal) * (((I.lin (i 0).val (i 1).val : ℝ) : EReal) + bp (i 1).val) := by
  have b0 : (i 0).val < 4096 := (i 0).isLt
  have b1 : (i 1).val < 512 := (i 1).isLt
  have e0 : ((i 0).val * 512 + (i 1).val) / 512 = (i 0).val := by omega
  have e1 : ((i 0).val * 512 + (i 1).val) / 128 % 4 * 128 + ((i 0).val * 512 + (i 1).val) % 128 = (i 1).val := by omega
  have r7 : ∀ k, R7 bp k = bp ((k 0).val * 128 + (k 1).val) := fun _ => rfl
  simp only [val_main_v153_apply, val_main_v152_apply, val_main_v146_apply, val_main_v145_apply, val_main_v144_apply, val_main_v143_apply,
    v142, r1, r7, e0, e1]
  exact mul_comm _ _

theorem v297 (bp : ℕ → EReal) (i) : val_main_v297 (F := Ideal) (R0 I) (R1 I) (R6 I) (R7 bp) i
    = ∑ s ∈ Finset.range 4096, ((I.D s (512 + (i 1).val) : ℝ) : EReal) * (((I.lin s (i 1).val : ℝ) : EReal) + bp (i 1).val) := by
  simp only [val_main_v297_apply, val_main_v158_apply, val_main_cst_33_apply, val_main_v155_apply, val_main_v154_apply, val_main_cst_32_apply,
    v153, w_0, EReal.coe_zero, zero_add, Finset.univ_unique, Finset.sum_singleton,
    show ((default : Fin 1) : ℕ) = 0 from rfl, zero_mul]
  rw [Finset.sum_range]

end Cert.MixerRefIdeal.Hand
-- ==== Proof.MixerPre.lean ====
module

public import proofs.«01_k».proof.Pre_finite
public import Idealize.ShloMosaic.Lib.ReduceAll
public import Idealize.ShloMosaic.PureOps.Ideal

/-!
What the precondition of the mixer's gradients says: every entry of the arrays it names is a real number.
-/

@[expose] public section

noncomputable section

namespace Cert.MixerPre

open Idealize.ShloMosaic

/-- An extended real whose absolute value is below the infinity is a real number. -/
theorem real_of_lt (x : EReal) (h : Ideal.cmp .olt (max x (-x)) (Ideal.ofBits .f32 0x7F800000#32) = 1#1) : ∃ r : ℝ, x = (r : EReal) := by
  have top : Ideal.ofBits .f32 0x7F800000#32 = (⊤ : EReal) := by simp [Ideal.ofBits, Ideal.ieee]
  rw [top] at h
  induction x with
  | bot => simp [Ideal.cmp] at h
  | top => simp [Ideal.cmp] at h
  | coe r => exact ⟨r, rfl⟩

instance : Subsingleton Cert.Pre_finite.S_.Idx := ⟨fun a b => funext fun k => k.elim0⟩

/-- One conjunct of the precondition: the array has real entries. -/
theorem all_real {s : Shape} {axes : List (Fin s.rank)} (x : s.Idx → EReal) (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (h : Host.reduce IntOp.andi (cmpf (F := Ideal) (φ := .f32) .olt (Host.absf (F := Ideal) (φ := .f32) x)
      (broadcastInDim s ![] hb (constant (F := Ideal) Cert.Pre_finite.S_ .f32 0x7F800000#32)))
      (constantI Cert.Pre_finite.S_ 1 1#1) hr hu j = 1#1) (i : s.Idx) : ∃ r : ℝ, x i = (r : EReal) :=
  real_of_lt (x i) (Host.reduce_andi_all _ _ hr hu j h i)

theorem and_one {x y : IVec Cert.Pre_finite.S_ 1} {j : Cert.Pre_finite.S_.Idx} (h : andi x y j = 1#1) : x j = 1#1 ∧ y j = 1#1 := by
  have e : ∀ a b : BitVec 1, IntOp.andi a b = 1#1 → a = 1#1 ∧ b = 1#1 := by decide
  exact e _ _ h

open Cert.Pre_finite in
/-- The precondition read: the eight arrays it names have real entries. -/
theorem reals [Facts] (x0 : FVec Ideal S4096x1536 .f32) (x1 : FVec Ideal S4096x1024 .f32) (x2 : FVec Ideal S4x128x128 .f32) (x3 : FVec Ideal S4x128 .f32)
    (x4 x5 : FVec Ideal S512 .f32) (x6 : FVec Ideal S4x128x128 .f32) (x7 : FVec Ideal S4x128 .f32) (x8 : FVec Ideal S512 .f32)
    (x9 : FVec Ideal S4x2x256x1024 .bf16) (h : fn (F := Ideal) x0 x1 x2 x3 x4 x5 x6 x7 x8 x9 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal))
    ∧ (∀ i, ∃ r : ℝ, x4 i = (r : EReal)) ∧ (∀ i, ∃ r : ℝ, x5 i = (r : EReal)) ∧ (∀ i, ∃ r : ℝ, x6 i = (r : EReal)) ∧ (∀ i, ∃ r : ℝ, x8 i = (r : EReal)) := by
  have h0 := congrFun h fun k => k.elim0
  simp only [fn, fn_part1, fn_part2] at h0
  obtain ⟨h0, e8⟩ := and_one h0
  obtain ⟨h0, e6⟩ := and_one h0
  obtain ⟨h0, e5⟩ := and_one h0
  obtain ⟨h0, e4⟩ := and_one h0
  obtain ⟨h0, e3⟩ := and_one h0
  obtain ⟨h0, e2⟩ := and_one h0
  obtain ⟨e0, e1⟩ := and_one h0
  exact ⟨all_real x0 _ _ _ _ e0, all_real x1 _ _ _ _ e1, all_real x2 _ _ _ _ e2, all_real x3 _ _ _ _ e3, all_real x4 _ _ _ _ e4,
    all_real x5 _ _ _ _ e5, all_real x6 _ _ _ _ e6, all_real x8 _ _ _ _ e8⟩

end Cert.MixerPre
-- ==== Proof.Mixer.lean ====
module

public import proofs.«01_k».proof.Defs
public import proofs.«01_k».proof.Proof.MixerKernel
public import proofs.«01_k».proof.Proof.MixerRef
public import proofs.«01_k».proof.Proof.MixerPre
public import proofs.«01_k».proof.Proof.Gen.Pre_finite
public import proofs.«01_k».proof.Proof.Gen.MixerIdeal.Value
public import proofs.«01_k».proof.Proof.Gen.MixerRefIdeal.Run
public import proofs.«01_k».proof.Proof.Gen.MixerRefIdeal.Read
public import Idealize.ShloMosaic.Adequacy

/-!
The gradients of the mixer: the kernel and the reference end with the same eight arrays.
-/

@[expose] public section

noncomputable section

namespace Cert.Proof.Mixer

open Idealize.ShloMosaic Idealize.SL.Sem Cert.MixerMath Cert.MixerOps

/-! ## Arrays with real entries, read as functions of natural numbers -/

def flat1 {m : ℕ} (x : (⟨1, ![m]⟩ : Shape).Idx → EReal) (a : ℕ) : ℝ := if h : a < m then (x (ix1 ⟨a, h⟩)).toReal else 0

def flat2 {m n : ℕ} (x : (⟨2, ![m, n]⟩ : Shape).Idx → EReal) (a b : ℕ) : ℝ :=
  if h : a < m ∧ b < n then (x (ix2 ⟨a, h.1⟩ ⟨b, h.2⟩)).toReal else 0

def flat3 {k m n : ℕ} (x : (⟨3, ![k, m, n]⟩ : Shape).Idx → EReal) (a b c : ℕ) : ℝ :=
  if h : a < k ∧ b < m ∧ c < n then (x (ix3 ⟨a, h.1⟩ ⟨b, h.2.1⟩ ⟨c, h.2.2⟩)).toReal else 0

theorem back {x : EReal} (h : ∃ r : ℝ, x = (r : EReal)) : x = (x.toReal : EReal) := by
  obtain ⟨r, rfl⟩ := h
  rw [EReal.toReal_coe]

theorem tab1_flat {m : ℕ} (x : (⟨1, ![m]⟩ : Shape).Idx → EReal) (h : ∀ i, ∃ r : ℝ, x i = (r : EReal)) : x = tab1 fun a => (flat1 x a : EReal) := by
  funext i
  have h0 : (i 0).val < m := (i 0).isLt
  rw [tab1, flat1, dif_pos h0]
  have e : x i = x _ := congrArg x (eq_ix1 i)
  exact e.trans (back (e ▸ h i))

theorem tab_flat {m n : ℕ} (x : (⟨2, ![m, n]⟩ : Shape).Idx → EReal) (h : ∀ i, ∃ r : ℝ, x i = (r : EReal)) :
    x = tab fun a b => (flat2 x a b : EReal) := by
  funext i
  have h0 : (i 0).val < m := (i 0).isLt
  have h1 : (i 1).val < n := (i 1).isLt
  rw [tab, flat2, dif_pos ⟨h0, h1⟩]
  have e : x i = x _ := congrArg x (eq_ix2 i)
  exact e.trans (back (e ▸ h i))

theorem tab3_flat {k m n : ℕ} (x : (⟨3, ![k, m, n]⟩ : Shape).Idx → EReal) (h : ∀ i, ∃ r : ℝ, x i = (r : EReal)) :
    x = tab3 fun a b c => (flat3 x a b c : EReal) := by
  funext i
  have h0 : (i 0).val < k := (i 0).isLt
  have h1 : (i 1).val < m := (i 1).isLt
  have h2 : (i 2).val < n := (i 2).isLt
  rw [tab3, flat3, dif_pos ⟨h0, h1, h2⟩]
  have e : x i = x _ := congrArg x (eq_ix3 i)
  exact e.trans (back (e ▸ h i))

/-- A [4, 128] array laid out in one row. -/
def row {α : Type} [Inhabited α] (x : (⟨2, ![4, 128]⟩ : Shape).Idx → α) (j : ℕ) : α :=
  if h : j / 128 < 4 then x (ix2 ⟨j / 128, h⟩ ⟨j % 128, Nat.mod_lt _ (by omega)⟩) else default

theorem tab_row {α : Type} [Inhabited α] (x : (⟨2, ![4, 128]⟩ : Shape).Idx → α) : x = tab fun g b => row x (g * 128 + b) := by
  funext i
  have h0 : (i 0).val < 4 := (i 0).isLt
  have h1 : (i 1).val < 128 := (i 1).isLt
  have e0 : ((i 0).val * 128 + (i 1).val) / 128 = (i 0).val := by omega
  have e1 : ((i 0).val * 128 + (i 1).val) % 128 = (i 1).val := by omega
  simp only [tab, row, e0, e1]
  rw [dif_pos h0]
  exact congrArg x (eq_ix2 i)

/-! ## The arguments -/

variable (m : (ℓ : Loc Cert.MixerIdeal.nD Cert.MixerIdeal.τ Cert.MixerIdeal.sig) → Buf (Elt Ideal) ℓ) (c : Dev Cert.MixerIdeal.nD)

/-- The kernel's arguments on a device, as real numbers. -/
def inp : Inp where
  Z := flat2 (m := 4096) (n := 1536) (m ((c.tc : Thread Cert.MixerIdeal.nD Cert.MixerIdeal.τ).loc Cert.MixerIdeal.main_arg0))
  D := flat2 (m := 4096) (n := 1024) (m ((c.tc : Thread Cert.MixerIdeal.nD Cert.MixerIdeal.τ).loc Cert.MixerIdeal.main_arg1))
  W := flat3 (k := 4) (m := 128) (n := 128) (m ((c.tc : Thread Cert.MixerIdeal.nD Cert.MixerIdeal.τ).loc Cert.MixerIdeal.main_arg2))
  B := flat2 (m := 4) (n := 128) (m ((c.tc : Thread Cert.MixerIdeal.nD Cert.MixerIdeal.τ).loc Cert.MixerIdeal.main_arg3))
  Ga := flat1 (m := 512) (m ((c.tc : Thread Cert.MixerIdeal.nD Cert.MixerIdeal.τ).loc Cert.MixerIdeal.main_arg4))
  Be := flat1 (m := 512) (m ((c.tc : Thread Cert.MixerIdeal.nD Cert.MixerIdeal.τ).loc Cert.MixerIdeal.main_arg5))
  P := flat3 (k := 4) (m := 128) (n := 128) (m ((c.tc : Thread Cert.MixerIdeal.nD Cert.MixerIdeal.τ).loc Cert.MixerIdeal.main_arg6))
  Sc := flat1 (m := 512) (m ((c.tc : Thread Cert.MixerIdeal.nD Cert.MixerIdeal.τ).loc Cert.MixerIdeal.main_arg8))

/-- The pooling bias on a device, in one row. -/
def bias : ℕ → EReal :=
  row (α := EReal) (m ((c.tc : Thread Cert.MixerIdeal.nD Cert.MixerIdeal.τ).loc Cert.MixerIdeal.main_arg7))

theorem holds (h : Cert.Pre_MixerIdeal_finite m) : Cert.MixerIdeal.Hand.Holds m c (inp m c) (bias m c) := by
  obtain ⟨h0, h1, h2, h3, h4, h5, h6, h8⟩ := Cert.MixerPre.reals _ _ _ _ _ _ _ _ _ _ (h c)
  exact ⟨tab_flat _ h0, tab_flat _ h1, tab3_flat _ h2, tab_flat _ h3, tab1_flat _ h4, tab1_flat _ h5, tab3_flat _ h6, tab_row (α := EReal) _,
    tab1_flat _ h8⟩

/-! ## The claims -/

theorem frame_ref : Cert.quiescent_MixerRefIdeal := fun m ρ _ =>
  (θ_run Cert.MixerRefIdeal.defs _ _).mono
    (fun r h => ⟨fun c => (h c).2.2.2.2.2.2.2.2, sem_eq_zero_of_no_sems rfl r.2⟩)
    (Cert.MixerRefIdeal.Value.run (F := Ideal) m ρ)

theorem frame_ref_finite : Cert.quiescent_MixerRefIdeal_pre_finite := fun m ρ _ => frame_ref m ρ trivial

theorem preserves : Cert.preserves_Mixer_MixerIdeal :=
  ⟨IdealRules.named_const.statement Cert.MixerIdeal.κ "k0k1" .f32 0x3D122279#32 _ rfl,
    IdealRules.named_const.statement Cert.MixerIdeal.κ "three_k0k1" .f32 0x3DDB33B6#32 _ rfl⟩

open Cert.MixerIdeal.Hand Cert.MixerRefIdeal.Hand in
theorem algebraic : Cert.algebraic_MixerIdeal_MixerRefIdeal_pre_finite := by
  intro m ρ m' ρ' pre hagree
  refine ⟨fun c => tab fun s j => ((inp m c).dz s j : EReal), fun c => Q13 ((inp m c).dws 0 32), fun c => Q14 ((inp m c).dbs 0 32),
    fun c => Q15 ((inp m c).dgain 0 4096), fun c => Q15 ((inp m c).dbias 0 4096), fun c => Q13 ((inp m c).dwp 0 4096),
    fun c => Q15 ((inp m c).dbp 0 4096), fun c => Q19 (dps (inp m c) (bias m c) 4096), ?_, ?_⟩
  · refine (θ_run Cert.MixerIdeal.defs _ _).mono (fun _ h c => ?_) (Cert.MixerIdeal.Value.run_blocks m ρ)
    obtain ⟨e0, e1, e2, e3, e4, e5, e6, e7, args⟩ := h c
    have H := holds m c pre
    exact ⟨e0.trans (final12 H), e1.trans (final13 H), e2.trans (final14 H), e3.trans (final15 H), e4.trans (final16 H), e5.trans (final17 H),
      e6.trans (final18 H), e7.trans (final19 H), args⟩
  · refine (θ_run Cert.MixerRefIdeal.defs _ _).mono (fun _ h c => ?_) (Cert.MixerRefIdeal.Value.run (F := Ideal) m' ρ')
    obtain ⟨e0, e1, e2, e3, e4, e5, e6, e7, args⟩ := h c
    obtain ⟨a0, a1, a2, a3, a4, a5, a6, a7, a8, -⟩ := hagree c
    have H := holds m c pre
    have b0 : StableHlo.launchContents m' c (Proc.tc.devRef Cert.MixerRefIdeal.main_arg0) = R0 (inp m c) := a0.trans H.a0
    have b1 : StableHlo.launchContents m' c (Proc.tc.devRef Cert.MixerRefIdeal.main_arg1) = R1 (inp m c) := a1.trans H.a1
    have b2 : StableHlo.launchContents m' c (Proc.tc.devRef Cert.MixerRefIdeal.main_arg2) = R2 (inp m c) := a2.trans H.a2
    have b3 : StableHlo.launchContents m' c (Proc.tc.devRef Cert.MixerRefIdeal.main_arg3) = R3 (inp m c) := a3.trans H.a3
    have b4 : StableHlo.launchContents m' c (Proc.tc.devRef Cert.MixerRefIdeal.main_arg4) = R4 (inp m c) := a4.trans H.a4
    have b5 : StableHlo.launchContents m' c (Proc.tc.devRef Cert.MixerRefIdeal.main_arg5) = R5 (inp m c) := a5.trans H.a5
    have b6 : StableHlo.launchContents m' c (Proc.tc.devRef Cert.MixerRefIdeal.main_arg6) = R6 (inp m c) := a6.trans H.a6
    have b7 : StableHlo.launchContents m' c (Proc.tc.devRef Cert.MixerRefIdeal.main_arg7) = R7 (bias m c) := a7.trans H.a7
    have b8 : StableHlo.launchContents m' c (Proc.tc.devRef Cert.MixerRefIdeal.main_arg8) = R8 (inp m c) := a8.trans H.a8
    refine ⟨e0.trans ?_, e1.trans ?_, e2.trans ?_, e3.trans ?_, e4.trans ?_, e5.trans ?_, e6.trans ?_, e7.trans ?_, args⟩
    · refine (Cert.MixerRefIdeal.Read.val_main_v292_eq ..).trans ?_
      rw [b0, b1, b2, b3, b4, b5, b6, b8]
      exact funext (v292 (inp m c))
    · refine (Cert.MixerRefIdeal.Read.val_main_v240_eq ..).trans ?_
      rw [b0, b1, b4, b5]
      exact funext (v240 (inp m c))
    · refine (Cert.MixerRefIdeal.Read.val_main_v293_eq ..).trans ?_
      rw [b0, b1]
      exact funext (v293 (inp m c))
    · refine (Cert.MixerRefIdeal.Read.val_main_v294_eq ..).trans ?_
      rw [b0, b1, b2]
      exact funext (v294 (inp m c))
    · refine (Cert.MixerRefIdeal.Read.val_main_v295_eq ..).trans ?_
      rw [b0, b1, b2]
      exact funext (v295 (inp m c))
    · refine (Cert.MixerRefIdeal.Read.val_main_v167_eq ..).trans ?_
      rw [b0, b1, b8]
      exact funext (v167 (inp m c))
    · refine (Cert.MixerRefIdeal.Read.val_main_v296_eq ..).trans ?_
      rw [b1, b8]
      exact funext (v296 (inp m c))
    · refine (Cert.MixerRefIdeal.Read.val_main_v297_eq ..).trans ?_
      rw [b0, b1, b6, b7]
      exact funext (v297 (inp m c) (bias m c))

end Cert.Proof.Mixer
-- ==== Proof.Rms.lean ====
module

public import proofs.«01_k».proof.Proof.MixerHost
public import proofs.«01_k».proof.Proof.MixerOps
public import Idealize.ShloMosaic.Lib.Pipeline.ReadBack
public import Idealize.ShloMosaic.Lib.Pipeline.ReadBack

/-!
The root-mean-square norm of a row of 1024 numbers and its gradient, and the vector operations on blocks of such rows.
-/

@[expose] public section

set_option maxRecDepth 16384

noncomputable section

namespace Cert.Rms

open Idealize.ShloMosaic Idealize.ShloMosaic.TcCoe Idealize.SL.Sem Cert.MixerMath Cert.MixerOps

/-! ## Rows of 1024 -/

def mean (f : ℕ → ℝ) : ℝ := (∑ j ∈ Finset.range 1024, f j) / 1024
def power (f : ℕ → ℝ) : ℝ := mean (fun j => f j * f j) + eps
def rinv (f : ℕ → ℝ) : ℝ := (Real.sqrt (power f))⁻¹
def unit (f : ℕ → ℝ) (j : ℕ) : ℝ := f j * rinv f
/-- What a row receives from the cotangent `d` of its normalisation. -/
def grad (f d : ℕ → ℝ) (j : ℕ) : ℝ := rinv f * (d j - unit f j * mean fun i => d i * unit f i)

theorem power_pos (f : ℕ → ℝ) : 0 < power f :=
  add_pos_of_nonneg_of_pos (div_nonneg (Finset.sum_nonneg fun _ _ => mul_self_nonneg _) (by norm_num)) eps_pos

theorem rinv_sq (f : ℕ → ℝ) : rinv f * rinv f = (power f)⁻¹ := by
  rw [rinv, ← mul_inv, Real.mul_self_sqrt (power_pos f).le]

/-- The gradient as differentiating the norm's own lines writes it. -/
theorem grad_lines (f d : ℕ → ℝ) (j : ℕ) (q : ℝ)
    (hq : q = (∑ i ∈ Finset.range 1024, f i * d i) * (-(1 / 2) * (rinv f / power f)) / 1024) :
    d j * rinv f + f j * q + q * f j = grad f d j := by
  have e : (∑ i ∈ Finset.range 1024, d i * unit f i) = rinv f * ∑ i ∈ Finset.range 1024, f i * d i := by
    rw [Finset.mul_sum]
    exact Finset.sum_congr rfl fun i _ => by rw [unit]; ring
  rw [hq, div_eq_mul_inv (rinv f), ← rinv_sq, grad, mean, e, unit]
  ring

/-- A sum over 4096 columns, 1024 at a time. -/
theorem sum_4096 (g : ℕ → ℝ) : ∑ k ∈ Finset.range 4096, g k
    = (∑ k ∈ Finset.range 1024, g k) + (∑ k ∈ Finset.range 1024, g (1024 + k)) + (∑ k ∈ Finset.range 1024, g (2048 + k))
      + ∑ k ∈ Finset.range 1024, g (3072 + k) := by
  rw [show (4096 : ℕ) = 3072 + 1024 from rfl, Finset.sum_range_add, show (3072 : ℕ) = 2048 + 1024 from rfl, Finset.sum_range_add,
    show (2048 : ℕ) = 1024 + 1024 from rfl, Finset.sum_range_add]

/-! ## Constants and divisions -/

theorem c_half : Scalar.ofBits (F := Ideal) .f32 0x3F000000#32 = ((1 / 2 : ℝ) : EReal) := MixerHost.w_half
theorem c_one : Scalar.ofBits (F := Ideal) .f32 0x3F800000#32 = ((1 : ℝ) : EReal) := MixerHost.w_1
theorem c_zero : Scalar.ofBits (F := Ideal) .f32 0x00000000#32 = ((0 : ℝ) : EReal) := MixerHost.w_0
theorem c_eps : Scalar.ofBits (F := Ideal) .f32 0x358637BD#32 = ((eps : ℝ) : EReal) := MixerHost.w_eps
theorem w_1024 : FloatOps.ofBits (F := Ideal) .f32 0x44800000#32 = ((1024 : ℝ) : EReal) := by
  show Ideal.ofBits .f32 0x44800000#32 = _
  simp [Ideal.ofBits, Ideal.ieee, -EReal.coe_mul]; norm_num
theorem c_1024 : Scalar.ofBits (F := Ideal) .f32 0x44800000#32 = ((1024 : ℝ) : EReal) := w_1024
theorem c_part : Scalar.ofBits (F := Ideal) .f32 0x3A800000#32 = ((1 / 1024 : ℝ) : EReal) := by
  show Ideal.ofBits .f32 0x3A800000#32 = _
  simp [Ideal.ofBits, Ideal.ieee, -EReal.coe_mul]; norm_num
theorem div_1024 (x : ℝ) : Ideal.div (x : EReal) ((1024 : ℝ) : EReal) = ((x / 1024 : ℝ) : EReal) :=
  (Ideal.div_coe (by norm_num) _).trans (by rw [← EReal.coe_mul, mul_one_div])
theorem rsqrt_power (f : ℕ → ℝ) : Ideal.rsqrt ((power f : ℝ) : EReal) = ((rinv f : ℝ) : EReal) := by
  rw [Ideal.rsqrt_coe, if_neg (power_pos f).le.not_gt, if_neg (power_pos f).ne', rinv]

/-! ## Loads and stores of part of a block -/

section
variable {nD : ℕ} {τ : Topo} {sig : RefSig} {φ : EltTy} {k l m n p q M N : ℕ}
theorem load_tab (c : Dev nD) (A : Memref sig .tc .vmem ⟨2, ![m, n]⟩ φ) (hA : A.IsWhole) (o r : ℕ) (inb) (f : ℕ → ℕ → Elt Ideal φ) :
    View.readAt (κ := Proc.kind (Dev.tc (τ := τ) c).2) (Elt Ideal) (Memref.view (κ := Proc.kind (Dev.tc (τ := τ) c).2) A)
        (Rect.unit (s := ⟨2, ![m, n]⟩) ![o, r] ![p, q] inb).toLoadRect (hA.unread (tab f))
      = tab fun a b => f (o + a) (r + b) := by
  refine Eq.trans (View.readAt_eq_ld ..) ?_
  refine Eq.trans (congrArg (View.ld · _) (hA.read_unread _)) ?_
  funext y
  show f (o + 1 * (y 0).val) (r + 1 * (y 1).val) = f (o + (y 0).val) (r + (y 1).val)
  rw [Nat.one_mul, Nat.one_mul]

theorem load_tab3 (c : Dev nD) (A : Memref sig .tc .vmem ⟨3, ![l, m, n]⟩ φ) (hA : A.IsWhole) (s o r : ℕ) (inb)
    (f : ℕ → ℕ → ℕ → Elt Ideal φ) :
    View.readAt (κ := Proc.kind (Dev.tc (τ := τ) c).2) (Elt Ideal) (Memref.view (κ := Proc.kind (Dev.tc (τ := τ) c).2) A)
        (Rect.unit (s := ⟨3, ![l, m, n]⟩) ![s, o, r] ![k, p, q] inb).toLoadRect (hA.unread (tab3 f))
      = tab3 fun a b c => f (s + a) (o + b) (r + c) := by
  refine Eq.trans (View.readAt_eq_ld ..) ?_
  refine Eq.trans (congrArg (View.ld · _) (hA.read_unread _)) ?_
  funext y
  show f (s + 1 * (y 0).val) (o + 1 * (y 1).val) (r + 1 * (y 2).val) = f (s + (y 0).val) (o + (y 1).val) (r + (y 2).val)
  rw [Nat.one_mul, Nat.one_mul, Nat.one_mul]

theorem load_f (c : Dev nD) (A : Memref sig .tc .vmem ⟨2, ![m, n]⟩ .f32) (hA : A.IsWhole) (o r : ℕ) (inb) (f : ℕ → ℕ → EReal) :
    View.readAt (κ := Proc.kind (Dev.tc (τ := τ) c).2) (Elt Ideal) (Memref.view (κ := Proc.kind (Dev.tc (τ := τ) c).2) A)
        (Rect.unit (s := ⟨2, ![m, n]⟩) ![o, r] ![p, q] inb).toLoadRect (hA.unread (tab f)) = tab fun a b => f (o + a) (r + b) :=
  load_tab c A hA o r inb f
theorem load3_f (c : Dev nD) (A : Memref sig .tc .vmem ⟨3, ![l, m, n]⟩ .f32) (hA : A.IsWhole) (s o r : ℕ) (inb)
    (f : ℕ → ℕ → ℕ → EReal) :
    View.readAt (κ := Proc.kind (Dev.tc (τ := τ) c).2) (Elt Ideal) (Memref.view (κ := Proc.kind (Dev.tc (τ := τ) c).2) A)
        (Rect.unit (s := ⟨3, ![l, m, n]⟩) ![s, o, r] ![k, p, q] inb).toLoadRect (hA.unread (tab3 f))
      = tab3 fun a b c => f (s + a) (o + b) (r + c) := load_tab3 c A hA s o r inb f

theorem load_h (c : Dev nD) (A : Memref sig .tc .vmem ⟨2, ![m, n]⟩ .bf16) (hA : A.IsWhole) (o r : ℕ) (inb) (f : ℕ → ℕ → EReal) :
    View.readAt (κ := Proc.kind (Dev.tc (τ := τ) c).2) (Elt Ideal) (Memref.view (κ := Proc.kind (Dev.tc (τ := τ) c).2) A)
        (Rect.unit (s := ⟨2, ![m, n]⟩) ![o, r] ![p, q] inb).toLoadRect (hA.unread (tab f)) = tab fun a b => f (o + a) (r + b) :=
  load_tab c A hA o r inb f
theorem load3_h (c : Dev nD) (A : Memref sig .tc .vmem ⟨3, ![l, m, n]⟩ .bf16) (hA : A.IsWhole) (s o r : ℕ) (inb)
    (f : ℕ → ℕ → ℕ → EReal) :
    View.readAt (κ := Proc.kind (Dev.tc (τ := τ) c).2) (Elt Ideal) (Memref.view (κ := Proc.kind (Dev.tc (τ := τ) c).2) A)
        (Rect.unit (s := ⟨3, ![l, m, n]⟩) ![s, o, r] ![k, p, q] inb).toLoadRect (hA.unread (tab3 f))
      = tab3 fun a b c => f (s + a) (o + b) (r + c) := load_tab3 c A hA s o r inb f

/-- A block stored at a place is the matrix's part there. -/
theorem tab_piece (o p : ℕ) (inb) (g G : ℕ → ℕ → EReal)
    (h : ∀ a < m, ∀ b < n, g a b = G (o + a) (p + b)) (x : Shape.Idx ⟨2, ![m, n]⟩) :
    tab (m := m) (n := n) g x = tab (m := M) (n := N) G ((Rect.unit (s := ⟨2, ![M, N]⟩) ![o, p] ![m, n] inb).emb x) := by
  refine (h _ (x 0).isLt _ (x 1).isLt).trans ?_
  show G _ _ = G (o + 1 * (x 0).val) (p + 1 * (x 1).val)
  rw [Nat.one_mul, Nat.one_mul]
/-- A whole matrix stored last is what is there. -/
theorem canon_tab (inb) (f : ℕ → ℕ → Elt Ideal φ) (v : Vec Ideal ⟨2, ![m, n]⟩ φ) (hv : v = tab f)
    (L : List (View.Piece (Elt Ideal) ⟨2, ![m, n]⟩ φ)) :
    View.canon ((⟨Rect.unit (s := ⟨2, ![m, n]⟩) ![0, 0] ![m, n] inb, v⟩ : View.Piece (Elt Ideal) ⟨2, ![m, n]⟩ φ) :: L) = tab f := by
  subst hv
  funext y
  have e : (Rect.unit (s := ⟨2, ![m, n]⟩) ![0, 0] ![m, n] inb).emb y = y := by
    funext a
    refine Fin.ext ?_
    show (![0, 0] : Fin 2 → ℕ) a + 1 * (y a).val = (y a).val
    match a with
    | 0 => exact (congrArg (0 + ·) (Nat.one_mul _)).trans (Nat.zero_add _)
    | 1 => exact (congrArg (0 + ·) (Nat.one_mul _)).trans (Nat.zero_add _)
  exact (congrArg _ e.symm).trans (View.canon_cons_emb ..)

/-- Reading back a whole matrix just stored. -/
theorem fill_tab (c : Dev nD) (A : Memref sig .tc .vmem ⟨2, ![m, n]⟩ φ) (inb inb') (f : ℕ → ℕ → Elt Ideal φ) (v : Vec Ideal ⟨2, ![m, n]⟩ φ)
    (hv : v = tab f) :
    View.readCov (κ := Proc.kind (Dev.tc (τ := τ) c).2) (Memref.view (κ := Proc.kind (Dev.tc (τ := τ) c).2) A)
        [(⟨Rect.unit (s := ⟨2, ![m, n]⟩) ![0, 0] ![m, n] inb, v⟩ : View.Piece (Elt Ideal) ⟨2, ![m, n]⟩ φ)]
        (Rect.unit (s := ⟨2, ![m, n]⟩) ![0, 0] ![m, n] inb').toLoadRect = tab f := by
  subst hv
  refine (View.readCov_fill _ inb _ [] _ (fun a => match a with | 0 => rfl | 1 => rfl)).trans ?_
  funext y
  show f (0 + 1 * (y 0).val) (0 + 1 * (y 1).val) = f (y 0).val (y 1).val
  rw [Nat.one_mul, Nat.one_mul, Nat.zero_add, Nat.zero_add]

end

theorem extf_r {φ ψ : FTy} (h) (x : EReal) : FloatOps.extf (F := Ideal) (φ := φ) ψ h x = x := rfl

/-- A sum over the places of a vector. -/
theorem sum_places (n : ℕ) (f : ℕ → ℝ) : ∑ x : (⟨1, ![n]⟩ : Shape).Idx, ((f (x 0).val : ℝ) : EReal) = ((∑ s ∈ Finset.range n, f s : ℝ) : EReal) := by
  rw [Finset.sum_range, ← MixerMath.coe_sum]
  exact Fintype.sum_equiv (⟨fun x => x 0, fun k => ValueIdx.ix1 k, fun x => (ValueIdx.eq_ix1 x).symm, fun _ => rfl⟩ : _ ≃ Fin n) _ _ fun _ => rfl

end Cert.Rms
-- ==== Proof.LossMath.lean ====
module

public import proofs.«01_k».proof.Proof.Rms

/-!
The step's loss and what it hands back: the second product's norm and gate, the error, the loss, and the gradients of the
residual stream, of the product and of the gain.
-/

@[expose] public section

noncomputable section

namespace Cert.LossMath

open Cert.Rms

/-- The call's arguments: the squared activations, the residual stream, the target, the modulation, the gain, the weights in
    four blocks of rows. -/
structure Inp where
  Q : ℕ → ℕ → ℝ
  X : ℕ → ℕ → ℝ
  T : ℕ → ℕ → ℝ
  M : ℕ → ℕ → ℝ
  G : ℕ → ℝ
  W : ℕ → ℕ → ℕ → ℝ

namespace Inp
variable (I : Inp)

def f (s j : ℕ) : ℝ := ∑ k ∈ Finset.range 4096, I.Q s k * I.W (k / 1024) (k % 1024) j
def gain (j : ℕ) : ℝ := I.M 5 j * I.G j
def err (s j : ℕ) : ℝ := I.X s j + unit (I.f s) j * I.gain j - I.T s j
def dy (s j : ℕ) : ℝ := I.err s j * (1 / 1024)
def df (s j : ℕ) : ℝ := grad (I.f s) (fun j => I.dy s j * I.gain j) j
/-- Half the mean squared error of a row. -/
def part (s : ℕ) : ℝ := mean fun j => I.err s j * I.err s j
/-- The loss and the gain's gradient over the `k` rows from row `n`. -/
def loss (n k : ℕ) : ℝ := 1 / 2 * ∑ s ∈ Finset.range k, I.part (n + s)
def dgain (n k j : ℕ) : ℝ := ∑ s ∈ Finset.range k, I.dy (n + s) j * unit (I.f (n + s)) j

theorem loss_add (n k : ℕ) : I.loss 0 n + I.loss n k = I.loss 0 (n + k) := by
  simp only [loss, Nat.zero_add, Finset.sum_range_add, mul_add]
theorem dgain_add (n k j : ℕ) : I.dgain 0 n j + I.dgain n k j = I.dgain 0 (n + k) j := by
  simp only [dgain, Nat.zero_add, Finset.sum_range_add]

/-- The product, one block of weights at a time. -/
theorem f_blocks (s j : ℕ) : I.f s j = (∑ k ∈ Finset.range 1024, I.Q s (0 + k) * I.W 0 k j) + (∑ k ∈ Finset.range 1024, I.Q s (1024 + k) * I.W 1 k j)
    + (∑ k ∈ Finset.range 1024, I.Q s (2048 + k) * I.W 2 k j) + ∑ k ∈ Finset.range 1024, I.Q s (3072 + k) * I.W 3 k j := by
  rw [f, sum_4096]
  refine congrArg₂ _ (congrArg₂ _ (congrArg₂ _ ?_ ?_) ?_) ?_ <;> refine Finset.sum_congr rfl fun k hk => ?_ <;>
    have h := Finset.mem_range.mp hk
  · rw [Nat.zero_add, Nat.div_eq_of_lt h, Nat.mod_eq_of_lt h]
  · rw [show (1024 + k) / 1024 = 1 by omega, show (1024 + k) % 1024 = k by omega]
  · rw [show (2048 + k) / 1024 = 2 by omega, show (2048 + k) % 1024 = k by omega]
  · rw [show (3072 + k) / 1024 = 3 by omega, show (3072 + k) % 1024 = k by omega]

end Inp
end Cert.LossMath
-- ==== Proof.LossTile.lean ====
module

public import proofs.«01_k».proof.Proof.LossMath
public import proofs.«01_k».proof.Proof.Gen.LossIdeal.Frame

/-! What one step of the loss call leaves in each of its results. -/

@[expose] public section

set_option maxRecDepth 16384

noncomputable section

namespace Cert.LossIdeal.Hand

open Idealize.ShloMosaic Idealize.ShloMosaic.TcCoe Idealize.SL.Sem
open Idealize.ShloMosaic.Pipeline (Dat)
open Cert.LossIdeal Cert.LossIdeal.Gen Cert.MixerOps Cert.Rms Cert.LossMath
open Cert.MixerMath (coe_sum)

variable (I : Inp) (t : ℕ)

/-! ## The blocks a step reads, and the running results -/

def X0 : Vec Ideal S512x4096 .bf16 := tab fun r k => ((I.Q (512 * t + r) k : ℝ) : EReal)
def X1 : Vec Ideal S512x1024 .f32 := tab fun r j => ((I.X (512 * t + r) j : ℝ) : EReal)
def X2 : Vec Ideal S512x1024 .f32 := tab fun r j => ((I.T (512 * t + r) j : ℝ) : EReal)
def X3 : Vec Ideal S6x1024 .f32 := tab fun k j => ((I.M k j : ℝ) : EReal)
def X4 : Vec Ideal S1x1024 .f32 := tab fun _ j => ((I.G j : ℝ) : EReal)
def X5 : Vec Ideal S4x1024x1024 .bf16 := tab3 fun k a b => ((I.W k a b : ℝ) : EReal)
def Q8 (x : ℝ) : Vec Ideal S1x1 .f32 := tab fun _ _ => (x : EReal)
def Q9 (f : ℕ → ℝ) : Vec Ideal S1x1024 .f32 := tab fun _ j => (f j : EReal)

/-! ## The payloads -/

theorem rows_n (f : ℕ → ℕ → EReal) (h hφ) (hacc : 0x00000000#32 = 0x00000000#32) :
    multiReduction (F := Ideal) (s := S512x1024) (φ := .f32) .add (no_index [1]) S512 (tab f) (no_index 0x00000000#32) h hφ hacc
      = tab1 fun a => ∑ b ∈ Finset.range 1024, f a b := rows_tab ..
theorem cols_n (f : ℕ → ℕ → EReal) (h hφ) (hacc : 0x00000000#32 = 0x00000000#32) :
    multiReduction (F := Ideal) (s := S512x1024) (φ := .f32) .add (no_index [0]) S1024 (tab f) (no_index 0x00000000#32) h hφ hacc
      = tab1 fun b => ∑ a ∈ Finset.range 512, f a b := cols_tab ..
theorem cols_1 (f : ℕ → ℕ → EReal) (h hφ) (hacc : 0x00000000#32 = 0x00000000#32) :
    multiReduction (F := Ideal) (s := S512x1) (φ := .f32) .add (no_index [0]) S1 (tab f) (no_index 0x00000000#32) h hφ hacc
      = tab1 fun b => ∑ a ∈ Finset.range 512, f a b := cols_tab ..

theorem dot_w (f g : ℕ → ℕ → EReal) : matmul (F := Ideal) (φ₁ := .bf16) (φ₂ := .bf16) dot_S512x1024_S1024x1024_S512x1024_1_0_0_1_n_n none (tab f) (tab g)
    (tab fun _ _ => 0) = tab fun a b => ∑ i ∈ Finset.range 1024, f a i * g i b := matmul_plain _ rfl none f g

def rows (f : ℕ → ℕ → ℝ) : FVec Ideal S512x1024 .f32 := tab fun r j => ((f (512 * t + r) j : ℝ) : EReal)
def line (f : ℕ → ℝ) : FVec Ideal S1x1024 .f32 := tab fun _ j => ((f j : ℝ) : EReal)

theorem pay4 : k0_pay4 (tab fun _ j => ((I.M 5 j : ℝ) : EReal)) (tab fun _ j => ((I.G j : ℝ) : EReal)) = line I.gain := by
  simp only [k0_pay4, cast_tab, mulf_tab, ← EReal.coe_mul]
  rfl

theorem pay5 : k0_pay5 (F := Ideal) (tab fun r k => ((I.Q (512 * t + r) (0 + k) : ℝ) : EReal)) (tab3 fun _ a b => ((I.W 0 a b : ℝ) : EReal))
      (tab fun r k => ((I.Q (512 * t + r) (1024 + k) : ℝ) : EReal)) (tab3 fun _ a b => ((I.W 1 a b : ℝ) : EReal))
      (tab fun r k => ((I.Q (512 * t + r) (2048 + k) : ℝ) : EReal)) (tab3 fun _ a b => ((I.W 2 a b : ℝ) : EReal))
      (tab fun r k => ((I.Q (512 * t + r) (3072 + k) : ℝ) : EReal)) (tab3 fun _ a b => ((I.W 3 a b : ℝ) : EReal)) = rows t I.f := by
  simp only [k0_pay5, cast_tab3, zero_tab, dot_w, addf_tab, ← EReal.coe_mul, coe_sum, ← EReal.coe_add, ← Inp.f_blocks]
  rfl

theorem pay6_eq (f : ℕ → ℕ → ℝ) : mulf (rows t f) (rows t f) = rows t fun s j => f s j * f s j := by
  simp only [rows, mulf_tab, ← EReal.coe_mul]

theorem pay7 (f : ℕ → ℕ → ℝ) : k0_pay7 (rows t fun s j => f s j * f s j) = tab fun r _ => ((rinv (f (512 * t + r)) : ℝ) : EReal) := by
  simp only [k0_pay7, rows, rows_n, cast_col, broadcast_tab, c_1024, divf_tab, coe_sum, div_1024, addf_tab, c_eps, ← EReal.coe_add]
  exact (rsqrt_tab _).trans (congrArg tab (funext fun r => funext fun _ => rsqrt_power (f (512 * t + r))))

theorem pay8 (f : ℕ → ℕ → ℝ) : k0_pay8 (rows t f) (rows t fun s j => f s j * f s j) = rows t fun s => unit (f s) := by
  simp only [k0_pay8, pay7]
  simp only [rows, broadcastTo_col, mulf_tab, ← EReal.coe_mul]
  rfl

theorem pay9 : k0_pay9 (line I.gain) (rows t I.f) (rows t fun s j => I.f s j * I.f s j) (X1 I t) (X2 I t) = rows t I.err := by
  simp only [k0_pay9, pay8]
  simp only [rows, line, X1, X2, broadcastTo_row, mulf_tab, addf_tab, subf_tab, ← EReal.coe_mul, ← EReal.coe_add, ← EReal.coe_sub]
  rfl

theorem pay11 : k0_pay11 (line I.gain) (rows t I.f) (rows t fun s j => I.f s j * I.f s j) (X1 I t) (X2 I t) = rows t I.dy := by
  simp only [k0_pay11, pay9]
  simp only [rows, broadcast_tab, c_part, mulf_tab, ← EReal.coe_mul]
  rfl

theorem pay10 (x : ℝ) : k0_pay10 (line I.gain) (rows t I.f) (rows t fun s j => I.f s j * I.f s j) (X1 I t) (X2 I t) (Q8 x)
    = Q8 (x + I.loss (512 * t) 512) := by
  simp only [k0_pay10, pay9, pay6_eq]
  simp only [rows, Q8, rows_n, cast_col, broadcast_tab, c_1024, divf_tab, coe_sum, div_1024, cols_1, cast_row, c_half, cast_tab, mulf_tab,
    addf_tab, ← EReal.coe_mul, ← EReal.coe_add]
  rfl

theorem pay12 (g : ℕ → ℝ) : k0_pay12 (line I.gain) (rows t I.f) (rows t fun s j => I.f s j * I.f s j) (X1 I t) (X2 I t) (Q9 g)
    = line fun j => g j + I.dgain (512 * t) 512 j := by
  simp only [k0_pay12, pay11, pay8]
  simp only [rows, Q9, line, mulf_tab, cols_n, cast_row, cast_tab, coe_sum, addf_tab, ← EReal.coe_mul, ← EReal.coe_add]
  rfl

theorem pay1 : k0_pay1 (line I.gain) (tab fun r _ => ((rinv (I.f (512 * t + r)) : ℝ) : EReal)) (rows t fun s => unit (I.f s)) (rows t I.dy)
    = (tab fun r j => ((I.df (512 * t + r) j : ℝ) : EReal)) := by
  simp only [k0_pay1, rows, line, broadcastTo_row, mulf_tab, rows_n, cast_col, broadcast_tab, c_1024, divf_tab, coe_sum, div_1024,
    broadcastTo_col, subf_tab, truncf_tab, ← EReal.coe_mul, ← EReal.coe_sub]
  rfl

/-! ## The results of a step -/

section
variable (x : ℝ) (g : ℕ → ℝ) (c : Dev nD) (i : grid0.Coords)
variable (arg1 : Memref sig .tc .vmem S512x4096 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S6x1024 .f32) (harg4 : arg4.IsWhole) (arg5 : Memref sig .tc .vmem S1x1024 .f32) (harg5 : arg5.IsWhole) (arg6 : Memref sig .tc .vmem S4x1024x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1 .f32) (harg9 : arg9.IsWhole) (arg10 : Memref sig .tc .vmem S1x1024 .f32) (harg10 : arg10.IsWhole)

theorem b_r : kernelRun0_B.sl.r (F := Ideal) c arg4 harg4 arg5 harg5 (X3 I) (X4 I) = line I.gain := by
  simp only [kernelRun0_B.sl.r, X3, X4, load_f c]
  refine Eq.trans ?_ (pay4 I)
  exact congrArg₂ k0_pay4 (tab_congr fun a ha b _ => by rw [show a = 0 by omega, Nat.add_zero, Nat.zero_add]) (tab_congr fun a _ b _ => by rw [Nat.zero_add])
theorem b_r1 : kernelRun0_B.sl.r_1 (F := Ideal) c arg1 harg1 arg6 harg6 (X0 I t) (X5 I) = rows t I.f := by
  simp only [kernelRun0_B.sl.r_1, X0, X5, load_h c, load3_h c]
  refine Eq.trans ?_ (pay5 I t)
  congr 1
  all_goals first
    | exact tab_congr fun a _ b _ => by simp only [Nat.zero_add]
    | exact tab3_congr fun a ha b _ d _ => by simp only [show a = 0 by omega, Nat.zero_add, Nat.add_zero]
theorem b_r2 : kernelRun0_B.sl.r_2 (F := Ideal) c arg1 harg1 arg6 harg6 (X0 I t) (X5 I) = rows t fun s j => I.f s j * I.f s j := by
  simp only [kernelRun0_B.sl.r_2, k0_pay6]
  exact (congrArg₂ mulf (b_r1 I t c ..) (b_r1 I t c ..)).trans (pay6_eq t I.f)
theorem load_X1 : View.readAt (κ := Proc.kind (Dev.tc (τ := τ) c).2) (Elt Ideal) (Memref.view (κ := Proc.kind (Dev.tc (τ := τ) c).2) arg2)
    (Rect.unit (s := S512x1024) ![0, 0] ![512, 1024] inb_S512x1024_S512x1024_0_0).toLoadRect (harg2.unread (X1 I t)) = X1 I t :=
  (load_tab ..).trans (tab_congr fun a _ b _ => by simp only [Nat.zero_add])
theorem load_X2 : View.readAt (κ := Proc.kind (Dev.tc (τ := τ) c).2) (Elt Ideal) (Memref.view (κ := Proc.kind (Dev.tc (τ := τ) c).2) arg3)
    (Rect.unit (s := S512x1024) ![0, 0] ![512, 1024] inb_S512x1024_S512x1024_0_0).toLoadRect (harg3.unread (X2 I t)) = X2 I t :=
  (load_tab ..).trans (tab_congr fun a _ b _ => by simp only [Nat.zero_add])
theorem load_Q8 : View.readAt (κ := Proc.kind (Dev.tc (τ := τ) c).2) (Elt Ideal) (Memref.view (κ := Proc.kind (Dev.tc (τ := τ) c).2) arg9)
    (Rect.unit (s := S1x1) ![0, 0] ![1, 1] inb_S1x1_S1x1_0_0).toLoadRect (harg9.unread (Q8 x)) = Q8 x := load_tab ..
theorem load_Q9 : View.readAt (κ := Proc.kind (Dev.tc (τ := τ) c).2) (Elt Ideal) (Memref.view (κ := Proc.kind (Dev.tc (τ := τ) c).2) arg10)
    (Rect.unit (s := S1x1024) ![0, 0] ![1, 1024] inb_S1x1024_S1x1024_0_0).toLoadRect (harg10.unread (Q9 g)) = Q9 g :=
  (load_tab ..).trans (tab_congr fun a _ b _ => by simp only [Nat.zero_add])
theorem zero8 : kernelRun0_A.sl.v42 (F := Ideal) c arg9 = Q8 0 :=
  fill_tab c arg9 _ _ _ _ (by funext y; exact Ideal.ofBits_zero_f32)
theorem zero9 : kernelRun0_A.sl.v58 (F := Ideal) c arg10 = Q9 fun _ => 0 :=
  fill_tab c arg10 _ _ _ _ (by funext y; exact Ideal.ofBits_zero_f32)
theorem a_r : kernelRun0_A.sl.r (F := Ideal) c arg4 harg4 arg5 harg5 (X3 I) (X4 I) = line I.gain := b_r ..
theorem a_r1 : kernelRun0_A.sl.r_1 (F := Ideal) c arg1 harg1 arg6 harg6 (X0 I t) (X5 I) = rows t I.f := b_r1 ..
theorem a_r2 : kernelRun0_A.sl.r_2 (F := Ideal) c arg1 harg1 arg6 harg6 (X0 I t) (X5 I) = rows t fun s j => I.f s j * I.f s j := b_r2 ..

theorem of11 {p q} (hp : p = X1 I t) (hq : q = X2 I t) : k0_pay11 (line I.gain) (rows t I.f) (rows t fun s j => I.f s j * I.f s j) p q = rows t I.dy := by subst hp hq; exact pay11 I t
theorem of10 {p q z} (hp : p = X1 I t) (hq : q = X2 I t) (hz : z = Q8 x) : k0_pay10 (line I.gain) (rows t I.f) (rows t fun s j => I.f s j * I.f s j) p q z = Q8 (x + I.loss (512 * t) 512) := by
  subst hp hq hz; exact pay10 I t x
theorem of12 {p q z} (hp : p = X1 I t) (hq : q = X2 I t) (hz : z = Q9 g) : k0_pay12 (line I.gain) (rows t I.f) (rows t fun s j => I.f s j * I.f s j) p q z = Q9 fun j => g j + I.dgain (512 * t) 512 j := by
  subst hp hq hz; exact pay12 I t g

theorem b_r5 : kernelRun0_B.sl.r_5 (F := Ideal) c arg1 harg1 arg2 harg2 arg3 harg3 arg4 harg4 arg5 harg5 arg6 harg6 (X0 I t) (X1 I t) (X2 I t) (X3 I) (X4 I) (X5 I) = rows t I.dy := by
  simp only [kernelRun0_B.sl.r_5, b_r, b_r1, b_r2]
  exact of11 I t (load_X1 I t c ..) (load_X2 I t c ..)

theorem outB_6 (hc) : out0_B_6 (F := Ideal) c i arg1 harg1 arg2 harg2 arg3 harg3 arg4 harg4 arg5 harg5 arg6 harg6 arg7 harg7 arg8 harg8 arg9 harg9 arg10 harg10 hc (X0 I t) (X1 I t) (X2 I t) (X3 I) (X4 I) (X5 I) (Q8 x) (Q9 g) = tab fun r j => ((I.dy (512 * t + r) j : ℝ) : EReal) := by
  unfold out0_B_6
  rw [View.read_writes_eq_canon _ _ _ (cover0_B_6 (F := Ideal) c i arg1 harg1 arg2 harg2 arg3 harg3 arg4 harg4 arg5 harg5 arg6 harg6 arg7 harg7 arg8 harg8 arg9 harg9 arg10 harg10 hc (X0 I t) (X1 I t) (X2 I t) (X3 I) (X4 I) (X5 I) (Q8 x) (Q9 g))]
  unfold kernelRun0_B
  exact canon_tab _ _ _ (by simp only [b_r, b_r1, b_r2]; exact of11 I t (load_X1 I t c ..) (load_X2 I t c ..)) _

theorem outB_7 (hc) : out0_B_7 (F := Ideal) c i arg1 harg1 arg2 harg2 arg3 harg3 arg4 harg4 arg5 harg5 arg6 harg6 arg7 harg7 arg8 harg8 arg9 harg9 arg10 harg10 hc (X0 I t) (X1 I t) (X2 I t) (X3 I) (X4 I) (X5 I) (Q8 x) (Q9 g) = tab fun r j => ((I.df (512 * t + r) j : ℝ) : EReal) := by
  unfold out0_B_7
  rw [View.read_writes_eq_canon _ _ _ (cover0_B_7 (F := Ideal) c i arg1 harg1 arg2 harg2 arg3 harg3 arg4 harg4 arg5 harg5 arg6 harg6 arg7 harg7 arg8 harg8 arg9 harg9 arg10 harg10 hc (X0 I t) (X1 I t) (X2 I t) (X3 I) (X4 I) (X5 I) (Q8 x) (Q9 g))]
  unfold kernelRun0_B
  exact canon_tab _ _ _ (by simp only [b_r, kernelRun0_B.sl.r_3, kernelRun0_B.sl.r_4, b_r1, b_r2, pay7, pay8, b_r5]; exact pay1 I t) _

theorem outB_8 (hc) : out0_B_8 (F := Ideal) c i arg1 harg1 arg2 harg2 arg3 harg3 arg4 harg4 arg5 harg5 arg6 harg6 arg7 harg7 arg8 harg8 arg9 harg9 arg10 harg10 hc (X0 I t) (X1 I t) (X2 I t) (X3 I) (X4 I) (X5 I) (Q8 x) (Q9 g) = Q8 (x + I.loss (512 * t) 512) := by
  unfold out0_B_8
  rw [View.read_writes_eq_canon _ _ _ (cover0_B_8 (F := Ideal) c i arg1 harg1 arg2 harg2 arg3 harg3 arg4 harg4 arg5 harg5 arg6 harg6 arg7 harg7 arg8 harg8 arg9 harg9 arg10 harg10 hc (X0 I t) (X1 I t) (X2 I t) (X3 I) (X4 I) (X5 I) (Q8 x) (Q9 g))]
  unfold kernelRun0_B
  exact canon_tab _ _ _ (by simp only [b_r, b_r1, b_r2]; exact of10 I t x (load_X1 I t c ..) (load_X2 I t c ..) (load_Q8 x c ..)) _

theorem outB_9 (hc) : out0_B_9 (F := Ideal) c i arg1 harg1 arg2 harg2 arg3 harg3 arg4 harg4 arg5 harg5 arg6 harg6 arg7 harg7 arg8 harg8 arg9 harg9 arg10 harg10 hc (X0 I t) (X1 I t) (X2 I t) (X3 I) (X4 I) (X5 I) (Q8 x) (Q9 g) = Q9 fun j => g j + I.dgain (512 * t) 512 j := by
  unfold out0_B_9
  rw [View.read_writes_eq_canon _ _ _ (cover0_B_9 (F := Ideal) c i arg1 harg1 arg2 harg2 arg3 harg3 arg4 harg4 arg5 harg5 arg6 harg6 arg7 harg7 arg8 harg8 arg9 harg9 arg10 harg10 hc (X0 I t) (X1 I t) (X2 I t) (X3 I) (X4 I) (X5 I) (Q8 x) (Q9 g))]
  unfold kernelRun0_B
  exact canon_tab _ _ _ (by simp only [kernelRun0_B.sl.r_6, b_r, b_r1, b_r2]; exact of12 I t g (load_X1 I t c ..) (load_X2 I t c ..) (load_Q9 g c ..)) _

theorem a_r5 : kernelRun0_A.sl.r_5 (F := Ideal) c arg1 harg1 arg2 harg2 arg3 harg3 arg4 harg4 arg5 harg5 arg6 harg6 (X0 I t) (X1 I t) (X2 I t) (X3 I) (X4 I) (X5 I) = rows t I.dy := b_r5 ..

theorem outA_6 (hc) : out0_A_6 (F := Ideal) c i arg1 harg1 arg2 harg2 arg3 harg3 arg4 harg4 arg5 harg5 arg6 harg6 arg7 harg7 arg8 harg8 arg9 harg9 arg10 harg10 hc (X0 I t) (X1 I t) (X2 I t) (X3 I) (X4 I) (X5 I) = tab fun r j => ((I.dy (512 * t + r) j : ℝ) : EReal) := by
  unfold out0_A_6
  rw [View.read_writes_eq_canon _ _ _ (cover0_A_6 (F := Ideal) c i arg1 harg1 arg2 harg2 arg3 harg3 arg4 harg4 arg5 harg5 arg6 harg6 arg7 harg7 arg8 harg8 arg9 harg9 arg10 harg10 hc (X0 I t) (X1 I t) (X2 I t) (X3 I) (X4 I) (X5 I))]
  unfold kernelRun0_A
  exact canon_tab _ _ _ (by simp only [a_r, a_r1, a_r2]; exact of11 I t (load_X1 I t c ..) (load_X2 I t c ..)) _

theorem outA_7 (hc) : out0_A_7 (F := Ideal) c i arg1 harg1 arg2 harg2 arg3 harg3 arg4 harg4 arg5 harg5 arg6 harg6 arg7 harg7 arg8 harg8 arg9 harg9 arg10 harg10 hc (X0 I t) (X1 I t) (X2 I t) (X3 I) (X4 I) (X5 I) = tab fun r j => ((I.df (512 * t + r) j : ℝ) : EReal) := by
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 arg10 harg10 hc (X0 I t) (X1 I t) (X2 I t) (X3 I) (X4 I) (X5 I))]
  unfold kernelRun0_A
  exact canon_tab _ _ _ (by simp only [a_r, kernelRun0_A.sl.r_3, kernelRun0_A.sl.r_4, a_r1, a_r2, pay7, pay8, a_r5]; exact pay1 I t) _

theorem outA_8 (hc) : out0_A_8 (F := Ideal) c i arg1 harg1 arg2 harg2 arg3 harg3 arg4 harg4 arg5 harg5 arg6 harg6 arg7 harg7 arg8 harg8 arg9 harg9 arg10 harg10 hc (X0 I t) (X1 I t) (X2 I t) (X3 I) (X4 I) (X5 I) = Q8 (0 + I.loss (512 * t) 512) := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 hc (X0 I t) (X1 I t) (X2 I t) (X3 I) (X4 I) (X5 I))]
  unfold kernelRun0_A
  exact canon_tab _ _ _ (by simp only [a_r, a_r1, a_r2]; exact of10 I t 0 (load_X1 I t c ..) (load_X2 I t c ..) (zero8 ..)) _

theorem outA_9 (hc) : out0_A_9 (F := Ideal) c i arg1 harg1 arg2 harg2 arg3 harg3 arg4 harg4 arg5 harg5 arg6 harg6 arg7 harg7 arg8 harg8 arg9 harg9 arg10 harg10 hc (X0 I t) (X1 I t) (X2 I t) (X3 I) (X4 I) (X5 I) = Q9 fun j => 0 + I.dgain (512 * t) 512 j := by
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg10 harg10 hc (X0 I t) (X1 I t) (X2 I t) (X3 I) (X4 I) (X5 I))]
  unfold kernelRun0_A
  exact canon_tab _ _ _ (by simp only [kernelRun0_A.sl.r_6, a_r, a_r1, a_r2]; exact of12 I t (fun _ => 0) (load_X1 I t c ..) (load_X2 I t c ..) (zero9 ..)) _

end

end Cert.LossIdeal.Hand
-- ==== Proof.LossKernel.lean ====
module

public import proofs.«01_k».proof.Proof.LossTile
public import proofs.«01_k».proof.Proof.Gen.LossIdeal.Value

/-! The loss call's results after its last step. -/

@[expose] public section

set_option maxRecDepth 16384

noncomputable section

namespace Cert.LossIdeal.Hand

open Idealize.ShloMosaic Idealize.ShloMosaic.TcCoe Idealize.SL.Sem
open Idealize.ShloMosaic.Pipeline (Dat)

open Cert.LossIdeal Cert.LossIdeal.Gen Cert.MixerOps Cert.Rms Cert.LossMath

variable (m : (ℓ : Loc nD τ sig) → Buf (Elt Ideal) ℓ) (c : Dev nD) (I : Inp) (t : Fin cfg0.N)

/-- The call's arguments are the arrays `I`. -/
structure Holds : Prop where
  a0 : (m ((c : Thread nD τ).loc main_arg0) : Vec Ideal S4096x4096 .bf16) = tab fun s j => ((I.Q s j : ℝ) : EReal)
  a1 : (m ((c : Thread nD τ).loc main_arg1) : Vec Ideal S4096x1024 .f32) = tab fun s j => ((I.X s j : ℝ) : EReal)
  a2 : (m ((c : Thread nD τ).loc main_arg2) : Vec Ideal S4096x1024 .f32) = tab fun s j => ((I.T s j : ℝ) : EReal)
  a3 : (m ((c : Thread nD τ).loc main_arg3) : Vec Ideal S6x1024 .f32) = tab fun s j => ((I.M s j : ℝ) : EReal)
  a4 : (m ((c : Thread nD τ).loc main_arg4) : Vec Ideal S1024 .f32) = tab1 fun j => ((I.G j : ℝ) : EReal)
  a5 : (m ((c : Thread nD τ).loc main_arg5) : Vec Ideal S4x1024x1024 .bf16) = tab3 fun k a b => ((I.W k a b : ℝ) : EReal)

theorem index0 : win0_0.index t = ![t.val, 0] := (by decide +kernel : ∀ t : Fin grid0.N, win0_0.index t = ![t.val, 0]) t
theorem index1 : win0_1.index t = ![t.val, 0] := (by decide +kernel : ∀ t : Fin grid0.N, win0_1.index t = ![t.val, 0]) t
theorem index2 : win0_2.index t = ![t.val, 0] := (by decide +kernel : ∀ t : Fin grid0.N, win0_2.index t = ![t.val, 0]) t
theorem index3 : win0_3.index t = ![0, 0] := (by decide +kernel : ∀ t : Fin grid0.N, win0_3.index t = ![0, 0]) t
theorem index4 : win0_4.index t = ![0, 0] := (by decide +kernel : ∀ t : Fin grid0.N, win0_4.index t = ![0, 0]) t
theorem index5 : win0_5.index t = ![0, 0, 0] := (by decide +kernel : ∀ t : Fin grid0.N, win0_5.index t = ![0, 0, 0]) t
theorem index6 : win0_6.index t = ![t.val, 0] := (by decide +kernel : ∀ t : Fin grid0.N, win0_6.index t = ![t.val, 0]) t
theorem index7 : win0_7.index t = ![t.val, 0] := (by decide +kernel : ∀ t : Fin grid0.N, win0_7.index t = ![t.val, 0]) t

variable {m c I}

theorem V_v0 (h : Holds m c I) : (V m c main_v0 : Vec Ideal S1x1024 .f32) = X4 I := by
  funext i
  obtain ⟨r, j, rfl⟩ : ∃ (r : Fin 1) (j : Fin 1024), i = ValueIdx.ix2 r j := ⟨i 0, i 1, ValueIdx.eq_ix2 i⟩
  entry_read
  rw [h.a4]
  pointwise
  rfl

theorem iblk0 (h : Holds m c I) : iblk m c 0 t = X0 I t.val := by
  unfold iblk
  rw [show V m c (Pipeline.arrRef spec0 0) = _ from (V_main_arg0 m c).trans h.a0]
  funext y
  blk_simp [index0, tab]
  show _ = ((I.Q (512 * t.val + (y 0).val) (y 1).val : ℝ) : EReal)
  rw [Nat.mul_comm 512]
theorem iblk1 (h : Holds m c I) : iblk m c 1 t = X1 I t.val := by
  unfold iblk
  rw [show V m c (Pipeline.arrRef spec0 1) = _ from (V_main_arg1 m c).trans h.a1]
  funext y
  blk_simp [index1, tab]
  show _ = ((I.X (512 * t.val + (y 0).val) (y 1).val : ℝ) : EReal)
  rw [Nat.mul_comm 512]
theorem iblk2 (h : Holds m c I) : iblk m c 2 t = X2 I t.val := by
  unfold iblk
  rw [show V m c (Pipeline.arrRef spec0 2) = _ from (V_main_arg2 m c).trans h.a2]
  funext y
  blk_simp [index2, tab]
  show _ = ((I.T (512 * t.val + (y 0).val) (y 1).val : ℝ) : EReal)
  rw [Nat.mul_comm 512]
theorem iblk3 (h : Holds m c I) : iblk m c 3 t = X3 I := by
  unfold iblk
  rw [show V m c (Pipeline.arrRef spec0 3) = _ from (V_main_arg3 m c).trans h.a3]
  funext y
  blk_simp [index3, tab, tab3]
  exact congrArg _ (by blk_ext [index3])
theorem iblk4 (h : Holds m c I) : iblk m c 4 t = X4 I := by
  unfold iblk
  rw [show V m c (Pipeline.arrRef spec0 4) = _ from V_v0 h]
  funext y
  blk_simp [index4, tab, tab3]
  exact congrArg _ (by blk_ext [index4])
theorem iblk5 (h : Holds m c I) : iblk m c 5 t = X5 I := by
  unfold iblk
  rw [show V m c (Pipeline.arrRef spec0 5) = _ from (V_main_arg5 m c).trans h.a5]
  funext y
  blk_simp [index5, tab, tab3]
  exact congrArg _ (by blk_ext [index5])

/-! ## The results after each step -/

variable (I) in
def after (n : ℕ) : Vec Ideal S512x1024 .f32 × Vec Ideal S512x1024 .bf16 × Vec Ideal S1x1 .f32 × Vec Ideal S1x1024 .f32 :=
  (tab fun r j => ((I.dy (512 * n + r) j : ℝ) : EReal), tab fun r j => ((I.df (512 * n + r) j : ℝ) : EReal), Q8 (I.loss 0 (512 * (n + 1))),
    Q9 (I.dgain 0 (512 * (n + 1))))

theorem after_zero (h : Holds m c I) (t : Fin cfg0.N) (ht : t.val = 0) : outsAt0 m c t.val t.isLt = after I t.val := by
  rw [outsAt0_A m c t (by rw [ht]), iblk0 t h, iblk1 t h, iblk2 t h, iblk3 t h, iblk4 t h, iblk5 t h, outA_6, outA_7, outA_8, outA_9]
  refine Prod.ext rfl (Prod.ext rfl (Prod.ext ?_ ?_))
  · exact congrArg Q8 (by rw [ht, zero_add])
  · exact congrArg (a₁ := fun j => 0 + I.dgain (512 * t.val) 512 j) (a₂ := I.dgain 0 (512 * (t.val + 1))) Q9 (funext fun j => by rw [ht, zero_add])

theorem after_succ (h : Holds m c I) (t : Fin cfg0.N) (n : ℕ) (ht : t.val = n + 1)
    (hb : outsAt0 m c n (by have := t.isLt; omega) = after I n) : outsAt0 m c t.val t.isLt = after I t.val := by
  have hN : t.val < 8 := t.isLt.trans_eq N_0
  have e : 512 * (n + 1) = 512 * t.val := by rw [ht]
  have hb' : outsAt0 m c (t.val - 1) (Nat.lt_of_le_of_lt (Nat.sub_le _ _) t.isLt) = after I n := by
    rw [← hb]; congr 1; omega
  rw [outsAt0_B m c t (by omega), hb', iblk0 t h, iblk1 t h, iblk2 t h, iblk3 t h, iblk4 t h, iblk5 t h]
  dsimp only [after]
  rw [e, outB_6, outB_7, outB_8, outB_9]
  refine Prod.ext rfl (Prod.ext rfl (Prod.ext ?_ ?_))
  · exact congrArg Q8 (I.loss_add _ _)
  · exact congrArg (a₁ := fun j => I.dgain 0 (512 * t.val) j + I.dgain (512 * t.val) 512 j) (a₂ := I.dgain 0 (512 * (t.val + 1))) Q9
      (funext fun j => I.dgain_add _ _ _)

theorem outs_eq (h : Holds m c I) : ∀ (n : ℕ) (hn : n < cfg0.N), outsAt0 m c n hn = after I n
  | 0, hn => after_zero h ⟨0, hn⟩ rfl
  | n + 1, hn => after_succ h ⟨n + 1, hn⟩ n rfl (outs_eq h n _)

/-! ## The arrays after the last step -/

theorem final6 (h : Holds m c I) : (dats m 0 c).arrAt 6 cfg0.N = (tab fun s j => ((I.dy s j : ℝ) : EReal) : Vec Ideal S4096x1024 .f32) :=
  (dats m 0 c).arrAt_eq_of_covers 6 _ (by decide +kernel) fun t hf y => by
    blk_simp
    rw [after0_6, outs_eq h]
    blk_simp [index6, tab]
    show ((I.dy (512 * t.val + (y 0).val) (y 1).val : ℝ) : EReal) = _
    rw [Nat.mul_comm 512]
theorem final7 (h : Holds m c I) : (dats m 0 c).arrAt 7 cfg0.N = (tab fun s j => ((I.df s j : ℝ) : EReal) : Vec Ideal S4096x1024 .bf16) :=
  (dats m 0 c).arrAt_eq_of_covers 7 _ (by decide +kernel) fun t hf y => by
    blk_simp
    rw [after0_7, outs_eq h]
    blk_simp [index7, tab]
    show ((I.df (512 * t.val + (y 0).val) (y 1).val : ℝ) : EReal) = _
    rw [Nat.mul_comm 512]
theorem final8 (h : Holds m c I) : (dats m 0 c).arrAt 8 cfg0.N = Q8 (I.loss 0 4096) :=
  (dats m 0 c).arrAt_eq_of_after_last 8 t0_7 (by decide +kernel) _ fun j => by
    blk_simp
    rw [after0_8, outs_eq h]
    rfl
theorem final9 (h : Holds m c I) : (dats m 0 c).arrAt 9 cfg0.N = Q9 (I.dgain 0 4096) :=
  (dats m 0 c).arrAt_eq_of_after_last 9 t0_7 (by decide +kernel) _ fun j => by
    blk_simp
    rw [after0_9, outs_eq h]
    rfl

end Cert.LossIdeal.Hand
-- ==== Proof.LossRef.lean ====
module

public import proofs.«01_k».proof.Proof.LossMath
public import proofs.«01_k».proof.Proof.Gen.LossRefIdeal.Read

/-!
What the reference of the loss call computes, one stage after another: each lemma gives a stage's array at an index as the
real number that `LossMath` names.
-/

@[expose] public section

set_option maxRecDepth 16384

noncomputable section

namespace Cert.LossRefIdeal.Hand

open Idealize.ShloMosaic Cert.Rms Cert.MixerOps Cert.MixerHost Cert.LossMath Cert.LossRefIdeal.Gen Cert.LossRefIdeal.Read
open Cert.MixerMath (coe_sum eps)

variable (I : Inp)

/-! ## The arguments -/

def R0 : (⟨S4096x4096, .bf16⟩ : BufTy).Contents (Elt Ideal) := tab fun s j => ((I.Q s j : ℝ) : EReal)
def R1 : (⟨S4096x1024, .f32⟩ : BufTy).Contents (Elt Ideal) := tab fun s j => ((I.X s j : ℝ) : EReal)
def R2 : (⟨S4096x1024, .f32⟩ : BufTy).Contents (Elt Ideal) := tab fun s j => ((I.T s j : ℝ) : EReal)
def R3 : (⟨S6x1024, .f32⟩ : BufTy).Contents (Elt Ideal) := tab fun s j => ((I.M s j : ℝ) : EReal)
def R4 : (⟨S1024, .f32⟩ : BufTy).Contents (Elt Ideal) := tab1 fun j => ((I.G j : ℝ) : EReal)
def R5 : (⟨S4x1024x1024, .bf16⟩ : BufTy).Contents (Elt Ideal) := tab3 fun k a b => ((I.W k a b : ℝ) : EReal)

theorem r0 (i : S4096x4096.Idx) : R0 I i = ((I.Q (i 0).val (i 1).val : ℝ) : EReal) := rfl
theorem r1 (i : S4096x1024.Idx) : R1 I i = ((I.X (i 0).val (i 1).val : ℝ) : EReal) := rfl
theorem r2 (i : S4096x1024.Idx) : R2 I i = ((I.T (i 0).val (i 1).val : ℝ) : EReal) := rfl
theorem r3 (i : S6x1024.Idx) : R3 I i = ((I.M (i 0).val (i 1).val : ℝ) : EReal) := rfl
theorem r4 (i : S1024.Idx) : R4 I i = ((I.G (i 0).val : ℝ) : EReal) := rfl
theorem r5 (i : S4x1024x1024.Idx) : R5 I i = ((I.W (i 0).val (i 1).val (i 2).val : ℝ) : EReal) := rfl

/-! ## The stages -/

theorem v3 (i) : val_main_v3 (F := Ideal) (R0 I) (R5 I) i = ((I.f (i 0).val (i 1).val : ℝ) : EReal) := by
  simp only [val_main_v3_apply, val_main_v0_apply, val_main_v2_apply, val_main_v1_apply, r0, r5, coe_sum, emul_r, extf_r]
  rw [Inp.f, Finset.sum_range]
  have h : (i 1).val < 1024 := (i 1).isLt
  refine congrArg Real.toEReal (Finset.sum_congr rfl fun k _ => ?_)
  rw [show (k.val * 1024 + (i 1).val) / 1048576 = k.val / 1024 by omega, show (k.val * 1024 + (i 1).val) / 1024 % 1024 = k.val % 1024 by omega,
    show (k.val * 1024 + (i 1).val) % 1024 = (i 1).val by omega]
theorem v6 (i) : val_main_v6 (F := Ideal) (R3 I) (R4 I) i = ((I.gain (i 0).val : ℝ) : EReal) := by
  simp only [val_main_v6_apply, val_main_v5_apply, val_main_v4_apply, r3, r4, mul_r, Nat.mod_eq_of_lt (show (i 0).val < 1024 from (i 0).isLt), Nat.add_zero]
  rfl
theorem v13 (i) : val_main_v13 (F := Ideal) (R0 I) (R5 I) i = ((power (I.f (i 0).val) : ℝ) : EReal) := by
  simp only [val_main_v13_apply, val_main_v11_apply, val_main_v12_apply, val_main_v9_apply, val_main_v10_apply, val_main_cst_1_apply, val_main_v8_apply,
    val_main_cst_0_apply, val_main_v7_apply, val_main_cst_apply, v3, w_0, w_1024, w_eps, add_r, coe_sum, eadd_r, mul_r, zero_add,
    div_r _ _ (by norm_num : (1024 : ℝ) ≠ 0)]
  rw [power, mean, Finset.sum_range]
theorem v14 (i) : val_main_v14 (F := Ideal) (R0 I) (R5 I) i = ((rinv (I.f (i 0).val) : ℝ) : EReal) := by
  simp only [val_main_v14_apply, v13, rsqrt_r _ (power_pos _)]
  rfl
theorem v15 (i) : val_main_v15 (F := Ideal) (R0 I) (R5 I) i = ((rinv (I.f (i 0).val) / power (I.f (i 0).val) : ℝ) : EReal) := by
  simp only [val_main_v15_apply, v13, v14, div_r _ _ (power_pos _).ne']

theorem v17 (i) : val_main_v17 (F := Ideal) (R0 I) (R5 I) i = ((-(1 / 2) * (rinv (I.f (i 0).val) / power (I.f (i 0).val)) : ℝ) : EReal) := by
  simp only [val_main_v17_apply, val_main_v16_apply, val_main_cst_2_apply, v15, w_mhalf, mul_r]

theorem v19 (i) : val_main_v19 (F := Ideal) (R0 I) (R5 I) i = ((unit (I.f (i 0).val) (i 1).val : ℝ) : EReal) := by
  simp only [val_main_v19_apply, val_main_v18_apply, v14, v3, mul_r]
  rfl
theorem v24 (i) : val_main_v24 (F := Ideal) (R0 I) (R1 I) (R2 I) (R3 I) (R4 I) (R5 I) i = ((I.err (i 0).val (i 1).val : ℝ) : EReal) := by
  simp only [val_main_v24_apply, val_main_v23_apply, val_main_v22_apply, val_main_v21_apply, val_main_v20_apply, v19, v6, r1, r2, add_r, mul_r, sub_r]
  rfl
theorem v30 (i) : val_main_v30 (F := Ideal) (R0 I) (R1 I) (R2 I) (R3 I) (R4 I) (R5 I) i = ((I.part (i 0).val : ℝ) : EReal) := by
  simp only [val_main_v30_apply, val_main_v28_apply, val_main_v29_apply, val_main_v25_apply, val_main_cst_4_apply, val_main_cst_5_apply, v24, w_0, w_1024,
    coe_sum, eadd_r, mul_r, zero_add, div_r _ _ (by norm_num : (1024 : ℝ) ≠ 0)]
  rw [Inp.part, mean, Finset.sum_range]
theorem v38 (i) : val_main_v38 (F := Ideal) (R0 I) (R1 I) (R2 I) (R3 I) (R4 I) (R5 I) i = ((I.dy (i 0).val (i 1).val : ℝ) : EReal) := by
  simp only [val_main_v38_apply, val_main_v37_apply, val_main_v27_apply, val_main_v36_apply, val_main_v26_apply, val_main_v34_apply, val_main_v35_apply,
    val_main_cst_3_apply, val_main_v33_apply, val_main_cst_10_apply, val_main_cst_8_apply, val_main_cst_9_apply, v24, w_1, w_1024, w_2, w_half,
    mul_r, div_r _ _ (by norm_num : (1024 : ℝ) ≠ 0)]
  refine congrArg Real.toEReal ?_
  rw [Inp.dy]; ring
theorem v43 (i) : val_main_v43 (F := Ideal) (R0 I) (R1 I) (R2 I) (R3 I) (R4 I) (R5 I) i = ((I.dy (i 0).val (i 1).val * I.gain (i 1).val : ℝ) : EReal) := by
  simp only [val_main_v43_apply, val_main_v42_apply, val_main_v20_apply, v38, v6, mul_r]

theorem v40 (i) : val_main_v40 (F := Ideal) (R0 I) (R1 I) (R2 I) (R3 I) (R4 I) (R5 I) i = ((I.dgain 0 4096 (i 0).val : ℝ) : EReal) := by
  simp only [val_main_v40_apply, val_main_v39_apply, val_main_cst_11_apply, v19, v38, w_0, coe_sum, eadd_r, mul_r, zero_add]
  simp only [Inp.dgain, zero_add, Finset.sum_range]
  refine congrArg Real.toEReal (Finset.sum_congr rfl fun k _ => mul_comm _ _)
theorem v61 (i) : val_main_v61 (F := Ideal) (R0 I) (R1 I) (R2 I) (R3 I) (R4 I) (R5 I) i = ((I.dgain 0 4096 (i 1).val : ℝ) : EReal) := by
  simp only [val_main_v61_apply, val_main_v44_apply, val_main_v41_apply, val_main_cst_12_apply, v40, w_0, coe_sum, eadd_r, zero_add, Finset.univ_unique,
    Finset.sum_singleton, show ((default : Fin 1) : ℕ) = 0 from rfl, Nat.zero_mul, Nat.mul_one, Nat.zero_add, Nat.add_zero]

theorem v46 (i) : val_main_v46 (F := Ideal) (R0 I) (R1 I) (R2 I) (R3 I) (R4 I) (R5 I) i = ((∑ j ∈ Finset.range 1024, I.f (i 0).val j * (I.dy (i 0).val j * I.gain j) : ℝ) : EReal) := by
  simp only [val_main_v46_apply, val_main_v45_apply, val_main_cst_13_apply, v3, v43, w_0, coe_sum, eadd_r, mul_r, zero_add]
  rw [Finset.sum_range]
theorem v53 (i) : val_main_v53 (F := Ideal) (R0 I) (R1 I) (R2 I) (R3 I) (R4 I) (R5 I) i = (((∑ j ∈ Finset.range 1024, I.f (i 0).val j * (I.dy (i 0).val j * I.gain j)) * (-(1 / 2) * (rinv (I.f (i 0).val) / power (I.f (i 0).val))) / 1024 : ℝ) : EReal) := by
  simp only [val_main_v53_apply, val_main_v52_apply, val_main_cst_15_apply, val_main_v50_apply, val_main_v51_apply, val_main_v47_apply, val_main_cst_14_apply,
    v17, v46, w_0, w_1024, coe_sum, eadd_r, mul_r, zero_add, div_r _ _ (by norm_num : (1024 : ℝ) ≠ 0), Finset.univ_unique, Finset.sum_singleton,
    show ((default : Fin 1) : ℕ) = 0 from rfl, Nat.zero_mul, Nat.mul_one, Nat.zero_add, Nat.add_zero]

theorem v59 (i) : val_main_v59 (F := Ideal) (R0 I) (R1 I) (R2 I) (R3 I) (R4 I) (R5 I) i = ((I.df (i 0).val (i 1).val : ℝ) : EReal) := by
  simp only [val_main_v59_apply, val_main_v58_apply, val_main_v56_apply, val_main_v57_apply, val_main_v49_apply, val_main_v55_apply, val_main_v54_apply,
    val_main_v48_apply, v14, v3, v43, v53, add_r, mul_r]
  exact congrArg Real.toEReal (grad_lines (I.f (i 0).val) (fun j => I.dy (i 0).val j * I.gain j) (i 1).val _ rfl)
theorem v32 (i) : val_main_v32 (F := Ideal) (R0 I) (R1 I) (R2 I) (R3 I) (R4 I) (R5 I) i = ((I.loss 0 4096 : ℝ) : EReal) := by
  simp only [val_main_v32_apply, val_main_v31_apply, val_main_cst_6_apply, val_main_cst_7_apply, v30, w_0, w_half]
  refine (congrArg (fun x => FloatOps.mulf (F := Ideal) (φ := .f32) ((1 / 2 : ℝ) : EReal) (((0 : ℝ) : EReal) + x)) (sum_places 4096 I.part)).trans ?_
  rw [eadd_r, mul_r, zero_add]
  simp only [Inp.loss, Nat.zero_add]
theorem v60 (i) : val_main_v60 (F := Ideal) (R0 I) (R1 I) (R2 I) (R3 I) (R4 I) (R5 I) i = ((I.loss 0 4096 : ℝ) : EReal) :=
  v32 I _

end Cert.LossRefIdeal.Hand
-- ==== Proof.LossPre.lean ====
module

public import proofs.«01_k».proof.Pre_finite_loss
public import proofs.«01_k».proof.Proof.MixerPre

/-!
What the precondition of the loss call says: every entry of its arrays is a real number.
-/

@[expose] public section

noncomputable section

namespace Cert.LossPre

open Idealize.ShloMosaic Cert.MixerPre

/-- The half-precision infinity bounds the real numbers too. -/
theorem half_top : Ideal.ofBits .bf16 0x7F80#16 = Ideal.ofBits .f32 0x7F800000#32 := by simp [Ideal.ofBits, Ideal.ieee]

/-- One conjunct of the precondition, for a half-precision array. -/
theorem all_real_half {s : Shape} {axes : List (Fin s.rank)} (x : s.Idx → EReal) (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (h : Host.reduce IntOp.andi (cmpf (F := Ideal) (φ := .bf16) .olt (Host.absf (F := Ideal) (φ := .bf16) x)
      (broadcastInDim s ![] hb (constant (F := Ideal) Cert.Pre_finite.S_ .bf16 0x7F80#16)))
      (constantI Cert.Pre_finite.S_ 1 1#1) hr hu j = 1#1) (i : s.Idx) : ∃ r : ℝ, x i = (r : EReal) := by
  have e := Host.reduce_andi_all _ _ hr hu j h i
  refine real_of_lt (x i) ?_
  rw [← half_top]
  exact e

open Cert.Pre_finite_loss in
/-- The precondition read: the six arrays have real entries. -/
theorem reals [Facts] (x0 : FVec Ideal S4096x4096 .bf16) (x1 x2 : FVec Ideal S4096x1024 .f32) (x3 : FVec Ideal S6x1024 .f32) (x4 : FVec Ideal S1024 .f32)
    (x5 : FVec Ideal S4x1024x1024 .bf16) (h : fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal))
    ∧ (∀ i, ∃ r : ℝ, x4 i = (r : EReal)) ∧ (∀ i, ∃ r : ℝ, x5 i = (r : EReal)) := by
  have h0 := congrFun h fun k => k.elim0
  simp only [fn, fn_part1] at h0
  obtain ⟨h0, e5⟩ := and_one h0
  obtain ⟨h0, e4⟩ := and_one h0
  obtain ⟨h0, e3⟩ := and_one h0
  obtain ⟨h0, e2⟩ := and_one h0
  obtain ⟨e0, e1⟩ := and_one h0
  exact ⟨all_real_half x0 _ _ _ _ e0, all_real x1 _ _ _ _ e1, all_real x2 _ _ _ _ e2, all_real x3 _ _ _ _ e3, all_real x4 _ _ _ _ e4,
    all_real_half x5 _ _ _ _ e5⟩

end Cert.LossPre
-- ==== Proof.Loss.lean ====
module

public import proofs.«01_k».proof.Defs
public import proofs.«01_k».proof.Proof.Mixer
public import proofs.«01_k».proof.Proof.LossKernel
public import proofs.«01_k».proof.Proof.LossRef
public import proofs.«01_k».proof.Proof.LossPre
public import proofs.«01_k».proof.Proof.Gen.Pre_finite_loss
public import proofs.«01_k».proof.Proof.Gen.LossIdeal.Value
public import proofs.«01_k».proof.Proof.Gen.LossRefIdeal.Run
public import proofs.«01_k».proof.Proof.Gen.LossRefIdeal.Read

/-!
The loss call: the kernel and the reference end with the same loss, the same gradients of the residual stream and of the
product, and the same gradient of the gain.
-/

@[expose] public section

noncomputable section

namespace Cert.Proof.Loss

open Idealize.ShloMosaic Idealize.SL.Sem Cert.MixerOps Cert.LossMath
open Cert.Proof.Mixer (flat1 flat2 flat3 tab1_flat tab_flat tab3_flat)

variable (m : (ℓ : Loc Cert.LossIdeal.nD Cert.LossIdeal.τ Cert.LossIdeal.sig) → Buf (Elt Ideal) ℓ) (c : Dev Cert.LossIdeal.nD)

/-- The kernel's arguments on a device, as real numbers. -/
def inp : Inp where
  Q := flat2 (m := 4096) (n := 4096) (m ((c.tc : Thread Cert.LossIdeal.nD Cert.LossIdeal.τ).loc Cert.LossIdeal.main_arg0))
  X := flat2 (m := 4096) (n := 1024) (m ((c.tc : Thread Cert.LossIdeal.nD Cert.LossIdeal.τ).loc Cert.LossIdeal.main_arg1))
  T := flat2 (m := 4096) (n := 1024) (m ((c.tc : Thread Cert.LossIdeal.nD Cert.LossIdeal.τ).loc Cert.LossIdeal.main_arg2))
  M := flat2 (m := 6) (n := 1024) (m ((c.tc : Thread Cert.LossIdeal.nD Cert.LossIdeal.τ).loc Cert.LossIdeal.main_arg3))
  G := flat1 (m := 1024) (m ((c.tc : Thread Cert.LossIdeal.nD Cert.LossIdeal.τ).loc Cert.LossIdeal.main_arg4))
  W := flat3 (k := 4) (m := 1024) (n := 1024) (m ((c.tc : Thread Cert.LossIdeal.nD Cert.LossIdeal.τ).loc Cert.LossIdeal.main_arg5))

theorem holds (h : Cert.Pre_LossIdeal_finite_loss m) : Cert.LossIdeal.Hand.Holds m c (inp m c) := by
  obtain ⟨h0, h1, h2, h3, h4, h5⟩ := Cert.LossPre.reals _ _ _ _ _ _ (h c)
  exact ⟨tab_flat _ h0, tab_flat _ h1, tab_flat _ h2, tab_flat _ h3, tab1_flat _ h4, tab3_flat _ h5⟩

theorem frame_ref : Cert.quiescent_LossRefIdeal := fun m ρ _ =>
  (θ_run Cert.LossRefIdeal.defs _ _).mono (fun r h => ⟨fun c => (h c).2.2.2.2, sem_eq_zero_of_no_sems rfl r.2⟩)
    (Cert.LossRefIdeal.Value.run (F := Ideal) m ρ)

theorem frame_ref_finite : Cert.quiescent_LossRefIdeal_pre_finite_loss := fun m ρ _ => frame_ref m ρ trivial

open Cert.LossIdeal.Hand Cert.LossRefIdeal.Hand in
theorem algebraic : Cert.algebraic_LossIdeal_LossRefIdeal_pre_finite_loss := by
  intro m ρ m' ρ' pre hagree
  refine ⟨fun c => tab fun s j => ((inp m c).dy s j : EReal), fun c => tab fun s j => ((inp m c).df s j : EReal),
    fun c => Q8 ((inp m c).loss 0 4096), fun c => Q9 ((inp m c).dgain 0 4096), ?_, ?_⟩
  · refine (θ_run Cert.LossIdeal.defs _ _).mono (fun _ h c => ?_) (Cert.LossIdeal.Value.run_blocks m ρ)
    obtain ⟨e0, e1, e2, e3, args⟩ := h c
    have H := holds m c pre
    exact ⟨e0.trans (final6 H), e1.trans (final7 H), e2.trans (final8 H), e3.trans (final9 H), args⟩
  · refine (θ_run Cert.LossRefIdeal.defs _ _).mono (fun _ h c => ?_) (Cert.LossRefIdeal.Value.run (F := Ideal) m' ρ')
    obtain ⟨e0, e1, e2, e3, args⟩ := h c
    obtain ⟨a0, a1, a2, a3, a4, a5⟩ := hagree c
    have H := holds m c pre
    have b0 : m' ((c.tc : Thread Cert.LossRefIdeal.nD Cert.LossRefIdeal.τ).loc Cert.LossRefIdeal.main_arg0) = R0 (inp m c) := a0.trans H.a0
    have b1 : m' ((c.tc : Thread Cert.LossRefIdeal.nD Cert.LossRefIdeal.τ).loc Cert.LossRefIdeal.main_arg1) = R1 (inp m c) := a1.trans H.a1
    have b2 : m' ((c.tc : Thread Cert.LossRefIdeal.nD Cert.LossRefIdeal.τ).loc Cert.LossRefIdeal.main_arg2) = R2 (inp m c) := a2.trans H.a2
    have b3 : m' ((c.tc : Thread Cert.LossRefIdeal.nD Cert.LossRefIdeal.τ).loc Cert.LossRefIdeal.main_arg3) = R3 (inp m c) := a3.trans H.a3
    have b4 : m' ((c.tc : Thread Cert.LossRefIdeal.nD Cert.LossRefIdeal.τ).loc Cert.LossRefIdeal.main_arg4) = R4 (inp m c) := a4.trans H.a4
    have b5 : m' ((c.tc : Thread Cert.LossRefIdeal.nD Cert.LossRefIdeal.τ).loc Cert.LossRefIdeal.main_arg5) = R5 (inp m c) := a5.trans H.a5
    refine ⟨e0.trans ?_, e1.trans ?_, e2.trans ?_, e3.trans ?_, args⟩
    · refine (Cert.LossRefIdeal.Read.val_main_v38_eq ..).trans ?_
      rw [b0, b1, b2, b3, b4, b5]
      exact funext (v38 (inp m c))
    · refine (Cert.LossRefIdeal.Read.val_main_v59_eq ..).trans ?_
      rw [b0, b1, b2, b3, b4, b5]
      exact funext (v59 (inp m c))
    · refine (Cert.LossRefIdeal.Read.val_main_v60_eq ..).trans ?_
      rw [b0, b1, b2, b3, b4, b5]
      exact funext (v60 (inp m c))
    · refine (Cert.LossRefIdeal.Read.val_main_v61_eq ..).trans ?_
      rw [b0, b1, b2, b3, b4, b5]
      exact funext (v61 (inp m c))

end Cert.Proof.Loss
-- ==== Proof.Slab.lean ====
module

public import proofs.«01_k».proof.Proof.Rms

/-!
A gradient kept as a stack of boxes, one after the other: `tab4 f` holds `f k h r j` at row `r` and column `j` of half `h`
of box `k`. The lemmas say what the casts, loads, stores and copies of single boxes make of such stacks.
-/

@[expose] public section

set_option maxRecDepth 16384

noncomputable section

namespace Cert.Slab

open Idealize.ShloMosaic Idealize.ShloMosaic.TcCoe Idealize.SL.Sem Cert.MixerOps Cert.Rms

/-- The stack with entries `f k h r j`. -/
def tab4 {l n p q : ℕ} {α : Type} (f : ℕ → ℕ → ℕ → ℕ → α) : (⟨4, ![l, n, p, q]⟩ : Shape).Idx → α :=
  fun y => f (y 0).val (y 1).val (y 2).val (y 3).val

section
variable {l m n p q N : ℕ} {α : Type}

theorem tab4_congr {f g : ℕ → ℕ → ℕ → ℕ → α} (h : ∀ a < l, ∀ b < n, ∀ c < p, ∀ d < q, f a b c d = g a b c d) :
    tab4 (l := l) (n := n) (p := p) (q := q) f = tab4 g :=
  funext fun y => h _ (y 0).isLt _ (y 1).isLt _ (y 2).isLt _ (y 3).isLt

/-! ## Casts -/

theorem cast_box (f : ℕ → ℕ → ℕ → ℕ → α) (h) :
    shapeCast (s := ⟨4, ![1, n, p, q]⟩) (⟨3, ![n, p, q]⟩ : Shape) (tab4 f) h = tab3 fun b c d => f 0 b c d := by
  funext y
  show tab4 f (Shape.reshapeEquiv h y) = _
  rw [Shape.reshapeEquiv_eq_of_rowMajor h (y := ValueIdx.ix4 0 (y 0) (y 1) (y 2))]
  · rfl
  · rw [rowMajor_val4 _ (n * (p * q)) (p * q) q rfl rfl rfl, rowMajor_val3 _ (p * q) q rfl rfl]
    show 0 * (n * (p * q)) + (y 0).val * (p * q) + (y 1).val * q + (y 2).val = (y 0).val * (p * q) + (y 1).val * q + (y 2).val
    ring
theorem cast_to_box (f : ℕ → ℕ → ℕ → α) (h) :
    shapeCast (s := ⟨3, ![n, p, q]⟩) (⟨4, ![1, n, p, q]⟩ : Shape) (tab3 f) h = tab4 fun _ b c d => f b c d := by
  funext y
  show tab3 f (Shape.reshapeEquiv h y) = _
  rw [Shape.reshapeEquiv_eq_of_rowMajor h (y := ValueIdx.ix3 (y 1) (y 2) (y 3))]
  · rfl
  · rw [rowMajor_val4 _ (n * (p * q)) (p * q) q rfl rfl rfl, rowMajor_val3 _ (p * q) q rfl rfl]
    have : (y 0).val = 0 := Nat.lt_one_iff.mp (y 0).isLt
    show (y 1).val * (p * q) + (y 2).val * q + (y 3).val = (y 0).val * (n * (p * q)) + (y 1).val * (p * q) + (y 2).val * q + (y 3).val
    rw [this]; ring
/-- A matrix cut into halves one below the other. -/
theorem cast_halves (hm : m = n * p) (f : ℕ → ℕ → α) (h) :
    shapeCast (s := ⟨2, ![m, q]⟩) (⟨3, ![n, p, q]⟩ : Shape) (tab f) h = tab3 fun b c d => f (p * b + c) d := by
  funext y
  have lt : p * (y 0).val + (y 1).val < m := by
    have h0 : (y 0).val < n := (y 0).isLt
    have h1 : (y 1).val < p := (y 1).isLt
    rw [hm]
    calc p * (y 0).val + (y 1).val < p * (y 0).val + p := by omega
      _ = ((y 0).val + 1) * p := by ring
      _ ≤ n * p := Nat.mul_le_mul_right _ h0
  show tab f (Shape.reshapeEquiv h y) = _
  rw [Shape.reshapeEquiv_eq_of_rowMajor h (y := ValueIdx.ix2 ⟨p * (y 0).val + (y 1).val, lt⟩ (y 2))]
  · rfl
  · rw [rowMajor_val3 _ (p * q) q rfl rfl, rowMajor_val2 _ q rfl]
    show (p * (y 0).val + (y 1).val) * q + (y 2).val = (y 0).val * (p * q) + (y 1).val * q + (y 2).val
    ring
theorem addf_tab3 {φ : FTy} (f g : ℕ → ℕ → ℕ → EReal) :
    addf (F := Ideal) (s := ⟨3, ![n, p, q]⟩) (φ := φ) (tab3 f) (tab3 g) = tab3 fun b c d => f b c d + g b c d := rfl
end

/-! ## Loads, stores and copies of one box -/

section
variable {nD : ℕ} {τ : Topo} {sig : RefSig} {κ : Kind} {sp : Space} {φ : EltTy} {l n p q : ℕ}

theorem load_box (c : Dev nD) (A : Memref sig .tc .vmem ⟨4, ![l, n, p, q]⟩ φ) (hA : A.IsWhole) (k : ℕ) (inb)
    (f : ℕ → ℕ → ℕ → ℕ → Elt Ideal φ) :
    View.readAt (κ := Proc.kind (Dev.tc (τ := τ) c).2) (Elt Ideal) (Memref.view (κ := Proc.kind (Dev.tc (τ := τ) c).2) A)
        (Rect.unit (s := ⟨4, ![l, n, p, q]⟩) ![k, 0, 0, 0] ![1, n, p, q] inb).toLoadRect (hA.unread (tab4 f))
      = tab4 fun _ b c d => f k b c d := by
  refine Eq.trans (View.readAt_eq_ld ..) ?_
  refine Eq.trans (congrArg (View.ld · _) (hA.read_unread _)) ?_
  funext y
  have h0 : (y 0).val = 0 := Nat.lt_one_iff.mp (y 0).isLt
  show f (k + 1 * (y 0).val) (0 + 1 * (y 1).val) (0 + 1 * (y 2).val) (0 + 1 * (y 3).val) = f k (y 1).val (y 2).val (y 3).val
  simp only [h0, Nat.one_mul, Nat.mul_zero, Nat.add_zero, Nat.zero_add]

/-- The place of a box's entry in the stack. -/
theorem emb_box (k : ℕ) (inb) (x : Shape.Idx ⟨4, ![1, n, p, q]⟩) (y : Shape.Idx ⟨4, ![l, n, p, q]⟩)
    (h0 : (y 0).val = k) (h1 : (x 1).val = (y 1).val) (h2 : (x 2).val = (y 2).val) (h3 : (x 3).val = (y 3).val) :
    (Rect.unit (s := ⟨4, ![l, n, p, q]⟩) ![k, 0, 0, 0] ![1, n, p, q] inb).emb x = y := by
  have hx : (x 0).val = 0 := Nat.lt_one_iff.mp (x 0).isLt
  funext a
  refine Fin.ext ?_
  match a with
  | 0 => show k + 1 * (x 0).val = (y 0).val; omega
  | 1 => show 0 + 1 * (x 1).val = (y 1).val; omega
  | 2 => show 0 + 1 * (x 2).val = (y 2).val; omega
  | 3 => show 0 + 1 * (x 3).val = (y 3).val; omega

theorem not_mem_box (k : ℕ) (inb) (y : Shape.Idx ⟨4, ![l, n, p, q]⟩) (h0 : (y 0).val ≠ k) :
    y ∉ (Rect.unit (s := ⟨4, ![l, n, p, q]⟩) ![k, 0, 0, 0] ![1, n, p, q] inb).set := by
  intro h
  obtain ⟨x, hx⟩ := (Rect.unit (s := ⟨4, ![l, n, p, q]⟩) ![k, 0, 0, 0] ![1, n, p, q] inb).exists_idx_of_mem h
  have hz : (x 0).val = 0 := Nat.lt_one_iff.mp (x 0).isLt
  have := congrArg (fun z : Shape.Idx ⟨4, ![l, n, p, q]⟩ => (z 0).val) hx
  have e : k + 1 * (x 0).val = (y 0).val := this
  omega

/-- An index with that first coordinate is in the box. -/
theorem mem_box (k : ℕ) (inb) (y : Shape.Idx ⟨4, ![l, n, p, q]⟩) (h0 : (y 0).val = k) :
    y ∈ (Rect.unit (s := ⟨4, ![l, n, p, q]⟩) ![k, 0, 0, 0] ![1, n, p, q] inb).set := by
  rw [← emb_box k inb (ValueIdx.ix4 0 (y 1) (y 2) (y 3)) y h0 rfl rfl rfl, ← Rect.map_emb_univ]
  exact Finset.mem_map_of_mem _ (Finset.mem_univ _)

/-- The box stored last is what is there, -/
theorem canon_hit (k : ℕ) (inb) (f : ℕ → ℕ → ℕ → ℕ → Elt Ideal φ) (v : Vec Ideal ⟨4, ![1, n, p, q]⟩ φ)
    (hv : v = tab4 fun _ b c d => f k b c d) (L : List (View.Piece (Elt Ideal) ⟨4, ![l, n, p, q]⟩ φ)) (y : Shape.Idx ⟨4, ![l, n, p, q]⟩)
    (h0 : (y 0).val = k) :
    View.canon ((⟨Rect.unit (s := ⟨4, ![l, n, p, q]⟩) ![k, 0, 0, 0] ![1, n, p, q] inb, v⟩ : View.Piece (Elt Ideal) _ φ) :: L) y
      = tab4 f y := by
  subst hv
  have e := emb_box (l := l) k inb (ValueIdx.ix4 0 (y 1) (y 2) (y 3)) y h0 rfl rfl rfl
  refine (congrArg _ e.symm).trans ((View.canon_cons_emb ..).trans ?_)
  show f k _ _ _ = f (y 0).val _ _ _
  rw [h0]
  rfl
/-- and the other boxes are as they were. -/
theorem canon_miss (k : ℕ) (inb) (v : Vec Ideal ⟨4, ![1, n, p, q]⟩ φ) (L : List (View.Piece (Elt Ideal) ⟨4, ![l, n, p, q]⟩ φ))
    (y : Shape.Idx ⟨4, ![l, n, p, q]⟩) (h0 : (y 0).val ≠ k) :
    View.canon ((⟨Rect.unit (s := ⟨4, ![l, n, p, q]⟩) ![k, 0, 0, 0] ![1, n, p, q] inb, v⟩ : View.Piece (Elt Ideal) _ φ) :: L) y
      = View.canon L y := View.canon_cons_of_not_mem _ _ (not_mem_box k inb y h0)

/-- Four boxes stored one after the other are the stack. -/
theorem canon_boxes (i0 i1 i2 i3) (f : ℕ → ℕ → ℕ → ℕ → Elt Ideal φ) (v0 v1 v2 v3 : Vec Ideal ⟨4, ![1, n, p, q]⟩ φ)
    (h0 : v0 = tab4 fun _ b c d => f 0 b c d) (h1 : v1 = tab4 fun _ b c d => f 1 b c d)
    (h2 : v2 = tab4 fun _ b c d => f 2 b c d) (h3 : v3 = tab4 fun _ b c d => f 3 b c d)
    (L : List (View.Piece (Elt Ideal) ⟨4, ![4, n, p, q]⟩ φ)) :
    View.canon ((⟨Rect.unit (s := ⟨4, ![4, n, p, q]⟩) ![3, 0, 0, 0] ![1, n, p, q] i3, v3⟩ : View.Piece (Elt Ideal) _ φ)
      :: (⟨Rect.unit (s := ⟨4, ![4, n, p, q]⟩) ![2, 0, 0, 0] ![1, n, p, q] i2, v2⟩ : View.Piece (Elt Ideal) _ φ)
      :: (⟨Rect.unit (s := ⟨4, ![4, n, p, q]⟩) ![1, 0, 0, 0] ![1, n, p, q] i1, v1⟩ : View.Piece (Elt Ideal) _ φ)
      :: (⟨Rect.unit (s := ⟨4, ![4, n, p, q]⟩) ![0, 0, 0, 0] ![1, n, p, q] i0, v0⟩ : View.Piece (Elt Ideal) _ φ) :: L) = tab4 f := by
  funext y
  have hy : (y 0).val < 4 := (y 0).isLt
  by_cases e3 : (y 0).val = 3
  · exact canon_hit 3 i3 f v3 h3 _ y e3
  refine (canon_miss 3 i3 v3 _ y e3).trans ?_
  by_cases e2 : (y 0).val = 2
  · exact canon_hit 2 i2 f v2 h2 _ y e2
  refine (canon_miss 2 i2 v2 _ y e2).trans ?_
  by_cases e1 : (y 0).val = 1
  · exact canon_hit 1 i1 f v1 h1 _ y e1
  refine (canon_miss 1 i1 v1 _ y e1).trans ?_
  exact canon_hit 0 i0 f v0 h0 _ y (by omega)

/-- A whole stack stored last is what is there. -/
theorem canon_stack (inb) (f : ℕ → ℕ → ℕ → ℕ → Elt Ideal φ) (v : Vec Ideal ⟨4, ![l, n, p, q]⟩ φ) (hv : v = tab4 f)
    (L : List (View.Piece (Elt Ideal) ⟨4, ![l, n, p, q]⟩ φ)) (y : Shape.Idx ⟨4, ![l, n, p, q]⟩) :
    View.canon ((⟨Rect.unit (s := ⟨4, ![l, n, p, q]⟩) ![0, 0, 0, 0] ![l, n, p, q] inb, v⟩ : View.Piece (Elt Ideal) _ φ) :: L) y
      = tab4 f y := by
  subst hv
  have e : (Rect.unit (s := ⟨4, ![l, n, p, q]⟩) ![0, 0, 0, 0] ![l, n, p, q] inb).emb y = y := by
    funext a
    refine Fin.ext ?_
    match a with
    | 0 => show 0 + 1 * (y 0).val = (y 0).val; omega
    | 1 => show 0 + 1 * (y 1).val = (y 1).val; omega
    | 2 => show 0 + 1 * (y 2).val = (y 2).val; omega
    | 3 => show 0 + 1 * (y 3).val = (y 3).val; omega
  exact (congrArg _ e.symm).trans (View.canon_cons_emb ..)

/-- Reading back one box of what has been stored. -/
theorem cov_box (v : View sig κ sp ⟨4, ![l, n, p, q]⟩ φ) (L : List (View.Piece (Elt Ideal) ⟨4, ![l, n, p, q]⟩ φ)) (k : ℕ) (inb)
    (f : ℕ → ℕ → ℕ → ℕ → Elt Ideal φ) (h : ∀ y : Shape.Idx ⟨4, ![l, n, p, q]⟩, (y 0).val = k → View.canon L y = tab4 f y) :
    v.readCov L (Rect.unit (s := ⟨4, ![l, n, p, q]⟩) ![k, 0, 0, 0] ![1, n, p, q] inb).toLoadRect
      = tab4 fun _ b c d => f k b c d := by
  funext x
  have hx : (x 0).val = 0 := Nat.lt_one_iff.mp (x 0).isLt
  refine (View.read_writes_junk_apply_eq_canon v _ L).trans ((h _ ?_).trans ?_)
  · show k + 1 * (x 0).val = k
    omega
  · show f (k + 1 * (x 0).val) (0 + 1 * (x 1).val) (0 + 1 * (x 2).val) (0 + 1 * (x 3).val) = f k (x 1).val (x 2).val (x 3).val
    simp only [hx, Nat.one_mul, Nat.mul_zero, Nat.add_zero, Nat.zero_add]

/-- What a copy of one box reads, from contents known on that box. -/
theorem read_box_at (A : Memref sig κ sp ⟨4, ![l, n, p, q]⟩ φ) (k : ℕ) (inb)
    (hr) (hq : Shape.Squeezes ⟨4, ![1, n, p, q]⟩ ⟨3, ![n, p, q]⟩) (g : A.view.ty.Contents (Elt Ideal)) (f : ℕ → ℕ → ℕ → ℕ → Elt Ideal φ)
    (h : ∀ y : Shape.Idx ⟨4, ![l, n, p, q]⟩, (y 0).val = k → A.view.read (Elt Ideal) g y = tab4 f y) :
    View.read (Elt Ideal) ((A.slice (Rect.unit (s := ⟨4, ![l, n, p, q]⟩) ![k, 0, 0, 0] ![1, n, p, q] inb) hr).squeeze ⟨3, ![n, p, q]⟩ hq).view g
      = tab3 fun b c d => f k b c d := by
  refine Eq.trans (Memref.read_squeeze_slice A _ hr hq hq.numel_eq g) ?_
  refine Eq.trans (congrArg (shapeCast _ · _) (?_ : _ = tab4 fun _ b c d => f k b c d)) (cast_box ..)
  refine Eq.trans (View.readAt_eq_ld ..) ?_
  funext y
  have h0 : (y 0).val = 0 := Nat.lt_one_iff.mp (y 0).isLt
  refine (h _ ?_).trans ?_
  · show k + 1 * (y 0).val = k
    omega
  · show f (k + 1 * (y 0).val) (0 + 1 * (y 1).val) (0 + 1 * (y 2).val) (0 + 1 * (y 3).val) = f k (y 1).val (y 2).val (y 3).val
    simp only [h0, Nat.one_mul, Nat.mul_zero, Nat.add_zero, Nat.zero_add]

theorem read_box (A : Memref sig κ sp ⟨4, ![l, n, p, q]⟩ φ) (k : ℕ) (inb)
    (hr) (hq : Shape.Squeezes ⟨4, ![1, n, p, q]⟩ ⟨3, ![n, p, q]⟩) (g : A.view.ty.Contents (Elt Ideal)) (f : ℕ → ℕ → ℕ → ℕ → Elt Ideal φ)
    (h : A.view.read (Elt Ideal) g = tab4 f) :
    View.read (Elt Ideal) ((A.slice (Rect.unit (s := ⟨4, ![l, n, p, q]⟩) ![k, 0, 0, 0] ![1, n, p, q] inb) hr).squeeze ⟨3, ![n, p, q]⟩ hq).view g
      = tab3 fun b c d => f k b c d := read_box_at A k inb hr hq g f fun y _ => congrFun h y

/-- Contents read where the last store went. -/
theorem at_head {s : Shape} (A : Memref sig κ sp s φ) (g : A.view.ty.Contents (Elt Ideal)) (P : View.Piece (Elt Ideal) s φ)
    (L : List (View.Piece (Elt Ideal) s φ)) (y : s.Idx) (hy : y ∈ P.1.set) :
    A.view.read (Elt Ideal) (A.view.writes (Elt Ideal) g (P :: L)) y = View.canon (P :: L) y :=
  View.read_writes_apply_eq_canon A.view g y (P :: L) ⟨P, List.mem_cons_self, hy⟩

/-- Contents read on the box stored last. -/
theorem at_last (A : Memref sig κ sp ⟨4, ![l, n, p, q]⟩ φ) (k : ℕ) (inb) (g : A.view.ty.Contents (Elt Ideal)) (f : ℕ → ℕ → ℕ → ℕ → Elt Ideal φ)
    (v : Vec Ideal ⟨4, ![1, n, p, q]⟩ φ) (hv : v = tab4 fun _ b c d => f k b c d) (L : List (View.Piece (Elt Ideal) ⟨4, ![l, n, p, q]⟩ φ))
    (y : Shape.Idx ⟨4, ![l, n, p, q]⟩) (h0 : (y 0).val = k) :
    A.view.read (Elt Ideal) (A.view.writes (Elt Ideal) g
      ((⟨Rect.unit (s := ⟨4, ![l, n, p, q]⟩) ![k, 0, 0, 0] ![1, n, p, q] inb, v⟩ : View.Piece (Elt Ideal) ⟨4, ![l, n, p, q]⟩ φ) :: L)) y = tab4 f y := by
  have hm := mem_box k inb y h0
  have hc := canon_hit k inb f v hv L y h0
  generalize hP : (⟨Rect.unit (s := ⟨4, ![l, n, p, q]⟩) ![k, 0, 0, 0] ![1, n, p, q] inb, v⟩ : View.Piece (Elt Ideal) ⟨4, ![l, n, p, q]⟩ φ) = P at hc ⊢
  have hy : y ∈ P.1.set := by
    rw [← hP]
    exact hm
  exact (at_head A g P L y hy).trans hc

/-- What a copy of the box stored last reads. -/
theorem read_last (A : Memref sig κ sp ⟨4, ![l, n, p, q]⟩ φ) (k : ℕ) (inb inb')
    (hr) (hq : Shape.Squeezes ⟨4, ![1, n, p, q]⟩ ⟨3, ![n, p, q]⟩) (g : A.view.ty.Contents (Elt Ideal)) (f : ℕ → ℕ → ℕ → ℕ → Elt Ideal φ)
    (v : Vec Ideal ⟨4, ![1, n, p, q]⟩ φ) (hv : v = tab4 fun _ b c d => f k b c d) (L : List (View.Piece (Elt Ideal) ⟨4, ![l, n, p, q]⟩ φ)) :
    View.read (Elt Ideal) ((A.slice (Rect.unit (s := ⟨4, ![l, n, p, q]⟩) ![k, 0, 0, 0] ![1, n, p, q] inb) hr).squeeze ⟨3, ![n, p, q]⟩ hq).view
        (A.view.writes (Elt Ideal) g ((⟨Rect.unit (s := ⟨4, ![l, n, p, q]⟩) ![k, 0, 0, 0] ![1, n, p, q] inb', v⟩ : View.Piece (Elt Ideal) ⟨4, ![l, n, p, q]⟩ φ) :: L))
      = tab3 fun b c d => f k b c d :=
  read_box_at A k inb hr hq _ f (at_last A k inb' g f v hv L)

/-- A copy into one box is there afterwards, -/
theorem put_hit (v : View sig κ sp ⟨4, ![l, n, p, q]⟩ φ) (k : ℕ) (inb) (hq) (g : v.ty.Contents (Elt Ideal))
    (w : Vec Ideal ⟨3, ![n, p, q]⟩ φ) (f : ℕ → ℕ → ℕ → ℕ → Elt Ideal φ) (hw : w = tab3 fun b c d => f k b c d)
    (y : Shape.Idx ⟨4, ![l, n, p, q]⟩) (h0 : (y 0).val = k) :
    v.read (Elt Ideal) (View.write (Elt Ideal) ((v.slice (Rect.unit (s := ⟨4, ![l, n, p, q]⟩) ![k, 0, 0, 0] ![1, n, p, q] inb)).reshape ⟨3, ![n, p, q]⟩ hq) g w Finset.univ) y
      = tab4 f y := by
  subst hw
  have e : (Rect.unit (s := ⟨4, ![l, n, p, q]⟩) ![k, 0, 0, 0] ![1, n, p, q] inb).emb (Shape.reshapeEquiv hq (ValueIdx.ix3 (y 1) (y 2) (y 3))) = y := by
    rw [Shape.reshapeEquiv_eq_of_rowMajor hq (y := ValueIdx.ix4 0 (y 1) (y 2) (y 3))]
    · exact emb_box k inb _ y h0 rfl rfl rfl
    · rw [rowMajor_val4 _ (n * (p * q)) (p * q) q rfl rfl rfl, rowMajor_val3 _ (p * q) q rfl rfl]
      show 0 * (n * (p * q)) + (y 1).val * (p * q) + (y 2).val * q + (y 3).val = (y 1).val * (p * q) + (y 2).val * q + (y 3).val
      ring
  refine (congrArg _ e.symm).trans ?_
  refine Eq.trans (View.read_write_of_mem (v := (v.slice (Rect.unit (s := ⟨4, ![l, n, p, q]⟩) ![k, 0, 0, 0] ![1, n, p, q] inb)).reshape ⟨3, ![n, p, q]⟩ hq) g _ (Finset.mem_univ (ValueIdx.ix3 (y 1) (y 2) (y 3)))) ?_
  show f k _ _ _ = f (y 0).val _ _ _
  rw [h0]
  rfl
/-- and the other boxes are as they were. -/
theorem put_miss (v : View sig κ sp ⟨4, ![l, n, p, q]⟩ φ) (k : ℕ) (inb) (hq) (g : v.ty.Contents (Elt Ideal))
    (w : Vec Ideal ⟨3, ![n, p, q]⟩ φ) (y : Shape.Idx ⟨4, ![l, n, p, q]⟩) (h0 : (y 0).val ≠ k) :
    v.read (Elt Ideal) (View.write (Elt Ideal) ((v.slice (Rect.unit (s := ⟨4, ![l, n, p, q]⟩) ![k, 0, 0, 0] ![1, n, p, q] inb)).reshape ⟨3, ![n, p, q]⟩ hq) g w Finset.univ) y
      = v.read (Elt Ideal) g y := by
  rw [View.read_apply, View.read_apply, View.write_of_not_mem]
  intro h
  obtain ⟨x, -, hx⟩ := Finset.mem_map.mp h
  have e := v.emb.injective hx
  refine not_mem_box k inb y h0 ?_
  rw [← e]
  rw [← Rect.map_emb_univ]
  exact Finset.mem_map_of_mem _ (Finset.mem_univ _)

/-- Four boxes copied one after the other are the stack. -/
theorem put_boxes (v : View sig κ sp ⟨4, ![4, n, p, q]⟩ φ) (i0 i1 i2 i3 q0 q1 q2 q3) (g : v.ty.Contents (Elt Ideal))
    (w0 w1 w2 w3 : Vec Ideal ⟨3, ![n, p, q]⟩ φ) (f : ℕ → ℕ → ℕ → ℕ → Elt Ideal φ)
    (h0 : w0 = tab3 fun b c d => f 0 b c d) (h1 : w1 = tab3 fun b c d => f 1 b c d)
    (h2 : w2 = tab3 fun b c d => f 2 b c d) (h3 : w3 = tab3 fun b c d => f 3 b c d) :
    v.read (Elt Ideal)
      (View.write (Elt Ideal) ((v.slice (Rect.unit (s := ⟨4, ![4, n, p, q]⟩) ![3, 0, 0, 0] ![1, n, p, q] i3)).reshape ⟨3, ![n, p, q]⟩ q3)
        (View.write (Elt Ideal) ((v.slice (Rect.unit (s := ⟨4, ![4, n, p, q]⟩) ![2, 0, 0, 0] ![1, n, p, q] i2)).reshape ⟨3, ![n, p, q]⟩ q2)
          (View.write (Elt Ideal) ((v.slice (Rect.unit (s := ⟨4, ![4, n, p, q]⟩) ![1, 0, 0, 0] ![1, n, p, q] i1)).reshape ⟨3, ![n, p, q]⟩ q1)
            (View.write (Elt Ideal) ((v.slice (Rect.unit (s := ⟨4, ![4, n, p, q]⟩) ![0, 0, 0, 0] ![1, n, p, q] i0)).reshape ⟨3, ![n, p, q]⟩ q0)
              g w0 Finset.univ) w1 Finset.univ) w2 Finset.univ) w3 Finset.univ) = tab4 f := by
  funext y
  have hy : (y 0).val < 4 := (y 0).isLt
  by_cases e3 : (y 0).val = 3
  · exact put_hit v 3 i3 q3 _ w3 f h3 y e3
  refine (put_miss v 3 i3 q3 _ w3 y e3).trans ?_
  by_cases e2 : (y 0).val = 2
  · exact put_hit v 2 i2 q2 _ w2 f h2 y e2
  refine (put_miss v 2 i2 q2 _ w2 y e2).trans ?_
  by_cases e1 : (y 0).val = 1
  · exact put_hit v 1 i1 q1 _ w1 f h1 y e1
  refine (put_miss v 1 i1 q1 _ w1 y e1).trans ?_
  exact put_hit v 0 i0 q0 _ w0 f h0 y (by omega)

end

/-! ## Matrices stored some columns at a time -/

/-- The columns stored last are what is there, -/
theorem col_hit {m n w : ℕ} {φ : EltTy} (o : ℕ) (inb) (f : ℕ → ℕ → Elt Ideal φ) (v : Vec Ideal ⟨2, ![m, w]⟩ φ) (hv : v = tab fun a b => f a (o + b))
    (L : List (View.Piece (Elt Ideal) ⟨2, ![m, n]⟩ φ)) (y : Shape.Idx ⟨2, ![m, n]⟩) (h : o ≤ (y 1).val) (h' : (y 1).val < o + w) :
    View.canon ((⟨Rect.unit (s := ⟨2, ![m, n]⟩) ![0, o] ![m, w] inb, v⟩ : View.Piece (Elt Ideal) _ φ) :: L) y = tab f y := by
  subst hv
  have e : (Rect.unit (s := ⟨2, ![m, n]⟩) ![0, o] ![m, w] inb).emb (ValueIdx.ix2 (y 0) ⟨(y 1).val - o, by omega⟩) = y := by
    funext a
    refine Fin.ext ?_
    match a with
    | 0 => show 0 + 1 * (y 0).val = (y 0).val; omega
    | 1 => show o + 1 * ((y 1).val - o) = (y 1).val; omega
  refine (congrArg _ e.symm).trans ((View.canon_cons_emb ..).trans ?_)
  show f (y 0).val (o + ((y 1).val - o)) = f (y 0).val (y 1).val
  rw [Nat.add_sub_cancel' h]
/-- and the columns before them are as they were. -/
theorem col_miss {m n w : ℕ} {φ : EltTy} (o : ℕ) (inb) (v : Vec Ideal ⟨2, ![m, w]⟩ φ)
    (L : List (View.Piece (Elt Ideal) ⟨2, ![m, n]⟩ φ)) (y : Shape.Idx ⟨2, ![m, n]⟩) (h : (y 1).val < o) :
    View.canon ((⟨Rect.unit (s := ⟨2, ![m, n]⟩) ![0, o] ![m, w] inb, v⟩ : View.Piece (Elt Ideal) _ φ) :: L) y = View.canon L y := by
  refine View.canon_cons_of_not_mem _ _ fun hm => ?_
  obtain ⟨x, hx⟩ := (Rect.unit (s := ⟨2, ![m, n]⟩) ![0, o] ![m, w] inb).exists_idx_of_mem hm
  have e : o + 1 * (x 1).val = (y 1).val := congrArg (fun z : Shape.Idx ⟨2, ![m, n]⟩ => (z 1).val) hx
  omega

/-- Four groups of columns stored one after the other are the matrix. -/
theorem canon_cols {m n w : ℕ} {φ : EltTy} (o1 o2 o3 : ℕ) (e1 : o1 = w) (e2 : o2 = o1 + w) (e3 : o3 = o2 + w) (en : n = o3 + w)
    (i0 i1 i2 i3) (f : ℕ → ℕ → Elt Ideal φ) (v0 v1 v2 v3 : Vec Ideal ⟨2, ![m, w]⟩ φ)
    (h0 : v0 = tab fun a b => f a (0 + b)) (h1 : v1 = tab fun a b => f a (o1 + b))
    (h2 : v2 = tab fun a b => f a (o2 + b)) (h3 : v3 = tab fun a b => f a (o3 + b)) (L : List (View.Piece (Elt Ideal) ⟨2, ![m, n]⟩ φ)) :
    View.canon ((⟨Rect.unit (s := ⟨2, ![m, n]⟩) ![0, o3] ![m, w] i3, v3⟩ : View.Piece (Elt Ideal) _ φ)
      :: (⟨Rect.unit (s := ⟨2, ![m, n]⟩) ![0, o2] ![m, w] i2, v2⟩ : View.Piece (Elt Ideal) _ φ)
      :: (⟨Rect.unit (s := ⟨2, ![m, n]⟩) ![0, o1] ![m, w] i1, v1⟩ : View.Piece (Elt Ideal) _ φ)
      :: (⟨Rect.unit (s := ⟨2, ![m, n]⟩) ![0, 0] ![m, w] i0, v0⟩ : View.Piece (Elt Ideal) _ φ) :: L) = tab f := by
  funext y
  have hy : (y 1).val < n := (y 1).isLt
  by_cases c3 : o3 ≤ (y 1).val
  · exact col_hit o3 i3 f v3 h3 _ y c3 (by omega)
  refine (col_miss o3 i3 v3 _ y (by omega)).trans ?_
  by_cases c2 : o2 ≤ (y 1).val
  · exact col_hit o2 i2 f v2 h2 _ y c2 (by omega)
  refine (col_miss o2 i2 v2 _ y (by omega)).trans ?_
  by_cases c1 : o1 ≤ (y 1).val
  · exact col_hit o1 i1 f v1 h1 _ y c1 (by omega)
  refine (col_miss o1 i1 v1 _ y (by omega)).trans ?_
  exact col_hit 0 i0 f v0 h0 _ y (Nat.zero_le _) (by omega)

/-- Reading back a whole matrix of what has been stored. -/
theorem cov_whole {sig : RefSig} {κ : Kind} {sp : Space} {m n : ℕ} {φ : EltTy} (v : View sig κ sp ⟨2, ![m, n]⟩ φ)
    (L : List (View.Piece (Elt Ideal) ⟨2, ![m, n]⟩ φ)) (inb) (f : ℕ → ℕ → Elt Ideal φ) (h : View.canon L = tab f) :
    v.readCov L (Rect.unit (s := ⟨2, ![m, n]⟩) ![0, 0] ![m, n] inb).toLoadRect = tab f := by
  funext x
  refine (View.read_writes_junk_apply_eq_canon v _ L).trans ?_
  rw [h]
  show f (0 + 1 * (x 0).val) (0 + 1 * (x 1).val) = f (x 0).val (x 1).val
  simp only [Nat.one_mul, Nat.zero_add]

/-- What stores leave does not depend on the buffer. -/
theorem read_stores {sig : RefSig} {κ : Kind} {sp : Space} {s : Shape} {e : EltTy} (v : View sig κ sp s e) (L : List (View.Piece (Elt Ideal) s e)) :
    v.read (Elt Ideal) (v.writes (Elt Ideal) v.junk L) = View.canon L :=
  funext fun y => View.read_writes_junk_apply_eq_canon v y L

/-! ## The product contracting rows with rows -/

/-- A product contracting the rows of both operands. -/
theorem matmul_rows {φ ψ : FTy} {k m n : ℕ} (hk : k = 512 ∨ k = 256) (d : DotDims ⟨2, ![k, m]⟩ ⟨2, ![k, n]⟩ ⟨2, ![m, n]⟩)
    (hd : d.lhsContracting = [0]) (hr : d.rhsContracting = [0]) (hl : d.lhsNonContracting = [1]) (hn : d.rhsNonContracting = [1])
    (hb : d.lhsBatch = []) (hB : d.rhsBatch = []) (pr) (f g : ℕ → ℕ → EReal) :
    matmul (F := Ideal) (φ₁ := φ) (φ₂ := ψ) d pr (tab f) (tab g) (tab fun _ _ => 0)
      = tab fun a b => ∑ i ∈ Finset.range k, f i a * g i b := by
  obtain ⟨_, _, _, _, _, _, _⟩ := d
  subst hd hr hl hn hb hB
  funext y
  rcases hk with rfl | rfl <;> pointwise
  all_goals exact (zero_add _).trans (Fin.sum_univ_eq_sum_range (fun i => f i (y 0).val * g i (y 1).val) _)

end Cert.Slab
-- ==== Proof.BwdInMath.lean ====
module

public import proofs.«01_k».proof.Proof.Slab

/-! What the gradient of the mixer's inputs computes: the normalised rows, scaled and shifted by the modulation, times the
projection's weights, backwards. -/

@[expose] public section

noncomputable section

namespace Cert.BwdInMath

open Cert.Rms

/-- The call's arguments: the residual stream, the cotangent of the projection, the cotangent reaching the residual stream
elsewhere, the modulation, the gain, the weights in four blocks of columns. -/
structure Inp where
  X : ℕ → ℕ → ℝ
  Z : ℕ → ℕ → ℝ
  D : ℕ → ℕ → ℝ
  M : ℕ → ℕ → ℝ
  G : ℕ → ℝ
  W : ℕ → ℕ → ℕ → ℝ

namespace Inp
variable (I : Inp)

/-- The weights, the four blocks side by side. -/
def wide (a j : ℕ) : ℝ := I.W (j / 384) a (j % 384)
def gain (j : ℕ) : ℝ := I.G j * (1 + I.M 1 j)
/-- What the projection was applied to. -/
def h (s j : ℕ) : ℝ := unit (I.X s) j * I.gain j + I.M 0 j
def dh (s j : ℕ) : ℝ := ∑ k ∈ Finset.range 1536, I.Z s k * I.wide j k
def dx (s j : ℕ) : ℝ := I.D s j + grad (I.X s) (fun j => I.dh s j * I.gain j) j
/-- The sums over the `k` rows from row `n`. -/
def dshift (n k j : ℕ) : ℝ := ∑ s ∈ Finset.range k, I.dh (n + s) j
def da (n k j : ℕ) : ℝ := ∑ s ∈ Finset.range k, I.dh (n + s) j * unit (I.X (n + s)) j
def hz (n k a b : ℕ) : ℝ := ∑ s ∈ Finset.range k, I.h (n + s) a * I.Z (n + s) b
/-- The weights' gradient: block `q`, half `b`, row `r`, column `j`. -/
def dw (n k q b r j : ℕ) : ℝ := I.hz n k (512 * b + r) (384 * q + j)

theorem dshift_add (n k j : ℕ) : I.dshift 0 n j + I.dshift n k j = I.dshift 0 (n + k) j := by
  simp only [dshift, Nat.zero_add, Finset.sum_range_add]
theorem da_add (n k j : ℕ) : I.da 0 n j + I.da n k j = I.da 0 (n + k) j := by
  simp only [da, Nat.zero_add, Finset.sum_range_add]
theorem dw_add (n k q b r j : ℕ) : I.dw 0 n q b r j + I.dw n k q b r j = I.dw 0 (n + k) q b r j := by
  simp only [dw, hz, Nat.zero_add, Finset.sum_range_add]

end Inp
end Cert.BwdInMath
-- ==== Proof.BwdInRun.lean ====
module

public import proofs.«01_k».proof.Proof.Gen.BwdInIdeal.Launch
public import proofs.«01_k».proof.Proof.Gen.BwdInIdeal.Skeleton
public import proofs.«01_k».proof.Proof.Gen.BwdInIdeal.Points
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

/-! The body of the `bwd_in` call run at a first, a middle and the last grid point: from what it owns, what it
    leaves written. The last point also starts and waits the copies of the accumulated shards to the result. -/

@[expose] public section

set_option maxRecDepth 16384

noncomputable section

namespace Cert.BwdInIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.BwdInIdeal.Gen

variable {F : FTy → Type} [FloatOps F]

/-- The resources the proofs own pieces of. -/
abbrev Res (F : FTy → Type) [FloatOps F] := MT nD τ sig Unit (Elt F) ℕ (Pipeline.UD sig nD τ) ℕ

/-- The body's test for the first point. -/
abbrev First (i : grid0.Coords) : Prop :=
  (Scalar.cmpi .ne (Scalar.extui (Scalar.cmpi .eq (BitVec.ofNat 32 (i 0).val) 0#32)) 0#32) = 1#1
/-- The body's test for the last point. -/
abbrev Final (i : grid0.Coords) : Prop :=
  (Scalar.cmpi .ne (Scalar.extui (Scalar.cmpi .eq (BitVec.ofNat 32 (i 0).val) 7#32)) 0#32) = 1#1

/-- The contents of an array left in HBM. -/
abbrev Held (c : Dev nD) (b : Ref sig .tc) : Type := Buf (Elt F) ((c : Thread nD τ).loc b)
/-- The contents of the buffer behind a memref. -/
abbrev Inside (c : Dev nD) {sp : Space} {S : Shape} {e : EltTy} (M : Memref sig .tc sp S e) : Type :=
  Buf (Elt F) (M.view.loc (c : Thread nD τ))
/-- A memref's buffer held whole at given contents. -/
abbrev holds (c : Dev nD) {sp : Space} {S : Shape} {e : EltTy} (M : Memref sig .tc sp S e)
    (f : Inside (F := F) c M) : sProp (Res F) := M.view.loc (c : Thread nD τ) ↦{fullShare} f

abbrev Src7 : Memref sig .tc .hbm S4x2x256x1024 .bf16 := Memref.whole main_arg6
abbrev Dst11 : Memref sig .tc .hbm S4x2x512x384 .f32 := Memref.whole main_v1_3

/-- The stores a run of the body leaves, memref by memref, and the contents of the arrays its copies write. -/
structure Stores (F : FTy → Type) [FloatOps F] (c : Dev nD) where
  p8 : List (View.Piece (Elt F) S512x1024 .f32)
  p9 : List (View.Piece (Elt F) S1x1024 .f32)
  p10 : List (View.Piece (Elt F) S1x1024 .f32)
  p12 : List (View.Piece (Elt F) S4x2x512x384 .f32)
  p13 : List (View.Piece (Elt F) S1024x1536 .bf16)
  g11 : Inside (F := F) c Dst11

variable (c : Dev nD) (i : grid0.Coords)
  (arg1 : Memref sig .tc .vmem S512x1536 .bf16) (harg1 : arg1.IsWhole)
  (arg2 : Memref sig .tc .vmem S512x1024 .f32) (harg2 : arg2.IsWhole)
  (arg3 : Memref sig .tc .vmem S512x1024 .f32) (harg3 : arg3.IsWhole)
  (arg4 : Memref sig .tc .vmem S6x1024 .f32) (harg4 : arg4.IsWhole)
  (arg5 : Memref sig .tc .vmem S1x1024 .f32) (harg5 : arg5.IsWhole)
  (arg6 : Memref sig .tc .vmem S4x1024x384 .bf16) (harg6 : arg6.IsWhole)
  (arg8 : Memref sig .tc .vmem S512x1024 .f32) (harg8 : arg8.IsWhole)
  (arg9 : Memref sig .tc .vmem S1x1024 .f32) (harg9 : arg9.IsWhole)
  (arg10 : Memref sig .tc .vmem S1x1024 .f32) (harg10 : arg10.IsWhole)
  (arg12 : Memref sig .tc .vmem S4x2x512x384 .f32) (harg12 : arg12.IsWhole)
  (arg13 : Memref sig .tc .vmem S1024x1536 .bf16) (harg13 : arg13.IsWhole)

/-- The body, given its inputs and what it holds of the carried buffers, leaves the stores `w`. -/
def Leaves (P9 P10 P12 P13 : sProp (Res F)) (Q13 : sProp (Res F))
    (x1 : Vec F S512x1536 .bf16) (x2 : Vec F S512x1024 .f32) (x3 : Vec F S512x1024 .f32) (x4 : Vec F S6x1024 .f32) (x5 : Vec F S1x1024 .f32) (x6 : Vec F S4x1024x384 .bf16)
    (f7 : Inside (F := F) c Src7) (f11 : Inside (F := F) c Dst11) (w : Stores F c) : Prop :=
  ∀ (W : Waits sig Unit) (K : PUnit → sProp (Res F)),
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg8 fullShare d) ∗ P9 ∗ P10 ∗ P12 ∗ P13 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ holds c Src7 f7 ∗ holds c Dst11 f11 ∗ owes (c : Thread nD τ) 0 W
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg8.view.loc (c : Thread nD τ) ↦[arg8.view.set]{fullShare} arg8.view.writes (Elt F) f w.p8) ∗ (∃ f, arg9.view.loc (c : Thread nD τ) ↦[arg9.view.set]{fullShare} arg9.view.writes (Elt F) f w.p9) ∗ (∃ f, arg10.view.loc (c : Thread nD τ) ↦[arg10.view.set]{fullShare} arg10.view.writes (Elt F) f w.p10) ∗ (∃ f, arg12.view.loc (c : Thread nD τ) ↦[arg12.view.set]{fullShare} arg12.view.writes (Elt F) f w.p12) ∗ Q13 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ holds c Src7 f7 ∗ holds c Dst11 w.g11 ∗ (∃ W', owes (c : Thread nD τ) 0 W')) -∗ K ⟨⟩))
    ⊢ wp frame (wpE (defs₀ (F := F)) Variants.none c none) Set.univ (cc0_bwd_in i arg1 harg1 arg2 harg2 arg3 harg3 arg4 harg4 arg5 harg5 arg6 harg6 (Memref.whole main_arg6) (Memref.isWhole_whole _) arg8 harg8 arg9 harg9 arg10 harg10 (Memref.whole main_v1_3) (Memref.isWhole_whole _) arg12 harg12 arg13 harg13 cc0_scratch2) K

set_option maxHeartbeats 4000000 in
/-- The run at the first point. -/
def runA (hs : First i) (he : ¬ Final i)
    (x1 : Vec F S512x1536 .bf16) (x2 : Vec F S512x1024 .f32) (x3 : Vec F S512x1024 .f32) (x4 : Vec F S6x1024 .f32) (x5 : Vec F S1x1024 .f32) (x6 : Vec F S4x1024x384 .bf16)

    (f7 : Inside (F := F) c Src7) (f11 : Inside (F := F) c Dst11) :
    { w : Stores F c // Leaves c i arg1 harg1 arg2 harg2 arg3 harg3 arg4 harg4 arg5 harg5 arg6 harg6 arg8 harg8 arg9 harg9 arg10 harg10 arg12 harg12 arg13 harg13 iprop(∃ d, owns (c : Thread nD τ) arg9 fullShare d) iprop(∃ d, owns (c : Thread nD τ) arg10 fullShare d) iprop(∃ d, owns (c : Thread nD τ) arg12 fullShare d) iprop(∃ d, owns (c : Thread nD τ) arg13 fullShare d) iprop(∃ f, arg13.view.loc (c : Thread nD τ) ↦[arg13.view.set]{fullShare} arg13.view.writes (Elt F) f w.p13) x1 x2 x3 x4 x5 x6 f7 f11 w } := by
  refine ⟨⟨?_, ?_, ?_, ?_, ?_, ?_⟩, fun W K => ?run⟩
  case run =>
    dsimp only
    simp only [cc0_bwd_in_eq_skeleton]; unfold cc0_bwd_in_skel
    simp only [k0_part1_eq_skeleton, k0_part2_eq_skeleton, k0_part3_eq_skeleton, k0_part4_eq_skeleton]
    unfold owns
    iintro ⟨⟨%f1, %h1, H1⟩, ⟨%f2, %h2, H2⟩, ⟨%f3, %h3, H3⟩, ⟨%f4, %h4, H4⟩, ⟨%f5, %h5, H5⟩, ⟨%f6, %h6, H6⟩, ⟨%d8, %f8, -, H8⟩, ⟨%d9, %f9, -, H9⟩, ⟨%d10, %f10, -, H10⟩, ⟨%d12, %f12, -, H12⟩, ⟨%d13, %f13, -, H13⟩, Hq0, Hq1, Hq2, Hq3, Hh7, Hh11, HW, Hk⟩

    obtain rfl := harg1.eq_unread h1
    obtain rfl := harg2.eq_unread h2
    obtain rfl := harg3.eq_unread h3
    obtain rfl := harg4.eq_unread h4
    obtain rfl := harg5.eq_unread h5
    obtain rfl := harg6.eq_unread h6
    sl_exec (disch := first | sl_exact hs | sl_exact he)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]; · iexists _; iexact H8
    isplitl [H9]; · iexists _; iexact H9
    isplitl [H10]; · iexists _; iexact H10
    isplitl [H12]; · iexists _; iexact H12
    isplitl [H13]; · iexists _; iexact H13
    isplitl [Hq0]; · iexact Hq0
    isplitl [Hq1]; · iexact Hq1
    isplitl [Hq2]; · iexact Hq2
    isplitl [Hq3]; · iexact Hq3
    isplitl [Hh7]; · iexact Hh7
    isplitl [Hh11]; · iexact Hh11
    iexists _; iexact HW

set_option maxHeartbeats 4000000 in
/-- The run at a middle point. -/
def runB (hs : ¬ First i) (he : ¬ Final i)
    (x1 : Vec F S512x1536 .bf16) (x2 : Vec F S512x1024 .f32) (x3 : Vec F S512x1024 .f32) (x4 : Vec F S6x1024 .f32) (x5 : Vec F S1x1024 .f32) (x6 : Vec F S4x1024x384 .bf16)
    (y9 : Vec F S1x1024 .f32) (y10 : Vec F S1x1024 .f32) (y12 : Vec F S4x2x512x384 .f32) (y13 : Vec F S1024x1536 .bf16)
    (f7 : Inside (F := F) c Src7) (f11 : Inside (F := F) c Dst11) :
    { w : Stores F c // Leaves c i arg1 harg1 arg2 harg2 arg3 harg3 arg4 harg4 arg5 harg5 arg6 harg6 arg8 harg8 arg9 harg9 arg10 harg10 arg12 harg12 arg13 harg13 (owns (c : Thread nD τ) arg9 fullShare y9) (owns (c : Thread nD τ) arg10 fullShare y10) (owns (c : Thread nD τ) arg12 fullShare y12) (owns (c : Thread nD τ) arg13 fullShare y13) (owns (c : Thread nD τ) arg13 fullShare y13) x1 x2 x3 x4 x5 x6 f7 f11 w } := by
  refine ⟨⟨?_, ?_, ?_, ?_, [], ?_⟩, fun W K => ?run⟩
  case run =>
    dsimp only
    simp only [cc0_bwd_in_eq_skeleton]; unfold cc0_bwd_in_skel
    simp only [k0_part1_eq_skeleton, k0_part2_eq_skeleton, k0_part3_eq_skeleton, k0_part4_eq_skeleton]
    unfold owns
    iintro ⟨⟨%f1, %h1, H1⟩, ⟨%f2, %h2, H2⟩, ⟨%f3, %h3, H3⟩, ⟨%f4, %h4, H4⟩, ⟨%f5, %h5, H5⟩, ⟨%f6, %h6, H6⟩, ⟨%d8, %f8, -, H8⟩, ⟨%f9, %h9, H9⟩, ⟨%f10, %h10, H10⟩, ⟨%f12, %h12, H12⟩, ⟨%f13, %h13, H13⟩, Hq0, Hq1, Hq2, Hq3, Hh7, Hh11, HW, Hk⟩

    obtain rfl := harg1.eq_unread h1
    obtain rfl := harg2.eq_unread h2
    obtain rfl := harg3.eq_unread h3
    obtain rfl := harg4.eq_unread h4
    obtain rfl := harg5.eq_unread h5
    obtain rfl := harg6.eq_unread h6
    obtain rfl := harg9.eq_unread h9
    obtain rfl := harg10.eq_unread h10
    obtain rfl := harg12.eq_unread h12
    obtain rfl := harg13.eq_unread h13
    sl_exec (disch := first | sl_exact hs | sl_exact he)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]; · iexists _; iexact H8
    isplitl [H9]; · iexists _; iexact H9
    isplitl [H10]; · iexists _; iexact H10
    isplitl [H12]; · iexists _; iexact H12
    isplitl [H13]
    · iexists _; isplitr; · ipureintro; exact harg13.read_unread _
      iexact H13
    isplitl [Hq0]; · iexact Hq0
    isplitl [Hq1]; · iexact Hq1
    isplitl [Hq2]; · iexact Hq2
    isplitl [Hq3]; · iexact Hq3
    isplitl [Hh7]; · iexact Hh7
    isplitl [Hh11]; · iexact Hh11
    iexists _; iexact HW

set_option sl_exec.dmaWindow true in
set_option sl_exec.dmaWindowSet true in
set_option maxHeartbeats 4000000 in
/-- The run at the last point. -/
def runC (hs : ¬ First i) (he : Final i)
    (x1 : Vec F S512x1536 .bf16) (x2 : Vec F S512x1024 .f32) (x3 : Vec F S512x1024 .f32) (x4 : Vec F S6x1024 .f32) (x5 : Vec F S1x1024 .f32) (x6 : Vec F S4x1024x384 .bf16)
    (y9 : Vec F S1x1024 .f32) (y10 : Vec F S1x1024 .f32) (y12 : Vec F S4x2x512x384 .f32) (y13 : Vec F S1024x1536 .bf16)
    (f7 : Inside (F := F) c Src7) (f11 : Inside (F := F) c Dst11) :
    { w : Stores F c // Leaves c i arg1 harg1 arg2 harg2 arg3 harg3 arg4 harg4 arg5 harg5 arg6 harg6 arg8 harg8 arg9 harg9 arg10 harg10 arg12 harg12 arg13 harg13 (owns (c : Thread nD τ) arg9 fullShare y9) (owns (c : Thread nD τ) arg10 fullShare y10) (owns (c : Thread nD τ) arg12 fullShare y12) (owns (c : Thread nD τ) arg13 fullShare y13) (owns (c : Thread nD τ) arg13 fullShare y13) x1 x2 x3 x4 x5 x6 f7 f11 w } := by
  refine ⟨⟨?_, ?_, ?_, ?_, [], ?_⟩, fun W K => ?run⟩
  case run =>
    dsimp only
    simp only [cc0_bwd_in_eq_skeleton]; unfold cc0_bwd_in_skel
    simp only [k0_part1_eq_skeleton, k0_part2_eq_skeleton, k0_part3_eq_skeleton, k0_part4_eq_skeleton]
    unfold owns
    iintro ⟨⟨%f1, %h1, H1⟩, ⟨%f2, %h2, H2⟩, ⟨%f3, %h3, H3⟩, ⟨%f4, %h4, H4⟩, ⟨%f5, %h5, H5⟩, ⟨%f6, %h6, H6⟩, ⟨%d8, %f8, -, H8⟩, ⟨%f9, %h9, H9⟩, ⟨%f10, %h10, H10⟩, ⟨%f12, %h12, H12⟩, ⟨%f13, %h13, H13⟩, Hq0, Hq1, Hq2, Hq3, Hh7, Hh11, HW, Hk⟩

    obtain rfl := harg1.eq_unread h1
    obtain rfl := harg2.eq_unread h2
    obtain rfl := harg3.eq_unread h3
    obtain rfl := harg4.eq_unread h4
    obtain rfl := harg5.eq_unread h5
    obtain rfl := harg6.eq_unread h6
    obtain rfl := harg9.eq_unread h9
    obtain rfl := harg10.eq_unread h10
    obtain rfl := harg12.eq_unread h12
    obtain rfl := harg13.eq_unread h13
    have a10 : Disjoint (((Memref.whole main_v1_3).slice (Rect.unit (s := S4x2x512x384) ![1, 0, 0, 0] S1x2x512x384.size inb_S4x2x512x384_S1x2x512x384_1_0_0_0) (fun _ => rfl)).squeeze S2x512x384 squeezes_S1x2x512x384_S2x512x384).view.set (((Memref.whole main_v1_3).slice (Rect.unit (s := S4x2x512x384) ![0, 0, 0, 0] S1x2x512x384.size inb_S4x2x512x384_S1x2x512x384_0_0_0_0) (fun _ => rfl)).squeeze S2x512x384 squeezes_S1x2x512x384_S2x512x384).view.set := by
      rw [Memref.set_view_squeeze, Memref.set_view_squeeze]
      exact View.disjoint_slice_of_disj (Memref.whole main_v1_3).view (Rect.unit (s := S4x2x512x384) ![1, 0, 0, 0] S1x2x512x384.size inb_S4x2x512x384_S1x2x512x384_1_0_0_0) (Rect.unit (s := S4x2x512x384) ![0, 0, 0, 0] S1x2x512x384.size inb_S4x2x512x384_S1x2x512x384_0_0_0_0) (by decide +kernel)
    have a20 : Disjoint (((Memref.whole main_v1_3).slice (Rect.unit (s := S4x2x512x384) ![2, 0, 0, 0] S1x2x512x384.size inb_S4x2x512x384_S1x2x512x384_2_0_0_0) (fun _ => rfl)).squeeze S2x512x384 squeezes_S1x2x512x384_S2x512x384).view.set (((Memref.whole main_v1_3).slice (Rect.unit (s := S4x2x512x384) ![0, 0, 0, 0] S1x2x512x384.size inb_S4x2x512x384_S1x2x512x384_0_0_0_0) (fun _ => rfl)).squeeze S2x512x384 squeezes_S1x2x512x384_S2x512x384).view.set := by
      rw [Memref.set_view_squeeze, Memref.set_view_squeeze]
      exact View.disjoint_slice_of_disj (Memref.whole main_v1_3).view (Rect.unit (s := S4x2x512x384) ![2, 0, 0, 0] S1x2x512x384.size inb_S4x2x512x384_S1x2x512x384_2_0_0_0) (Rect.unit (s := S4x2x512x384) ![0, 0, 0, 0] S1x2x512x384.size inb_S4x2x512x384_S1x2x512x384_0_0_0_0) (by decide +kernel)
    have a21 : Disjoint (((Memref.whole main_v1_3).slice (Rect.unit (s := S4x2x512x384) ![2, 0, 0, 0] S1x2x512x384.size inb_S4x2x512x384_S1x2x512x384_2_0_0_0) (fun _ => rfl)).squeeze S2x512x384 squeezes_S1x2x512x384_S2x512x384).view.set (((Memref.whole main_v1_3).slice (Rect.unit (s := S4x2x512x384) ![1, 0, 0, 0] S1x2x512x384.size inb_S4x2x512x384_S1x2x512x384_1_0_0_0) (fun _ => rfl)).squeeze S2x512x384 squeezes_S1x2x512x384_S2x512x384).view.set := by
      rw [Memref.set_view_squeeze, Memref.set_view_squeeze]
      exact View.disjoint_slice_of_disj (Memref.whole main_v1_3).view (Rect.unit (s := S4x2x512x384) ![2, 0, 0, 0] S1x2x512x384.size inb_S4x2x512x384_S1x2x512x384_2_0_0_0) (Rect.unit (s := S4x2x512x384) ![1, 0, 0, 0] S1x2x512x384.size inb_S4x2x512x384_S1x2x512x384_1_0_0_0) (by decide +kernel)
    have a30 : Disjoint (((Memref.whole main_v1_3).slice (Rect.unit (s := S4x2x512x384) ![3, 0, 0, 0] S1x2x512x384.size inb_S4x2x512x384_S1x2x512x384_3_0_0_0) (fun _ => rfl)).squeeze S2x512x384 squeezes_S1x2x512x384_S2x512x384).view.set (((Memref.whole main_v1_3).slice (Rect.unit (s := S4x2x512x384) ![0, 0, 0, 0] S1x2x512x384.size inb_S4x2x512x384_S1x2x512x384_0_0_0_0) (fun _ => rfl)).squeeze S2x512x384 squeezes_S1x2x512x384_S2x512x384).view.set := by
      rw [Memref.set_view_squeeze, Memref.set_view_squeeze]
      exact View.disjoint_slice_of_disj (Memref.whole main_v1_3).view (Rect.unit (s := S4x2x512x384) ![3, 0, 0, 0] S1x2x512x384.size inb_S4x2x512x384_S1x2x512x384_3_0_0_0) (Rect.unit (s := S4x2x512x384) ![0, 0, 0, 0] S1x2x512x384.size inb_S4x2x512x384_S1x2x512x384_0_0_0_0) (by decide +kernel)
    have a31 : Disjoint (((Memref.whole main_v1_3).slice (Rect.unit (s := S4x2x512x384) ![3, 0, 0, 0] S1x2x512x384.size inb_S4x2x512x384_S1x2x512x384_3_0_0_0) (fun _ => rfl)).squeeze S2x512x384 squeezes_S1x2x512x384_S2x512x384).view.set (((Memref.whole main_v1_3).slice (Rect.unit (s := S4x2x512x384) ![1, 0, 0, 0] S1x2x512x384.size inb_S4x2x512x384_S1x2x512x384_1_0_0_0) (fun _ => rfl)).squeeze S2x512x384 squeezes_S1x2x512x384_S2x512x384).view.set := by
      rw [Memref.set_view_squeeze, Memref.set_view_squeeze]
      exact View.disjoint_slice_of_disj (Memref.whole main_v1_3).view (Rect.unit (s := S4x2x512x384) ![3, 0, 0, 0] S1x2x512x384.size inb_S4x2x512x384_S1x2x512x384_3_0_0_0) (Rect.unit (s := S4x2x512x384) ![1, 0, 0, 0] S1x2x512x384.size inb_S4x2x512x384_S1x2x512x384_1_0_0_0) (by decide +kernel)
    have a32 : Disjoint (((Memref.whole main_v1_3).slice (Rect.unit (s := S4x2x512x384) ![3, 0, 0, 0] S1x2x512x384.size inb_S4x2x512x384_S1x2x512x384_3_0_0_0) (fun _ => rfl)).squeeze S2x512x384 squeezes_S1x2x512x384_S2x512x384).view.set (((Memref.whole main_v1_3).slice (Rect.unit (s := S4x2x512x384) ![2, 0, 0, 0] S1x2x512x384.size inb_S4x2x512x384_S1x2x512x384_2_0_0_0) (fun _ => rfl)).squeeze S2x512x384 squeezes_S1x2x512x384_S2x512x384).view.set := by
      rw [Memref.set_view_squeeze, Memref.set_view_squeeze]
      exact View.disjoint_slice_of_disj (Memref.whole main_v1_3).view (Rect.unit (s := S4x2x512x384) ![3, 0, 0, 0] S1x2x512x384.size inb_S4x2x512x384_S1x2x512x384_3_0_0_0) (Rect.unit (s := S4x2x512x384) ![2, 0, 0, 0] S1x2x512x384.size inb_S4x2x512x384_S1x2x512x384_2_0_0_0) (by decide +kernel)
    sl_exec (disch := first | sl_exact hs | sl_exact he)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]; · iexists _; iexact H8
    isplitl [H9]; · iexists _; iexact H9
    isplitl [H10]; · iexists _; iexact H10
    isplitl [H12]; · iexists _; iexact H12
    isplitl [H13]
    · iexists _; isplitr; · ipureintro; exact harg13.read_unread _
      iexact H13
    isplitl [Hq0]; · iexact Hq0
    isplitl [Hq1]; · iexact Hq1
    isplitl [Hq2]; · iexact Hq2
    isplitl [Hq3]; · iexact Hq3
    isplitl [Hh7]; · iexact Hh7
    isplitl [Hh11]; · iexact Hh11
    iexists _; iexact HW

end Cert.BwdInIdeal.Hand

end
-- ==== Proof.BwdInBody.lean ====
module

public import proofs.«01_k».proof.Proof.BwdInRun

/-! The `bwd_in` call as a whole: what its buffers hold after each grid point, point by point, and that every execution
    of the program ends with its arguments as they were, its counters at zero and its results at these contents. -/

@[expose] public section

set_option maxRecDepth 16384

noncomputable section

namespace Cert.BwdInIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BwdInIdeal.Gen

variable {F : FTy → Type} [FloatOps F]
variable (m : (ℓ : Loc nD τ sig) → Buf (Elt F) ℓ) (ρ : Dev nD → PrngReg)

/-! ## Up to the call -/

/-- The buffers as the call finds them, after the host lines before it. -/
abbrev V (c : Dev nD) (b : Ref sig .tc) : Buf (Elt F) ((c : Thread nD τ).loc b) :=
  StableHlo.after hostOps0 (fun b => m (c, b)) b

theorem fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ)
    cfgs 0 defs₀ 𝒱₀ m (main (F := F)) (V m) :=
  Pipeline.hmain_prefix cfgs 0 defs₀ 𝒱₀ m main hostOps0 hostOps0_sub fresh main_chain

/-- A buffer no host line writes is found as launched. -/
theorem V_kept (c : Dev nD) (b : Ref sig .tc) (h0 : b ≠ main_v0) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.reshape_writes, Finset.mem_singleton]
    repeat' apply And.intro
    all_goals first | exact StableHlo.devRef_ne_of_ne h0))

/-- A window's block at a point, read off its array. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's buffer holds its block at every point. -/
theorem before_blk {c : Dev nD} (dat : Dat τ (Elt F) Unit ℕ (Pipeline.UD sig nD τ) ℕ cfg0 c) (w : Fin cfg0.W)
    (hw : (cfg0.win w).isOut = false) (hl : ∀ i, cfg0.idle w i = false)
    (hc : ∀ t t' : Fin cfg0.N, (cfg0.win w).index t = (cfg0.win w).index t' →
      (cfg0.win w).clip (cfg0.grid.coords t) = (cfg0.win w).clip (cfg0.grid.coords t'))
    (hA : dat.A w = V m c (Pipeline.arrRef spec0 w))
    (hk : ∀ t, (cfg0.win w).cut (cfg0.grid.coords t) (dat.after w t) = blk m c w t) (t : Fin cfg0.N) (d) :
    dat.before w t d = dat.fetched w t d :=
  dat.before_in_eq_fetched w hw hl hc (fun t => by rw [hk]; unfold Dat.blockOf blk; rw [hA]) t d

/-! ## The points -/

theorem first_iff : ∀ t : Fin cfg0.N, First (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have h : First (grid0.coords t) ↔ t.val % 8 = 0 := by
      simp only [First, e0]
      word_cmp
    rw [h]; omega
   : ∀ t : Fin grid0.N, First (grid0.coords t) ↔ t.val = 0)

theorem final_iff : ∀ t : Fin cfg0.N, Final (grid0.coords t) ↔ t.val = 7 :=
  (fun t => by
    have ht : t.val < 8 := Nat.lt_of_lt_of_eq t.isLt N_0
    have e0 : (grid0.coords t 0).val = t.val / 1 % 8 := Pipeline.Grid.coords_val t 0 (by decide) rfl
    have h : Final (grid0.coords t) ↔ t.val % 8 = 7 := by
      simp only [Final, e0]
      word_cmp
    rw [h]; omega
   : ∀ t : Fin grid0.N, Final (grid0.coords t) ↔ t.val = 7)

abbrev buf1 (t : Fin cfg0.N) : Memref sig .tc .vmem S512x1536 .bf16 := win0_0.stage (cfg0.slots t 0)
abbrev whole1 (t : Fin cfg0.N) : (buf1 t).IsWhole := hstage0_0 ((cfg0.slots t 0).cast nbuf0_0)
abbrev buf2 (t : Fin cfg0.N) : Memref sig .tc .vmem S512x1024 .f32 := win0_1.stage (cfg0.slots t 1)
abbrev whole2 (t : Fin cfg0.N) : (buf2 t).IsWhole := hstage0_1 ((cfg0.slots t 1).cast nbuf0_1)
abbrev buf3 (t : Fin cfg0.N) : Memref sig .tc .vmem S512x1024 .f32 := win0_2.stage (cfg0.slots t 2)
abbrev whole3 (t : Fin cfg0.N) : (buf3 t).IsWhole := hstage0_2 ((cfg0.slots t 2).cast nbuf0_2)
abbrev buf4 (t : Fin cfg0.N) : Memref sig .tc .vmem S6x1024 .f32 := win0_3.stage (cfg0.slots t 3)
abbrev whole4 (t : Fin cfg0.N) : (buf4 t).IsWhole := hstage0_3 ((cfg0.slots t 3).cast nbuf0_3)
abbrev buf5 (t : Fin cfg0.N) : Memref sig .tc .vmem S1x1024 .f32 := win0_4.stage (cfg0.slots t 4)
abbrev whole5 (t : Fin cfg0.N) : (buf5 t).IsWhole := hstage0_4 ((cfg0.slots t 4).cast nbuf0_4)
abbrev buf6 (t : Fin cfg0.N) : Memref sig .tc .vmem S4x1024x384 .bf16 := win0_5.stage (cfg0.slots t 5)
abbrev whole6 (t : Fin cfg0.N) : (buf6 t).IsWhole := hstage0_5 ((cfg0.slots t 5).cast nbuf0_5)
abbrev buf8 (t : Fin cfg0.N) : Memref sig .tc .vmem S512x1024 .f32 := win0_6.stage (cfg0.slots t 6)
abbrev whole8 (t : Fin cfg0.N) : (buf8 t).IsWhole := hstage0_6 ((cfg0.slots t 6).cast nbuf0_6)
abbrev buf9 (t : Fin cfg0.N) : Memref sig .tc .vmem S1x1024 .f32 := win0_7.stage (cfg0.slots t 7)
abbrev whole9 (t : Fin cfg0.N) : (buf9 t).IsWhole := hstage0_7 ((cfg0.slots t 7).cast nbuf0_7)
abbrev buf10 (t : Fin cfg0.N) : Memref sig .tc .vmem S1x1024 .f32 := win0_8.stage (cfg0.slots t 8)
abbrev whole10 (t : Fin cfg0.N) : (buf10 t).IsWhole := hstage0_8 ((cfg0.slots t 8).cast nbuf0_8)
abbrev scr12 : Memref sig .tc .vmem S4x2x512x384 .f32 := Memref.whole cc0_scratch0
abbrev view12 : View sig .tc .vmem S4x2x512x384 .f32 := scr12.view
abbrev scr13 : Memref sig .tc .vmem S1024x1536 .bf16 := Memref.whole cc0_scratch1
abbrev view13 : View sig .tc .vmem S1024x1536 .bf16 := scr13.view
abbrev view8 : View sig .tc .vmem S512x1024 .f32 := (Memref.whole cc0_stg6_0 : Memref sig .tc .vmem S512x1024 .f32).view
abbrev view9 : View sig .tc .vmem S1x1024 .f32 := (Memref.whole cc0_stg7_0 : Memref sig .tc .vmem S1x1024 .f32).view
abbrev view10 : View sig .tc .vmem S1x1024 .f32 := (Memref.whole cc0_stg8_0 : Memref sig .tc .vmem S1x1024 .f32).view

/-- What the outputs, the carried scratch and the results written by copies hold after a point. -/
structure State (F : FTy → Type) [FloatOps F] (c : Dev nD) where
  v8 : Vec F S512x1024 .f32
  v9 : Vec F S1x1024 .f32
  v10 : Vec F S1x1024 .f32
  v12 : Vec F S4x2x512x384 .f32
  v13 : Vec F S1024x1536 .bf16
  g11 : Inside (F := F) c Dst11

/-- The stores of a point read back. -/
def after {c : Dev nD} (w : Stores F c) (k13 : Vec F S1024x1536 .bf16) : State F c where
  v8 := view8.read (Elt F) (view8.writes (Elt F) view8.junk w.p8)
  v9 := view9.read (Elt F) (view9.writes (Elt F) view9.junk w.p9)
  v10 := view10.read (Elt F) (view10.writes (Elt F) view10.junk w.p10)
  v12 := view12.read (Elt F) (view12.writes (Elt F) view12.junk w.p12)
  v13 := k13
  g11 := w.g11

/-- The stores reach every element of what they are made to. -/
def Covered {c : Dev nD} (w : Stores F c) : Prop :=
  (∀ y : (S512x1024 : Shape).Idx, ∃ pc ∈ w.p8, y ∈ pc.1.set) ∧ (∀ y : (S1x1024 : Shape).Idx, ∃ pc ∈ w.p9, y ∈ pc.1.set) ∧ (∀ y : (S1x1024 : Shape).Idx, ∃ pc ∈ w.p10, y ∈ pc.1.set) ∧ (∀ y : (S4x2x512x384 : Shape).Idx, ∃ pc ∈ w.p12, y ∈ pc.1.set)

section
variable (c : Dev nD) (i : grid0.Coords)
  (arg1 : Memref sig .tc .vmem S512x1536 .bf16) (harg1 : arg1.IsWhole)
  (arg2 : Memref sig .tc .vmem S512x1024 .f32) (harg2 : arg2.IsWhole)
  (arg3 : Memref sig .tc .vmem S512x1024 .f32) (harg3 : arg3.IsWhole)
  (arg4 : Memref sig .tc .vmem S6x1024 .f32) (harg4 : arg4.IsWhole)
  (arg5 : Memref sig .tc .vmem S1x1024 .f32) (harg5 : arg5.IsWhole)
  (arg6 : Memref sig .tc .vmem S4x1024x384 .bf16) (harg6 : arg6.IsWhole)
  (arg8 : Memref sig .tc .vmem S512x1024 .f32) (harg8 : arg8.IsWhole)
  (arg9 : Memref sig .tc .vmem S1x1024 .f32) (harg9 : arg9.IsWhole)
  (arg10 : Memref sig .tc .vmem S1x1024 .f32) (harg10 : arg10.IsWhole)
  (arg12 : Memref sig .tc .vmem S4x2x512x384 .f32) (harg12 : arg12.IsWhole)
  (arg13 : Memref sig .tc .vmem S1024x1536 .bf16) (harg13 : arg13.IsWhole)
  (x1 : Vec F S512x1536 .bf16) (x2 : Vec F S512x1024 .f32) (x3 : Vec F S512x1024 .f32) (x4 : Vec F S6x1024 .f32) (x5 : Vec F S1x1024 .f32) (x6 : Vec F S4x1024x384 .bf16)
  (y9 : Vec F S1x1024 .f32) (y10 : Vec F S1x1024 .f32) (y12 : Vec F S4x2x512x384 .f32) (y13 : Vec F S1024x1536 .bf16)
  (f7 : Inside (F := F) c Src7) (f11 : Inside (F := F) c Dst11)

theorem coveredA (hs : First i) (he : ¬ Final i) : Covered (runA c i arg1 harg1 arg2 harg2 arg3 harg3 arg4 harg4 arg5 harg5 arg6 harg6 arg8 harg8 arg9 harg9 arg10 harg10 arg12 harg12 arg13 harg13 hs he x1 x2 x3 x4 x5 x6 f7 f11).1 :=
  ⟨View.cover_of_tiledL _ S512x1024.size (by sl_kernel_rfl), View.cover_of_tiledL _ S1x1024.size (by sl_kernel_rfl), View.cover_of_tiledL _ S1x1024.size (by sl_kernel_rfl), View.cover_of_wholeMem _ (by sl_whole_mem)⟩
theorem coveredA13 (hs : First i) (he : ¬ Final i) (y : (S1024x1536 : Shape).Idx) : ∃ pc ∈ (runA c i arg1 harg1 arg2 harg2 arg3 harg3 arg4 harg4 arg5 harg5 arg6 harg6 arg8 harg8 arg9 harg9 arg10 harg10 arg12 harg12 arg13 harg13 hs he x1 x2 x3 x4 x5 x6 f7 f11).1.p13, y ∈ pc.1.set :=
  View.cover_of_tiledL (runA c i arg1 harg1 arg2 harg2 arg3 harg3 arg4 harg4 arg5 harg5 arg6 harg6 arg8 harg8 arg9 harg9 arg10 harg10 arg12 harg12 arg13 harg13 hs he x1 x2 x3 x4 x5 x6 f7 f11).1.p13 S1024x384.size (by sl_kernel_rfl) y
theorem coveredB (hs : ¬ First i) (he : ¬ Final i) : Covered (runB c i arg1 harg1 arg2 harg2 arg3 harg3 arg4 harg4 arg5 harg5 arg6 harg6 arg8 harg8 arg9 harg9 arg10 harg10 arg12 harg12 arg13 harg13 hs he x1 x2 x3 x4 x5 x6 y9 y10 y12 y13 f7 f11).1 :=
  ⟨View.cover_of_tiledL _ S512x1024.size (by sl_kernel_rfl), View.cover_of_tiledL _ S1x1024.size (by sl_kernel_rfl), View.cover_of_tiledL _ S1x1024.size (by sl_kernel_rfl), View.cover_of_tiledL _ S1x2x512x384.size (by sl_kernel_rfl)⟩
theorem coveredC (hs : ¬ First i) (he : Final i) : Covered (runC c i arg1 harg1 arg2 harg2 arg3 harg3 arg4 harg4 arg5 harg5 arg6 harg6 arg8 harg8 arg9 harg9 arg10 harg10 arg12 harg12 arg13 harg13 hs he x1 x2 x3 x4 x5 x6 y9 y10 y12 y13 f7 f11).1 :=
  ⟨View.cover_of_tiledL _ S512x1024.size (by sl_kernel_rfl), View.cover_of_tiledL _ S1x1024.size (by sl_kernel_rfl), View.cover_of_tiledL _ S1x1024.size (by sl_kernel_rfl), View.cover_of_tiledL _ S1x2x512x384.size (by sl_kernel_rfl)⟩
end

/-- The stores of the first point. -/
def storesA (c : Dev nD) (t : Fin cfg0.N) (h : t.val = 0) : Stores F c :=
  (runA c (grid0.coords t) (buf1 t) (whole1 t) (buf2 t) (whole2 t) (buf3 t) (whole3 t) (buf4 t) (whole4 t) (buf5 t) (whole5 t) (buf6 t) (whole6 t) (buf8 t) (whole8 t) (buf9 t) (whole9 t) (buf10 t) (whole10 t) scr12 (Memref.isWhole_whole _) scr13 (Memref.isWhole_whole _) ((first_iff t).mpr h) (fun e => by have := (final_iff t).mp e; omega) (blk m c 0 t) (blk m c 1 t) (blk m c 2 t) (blk m c 3 t) (blk m c 4 t) (blk m c 5 t) (V m c main_arg6) (V m c main_v1_3)).1
/-- The stores of a middle point, over what the point before left. -/
def storesB (c : Dev nD) (t : Fin cfg0.N) (s : State F c) (h : t.val ≠ 0) (h' : t.val ≠ 7) : Stores F c :=
  (runB c (grid0.coords t) (buf1 t) (whole1 t) (buf2 t) (whole2 t) (buf3 t) (whole3 t) (buf4 t) (whole4 t) (buf5 t) (whole5 t) (buf6 t) (whole6 t) (buf8 t) (whole8 t) (buf9 t) (whole9 t) (buf10 t) (whole10 t) scr12 (Memref.isWhole_whole _) scr13 (Memref.isWhole_whole _) (fun e => h ((first_iff t).mp e)) (fun e => h' ((final_iff t).mp e)) (blk m c 0 t) (blk m c 1 t) (blk m c 2 t) (blk m c 3 t) (blk m c 4 t) (blk m c 5 t) s.v9 s.v10 s.v12 s.v13 (V m c main_arg6) s.g11).1
/-- The stores of the last point, over what the point before left. -/
def storesC (c : Dev nD) (t : Fin cfg0.N) (s : State F c) (h' : t.val = 7) : Stores F c :=
  (runC c (grid0.coords t) (buf1 t) (whole1 t) (buf2 t) (whole2 t) (buf3 t) (whole3 t) (buf4 t) (whole4 t) (buf5 t) (whole5 t) (buf6 t) (whole6 t) (buf8 t) (whole8 t) (buf9 t) (whole9 t) (buf10 t) (whole10 t) scr12 (Memref.isWhole_whole _) scr13 (Memref.isWhole_whole _) (fun e => by have := (first_iff t).mp e; omega) ((final_iff t).mpr h') (blk m c 0 t) (blk m c 1 t) (blk m c 2 t) (blk m c 3 t) (blk m c 4 t) (blk m c 5 t) s.v9 s.v10 s.v12 s.v13 (V m c main_arg6) s.g11).1

/-- What the buffers hold after each point. -/
def state (c : Dev nD) : (n : ℕ) → n < cfg0.N → State F c
  | 0, h => after (storesA m c ⟨0, h⟩ rfl) (view13.read (Elt F) (view13.writes (Elt F) view13.junk (storesA m c ⟨0, h⟩ rfl).p13))
  | n + 1, h =>
    if e : n + 1 = 7 then after (storesC m c ⟨n + 1, h⟩ (state c n (by omega)) e) (state c n (by omega)).v13
    else after (storesB m c ⟨n + 1, h⟩ (state c n (by omega)) (Nat.succ_ne_zero n) e) (state c n (by omega)).v13

/-- The state the point before left. -/
abbrev past (c : Dev nD) (t : Fin cfg0.N) : State F c := state m c (t.val - 1) (Nat.lt_of_le_of_lt (Nat.sub_le _ _) t.isLt)

theorem state_A (c : Dev nD) (t : Fin cfg0.N) (h : t.val = 0) :
    state m c t.val t.isLt = after (storesA m c t h) (view13.read (Elt F) (view13.writes (Elt F) view13.junk (storesA m c t h).p13)) := by
  obtain ⟨n, hn⟩ := t
  dsimp only at h
  subst h
  rfl

theorem state_B (c : Dev nD) (t : Fin cfg0.N) (h : t.val ≠ 0) (h' : t.val ≠ 7) :
    state m c t.val t.isLt = after (storesB m c t (past m c t) h h') (past m c t).v13 := by
  obtain ⟨n, hn⟩ := t
  cases n with
  | zero => exact absurd rfl h
  | succ n => exact dif_neg h'

theorem state_C (c : Dev nD) (t : Fin cfg0.N) (h' : t.val = 7) :
    state m c t.val t.isLt = after (storesC m c t (past m c t) h') (past m c t).v13 := by
  obtain ⟨n, hn⟩ := t
  cases n with
  | zero => exact absurd h' (show ¬ (0 : ℕ) = 7 by decide)
  | succ n => exact dif_pos h'

/-! ## The call's own cells and the arrays it copies -/

abbrev cells : Fin 4 → SemLoc sig := fun j => (![SemLoc.dma 13, SemLoc.dma 14, SemLoc.dma 15, SemLoc.dma 16] : Fin 4 → SemLoc sig) j
theorem cells_own : Pipeline.OwnSemFacts spec0 cells := by decide
/-- The cells at zero. -/
abbrev atZero (c : Dev nD) : sProp (Res F) := iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0)
theorem cells_eq (c : Dev nD) :
    (Pipeline.ownSems0 (Ix := Unit) (Name := ℕ) (U := Pipeline.UD sig nD τ) (Lvl := ℕ) (Val := Elt F) (τ := τ) cells c : sProp (Res F)) = atZero c := by
  rw [Pipeline.ownSems0_eq_of_list c cells [0, 1, 2, 3] (by decide) (by decide)]; rfl
/-- The arrays only read, and the ones the copies write. -/
def readOnly : Finset (Ref sig .tc) := {main_arg6}
def copied : Finset (Ref sig .tc) := {main_v1_3}
theorem readOnly_sub : readOnly ⊆ Pipeline.restRefs sig spec0 := by decide
theorem copied_sub : copied ⊆ Pipeline.restRefs sig spec0 \ readOnly := by decide

theorem readOnly_eq (c : Dev nD) :
    (bigSep readOnly (fun b => ((c : Thread nD τ).loc b) ↦{fullShare} V m c b) : sProp (Res F)) = iprop(holds c Src7 (V m c main_arg6)) := by
  rw [BI.bigSep_eq_bigSepL_of_eq [main_arg6] (by decide) (by decide)]; rfl
theorem copied_eq (c : Dev nD) (G : (b : Ref sig .tc) → Buf (Elt F) ((c : Thread nD τ).loc b)) :
    (Pipeline.routed copied c G : sProp (Res F)) = iprop(holds c Dst11 (G main_v1_3)) := by
  unfold Pipeline.routed; rw [BI.bigSep_eq_bigSepL_of_eq [main_v1_3] (by decide) (by decide)]; rfl

/-- The invariant between points: the scratch, the random state, the cells at zero, the arrays read and the ones written. -/
abbrev between (c : Dev nD) (S12 S13 : sProp (Res F)) (g11 : Inside (F := F) c Dst11) : sProp (Res F) :=
  iprop(iprop(S12 ∗ S13) ∗ (∃ r, prngReg c r) ∗ atZero c ∗ iprop(holds c Src7 (V m c main_arg6)) ∗ iprop(holds c Dst11 g11))

theorem launch_eq (c : Dev nD) (G : (c : Dev nD) → (b : Ref sig .tc) → Buf (Elt F) ((c : Thread nD τ).loc b)) :
    (Pipeline.ΦDRG cells spec0 readOnly copied (V m) G c : sProp (Res F))
      = between m c iprop(∃ d, owns (c : Thread nD τ) scr12 fullShare d) iprop(∃ d, owns (c : Thread nD τ) scr13 fullShare d) (G c main_v1_3) := by
  rw [Pipeline.ΦDRG_eq, scopedRest0_eq, cells_eq, readOnly_eq, copied_eq]
  simp only [scr12, scr13, owns_whole]; try rfl

def inv (c : Dev nD) : (n : ℕ) → n ≤ cfg0.N → sProp (Res F)
  | 0, _ => Pipeline.ΦDRG cells spec0 readOnly copied (V m) (V m) c
  | n + 1, h => between m c (owns (c : Thread nD τ) scr12 fullShare (state m c n h).v12) (owns (c : Thread nD τ) scr13 fullShare (state m c n h).v13) (state m c n h).g11

theorem inv_zero (c : Dev nD) (n : ℕ) (h : n ≤ cfg0.N) (e : n = 0) :
    inv m c n h = between m c iprop(∃ d, owns (c : Thread nD τ) scr12 fullShare d) iprop(∃ d, owns (c : Thread nD τ) scr13 fullShare d) (V m c main_v1_3) := by
  subst e; exact launch_eq m c (V m)

theorem inv_succ (c : Dev nD) (n : ℕ) (h : n + 1 ≤ cfg0.N) :
    inv m c (n + 1) h = between m c (owns (c : Thread nD τ) scr12 fullShare (state m c n h).v12) (owns (c : Thread nD τ) scr13 fullShare (state m c n h).v13) (state m c n h).g11 := rfl

theorem inv_pos (c : Dev nD) (n : ℕ) (h : n ≤ cfg0.N) (e : n ≠ 0) :
    inv m c n h = between m c (owns (c : Thread nD τ) scr12 fullShare (state m c (n - 1) (by omega)).v12) (owns (c : Thread nD τ) scr13 fullShare (state m c (n - 1) (by omega)).v13) (state m c (n - 1) (by omega)).g11 := by
  cases n with
  | zero => exact absurd rfl e
  | succ n => rfl

/-- What the pipeline is told: the arrays, what each point leaves in each window's buffer, the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => (state m c t.val t.isLt).v8
    | ⟨7, _⟩ => (state m c t.val t.isLt).v9
    | ⟨8, _⟩ => (state m c t.val t.isLt).v10
  Φ t := inv m c t.val (Nat.le_of_lt_succ t.isLt)
  q _ := fullShare
  owed _ := 0

theorem arrays (c : Dev nD) (w : Fin cfg0.W) : (dats m 0 c).A w = V m c (Pipeline.arrRef spec0 w) := by
  dsimp only [dats]

theorem inv_start (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = blk m c 0 t := by dsimp only [dats]
theorem after_1 (c : Dev nD) (t : Fin cfg0.N) : (dats m 0 c).after 1 t = blk m c 1 t := by dsimp only [dats]
theorem after_2 (c : Dev nD) (t : Fin cfg0.N) : (dats m 0 c).after 2 t = blk m c 2 t := by dsimp only [dats]
theorem after_3 (c : Dev nD) (t : Fin cfg0.N) : (dats m 0 c).after 3 t = blk m c 3 t := by dsimp only [dats]
theorem after_4 (c : Dev nD) (t : Fin cfg0.N) : (dats m 0 c).after 4 t = blk m c 4 t := by dsimp only [dats]
theorem after_5 (c : Dev nD) (t : Fin cfg0.N) : (dats m 0 c).after 5 t = blk m c 5 t := by dsimp only [dats]
theorem after_6 (c : Dev nD) (t : Fin cfg0.N) : (dats m 0 c).after 6 t = (state m c t.val t.isLt).v8 := by dsimp only [dats]
theorem after_7 (c : Dev nD) (t : Fin cfg0.N) : (dats m 0 c).after 7 t = (state m c t.val t.isLt).v9 := by dsimp only [dats]
theorem after_8 (c : Dev nD) (t : Fin cfg0.N) : (dats m 0 c).after 8 t = (state m c t.val t.isLt).v10 := by dsimp only [dats]
theorem before_0 (c : Dev nD) (t : Fin cfg0.N) (d) : (dats m 0 c).before 0 t d = blk m c 0 t :=
  (before_blk m (dats m 0 c) 0 rfl (fun _ => rfl) (fun _ _ _ => rfl) (arrays m c 0) (fun t => by rw [after_0]; try rfl) t d).trans
    (by unfold Dat.fetched Dat.blockOf blk; rw [arrays]; try rfl)
theorem before_1 (c : Dev nD) (t : Fin cfg0.N) (d) : (dats m 0 c).before 1 t d = blk m c 1 t :=
  (before_blk m (dats m 0 c) 1 rfl (fun _ => rfl) (fun _ _ _ => rfl) (arrays m c 1) (fun t => by rw [after_1]; try rfl) t d).trans
    (by unfold Dat.fetched Dat.blockOf blk; rw [arrays]; try rfl)
theorem before_2 (c : Dev nD) (t : Fin cfg0.N) (d) : (dats m 0 c).before 2 t d = blk m c 2 t :=
  (before_blk m (dats m 0 c) 2 rfl (fun _ => rfl) (fun _ _ _ => rfl) (arrays m c 2) (fun t => by rw [after_2]; try rfl) t d).trans
    (by unfold Dat.fetched Dat.blockOf blk; rw [arrays]; try rfl)
theorem before_3 (c : Dev nD) (t : Fin cfg0.N) (d) : (dats m 0 c).before 3 t d = blk m c 3 t :=
  (before_blk m (dats m 0 c) 3 rfl (fun _ => rfl) (fun _ _ _ => rfl) (arrays m c 3) (fun t => by rw [after_3]; try rfl) t d).trans
    (by unfold Dat.fetched Dat.blockOf blk; rw [arrays]; try rfl)
theorem before_4 (c : Dev nD) (t : Fin cfg0.N) (d) : (dats m 0 c).before 4 t d = blk m c 4 t :=
  (before_blk m (dats m 0 c) 4 rfl (fun _ => rfl) (fun _ _ _ => rfl) (arrays m c 4) (fun t => by rw [after_4]; try rfl) t d).trans
    (by unfold Dat.fetched Dat.blockOf blk; rw [arrays]; try rfl)
theorem before_5 (c : Dev nD) (t : Fin cfg0.N) (d) : (dats m 0 c).before 5 t d = blk m c 5 t :=
  (before_blk m (dats m 0 c) 5 rfl (fun _ => rfl) (fun _ _ _ => rfl) (arrays m c 5) (fun t => by rw [after_5]; try rfl) t d).trans
    (by unfold Dat.fetched Dat.blockOf blk; rw [arrays]; try rfl)
theorem before_7 (c : Dev nD) (t : Fin cfg0.N) (h : t.val ≠ 0) (d) : (dats m 0 c).before 7 t d = (past m c t).v9 := by
  have hN : t.val < 8 := lt_of_lt_of_eq t.isLt (show cfg0.N = 8 from N_0)
  rw [Dat.before_out_kept _ 7 rfl t (by omega)
    (Bool.eq_false_iff.mpr fun e => by have := (flush0_7 _).mp e; dsimp only at this; omega) (fun _ => rfl) (fun _ _ => rfl)]
  dsimp only [dats]
theorem before_8 (c : Dev nD) (t : Fin cfg0.N) (h : t.val ≠ 0) (d) : (dats m 0 c).before 8 t d = (past m c t).v10 := by
  have hN : t.val < 8 := lt_of_lt_of_eq t.isLt (show cfg0.N = 8 from N_0)
  rw [Dat.before_out_kept _ 8 rfl t (by omega)
    (Bool.eq_false_iff.mpr fun e => by have := (flush0_8 _).mp e; dsimp only at this; omega) (fun _ => rfl) (fun _ _ => rfl)]
  dsimp only [dats]

/-- What the body is given at a point. -/
def before (c : Dev nD) (t : Fin cfg0.N) : sProp (Res F) :=
  iprop((dats m 0 c).Φ t.castSucc ∗ (dats m 0 c).owesAt () t.castSucc
    ∗ (∃ d, owns (c : Thread nD τ) (buf1 t) fullShare ((dats m 0 c).before 0 t d))
    ∗ (∃ d, owns (c : Thread nD τ) (buf2 t) fullShare ((dats m 0 c).before 1 t d))
    ∗ (∃ d, owns (c : Thread nD τ) (buf3 t) fullShare ((dats m 0 c).before 2 t d))
    ∗ (∃ d, owns (c : Thread nD τ) (buf4 t) fullShare ((dats m 0 c).before 3 t d))
    ∗ (∃ d, owns (c : Thread nD τ) (buf5 t) fullShare ((dats m 0 c).before 4 t d))
    ∗ (∃ d, owns (c : Thread nD τ) (buf6 t) fullShare ((dats m 0 c).before 5 t d))
    ∗ (∃ d, owns (c : Thread nD τ) (buf8 t) fullShare ((dats m 0 c).before 6 t d))
    ∗ (∃ d, owns (c : Thread nD τ) (buf9 t) fullShare ((dats m 0 c).before 7 t d))
    ∗ (∃ d, owns (c : Thread nD τ) (buf10 t) fullShare ((dats m 0 c).before 8 t d)))
/-- What it gives back. -/
def given (c : Dev nD) (t : Fin cfg0.N) : sProp (Res F) :=
  iprop((dats m 0 c).Φ t.succ ∗ (dats m 0 c).owesAt () t.succ
    ∗ owns (c : Thread nD τ) (buf1 t) fullShare ((dats m 0 c).after 0 t)
    ∗ owns (c : Thread nD τ) (buf2 t) fullShare ((dats m 0 c).after 1 t)
    ∗ owns (c : Thread nD τ) (buf3 t) fullShare ((dats m 0 c).after 2 t)
    ∗ owns (c : Thread nD τ) (buf4 t) fullShare ((dats m 0 c).after 3 t)
    ∗ owns (c : Thread nD τ) (buf5 t) fullShare ((dats m 0 c).after 4 t)
    ∗ owns (c : Thread nD τ) (buf6 t) fullShare ((dats m 0 c).after 5 t)
    ∗ owns (c : Thread nD τ) (buf8 t) fullShare ((dats m 0 c).after 6 t)
    ∗ owns (c : Thread nD τ) (buf9 t) fullShare ((dats m 0 c).after 7 t)
    ∗ owns (c : Thread nD τ) (buf10 t) fullShare ((dats m 0 c).after 8 t))

set_option maxHeartbeats 9600000 in
theorem soundA (c : Dev nD) (t : Fin cfg0.N) (h : t.val = 0) :
    before m c t ⊢ wp frame (wpE (defs₀ (F := F)) Variants.none c none) Set.univ (bodyAt0 t) (fun _ => given m c t) := by
  unfold before given bodyAt0
  simp only [before_0, before_1, before_2, before_3, before_4, before_5]
  rw [show (dats m 0 c).Φ t.succ = inv m c (t.val + 1) t.isLt from rfl, inv_succ m c t.val t.isLt,
    after_0, after_1, after_2, after_3, after_4, after_5, after_6, after_7, after_8]
  unfold Dat.owesAt Pipeline.owesWithin
  rw [show (dats m 0 c).owed t.castSucc = 0 from rfl, show (dats m 0 c).owed t.succ = 0 from rfl, inv_start m c t
    , inv_zero m c _ _ h]
  simp only [Nat.add_sub_cancel, state_A m c t h, after, storesA]
  have hc : Covered (runA c (grid0.coords t) (buf1 t) (whole1 t) (buf2 t) (whole2 t) (buf3 t) (whole3 t) (buf4 t) (whole4 t) (buf5 t) (whole5 t) (buf6 t) (whole6 t) (buf8 t) (whole8 t) (buf9 t) (whole9 t) (buf10 t) (whole10 t) scr12 (Memref.isWhole_whole _) scr13 (Memref.isWhole_whole _) ((first_iff t).mpr h) (fun e => by have := (final_iff t).mp e; omega) (blk m c 0 t) (blk m c 1 t) (blk m c 2 t) (blk m c 3 t) (blk m c 4 t) (blk m c 5 t) (V m c main_arg6) (V m c main_v1_3)).1 := coveredA c (grid0.coords t) (buf1 t) (whole1 t) (buf2 t) (whole2 t) (buf3 t) (whole3 t) (buf4 t) (whole4 t) (buf5 t) (whole5 t) (buf6 t) (whole6 t) (buf8 t) (whole8 t) (buf9 t) (whole9 t) (buf10 t) (whole10 t) scr12 (Memref.isWhole_whole _) scr13 (Memref.isWhole_whole _) (blk m c 0 t) (blk m c 1 t) (blk m c 2 t) (blk m c 3 t) (blk m c 4 t) (blk m c 5 t)  (V m c main_arg6) (V m c main_v1_3) ((first_iff t).mpr h) (fun e => by have := (final_iff t).mp e; omega)
  have hk13 := coveredA13 c (grid0.coords t) (buf1 t) (whole1 t) (buf2 t) (whole2 t) (buf3 t) (whole3 t) (buf4 t) (whole4 t) (buf5 t) (whole5 t) (buf6 t) (whole6 t) (buf8 t) (whole8 t) (buf9 t) (whole9 t) (buf10 t) (whole10 t) scr12 (Memref.isWhole_whole _) scr13 (Memref.isWhole_whole _) (blk m c 0 t) (blk m c 1 t) (blk m c 2 t) (blk m c 3 t) (blk m c 4 t) (blk m c 5 t) (V m c main_arg6) (V m c main_v1_3) ((first_iff t).mpr h) (fun e => by have := (final_iff t).mp e; omega)
  unfold between atZero
  iintro ⟨⟨⟨H12, H13⟩, Hg, ⟨Hq0, Hq1, Hq2, Hq3⟩, Hh7, Hh11⟩, ⟨%W, -, HW⟩, ⟨%d0, H1⟩, ⟨%d1, H2⟩, ⟨%d2, H3⟩, ⟨%d3, H4⟩, ⟨%d4, H5⟩, ⟨%d5, H6⟩, ⟨%d6, H8⟩, ⟨%d7, H9⟩, ⟨%d8, H10⟩⟩
  iapply ((runA c (grid0.coords t) (buf1 t) (whole1 t) (buf2 t) (whole2 t) (buf3 t) (whole3 t) (buf4 t) (whole4 t) (buf5 t) (whole5 t) (buf6 t) (whole6 t) (buf8 t) (whole8 t) (buf9 t) (whole9 t) (buf10 t) (whole10 t) scr12 (Memref.isWhole_whole _) scr13 (Memref.isWhole_whole _) ((first_iff t).mpr h) (fun e => by have := (final_iff t).mp e; omega) (blk m c 0 t) (blk m c 1 t) (blk m c 2 t) (blk m c 3 t) (blk m c 4 t) (blk m c 5 t) (V m c main_arg6) (V m c main_v1_3)).2 W _)
  isplitl [H1]; · iexact H1
  isplitl [H2]; · iexact H2
  isplitl [H3]; · iexact H3
  isplitl [H4]; · iexact H4
  isplitl [H5]; · iexact H5
  isplitl [H6]; · iexact H6
  isplitl [H8]; · iexists _; iexact H8
  isplitl [H9]; · iexists _; iexact H9
  isplitl [H10]; · iexists _; iexact H10
  isplitl [H12]; · iexact H12
  isplitl [H13]; · iexact H13
  isplitl [Hq0]; · iexact Hq0
  isplitl [Hq1]; · iexact Hq1
  isplitl [Hq2]; · iexact Hq2
  isplitl [Hq3]; · iexact Hq3
  isplitl [Hh7]; · iexact Hh7
  isplitl [Hh11]; · iexact Hh11
  isplitl [HW]; · iexact HW
  iintro ⟨H1, H2, H3, H4, H5, H6, ⟨%e8, H8⟩, ⟨%e9, H9⟩, ⟨%e10, H10⟩, ⟨%e12, H12⟩, ⟨%e13, H13⟩, Hq0, Hq1, Hq2, Hq3, Hh7, Hh11, ⟨%W', HW'⟩⟩
  isplitl [H12 H13 Hg Hq0 Hq1 Hq2 Hq3 Hh7 Hh11]
  · isplitl [H12 H13]
    · skip
      isplitl [H12]
      · skip
        unfold owns; iexists _; isplitr
        swap; · iexact H12
        ipureintro; exact View.read_writes_of_cover _ _ _ _ _ (hc.2.2.2)
      unfold owns; iexists _; isplitr
      swap; · iexact H13
      ipureintro; exact View.read_writes_of_cover _ _ _ _ _ hk13
    isplitl [Hg]; · iexact Hg
    isplitl [Hq0 Hq1 Hq2 Hq3]
    · skip
      isplitl [Hq0]; · iexact Hq0
      isplitl [Hq1]; · iexact Hq1
      isplitl [Hq2]; · iexact Hq2
      iexact Hq3
    isplitl [Hh7]; · iexact Hh7
    iexact Hh11
  isplitl [HW']
  · iexists W'; isplitr; · ipureintro; exact fun _ _ => Or.inl trivial
    iexact HW'
  isplitl [H1]; · iexact H1
  isplitl [H2]; · iexact H2
  isplitl [H3]; · iexact H3
  isplitl [H4]; · iexact H4
  isplitl [H5]; · iexact H5
  isplitl [H6]; · iexact H6
  isplitl [H8]
  · skip
    unfold owns; iexists _; isplitr
    swap; · iexact H8
    ipureintro; exact View.read_writes_of_cover _ _ _ _ _ (hc.1)
  isplitl [H9]
  · skip
    unfold owns; iexists _; isplitr
    swap; · iexact H9
    ipureintro; exact View.read_writes_of_cover _ _ _ _ _ (hc.2.1)
  unfold owns; iexists _; isplitr
  swap; · iexact H10
  ipureintro; exact View.read_writes_of_cover _ _ _ _ _ (hc.2.2.1)

set_option maxHeartbeats 9600000 in
theorem soundB (c : Dev nD) (t : Fin cfg0.N) (h : t.val ≠ 0) (h' : t.val ≠ 7) :
    before m c t ⊢ wp frame (wpE (defs₀ (F := F)) Variants.none c none) Set.univ (bodyAt0 t) (fun _ => given m c t) := by
  unfold before given bodyAt0
  simp only [before_0, before_1, before_2, before_3, before_4, before_5]
  rw [show (dats m 0 c).Φ t.succ = inv m c (t.val + 1) t.isLt from rfl, inv_succ m c t.val t.isLt,
    after_0, after_1, after_2, after_3, after_4, after_5, after_6, after_7, after_8]
  unfold Dat.owesAt Pipeline.owesWithin
  rw [show (dats m 0 c).owed t.castSucc = 0 from rfl, show (dats m 0 c).owed t.succ = 0 from rfl, inv_start m c t
    , inv_pos m c _ _ h]
  simp only [Nat.add_sub_cancel, state_B m c t h h', after, storesB]
  simp only [before_7 m c t h, before_8 m c t h]
  have hc : Covered (runB c (grid0.coords t) (buf1 t) (whole1 t) (buf2 t) (whole2 t) (buf3 t) (whole3 t) (buf4 t) (whole4 t) (buf5 t) (whole5 t) (buf6 t) (whole6 t) (buf8 t) (whole8 t) (buf9 t) (whole9 t) (buf10 t) (whole10 t) scr12 (Memref.isWhole_whole _) scr13 (Memref.isWhole_whole _) (fun e => h ((first_iff t).mp e)) (fun e => h' ((final_iff t).mp e)) (blk m c 0 t) (blk m c 1 t) (blk m c 2 t) (blk m c 3 t) (blk m c 4 t) (blk m c 5 t) (past m c t).v9 (past m c t).v10 (past m c t).v12 (past m c t).v13 (V m c main_arg6) (past m c t).g11).1 := coveredB c (grid0.coords t) (buf1 t) (whole1 t) (buf2 t) (whole2 t) (buf3 t) (whole3 t) (buf4 t) (whole4 t) (buf5 t) (whole5 t) (buf6 t) (whole6 t) (buf8 t) (whole8 t) (buf9 t) (whole9 t) (buf10 t) (whole10 t) scr12 (Memref.isWhole_whole _) scr13 (Memref.isWhole_whole _) (blk m c 0 t) (blk m c 1 t) (blk m c 2 t) (blk m c 3 t) (blk m c 4 t) (blk m c 5 t) (past m c t).v9 (past m c t).v10 (past m c t).v12 (past m c t).v13 (V m c main_arg6) (past m c t).g11 (fun e => h ((first_iff t).mp e)) (fun e => h' ((final_iff t).mp e))
  unfold between atZero
  iintro ⟨⟨⟨H12, H13⟩, Hg, ⟨Hq0, Hq1, Hq2, Hq3⟩, Hh7, Hh11⟩, ⟨%W, -, HW⟩, ⟨%d0, H1⟩, ⟨%d1, H2⟩, ⟨%d2, H3⟩, ⟨%d3, H4⟩, ⟨%d4, H5⟩, ⟨%d5, H6⟩, ⟨%d6, H8⟩, ⟨%d7, H9⟩, ⟨%d8, H10⟩⟩
  iapply ((runB c (grid0.coords t) (buf1 t) (whole1 t) (buf2 t) (whole2 t) (buf3 t) (whole3 t) (buf4 t) (whole4 t) (buf5 t) (whole5 t) (buf6 t) (whole6 t) (buf8 t) (whole8 t) (buf9 t) (whole9 t) (buf10 t) (whole10 t) scr12 (Memref.isWhole_whole _) scr13 (Memref.isWhole_whole _) (fun e => h ((first_iff t).mp e)) (fun e => h' ((final_iff t).mp e)) (blk m c 0 t) (blk m c 1 t) (blk m c 2 t) (blk m c 3 t) (blk m c 4 t) (blk m c 5 t) (past m c t).v9 (past m c t).v10 (past m c t).v12 (past m c t).v13 (V m c main_arg6) (past m c t).g11).2 W _)
  isplitl [H1]; · iexact H1
  isplitl [H2]; · iexact H2
  isplitl [H3]; · iexact H3
  isplitl [H4]; · iexact H4
  isplitl [H5]; · iexact H5
  isplitl [H6]; · iexact H6
  isplitl [H8]; · iexists _; iexact H8
  isplitl [H9]; · iexact H9
  isplitl [H10]; · iexact H10
  isplitl [H12]; · iexact H12
  isplitl [H13]; · iexact H13
  isplitl [Hq0]; · iexact Hq0
  isplitl [Hq1]; · iexact Hq1
  isplitl [Hq2]; · iexact Hq2
  isplitl [Hq3]; · iexact Hq3
  isplitl [Hh7]; · iexact Hh7
  isplitl [Hh11]; · iexact Hh11
  isplitl [HW]; · iexact HW
  iintro ⟨H1, H2, H3, H4, H5, H6, ⟨%e8, H8⟩, ⟨%e9, H9⟩, ⟨%e10, H10⟩, ⟨%e12, H12⟩, H13, Hq0, Hq1, Hq2, Hq3, Hh7, Hh11, ⟨%W', HW'⟩⟩
  isplitl [H12 H13 Hg Hq0 Hq1 Hq2 Hq3 Hh7 Hh11]
  · isplitl [H12 H13]
    · skip
      isplitl [H12]
      · skip
        unfold owns; iexists _; isplitr
        swap; · iexact H12
        ipureintro; exact View.read_writes_of_cover _ _ _ _ _ (hc.2.2.2)
      iexact H13
    isplitl [Hg]; · iexact Hg
    isplitl [Hq0 Hq1 Hq2 Hq3]
    · skip
      isplitl [Hq0]; · iexact Hq0
      isplitl [Hq1]; · iexact Hq1
      isplitl [Hq2]; · iexact Hq2
      iexact Hq3
    isplitl [Hh7]; · iexact Hh7
    iexact Hh11
  isplitl [HW']
  · iexists W'; isplitr; · ipureintro; exact fun _ _ => Or.inl trivial
    iexact HW'
  isplitl [H1]; · iexact H1
  isplitl [H2]; · iexact H2
  isplitl [H3]; · iexact H3
  isplitl [H4]; · iexact H4
  isplitl [H5]; · iexact H5
  isplitl [H6]; · iexact H6
  isplitl [H8]
  · skip
    unfold owns; iexists _; isplitr
    swap; · iexact H8
    ipureintro; exact View.read_writes_of_cover _ _ _ _ _ (hc.1)
  isplitl [H9]
  · skip
    unfold owns; iexists _; isplitr
    swap; · iexact H9
    ipureintro; exact View.read_writes_of_cover _ _ _ _ _ (hc.2.1)
  unfold owns; iexists _; isplitr
  swap; · iexact H10
  ipureintro; exact View.read_writes_of_cover _ _ _ _ _ (hc.2.2.1)

set_option maxHeartbeats 9600000 in
theorem soundC (c : Dev nD) (t : Fin cfg0.N) (h' : t.val = 7) :
    before m c t ⊢ wp frame (wpE (defs₀ (F := F)) Variants.none c none) Set.univ (bodyAt0 t) (fun _ => given m c t) := by
  unfold before given bodyAt0
  simp only [before_0, before_1, before_2, before_3, before_4, before_5]
  rw [show (dats m 0 c).Φ t.succ = inv m c (t.val + 1) t.isLt from rfl, inv_succ m c t.val t.isLt,
    after_0, after_1, after_2, after_3, after_4, after_5, after_6, after_7, after_8]
  unfold Dat.owesAt Pipeline.owesWithin
  rw [show (dats m 0 c).owed t.castSucc = 0 from rfl, show (dats m 0 c).owed t.succ = 0 from rfl, inv_start m c t
    , inv_pos m c _ _ (by omega)]
  simp only [Nat.add_sub_cancel, state_C m c t h', after, storesC]
  simp only [before_7 m c t (by omega), before_8 m c t (by omega)]
  have hc : Covered (runC c (grid0.coords t) (buf1 t) (whole1 t) (buf2 t) (whole2 t) (buf3 t) (whole3 t) (buf4 t) (whole4 t) (buf5 t) (whole5 t) (buf6 t) (whole6 t) (buf8 t) (whole8 t) (buf9 t) (whole9 t) (buf10 t) (whole10 t) scr12 (Memref.isWhole_whole _) scr13 (Memref.isWhole_whole _) (fun e => by have := (first_iff t).mp e; omega) ((final_iff t).mpr h') (blk m c 0 t) (blk m c 1 t) (blk m c 2 t) (blk m c 3 t) (blk m c 4 t) (blk m c 5 t) (past m c t).v9 (past m c t).v10 (past m c t).v12 (past m c t).v13 (V m c main_arg6) (past m c t).g11).1 := coveredC c (grid0.coords t) (buf1 t) (whole1 t) (buf2 t) (whole2 t) (buf3 t) (whole3 t) (buf4 t) (whole4 t) (buf5 t) (whole5 t) (buf6 t) (whole6 t) (buf8 t) (whole8 t) (buf9 t) (whole9 t) (buf10 t) (whole10 t) scr12 (Memref.isWhole_whole _) scr13 (Memref.isWhole_whole _) (blk m c 0 t) (blk m c 1 t) (blk m c 2 t) (blk m c 3 t) (blk m c 4 t) (blk m c 5 t) (past m c t).v9 (past m c t).v10 (past m c t).v12 (past m c t).v13 (V m c main_arg6) (past m c t).g11 (fun e => by have := (first_iff t).mp e; omega) ((final_iff t).mpr h')
  unfold between atZero
  iintro ⟨⟨⟨H12, H13⟩, Hg, ⟨Hq0, Hq1, Hq2, Hq3⟩, Hh7, Hh11⟩, ⟨%W, -, HW⟩, ⟨%d0, H1⟩, ⟨%d1, H2⟩, ⟨%d2, H3⟩, ⟨%d3, H4⟩, ⟨%d4, H5⟩, ⟨%d5, H6⟩, ⟨%d6, H8⟩, ⟨%d7, H9⟩, ⟨%d8, H10⟩⟩
  iapply ((runC c (grid0.coords t) (buf1 t) (whole1 t) (buf2 t) (whole2 t) (buf3 t) (whole3 t) (buf4 t) (whole4 t) (buf5 t) (whole5 t) (buf6 t) (whole6 t) (buf8 t) (whole8 t) (buf9 t) (whole9 t) (buf10 t) (whole10 t) scr12 (Memref.isWhole_whole _) scr13 (Memref.isWhole_whole _) (fun e => by have := (first_iff t).mp e; omega) ((final_iff t).mpr h') (blk m c 0 t) (blk m c 1 t) (blk m c 2 t) (blk m c 3 t) (blk m c 4 t) (blk m c 5 t) (past m c t).v9 (past m c t).v10 (past m c t).v12 (past m c t).v13 (V m c main_arg6) (past m c t).g11).2 W _)
  isplitl [H1]; · iexact H1
  isplitl [H2]; · iexact H2
  isplitl [H3]; · iexact H3
  isplitl [H4]; · iexact H4
  isplitl [H5]; · iexact H5
  isplitl [H6]; · iexact H6
  isplitl [H8]; · iexists _; iexact H8
  isplitl [H9]; · iexact H9
  isplitl [H10]; · iexact H10
  isplitl [H12]; · iexact H12
  isplitl [H13]; · iexact H13
  isplitl [Hq0]; · iexact Hq0
  isplitl [Hq1]; · iexact Hq1
  isplitl [Hq2]; · iexact Hq2
  isplitl [Hq3]; · iexact Hq3
  isplitl [Hh7]; · iexact Hh7
  isplitl [Hh11]; · iexact Hh11
  isplitl [HW]; · iexact HW
  iintro ⟨H1, H2, H3, H4, H5, H6, ⟨%e8, H8⟩, ⟨%e9, H9⟩, ⟨%e10, H10⟩, ⟨%e12, H12⟩, H13, Hq0, Hq1, Hq2, Hq3, Hh7, Hh11, ⟨%W', HW'⟩⟩
  isplitl [H12 H13 Hg Hq0 Hq1 Hq2 Hq3 Hh7 Hh11]
  · isplitl [H12 H13]
    · skip
      isplitl [H12]
      · skip
        unfold owns; iexists _; isplitr
        swap; · iexact H12
        ipureintro; exact View.read_writes_of_cover _ _ _ _ _ (hc.2.2.2)
      iexact H13
    isplitl [Hg]; · iexact Hg
    isplitl [Hq0 Hq1 Hq2 Hq3]
    · skip
      isplitl [Hq0]; · iexact Hq0
      isplitl [Hq1]; · iexact Hq1
      isplitl [Hq2]; · iexact Hq2
      iexact Hq3
    isplitl [Hh7]; · iexact Hh7
    iexact Hh11
  isplitl [HW']
  · iexists W'; isplitr; · ipureintro; exact fun _ _ => Or.inl trivial
    iexact HW'
  isplitl [H1]; · iexact H1
  isplitl [H2]; · iexact H2
  isplitl [H3]; · iexact H3
  isplitl [H4]; · iexact H4
  isplitl [H5]; · iexact H5
  isplitl [H6]; · iexact H6
  isplitl [H8]
  · skip
    unfold owns; iexists _; isplitr
    swap; · iexact H8
    ipureintro; exact View.read_writes_of_cover _ _ _ _ _ (hc.1)
  isplitl [H9]
  · skip
    unfold owns; iexists _; isplitr
    swap; · iexact H9
    ipureintro; exact View.read_writes_of_cover _ _ _ _ _ (hc.2.1)
  unfold owns; iexists _; isplitr
  swap; · iexact H10
  ipureintro; exact View.read_writes_of_cover _ _ _ _ _ (hc.2.2.1)

theorem sound (c : Dev nD) (t : Fin cfg0.N) :
    before m c t ⊢ wp frame (wpE (defs₀ (F := F)) Variants.none c none) Set.univ (bodyAt0 t) (fun _ => given m c t) := by
  by_cases h : t.val = 0
  · exact soundA m c t h
  · by_cases h' : t.val = 7
    · exact soundC m c t h'
    · exact soundB m c t h h'

theorem table_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, table_row]
  exact triple_restated (sound m c t) rfl .rfl fun _ => .rfl

/-! ## The run -/

/-- The state after the last point. -/
abbrev done (c : Dev nD) : State F c := state m c 7 (by have : cfg0.N = 8 := N_0; omega)

/-- The arrays after the call, as far as the copies write them. -/
def copiedTo (c : Dev nD) : (b : Ref sig .tc) → Buf (Elt F) ((c : Thread nD τ).loc b) :=
  Function.update (V m c) main_v1_3 (done m c).g11

theorem copiedTo_11 (c : Dev nD) : copiedTo m c main_v1_3 = (done m c).g11 := by
  unfold copiedTo; simp only [Function.update_self]

theorem enter (c : Dev nD) : Pipeline.ΦDRG cells spec0 readOnly copied (V m) (V m) c ⊢ (dats m 0 c).Φ 0 := by
  rw [show (dats m 0 c).Φ 0 = inv m c 0 (Nat.zero_le _) from rfl]
  exact Idealize.SL.BI.Entails.refl _

theorem leave (c : Dev nD) : (dats m 0 c).Φ (Fin.last cfg0.N) ⊢ Pipeline.ΦDRG cells spec0 readOnly copied (V m) (copiedTo m) c := by
  have hN : cfg0.N = 8 := N_0
  rw [show (dats m 0 c).Φ (Fin.last cfg0.N) = inv m c (7 + 1) (by omega) from by
      dsimp only [dats]; congr 1, launch_eq, copiedTo_11]
  unfold inv between
  iintro ⟨⟨H12, H13⟩, Hg, Hq, Hr, Hw⟩
  isplitl [H12 H13]
  · skip
    isplitl [H12]; · iexists _; iexact H12
    iexists _; iexact H13
  isplitl [Hg]; · iexact Hg
  isplitl [Hq]; · iexact Hq
  isplitl [Hr]; · iexact Hr
  iexact Hw

set_option backward.isDefEq.respectTransparency.types false in
/-- Every execution ends, the windows' arrays at what the points leave in them, the copied results at `copiedTo`, every
    other buffer as the call found it, every counter at zero. -/
theorem run_quiet : θ_run defs (onTc (τ := τ) (main (F := F))) (s₀ m ρ)
    (fun r => (Pipeline.FramePostRG cfgs (dats m) 0 copied (V m) (copiedTo m)) r ∧ r.2.sem = fun _ => 0) :=
  Pipeline.θ_run_frame_dmaRG (Q' := _) cfgs (dats m) (0 : Fin 1) launch0 cells defs₀ Variants.none cells_own readOnly copied
    readOnly_sub copied_sub m ρ main (hbody := fun c => (obligation m c).loose)
    (hshare := fun c => (dats m 0 c).share_full fun _ => rfl) (howed := fun _ _ => rfl) (V := V m)
    (hmain := hmain m Variants.none) (hA := arrays m) (G := copiedTo m) (hin := enter m) (hout := leave m)

/-- The arguments at the end. -/
theorem kept (r : PUnit × MemSt nD τ sig (Elt F)) (h : Pipeline.FramePostRG cfgs (dats m) 0 copied (V m) (copiedTo m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨
    ((h.toR c).1 2).trans (((dats m 0 c).arrAt_in 2 rfl _).trans ((arrays m c 2).trans (V_kept m c main_arg0 (by decide)))),
    ((h.toR c).1 0).trans (((dats m 0 c).arrAt_in 0 rfl _).trans ((arrays m c 0).trans (V_kept m c main_arg1 (by decide)))),
    ((h.toR c).1 1).trans (((dats m 0 c).arrAt_in 1 rfl _).trans ((arrays m c 1).trans (V_kept m c main_arg2 (by decide)))),
    ((h.toR c).1 3).trans (((dats m 0 c).arrAt_in 3 rfl _).trans ((arrays m c 3).trans (V_kept m c main_arg3 (by decide)))),
    ((h.toR c).2 main_arg4 (Finset.mem_sdiff.mpr ⟨Pipeline.mem_restRefs_of main_arg4 (by decide) (by decide), by decide⟩)).trans (V_kept m c main_arg4 (by decide)),
    ((h.toR c).1 5).trans (((dats m 0 c).arrAt_in 5 rfl _).trans ((arrays m c 5).trans (V_kept m c main_arg5 (by decide)))),
    ((h.toR c).2 main_arg6 (Finset.mem_sdiff.mpr ⟨Pipeline.mem_restRefs_of main_arg6 (by decide) (by decide), by decide⟩)).trans (V_kept m c main_arg6 (by decide))⟩

/-- The program runs, its arguments end unchanged, its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => kept m r h.1 c, h.2⟩) (run_quiet m ρ)

end Cert.BwdInIdeal.Hand

end
-- ==== Proof.BwdInTile.lean ====
module

public import proofs.«01_k».proof.Proof.BwdInMath
public import proofs.«01_k».proof.Proof.BwdInBody

/-! What one step of the call leaves in each of its results. -/

@[expose] public section

set_option maxRecDepth 16384

noncomputable section

namespace Cert.BwdInIdeal.Hand

open Idealize.ShloMosaic Idealize.ShloMosaic.TcCoe Idealize.SL.Sem
open Cert.BwdInIdeal Cert.BwdInIdeal.Gen Cert.MixerOps Cert.Rms Cert.Slab Cert.BwdInMath
open Cert.MixerMath (coe_sum)

variable (I : Inp) (t : ℕ)

/-! ## The blocks a step reads, and the running results -/

def rows (f : ℕ → ℕ → ℝ) : FVec Ideal S512x1024 .f32 := tab fun r j => ((f (512 * t + r) j : ℝ) : EReal)
def line (f : ℕ → ℝ) : FVec Ideal S1x1024 .f32 := tab fun _ j => ((f j : ℝ) : EReal)
def X1 : Vec Ideal S512x1536 .bf16 := tab fun r j => ((I.Z (512 * t + r) j : ℝ) : EReal)
def X2 : Vec Ideal S512x1024 .f32 := tab fun r j => ((I.D (512 * t + r) j : ℝ) : EReal)
def X3 : Vec Ideal S512x1024 .f32 := tab fun r j => ((I.X (512 * t + r) j : ℝ) : EReal)
def X4 : Vec Ideal S6x1024 .f32 := tab fun k j => ((I.M k j : ℝ) : EReal)
def X5 : Vec Ideal S1x1024 .f32 := tab fun _ j => ((I.G j : ℝ) : EReal)
def X6 : Vec Ideal S4x1024x384 .bf16 := tab3 fun k a b => ((I.W k a b : ℝ) : EReal)
def Y12 (g : ℕ → ℕ → ℕ → ℕ → ℝ) : Vec Ideal S4x2x512x384 .f32 := tab4 fun k b r j => ((g k b r j : ℝ) : EReal)
def Y13 : Vec Ideal S1024x1536 .bf16 := tab fun a j => ((I.wide a j : ℝ) : EReal)
def box (g : ℕ → ℕ → ℕ → ℕ → ℝ) (k : ℕ) : FVec Ideal S1x2x512x384 .f32 := tab4 fun _ b r j => ((g k b r j : ℝ) : EReal)
def prod : FVec Ideal S1024x1536 .f32 := tab fun a j => ((I.hz (512 * t) 512 a j : ℝ) : EReal)

/-! ## The payloads -/

theorem rows_n (f : ℕ → ℕ → EReal) (h hφ) (hacc : 0x00000000#32 = 0x00000000#32) :
    multiReduction (F := Ideal) (s := S512x1024) (φ := .f32) .add (no_index [1]) S512 (tab f) (no_index 0x00000000#32) h hφ hacc
      = tab1 fun a => ∑ b ∈ Finset.range 1024, f a b := rows_tab ..
theorem cols_n (f : ℕ → ℕ → EReal) (h hφ) (hacc : 0x00000000#32 = 0x00000000#32) :
    multiReduction (F := Ideal) (s := S512x1024) (φ := .f32) .add (no_index [0]) S1024 (tab f) (no_index 0x00000000#32) h hφ hacc
      = tab1 fun b => ∑ a ∈ Finset.range 512, f a b := cols_tab ..
theorem dot_h (f g : ℕ → ℕ → EReal) : matmul (F := Ideal) (φ₁ := .bf16) (φ₂ := .bf16) dot_S512x1536_S1024x1536_S512x1024_1_1_0_0_n_n none (tab f) (tab g)
    (tab fun _ _ => 0) = tab fun a b => ∑ i ∈ Finset.range 1536, f a i * g b i := matmul_right _ rfl none f g
theorem dot_w (f g : ℕ → ℕ → EReal) : matmul (F := Ideal) (φ₁ := .bf16) (φ₂ := .bf16) dot_S512x1024_S512x1536_S1024x1536_0_0_1_1_n_n none (tab f) (tab g)
    (tab fun _ _ => 0) = tab fun a b => ∑ i ∈ Finset.range 512, f i a * g i b := matmul_rows (.inl rfl) _ rfl rfl rfl rfl rfl rfl none f g
theorem halves (f : ℕ → ℕ → EReal) (h) : shapeCast (s := S1024x384) S2x512x384 (tab f) h = tab3 fun b r j => f (512 * b + r) j :=
  cast_halves rfl f h

theorem pay1 : k0_pay1 (F := Ideal) = line fun _ => 0 := by
  simp only [k0_pay1, broadcast_tab, c_zero]
  rfl
theorem pay2 : k0_pay2 (F := Ideal) = line fun _ => 0 := pay1
theorem pay3 : k0_pay3 (F := Ideal) = Y12 fun _ _ _ _ => 0 := by
  funext y
  exact c_zero
theorem pay4 (k : ℕ) : k0_pay4 (F := Ideal) (tab3 fun _ a b => ((I.W k a b : ℝ) : EReal)) = tab fun a b => ((I.W k a b : ℝ) : EReal) := by
  simp only [k0_pay4, cast_tab3, cast_tab]

theorem pay8 : k0_pay8 (X3 I t) = tab fun r _ => ((rinv (I.X (512 * t + r)) : ℝ) : EReal) := by
  simp only [k0_pay8, X3, rows, mulf_tab, ← EReal.coe_mul, rows_n, cast_col, broadcast_tab, c_1024, divf_tab, coe_sum, div_1024, addf_tab, c_eps,
    ← EReal.coe_add]
  exact (rsqrt_tab _).trans (congrArg tab (funext fun r => funext fun _ => rsqrt_power (I.X (512 * t + r))))
theorem pay9 : k0_pay9 (X3 I t) = rows t fun s => unit (I.X s) := by
  simp only [k0_pay9, pay8]
  simp only [X3, rows, broadcastTo_col, mulf_tab, ← EReal.coe_mul]
  rfl
theorem pay10 : k0_pay10 (X3 I t) (X5 I) (line (I.M 1)) (line (I.M 0)) (X1 I t) = prod I t := by
  simp only [k0_pay10, pay9]
  simp only [rows, X5, X1, line, prod, cast_tab, broadcast_tab, c_one, addf_tab, mulf_tab, broadcastTo_row, truncf_tab, zero_tab, dot_w, coe_sum,
    ← EReal.coe_mul, ← EReal.coe_add]
  rfl
theorem pay12 : k0_pay12 (X3 I t) (X5 I) (line (I.M 1)) (line (I.M 0)) (X1 I t) = tab fun a b => ((I.hz (512 * t) 512 a (384 * 0 + b) : ℝ) : EReal) := by
  simp only [k0_pay12, pay10]
  simp only [prod, slice_tab, Nat.mul_zero, Nat.zero_add]
variable (g : ℕ → ℕ → ℕ → ℕ → ℝ)
theorem pay13 : k0_pay13 (k0_pay11 (box g 0)) (tab fun a b => ((I.hz (512 * t) 512 a (384 * 0 + b) : ℝ) : EReal)) = box (fun k b r j => g k b r j + I.dw (512 * t) 512 k b r j) 0 := by
  simp only [k0_pay13, k0_pay11, box, cast_box, halves, addf_tab3, cast_to_box, ← EReal.coe_add]
  rfl
theorem pay14 : k0_pay14 (prod I t) (box g 1) = box (fun k b r j => g k b r j + I.dw (512 * t) 512 k b r j) 1 := by
  simp only [k0_pay14, prod, box, slice_tab, cast_box, halves, addf_tab3, cast_to_box, ← EReal.coe_add, Nat.zero_add]
  rfl
theorem pay15 : k0_pay15 (prod I t) (box g 2) = box (fun k b r j => g k b r j + I.dw (512 * t) 512 k b r j) 2 := by
  simp only [k0_pay15, prod, box, slice_tab, cast_box, halves, addf_tab3, cast_to_box, ← EReal.coe_add, Nat.zero_add]
  rfl
theorem pay16 : k0_pay16 (prod I t) (box g 3) = box (fun k b r j => g k b r j + I.dw (512 * t) 512 k b r j) 3 := by
  simp only [k0_pay16, prod, box, slice_tab, cast_box, halves, addf_tab3, cast_to_box, ← EReal.coe_add, Nat.zero_add]
  rfl
theorem pay17 : k0_pay17 (X1 I t) (Y13 I) = rows t I.dh := by
  simp only [k0_pay17, X1, Y13, zero_tab, dot_h, coe_sum, ← EReal.coe_mul]
  rfl
theorem pay18 (f : ℕ → ℝ) : k0_pay18 (X1 I t) (Y13 I) (line f) = line fun j => f j + I.dshift (512 * t) 512 j := by
  simp only [k0_pay18, pay17]
  simp only [rows, line, cast_tab, cols_n, cast_row, addf_tab, coe_sum, ← EReal.coe_add]
  rfl
theorem pay19 (f : ℕ → ℝ) : k0_pay19 (rows t fun s => unit (I.X s)) (X1 I t) (Y13 I) (line f) = line fun j => f j + I.da (512 * t) 512 j := by
  simp only [k0_pay19, pay17]
  simp only [rows, line, cast_tab, mulf_tab, cols_n, cast_row, addf_tab, coe_sum, ← EReal.coe_mul, ← EReal.coe_add]
  rfl
theorem pay20 : k0_pay20 (tab fun r _ => ((rinv (I.X (512 * t + r)) : ℝ) : EReal)) (rows t fun s => unit (I.X s)) (X1 I t) (Y13 I) (X5 I) (line (I.M 1)) (X2 I t)
    = rows t I.dx := by
  simp only [k0_pay20, pay17]
  simp only [rows, line, X2, X5, cast_tab, broadcast_tab, c_one, broadcastTo_row, mulf_tab, rows_n, cast_col, c_1024, divf_tab, coe_sum, div_1024,
    broadcastTo_col, subf_tab, addf_tab, ← EReal.coe_mul, ← EReal.coe_sub, ← EReal.coe_add]
  rfl

/-! ## The results of a step -/

theorem ofW (k o : ℕ) {p} (hp : p = tab3 fun _ a b => ((I.W k a b : ℝ) : EReal)) (ho : o = 384 * k) :
    k0_pay4 (F := Ideal) p = tab fun a b => ((I.wide a (o + b) : ℝ) : EReal) := by
  subst hp ho
  refine (pay4 I k).trans (tab_congr fun a _ b hb => ?_)
  rw [Inp.wide, Nat.mul_add_div (by norm_num), Nat.div_eq_of_lt hb, Nat.mul_add_mod, Nat.mod_eq_of_lt hb, Nat.add_zero]

section
variable (g9 g10 : ℕ → ℝ) (g12 : ℕ → ℕ → ℕ → ℕ → ℝ) (c : Dev nD) (i : grid0.Coords)
  (arg1 : Memref sig .tc .vmem S512x1536 .bf16) (harg1 : arg1.IsWhole)
  (arg2 : Memref sig .tc .vmem S512x1024 .f32) (harg2 : arg2.IsWhole)
  (arg3 : Memref sig .tc .vmem S512x1024 .f32) (harg3 : arg3.IsWhole)
  (arg4 : Memref sig .tc .vmem S6x1024 .f32) (harg4 : arg4.IsWhole)
  (arg5 : Memref sig .tc .vmem S1x1024 .f32) (harg5 : arg5.IsWhole)
  (arg6 : Memref sig .tc .vmem S4x1024x384 .bf16) (harg6 : arg6.IsWhole)
  (arg8 : Memref sig .tc .vmem S512x1024 .f32) (harg8 : arg8.IsWhole)
  (arg9 : Memref sig .tc .vmem S1x1024 .f32) (harg9 : arg9.IsWhole)
  (arg10 : Memref sig .tc .vmem S1x1024 .f32) (harg10 : arg10.IsWhole)
  (arg12 : Memref sig .tc .vmem S4x2x512x384 .f32) (harg12 : arg12.IsWhole)
  (arg13 : Memref sig .tc .vmem S1024x1536 .bf16) (harg13 : arg13.IsWhole)
  (f7 : Inside (F := Ideal) c Src7) (f11 : Inside (F := Ideal) c Dst11)

theorem load1 : View.readAt (κ := Proc.kind (Dev.tc (τ := τ) c).2) (Elt Ideal) (Memref.view (κ := Proc.kind (Dev.tc (τ := τ) c).2) arg1)
    (Rect.unit (s := S512x1536) ![0, 0] ![512, 1536] inb_S512x1536_S512x1536_0_0).toLoadRect (harg1.unread (X1 I t)) = X1 I t :=
  (load_tab (φ := .bf16) c arg1 harg1 0 0 _ fun r j => ((I.Z (512 * t + r) j : ℝ) : EReal)).trans (tab_congr fun a _ b _ => by simp only [Nat.zero_add])
theorem load2 : View.readAt (κ := Proc.kind (Dev.tc (τ := τ) c).2) (Elt Ideal) (Memref.view (κ := Proc.kind (Dev.tc (τ := τ) c).2) arg2)
    (Rect.unit (s := S512x1024) ![0, 0] ![512, 1024] inb_S512x1024_S512x1024_0_0).toLoadRect (harg2.unread (X2 I t)) = X2 I t :=
  (load_tab (φ := .f32) c arg2 harg2 0 0 _ fun r j => ((I.D (512 * t + r) j : ℝ) : EReal)).trans (tab_congr fun a _ b _ => by simp only [Nat.zero_add])
theorem load3 : View.readAt (κ := Proc.kind (Dev.tc (τ := τ) c).2) (Elt Ideal) (Memref.view (κ := Proc.kind (Dev.tc (τ := τ) c).2) arg3)
    (Rect.unit (s := S512x1024) ![0, 0] ![512, 1024] inb_S512x1024_S512x1024_0_0).toLoadRect (harg3.unread (X3 I t)) = X3 I t :=
  (load_tab (φ := .f32) c arg3 harg3 0 0 _ fun r j => ((I.X (512 * t + r) j : ℝ) : EReal)).trans (tab_congr fun a _ b _ => by simp only [Nat.zero_add])
theorem load40 : View.readAt (κ := Proc.kind (Dev.tc (τ := τ) c).2) (Elt Ideal) (Memref.view (κ := Proc.kind (Dev.tc (τ := τ) c).2) arg4)
    (Rect.unit (s := S6x1024) ![0, 0] ![1, 1024] inb_S6x1024_S1x1024_0_0).toLoadRect (harg4.unread (X4 I)) = line (I.M 0) :=
  (load_tab ..).trans (tab_congr fun a ha b _ => by rw [show a = 0 by omega, Nat.zero_add, Nat.zero_add])
theorem load41 : View.readAt (κ := Proc.kind (Dev.tc (τ := τ) c).2) (Elt Ideal) (Memref.view (κ := Proc.kind (Dev.tc (τ := τ) c).2) arg4)
    (Rect.unit (s := S6x1024) ![1, 0] ![1, 1024] inb_S6x1024_S1x1024_1_0).toLoadRect (harg4.unread (X4 I)) = line (I.M 1) :=
  (load_tab ..).trans (tab_congr fun a ha b _ => by rw [show a = 0 by omega, Nat.zero_add, Nat.add_zero])
theorem load5 : View.readAt (κ := Proc.kind (Dev.tc (τ := τ) c).2) (Elt Ideal) (Memref.view (κ := Proc.kind (Dev.tc (τ := τ) c).2) arg5)
    (Rect.unit (s := S1x1024) ![0, 0] ![1, 1024] inb_S1x1024_S1x1024_0_0).toLoadRect (harg5.unread (X5 I)) = X5 I :=
  (load_tab (φ := .f32) c arg5 harg5 0 0 _ fun _ j => ((I.G j : ℝ) : EReal)).trans (tab_congr fun a _ b _ => by simp only [Nat.zero_add])
theorem load60 : View.readAt (κ := Proc.kind (Dev.tc (τ := τ) c).2) (Elt Ideal) (Memref.view (κ := Proc.kind (Dev.tc (τ := τ) c).2) arg6)
    (Rect.unit (s := S4x1024x384) ![0, 0, 0] ![1, 1024, 384] inb_S4x1024x384_S1x1024x384_0_0_0).toLoadRect (harg6.unread (X6 I)) = tab3 fun _ a b => ((I.W 0 a b : ℝ) : EReal) :=
  (load_tab3 (φ := .bf16) c arg6 harg6 0 0 0 _ fun k a b => ((I.W k a b : ℝ) : EReal)).trans (tab3_congr fun a ha b _ d _ => by simp only [show a = 0 by omega, Nat.zero_add, Nat.add_zero])
theorem load61 : View.readAt (κ := Proc.kind (Dev.tc (τ := τ) c).2) (Elt Ideal) (Memref.view (κ := Proc.kind (Dev.tc (τ := τ) c).2) arg6)
    (Rect.unit (s := S4x1024x384) ![1, 0, 0] ![1, 1024, 384] inb_S4x1024x384_S1x1024x384_1_0_0).toLoadRect (harg6.unread (X6 I)) = tab3 fun _ a b => ((I.W 1 a b : ℝ) : EReal) :=
  (load_tab3 (φ := .bf16) c arg6 harg6 1 0 0 _ fun k a b => ((I.W k a b : ℝ) : EReal)).trans (tab3_congr fun a ha b _ d _ => by simp only [show a = 0 by omega, Nat.zero_add, Nat.add_zero])
theorem load62 : View.readAt (κ := Proc.kind (Dev.tc (τ := τ) c).2) (Elt Ideal) (Memref.view (κ := Proc.kind (Dev.tc (τ := τ) c).2) arg6)
    (Rect.unit (s := S4x1024x384) ![2, 0, 0] ![1, 1024, 384] inb_S4x1024x384_S1x1024x384_2_0_0).toLoadRect (harg6.unread (X6 I)) = tab3 fun _ a b => ((I.W 2 a b : ℝ) : EReal) :=
  (load_tab3 (φ := .bf16) c arg6 harg6 2 0 0 _ fun k a b => ((I.W k a b : ℝ) : EReal)).trans (tab3_congr fun a ha b _ d _ => by simp only [show a = 0 by omega, Nat.zero_add, Nat.add_zero])
theorem load63 : View.readAt (κ := Proc.kind (Dev.tc (τ := τ) c).2) (Elt Ideal) (Memref.view (κ := Proc.kind (Dev.tc (τ := τ) c).2) arg6)
    (Rect.unit (s := S4x1024x384) ![3, 0, 0] ![1, 1024, 384] inb_S4x1024x384_S1x1024x384_3_0_0).toLoadRect (harg6.unread (X6 I)) = tab3 fun _ a b => ((I.W 3 a b : ℝ) : EReal) :=
  (load_tab3 (φ := .bf16) c arg6 harg6 3 0 0 _ fun k a b => ((I.W k a b : ℝ) : EReal)).trans (tab3_congr fun a ha b _ d _ => by simp only [show a = 0 by omega, Nat.zero_add, Nat.add_zero])
theorem load9 : View.readAt (κ := Proc.kind (Dev.tc (τ := τ) c).2) (Elt Ideal) (Memref.view (κ := Proc.kind (Dev.tc (τ := τ) c).2) arg9)
    (Rect.unit (s := S1x1024) ![0, 0] ![1, 1024] inb_S1x1024_S1x1024_0_0).toLoadRect (harg9.unread (line g9)) = line g9 :=
  (load_tab (φ := .f32) c arg9 harg9 0 0 _ fun _ j => ((g9 j : ℝ) : EReal)).trans (tab_congr fun a _ b _ => by simp only [Nat.zero_add])
theorem load10 : View.readAt (κ := Proc.kind (Dev.tc (τ := τ) c).2) (Elt Ideal) (Memref.view (κ := Proc.kind (Dev.tc (τ := τ) c).2) arg10)
    (Rect.unit (s := S1x1024) ![0, 0] ![1, 1024] inb_S1x1024_S1x1024_0_0).toLoadRect (harg10.unread (line g10)) = line g10 :=
  (load_tab (φ := .f32) c arg10 harg10 0 0 _ fun _ j => ((g10 j : ℝ) : EReal)).trans (tab_congr fun a _ b _ => by simp only [Nat.zero_add])
theorem load120 : View.readAt (κ := Proc.kind (Dev.tc (τ := τ) c).2) (Elt Ideal) (Memref.view (κ := Proc.kind (Dev.tc (τ := τ) c).2) arg12)
    (Rect.unit (s := S4x2x512x384) ![0, 0, 0, 0] ![1, 2, 512, 384] inb_S4x2x512x384_S1x2x512x384_0_0_0_0).toLoadRect (harg12.unread (Y12 g12)) = box g12 0 := load_box (φ := .f32) c arg12 harg12 0 _ fun k b r j => ((g12 k b r j : ℝ) : EReal)
theorem load121 : View.readAt (κ := Proc.kind (Dev.tc (τ := τ) c).2) (Elt Ideal) (Memref.view (κ := Proc.kind (Dev.tc (τ := τ) c).2) arg12)
    (Rect.unit (s := S4x2x512x384) ![1, 0, 0, 0] ![1, 2, 512, 384] inb_S4x2x512x384_S1x2x512x384_1_0_0_0).toLoadRect (harg12.unread (Y12 g12)) = box g12 1 := load_box (φ := .f32) c arg12 harg12 1 _ fun k b r j => ((g12 k b r j : ℝ) : EReal)
theorem load122 : View.readAt (κ := Proc.kind (Dev.tc (τ := τ) c).2) (Elt Ideal) (Memref.view (κ := Proc.kind (Dev.tc (τ := τ) c).2) arg12)
    (Rect.unit (s := S4x2x512x384) ![2, 0, 0, 0] ![1, 2, 512, 384] inb_S4x2x512x384_S1x2x512x384_2_0_0_0).toLoadRect (harg12.unread (Y12 g12)) = box g12 2 := load_box (φ := .f32) c arg12 harg12 2 _ fun k b r j => ((g12 k b r j : ℝ) : EReal)
theorem load123 : View.readAt (κ := Proc.kind (Dev.tc (τ := τ) c).2) (Elt Ideal) (Memref.view (κ := Proc.kind (Dev.tc (τ := τ) c).2) arg12)
    (Rect.unit (s := S4x2x512x384) ![3, 0, 0, 0] ![1, 2, 512, 384] inb_S4x2x512x384_S1x2x512x384_3_0_0_0).toLoadRect (harg12.unread (Y12 g12)) = box g12 3 := load_box (φ := .f32) c arg12 harg12 3 _ fun k b r j => ((g12 k b r j : ℝ) : EReal)
theorem load13 : View.readAt (κ := Proc.kind (Dev.tc (τ := τ) c).2) (Elt Ideal) (Memref.view (κ := Proc.kind (Dev.tc (τ := τ) c).2) arg13)
    (Rect.unit (s := S1024x1536) ![0, 0] ![1024, 1536] inb_S1024x1536_S1024x1536_0_0).toLoadRect (harg13.unread (Y13 I)) = Y13 I :=
  (load_tab (φ := .bf16) c arg13 harg13 0 0 _ fun a j => ((I.wide a j : ℝ) : EReal)).trans (tab_congr fun a _ b _ => by simp only [Nat.zero_add])

theorem of8 {p} (hp : p = X3 I t) : k0_pay8 p = tab fun r _ => ((rinv (I.X (512 * t + r)) : ℝ) : EReal) := by subst hp; exact pay8 I t
theorem of9 {p} (hp : p = X3 I t) : k0_pay9 p = rows t fun s => unit (I.X s) := by subst hp; exact pay9 I t
theorem of10 {p q r s z} (hp : p = X3 I t) (hq : q = X5 I) (hr : r = line (I.M 1)) (hs : s = line (I.M 0)) (hz : z = X1 I t) : k0_pay10 p q r s z = prod I t := by
  subst hp hq hr hs hz; exact pay10 I t
theorem of12 {p q r s z} (hp : p = X3 I t) (hq : q = X5 I) (hr : r = line (I.M 1)) (hs : s = line (I.M 0)) (hz : z = X1 I t) :
    k0_pay12 p q r s z = tab fun a b => ((I.hz (512 * t) 512 a (384 * 0 + b) : ℝ) : EReal) := by
  subst hp hq hr hs hz; exact pay12 I t
theorem of18 {p q z} {f : ℕ → ℝ} (hp : p = X1 I t) (hq : q = Y13 I) (hz : z = line f) : k0_pay18 p q z = line fun j => f j + I.dshift (512 * t) 512 j := by
  subst hp hq hz; exact pay18 I t f
theorem of19 {u p q z} {f : ℕ → ℝ} (hu : u = rows t fun s => unit (I.X s)) (hp : p = X1 I t) (hq : q = Y13 I) (hz : z = line f) :
    k0_pay19 u p q z = line fun j => f j + I.da (512 * t) 512 j := by
  subst hu hp hq hz; exact pay19 I t f
theorem of20 {r u p q a b z} (hr : r = tab fun r _ => ((rinv (I.X (512 * t + r)) : ℝ) : EReal)) (hu : u = rows t fun s => unit (I.X s)) (hp : p = X1 I t)
    (hq : q = Y13 I) (ha : a = X5 I) (hb : b = line (I.M 1)) (hz : z = X2 I t) : k0_pay20 r u p q a b z = rows t I.dx := by
  subst hr hu hp hq ha hb hz; exact pay20 I t
theorem of13 {p q} (hp : p = k0_pay11 (box g 0)) (hq : q = tab fun a b => ((I.hz (512 * t) 512 a (384 * 0 + b) : ℝ) : EReal)) :
    k0_pay13 p q = box (fun k b r j => g k b r j + I.dw (512 * t) 512 k b r j) 0 := by
  subst hp hq; exact pay13 I t g
theorem of14 {p q} (hp : p = prod I t) (hq : q = box g 1) : k0_pay14 p q = box (fun k b r j => g k b r j + I.dw (512 * t) 512 k b r j) 1 := by
  subst hp hq; exact pay14 I t g
theorem of15 {p q} (hp : p = prod I t) (hq : q = box g 2) : k0_pay15 p q = box (fun k b r j => g k b r j + I.dw (512 * t) 512 k b r j) 2 := by
  subst hp hq; exact pay15 I t g
theorem of16 {p q} (hp : p = prod I t) (hq : q = box g 3) : k0_pay16 p q = box (fun k b r j => g k b r j + I.dw (512 * t) 512 k b r j) 3 := by
  subst hp hq; exact pay16 I t g

theorem b_r : runB.sl.r (F := Ideal) c arg3 harg3 (X3 I t) = tab fun r _ => ((rinv (I.X (512 * t + r)) : ℝ) : EReal) := of8 I t (load3 I t c ..)
theorem b_r1 : runB.sl.r_1 (F := Ideal) c arg3 harg3 (X3 I t) = rows t fun s => unit (I.X s) := of9 I t (load3 I t c ..)
theorem b_r2 : runB.sl.r_2 (F := Ideal) c arg1 harg1 (X1 I t) = X1 I t := load1 I t c ..
theorem b_r3 : runB.sl.r_3 (F := Ideal) c arg1 harg1 arg3 harg3 arg4 harg4 arg5 harg5 (X1 I t) (X3 I t) (X4 I) (X5 I) = prod I t :=
  of10 I t (load3 I t c ..) (load5 I c ..) (load41 I c ..) (load40 I c ..) (load1 I t c ..)
theorem b_r5 : runB.sl.r_5 (F := Ideal) c arg1 harg1 arg3 harg3 arg4 harg4 arg5 harg5 (X1 I t) (X3 I t) (X4 I) (X5 I) = tab fun a b => ((I.hz (512 * t) 512 a (384 * 0 + b) : ℝ) : EReal) :=
  of12 I t (load3 I t c ..) (load5 I c ..) (load41 I c ..) (load40 I c ..) (load1 I t c ..)
theorem b_H12 : View.canon (runC.sl.H12_4 (F := Ideal) c arg1 harg1 arg3 harg3 arg4 harg4 arg5 harg5 arg12 harg12 (X1 I t) (X3 I t) (X4 I) (X5 I) (Y12 g12)) = Y12 fun k b r j => g12 k b r j + I.dw (512 * t) 512 k b r j :=
  canon_boxes (φ := .f32) _ _ _ _ (fun k b r j => ((g12 k b r j + I.dw (512 * t) 512 k b r j : ℝ) : EReal)) _ _ _ _
    (of13 I t g12 (congrArg k0_pay11 (load120 g12 c ..)) (b_r5 I t c ..)) (of14 I t g12 (b_r3 I t c ..) (load121 g12 c ..))
    (of15 I t g12 (b_r3 I t c ..) (load122 g12 c ..)) (of16 I t g12 (b_r3 I t c ..) (load123 g12 c ..)) []

theorem outB_8 (hs : ¬ First i) (he : ¬ Final i) : View.canon (runB c i arg1 harg1 arg2 harg2 arg3 harg3 arg4 harg4 arg5 harg5 arg6 harg6 arg8 harg8 arg9 harg9 arg10 harg10 arg12 harg12 arg13 harg13 hs he (X1 I t) (X2 I t) (X3 I t) (X4 I) (X5 I) (X6 I) (line g9) (line g10) (Y12 g12) (Y13 I) f7 f11).1.p8 = rows t I.dx := by
  unfold runB
  exact canon_tab (φ := .f32) _ _ _ (of20 I t (b_r I t c ..) (b_r1 I t c ..) (b_r2 I t c ..) (load13 I c ..) (load5 I c ..) (load41 I c ..) (load2 I t c ..)) _
theorem outB_9 (hs : ¬ First i) (he : ¬ Final i) : View.canon (runB c i arg1 harg1 arg2 harg2 arg3 harg3 arg4 harg4 arg5 harg5 arg6 harg6 arg8 harg8 arg9 harg9 arg10 harg10 arg12 harg12 arg13 harg13 hs he (X1 I t) (X2 I t) (X3 I t) (X4 I) (X5 I) (X6 I) (line g9) (line g10) (Y12 g12) (Y13 I) f7 f11).1.p9 = line fun j => g9 j + I.dshift (512 * t) 512 j := by
  unfold runB
  exact canon_tab (φ := .f32) _ _ _ (of18 I t (b_r2 I t c ..) (load13 I c ..) (load9 g9 c ..)) _
theorem outB_10 (hs : ¬ First i) (he : ¬ Final i) : View.canon (runB c i arg1 harg1 arg2 harg2 arg3 harg3 arg4 harg4 arg5 harg5 arg6 harg6 arg8 harg8 arg9 harg9 arg10 harg10 arg12 harg12 arg13 harg13 hs he (X1 I t) (X2 I t) (X3 I t) (X4 I) (X5 I) (X6 I) (line g9) (line g10) (Y12 g12) (Y13 I) f7 f11).1.p10 = line fun j => g10 j + I.da (512 * t) 512 j := by
  unfold runB
  exact canon_tab (φ := .f32) _ _ _ (of19 I t (b_r1 I t c ..) (b_r2 I t c ..) (load13 I c ..) (load10 g10 c ..)) _
theorem outB_12 (hs : ¬ First i) (he : ¬ Final i) : View.canon (runB c i arg1 harg1 arg2 harg2 arg3 harg3 arg4 harg4 arg5 harg5 arg6 harg6 arg8 harg8 arg9 harg9 arg10 harg10 arg12 harg12 arg13 harg13 hs he (X1 I t) (X2 I t) (X3 I t) (X4 I) (X5 I) (X6 I) (line g9) (line g10) (Y12 g12) (Y13 I) f7 f11).1.p12 = Y12 fun k b r j => g12 k b r j + I.dw (512 * t) 512 k b r j := by
  unfold runB
  exact b_H12 I t g12 c ..

theorem outC_8 (hs : ¬ First i) (he : Final i) : View.canon (runC c i arg1 harg1 arg2 harg2 arg3 harg3 arg4 harg4 arg5 harg5 arg6 harg6 arg8 harg8 arg9 harg9 arg10 harg10 arg12 harg12 arg13 harg13 hs he (X1 I t) (X2 I t) (X3 I t) (X4 I) (X5 I) (X6 I) (line g9) (line g10) (Y12 g12) (Y13 I) f7 f11).1.p8 = rows t I.dx := by
  unfold runC
  exact canon_tab (φ := .f32) _ _ _ (of20 I t (b_r I t c ..) (b_r1 I t c ..) (b_r2 I t c ..) (load13 I c ..) (load5 I c ..) (load41 I c ..) (load2 I t c ..)) _
theorem outC_9 (hs : ¬ First i) (he : Final i) : View.canon (runC c i arg1 harg1 arg2 harg2 arg3 harg3 arg4 harg4 arg5 harg5 arg6 harg6 arg8 harg8 arg9 harg9 arg10 harg10 arg12 harg12 arg13 harg13 hs he (X1 I t) (X2 I t) (X3 I t) (X4 I) (X5 I) (X6 I) (line g9) (line g10) (Y12 g12) (Y13 I) f7 f11).1.p9 = line fun j => g9 j + I.dshift (512 * t) 512 j := by
  unfold runC
  exact canon_tab (φ := .f32) _ _ _ (of18 I t (b_r2 I t c ..) (load13 I c ..) (load9 g9 c ..)) _
theorem outC_10 (hs : ¬ First i) (he : Final i) : View.canon (runC c i arg1 harg1 arg2 harg2 arg3 harg3 arg4 harg4 arg5 harg5 arg6 harg6 arg8 harg8 arg9 harg9 arg10 harg10 arg12 harg12 arg13 harg13 hs he (X1 I t) (X2 I t) (X3 I t) (X4 I) (X5 I) (X6 I) (line g9) (line g10) (Y12 g12) (Y13 I) f7 f11).1.p10 = line fun j => g10 j + I.da (512 * t) 512 j := by
  unfold runC
  exact canon_tab (φ := .f32) _ _ _ (of19 I t (b_r1 I t c ..) (b_r2 I t c ..) (load13 I c ..) (load10 g10 c ..)) _
theorem outC_12 (hs : ¬ First i) (he : Final i) : View.canon (runC c i arg1 harg1 arg2 harg2 arg3 harg3 arg4 harg4 arg5 harg5 arg6 harg6 arg8 harg8 arg9 harg9 arg10 harg10 arg12 harg12 arg13 harg13 hs he (X1 I t) (X2 I t) (X3 I t) (X4 I) (X5 I) (X6 I) (line g9) (line g10) (Y12 g12) (Y13 I) f7 f11).1.p12 = Y12 fun k b r j => g12 k b r j + I.dw (512 * t) 512 k b r j := by
  unfold runC
  exact b_H12 I t g12 c ..

theorem c_H12 : arg12.view.read (Elt Ideal) (arg12.view.writes (Elt Ideal) (harg12.unread (Y12 g12))
    (runC.sl.H12_4 (F := Ideal) c arg1 harg1 arg3 harg3 arg4 harg4 arg5 harg5 arg12 harg12 (X1 I t) (X3 I t) (X4 I) (X5 I) (Y12 g12))) = Y12 fun k b r j => g12 k b r j + I.dw (512 * t) 512 k b r j :=
  (View.read_writes_eq_canon _ _ (runC.sl.H12_4 (F := Ideal) c arg1 harg1 arg3 harg3 arg4 harg4 arg5 harg5 arg12 harg12 (X1 I t) (X3 I t) (X4 I) (X5 I) (Y12 g12)) (View.cover_of_tiledL (runC.sl.H12_4 (F := Ideal) c arg1 harg1 arg3 harg3 arg4 harg4 arg5 harg5 arg12 harg12 (X1 I t) (X3 I t) (X4 I) (X5 I) (Y12 g12)) S1x2x512x384.size (by sl_kernel_rfl))).trans (b_H12 I t g12 c ..)
theorem outC_11 (hs : ¬ First i) (he : Final i) : (runC c i arg1 harg1 arg2 harg2 arg3 harg3 arg4 harg4 arg5 harg5 arg6 harg6 arg8 harg8 arg9 harg9 arg10 harg10 arg12 harg12 arg13 harg13 hs he (X1 I t) (X2 I t) (X3 I t) (X4 I) (X5 I) (X6 I) (line g9) (line g10) (Y12 g12) (Y13 I) f7 f11).1.g11 = Y12 fun k b r j => g12 k b r j + I.dw (512 * t) 512 k b r j := by
  unfold runC
  exact put_boxes (φ := .f32) (View.whole main_v1_3) _ _ _ _ _ _ _ _ _ _ _ _ _ (fun k b r j => ((g12 k b r j + I.dw (512 * t) 512 k b r j : ℝ) : EReal))
    (read_box (φ := .f32) _ 0 _ _ _ _ _ (c_H12 I t g12 c ..)) (read_box (φ := .f32) _ 1 _ _ _ _ _ (c_H12 I t g12 c ..))
    (read_box (φ := .f32) _ 2 _ _ _ _ _ (c_H12 I t g12 c ..)) (read_box (φ := .f32) _ 3 _ _ _ _ _ (c_H12 I t g12 c ..))

/-! The first step: the running results start from zero, and the weights are laid side by side. -/

theorem a_v71 : runA.sl.v71 (F := Ideal) c arg9 = line fun _ => 0 := fill_tab c arg9 _ _ _ _ pay1
theorem a_v77 : runA.sl.v77 (F := Ideal) c arg10 = line fun _ => 0 := fill_tab c arg10 _ _ _ _ pay2
theorem a_H13 : View.canon (runA.sl.H13_4 (F := Ideal) c arg6 harg6 (X6 I)) = Y13 I :=
  canon_cols (φ := .bf16) 384 768 1152 rfl rfl rfl rfl _ _ _ _ (fun a j => ((I.wide a j : ℝ) : EReal)) _ _ _ _
    (ofW I 0 0 (load60 I c ..) (by decide)) (ofW I 1 384 (load61 I c ..) (by decide)) (ofW I 2 768 (load62 I c ..) (by decide)) (ofW I 3 1152 (load63 I c ..) (by decide)) []
theorem a_v63 : runA.sl.v63 (F := Ideal) c arg6 harg6 arg13 (X6 I) = Y13 I := cov_whole (φ := .bf16) _ _ _ (fun a j => ((I.wide a j : ℝ) : EReal)) (a_H13 I c ..)
theorem a_r : runA.sl.r (F := Ideal) c arg3 harg3 (X3 I t) = tab fun r _ => ((rinv (I.X (512 * t + r)) : ℝ) : EReal) := b_r ..
theorem a_r1 : runA.sl.r_1 (F := Ideal) c arg3 harg3 (X3 I t) = rows t fun s => unit (I.X s) := b_r1 ..
theorem a_r2 : runA.sl.r_2 (F := Ideal) c arg1 harg1 (X1 I t) = X1 I t := b_r2 ..
theorem a_r3 : runA.sl.r_3 (F := Ideal) c arg1 harg1 arg3 harg3 arg4 harg4 arg5 harg5 (X1 I t) (X3 I t) (X4 I) (X5 I) = prod I t := b_r3 ..
theorem a_r5 : runA.sl.r_5 (F := Ideal) c arg1 harg1 arg3 harg3 arg4 harg4 arg5 harg5 (X1 I t) (X3 I t) (X4 I) (X5 I) = tab fun a b => ((I.hz (512 * t) 512 a (384 * 0 + b) : ℝ) : EReal) := b_r5 ..
theorem a_H1 (y) : View.canon (runA.sl.H12_1 (F := Ideal)) y = tab4 (fun _ _ _ _ => ((0 : ℝ) : EReal)) y := canon_stack (φ := .f32) _ _ _ pay3 _ y
theorem a_v31 : runA.sl.v31 (F := Ideal) c arg12 = box (fun _ _ _ _ => 0) 0 := cov_box (φ := .f32) _ _ 0 _ (fun _ _ _ _ => ((0 : ℝ) : EReal)) fun y _ => a_H1 y
theorem a_v39 : runA.sl.v39 (F := Ideal) c arg1 harg1 arg3 harg3 arg4 harg4 arg5 harg5 arg12 (X1 I t) (X3 I t) (X4 I) (X5 I) = box (fun _ _ _ _ => 0) 1 :=
  cov_box (φ := .f32) _ _ 1 _ (fun _ _ _ _ => ((0 : ℝ) : EReal)) fun y hy => (canon_miss 0 _ _ _ y (by omega)).trans (a_H1 y)
theorem a_v47 : runA.sl.v47 (F := Ideal) c arg1 harg1 arg3 harg3 arg4 harg4 arg5 harg5 arg12 (X1 I t) (X3 I t) (X4 I) (X5 I) = box (fun _ _ _ _ => 0) 2 :=
  cov_box (φ := .f32) _ _ 2 _ (fun _ _ _ _ => ((0 : ℝ) : EReal)) fun y hy => (canon_miss 1 _ _ _ y (by omega)).trans ((canon_miss 0 _ _ _ y (by omega)).trans (a_H1 y))
theorem a_v55 : runA.sl.v55 (F := Ideal) c arg1 harg1 arg3 harg3 arg4 harg4 arg5 harg5 arg12 (X1 I t) (X3 I t) (X4 I) (X5 I) = box (fun _ _ _ _ => 0) 3 :=
  cov_box (φ := .f32) _ _ 3 _ (fun _ _ _ _ => ((0 : ℝ) : EReal)) fun y hy => (canon_miss 2 _ _ _ y (by omega)).trans
    ((canon_miss 1 _ _ _ y (by omega)).trans ((canon_miss 0 _ _ _ y (by omega)).trans (a_H1 y)))

theorem outA_8 (hs : First i) (he : ¬ Final i) : View.canon (runA c i arg1 harg1 arg2 harg2 arg3 harg3 arg4 harg4 arg5 harg5 arg6 harg6 arg8 harg8 arg9 harg9 arg10 harg10 arg12 harg12 arg13 harg13 hs he (X1 I t) (X2 I t) (X3 I t) (X4 I) (X5 I) (X6 I) f7 f11).1.p8 = rows t I.dx := by
  unfold runA
  exact canon_tab (φ := .f32) _ _ _ (of20 I t (a_r I t c ..) (a_r1 I t c ..) (a_r2 I t c ..) (a_v63 I c ..) (load5 I c ..) (load41 I c ..) (load2 I t c ..)) _
theorem outA_9 (hs : First i) (he : ¬ Final i) : View.canon (runA c i arg1 harg1 arg2 harg2 arg3 harg3 arg4 harg4 arg5 harg5 arg6 harg6 arg8 harg8 arg9 harg9 arg10 harg10 arg12 harg12 arg13 harg13 hs he (X1 I t) (X2 I t) (X3 I t) (X4 I) (X5 I) (X6 I) f7 f11).1.p9 = line fun j => 0 + I.dshift (512 * t) 512 j := by
  unfold runA
  exact canon_tab (φ := .f32) _ _ _ (of18 I t (a_r2 I t c ..) (a_v63 I c ..) (a_v71 c ..)) _
theorem outA_10 (hs : First i) (he : ¬ Final i) : View.canon (runA c i arg1 harg1 arg2 harg2 arg3 harg3 arg4 harg4 arg5 harg5 arg6 harg6 arg8 harg8 arg9 harg9 arg10 harg10 arg12 harg12 arg13 harg13 hs he (X1 I t) (X2 I t) (X3 I t) (X4 I) (X5 I) (X6 I) f7 f11).1.p10 = line fun j => 0 + I.da (512 * t) 512 j := by
  unfold runA
  exact canon_tab (φ := .f32) _ _ _ (of19 I t (a_r1 I t c ..) (a_r2 I t c ..) (a_v63 I c ..) (a_v77 c ..)) _
theorem outA_12 (hs : First i) (he : ¬ Final i) : View.canon (runA c i arg1 harg1 arg2 harg2 arg3 harg3 arg4 harg4 arg5 harg5 arg6 harg6 arg8 harg8 arg9 harg9 arg10 harg10 arg12 harg12 arg13 harg13 hs he (X1 I t) (X2 I t) (X3 I t) (X4 I) (X5 I) (X6 I) f7 f11).1.p12 = Y12 fun k b r j => 0 + I.dw (512 * t) 512 k b r j := by
  unfold runA
  exact canon_boxes (φ := .f32) _ _ _ _ (fun k b r j => ((0 + I.dw (512 * t) 512 k b r j : ℝ) : EReal)) _ _ _ _
    (of13 I t (fun _ _ _ _ => 0) (congrArg k0_pay11 (a_v31 c ..)) (a_r5 I t c ..)) (of14 I t (fun _ _ _ _ => 0) (a_r3 I t c ..) (a_v39 I t c ..))
    (of15 I t (fun _ _ _ _ => 0) (a_r3 I t c ..) (a_v47 I t c ..)) (of16 I t (fun _ _ _ _ => 0) (a_r3 I t c ..) (a_v55 I t c ..)) _
theorem outA_13 (hs : First i) (he : ¬ Final i) : View.canon (runA c i arg1 harg1 arg2 harg2 arg3 harg3 arg4 harg4 arg5 harg5 arg6 harg6 arg8 harg8 arg9 harg9 arg10 harg10 arg12 harg12 arg13 harg13 hs he (X1 I t) (X2 I t) (X3 I t) (X4 I) (X5 I) (X6 I) f7 f11).1.p13 = Y13 I := by
  unfold runA
  exact a_H13 I c ..

end

end Cert.BwdInIdeal.Hand
-- ==== Proof.BwdInKernel.lean ====
module

public import proofs.«01_k».proof.Proof.BwdInTile

/-! The call's results after its last step. -/

@[expose] public section

set_option maxRecDepth 16384

noncomputable section

namespace Cert.BwdInIdeal.Hand

open Idealize.ShloMosaic Idealize.ShloMosaic.TcCoe Idealize.SL.Sem
open Idealize.ShloMosaic.Pipeline (Dat)
open Cert.BwdInIdeal Cert.BwdInIdeal.Gen Cert.MixerOps Cert.Rms Cert.Slab Cert.BwdInMath

variable (m : (ℓ : Loc nD τ sig) → Buf (Elt Ideal) ℓ) (c : Dev nD) (I : Inp) (t : Fin cfg0.N)

/-- The call's arguments are the arrays `I`. -/
structure Holds : Prop where
  a0 : (m ((c : Thread nD τ).loc main_arg0) : Vec Ideal S4096x1024 .f32) = tab fun s j => ((I.X s j : ℝ) : EReal)
  a1 : (m ((c : Thread nD τ).loc main_arg1) : Vec Ideal S4096x1536 .bf16) = tab fun s j => ((I.Z s j : ℝ) : EReal)
  a2 : (m ((c : Thread nD τ).loc main_arg2) : Vec Ideal S4096x1024 .f32) = tab fun s j => ((I.D s j : ℝ) : EReal)
  a3 : (m ((c : Thread nD τ).loc main_arg3) : Vec Ideal S6x1024 .f32) = tab fun s j => ((I.M s j : ℝ) : EReal)
  a4 : (m ((c : Thread nD τ).loc main_arg4) : Vec Ideal S1024 .f32) = tab1 fun j => ((I.G j : ℝ) : EReal)
  a5 : (m ((c : Thread nD τ).loc main_arg5) : Vec Ideal S4x1024x384 .bf16) = tab3 fun k a b => ((I.W k a b : ℝ) : EReal)

theorem index0 : win0_0.index t = ![t.val, 0] := (by decide +kernel : ∀ t : Fin grid0.N, win0_0.index t = ![t.val, 0]) t
theorem index1 : win0_1.index t = ![t.val, 0] := (by decide +kernel : ∀ t : Fin grid0.N, win0_1.index t = ![t.val, 0]) t
theorem index2 : win0_2.index t = ![t.val, 0] := (by decide +kernel : ∀ t : Fin grid0.N, win0_2.index t = ![t.val, 0]) t
theorem index3 : win0_3.index t = ![0, 0] := (by decide +kernel : ∀ t : Fin grid0.N, win0_3.index t = ![0, 0]) t
theorem index4 : win0_4.index t = ![0, 0] := (by decide +kernel : ∀ t : Fin grid0.N, win0_4.index t = ![0, 0]) t
theorem index5 : win0_5.index t = ![0, 0, 0] := (by decide +kernel : ∀ t : Fin grid0.N, win0_5.index t = ![0, 0, 0]) t
theorem index6 : win0_6.index t = ![t.val, 0] := (by decide +kernel : ∀ t : Fin grid0.N, win0_6.index t = ![t.val, 0]) t

variable {m c I}

theorem V_v0 (h : Holds m c I) : (V m c main_v0 : Vec Ideal S1x1024 .f32) = X5 I := by
  funext i
  obtain ⟨r, j, rfl⟩ : ∃ (r : Fin 1) (j : Fin 1024), i = ValueIdx.ix2 r j := ⟨i 0, i 1, ValueIdx.eq_ix2 i⟩
  entry_read
  rw [h.a4]
  pointwise
  rfl

theorem blk0 (h : Holds m c I) : blk m c 0 t = X1 I t.val := by
  unfold blk
  rw [show V m c (Pipeline.arrRef spec0 0) = _ from (V_kept m c main_arg1 (by decide)).trans h.a1]
  funext y
  blk_simp [index0, tab]
  show _ = ((I.Z (512 * t.val + (y 0).val) (y 1).val : ℝ) : EReal)
  rw [Nat.mul_comm 512]
theorem blk1 (h : Holds m c I) : blk m c 1 t = X2 I t.val := by
  unfold blk
  rw [show V m c (Pipeline.arrRef spec0 1) = _ from (V_kept m c main_arg2 (by decide)).trans h.a2]
  funext y
  blk_simp [index1, tab]
  show _ = ((I.D (512 * t.val + (y 0).val) (y 1).val : ℝ) : EReal)
  rw [Nat.mul_comm 512]
theorem blk2 (h : Holds m c I) : blk m c 2 t = X3 I t.val := by
  unfold blk
  rw [show V m c (Pipeline.arrRef spec0 2) = _ from (V_kept m c main_arg0 (by decide)).trans h.a0]
  funext y
  blk_simp [index2, tab]
  show _ = ((I.X (512 * t.val + (y 0).val) (y 1).val : ℝ) : EReal)
  rw [Nat.mul_comm 512]
theorem blk3 (h : Holds m c I) : blk m c 3 t = X4 I := by
  unfold blk
  rw [show V m c (Pipeline.arrRef spec0 3) = _ from (V_kept m c main_arg3 (by decide)).trans h.a3]
  funext y
  blk_simp [index3, tab, tab3]
  exact congrArg _ (by blk_ext [index3])
theorem blk4 (h : Holds m c I) : blk m c 4 t = X5 I := by
  unfold blk
  rw [show V m c (Pipeline.arrRef spec0 4) = _ from V_v0 h]
  funext y
  blk_simp [index4, tab, tab3]
  exact congrArg _ (by blk_ext [index4])
theorem blk5 (h : Holds m c I) : blk m c 5 t = X6 I := by
  unfold blk
  rw [show V m c (Pipeline.arrRef spec0 5) = _ from (V_kept m c main_arg5 (by decide)).trans h.a5]
  funext y
  blk_simp [index5, tab, tab3]
  exact congrArg _ (by blk_ext [index5])

/-! ## The results after each step -/

variable (I) in
/-- What the results hold after the first `n` rows, the last `512` of them in step `k`. -/
structure Sums (k n : ℕ) (s : State Ideal c) : Prop where
  v8 : s.v8 = rows k I.dx
  v9 : s.v9 = line (I.dshift 0 n)
  v10 : s.v10 = line (I.da 0 n)
  v12 : s.v12 = Y12 (I.dw 0 n)
  v13 : s.v13 = Y13 I

theorem Y12_congr {f g : ℕ → ℕ → ℕ → ℕ → ℝ} (h : ∀ k b r j, f k b r j = g k b r j) : Y12 f = Y12 g :=
  congrArg Y12 (funext fun k => funext fun b => funext fun r => funext fun j => h k b r j)
theorem held_congr {k n n' : ℕ} {s : State Ideal c} (e : n = n') (h : Sums I k n s) : Sums I k n' s := e ▸ h

theorem after_v8 (w : Stores Ideal c) (k) : (after w k).v8 = View.canon w.p8 := read_stores view8 w.p8
theorem after_v9 (w : Stores Ideal c) (k) : (after w k).v9 = View.canon w.p9 := read_stores view9 w.p9
theorem after_v10 (w : Stores Ideal c) (k) : (after w k).v10 = View.canon w.p10 := read_stores view10 w.p10
theorem after_v12 (w : Stores Ideal c) (k) : (after w k).v12 = View.canon w.p12 := read_stores view12 w.p12

theorem after_v13 (w : Stores Ideal c) (L) : (after w (view13.read (Elt Ideal) (view13.writes (Elt Ideal) view13.junk L))).v13 = View.canon L :=
  read_stores view13 L

theorem held_A (h : Holds m c I) (ht : t.val = 0) :
    Sums I t.val 512 (after (storesA m c t ht) (view13.read (Elt Ideal) (view13.writes (Elt Ideal) view13.junk (storesA m c t ht).p13))) := by
  unfold storesA
  rw [blk0 t h, blk1 t h, blk2 t h, blk3 t h, blk4 t h, blk5 t h]
  exact ⟨(after_v8 _ _).trans (outA_8 ..),
    ((after_v9 _ _).trans (outA_9 ..)).trans (congrArg line (funext fun j => by rw [ht, zero_add])),
    ((after_v10 _ _).trans (outA_10 ..)).trans (congrArg line (funext fun j => by rw [ht, zero_add])),
    (after_v12 _ _).trans ((outA_12 ..).trans (Y12_congr fun k b r j => by rw [ht, zero_add])),
    (after_v13 _ _).trans (outA_13 ..)⟩

theorem held_B (h : Holds m c I) {k : ℕ} {s : State Ideal c} (hs : Sums I k (512 * t.val) s) (a : t.val ≠ 0) (b : t.val ≠ 7) :
    Sums I t.val (512 * t.val + 512) (after (storesB m c t s a b) s.v13) := by
  unfold storesB
  rw [blk0 t h, blk1 t h, blk2 t h, blk3 t h, blk4 t h, blk5 t h, hs.v9, hs.v10, hs.v12, hs.v13]
  exact ⟨(after_v8 _ _).trans (outB_8 ..),
    ((after_v9 _ _).trans (outB_9 ..)).trans (congrArg line (funext fun j => I.dshift_add _ _ _)),
    ((after_v10 _ _).trans (outB_10 ..)).trans (congrArg line (funext fun j => I.da_add _ _ _)),
    (after_v12 _ _).trans ((outB_12 ..).trans (Y12_congr fun k b r j => I.dw_add _ _ _ _ _ _)),
    rfl⟩
theorem held_C (h : Holds m c I) {k : ℕ} {s : State Ideal c} (hs : Sums I k (512 * t.val) s) (b : t.val = 7) :
    Sums I t.val (512 * t.val + 512) (after (storesC m c t s b) s.v13) := by
  unfold storesC
  rw [blk0 t h, blk1 t h, blk2 t h, blk3 t h, blk4 t h, blk5 t h, hs.v9, hs.v10, hs.v12, hs.v13]
  exact ⟨(after_v8 _ _).trans (outC_8 ..),
    ((after_v9 _ _).trans (outC_9 ..)).trans (congrArg line (funext fun j => I.dshift_add _ _ _)),
    ((after_v10 _ _).trans (outC_10 ..)).trans (congrArg line (funext fun j => I.da_add _ _ _)),
    (after_v12 _ _).trans ((outC_12 ..).trans (Y12_congr fun k b r j => I.dw_add _ _ _ _ _ _)),
    rfl⟩

theorem state_held (h : Holds m c I) : ∀ (n : ℕ) (hn : n < cfg0.N), Sums I n (512 * n + 512) (state m c n hn)
  | 0, hn => by
    rw [state_A m c ⟨0, hn⟩ rfl]
    exact held_A ⟨0, hn⟩ h rfl
  | n + 1, hn => by
    have hp := state_held h n (Nat.lt_of_succ_lt hn)
    by_cases e : n + 1 = 7
    · rw [state_C m c ⟨n + 1, hn⟩ e]
      exact held_C ⟨n + 1, hn⟩ h (held_congr (by show 512 * n + 512 = 512 * (n + 1); omega) hp) e
    · rw [state_B m c ⟨n + 1, hn⟩ (Nat.succ_ne_zero n) e]
      exact held_B ⟨n + 1, hn⟩ h (held_congr (by show 512 * n + 512 = 512 * (n + 1); omega) hp) (Nat.succ_ne_zero n) e

theorem copied_held (h : Holds m c I) : (done m c).g11 = Y12 (I.dw 0 4096) := by
  have hN : cfg0.N = 8 := N_0
  have hp : Sums I 6 (512 * 7) (state m c 6 (by omega)) := state_held h 6 (by omega)
  unfold done
  rw [show state m c 7 _ = _ from state_C m c ⟨7, by omega⟩ rfl]
  show (storesC m c ⟨7, by omega⟩ (state m c 6 (by omega)) rfl).g11 = _
  unfold storesC
  rw [blk0 _ h, blk1 _ h, blk2 _ h, blk3 _ h, blk4 _ h, blk5 _ h, hp.v9, hp.v10, hp.v12, hp.v13]
  exact (outC_11 ..).trans (Y12_congr fun k b r j => I.dw_add _ _ _ _ _ _)

/-! ## The arrays after the last step -/

theorem final6 (h : Holds m c I) : (dats m 0 c).arrAt 6 cfg0.N = (tab fun s j => ((I.dx s j : ℝ) : EReal) : Vec Ideal S4096x1024 .f32) :=
  (dats m 0 c).arrAt_eq_of_covers 6 _ (by decide +kernel) fun t hf y => by
    blk_simp
    rw [after_6, (state_held h t.val t.isLt).v8]
    blk_simp [index6, tab]
    show ((I.dx (512 * t.val + (y 0).val) (y 1).val : ℝ) : EReal) = _
    rw [Nat.mul_comm 512]
theorem final7 (h : Holds m c I) : (dats m 0 c).arrAt 7 cfg0.N = line (I.dshift 0 4096) :=
  (dats m 0 c).arrAt_eq_of_after_last 7 t0_7 (by decide +kernel) _ fun j => by
    blk_simp
    rw [after_7, (state_held h _ _).v9]
    rfl
theorem final8 (h : Holds m c I) : (dats m 0 c).arrAt 8 cfg0.N = line (I.da 0 4096) :=
  (dats m 0 c).arrAt_eq_of_after_last 8 t0_7 (by decide +kernel) _ fun j => by
    blk_simp
    rw [after_8, (state_held h _ _).v10]
    rfl

end Cert.BwdInIdeal.Hand
-- ==== Proof.BwdInRef.lean ====
module

public import proofs.«01_k».proof.Proof.BwdInMath
public import proofs.«01_k».proof.Proof.Gen.BwdInRefIdeal.Read

/-!
What the reference of the input gradient computes, one stage after another: each lemma gives a stage's array at an index as the
real number that `BwdInMath` names.
-/

@[expose] public section

set_option maxRecDepth 16384

noncomputable section

namespace Cert.BwdInRefIdeal.Hand

open Idealize.ShloMosaic Cert.Rms Cert.MixerOps Cert.MixerHost Cert.BwdInMath Cert.BwdInRefIdeal.Gen Cert.BwdInRefIdeal.Read
open Cert.MixerMath (coe_sum eps)

variable (I : Inp)

/-! ## The arguments -/

def R0 : (⟨S4096x1024, .f32⟩ : BufTy).Contents (Elt Ideal) := tab fun s j => ((I.X s j : ℝ) : EReal)
def R1 : (⟨S4096x1536, .bf16⟩ : BufTy).Contents (Elt Ideal) := tab fun s j => ((I.Z s j : ℝ) : EReal)
def R2 : (⟨S4096x1024, .f32⟩ : BufTy).Contents (Elt Ideal) := tab fun s j => ((I.D s j : ℝ) : EReal)
def R3 : (⟨S6x1024, .f32⟩ : BufTy).Contents (Elt Ideal) := tab fun s j => ((I.M s j : ℝ) : EReal)
def R4 : (⟨S1024, .f32⟩ : BufTy).Contents (Elt Ideal) := tab1 fun j => ((I.G j : ℝ) : EReal)
def R5 : (⟨S4x1024x384, .bf16⟩ : BufTy).Contents (Elt Ideal) := tab3 fun k a b => ((I.W k a b : ℝ) : EReal)

theorem r0 (i : S4096x1024.Idx) : R0 I i = ((I.X (i 0).val (i 1).val : ℝ) : EReal) := rfl
theorem r1 (i : S4096x1536.Idx) : R1 I i = ((I.Z (i 0).val (i 1).val : ℝ) : EReal) := rfl
theorem r2 (i : S4096x1024.Idx) : R2 I i = ((I.D (i 0).val (i 1).val : ℝ) : EReal) := rfl
theorem r3 (i : S6x1024.Idx) : R3 I i = ((I.M (i 0).val (i 1).val : ℝ) : EReal) := rfl
theorem r4 (i : S1024.Idx) : R4 I i = ((I.G (i 0).val : ℝ) : EReal) := rfl
theorem r5 (i : S4x1024x384.Idx) : R5 I i = ((I.W (i 0).val (i 1).val (i 2).val : ℝ) : EReal) := rfl

/-! ## The stages -/

theorem v4 (i) : val_main_v4 (F := Ideal) (R3 I) (R4 I) i = ((I.gain (i 0).val : ℝ) : EReal) := by
  simp only [val_main_v4_apply, val_main_v3_apply, val_main_v2_apply, val_main_v1_apply, val_main_cst_apply, val_main_v0_apply, r3, r4, w_1, add_r, mul_r,
    Nat.mod_eq_of_lt (show (i 0).val < 1024 from (i 0).isLt), Nat.add_zero]
  rfl
theorem v6 (i) : val_main_v6 (F := Ideal) (R3 I) i = ((I.M 0 (i 0).val : ℝ) : EReal) := by
  simp only [val_main_v6_apply, val_main_v5_apply, r3, Nat.mod_eq_of_lt (show (i 0).val < 1024 from (i 0).isLt), Nat.add_zero]

theorem v28 (i) : val_main_v28 (F := Ideal) (R5 I) i = ((I.wide (i 0).val (i 1).val : ℝ) : EReal) := by
  simp only [val_main_v28_apply, val_main_v27_apply, val_main_v7_apply, r5, extf_r]
  have h : (i 1).val < 1536 := (i 1).isLt
  rw [Inp.wide, show ((i 0).val * 1536 + (i 1).val) / 384 % 4 = (i 1).val / 384 by omega,
    show ((i 0).val * 1536 + (i 1).val) / 1536 = (i 0).val by omega, show ((i 0).val * 1536 + (i 1).val) % 384 = (i 1).val % 384 by omega]
theorem v14 (i) : val_main_v14 (F := Ideal) (R0 I) i = ((power (I.X (i 0).val) : ℝ) : EReal) := by
  simp only [val_main_v14_apply, val_main_v12_apply, val_main_v13_apply, val_main_v10_apply, val_main_v11_apply, val_main_cst_2_apply, val_main_v9_apply,
    val_main_cst_1_apply, val_main_v8_apply, val_main_cst_0_apply, r0, w_0, w_1024, w_eps, add_r, coe_sum, eadd_r, mul_r, zero_add,
    div_r _ _ (by norm_num : (1024 : ℝ) ≠ 0)]
  rw [power, mean, Finset.sum_range]
theorem v15 (i) : val_main_v15 (F := Ideal) (R0 I) i = ((rinv (I.X (i 0).val) : ℝ) : EReal) := by
  simp only [val_main_v15_apply, v14, rsqrt_r _ (power_pos _)]
  rfl
theorem v16 (i) : val_main_v16 (F := Ideal) (R0 I) i = ((rinv (I.X (i 0).val) / power (I.X (i 0).val) : ℝ) : EReal) := by
  simp only [val_main_v16_apply, v14, v15, div_r _ _ (power_pos _).ne']

theorem v18 (i) : val_main_v18 (F := Ideal) (R0 I) i = ((-(1 / 2) * (rinv (I.X (i 0).val) / power (I.X (i 0).val)) : ℝ) : EReal) := by
  simp only [val_main_v18_apply, val_main_v17_apply, val_main_cst_3_apply, v16, w_mhalf, mul_r]

theorem v20 (i) : val_main_v20 (F := Ideal) (R0 I) i = ((unit (I.X (i 0).val) (i 1).val : ℝ) : EReal) := by
  simp only [val_main_v20_apply, val_main_v19_apply, v15, r0, mul_r]
  rfl
theorem v26 (i) : val_main_v26 (F := Ideal) (R0 I) (R3 I) (R4 I) i = ((I.h (i 0).val (i 1).val : ℝ) : EReal) := by
  simp only [val_main_v26_apply, val_main_v23_apply, val_main_v25_apply, val_main_v22_apply, val_main_v24_apply, val_main_v21_apply, v20, v4, v6, add_r, mul_r]
  rfl
theorem v33 (i) : val_main_v33 (F := Ideal) (R1 I) (R5 I) i = ((I.dh (i 0).val (i 1).val : ℝ) : EReal) := by
  simp only [val_main_v33_apply, val_main_v30_apply, v28, r1, coe_sum, emul_r, extf_r]
  rw [Inp.dh, Finset.sum_range]
theorem v32 (i) : val_main_v32 (F := Ideal) (R0 I) (R1 I) (R3 I) (R4 I) i = ((I.hz 0 4096 (i 0).val (i 1).val : ℝ) : EReal) := by
  simp only [val_main_v32_apply, val_main_v31_apply, val_main_v30_apply, v26, r1, coe_sum, emul_r, extf_r]
  rw [Inp.hz, Finset.sum_range]
  exact congrArg Real.toEReal (Finset.sum_congr rfl fun k _ => by rw [Nat.zero_add]; exact mul_comm _ _)
theorem v62 (i) : val_main_v62 (F := Ideal) (R0 I) (R1 I) (R3 I) (R4 I) i = ((I.dw 0 4096 (i 0).val (i 1).val (i 2).val (i 3).val : ℝ) : EReal) := by
  simp only [val_main_v62_apply, val_main_v35_apply, val_main_v34_apply, v32]
  have h0 : (i 0).val < 4 := (i 0).isLt
  have h1 : (i 1).val < 2 := (i 1).isLt
  have h2 : (i 2).val < 512 := (i 2).isLt
  have h3 : (i 3).val < 384 := (i 3).isLt
  rw [Inp.dw, show ((((i 0).val * 2 + (i 1).val) * 512 + (i 2).val) * 384 + (i 3).val) / 384 = ((i 0).val * 2 + (i 1).val) * 512 + (i 2).val by omega,
    show ((((i 0).val * 2 + (i 1).val) * 512 + (i 2).val) * 384 + (i 3).val) / 393216 = (i 0).val by omega,
    show ((((i 0).val * 2 + (i 1).val) * 512 + (i 2).val) * 384 + (i 3).val) % 384 = (i 3).val by omega,
    show (((i 0).val * 2 + (i 1).val) * 512 + (i 2).val) % 1024 = 512 * (i 1).val + (i 2).val by omega]
  exact congrArg Real.toEReal (congrArg₂ (I.hz 0 4096) (by omega) (by omega))
theorem v60 (i) : val_main_v60 (F := Ideal) (R1 I) (R5 I) i = ((I.dshift 0 4096 (i 1).val : ℝ) : EReal) := by
  simp only [val_main_v60_apply, val_main_v38_apply, val_main_v37_apply, val_main_cst_5_apply, val_main_v36_apply, val_main_cst_4_apply, v33, w_0, coe_sum,
    eadd_r, zero_add, Finset.univ_unique, Finset.sum_singleton, show ((default : Fin 1) : ℕ) = 0 from rfl, Nat.zero_mul, Nat.mul_one, Nat.zero_add,
    Nat.add_zero]
  simp only [Inp.dshift, zero_add, Finset.sum_range]
theorem v61 (i) : val_main_v61 (F := Ideal) (R0 I) (R1 I) (R5 I) i = ((I.da 0 4096 (i 1).val : ℝ) : EReal) := by
  simp only [val_main_v61_apply, val_main_v44_apply, val_main_v41_apply, val_main_cst_7_apply, val_main_v40_apply, val_main_v39_apply, val_main_cst_6_apply,
    v20, v33, w_0, coe_sum, eadd_r, mul_r, zero_add, Finset.univ_unique, Finset.sum_singleton, show ((default : Fin 1) : ℕ) = 0 from rfl,
    Nat.zero_mul, Nat.mul_one, Nat.zero_add, Nat.add_zero]
  simp only [Inp.da, zero_add, Finset.sum_range]
  exact congrArg Real.toEReal (Finset.sum_congr rfl fun k _ => mul_comm _ _)
theorem v43 (i) : val_main_v43 (F := Ideal) (R1 I) (R3 I) (R4 I) (R5 I) i = ((I.dh (i 0).val (i 1).val * I.gain (i 1).val : ℝ) : EReal) := by
  simp only [val_main_v43_apply, val_main_v42_apply, val_main_v21_apply, v33, v4, mul_r]

theorem v46 (i) : val_main_v46 (F := Ideal) (R0 I) (R1 I) (R3 I) (R4 I) (R5 I) i = ((∑ j ∈ Finset.range 1024, I.X (i 0).val j * (I.dh (i 0).val j * I.gain j) : ℝ) : EReal) := by
  simp only [val_main_v46_apply, val_main_v45_apply, val_main_cst_8_apply, v43, r0, w_0, coe_sum, eadd_r, mul_r, zero_add]
  rw [Finset.sum_range]
theorem v53 (i) : val_main_v53 (F := Ideal) (R0 I) (R1 I) (R3 I) (R4 I) (R5 I) i = (((∑ j ∈ Finset.range 1024, I.X (i 0).val j * (I.dh (i 0).val j * I.gain j)) * (-(1 / 2) * (rinv (I.X (i 0).val) / power (I.X (i 0).val))) / 1024 : ℝ) : EReal) := by
  simp only [val_main_v53_apply, val_main_v51_apply, val_main_v52_apply, val_main_v47_apply, val_main_cst_9_apply, v18, v46, w_1024, mul_r,
    div_r _ _ (by norm_num : (1024 : ℝ) ≠ 0), show (i 1).val = 0 from Nat.lt_one_iff.mp (i 1).isLt, Finset.univ_unique, Finset.sum_singleton,
    show ((default : Fin 1) : ℕ) = 0 from rfl, Nat.zero_mul, Nat.mul_one, Nat.zero_add, Nat.add_zero]

theorem v59 (i) : val_main_v59 (F := Ideal) (R0 I) (R1 I) (R2 I) (R3 I) (R4 I) (R5 I) i = ((I.dx (i 0).val (i 1).val : ℝ) : EReal) := by
  simp only [val_main_v59_apply, val_main_v57_apply, val_main_v58_apply, val_main_v50_apply, val_main_v56_apply, val_main_v55_apply, val_main_v49_apply,
    val_main_v54_apply, val_main_v48_apply, val_main_cst_10_apply, v15, v43, v53, r0, r2, w_0, add_r, coe_sum, eadd_r, mul_r, zero_add,
    Finset.univ_unique, Finset.sum_singleton, show ((default : Fin 1) : ℕ) = 0 from rfl, Nat.zero_mul, Nat.mul_one, Nat.zero_add, Nat.add_zero]
  refine congrArg Real.toEReal ?_
  rw [Inp.dx, ← grad_lines (I.X (i 0).val) (fun j => I.dh (i 0).val j * I.gain j) (i 1).val _ rfl]
  ring

end Cert.BwdInRefIdeal.Hand
-- ==== Proof.BwdInPre.lean ====
module

public import proofs.«01_k».proof.Pre_finite_in
public import proofs.«01_k».proof.Proof.LossPre

/-!
What the precondition of the input projection's gradient says: every entry of its arrays is a real number.
-/

@[expose] public section

noncomputable section

namespace Cert.BwdInPre

open Idealize.ShloMosaic Cert.MixerPre Cert.LossPre

open Cert.Pre_finite_in in
/-- The precondition read: the arrays have real entries. -/
theorem reals [Facts] (x0 : FVec Ideal S4096x1024 .f32) (x1 : FVec Ideal S4096x1536 .bf16) (x2 : FVec Ideal S4096x1024 .f32) (x3 : FVec Ideal S6x1024 .f32) (x4 : FVec Ideal S1024 .f32) (x5 : FVec Ideal S4x1024x384 .bf16) (x6 : FVec Ideal S4x2x256x1024 .bf16)
    (h : fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) ∧ (∀ i, ∃ r : ℝ, x4 i = (r : EReal)) ∧ (∀ i, ∃ r : ℝ, x5 i = (r : EReal)) := by
  have h0 := congrFun h fun k => k.elim0
  simp only [fn, fn_part1] at h0
  obtain ⟨h0, e5⟩ := and_one h0
  obtain ⟨h0, e4⟩ := and_one h0
  obtain ⟨h0, e3⟩ := and_one h0
  obtain ⟨h0, e2⟩ := and_one h0
  obtain ⟨e0, e1⟩ := and_one h0
  exact ⟨all_real x0 _ _ _ _ e0, all_real_half x1 _ _ _ _ e1, all_real x2 _ _ _ _ e2, all_real x3 _ _ _ _ e3, all_real x4 _ _ _ _ e4, all_real_half x5 _ _ _ _ e5⟩

end Cert.BwdInPre
-- ==== Proof.BwdIn.lean ====
module

public import proofs.«01_k».proof.Defs
public import proofs.«01_k».proof.Proof.Mixer
public import proofs.«01_k».proof.Proof.BwdInKernel
public import proofs.«01_k».proof.Proof.BwdInRef
public import proofs.«01_k».proof.Proof.BwdInPre
public import proofs.«01_k».proof.Proof.Gen.Pre_finite_in
public import proofs.«01_k».proof.Proof.Gen.BwdIn
public import proofs.«01_k».proof.Proof.Gen.BwdIn.Skeleton
public import proofs.«01_k».proof.Proof.Gen.BwdInRefIdeal.Run
public import proofs.«01_k».proof.Proof.Gen.BwdInRefIdeal.Read

/-!
The input projection's gradient: the kernel and the reference end with the same gradients.
-/

@[expose] public section

noncomputable section

namespace Cert.Proof.BwdIn

open Idealize.ShloMosaic Idealize.ShloMosaic.TcCoe Idealize.SL.Sem Cert.MixerOps Cert.BwdInMath
open Cert.Proof.Mixer (flat1 flat2 flat3 tab1_flat tab_flat tab3_flat)

/-- The kernel's text is one and the same over machine words and over the reals: what its frame says of words, in the words of the other. -/
theorem frame_text : Cert.quiescent_BwdIn =
    ∀ (m : (ℓ : Loc Cert.BwdInIdeal.nD Cert.BwdInIdeal.τ Cert.BwdInIdeal.sig) → Buf (Elt Bits) ℓ) (g : Dev Cert.BwdInIdeal.nD → PrngReg), Cert.Pre_BwdIn m →
    θ_run (Cert.BwdInIdeal.defs (F := Bits)) (onTc (τ := Cert.BwdInIdeal.τ) (Cert.BwdInIdeal.main (F := Bits))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
      ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
      ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6))
      ∧ r.2.sem = fun _ => 0) := by sl_kernel_rfl

theorem frame : Cert.quiescent_BwdIn := frame_text ▸ fun m ρ _ => Cert.BwdInIdeal.Hand.frame (F := Bits) m ρ

theorem frame_ideal : Cert.quiescent_BwdInIdeal := fun m ρ _ => Cert.BwdInIdeal.Hand.frame m ρ

theorem frame_ideal_finite : Cert.quiescent_BwdInIdeal_pre_finite_in := fun m ρ _ => Cert.BwdInIdeal.Hand.frame m ρ

theorem frame_ref : Cert.quiescent_BwdInRefIdeal := fun m ρ _ =>
  (θ_run Cert.BwdInRefIdeal.defs _ _).mono (fun r h => ⟨fun c => (h c).2.2.2.2, sem_eq_zero_of_no_sems rfl r.2⟩)
    (Cert.BwdInRefIdeal.Value.run (F := Ideal) m ρ)

theorem frame_ref_finite : Cert.quiescent_BwdInRefIdeal_pre_finite_in := fun m ρ _ => frame_ref m ρ trivial

variable (m : (ℓ : Loc Cert.BwdInIdeal.nD Cert.BwdInIdeal.τ Cert.BwdInIdeal.sig) → Buf (Elt Ideal) ℓ) (c : Dev Cert.BwdInIdeal.nD)

/-- The kernel's arguments on a device, as real numbers. -/
def inp : Inp where
  X := flat2 (m := 4096) (n := 1024) (m ((c.tc : Thread Cert.BwdInIdeal.nD Cert.BwdInIdeal.τ).loc Cert.BwdInIdeal.main_arg0))
  Z := flat2 (m := 4096) (n := 1536) (m ((c.tc : Thread Cert.BwdInIdeal.nD Cert.BwdInIdeal.τ).loc Cert.BwdInIdeal.main_arg1))
  D := flat2 (m := 4096) (n := 1024) (m ((c.tc : Thread Cert.BwdInIdeal.nD Cert.BwdInIdeal.τ).loc Cert.BwdInIdeal.main_arg2))
  M := flat2 (m := 6) (n := 1024) (m ((c.tc : Thread Cert.BwdInIdeal.nD Cert.BwdInIdeal.τ).loc Cert.BwdInIdeal.main_arg3))
  G := flat1 (m := 1024) (m ((c.tc : Thread Cert.BwdInIdeal.nD Cert.BwdInIdeal.τ).loc Cert.BwdInIdeal.main_arg4))
  W := flat3 (k := 4) (m := 1024) (n := 384) (m ((c.tc : Thread Cert.BwdInIdeal.nD Cert.BwdInIdeal.τ).loc Cert.BwdInIdeal.main_arg5))

theorem holds (h : Cert.Pre_BwdInIdeal_finite_in m) : Cert.BwdInIdeal.Hand.Holds m c (inp m c) := by
  obtain ⟨h0, h1, h2, h3, h4, h5⟩ := Cert.BwdInPre.reals _ _ _ _ _ _ _ (h c)
  exact ⟨tab_flat _ h0, tab_flat _ h1, tab_flat _ h2, tab_flat _ h3, tab1_flat _ h4, tab3_flat _ h5⟩

open Cert.BwdInIdeal.Hand Cert.BwdInRefIdeal.Hand Cert.BwdInIdeal in
theorem algebraic : Cert.algebraic_BwdInIdeal_BwdInRefIdeal_pre_finite_in := by
  intro m ρ m' ρ' pre hagree
  refine ⟨fun c => tab fun s j => ((inp m c).dx s j : EReal), fun c => line ((inp m c).dshift 0 4096), fun c => line ((inp m c).da 0 4096), fun c => Y12 ((inp m c).dw 0 4096), ?_, ?_⟩
  · refine (θ_run Cert.BwdInIdeal.defs _ _).mono (fun r h c => ?_) (Cert.BwdInIdeal.Hand.run_quiet m ρ)
    have H := holds m c pre
    exact ⟨((h.1.toR c).1 6).trans (final6 H),
      ((h.1.toR c).1 7).trans (final7 H),
      ((h.1.toR c).1 8).trans (final8 H),
      ((h.1.written c (by decide : main_v1_3 ∈ copied)).trans (copiedTo_11 m c)).trans (copied_held H), Cert.BwdInIdeal.Hand.kept m r h.1 c⟩
  · refine (θ_run Cert.BwdInRefIdeal.defs _ _).mono (fun _ h c => ?_) (Cert.BwdInRefIdeal.Value.run (F := Ideal) m' ρ')
    obtain ⟨e0, e1, e2, e3, args⟩ := h c
    obtain ⟨a0, a1, a2, a3, a4, a5, a6⟩ := hagree c
    have H := holds m c pre
    have b0 : m' ((c.tc : Thread Cert.BwdInRefIdeal.nD Cert.BwdInRefIdeal.τ).loc Cert.BwdInRefIdeal.main_arg0) = R0 (inp m c) := a0.trans H.a0
    have b1 : m' ((c.tc : Thread Cert.BwdInRefIdeal.nD Cert.BwdInRefIdeal.τ).loc Cert.BwdInRefIdeal.main_arg1) = R1 (inp m c) := a1.trans H.a1
    have b2 : m' ((c.tc : Thread Cert.BwdInRefIdeal.nD Cert.BwdInRefIdeal.τ).loc Cert.BwdInRefIdeal.main_arg2) = R2 (inp m c) := a2.trans H.a2
    have b3 : m' ((c.tc : Thread Cert.BwdInRefIdeal.nD Cert.BwdInRefIdeal.τ).loc Cert.BwdInRefIdeal.main_arg3) = R3 (inp m c) := a3.trans H.a3
    have b4 : m' ((c.tc : Thread Cert.BwdInRefIdeal.nD Cert.BwdInRefIdeal.τ).loc Cert.BwdInRefIdeal.main_arg4) = R4 (inp m c) := a4.trans H.a4
    have b5 : m' ((c.tc : Thread Cert.BwdInRefIdeal.nD Cert.BwdInRefIdeal.τ).loc Cert.BwdInRefIdeal.main_arg5) = R5 (inp m c) := a5.trans H.a5
    refine ⟨e0.trans ?_, e1.trans ?_, e2.trans ?_, e3.trans ?_, args⟩
    · refine (Cert.BwdInRefIdeal.Read.val_main_v59_eq ..).trans ?_
      rw [b0, b1, b2, b3, b4, b5]
      exact funext (v59 (inp m c))
    · refine (Cert.BwdInRefIdeal.Read.val_main_v60_eq ..).trans ?_
      rw [b1, b5]
      exact funext (v60 (inp m c))
    · refine (Cert.BwdInRefIdeal.Read.val_main_v61_eq ..).trans ?_
      rw [b0, b1, b5]
      exact funext (v61 (inp m c))
    · refine (Cert.BwdInRefIdeal.Read.val_main_v62_eq ..).trans ?_
      rw [b0, b1, b3, b4]
      exact funext (v62 (inp m c))

end Cert.Proof.BwdIn
-- ==== Proof.BwdFc2Math.lean ====
module

public import proofs.«01_k».proof.Proof.MixerHost
public import proofs.«01_k».proof.Proof.Slab

/-!
The gradient of the second linear map and of the squared relu before it, as sums over the extended reals.

With `q = max(P, 0)²` the forward pass ends with `q · W`. For the gradient `D` of that product: `W` gets `qᵀ D`, and `P` gets
`(D Wᵀ) · 2 max(P, 0)` where `P` is positive. The call under proof writes the last factor as the root of `q` and doubles `D` beforehand.
-/

@[expose] public section

noncomputable section

namespace Cert.BwdFc2Math

open Idealize.ShloMosaic

/-- The call's arrays. -/
structure Inp where
  P : ℕ → ℕ → EReal
  D : ℕ → ℕ → EReal
  W : ℕ → ℕ → ℕ → EReal

variable (I : Inp)

/-- The squared relu, -/
def Inp.q (s k : ℕ) : EReal := max (I.P s k) 0 * max (I.P s k) 0
/-- the doubled gradient through one shard of the weight, -/
def Inp.through (s j r : ℕ) : EReal := ∑ i ∈ Finset.range 1024, I.D s i * ((2 : ℝ) : EReal) * I.W j r i
/-- the gradient before the squared relu, -/
def Inp.dp (s k : ℕ) : EReal := I.through s (k / 1024) (k % 1024) * Ideal.sqrt (I.q s k)
/-- and the weight's gradient over `k` rows from row `n` on. -/
def Inp.part (n k a i : ℕ) : EReal := ∑ s ∈ Finset.range k, I.q (n + s) a * I.D (n + s) i
def Inp.dw (n k j b r i : ℕ) : EReal := I.part n k (1024 * j + (512 * b + r)) i

theorem Inp.dw_add (n k j b r i : ℕ) : I.dw 0 n j b r i + I.dw n k j b r i = I.dw 0 (n + k) j b r i := by
  simp only [Inp.dw, Inp.part, Finset.sum_range_add, Nat.zero_add]

/-- A factor moves out of a finite sum when it is nonnegative and finite. -/
theorem mul_sum_two (n : ℕ) (f : ℕ → EReal) :
    ∑ i ∈ Finset.range n, ((2 : ℝ) : EReal) * f i = ((2 : ℝ) : EReal) * ∑ i ∈ Finset.range n, f i := by
  induction n with
  | zero => simp only [Finset.range_zero, Finset.sum_empty, mul_zero]
  | succ n ih =>
    rw [Finset.sum_range_succ, Finset.sum_range_succ, ih,
      EReal.left_distrib_of_nonneg_of_ne_top (by exact_mod_cast (by norm_num : (0 : ℝ) ≤ 2)) (EReal.coe_ne_top 2)]

/-- The root of a square is the number, for numbers that are not negative. -/
theorem sqrt_sq {x : EReal} (h : 0 ≤ x) : Ideal.sqrt (x * x) = x := by
  induction x with
  | bot => exact absurd h (by decide)
  | top => rw [EReal.top_mul_top]; rfl
  | coe r =>
    have hr : 0 ≤ r := by exact_mod_cast h
    rw [← EReal.coe_mul, Ideal.sqrt_coe, if_neg (not_lt.mpr (mul_nonneg hr hr)), Real.sqrt_mul_self hr]

/-- What the other program writes: the plain gradient times twice the relu, where the argument is positive. -/
theorem Inp.dp_eq (s k : ℕ) : I.dp s k = if 0 < I.P s k
    then (∑ i ∈ Finset.range 1024, I.D s i * I.W (k / 1024) (k % 1024) i) * (((2 : ℝ) : EReal) * max (I.P s k) 0) else 0 := by
  have e : I.through s (k / 1024) (k % 1024)
      = ((2 : ℝ) : EReal) * ∑ i ∈ Finset.range 1024, I.D s i * I.W (k / 1024) (k % 1024) i := by
    rw [← mul_sum_two]
    exact Finset.sum_congr rfl fun i _ => by rw [mul_comm (I.D s i), mul_assoc]
  rw [Inp.dp, Inp.q, sqrt_sq (le_max_right ..), e]
  split_ifs with h
  · rw [mul_comm ((2 : ℝ) : EReal) (Finset.sum ..), mul_assoc]
  · rw [max_eq_right (not_lt.mp h), mul_zero]

end Cert.BwdFc2Math
-- ==== Proof.BwdFc2Run.lean ====
module

public import proofs.«01_k».proof.Proof.Gen.BwdFc2Ideal.Launch
public import proofs.«01_k».proof.Proof.Gen.BwdFc2Ideal.Skeleton
public import proofs.«01_k».proof.Proof.Gen.BwdFc2Ideal.Points
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

/-! The body of the `bwd_fc2` call run at a first, a middle and the last grid point: from what it owns, what it
    leaves written. The last point also starts and waits the copies of the accumulated shards to the result. -/

@[expose] public section

set_option maxRecDepth 16384

noncomputable section

namespace Cert.BwdFc2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.BwdFc2Ideal.Gen

variable {F : FTy → Type} [FloatOps F]

/-- The resources the proofs own pieces of. -/
abbrev Res (F : FTy → Type) [FloatOps F] := MT nD τ sig Unit (Elt F) ℕ (Pipeline.UD sig nD τ) ℕ

/-- The body's test for the first point. -/
abbrev First (i : grid0.Coords) : Prop :=
  (Scalar.cmpi .ne (Scalar.extui (Scalar.cmpi .eq (BitVec.ofNat 32 (i 0).val) 0#32)) 0#32) = 1#1
/-- The body's test for the last point. -/
abbrev Final (i : grid0.Coords) : Prop :=
  (Scalar.cmpi .ne (Scalar.extui (Scalar.cmpi .eq (BitVec.ofNat 32 (i 0).val) 7#32)) 0#32) = 1#1

/-- The contents of an array left in HBM. -/
abbrev Held (c : Dev nD) (b : Ref sig .tc) : Type := Buf (Elt F) ((c : Thread nD τ).loc b)
/-- The contents of the buffer behind a memref. -/
abbrev Inside (c : Dev nD) {sp : Space} {S : Shape} {e : EltTy} (M : Memref sig .tc sp S e) : Type :=
  Buf (Elt F) (M.view.loc (c : Thread nD τ))
/-- A memref's buffer held whole at given contents. -/
abbrev holds (c : Dev nD) {sp : Space} {S : Shape} {e : EltTy} (M : Memref sig .tc sp S e)
    (f : Inside (F := F) c M) : sProp (Res F) := M.view.loc (c : Thread nD τ) ↦{fullShare} f

abbrev Dst5 : Memref sig .tc .hbm S4x2x512x1024 .f32 := Memref.whole main_v4_1

/-- The stores a run of the body leaves, memref by memref, and the contents of the arrays its copies write. -/
structure Stores (F : FTy → Type) [FloatOps F] (c : Dev nD) where
  p4 : List (View.Piece (Elt F) S512x4096 .bf16)
  p6 : List (View.Piece (Elt F) S4x2x512x1024 .f32)
  g5 : Inside (F := F) c Dst5

variable (c : Dev nD) (i : grid0.Coords)
  (arg1 : Memref sig .tc .vmem S512x1024 .bf16) (harg1 : arg1.IsWhole)
  (arg2 : Memref sig .tc .vmem S512x4096 .bf16) (harg2 : arg2.IsWhole)
  (arg3 : Memref sig .tc .vmem S4x1024x1024 .bf16) (harg3 : arg3.IsWhole)
  (arg4 : Memref sig .tc .vmem S512x4096 .bf16) (harg4 : arg4.IsWhole)
  (arg6 : Memref sig .tc .vmem S4x2x512x1024 .f32) (harg6 : arg6.IsWhole)

/-- The body, given its inputs and what it holds of the carried buffers, leaves the stores `w`. -/
def Leaves (P6 : sProp (Res F))
    (x1 : Vec F S512x1024 .bf16) (x2 : Vec F S512x4096 .bf16) (x3 : Vec F S4x1024x1024 .bf16)
    (f5 : Inside (F := F) c Dst5) (w : Stores F c) : Prop :=
  ∀ (W : Waits sig Unit) (K : PUnit → sProp (Res F)),
    iprop(owns (c : Thread nD τ) arg1 fullShare x1 ∗ owns (c : Thread nD τ) arg2 fullShare x2 ∗ owns (c : Thread nD τ) arg3 fullShare x3 ∗ (∃ d, owns (c : Thread nD τ) arg4 fullShare d) ∗ P6 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ holds c Dst5 f5 ∗ owes (c : Thread nD τ) 0 W
      ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f w.p4) ∗ (∃ f, arg6.view.loc (c : Thread nD τ) ↦[arg6.view.set]{fullShare} arg6.view.writes (Elt F) f w.p6) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ holds c Dst5 w.g5 ∗ (∃ W', owes (c : Thread nD τ) 0 W')) -∗ K ⟨⟩))
    ⊢ wp frame (wpE (defs₀ (F := F)) Variants.none c none) Set.univ (cc0_bwd_fc2 i arg1 harg1 arg2 harg2 arg3 harg3 arg4 harg4 (Memref.whole main_v4_1) (Memref.isWhole_whole _) arg6 harg6 cc0_scratch1) K

set_option maxHeartbeats 4000000 in
/-- The run at the first point. -/
def runA (hs : First i) (he : ¬ Final i)
    (x1 : Vec F S512x1024 .bf16) (x2 : Vec F S512x4096 .bf16) (x3 : Vec F S4x1024x1024 .bf16)

    (f5 : Inside (F := F) c Dst5) :
    { w : Stores F c // Leaves c i arg1 harg1 arg2 harg2 arg3 harg3 arg4 harg4 arg6 harg6 iprop(∃ d, owns (c : Thread nD τ) arg6 fullShare d)  x1 x2 x3 f5 w } := by
  refine ⟨⟨?_, ?_, ?_⟩, fun W K => ?run⟩
  case run =>
    dsimp only
    simp only [cc0_bwd_fc2_eq_skeleton]; unfold cc0_bwd_fc2_skel
    simp only [k0_part1_eq_skeleton, k0_part2_eq_skeleton, k0_part3_eq_skeleton, k0_part4_eq_skeleton]
    unfold owns
    iintro ⟨⟨%f1, %h1, H1⟩, ⟨%f2, %h2, H2⟩, ⟨%f3, %h3, H3⟩, ⟨%d4, %f4, -, H4⟩, ⟨%d6, %f6, -, H6⟩, Hq0, Hq1, Hq2, Hq3, Hh5, HW, Hk⟩

    obtain rfl := harg1.eq_unread h1
    obtain rfl := harg2.eq_unread h2
    obtain rfl := harg3.eq_unread h3
    sl_exec (disch := first | sl_exact hs | sl_exact he)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H6]; · iexists _; iexact H6
    isplitl [Hq0]; · iexact Hq0
    isplitl [Hq1]; · iexact Hq1
    isplitl [Hq2]; · iexact Hq2
    isplitl [Hq3]; · iexact Hq3
    isplitl [Hh5]; · iexact Hh5
    iexists _; iexact HW

set_option maxHeartbeats 4000000 in
/-- The run at a middle point. -/
def runB (hs : ¬ First i) (he : ¬ Final i)
    (x1 : Vec F S512x1024 .bf16) (x2 : Vec F S512x4096 .bf16) (x3 : Vec F S4x1024x1024 .bf16)
    (y6 : Vec F S4x2x512x1024 .f32)
    (f5 : Inside (F := F) c Dst5) :
    { w : Stores F c // Leaves c i arg1 harg1 arg2 harg2 arg3 harg3 arg4 harg4 arg6 harg6 (owns (c : Thread nD τ) arg6 fullShare y6)  x1 x2 x3 f5 w } := by
  refine ⟨⟨?_, ?_, ?_⟩, fun W K => ?run⟩
  case run =>
    dsimp only
    simp only [cc0_bwd_fc2_eq_skeleton]; unfold cc0_bwd_fc2_skel
    simp only [k0_part1_eq_skeleton, k0_part2_eq_skeleton, k0_part3_eq_skeleton, k0_part4_eq_skeleton]
    unfold owns
    iintro ⟨⟨%f1, %h1, H1⟩, ⟨%f2, %h2, H2⟩, ⟨%f3, %h3, H3⟩, ⟨%d4, %f4, -, H4⟩, ⟨%f6, %h6, H6⟩, Hq0, Hq1, Hq2, Hq3, Hh5, HW, Hk⟩

    obtain rfl := harg1.eq_unread h1
    obtain rfl := harg2.eq_unread h2
    obtain rfl := harg3.eq_unread h3
    obtain rfl := harg6.eq_unread h6
    sl_exec (disch := first | sl_exact hs | sl_exact he)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H6]; · iexists _; iexact H6
    isplitl [Hq0]; · iexact Hq0
    isplitl [Hq1]; · iexact Hq1
    isplitl [Hq2]; · iexact Hq2
    isplitl [Hq3]; · iexact Hq3
    isplitl [Hh5]; · iexact Hh5
    iexists _; iexact HW

set_option sl_exec.dmaWindow true in
set_option sl_exec.dmaWindowSet true in
set_option maxHeartbeats 4000000 in
/-- The run at the last point. -/
def runC (hs : ¬ First i) (he : Final i)
    (x1 : Vec F S512x1024 .bf16) (x2 : Vec F S512x4096 .bf16) (x3 : Vec F S4x1024x1024 .bf16)
    (y6 : Vec F S4x2x512x1024 .f32)
    (f5 : Inside (F := F) c Dst5) :
    { w : Stores F c // Leaves c i arg1 harg1 arg2 harg2 arg3 harg3 arg4 harg4 arg6 harg6 (owns (c : Thread nD τ) arg6 fullShare y6)  x1 x2 x3 f5 w } := by
  refine ⟨⟨?_, ?_, ?_⟩, fun W K => ?run⟩
  case run =>
    dsimp only
    simp only [cc0_bwd_fc2_eq_skeleton]; unfold cc0_bwd_fc2_skel
    simp only [k0_part1_eq_skeleton, k0_part2_eq_skeleton, k0_part3_eq_skeleton, k0_part4_eq_skeleton]
    unfold owns
    iintro ⟨⟨%f1, %h1, H1⟩, ⟨%f2, %h2, H2⟩, ⟨%f3, %h3, H3⟩, ⟨%d4, %f4, -, H4⟩, ⟨%f6, %h6, H6⟩, Hq0, Hq1, Hq2, Hq3, Hh5, HW, Hk⟩

    obtain rfl := harg1.eq_unread h1
    obtain rfl := harg2.eq_unread h2
    obtain rfl := harg3.eq_unread h3
    obtain rfl := harg6.eq_unread h6
    have a10 : Disjoint (((Memref.whole main_v4_1).slice (Rect.unit (s := S4x2x512x1024) ![1, 0, 0, 0] S1x2x512x1024.size inb_S4x2x512x1024_S1x2x512x1024_1_0_0_0) (fun _ => rfl)).squeeze S2x512x1024 squeezes_S1x2x512x1024_S2x512x1024).view.set (((Memref.whole main_v4_1).slice (Rect.unit (s := S4x2x512x1024) ![0, 0, 0, 0] S1x2x512x1024.size inb_S4x2x512x1024_S1x2x512x1024_0_0_0_0) (fun _ => rfl)).squeeze S2x512x1024 squeezes_S1x2x512x1024_S2x512x1024).view.set := by
      rw [Memref.set_view_squeeze, Memref.set_view_squeeze]
      exact View.disjoint_slice_of_disj (Memref.whole main_v4_1).view (Rect.unit (s := S4x2x512x1024) ![1, 0, 0, 0] S1x2x512x1024.size inb_S4x2x512x1024_S1x2x512x1024_1_0_0_0) (Rect.unit (s := S4x2x512x1024) ![0, 0, 0, 0] S1x2x512x1024.size inb_S4x2x512x1024_S1x2x512x1024_0_0_0_0) (by decide +kernel)
    have a20 : Disjoint (((Memref.whole main_v4_1).slice (Rect.unit (s := S4x2x512x1024) ![2, 0, 0, 0] S1x2x512x1024.size inb_S4x2x512x1024_S1x2x512x1024_2_0_0_0) (fun _ => rfl)).squeeze S2x512x1024 squeezes_S1x2x512x1024_S2x512x1024).view.set (((Memref.whole main_v4_1).slice (Rect.unit (s := S4x2x512x1024) ![0, 0, 0, 0] S1x2x512x1024.size inb_S4x2x512x1024_S1x2x512x1024_0_0_0_0) (fun _ => rfl)).squeeze S2x512x1024 squeezes_S1x2x512x1024_S2x512x1024).view.set := by
      rw [Memref.set_view_squeeze, Memref.set_view_squeeze]
      exact View.disjoint_slice_of_disj (Memref.whole main_v4_1).view (Rect.unit (s := S4x2x512x1024) ![2, 0, 0, 0] S1x2x512x1024.size inb_S4x2x512x1024_S1x2x512x1024_2_0_0_0) (Rect.unit (s := S4x2x512x1024) ![0, 0, 0, 0] S1x2x512x1024.size inb_S4x2x512x1024_S1x2x512x1024_0_0_0_0) (by decide +kernel)
    have a21 : Disjoint (((Memref.whole main_v4_1).slice (Rect.unit (s := S4x2x512x1024) ![2, 0, 0, 0] S1x2x512x1024.size inb_S4x2x512x1024_S1x2x512x1024_2_0_0_0) (fun _ => rfl)).squeeze S2x512x1024 squeezes_S1x2x512x1024_S2x512x1024).view.set (((Memref.whole main_v4_1).slice (Rect.unit (s := S4x2x512x1024) ![1, 0, 0, 0] S1x2x512x1024.size inb_S4x2x512x1024_S1x2x512x1024_1_0_0_0) (fun _ => rfl)).squeeze S2x512x1024 squeezes_S1x2x512x1024_S2x512x1024).view.set := by
      rw [Memref.set_view_squeeze, Memref.set_view_squeeze]
      exact View.disjoint_slice_of_disj (Memref.whole main_v4_1).view (Rect.unit (s := S4x2x512x1024) ![2, 0, 0, 0] S1x2x512x1024.size inb_S4x2x512x1024_S1x2x512x1024_2_0_0_0) (Rect.unit (s := S4x2x512x1024) ![1, 0, 0, 0] S1x2x512x1024.size inb_S4x2x512x1024_S1x2x512x1024_1_0_0_0) (by decide +kernel)
    have a30 : Disjoint (((Memref.whole main_v4_1).slice (Rect.unit (s := S4x2x512x1024) ![3, 0, 0, 0] S1x2x512x1024.size inb_S4x2x512x1024_S1x2x512x1024_3_0_0_0) (fun _ => rfl)).squeeze S2x512x1024 squeezes_S1x2x512x1024_S2x512x1024).view.set (((Memref.whole main_v4_1).slice (Rect.unit (s := S4x2x512x1024) ![0, 0, 0, 0] S1x2x512x1024.size inb_S4x2x512x1024_S1x2x512x1024_0_0_0_0) (fun _ => rfl)).squeeze S2x512x1024 squeezes_S1x2x512x1024_S2x512x1024).view.set := by
      rw [Memref.set_view_squeeze, Memref.set_view_squeeze]
      exact View.disjoint_slice_of_disj (Memref.whole main_v4_1).view (Rect.unit (s := S4x2x512x1024) ![3, 0, 0, 0] S1x2x512x1024.size inb_S4x2x512x1024_S1x2x512x1024_3_0_0_0) (Rect.unit (s := S4x2x512x1024) ![0, 0, 0, 0] S1x2x512x1024.size inb_S4x2x512x1024_S1x2x512x1024_0_0_0_0) (by decide +kernel)
    have a31 : Disjoint (((Memref.whole main_v4_1).slice (Rect.unit (s := S4x2x512x1024) ![3, 0, 0, 0] S1x2x512x1024.size inb_S4x2x512x1024_S1x2x512x1024_3_0_0_0) (fun _ => rfl)).squeeze S2x512x1024 squeezes_S1x2x512x1024_S2x512x1024).view.set (((Memref.whole main_v4_1).slice (Rect.unit (s := S4x2x512x1024) ![1, 0, 0, 0] S1x2x512x1024.size inb_S4x2x512x1024_S1x2x512x1024_1_0_0_0) (fun _ => rfl)).squeeze S2x512x1024 squeezes_S1x2x512x1024_S2x512x1024).view.set := by
      rw [Memref.set_view_squeeze, Memref.set_view_squeeze]
      exact View.disjoint_slice_of_disj (Memref.whole main_v4_1).view (Rect.unit (s := S4x2x512x1024) ![3, 0, 0, 0] S1x2x512x1024.size inb_S4x2x512x1024_S1x2x512x1024_3_0_0_0) (Rect.unit (s := S4x2x512x1024) ![1, 0, 0, 0] S1x2x512x1024.size inb_S4x2x512x1024_S1x2x512x1024_1_0_0_0) (by decide +kernel)
    have a32 : Disjoint (((Memref.whole main_v4_1).slice (Rect.unit (s := S4x2x512x1024) ![3, 0, 0, 0] S1x2x512x1024.size inb_S4x2x512x1024_S1x2x512x1024_3_0_0_0) (fun _ => rfl)).squeeze S2x512x1024 squeezes_S1x2x512x1024_S2x512x1024).view.set (((Memref.whole main_v4_1).slice (Rect.unit (s := S4x2x512x1024) ![2, 0, 0, 0] S1x2x512x1024.size inb_S4x2x512x1024_S1x2x512x1024_2_0_0_0) (fun _ => rfl)).squeeze S2x512x1024 squeezes_S1x2x512x1024_S2x512x1024).view.set := by
      rw [Memref.set_view_squeeze, Memref.set_view_squeeze]
      exact View.disjoint_slice_of_disj (Memref.whole main_v4_1).view (Rect.unit (s := S4x2x512x1024) ![3, 0, 0, 0] S1x2x512x1024.size inb_S4x2x512x1024_S1x2x512x1024_3_0_0_0) (Rect.unit (s := S4x2x512x1024) ![2, 0, 0, 0] S1x2x512x1024.size inb_S4x2x512x1024_S1x2x512x1024_2_0_0_0) (by decide +kernel)
    sl_exec (disch := first | sl_exact hs | sl_exact he)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H6]; · iexists _; iexact H6
    isplitl [Hq0]; · iexact Hq0
    isplitl [Hq1]; · iexact Hq1
    isplitl [Hq2]; · iexact Hq2
    isplitl [Hq3]; · iexact Hq3
    isplitl [Hh5]; · iexact Hh5
    iexists _; iexact HW

end Cert.BwdFc2Ideal.Hand

end
-- ==== Proof.BwdFc2Body.lean ====
module

public import proofs.«01_k».proof.Proof.BwdFc2Run

/-! The `bwd_fc2` call as a whole: what its buffers hold after each grid point, point by point, and that every execution
    of the program ends with its arguments as they were, its counters at zero and its results at these contents. -/

@[expose] public section

set_option maxRecDepth 16384

noncomputable section

namespace Cert.BwdFc2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BwdFc2Ideal.Gen

variable {F : FTy → Type} [FloatOps F]
variable (m : (ℓ : Loc nD τ sig) → Buf (Elt F) ℓ) (ρ : Dev nD → PrngReg)

/-! ## Up to the call -/

/-- The buffers as the call finds them, after the host lines before it. -/
abbrev V (c : Dev nD) (b : Ref sig .tc) : Buf (Elt F) ((c : Thread nD τ).loc b) :=
  StableHlo.after hostOps0 (fun b => m (c, b)) b

theorem fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ)
    cfgs 0 defs₀ 𝒱₀ m (main (F := F)) (V m) :=
  Pipeline.hmain_prefix cfgs 0 defs₀ 𝒱₀ m main hostOps0 hostOps0_sub fresh main_chain

/-- A buffer no host line writes is found as launched. -/
theorem V_kept (c : Dev nD) (b : Ref sig .tc) (h0 : b ≠ main_cst) (h1 : b ≠ main_v0) (h2 : b ≠ main_v1) (h3 : b ≠ main_v2) (h4 : b ≠ main_v3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.reshape_writes, Finset.mem_singleton]
    repeat' apply And.intro
    all_goals first | exact StableHlo.devRef_ne_of_ne h0 | exact StableHlo.devRef_ne_of_ne h1 | exact StableHlo.devRef_ne_of_ne h2 | exact StableHlo.devRef_ne_of_ne h3 | exact StableHlo.devRef_ne_of_ne h4))

/-- A window's block at a point, read off its array. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's buffer holds its block at every point. -/
theorem before_blk {c : Dev nD} (dat : Dat τ (Elt F) Unit ℕ (Pipeline.UD sig nD τ) ℕ cfg0 c) (w : Fin cfg0.W)
    (hw : (cfg0.win w).isOut = false) (hl : ∀ i, cfg0.idle w i = false)
    (hc : ∀ t t' : Fin cfg0.N, (cfg0.win w).index t = (cfg0.win w).index t' →
      (cfg0.win w).clip (cfg0.grid.coords t) = (cfg0.win w).clip (cfg0.grid.coords t'))
    (hA : dat.A w = V m c (Pipeline.arrRef spec0 w))
    (hk : ∀ t, (cfg0.win w).cut (cfg0.grid.coords t) (dat.after w t) = blk m c w t) (t : Fin cfg0.N) (d) :
    dat.before w t d = dat.fetched w t d :=
  dat.before_in_eq_fetched w hw hl hc (fun t => by rw [hk]; unfold Dat.blockOf blk; rw [hA]) t d

/-! ## The points -/

theorem first_iff : ∀ t : Fin cfg0.N, First (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have h : First (grid0.coords t) ↔ t.val % 8 = 0 := by
      simp only [First, e0]
      word_cmp
    rw [h]; omega
   : ∀ t : Fin grid0.N, First (grid0.coords t) ↔ t.val = 0)

theorem final_iff : ∀ t : Fin cfg0.N, Final (grid0.coords t) ↔ t.val = 7 :=
  (fun t => by
    have ht : t.val < 8 := Nat.lt_of_lt_of_eq t.isLt N_0
    have e0 : (grid0.coords t 0).val = t.val / 1 % 8 := Pipeline.Grid.coords_val t 0 (by decide) rfl
    have h : Final (grid0.coords t) ↔ t.val % 8 = 7 := by
      simp only [Final, e0]
      word_cmp
    rw [h]; omega
   : ∀ t : Fin grid0.N, Final (grid0.coords t) ↔ t.val = 7)

abbrev buf1 (t : Fin cfg0.N) : Memref sig .tc .vmem S512x1024 .bf16 := win0_0.stage (cfg0.slots t 0)
abbrev whole1 (t : Fin cfg0.N) : (buf1 t).IsWhole := hstage0_0 ((cfg0.slots t 0).cast nbuf0_0)
abbrev buf2 (t : Fin cfg0.N) : Memref sig .tc .vmem S512x4096 .bf16 := win0_1.stage (cfg0.slots t 1)
abbrev whole2 (t : Fin cfg0.N) : (buf2 t).IsWhole := hstage0_1 ((cfg0.slots t 1).cast nbuf0_1)
abbrev buf3 (t : Fin cfg0.N) : Memref sig .tc .vmem S4x1024x1024 .bf16 := win0_2.stage (cfg0.slots t 2)
abbrev whole3 (t : Fin cfg0.N) : (buf3 t).IsWhole := hstage0_2 ((cfg0.slots t 2).cast nbuf0_2)
abbrev buf4 (t : Fin cfg0.N) : Memref sig .tc .vmem S512x4096 .bf16 := win0_3.stage (cfg0.slots t 3)
abbrev whole4 (t : Fin cfg0.N) : (buf4 t).IsWhole := hstage0_3 ((cfg0.slots t 3).cast nbuf0_3)
abbrev scr6 : Memref sig .tc .vmem S4x2x512x1024 .f32 := Memref.whole cc0_scratch0
abbrev view6 : View sig .tc .vmem S4x2x512x1024 .f32 := scr6.view
abbrev view4 : View sig .tc .vmem S512x4096 .bf16 := (Memref.whole cc0_stg3_0 : Memref sig .tc .vmem S512x4096 .bf16).view

/-- What the outputs, the carried scratch and the results written by copies hold after a point. -/
structure State (F : FTy → Type) [FloatOps F] (c : Dev nD) where
  v4 : Vec F S512x4096 .bf16
  v6 : Vec F S4x2x512x1024 .f32
  g5 : Inside (F := F) c Dst5

/-- The stores of a point read back. -/
def after {c : Dev nD} (w : Stores F c)  : State F c where
  v4 := view4.read (Elt F) (view4.writes (Elt F) view4.junk w.p4)
  v6 := view6.read (Elt F) (view6.writes (Elt F) view6.junk w.p6)
  g5 := w.g5

/-- The stores reach every element of what they are made to. -/
def Covered {c : Dev nD} (w : Stores F c) : Prop :=
  (∀ y : (S512x4096 : Shape).Idx, ∃ pc ∈ w.p4, y ∈ pc.1.set) ∧ (∀ y : (S4x2x512x1024 : Shape).Idx, ∃ pc ∈ w.p6, y ∈ pc.1.set)

section
variable (c : Dev nD) (i : grid0.Coords)
  (arg1 : Memref sig .tc .vmem S512x1024 .bf16) (harg1 : arg1.IsWhole)
  (arg2 : Memref sig .tc .vmem S512x4096 .bf16) (harg2 : arg2.IsWhole)
  (arg3 : Memref sig .tc .vmem S4x1024x1024 .bf16) (harg3 : arg3.IsWhole)
  (arg4 : Memref sig .tc .vmem S512x4096 .bf16) (harg4 : arg4.IsWhole)
  (arg6 : Memref sig .tc .vmem S4x2x512x1024 .f32) (harg6 : arg6.IsWhole)
  (x1 : Vec F S512x1024 .bf16) (x2 : Vec F S512x4096 .bf16) (x3 : Vec F S4x1024x1024 .bf16)
  (y6 : Vec F S4x2x512x1024 .f32)
  (f5 : Inside (F := F) c Dst5)

theorem coveredA (hs : First i) (he : ¬ Final i) : Covered (runA c i arg1 harg1 arg2 harg2 arg3 harg3 arg4 harg4 arg6 harg6 hs he x1 x2 x3 f5).1 :=
  ⟨View.cover_of_tiledL _ S512x1024.size (by sl_kernel_rfl), View.cover_of_wholeMem _ (by sl_whole_mem)⟩
theorem coveredB (hs : ¬ First i) (he : ¬ Final i) : Covered (runB c i arg1 harg1 arg2 harg2 arg3 harg3 arg4 harg4 arg6 harg6 hs he x1 x2 x3 y6 f5).1 :=
  ⟨View.cover_of_tiledL _ S512x1024.size (by sl_kernel_rfl), View.cover_of_tiledL _ S1x2x512x1024.size (by sl_kernel_rfl)⟩
theorem coveredC (hs : ¬ First i) (he : Final i) : Covered (runC c i arg1 harg1 arg2 harg2 arg3 harg3 arg4 harg4 arg6 harg6 hs he x1 x2 x3 y6 f5).1 :=
  ⟨View.cover_of_tiledL _ S512x1024.size (by sl_kernel_rfl), View.cover_of_tiledL _ S1x2x512x1024.size (by sl_kernel_rfl)⟩
end

/-- The stores of the first point. -/
def storesA (c : Dev nD) (t : Fin cfg0.N) (h : t.val = 0) : Stores F c :=
  (runA c (grid0.coords t) (buf1 t) (whole1 t) (buf2 t) (whole2 t) (buf3 t) (whole3 t) (buf4 t) (whole4 t) scr6 (Memref.isWhole_whole _) ((first_iff t).mpr h) (fun e => by have := (final_iff t).mp e; omega) (blk m c 0 t) (blk m c 1 t) (blk m c 2 t) (V m c main_v4_1)).1
/-- The stores of a middle point, over what the point before left. -/
def storesB (c : Dev nD) (t : Fin cfg0.N) (s : State F c) (h : t.val ≠ 0) (h' : t.val ≠ 7) : Stores F c :=
  (runB c (grid0.coords t) (buf1 t) (whole1 t) (buf2 t) (whole2 t) (buf3 t) (whole3 t) (buf4 t) (whole4 t) scr6 (Memref.isWhole_whole _) (fun e => h ((first_iff t).mp e)) (fun e => h' ((final_iff t).mp e)) (blk m c 0 t) (blk m c 1 t) (blk m c 2 t) s.v6 s.g5).1
/-- The stores of the last point, over what the point before left. -/
def storesC (c : Dev nD) (t : Fin cfg0.N) (s : State F c) (h' : t.val = 7) : Stores F c :=
  (runC c (grid0.coords t) (buf1 t) (whole1 t) (buf2 t) (whole2 t) (buf3 t) (whole3 t) (buf4 t) (whole4 t) scr6 (Memref.isWhole_whole _) (fun e => by have := (first_iff t).mp e; omega) ((final_iff t).mpr h') (blk m c 0 t) (blk m c 1 t) (blk m c 2 t) s.v6 s.g5).1

/-- What the buffers hold after each point. -/
def state (c : Dev nD) : (n : ℕ) → n < cfg0.N → State F c
  | 0, h => after (storesA m c ⟨0, h⟩ rfl)
  | n + 1, h =>
    if e : n + 1 = 7 then after (storesC m c ⟨n + 1, h⟩ (state c n (by omega)) e)
    else after (storesB m c ⟨n + 1, h⟩ (state c n (by omega)) (Nat.succ_ne_zero n) e)

/-- The state the point before left. -/
abbrev past (c : Dev nD) (t : Fin cfg0.N) : State F c := state m c (t.val - 1) (Nat.lt_of_le_of_lt (Nat.sub_le _ _) t.isLt)

theorem state_A (c : Dev nD) (t : Fin cfg0.N) (h : t.val = 0) :
    state m c t.val t.isLt = after (storesA m c t h)  := by
  obtain ⟨n, hn⟩ := t
  dsimp only at h
  subst h
  rfl

theorem state_B (c : Dev nD) (t : Fin cfg0.N) (h : t.val ≠ 0) (h' : t.val ≠ 7) :
    state m c t.val t.isLt = after (storesB m c t (past m c t) h h')  := by
  obtain ⟨n, hn⟩ := t
  cases n with
  | zero => exact absurd rfl h
  | succ n => exact dif_neg h'

theorem state_C (c : Dev nD) (t : Fin cfg0.N) (h' : t.val = 7) :
    state m c t.val t.isLt = after (storesC m c t (past m c t) h')  := by
  obtain ⟨n, hn⟩ := t
  cases n with
  | zero => exact absurd h' (show ¬ (0 : ℕ) = 7 by decide)
  | succ n => exact dif_pos h'

/-! ## The call's own cells and the arrays it copies -/

abbrev cells : Fin 4 → SemLoc sig := fun j => (![SemLoc.dma 7, SemLoc.dma 8, SemLoc.dma 9, SemLoc.dma 10] : Fin 4 → SemLoc sig) j
theorem cells_own : Pipeline.OwnSemFacts spec0 cells := by decide
/-- The cells at zero. -/
abbrev atZero (c : Dev nD) : sProp (Res F) := iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0)
theorem cells_eq (c : Dev nD) :
    (Pipeline.ownSems0 (Ix := Unit) (Name := ℕ) (U := Pipeline.UD sig nD τ) (Lvl := ℕ) (Val := Elt F) (τ := τ) cells c : sProp (Res F)) = atZero c := by
  rw [Pipeline.ownSems0_eq_of_list c cells [0, 1, 2, 3] (by decide) (by decide)]; rfl
/-- The arrays only read (none), and the ones the copies write. -/
def readOnly : Finset (Ref sig .tc) := ∅
def copied : Finset (Ref sig .tc) := {main_v4_1}
theorem readOnly_sub : readOnly ⊆ Pipeline.restRefs sig spec0 := by decide
theorem copied_sub : copied ⊆ Pipeline.restRefs sig spec0 \ readOnly := by decide

theorem readOnly_eq (c : Dev nD) :
    (bigSep readOnly (fun b => ((c : Thread nD τ).loc b) ↦{fullShare} V m c b) : sProp (Res F)) = iprop(emp) := by
  rw [BI.bigSep_eq_bigSepL_of_eq [] (by decide) (by decide)]; rfl
theorem copied_eq (c : Dev nD) (G : (b : Ref sig .tc) → Buf (Elt F) ((c : Thread nD τ).loc b)) :
    (Pipeline.routed copied c G : sProp (Res F)) = iprop(holds c Dst5 (G main_v4_1)) := by
  unfold Pipeline.routed; rw [BI.bigSep_eq_bigSepL_of_eq [main_v4_1] (by decide) (by decide)]; rfl

/-- The invariant between points: the scratch, the random state, the cells at zero, the arrays read and the ones written. -/
abbrev between (c : Dev nD) (S6 : sProp (Res F)) (g5 : Inside (F := F) c Dst5) : sProp (Res F) :=
  iprop(iprop(S6) ∗ (∃ r, prngReg c r) ∗ atZero c ∗ iprop(emp) ∗ iprop(holds c Dst5 g5))

theorem launch_eq (c : Dev nD) (G : (c : Dev nD) → (b : Ref sig .tc) → Buf (Elt F) ((c : Thread nD τ).loc b)) :
    (Pipeline.ΦDRG cells spec0 readOnly copied (V m) G c : sProp (Res F))
      = between c iprop(∃ d, owns (c : Thread nD τ) scr6 fullShare d) (G c main_v4_1) := by
  rw [Pipeline.ΦDRG_eq, scopedRest0_eq, cells_eq, readOnly_eq, copied_eq]
  simp only [scr6, owns_whole]; try rfl

def inv (c : Dev nD) : (n : ℕ) → n ≤ cfg0.N → sProp (Res F)
  | 0, _ => Pipeline.ΦDRG cells spec0 readOnly copied (V m) (V m) c
  | n + 1, h => between c (owns (c : Thread nD τ) scr6 fullShare (state m c n h).v6) (state m c n h).g5

theorem inv_zero (c : Dev nD) (n : ℕ) (h : n ≤ cfg0.N) (e : n = 0) :
    inv m c n h = between c iprop(∃ d, owns (c : Thread nD τ) scr6 fullShare d) (V m c main_v4_1) := by
  subst e; exact launch_eq m c (V m)

theorem inv_succ (c : Dev nD) (n : ℕ) (h : n + 1 ≤ cfg0.N) :
    inv m c (n + 1) h = between c (owns (c : Thread nD τ) scr6 fullShare (state m c n h).v6) (state m c n h).g5 := rfl

theorem inv_pos (c : Dev nD) (n : ℕ) (h : n ≤ cfg0.N) (e : n ≠ 0) :
    inv m c n h = between c (owns (c : Thread nD τ) scr6 fullShare (state m c (n - 1) (by omega)).v6) (state m c (n - 1) (by omega)).g5 := by
  cases n with
  | zero => exact absurd rfl e
  | succ n => rfl

/-- What the pipeline is told: the arrays, what each point leaves in each window's buffer, the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => (state m c t.val t.isLt).v4
  Φ t := inv m c t.val (Nat.le_of_lt_succ t.isLt)
  q _ := fullShare
  owed _ := 0

theorem arrays (c : Dev nD) (w : Fin cfg0.W) : (dats m 0 c).A w = V m c (Pipeline.arrRef spec0 w) := by
  dsimp only [dats]

theorem inv_start (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = blk m c 0 t := by dsimp only [dats]
theorem after_1 (c : Dev nD) (t : Fin cfg0.N) : (dats m 0 c).after 1 t = blk m c 1 t := by dsimp only [dats]
theorem after_2 (c : Dev nD) (t : Fin cfg0.N) : (dats m 0 c).after 2 t = blk m c 2 t := by dsimp only [dats]
theorem after_3 (c : Dev nD) (t : Fin cfg0.N) : (dats m 0 c).after 3 t = (state m c t.val t.isLt).v4 := by dsimp only [dats]
theorem before_0 (c : Dev nD) (t : Fin cfg0.N) (d) : (dats m 0 c).before 0 t d = blk m c 0 t :=
  (before_blk m (dats m 0 c) 0 rfl (fun _ => rfl) (fun _ _ _ => rfl) (arrays m c 0) (fun t => by rw [after_0]; try rfl) t d).trans
    (by unfold Dat.fetched Dat.blockOf blk; rw [arrays]; try rfl)
theorem before_1 (c : Dev nD) (t : Fin cfg0.N) (d) : (dats m 0 c).before 1 t d = blk m c 1 t :=
  (before_blk m (dats m 0 c) 1 rfl (fun _ => rfl) (fun _ _ _ => rfl) (arrays m c 1) (fun t => by rw [after_1]; try rfl) t d).trans
    (by unfold Dat.fetched Dat.blockOf blk; rw [arrays]; try rfl)
theorem before_2 (c : Dev nD) (t : Fin cfg0.N) (d) : (dats m 0 c).before 2 t d = blk m c 2 t :=
  (before_blk m (dats m 0 c) 2 rfl (fun _ => rfl) (fun _ _ _ => rfl) (arrays m c 2) (fun t => by rw [after_2]; try rfl) t d).trans
    (by unfold Dat.fetched Dat.blockOf blk; rw [arrays]; try rfl)

/-- What the body is given at a point. -/
def before (c : Dev nD) (t : Fin cfg0.N) : sProp (Res F) :=
  iprop((dats m 0 c).Φ t.castSucc ∗ (dats m 0 c).owesAt () t.castSucc
    ∗ (∃ d, owns (c : Thread nD τ) (buf1 t) fullShare ((dats m 0 c).before 0 t d))
    ∗ (∃ d, owns (c : Thread nD τ) (buf2 t) fullShare ((dats m 0 c).before 1 t d))
    ∗ (∃ d, owns (c : Thread nD τ) (buf3 t) fullShare ((dats m 0 c).before 2 t d))
    ∗ (∃ d, owns (c : Thread nD τ) (buf4 t) fullShare ((dats m 0 c).before 3 t d)))
/-- What it gives back. -/
def given (c : Dev nD) (t : Fin cfg0.N) : sProp (Res F) :=
  iprop((dats m 0 c).Φ t.succ ∗ (dats m 0 c).owesAt () t.succ
    ∗ owns (c : Thread nD τ) (buf1 t) fullShare ((dats m 0 c).after 0 t)
    ∗ owns (c : Thread nD τ) (buf2 t) fullShare ((dats m 0 c).after 1 t)
    ∗ owns (c : Thread nD τ) (buf3 t) fullShare ((dats m 0 c).after 2 t)
    ∗ owns (c : Thread nD τ) (buf4 t) fullShare ((dats m 0 c).after 3 t))

set_option maxHeartbeats 9600000 in
theorem soundA (c : Dev nD) (t : Fin cfg0.N) (h : t.val = 0) :
    before m c t ⊢ wp frame (wpE (defs₀ (F := F)) Variants.none c none) Set.univ (bodyAt0 t) (fun _ => given m c t) := by
  unfold before given bodyAt0
  simp only [before_0, before_1, before_2]
  rw [show (dats m 0 c).Φ t.succ = inv m c (t.val + 1) t.isLt from rfl, inv_succ m c t.val t.isLt,
    after_0, after_1, after_2, after_3]
  unfold Dat.owesAt Pipeline.owesWithin
  rw [show (dats m 0 c).owed t.castSucc = 0 from rfl, show (dats m 0 c).owed t.succ = 0 from rfl, inv_start m c t
    , inv_zero m c _ _ h]
  simp only [Nat.add_sub_cancel, state_A m c t h, after, storesA]
  have hc : Covered (runA c (grid0.coords t) (buf1 t) (whole1 t) (buf2 t) (whole2 t) (buf3 t) (whole3 t) (buf4 t) (whole4 t) scr6 (Memref.isWhole_whole _) ((first_iff t).mpr h) (fun e => by have := (final_iff t).mp e; omega) (blk m c 0 t) (blk m c 1 t) (blk m c 2 t) (V m c main_v4_1)).1 := coveredA c (grid0.coords t) (buf1 t) (whole1 t) (buf2 t) (whole2 t) (buf3 t) (whole3 t) (buf4 t) (whole4 t) scr6 (Memref.isWhole_whole _) (blk m c 0 t) (blk m c 1 t) (blk m c 2 t)  (V m c main_v4_1) ((first_iff t).mpr h) (fun e => by have := (final_iff t).mp e; omega)
  unfold between atZero
  iintro ⟨⟨H6, Hg, ⟨Hq0, Hq1, Hq2, Hq3⟩, He, Hh5⟩, ⟨%W, -, HW⟩, ⟨%d0, H1⟩, ⟨%d1, H2⟩, ⟨%d2, H3⟩, ⟨%d3, H4⟩⟩
  iapply ((runA c (grid0.coords t) (buf1 t) (whole1 t) (buf2 t) (whole2 t) (buf3 t) (whole3 t) (buf4 t) (whole4 t) scr6 (Memref.isWhole_whole _) ((first_iff t).mpr h) (fun e => by have := (final_iff t).mp e; omega) (blk m c 0 t) (blk m c 1 t) (blk m c 2 t) (V m c main_v4_1)).2 W _)
  isplitl [H1]; · iexact H1
  isplitl [H2]; · iexact H2
  isplitl [H3]; · iexact H3
  isplitl [H4]; · iexists _; iexact H4
  isplitl [H6]; · iexact H6
  isplitl [Hq0]; · iexact Hq0
  isplitl [Hq1]; · iexact Hq1
  isplitl [Hq2]; · iexact Hq2
  isplitl [Hq3]; · iexact Hq3
  isplitl [Hh5]; · iexact Hh5
  isplitl [HW]; · iexact HW
  iintro ⟨H1, H2, H3, ⟨%e4, H4⟩, ⟨%e6, H6⟩, Hq0, Hq1, Hq2, Hq3, Hh5, ⟨%W', HW'⟩⟩
  isplitl [H6 Hg Hq0 Hq1 Hq2 Hq3 Hh5 He]
  · isplitl [H6]
    · skip
      unfold owns; iexists _; isplitr
      swap; · iexact H6
      ipureintro; exact View.read_writes_of_cover _ _ _ _ _ (hc.2)
    isplitl [Hg]; · iexact Hg
    isplitl [Hq0 Hq1 Hq2 Hq3]
    · skip
      isplitl [Hq0]; · iexact Hq0
      isplitl [Hq1]; · iexact Hq1
      isplitl [Hq2]; · iexact Hq2
      iexact Hq3
    isplitl [He]; · iexact He
    iexact Hh5
  isplitl [HW']
  · iexists W'; isplitr; · ipureintro; exact fun _ _ => Or.inl trivial
    iexact HW'
  isplitl [H1]; · iexact H1
  isplitl [H2]; · iexact H2
  isplitl [H3]; · iexact H3
  unfold owns; iexists _; isplitr
  swap; · iexact H4
  ipureintro; exact View.read_writes_of_cover _ _ _ _ _ (hc.1)

set_option maxHeartbeats 9600000 in
theorem soundB (c : Dev nD) (t : Fin cfg0.N) (h : t.val ≠ 0) (h' : t.val ≠ 7) :
    before m c t ⊢ wp frame (wpE (defs₀ (F := F)) Variants.none c none) Set.univ (bodyAt0 t) (fun _ => given m c t) := by
  unfold before given bodyAt0
  simp only [before_0, before_1, before_2]
  rw [show (dats m 0 c).Φ t.succ = inv m c (t.val + 1) t.isLt from rfl, inv_succ m c t.val t.isLt,
    after_0, after_1, after_2, after_3]
  unfold Dat.owesAt Pipeline.owesWithin
  rw [show (dats m 0 c).owed t.castSucc = 0 from rfl, show (dats m 0 c).owed t.succ = 0 from rfl, inv_start m c t
    , inv_pos m c _ _ h]
  simp only [Nat.add_sub_cancel, state_B m c t h h', after, storesB]

  have hc : Covered (runB c (grid0.coords t) (buf1 t) (whole1 t) (buf2 t) (whole2 t) (buf3 t) (whole3 t) (buf4 t) (whole4 t) scr6 (Memref.isWhole_whole _) (fun e => h ((first_iff t).mp e)) (fun e => h' ((final_iff t).mp e)) (blk m c 0 t) (blk m c 1 t) (blk m c 2 t) (past m c t).v6 (past m c t).g5).1 := coveredB c (grid0.coords t) (buf1 t) (whole1 t) (buf2 t) (whole2 t) (buf3 t) (whole3 t) (buf4 t) (whole4 t) scr6 (Memref.isWhole_whole _) (blk m c 0 t) (blk m c 1 t) (blk m c 2 t) (past m c t).v6 (past m c t).g5 (fun e => h ((first_iff t).mp e)) (fun e => h' ((final_iff t).mp e))
  unfold between atZero
  iintro ⟨⟨H6, Hg, ⟨Hq0, Hq1, Hq2, Hq3⟩, He, Hh5⟩, ⟨%W, -, HW⟩, ⟨%d0, H1⟩, ⟨%d1, H2⟩, ⟨%d2, H3⟩, ⟨%d3, H4⟩⟩
  iapply ((runB c (grid0.coords t) (buf1 t) (whole1 t) (buf2 t) (whole2 t) (buf3 t) (whole3 t) (buf4 t) (whole4 t) scr6 (Memref.isWhole_whole _) (fun e => h ((first_iff t).mp e)) (fun e => h' ((final_iff t).mp e)) (blk m c 0 t) (blk m c 1 t) (blk m c 2 t) (past m c t).v6 (past m c t).g5).2 W _)
  isplitl [H1]; · iexact H1
  isplitl [H2]; · iexact H2
  isplitl [H3]; · iexact H3
  isplitl [H4]; · iexists _; iexact H4
  isplitl [H6]; · iexact H6
  isplitl [Hq0]; · iexact Hq0
  isplitl [Hq1]; · iexact Hq1
  isplitl [Hq2]; · iexact Hq2
  isplitl [Hq3]; · iexact Hq3
  isplitl [Hh5]; · iexact Hh5
  isplitl [HW]; · iexact HW
  iintro ⟨H1, H2, H3, ⟨%e4, H4⟩, ⟨%e6, H6⟩, Hq0, Hq1, Hq2, Hq3, Hh5, ⟨%W', HW'⟩⟩
  isplitl [H6 Hg Hq0 Hq1 Hq2 Hq3 Hh5 He]
  · isplitl [H6]
    · skip
      unfold owns; iexists _; isplitr
      swap; · iexact H6
      ipureintro; exact View.read_writes_of_cover _ _ _ _ _ (hc.2)
    isplitl [Hg]; · iexact Hg
    isplitl [Hq0 Hq1 Hq2 Hq3]
    · skip
      isplitl [Hq0]; · iexact Hq0
      isplitl [Hq1]; · iexact Hq1
      isplitl [Hq2]; · iexact Hq2
      iexact Hq3
    isplitl [He]; · iexact He
    iexact Hh5
  isplitl [HW']
  · iexists W'; isplitr; · ipureintro; exact fun _ _ => Or.inl trivial
    iexact HW'
  isplitl [H1]; · iexact H1
  isplitl [H2]; · iexact H2
  isplitl [H3]; · iexact H3
  unfold owns; iexists _; isplitr
  swap; · iexact H4
  ipureintro; exact View.read_writes_of_cover _ _ _ _ _ (hc.1)

set_option maxHeartbeats 9600000 in
theorem soundC (c : Dev nD) (t : Fin cfg0.N) (h' : t.val = 7) :
    before m c t ⊢ wp frame (wpE (defs₀ (F := F)) Variants.none c none) Set.univ (bodyAt0 t) (fun _ => given m c t) := by
  unfold before given bodyAt0
  simp only [before_0, before_1, before_2]
  rw [show (dats m 0 c).Φ t.succ = inv m c (t.val + 1) t.isLt from rfl, inv_succ m c t.val t.isLt,
    after_0, after_1, after_2, after_3]
  unfold Dat.owesAt Pipeline.owesWithin
  rw [show (dats m 0 c).owed t.castSucc = 0 from rfl, show (dats m 0 c).owed t.succ = 0 from rfl, inv_start m c t
    , inv_pos m c _ _ (by omega)]
  simp only [Nat.add_sub_cancel, state_C m c t h', after, storesC]

  have hc : Covered (runC c (grid0.coords t) (buf1 t) (whole1 t) (buf2 t) (whole2 t) (buf3 t) (whole3 t) (buf4 t) (whole4 t) scr6 (Memref.isWhole_whole _) (fun e => by have := (first_iff t).mp e; omega) ((final_iff t).mpr h') (blk m c 0 t) (blk m c 1 t) (blk m c 2 t) (past m c t).v6 (past m c t).g5).1 := coveredC c (grid0.coords t) (buf1 t) (whole1 t) (buf2 t) (whole2 t) (buf3 t) (whole3 t) (buf4 t) (whole4 t) scr6 (Memref.isWhole_whole _) (blk m c 0 t) (blk m c 1 t) (blk m c 2 t) (past m c t).v6 (past m c t).g5 (fun e => by have := (first_iff t).mp e; omega) ((final_iff t).mpr h')
  unfold between atZero
  iintro ⟨⟨H6, Hg, ⟨Hq0, Hq1, Hq2, Hq3⟩, He, Hh5⟩, ⟨%W, -, HW⟩, ⟨%d0, H1⟩, ⟨%d1, H2⟩, ⟨%d2, H3⟩, ⟨%d3, H4⟩⟩
  iapply ((runC c (grid0.coords t) (buf1 t) (whole1 t) (buf2 t) (whole2 t) (buf3 t) (whole3 t) (buf4 t) (whole4 t) scr6 (Memref.isWhole_whole _) (fun e => by have := (first_iff t).mp e; omega) ((final_iff t).mpr h') (blk m c 0 t) (blk m c 1 t) (blk m c 2 t) (past m c t).v6 (past m c t).g5).2 W _)
  isplitl [H1]; · iexact H1
  isplitl [H2]; · iexact H2
  isplitl [H3]; · iexact H3
  isplitl [H4]; · iexists _; iexact H4
  isplitl [H6]; · iexact H6
  isplitl [Hq0]; · iexact Hq0
  isplitl [Hq1]; · iexact Hq1
  isplitl [Hq2]; · iexact Hq2
  isplitl [Hq3]; · iexact Hq3
  isplitl [Hh5]; · iexact Hh5
  isplitl [HW]; · iexact HW
  iintro ⟨H1, H2, H3, ⟨%e4, H4⟩, ⟨%e6, H6⟩, Hq0, Hq1, Hq2, Hq3, Hh5, ⟨%W', HW'⟩⟩
  isplitl [H6 Hg Hq0 Hq1 Hq2 Hq3 Hh5 He]
  · isplitl [H6]
    · skip
      unfold owns; iexists _; isplitr
      swap; · iexact H6
      ipureintro; exact View.read_writes_of_cover _ _ _ _ _ (hc.2)
    isplitl [Hg]; · iexact Hg
    isplitl [Hq0 Hq1 Hq2 Hq3]
    · skip
      isplitl [Hq0]; · iexact Hq0
      isplitl [Hq1]; · iexact Hq1
      isplitl [Hq2]; · iexact Hq2
      iexact Hq3
    isplitl [He]; · iexact He
    iexact Hh5
  isplitl [HW']
  · iexists W'; isplitr; · ipureintro; exact fun _ _ => Or.inl trivial
    iexact HW'
  isplitl [H1]; · iexact H1
  isplitl [H2]; · iexact H2
  isplitl [H3]; · iexact H3
  unfold owns; iexists _; isplitr
  swap; · iexact H4
  ipureintro; exact View.read_writes_of_cover _ _ _ _ _ (hc.1)

theorem sound (c : Dev nD) (t : Fin cfg0.N) :
    before m c t ⊢ wp frame (wpE (defs₀ (F := F)) Variants.none c none) Set.univ (bodyAt0 t) (fun _ => given m c t) := by
  by_cases h : t.val = 0
  · exact soundA m c t h
  · by_cases h' : t.val = 7
    · exact soundC m c t h'
    · exact soundB m c t h h'

theorem table_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, table_row]
  exact triple_restated (sound m c t) rfl .rfl fun _ => .rfl

/-! ## The run -/

/-- The state after the last point. -/
abbrev done (c : Dev nD) : State F c := state m c 7 (by have : cfg0.N = 8 := N_0; omega)

/-- The arrays after the call, as far as the copies write them. -/
def copiedTo (c : Dev nD) : (b : Ref sig .tc) → Buf (Elt F) ((c : Thread nD τ).loc b) :=
  Function.update (V m c) main_v4_1 (done m c).g5

theorem copiedTo_5 (c : Dev nD) : copiedTo m c main_v4_1 = (done m c).g5 := by
  unfold copiedTo; simp only [Function.update_self]

theorem enter (c : Dev nD) : Pipeline.ΦDRG cells spec0 readOnly copied (V m) (V m) c ⊢ (dats m 0 c).Φ 0 := by
  rw [show (dats m 0 c).Φ 0 = inv m c 0 (Nat.zero_le _) from rfl]
  exact Idealize.SL.BI.Entails.refl _

theorem leave (c : Dev nD) : (dats m 0 c).Φ (Fin.last cfg0.N) ⊢ Pipeline.ΦDRG cells spec0 readOnly copied (V m) (copiedTo m) c := by
  have hN : cfg0.N = 8 := N_0
  rw [show (dats m 0 c).Φ (Fin.last cfg0.N) = inv m c (7 + 1) (by omega) from by
      dsimp only [dats]; congr 1, launch_eq, copiedTo_5]
  unfold inv between
  iintro ⟨H6, Hg, Hq, Hr, Hw⟩
  isplitl [H6]
  · skip
    iexists _; iexact H6
  isplitl [Hg]; · iexact Hg
  isplitl [Hq]; · iexact Hq
  isplitl [Hr]; · iexact Hr
  iexact Hw

set_option backward.isDefEq.respectTransparency.types false in
/-- Every execution ends, the windows' arrays at what the points leave in them, the copied results at `copiedTo`, every
    other buffer as the call found it, every counter at zero. -/
theorem run_quiet : θ_run defs (onTc (τ := τ) (main (F := F))) (s₀ m ρ)
    (fun r => (Pipeline.FramePostRG cfgs (dats m) 0 copied (V m) (copiedTo m)) r ∧ r.2.sem = fun _ => 0) :=
  Pipeline.θ_run_frame_dmaRG (Q' := _) cfgs (dats m) (0 : Fin 1) launch0 cells defs₀ Variants.none cells_own readOnly copied
    readOnly_sub copied_sub m ρ main (hbody := fun c => (obligation m c).loose)
    (hshare := fun c => (dats m 0 c).share_full fun _ => rfl) (howed := fun _ _ => rfl) (V := V m)
    (hmain := hmain m Variants.none) (hA := arrays m) (G := copiedTo m) (hin := enter m) (hout := leave m)

/-- The arguments at the end. -/
theorem kept (r : PUnit × MemSt nD τ sig (Elt F)) (h : Pipeline.FramePostRG cfgs (dats m) 0 copied (V m) (copiedTo m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨
    ((h.toR c).2 main_arg0 (Finset.mem_sdiff.mpr ⟨Pipeline.mem_restRefs_of main_arg0 (by decide) (by decide), by decide⟩)).trans (V_kept m c main_arg0 (by decide) (by decide) (by decide) (by decide) (by decide)),
    ((h.toR c).1 0).trans (((dats m 0 c).arrAt_in 0 rfl _).trans ((arrays m c 0).trans (V_kept m c main_arg1 (by decide) (by decide) (by decide) (by decide) (by decide)))),
    ((h.toR c).1 2).trans (((dats m 0 c).arrAt_in 2 rfl _).trans ((arrays m c 2).trans (V_kept m c main_arg2 (by decide) (by decide) (by decide) (by decide) (by decide))))⟩

/-- The program runs, its arguments end unchanged, its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => kept m r h.1 c, h.2⟩) (run_quiet m ρ)

end Cert.BwdFc2Ideal.Hand

end
-- ==== Proof.BwdFc2Tile.lean ====
module

public import proofs.«01_k».proof.Proof.BwdFc2Math
public import proofs.«01_k».proof.Proof.BwdFc2Body

/-! What one step of the call leaves in each of its results. -/

@[expose] public section

set_option maxRecDepth 16384

noncomputable section

namespace Cert.BwdFc2Ideal.Hand

open Idealize.ShloMosaic Idealize.ShloMosaic.TcCoe Idealize.SL.Sem
open Cert.BwdFc2Ideal Cert.BwdFc2Ideal.Gen Cert.MixerOps Cert.Rms Cert.Slab Cert.BwdFc2Math

variable (I : Inp) (t : ℕ)

/-! ## The blocks a step reads, and the running result -/

def X1 : Vec Ideal S512x1024 .bf16 := tab fun r j => I.D (512 * t + r) j
def X2 : Vec Ideal S512x4096 .bf16 := tab fun r a => I.q (512 * t + r) a
def X3 : Vec Ideal S4x1024x1024 .bf16 := tab3 fun k a b => I.W k a b
def Y6 (g : ℕ → ℕ → ℕ → ℕ → EReal) : Vec Ideal S4x2x512x1024 .f32 := tab4 fun k b r j => g k b r j
def box (g : ℕ → ℕ → ℕ → ℕ → EReal) (k : ℕ) : FVec Ideal S1x2x512x1024 .f32 := tab4 fun _ b r j => g k b r j
def relu2 (k : ℕ) : FVec Ideal S512x1024 .bf16 := tab fun r a => I.q (512 * t + r) (1024 * k + a)
def shard (k : ℕ) : Vec Ideal S1x1024x1024 .bf16 := tab3 fun _ a b => I.W k a b
def doubled : FVec Ideal S512x1024 .bf16 := tab fun r j => I.D (512 * t + r) j * ((2 : ℝ) : EReal)
def back (k : ℕ) : FVec Ideal S512x1024 .bf16 := tab fun r a => I.dp (512 * t + r) (1024 * k + a)

/-! ## The payloads -/

theorem c_two : Scalar.ofBits (F := Ideal) .bf16 0x4000#16 = ((2 : ℝ) : EReal) := by
  show Ideal.ofBits .bf16 0x4000#16 = _
  simp [Ideal.ofBits, Ideal.ieee, -EReal.coe_mul]; norm_num
theorem extf_tab {m n : ℕ} (f : ℕ → ℕ → EReal) (h) : extf (F := Ideal) (s := ⟨2, ![m, n]⟩) (φ := .bf16) .f32 (tab f) h = tab f := rfl
theorem sqrt_tab {m n : ℕ} (f : ℕ → ℕ → EReal) : sqrt (F := Ideal) (s := ⟨2, ![m, n]⟩) (φ := .f32) (tab f) = tab fun a b => Ideal.sqrt (f a b) := rfl
theorem dot_through (f g : ℕ → ℕ → EReal) : matmul (F := Ideal) (φ₁ := .bf16) (φ₂ := .bf16) dot_S512x1024_S1024x1024_S512x1024_1_1_0_0_n_n none (tab f) (tab g)
    (tab fun _ _ => 0) = tab fun a b => ∑ i ∈ Finset.range 1024, f a i * g b i := matmul_right _ rfl none f g
theorem dot_rows (f g : ℕ → ℕ → EReal) : matmul (F := Ideal) (φ₁ := .bf16) (φ₂ := .bf16) dot_S512x1024_S512x1024_S1024x1024_0_0_1_1_n_n none (tab f) (tab g)
    (tab fun _ _ => 0) = tab fun a b => ∑ i ∈ Finset.range 512, f i a * g i b := matmul_rows (.inl rfl) _ rfl rfl rfl rfl rfl rfl none f g
theorem halves (f : ℕ → ℕ → EReal) (h) : shapeCast (s := S1024x1024) S2x512x1024 (tab f) h = tab3 fun b r j => f (512 * b + r) j :=
  cast_halves rfl f h

theorem pay2 : k0_pay2 (F := Ideal) = Y6 fun _ _ _ _ => 0 := by
  funext y
  exact c_zero
theorem pay3 : k0_pay3 (X1 I t) = doubled I t := by
  simp only [k0_pay3, X1, broadcast_tab, c_two, mulf_tab]
  rfl
theorem pay4 (k : ℕ) : k0_pay4 (relu2 I t k) = relu2 I t k := by simp only [k0_pay4, relu2, cast_tab]
theorem pay7 (k : ℕ) : k0_pay7 (relu2 I t k) = relu2 I t k := pay4 I t k
theorem pay10 (k : ℕ) : k0_pay10 (relu2 I t k) = relu2 I t k := pay4 I t k
theorem pay13 (k : ℕ) : k0_pay13 (relu2 I t k) = relu2 I t k := pay4 I t k
variable (g : ℕ → ℕ → ℕ → ℕ → EReal)
theorem pay8 (k : ℕ) : k0_pay8 (X1 I t) (relu2 I t k) (box g k) = box (fun k b r j => g k b r j + I.dw (512 * t) 512 k b r j) k := by
  simp only [k0_pay8, X1, relu2, box, zero_tab, dot_rows, cast_box, halves, addf_tab3, cast_to_box]
  rfl
theorem pay9 (k : ℕ) : k0_pay9 (doubled I t) (relu2 I t k) (shard I k) = back I t k := by
  simp only [k0_pay9, doubled, relu2, shard, cast_tab3, zero_tab, dot_through, extf_tab, sqrt_tab, mulf_tab, truncf_tab]
  refine tab_congr fun r _ a ha => ?_
  show I.through (512 * t + r) k a * _ = I.dp (512 * t + r) (1024 * k + a)
  rw [Inp.dp, Nat.mul_add_div (by norm_num), Nat.div_eq_of_lt ha, Nat.mul_add_mod, Nat.mod_eq_of_lt ha, Nat.add_zero]

theorem of3 {p} (hp : p = X1 I t) : k0_pay3 p = doubled I t := by subst hp; exact pay3 I t
theorem of7 (k : ℕ) {p} (hp : p = relu2 I t k) : k0_pay7 p = relu2 I t k := by subst hp; exact pay7 I t k
theorem of10 (k : ℕ) {p} (hp : p = relu2 I t k) : k0_pay10 p = relu2 I t k := by subst hp; exact pay10 I t k
theorem of8 (k : ℕ) {p q b} (hp : p = X1 I t) (hq : q = relu2 I t k) (hb : b = box g k) :
    k0_pay8 p q b = box (fun k b r j => g k b r j + I.dw (512 * t) 512 k b r j) k := by
  subst hp hq hb; exact pay8 I t g k
theorem of5 (k : ℕ) {p q b} (hp : p = X1 I t) (hq : q = relu2 I t k) (hb : b = box g k) :
    k0_pay5 p q b = box (fun k b r j => g k b r j + I.dw (512 * t) 512 k b r j) k := of8 I t g k hp (of7 I t k hq) hb
theorem of11 (k : ℕ) {p q b} (hp : p = X1 I t) (hq : q = relu2 I t k) (hb : b = box g k) :
    k0_pay11 p q b = box (fun k b r j => g k b r j + I.dw (512 * t) 512 k b r j) k := of8 I t g k hp (of7 I t k hq) hb
theorem of14 (k : ℕ) {p q b} (hp : p = X1 I t) (hq : q = relu2 I t k) (hb : b = box g k) :
    k0_pay14 p q b = box (fun k b r j => g k b r j + I.dw (512 * t) 512 k b r j) k := of8 I t g k hp (of7 I t k hq) hb
theorem of9 (k o : ℕ) {p q w} (hp : p = doubled I t) (hq : q = relu2 I t k) (hw : w = shard I k) (ho : o = 1024 * k) :
    k0_pay9 p q w = tab fun r a => I.dp (512 * t + r) (o + a) := by
  subst hp hq hw ho; exact pay9 I t k
theorem of6 (k o : ℕ) {p q w} (hp : p = X1 I t) (hq : q = relu2 I t k) (hw : w = shard I k) (ho : o = 1024 * k) :
    k0_pay6 p q w = tab fun r a => I.dp (512 * t + r) (o + a) := of9 I t k o (of3 I t hp) (of7 I t k hq) hw ho
theorem of12 (k o : ℕ) {p q w} (hp : p = doubled I t) (hq : q = relu2 I t k) (hw : w = shard I k) (ho : o = 1024 * k) :
    k0_pay12 p q w = tab fun r a => I.dp (512 * t + r) (o + a) := of9 I t k o hp hq hw ho
theorem of15 (k o : ℕ) {p q w} (hp : p = doubled I t) (hq : q = relu2 I t k) (hw : w = shard I k) (ho : o = 1024 * k) :
    k0_pay1 (k0_pay15 p q w) = tab fun r a => I.dp (512 * t + r) (o + a) := of9 I t k o hp (of7 I t k hq) hw ho

/-! ## The results of a step -/

section
variable (g6 : ℕ → ℕ → ℕ → ℕ → EReal) (c : Dev nD) (i : grid0.Coords)
  (arg1 : Memref sig .tc .vmem S512x1024 .bf16) (harg1 : arg1.IsWhole)
  (arg2 : Memref sig .tc .vmem S512x4096 .bf16) (harg2 : arg2.IsWhole)
  (arg3 : Memref sig .tc .vmem S4x1024x1024 .bf16) (harg3 : arg3.IsWhole)
  (arg4 : Memref sig .tc .vmem S512x4096 .bf16) (harg4 : arg4.IsWhole)
  (arg6 : Memref sig .tc .vmem S4x2x512x1024 .f32) (harg6 : arg6.IsWhole)
  (f5 : Inside (F := Ideal) c Dst5)

theorem load1 : View.readAt (κ := Proc.kind (Dev.tc (τ := τ) c).2) (Elt Ideal) (Memref.view (κ := Proc.kind (Dev.tc (τ := τ) c).2) arg1)
    (Rect.unit (s := S512x1024) ![0, 0] ![512, 1024] inb_S512x1024_S512x1024_0_0).toLoadRect (harg1.unread (X1 I t)) = X1 I t :=
  (load_tab (φ := .bf16) c arg1 harg1 0 0 _ fun r j => I.D (512 * t + r) j).trans (tab_congr fun a _ b _ => by simp only [Nat.zero_add])
theorem load20 : View.readAt (κ := Proc.kind (Dev.tc (τ := τ) c).2) (Elt Ideal) (Memref.view (κ := Proc.kind (Dev.tc (τ := τ) c).2) arg2)
    (Rect.unit (s := S512x4096) ![0, 0] ![512, 1024] inb_S512x4096_S512x1024_0_0).toLoadRect (harg2.unread (X2 I t)) = relu2 I t 0 :=
  (load_tab (φ := .bf16) c arg2 harg2 0 0 _ fun r a => I.q (512 * t + r) a).trans (tab_congr fun a _ b _ => by rw [Nat.zero_add])
theorem load30 : View.readAt (κ := Proc.kind (Dev.tc (τ := τ) c).2) (Elt Ideal) (Memref.view (κ := Proc.kind (Dev.tc (τ := τ) c).2) arg3)
    (Rect.unit (s := S4x1024x1024) ![0, 0, 0] ![1, 1024, 1024] inb_S4x1024x1024_S1x1024x1024_0_0_0).toLoadRect (harg3.unread (X3 I)) = shard I 0 :=
  (load_tab3 (φ := .bf16) c arg3 harg3 0 0 0 _ fun k a b => I.W k a b).trans (tab3_congr fun a ha b _ d _ => by simp only [show a = 0 by omega, Nat.zero_add, Nat.add_zero])
theorem load60 : View.readAt (κ := Proc.kind (Dev.tc (τ := τ) c).2) (Elt Ideal) (Memref.view (κ := Proc.kind (Dev.tc (τ := τ) c).2) arg6)
    (Rect.unit (s := S4x2x512x1024) ![0, 0, 0, 0] ![1, 2, 512, 1024] inb_S4x2x512x1024_S1x2x512x1024_0_0_0_0).toLoadRect (harg6.unread (Y6 g6)) = box g6 0 := load_box (φ := .f32) c arg6 harg6 0 _ fun k b r j => g6 k b r j
theorem load21 : View.readAt (κ := Proc.kind (Dev.tc (τ := τ) c).2) (Elt Ideal) (Memref.view (κ := Proc.kind (Dev.tc (τ := τ) c).2) arg2)
    (Rect.unit (s := S512x4096) ![0, 1024] ![512, 1024] inb_S512x4096_S512x1024_0_1024).toLoadRect (harg2.unread (X2 I t)) = relu2 I t 1 :=
  (load_tab (φ := .bf16) c arg2 harg2 0 1024 _ fun r a => I.q (512 * t + r) a).trans (tab_congr fun a _ b _ => by rw [Nat.zero_add])
theorem load31 : View.readAt (κ := Proc.kind (Dev.tc (τ := τ) c).2) (Elt Ideal) (Memref.view (κ := Proc.kind (Dev.tc (τ := τ) c).2) arg3)
    (Rect.unit (s := S4x1024x1024) ![1, 0, 0] ![1, 1024, 1024] inb_S4x1024x1024_S1x1024x1024_1_0_0).toLoadRect (harg3.unread (X3 I)) = shard I 1 :=
  (load_tab3 (φ := .bf16) c arg3 harg3 1 0 0 _ fun k a b => I.W k a b).trans (tab3_congr fun a ha b _ d _ => by simp only [show a = 0 by omega, Nat.zero_add, Nat.add_zero])
theorem load61 : View.readAt (κ := Proc.kind (Dev.tc (τ := τ) c).2) (Elt Ideal) (Memref.view (κ := Proc.kind (Dev.tc (τ := τ) c).2) arg6)
    (Rect.unit (s := S4x2x512x1024) ![1, 0, 0, 0] ![1, 2, 512, 1024] inb_S4x2x512x1024_S1x2x512x1024_1_0_0_0).toLoadRect (harg6.unread (Y6 g6)) = box g6 1 := load_box (φ := .f32) c arg6 harg6 1 _ fun k b r j => g6 k b r j
theorem load22 : View.readAt (κ := Proc.kind (Dev.tc (τ := τ) c).2) (Elt Ideal) (Memref.view (κ := Proc.kind (Dev.tc (τ := τ) c).2) arg2)
    (Rect.unit (s := S512x4096) ![0, 2048] ![512, 1024] inb_S512x4096_S512x1024_0_2048).toLoadRect (harg2.unread (X2 I t)) = relu2 I t 2 :=
  (load_tab (φ := .bf16) c arg2 harg2 0 2048 _ fun r a => I.q (512 * t + r) a).trans (tab_congr fun a _ b _ => by rw [Nat.zero_add])
theorem load32 : View.readAt (κ := Proc.kind (Dev.tc (τ := τ) c).2) (Elt Ideal) (Memref.view (κ := Proc.kind (Dev.tc (τ := τ) c).2) arg3)
    (Rect.unit (s := S4x1024x1024) ![2, 0, 0] ![1, 1024, 1024] inb_S4x1024x1024_S1x1024x1024_2_0_0).toLoadRect (harg3.unread (X3 I)) = shard I 2 :=
  (load_tab3 (φ := .bf16) c arg3 harg3 2 0 0 _ fun k a b => I.W k a b).trans (tab3_congr fun a ha b _ d _ => by simp only [show a = 0 by omega, Nat.zero_add, Nat.add_zero])
theorem load62 : View.readAt (κ := Proc.kind (Dev.tc (τ := τ) c).2) (Elt Ideal) (Memref.view (κ := Proc.kind (Dev.tc (τ := τ) c).2) arg6)
    (Rect.unit (s := S4x2x512x1024) ![2, 0, 0, 0] ![1, 2, 512, 1024] inb_S4x2x512x1024_S1x2x512x1024_2_0_0_0).toLoadRect (harg6.unread (Y6 g6)) = box g6 2 := load_box (φ := .f32) c arg6 harg6 2 _ fun k b r j => g6 k b r j
theorem load23 : View.readAt (κ := Proc.kind (Dev.tc (τ := τ) c).2) (Elt Ideal) (Memref.view (κ := Proc.kind (Dev.tc (τ := τ) c).2) arg2)
    (Rect.unit (s := S512x4096) ![0, 3072] ![512, 1024] inb_S512x4096_S512x1024_0_3072).toLoadRect (harg2.unread (X2 I t)) = relu2 I t 3 :=
  (load_tab (φ := .bf16) c arg2 harg2 0 3072 _ fun r a => I.q (512 * t + r) a).trans (tab_congr fun a _ b _ => by rw [Nat.zero_add])
theorem load33 : View.readAt (κ := Proc.kind (Dev.tc (τ := τ) c).2) (Elt Ideal) (Memref.view (κ := Proc.kind (Dev.tc (τ := τ) c).2) arg3)
    (Rect.unit (s := S4x1024x1024) ![3, 0, 0] ![1, 1024, 1024] inb_S4x1024x1024_S1x1024x1024_3_0_0).toLoadRect (harg3.unread (X3 I)) = shard I 3 :=
  (load_tab3 (φ := .bf16) c arg3 harg3 3 0 0 _ fun k a b => I.W k a b).trans (tab3_congr fun a ha b _ d _ => by simp only [show a = 0 by omega, Nat.zero_add, Nat.add_zero])
theorem load63 : View.readAt (κ := Proc.kind (Dev.tc (τ := τ) c).2) (Elt Ideal) (Memref.view (κ := Proc.kind (Dev.tc (τ := τ) c).2) arg6)
    (Rect.unit (s := S4x2x512x1024) ![3, 0, 0, 0] ![1, 2, 512, 1024] inb_S4x2x512x1024_S1x2x512x1024_3_0_0_0).toLoadRect (harg6.unread (Y6 g6)) = box g6 3 := load_box (φ := .f32) c arg6 harg6 3 _ fun k b r j => g6 k b r j

theorem b_r : runB.sl.r (F := Ideal) c arg1 harg1 (X1 I t) = X1 I t := load1 I t c ..
theorem b_r1 : runB.sl.r_1 (F := Ideal) c arg1 harg1 (X1 I t) = doubled I t := of3 I t (load1 I t c ..)
theorem b_r2 : runB.sl.r_2 (F := Ideal) c arg2 harg2 (X2 I t) = relu2 I t 1 := of7 I t 1 (load21 I t c ..)
theorem b_r3 : runB.sl.r_3 (F := Ideal) c arg2 harg2 (X2 I t) = relu2 I t 2 := of10 I t 2 (load22 I t c ..)
theorem b_new0 {b} (hb : b = box g6 0) : k0_pay5 (View.readAt (κ := Proc.kind (Dev.tc (τ := τ) c).2) (Elt Ideal) (Memref.view (κ := Proc.kind (Dev.tc (τ := τ) c).2) arg1)
    (Rect.unit (s := S512x1024) ![0, 0] ![512, 1024] inb_S512x1024_S512x1024_0_0).toLoadRect (harg1.unread (X1 I t))) (View.readAt (κ := Proc.kind (Dev.tc (τ := τ) c).2) (Elt Ideal) (Memref.view (κ := Proc.kind (Dev.tc (τ := τ) c).2) arg2)
    (Rect.unit (s := S512x4096) ![0, 0] ![512, 1024] inb_S512x4096_S512x1024_0_0).toLoadRect (harg2.unread (X2 I t))) b
    = box (fun k b r j => g6 k b r j + I.dw (512 * t) 512 k b r j) 0 := of5 I t g6 0 (load1 I t c ..) (load20 I t c ..) hb
theorem b_new1 {b} (hb : b = box g6 1) : k0_pay8 (runB.sl.r (F := Ideal) c arg1 harg1 (X1 I t)) (runB.sl.r_2 (F := Ideal) c arg2 harg2 (X2 I t)) b
    = box (fun k b r j => g6 k b r j + I.dw (512 * t) 512 k b r j) 1 := of8 I t g6 1 (b_r I t c ..) (b_r2 I t c ..) hb
theorem b_new2 {b} (hb : b = box g6 2) : k0_pay11 (runB.sl.r (F := Ideal) c arg1 harg1 (X1 I t)) (View.readAt (κ := Proc.kind (Dev.tc (τ := τ) c).2) (Elt Ideal) (Memref.view (κ := Proc.kind (Dev.tc (τ := τ) c).2) arg2)
    (Rect.unit (s := S512x4096) ![0, 2048] ![512, 1024] inb_S512x4096_S512x1024_0_2048).toLoadRect (harg2.unread (X2 I t))) b
    = box (fun k b r j => g6 k b r j + I.dw (512 * t) 512 k b r j) 2 := of11 I t g6 2 (b_r I t c ..) (load22 I t c ..) hb
theorem b_new3 {b} (hb : b = box g6 3) : k0_pay14 (runB.sl.r (F := Ideal) c arg1 harg1 (X1 I t)) (View.readAt (κ := Proc.kind (Dev.tc (τ := τ) c).2) (Elt Ideal) (Memref.view (κ := Proc.kind (Dev.tc (τ := τ) c).2) arg2)
    (Rect.unit (s := S512x4096) ![0, 3072] ![512, 1024] inb_S512x4096_S512x1024_0_3072).toLoadRect (harg2.unread (X2 I t))) b
    = box (fun k b r j => g6 k b r j + I.dw (512 * t) 512 k b r j) 3 := of14 I t g6 3 (b_r I t c ..) (load23 I t c ..) hb
theorem a_H1 (y) : View.canon (runA.sl.H6_1 (F := Ideal)) y = tab4 (fun _ _ _ _ => (0 : EReal)) y := canon_stack (φ := .f32) _ _ _ pay2 _ y
theorem a_v8 : runA.sl.v8 (F := Ideal) c arg6 = box (fun _ _ _ _ => 0) 0 := cov_box (φ := .f32) _ _ 0 _ (fun _ _ _ _ => (0 : EReal)) fun y _ => a_H1 y
theorem a_v29 : runA.sl.v29 (F := Ideal) c arg1 harg1 arg2 harg2 arg6 (X1 I t) (X2 I t) = box (fun _ _ _ _ => 0) 1 :=
  cov_box (φ := .f32) _ _ 1 _ (fun _ _ _ _ => (0 : EReal)) fun y hy => (canon_miss 0 _ _ _ y (by omega)).trans (a_H1 y)
theorem a_v50 : runA.sl.v50 (F := Ideal) c arg1 harg1 arg2 harg2 arg6 (X1 I t) (X2 I t) = box (fun _ _ _ _ => 0) 2 :=
  cov_box (φ := .f32) _ _ 2 _ (fun _ _ _ _ => (0 : EReal)) fun y hy => (canon_miss 1 _ _ _ y (by omega)).trans ((canon_miss 0 _ _ _ y (by omega)).trans (a_H1 y))
theorem a_v71 : runA.sl.v71 (F := Ideal) c arg1 harg1 arg2 harg2 arg6 (X1 I t) (X2 I t) = box (fun _ _ _ _ => 0) 3 :=
  cov_box (φ := .f32) _ _ 3 _ (fun _ _ _ _ => (0 : EReal)) fun y hy => (canon_miss 2 _ _ _ y (by omega)).trans
    ((canon_miss 1 _ _ _ y (by omega)).trans ((canon_miss 0 _ _ _ y (by omega)).trans (a_H1 y)))

theorem outA_4 (hs : First i) (he : ¬ Final i) : View.canon (runA c i arg1 harg1 arg2 harg2 arg3 harg3 arg4 harg4 arg6 harg6 hs he (X1 I t) (X2 I t) (X3 I) f5).1.p4 = (tab fun r a => I.dp (512 * t + r) a : Vec Ideal S512x4096 .bf16) := by
  unfold runA
  exact canon_cols (φ := .bf16) 1024 2048 3072 rfl rfl rfl rfl _ _ _ _ (fun r a => I.dp (512 * t + r) a) _ _ _ _
    (of6 I t 0 0 (load1 I t c ..) (load20 I t c ..) (load30 I c ..) rfl) (of9 I t 1 1024 (b_r1 I t c ..) (b_r2 I t c ..) (load31 I c ..) rfl)
    (of12 I t 2 2048 (b_r1 I t c ..) (b_r3 I t c ..) (load32 I c ..) rfl) (of15 I t 3 3072 (b_r1 I t c ..) (load23 I t c ..) (load33 I c ..) rfl) []
theorem outA_6 (hs : First i) (he : ¬ Final i) : View.canon (runA c i arg1 harg1 arg2 harg2 arg3 harg3 arg4 harg4 arg6 harg6 hs he (X1 I t) (X2 I t) (X3 I) f5).1.p6 = Y6 (fun k b r j => 0 + I.dw (512 * t) 512 k b r j) := by
  unfold runA
  exact canon_boxes (φ := .f32) _ _ _ _ (fun k b r j => 0 + I.dw (512 * t) 512 k b r j) _ _ _ _
    (b_new0 I t (fun _ _ _ _ => 0) c (hb := a_v8 c ..) ..) (b_new1 I t (fun _ _ _ _ => 0) c (hb := a_v29 I t c ..) ..)
    (b_new2 I t (fun _ _ _ _ => 0) c (hb := a_v50 I t c ..) ..) (b_new3 I t (fun _ _ _ _ => 0) c (hb := a_v71 I t c ..) ..) _

theorem outB_4 (hs : ¬ First i) (he : ¬ Final i) : View.canon (runB c i arg1 harg1 arg2 harg2 arg3 harg3 arg4 harg4 arg6 harg6 hs he (X1 I t) (X2 I t) (X3 I) (Y6 g6) f5).1.p4 = (tab fun r a => I.dp (512 * t + r) a : Vec Ideal S512x4096 .bf16) := by
  unfold runB
  exact canon_cols (φ := .bf16) 1024 2048 3072 rfl rfl rfl rfl _ _ _ _ (fun r a => I.dp (512 * t + r) a) _ _ _ _
    (of6 I t 0 0 (load1 I t c ..) (load20 I t c ..) (load30 I c ..) rfl) (of9 I t 1 1024 (b_r1 I t c ..) (b_r2 I t c ..) (load31 I c ..) rfl)
    (of12 I t 2 2048 (b_r1 I t c ..) (b_r3 I t c ..) (load32 I c ..) rfl) (of15 I t 3 3072 (b_r1 I t c ..) (load23 I t c ..) (load33 I c ..) rfl) []
theorem outB_6 (hs : ¬ First i) (he : ¬ Final i) : View.canon (runB c i arg1 harg1 arg2 harg2 arg3 harg3 arg4 harg4 arg6 harg6 hs he (X1 I t) (X2 I t) (X3 I) (Y6 g6) f5).1.p6 = Y6 (fun k b r j => g6 k b r j + I.dw (512 * t) 512 k b r j) := by
  unfold runB
  exact canon_boxes (φ := .f32) _ _ _ _ (fun k b r j => g6 k b r j + I.dw (512 * t) 512 k b r j) _ _ _ _
    (b_new0 I t g6 c (hb := load60 g6 c ..) ..) (b_new1 I t g6 c (hb := load61 g6 c ..) ..)
    (b_new2 I t g6 c (hb := load62 g6 c ..) ..) (b_new3 I t g6 c (hb := load63 g6 c ..) ..) _

theorem outC_4 (hs : ¬ First i) (he : Final i) : View.canon (runC c i arg1 harg1 arg2 harg2 arg3 harg3 arg4 harg4 arg6 harg6 hs he (X1 I t) (X2 I t) (X3 I) (Y6 g6) f5).1.p4 = (tab fun r a => I.dp (512 * t + r) a : Vec Ideal S512x4096 .bf16) := by
  unfold runC
  exact canon_cols (φ := .bf16) 1024 2048 3072 rfl rfl rfl rfl _ _ _ _ (fun r a => I.dp (512 * t + r) a) _ _ _ _
    (of6 I t 0 0 (load1 I t c ..) (load20 I t c ..) (load30 I c ..) rfl) (of9 I t 1 1024 (b_r1 I t c ..) (b_r2 I t c ..) (load31 I c ..) rfl)
    (of12 I t 2 2048 (b_r1 I t c ..) (b_r3 I t c ..) (load32 I c ..) rfl) (of15 I t 3 3072 (b_r1 I t c ..) (load23 I t c ..) (load33 I c ..) rfl) []
theorem outC_6 (hs : ¬ First i) (he : Final i) : View.canon (runC c i arg1 harg1 arg2 harg2 arg3 harg3 arg4 harg4 arg6 harg6 hs he (X1 I t) (X2 I t) (X3 I) (Y6 g6) f5).1.p6 = Y6 (fun k b r j => g6 k b r j + I.dw (512 * t) 512 k b r j) := by
  unfold runC
  exact canon_boxes (φ := .f32) _ _ _ _ (fun k b r j => g6 k b r j + I.dw (512 * t) 512 k b r j) _ _ _ _
    (b_new0 I t g6 c (hb := load60 g6 c ..) ..) (b_new1 I t g6 c (hb := load61 g6 c ..) ..)
    (b_new2 I t g6 c (hb := load62 g6 c ..) ..) (b_new3 I t g6 c (hb := load63 g6 c ..) ..) _

theorem c_copy0 : runC.sl.dma5 (F := Ideal) c arg1 harg1 arg2 harg2 arg6 harg6 (X1 I t) (X2 I t) (Y6 g6) = tab3 fun b r j => g6 0 b r j + I.dw (512 * t) 512 0 b r j :=
  read_last (φ := .f32) arg6 0 _ _ _ _ _ (fun k b r j => g6 k b r j + I.dw (512 * t) 512 k b r j) _ (b_new0 I t g6 c (hb := load60 g6 c ..) ..) _
theorem c_copy1 : runC.sl.dma12 (F := Ideal) c arg1 harg1 arg2 harg2 arg6 harg6 (X1 I t) (X2 I t) (Y6 g6) = tab3 fun b r j => g6 1 b r j + I.dw (512 * t) 512 1 b r j :=
  read_last (φ := .f32) arg6 1 _ _ _ _ _ (fun k b r j => g6 k b r j + I.dw (512 * t) 512 k b r j) _ (b_new1 I t g6 c (hb := load61 g6 c ..) ..) _
theorem c_copy2 : runC.sl.dma19 (F := Ideal) c arg1 harg1 arg2 harg2 arg6 harg6 (X1 I t) (X2 I t) (Y6 g6) = tab3 fun b r j => g6 2 b r j + I.dw (512 * t) 512 2 b r j :=
  read_last (φ := .f32) arg6 2 _ _ _ _ _ (fun k b r j => g6 k b r j + I.dw (512 * t) 512 k b r j) _ (b_new2 I t g6 c (hb := load62 g6 c ..) ..) _
theorem c_copy3 : runC.sl.dma26 (F := Ideal) c arg1 harg1 arg2 harg2 arg6 harg6 (X1 I t) (X2 I t) (Y6 g6) = tab3 fun b r j => g6 3 b r j + I.dw (512 * t) 512 3 b r j :=
  read_last (φ := .f32) arg6 3 _ _ _ _ _ (fun k b r j => g6 k b r j + I.dw (512 * t) 512 k b r j) _ (b_new3 I t g6 c (hb := load63 g6 c ..) ..) _
theorem outC_5 (hs : ¬ First i) (he : Final i) : (runC c i arg1 harg1 arg2 harg2 arg3 harg3 arg4 harg4 arg6 harg6 hs he (X1 I t) (X2 I t) (X3 I) (Y6 g6) f5).1.g5 = Y6 (fun k b r j => g6 k b r j + I.dw (512 * t) 512 k b r j) := by
  unfold runC
  exact put_boxes (φ := .f32) (View.whole main_v4_1) _ _ _ _ _ _ _ _ _ _ _ _ _ (fun k b r j => g6 k b r j + I.dw (512 * t) 512 k b r j)
    (c_copy0 I t g6 c ..) (c_copy1 I t g6 c ..) (c_copy2 I t g6 c ..) (c_copy3 I t g6 c ..)
end

end Cert.BwdFc2Ideal.Hand
-- ==== Proof.BwdFc2Kernel.lean ====
module

public import proofs.«01_k».proof.Proof.BwdFc2Tile

/-! The call's results after its last step. -/

@[expose] public section

set_option maxRecDepth 16384

noncomputable section

namespace Cert.BwdFc2Ideal.Hand

open Idealize.ShloMosaic Idealize.ShloMosaic.TcCoe Idealize.SL.Sem
open Idealize.ShloMosaic.Pipeline (Dat)
open Cert.BwdFc2Ideal Cert.BwdFc2Ideal.Gen Cert.MixerOps Cert.Rms Cert.Slab Cert.BwdFc2Math

variable (m : (ℓ : Loc nD τ sig) → Buf (Elt Ideal) ℓ) (c : Dev nD) (I : Inp) (t : Fin cfg0.N)

/-- The call's arguments are the arrays `I`. -/
structure Holds : Prop where
  a0 : (m ((c : Thread nD τ).loc main_arg0) : Vec Ideal S4096x4096 .f32) = tab I.P
  a1 : (m ((c : Thread nD τ).loc main_arg1) : Vec Ideal S4096x1024 .bf16) = tab I.D
  a2 : (m ((c : Thread nD τ).loc main_arg2) : Vec Ideal S4x1024x1024 .bf16) = tab3 I.W

theorem index0 : win0_0.index t = ![t.val, 0] := (by decide +kernel : ∀ t : Fin grid0.N, win0_0.index t = ![t.val, 0]) t
theorem index1 : win0_1.index t = ![t.val, 0] := (by decide +kernel : ∀ t : Fin grid0.N, win0_1.index t = ![t.val, 0]) t
theorem index2 : win0_2.index t = ![0, 0, 0] := (by decide +kernel : ∀ t : Fin grid0.N, win0_2.index t = ![0, 0, 0]) t
theorem index3 : win0_3.index t = ![t.val, 0] := (by decide +kernel : ∀ t : Fin grid0.N, win0_3.index t = ![t.val, 0]) t

variable {m c I}

theorem V_v3 (h : Holds m c I) : (V m c main_v3 : Vec Ideal S4096x4096 .bf16) = tab I.q := by
  funext i
  obtain ⟨r, j, rfl⟩ : ∃ (r : Fin 4096) (j : Fin 4096), i = ValueIdx.ix2 r j := ⟨i 0, i 1, ValueIdx.eq_ix2 i⟩
  entry_read
  rw [h.a0]
  pointwise
  rfl

theorem blk0 (h : Holds m c I) : blk m c 0 t = X1 I t.val := by
  unfold blk
  rw [show V m c (Pipeline.arrRef spec0 0) = _ from (V_kept m c main_arg1 (by decide) (by decide) (by decide) (by decide) (by decide)).trans h.a1]
  funext y
  blk_simp [index0, tab]
  show _ = I.D (512 * t.val + (y 0).val) (y 1).val
  rw [Nat.mul_comm 512]
theorem blk1 (h : Holds m c I) : blk m c 1 t = X2 I t.val := by
  unfold blk
  rw [show V m c (Pipeline.arrRef spec0 1) = _ from V_v3 h]
  funext y
  blk_simp [index1, tab]
  show _ = I.q (512 * t.val + (y 0).val) (y 1).val
  rw [Nat.mul_comm 512]
theorem blk2 (h : Holds m c I) : blk m c 2 t = X3 I := by
  unfold blk
  rw [show V m c (Pipeline.arrRef spec0 2) = _ from (V_kept m c main_arg2 (by decide) (by decide) (by decide) (by decide) (by decide)).trans h.a2]
  funext y
  blk_simp [index2, tab, tab3]
  exact congrArg _ (by blk_ext [index2])

/-! ## The results after each step -/

variable (I) in
/-- What the results hold after the first `n` rows, the last `512` of them in step `k`. -/
structure Sums (k n : ℕ) (s : State Ideal c) : Prop where
  v4 : s.v4 = (tab fun r a => I.dp (512 * k + r) a : Vec Ideal S512x4096 .bf16)
  v6 : s.v6 = Y6 (I.dw 0 n)

theorem Y6_congr {f g : ℕ → ℕ → ℕ → ℕ → EReal} (h : ∀ k b r j, f k b r j = g k b r j) : Y6 f = Y6 g :=
  congrArg Y6 (funext fun k => funext fun b => funext fun r => funext fun j => h k b r j)
theorem held_congr {k n n' : ℕ} {s : State Ideal c} (e : n = n') (h : Sums I k n s) : Sums I k n' s := e ▸ h

theorem after_v4 (w : Stores Ideal c) : (after w).v4 = View.canon w.p4 := read_stores view4 w.p4
theorem after_v6 (w : Stores Ideal c) : (after w).v6 = View.canon w.p6 := read_stores view6 w.p6

theorem held_A (h : Holds m c I) (ht : t.val = 0) : Sums I t.val 512 (after (storesA m c t ht)) := by
  unfold storesA
  rw [blk0 t h, blk1 t h, blk2 t h]
  exact ⟨(after_v4 _).trans (outA_4 ..),
    (after_v6 _).trans ((outA_6 ..).trans (Y6_congr fun k b r j => by rw [ht, Nat.mul_zero, zero_add]))⟩

theorem held_B (h : Holds m c I) {k : ℕ} {s : State Ideal c} (hs : Sums I k (512 * t.val) s) (a : t.val ≠ 0) (b : t.val ≠ 7) :
    Sums I t.val (512 * t.val + 512) (after (storesB m c t s a b)) := by
  unfold storesB
  rw [blk0 t h, blk1 t h, blk2 t h, hs.v6]
  exact ⟨(after_v4 _).trans (outB_4 ..),
    (after_v6 _).trans ((outB_6 ..).trans (Y6_congr fun k b r j => I.dw_add _ _ _ _ _ _))⟩
theorem held_C (h : Holds m c I) {k : ℕ} {s : State Ideal c} (hs : Sums I k (512 * t.val) s) (b : t.val = 7) :
    Sums I t.val (512 * t.val + 512) (after (storesC m c t s b)) := by
  unfold storesC
  rw [blk0 t h, blk1 t h, blk2 t h, hs.v6]
  exact ⟨(after_v4 _).trans (outC_4 ..),
    (after_v6 _).trans ((outC_6 ..).trans (Y6_congr fun k b r j => I.dw_add _ _ _ _ _ _))⟩

theorem state_held (h : Holds m c I) : ∀ (n : ℕ) (hn : n < cfg0.N), Sums I n (512 * n + 512) (state m c n hn)
  | 0, hn => by
    rw [state_A m c ⟨0, hn⟩ rfl]
    exact held_A ⟨0, hn⟩ h rfl
  | n + 1, hn => by
    have hp := state_held h n (Nat.lt_of_succ_lt hn)
    by_cases e : n + 1 = 7
    · rw [state_C m c ⟨n + 1, hn⟩ e]
      exact held_C ⟨n + 1, hn⟩ h (held_congr (by show 512 * n + 512 = 512 * (n + 1); omega) hp) e
    · rw [state_B m c ⟨n + 1, hn⟩ (Nat.succ_ne_zero n) e]
      exact held_B ⟨n + 1, hn⟩ h (held_congr (by show 512 * n + 512 = 512 * (n + 1); omega) hp) (Nat.succ_ne_zero n) e

theorem copied_held (h : Holds m c I) : (done m c).g5 = Y6 (I.dw 0 4096) := by
  have hN : cfg0.N = 8 := N_0
  have hp : Sums I 6 (512 * 7) (state m c 6 (by omega)) := state_held h 6 (by omega)
  unfold done
  rw [show state m c 7 _ = _ from state_C m c ⟨7, by omega⟩ rfl]
  show (storesC m c ⟨7, by omega⟩ (state m c 6 (by omega)) rfl).g5 = _
  unfold storesC
  rw [blk0 _ h, blk1 _ h, blk2 _ h, hp.v6]
  exact (outC_5 ..).trans (Y6_congr fun k b r j => I.dw_add _ _ _ _ _ _)

/-! ## The arrays after the last step -/

theorem final3 (h : Holds m c I) : (dats m 0 c).arrAt 3 cfg0.N = (tab I.dp : Vec Ideal S4096x4096 .bf16) :=
  (dats m 0 c).arrAt_eq_of_covers 3 _ (by decide +kernel) fun t hf y => by
    blk_simp
    rw [after_3, (state_held h t.val t.isLt).v4]
    blk_simp [index3, tab]
    show I.dp (512 * t.val + (y 0).val) (y 1).val = _
    rw [Nat.mul_comm 512]

end Cert.BwdFc2Ideal.Hand
-- ==== Proof.BwdFc2Ref.lean ====
module

public import proofs.«01_k».proof.Proof.BwdFc2Math
public import proofs.«01_k».proof.Proof.Gen.BwdFc2RefIdeal.Read

/-!
What the reference of the second linear map's gradient computes, one stage after another: each lemma gives a stage's array at an
index as the number that `BwdFc2Math` names.
-/

@[expose] public section

set_option maxRecDepth 16384

noncomputable section

namespace Cert.BwdFc2RefIdeal.Hand

open Idealize.ShloMosaic Cert.MixerOps Cert.MixerHost Cert.BwdFc2Math Cert.BwdFc2RefIdeal.Gen Cert.BwdFc2RefIdeal.Read

variable (I : Inp)

/-! ## The arguments -/

def R0 : (⟨S4096x4096, .f32⟩ : BufTy).Contents (Elt Ideal) := tab I.P
def R1 : (⟨S4096x1024, .bf16⟩ : BufTy).Contents (Elt Ideal) := tab I.D
def R2 : (⟨S4x1024x1024, .bf16⟩ : BufTy).Contents (Elt Ideal) := tab3 I.W

theorem r0 (i : S4096x4096.Idx) : R0 I i = I.P (i 0).val (i 1).val := rfl
theorem r1 (i : S4096x1024.Idx) : R1 I i = I.D (i 0).val (i 1).val := rfl
theorem r2 (i : S4x1024x1024.Idx) : R2 I i = I.W (i 0).val (i 1).val (i 2).val := rfl

/-! ## The stages -/

theorem zero : FloatOps.ofBits (F := Ideal) .f32 0x00000000#32 = (0 : EReal) := w_0.trans EReal.coe_zero

theorem v1 (i) : val_main_v1 (F := Ideal) (R0 I) i = max (I.P (i 0).val (i 1).val) 0 := by
  simp only [val_main_v1_apply, val_main_call0_v0_apply, val_main_call0_cst_apply, r0, zero]
  rfl
theorem v5 (i) : val_main_v5 (F := Ideal) (R0 I) i = I.q (i 0).val (i 1).val := by
  simp only [val_main_v5_apply, v1]
  rfl
theorem v8 (i) : val_main_v8 (F := Ideal) (R2 I) i = I.W ((i 0).val / 1024) ((i 0).val % 1024) (i 1).val := by
  simp only [val_main_v8_apply, val_main_v0_apply, r2]
  have h0 : (i 0).val < 4096 := (i 0).isLt
  have h : (i 1).val < 1024 := (i 1).isLt
  rw [show ((i 0).val * 1024 + (i 1).val) / 1048576 = (i 0).val / 1024 by omega,
    show ((i 0).val * 1024 + (i 1).val) / 1024 % 1024 = (i 0).val % 1024 by omega, show ((i 0).val * 1024 + (i 1).val) % 1024 = (i 1).val by omega]
  rfl
theorem v13 (i) : val_main_v13 (F := Ideal) (R1 I) (R2 I) i
    = ∑ k ∈ Finset.range 1024, I.D (i 0).val k * I.W ((i 1).val / 1024) ((i 1).val % 1024) k := by
  simp only [val_main_v13_apply, val_main_v10_apply, r1, v8]
  rw [Finset.sum_range]
  rfl
theorem v3 (i) : val_main_v3 (F := Ideal) (R0 I) i = if 0 < I.P (i 0).val (i 1).val then 1#1 else 0#1 := by
  simp only [val_main_v3_apply, val_main_v2_apply, val_main_cst_apply, r0, zero]
  show Ideal.cmp .ogt _ _ = _
  simp only [Ideal.cmp]
  by_cases h : 0 < I.P (i 0).val (i 1).val <;> simp [h]
theorem v15 (i) : val_main_v15 (F := Ideal) (R0 I) (R1 I) (R2 I) i
    = (∑ k ∈ Finset.range 1024, I.D (i 0).val k * I.W ((i 1).val / 1024) ((i 1).val % 1024) k)
      * (((2 : ℝ) : EReal) * max (I.P (i 0).val (i 1).val) 0) := by
  simp only [val_main_v15_apply, v13, val_main_v7_apply, val_main_v6_apply, val_main_cst_1_apply, w_2, v1]
  rfl
theorem v18 (i) : val_main_v18 (F := Ideal) (R0 I) (R1 I) (R2 I) i = I.dp (i 0).val (i 1).val := by
  simp only [val_main_v18_apply, val_main_v17_apply, v3, v15, val_main_v16_apply, val_main_cst_2_apply, zero]
  rw [Inp.dp_eq]
  split_ifs <;> rfl
theorem v12 (i) : val_main_v12 (F := Ideal) (R0 I) (R1 I) i = I.part 0 4096 (i 0).val (i 1).val := by
  simp only [val_main_v12_apply, val_main_v11_apply, val_main_v10_apply, r1, v5]
  rw [Inp.part, Finset.sum_range]
  exact Finset.sum_congr rfl fun k _ => by rw [Nat.zero_add]; exact mul_comm _ _
theorem v19 (i) : val_main_v19 (F := Ideal) (R0 I) (R1 I) i = I.dw 0 4096 (i 0).val (i 1).val (i 2).val (i 3).val := by
  simp only [val_main_v19_apply, val_main_v14_apply, v12]
  have h0 : (i 0).val < 4 := (i 0).isLt
  have h1 : (i 1).val < 2 := (i 1).isLt
  have h2 : (i 2).val < 512 := (i 2).isLt
  have h3 : (i 3).val < 1024 := (i 3).isLt
  exact congrArg₂ (I.part 0 4096) (by omega) (by omega)

end Cert.BwdFc2RefIdeal.Hand
-- ==== Proof.BwdFc2.lean ====
module

public import proofs.«01_k».proof.Defs
public import proofs.«01_k».proof.Proof.BwdFc2Kernel
public import proofs.«01_k».proof.Proof.BwdFc2Ref
public import proofs.«01_k».proof.Proof.Gen.BwdFc2
public import proofs.«01_k».proof.Proof.Gen.BwdFc2.Skeleton
public import proofs.«01_k».proof.Proof.Gen.BwdFc2RefIdeal.Run
public import proofs.«01_k».proof.Proof.Gen.BwdFc2RefIdeal.Read

/-!
The second linear map's gradient: the kernel and the reference end with the same gradients.
-/

@[expose] public section

noncomputable section

namespace Cert.Proof.BwdFc2

open Idealize.ShloMosaic Idealize.ShloMosaic.TcCoe Idealize.SL.Sem Cert.MixerOps Cert.BwdFc2Math

/-- The kernel's text is one and the same over machine words and over the reals: what its frame says of words, in the words of the other. -/
theorem frame_text : Cert.quiescent_BwdFc2 =
    ∀ (m : (ℓ : Loc Cert.BwdFc2Ideal.nD Cert.BwdFc2Ideal.τ Cert.BwdFc2Ideal.sig) → Buf (Elt Bits) ℓ) (g : Dev Cert.BwdFc2Ideal.nD → PrngReg), Cert.Pre_BwdFc2 m →
    θ_run (Cert.BwdFc2Ideal.defs (F := Bits)) (onTc (τ := Cert.BwdFc2Ideal.τ) (Cert.BwdFc2Ideal.main (F := Bits))) ⟨m, fun _ => 0, g⟩ (fun r => (∀ c : Dev Cert.BwdFc2Ideal.nD,
      r.2.mem ((c.tc : Thread Cert.BwdFc2Ideal.nD Cert.BwdFc2Ideal.τ).loc Cert.BwdFc2Ideal.main_arg0) = m ((c.tc : Thread Cert.BwdFc2Ideal.nD Cert.BwdFc2Ideal.τ).loc Cert.BwdFc2Ideal.main_arg0)
      ∧ r.2.mem ((c.tc : Thread Cert.BwdFc2Ideal.nD Cert.BwdFc2Ideal.τ).loc Cert.BwdFc2Ideal.main_arg1) = m ((c.tc : Thread Cert.BwdFc2Ideal.nD Cert.BwdFc2Ideal.τ).loc Cert.BwdFc2Ideal.main_arg1)
      ∧ r.2.mem ((c.tc : Thread Cert.BwdFc2Ideal.nD Cert.BwdFc2Ideal.τ).loc Cert.BwdFc2Ideal.main_arg2) = m ((c.tc : Thread Cert.BwdFc2Ideal.nD Cert.BwdFc2Ideal.τ).loc Cert.BwdFc2Ideal.main_arg2))
      ∧ r.2.sem = fun _ => 0) := by sl_kernel_rfl

theorem frame : Cert.quiescent_BwdFc2 := frame_text ▸ fun m ρ _ => Cert.BwdFc2Ideal.Hand.frame (F := Bits) m ρ

theorem frame_ideal : Cert.quiescent_BwdFc2Ideal := fun m ρ _ => Cert.BwdFc2Ideal.Hand.frame m ρ

theorem frame_ref : Cert.quiescent_BwdFc2RefIdeal := fun m ρ _ =>
  (θ_run Cert.BwdFc2RefIdeal.defs _ _).mono (fun r h => ⟨fun c => (h c).2.2, sem_eq_zero_of_no_sems rfl r.2⟩)
    (Cert.BwdFc2RefIdeal.Value.run (F := Ideal) m ρ)

/-! A whole array as a function of natural numbers. -/

def ext2 {m n : ℕ} (x : Shape.Idx ⟨2, ![m, n]⟩ → EReal) (a b : ℕ) : EReal := if h : a < m ∧ b < n then x (ValueIdx.ix2 ⟨a, h.1⟩ ⟨b, h.2⟩) else 0
def ext3 {l m n : ℕ} (x : Shape.Idx ⟨3, ![l, m, n]⟩ → EReal) (k a b : ℕ) : EReal :=
  if h : k < l ∧ a < m ∧ b < n then x (ValueIdx.ix3 ⟨k, h.1⟩ ⟨a, h.2.1⟩ ⟨b, h.2.2⟩) else 0
theorem tab_ext {m n : ℕ} (x : Shape.Idx ⟨2, ![m, n]⟩ → EReal) : x = tab (ext2 x) := by
  funext i
  exact ((dif_pos ⟨(i 0).isLt, (i 1).isLt⟩).trans (congrArg x (ValueIdx.eq_ix2 i).symm)).symm
theorem tab3_ext {l m n : ℕ} (x : Shape.Idx ⟨3, ![l, m, n]⟩ → EReal) : x = tab3 (ext3 x) := by
  funext i
  exact ((dif_pos ⟨(i 0).isLt, (i 1).isLt, (i 2).isLt⟩).trans (congrArg x (ValueIdx.eq_ix3 i).symm)).symm

variable (m : (ℓ : Loc Cert.BwdFc2Ideal.nD Cert.BwdFc2Ideal.τ Cert.BwdFc2Ideal.sig) → Buf (Elt Ideal) ℓ) (c : Dev Cert.BwdFc2Ideal.nD)

/-- The kernel's arguments on a device. -/
def inp : Inp where
  P := ext2 (m := 4096) (n := 4096) (m ((c.tc : Thread Cert.BwdFc2Ideal.nD Cert.BwdFc2Ideal.τ).loc Cert.BwdFc2Ideal.main_arg0))
  D := ext2 (m := 4096) (n := 1024) (m ((c.tc : Thread Cert.BwdFc2Ideal.nD Cert.BwdFc2Ideal.τ).loc Cert.BwdFc2Ideal.main_arg1))
  W := ext3 (l := 4) (m := 1024) (n := 1024) (m ((c.tc : Thread Cert.BwdFc2Ideal.nD Cert.BwdFc2Ideal.τ).loc Cert.BwdFc2Ideal.main_arg2))

theorem holds : Cert.BwdFc2Ideal.Hand.Holds m c (inp m c) := ⟨tab_ext _, tab_ext _, tab3_ext _⟩

open Cert.BwdFc2Ideal.Hand Cert.BwdFc2RefIdeal.Hand Cert.BwdFc2Ideal in
theorem algebraic : Cert.algebraic_BwdFc2Ideal_BwdFc2RefIdeal := by
  intro m ρ m' ρ' _ hagree
  refine ⟨fun c => tab (inp m c).dp, fun c => Y6 ((inp m c).dw 0 4096), ?_, ?_⟩
  · refine (θ_run Cert.BwdFc2Ideal.defs _ _).mono (fun r h c => ?_) (Cert.BwdFc2Ideal.Hand.run_quiet m ρ)
    exact ⟨((h.1.toR c).1 3).trans (final3 (holds m c)),
      ((h.1.written c (by decide : main_v4_1 ∈ copied)).trans (copiedTo_5 m c)).trans (copied_held (holds m c)), Cert.BwdFc2Ideal.Hand.kept m r h.1 c⟩
  · refine (θ_run Cert.BwdFc2RefIdeal.defs _ _).mono (fun _ h c => ?_) (Cert.BwdFc2RefIdeal.Value.run (F := Ideal) m' ρ')
    obtain ⟨e0, e1, args⟩ := h c
    obtain ⟨a0, a1, a2⟩ := hagree c
    have H := holds m c
    have b0 : m' ((c.tc : Thread Cert.BwdFc2RefIdeal.nD Cert.BwdFc2RefIdeal.τ).loc Cert.BwdFc2RefIdeal.main_arg0) = R0 (inp m c) := a0.trans H.a0
    have b1 : m' ((c.tc : Thread Cert.BwdFc2RefIdeal.nD Cert.BwdFc2RefIdeal.τ).loc Cert.BwdFc2RefIdeal.main_arg1) = R1 (inp m c) := a1.trans H.a1
    have b2 : m' ((c.tc : Thread Cert.BwdFc2RefIdeal.nD Cert.BwdFc2RefIdeal.τ).loc Cert.BwdFc2RefIdeal.main_arg2) = R2 (inp m c) := a2.trans H.a2
    refine ⟨e0.trans ?_, e1.trans ?_, args⟩
    · refine (Cert.BwdFc2RefIdeal.Read.val_main_v18_eq ..).trans ?_
      rw [b0, b1, b2]
      exact funext (v18 (inp m c))
    · refine (Cert.BwdFc2RefIdeal.Read.val_main_v19_eq ..).trans ?_
      rw [b0, b1]
      exact funext (v19 (inp m c))

end Cert.Proof.BwdFc2
-- ==== Proof.BwdMidRun.lean ====
module

public import proofs.«01_k».proof.Proof.Gen.BwdMidIdeal.Launch
public import proofs.«01_k».proof.Proof.Gen.BwdMidIdeal.Skeleton
public import proofs.«01_k».proof.Proof.Gen.BwdMidIdeal.Points
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

/-! The body of the `bwd_fc1_out` call run at a first, a middle and the last grid point: from what it owns, what it
    leaves written. The last point also starts and waits the copies of the accumulated shards to the result. -/

@[expose] public section

set_option maxRecDepth 16384

noncomputable section

namespace Cert.BwdMidIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.BwdMidIdeal.Gen

variable {F : FTy → Type} [FloatOps F]

/-- The resources the proofs own pieces of. -/
abbrev Res (F : FTy → Type) [FloatOps F] := MT nD τ sig Unit (Elt F) ℕ (Pipeline.UD sig nD τ) ℕ

/-- The body's test for the first point. -/
abbrev First (i : grid0.Coords) : Prop :=
  (Scalar.cmpi .ne (Scalar.extui (Scalar.cmpi .eq (BitVec.ofNat 32 (i 0).val) 0#32)) 0#32) = 1#1
/-- The body's test for the last point. -/
abbrev Final (i : grid0.Coords) : Prop :=
  (Scalar.cmpi .ne (Scalar.extui (Scalar.cmpi .eq (BitVec.ofNat 32 (i 0).val) 15#32)) 0#32) = 1#1

/-- The contents of an array left in HBM. -/
abbrev Held (c : Dev nD) (b : Ref sig .tc) : Type := Buf (Elt F) ((c : Thread nD τ).loc b)
/-- The contents of the buffer behind a memref. -/
abbrev Inside (c : Dev nD) {sp : Space} {S : Shape} {e : EltTy} (M : Memref sig .tc sp S e) : Type :=
  Buf (Elt F) (M.view.loc (c : Thread nD τ))
/-- A memref's buffer held whole at given contents. -/
abbrev holds (c : Dev nD) {sp : Space} {S : Shape} {e : EltTy} (M : Memref sig .tc sp S e)
    (f : Inside (F := F) c M) : sProp (Res F) := M.view.loc (c : Thread nD τ) ↦{fullShare} f

abbrev Src12 : Memref sig .tc .hbm S4x2x256x1024 .bf16 := Memref.whole main_arg9
abbrev Dst18 : Memref sig .tc .hbm S4x2x512x1024 .f32 := Memref.whole main_v47_5
abbrev Dst19 : Memref sig .tc .hbm S4x2x128x1024 .f32 := Memref.whole main_v47_6

/-- The stores a run of the body leaves, memref by memref, and the contents of the arrays its copies write. -/
structure Stores (F : FTy → Type) [FloatOps F] (c : Dev nD) where
  p13 : List (View.Piece (Elt F) S256x1024 .f32)
  p14 : List (View.Piece (Elt F) S256x1024 .f32)
  p15 : List (View.Piece (Elt F) S1x1024 .f32)
  p16 : List (View.Piece (Elt F) S1x1024 .f32)
  p17 : List (View.Piece (Elt F) S1x1024 .f32)
  p20 : List (View.Piece (Elt F) S4x2x512x1024 .f32)
  p21 : List (View.Piece (Elt F) S4x2x128x1024 .f32)
  g18 : Inside (F := F) c Dst18
  g19 : Inside (F := F) c Dst19

variable (c : Dev nD) (i : grid0.Coords)
  (arg1 : Memref sig .tc .vmem S256x4096 .bf16) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .bf16) (harg5 : arg5.IsWhole)
  (arg6 : Memref sig .tc .vmem S256x1024 .bf16) (harg6 : arg6.IsWhole)
  (arg7 : Memref sig .tc .vmem S6x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S4x1024x1024 .bf16) (harg10 : arg10.IsWhole)
  (arg11 : Memref sig .tc .vmem S4x256x1024 .bf16) (harg11 : arg11.IsWhole)
  (arg13 : Memref sig .tc .vmem S256x1024 .f32) (harg13 : arg13.IsWhole)
  (arg14 : Memref sig .tc .vmem S256x1024 .f32) (harg14 : arg14.IsWhole)
  (arg15 : Memref sig .tc .vmem S1x1024 .f32) (harg15 : arg15.IsWhole)
  (arg16 : Memref sig .tc .vmem S1x1024 .f32) (harg16 : arg16.IsWhole)
  (arg17 : Memref sig .tc .vmem S1x1024 .f32) (harg17 : arg17.IsWhole)
  (arg20 : Memref sig .tc .vmem S4x2x512x1024 .f32) (harg20 : arg20.IsWhole)
  (arg21 : Memref sig .tc .vmem S4x2x128x1024 .f32) (harg21 : arg21.IsWhole)

/-- The body, given its inputs and what it holds of the carried buffers, leaves the stores `w`. -/
def Leaves (P15 P16 P17 P20 P21 : sProp (Res F))
    (x1 : Vec F S256x4096 .bf16) (x2 : Vec F S256x1024 .f32) (x3 : Vec F S256x1024 .f32) (x4 : Vec F S256x1024 .f32) (x5 : Vec F S256x1024 .bf16) (x6 : Vec F S256x1024 .bf16) (x7 : Vec F S6x1024 .f32) (x8 : Vec F S1x1024 .f32) (x9 : Vec F S1x1024 .f32) (x10 : Vec F S4x1024x1024 .bf16) (x11 : Vec F S4x256x1024 .bf16)
    (f12 : Inside (F := F) c Src12) (f18 : Inside (F := F) c Dst18) (f19 : Inside (F := F) c Dst19) (w : Stores F c) : Prop :=
  ∀ (W : Waits sig Unit) (K : PUnit → sProp (Res F)),
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg13 fullShare d) ∗ (∃ d, owns (c : Thread nD τ) arg14 fullShare d) ∗ P15 ∗ P16 ∗ P17 ∗ P20 ∗ P21 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ holds c Src12 f12 ∗ holds c Dst18 f18 ∗ holds c Dst19 f19 ∗ owes (c : Thread nD τ) 0 W
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg13.view.loc (c : Thread nD τ) ↦[arg13.view.set]{fullShare} arg13.view.writes (Elt F) f w.p13) ∗ (∃ f, arg14.view.loc (c : Thread nD τ) ↦[arg14.view.set]{fullShare} arg14.view.writes (Elt F) f w.p14) ∗ (∃ f, arg15.view.loc (c : Thread nD τ) ↦[arg15.view.set]{fullShare} arg15.view.writes (Elt F) f w.p15) ∗ (∃ f, arg16.view.loc (c : Thread nD τ) ↦[arg16.view.set]{fullShare} arg16.view.writes (Elt F) f w.p16) ∗ (∃ f, arg17.view.loc (c : Thread nD τ) ↦[arg17.view.set]{fullShare} arg17.view.writes (Elt F) f w.p17) ∗ (∃ f, arg20.view.loc (c : Thread nD τ) ↦[arg20.view.set]{fullShare} arg20.view.writes (Elt F) f w.p20) ∗ (∃ f, arg21.view.loc (c : Thread nD τ) ↦[arg21.view.set]{fullShare} arg21.view.writes (Elt F) f w.p21) ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ holds c Src12 f12 ∗ holds c Dst18 w.g18 ∗ holds c Dst19 w.g19 ∗ (∃ W', owes (c : Thread nD τ) 0 W')) -∗ K ⟨⟩))
    ⊢ wp frame (wpE (defs₀ (F := F)) Variants.none c none) Set.univ (cc0_bwd_fc1_out i arg1 harg1 arg2 harg2 arg3 harg3 arg4 harg4 arg5 harg5 arg6 harg6 arg7 harg7 arg8 harg8 arg9 harg9 arg10 harg10 arg11 harg11 (Memref.whole main_arg9) (Memref.isWhole_whole _) arg13 harg13 arg14 harg14 arg15 harg15 arg16 harg16 arg17 harg17 (Memref.whole main_v47_5) (Memref.isWhole_whole _) (Memref.whole main_v47_6) (Memref.isWhole_whole _) arg20 harg20 arg21 harg21 cc0_scratch2 cc0_scratch3) K

set_option maxHeartbeats 4000000 in
/-- The run at the first point. -/
def runA (hs : First i) (he : ¬ Final i)
    (x1 : Vec F S256x4096 .bf16) (x2 : Vec F S256x1024 .f32) (x3 : Vec F S256x1024 .f32) (x4 : Vec F S256x1024 .f32) (x5 : Vec F S256x1024 .bf16) (x6 : Vec F S256x1024 .bf16) (x7 : Vec F S6x1024 .f32) (x8 : Vec F S1x1024 .f32) (x9 : Vec F S1x1024 .f32) (x10 : Vec F S4x1024x1024 .bf16) (x11 : Vec F S4x256x1024 .bf16)

    (f12 : Inside (F := F) c Src12) (f18 : Inside (F := F) c Dst18) (f19 : Inside (F := F) c Dst19) :
    { w : Stores F c // Leaves c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 iprop(∃ d, owns (c : Thread nD τ) arg15 fullShare d) iprop(∃ d, owns (c : Thread nD τ) arg16 fullShare d) iprop(∃ d, owns (c : Thread nD τ) arg17 fullShare d) iprop(∃ d, owns (c : Thread nD τ) arg20 fullShare d) iprop(∃ d, owns (c : Thread nD τ) arg21 fullShare d)  x1 x2 x3 x4 x5 x6 x7 x8 x9 x10 x11 f12 f18 f19 w } := by
  refine ⟨⟨?_, ?_, ?_, ?_, ?_, ?_, ?_, ?_, ?_⟩, fun W K => ?run⟩
  case run =>
    dsimp only
    simp only [cc0_bwd_fc1_out_eq_skeleton]; unfold cc0_bwd_fc1_out_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%d13, %f13, -, H13⟩, ⟨%d14, %f14, -, H14⟩, ⟨%d15, %f15, -, H15⟩, ⟨%d16, %f16, -, H16⟩, ⟨%d17, %f17, -, H17⟩, ⟨%d20, %f20, -, H20⟩, ⟨%d21, %f21, -, H21⟩, Hq0, Hq1, Hq2, Hq3, Hq4, Hq5, Hq6, Hq7, Hh12, Hh18, Hh19, HW, Hk⟩

    obtain rfl := harg1.eq_unread h1
    obtain rfl := harg2.eq_unread h2
    obtain rfl := harg3.eq_unread h3
    obtain rfl := harg4.eq_unread h4
    obtain rfl := harg5.eq_unread h5
    obtain rfl := harg6.eq_unread h6
    obtain rfl := harg7.eq_unread h7
    obtain rfl := harg8.eq_unread h8
    obtain rfl := harg9.eq_unread h9
    obtain rfl := harg10.eq_unread h10
    obtain rfl := harg11.eq_unread h11
    sl_exec (disch := first | sl_exact hs | sl_exact he)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H13]; · iexists _; iexact H13
    isplitl [H14]; · iexists _; iexact H14
    isplitl [H15]; · iexists _; iexact H15
    isplitl [H16]; · iexists _; iexact H16
    isplitl [H17]; · iexists _; iexact H17
    isplitl [H20]; · iexists _; iexact H20
    isplitl [H21]; · iexists _; iexact H21
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh12]; · iexact Hh12
    isplitl [Hh18]; · iexact Hh18
    isplitl [Hh19]; · iexact Hh19
    iexists _; iexact HW

set_option maxHeartbeats 4000000 in
/-- The run at a middle point. -/
def runB (hs : ¬ First i) (he : ¬ Final i)
    (x1 : Vec F S256x4096 .bf16) (x2 : Vec F S256x1024 .f32) (x3 : Vec F S256x1024 .f32) (x4 : Vec F S256x1024 .f32) (x5 : Vec F S256x1024 .bf16) (x6 : Vec F S256x1024 .bf16) (x7 : Vec F S6x1024 .f32) (x8 : Vec F S1x1024 .f32) (x9 : Vec F S1x1024 .f32) (x10 : Vec F S4x1024x1024 .bf16) (x11 : Vec F S4x256x1024 .bf16)
    (y15 : Vec F S1x1024 .f32) (y16 : Vec F S1x1024 .f32) (y17 : Vec F S1x1024 .f32) (y20 : Vec F S4x2x512x1024 .f32) (y21 : Vec F S4x2x128x1024 .f32)
    (f12 : Inside (F := F) c Src12) (f18 : Inside (F := F) c Dst18) (f19 : Inside (F := F) c Dst19) :
    { w : Stores F c // Leaves c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 (owns (c : Thread nD τ) arg15 fullShare y15) (owns (c : Thread nD τ) arg16 fullShare y16) (owns (c : Thread nD τ) arg17 fullShare y17) (owns (c : Thread nD τ) arg20 fullShare y20) (owns (c : Thread nD τ) arg21 fullShare y21)  x1 x2 x3 x4 x5 x6 x7 x8 x9 x10 x11 f12 f18 f19 w } := by
  refine ⟨⟨?_, ?_, ?_, ?_, ?_, ?_, ?_, ?_, ?_⟩, fun W K => ?run⟩
  case run =>
    dsimp only
    simp only [cc0_bwd_fc1_out_eq_skeleton]; unfold cc0_bwd_fc1_out_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%d13, %f13, -, H13⟩, ⟨%d14, %f14, -, H14⟩, ⟨%f15, %h15, H15⟩, ⟨%f16, %h16, H16⟩, ⟨%f17, %h17, H17⟩, ⟨%f20, %h20, H20⟩, ⟨%f21, %h21, H21⟩, Hq0, Hq1, Hq2, Hq3, Hq4, Hq5, Hq6, Hq7, Hh12, Hh18, Hh19, HW, Hk⟩

    obtain rfl := harg1.eq_unread h1
    obtain rfl := harg2.eq_unread h2
    obtain rfl := harg3.eq_unread h3
    obtain rfl := harg4.eq_unread h4
    obtain rfl := harg5.eq_unread h5
    obtain rfl := harg6.eq_unread h6
    obtain rfl := harg7.eq_unread h7
    obtain rfl := harg8.eq_unread h8
    obtain rfl := harg9.eq_unread h9
    obtain rfl := harg10.eq_unread h10
    obtain rfl := harg11.eq_unread h11
    obtain rfl := harg15.eq_unread h15
    obtain rfl := harg16.eq_unread h16
    obtain rfl := harg17.eq_unread h17
    obtain rfl := harg20.eq_unread h20
    obtain rfl := harg21.eq_unread h21
    sl_exec (disch := first | sl_exact hs | sl_exact he)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H13]; · iexists _; iexact H13
    isplitl [H14]; · iexists _; iexact H14
    isplitl [H15]; · iexists _; iexact H15
    isplitl [H16]; · iexists _; iexact H16
    isplitl [H17]; · iexists _; iexact H17
    isplitl [H20]; · iexists _; iexact H20
    isplitl [H21]; · iexists _; iexact H21
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh12]; · iexact Hh12
    isplitl [Hh18]; · iexact Hh18
    isplitl [Hh19]; · iexact Hh19
    iexists _; iexact HW

set_option sl_exec.dmaWindow true in
set_option sl_exec.dmaWindowSet true in
set_option sl_exec.rejoinHeartbeats 1000000 in
set_option maxHeartbeats 0 in
/-- The run at the last point. -/
def runC (hs : ¬ First i) (he : Final i)
    (x1 : Vec F S256x4096 .bf16) (x2 : Vec F S256x1024 .f32) (x3 : Vec F S256x1024 .f32) (x4 : Vec F S256x1024 .f32) (x5 : Vec F S256x1024 .bf16) (x6 : Vec F S256x1024 .bf16) (x7 : Vec F S6x1024 .f32) (x8 : Vec F S1x1024 .f32) (x9 : Vec F S1x1024 .f32) (x10 : Vec F S4x1024x1024 .bf16) (x11 : Vec F S4x256x1024 .bf16)
    (y15 : Vec F S1x1024 .f32) (y16 : Vec F S1x1024 .f32) (y17 : Vec F S1x1024 .f32) (y20 : Vec F S4x2x512x1024 .f32) (y21 : Vec F S4x2x128x1024 .f32)
    (f12 : Inside (F := F) c Src12) (f18 : Inside (F := F) c Dst18) (f19 : Inside (F := F) c Dst19) :
    { w : Stores F c // Leaves c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 (owns (c : Thread nD τ) arg15 fullShare y15) (owns (c : Thread nD τ) arg16 fullShare y16) (owns (c : Thread nD τ) arg17 fullShare y17) (owns (c : Thread nD τ) arg20 fullShare y20) (owns (c : Thread nD τ) arg21 fullShare y21)  x1 x2 x3 x4 x5 x6 x7 x8 x9 x10 x11 f12 f18 f19 w } := by
  refine ⟨⟨?_, ?_, ?_, ?_, ?_, ?_, ?_, ?_, ?_⟩, fun W K => ?run⟩
  case run =>
    dsimp only
    simp only [cc0_bwd_fc1_out_eq_skeleton]; unfold cc0_bwd_fc1_out_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%d13, %f13, -, H13⟩, ⟨%d14, %f14, -, H14⟩, ⟨%f15, %h15, H15⟩, ⟨%f16, %h16, H16⟩, ⟨%f17, %h17, H17⟩, ⟨%f20, %h20, H20⟩, ⟨%f21, %h21, H21⟩, Hq0, Hq1, Hq2, Hq3, Hq4, Hq5, Hq6, Hq7, Hh12, Hh18, Hh19, HW, Hk⟩

    obtain rfl := harg1.eq_unread h1
    obtain rfl := harg2.eq_unread h2
    obtain rfl := harg3.eq_unread h3
    obtain rfl := harg4.eq_unread h4
    obtain rfl := harg5.eq_unread h5
    obtain rfl := harg6.eq_unread h6
    obtain rfl := harg7.eq_unread h7
    obtain rfl := harg8.eq_unread h8
    obtain rfl := harg9.eq_unread h9
    obtain rfl := harg10.eq_unread h10
    obtain rfl := harg11.eq_unread h11
    obtain rfl := harg15.eq_unread h15
    obtain rfl := harg16.eq_unread h16
    obtain rfl := harg17.eq_unread h17
    obtain rfl := harg20.eq_unread h20
    obtain rfl := harg21.eq_unread h21
    have a10 : Disjoint (((Memref.whole main_v47_5).slice (Rect.unit (s := S4x2x512x1024) ![1, 0, 0, 0] S1x2x512x1024.size inb_S4x2x512x1024_S1x2x512x1024_1_0_0_0) (fun _ => rfl)).squeeze S2x512x1024 squeezes_S1x2x512x1024_S2x512x1024).view.set (((Memref.whole main_v47_5).slice (Rect.unit (s := S4x2x512x1024) ![0, 0, 0, 0] S1x2x512x1024.size inb_S4x2x512x1024_S1x2x512x1024_0_0_0_0) (fun _ => rfl)).squeeze S2x512x1024 squeezes_S1x2x512x1024_S2x512x1024).view.set := by
      rw [Memref.set_view_squeeze, Memref.set_view_squeeze]
      exact View.disjoint_slice_of_disj (Memref.whole main_v47_5).view (Rect.unit (s := S4x2x512x1024) ![1, 0, 0, 0] S1x2x512x1024.size inb_S4x2x512x1024_S1x2x512x1024_1_0_0_0) (Rect.unit (s := S4x2x512x1024) ![0, 0, 0, 0] S1x2x512x1024.size inb_S4x2x512x1024_S1x2x512x1024_0_0_0_0) (by decide +kernel)
    have a20 : Disjoint (((Memref.whole main_v47_5).slice (Rect.unit (s := S4x2x512x1024) ![2, 0, 0, 0] S1x2x512x1024.size inb_S4x2x512x1024_S1x2x512x1024_2_0_0_0) (fun _ => rfl)).squeeze S2x512x1024 squeezes_S1x2x512x1024_S2x512x1024).view.set (((Memref.whole main_v47_5).slice (Rect.unit (s := S4x2x512x1024) ![0, 0, 0, 0] S1x2x512x1024.size inb_S4x2x512x1024_S1x2x512x1024_0_0_0_0) (fun _ => rfl)).squeeze S2x512x1024 squeezes_S1x2x512x1024_S2x512x1024).view.set := by
      rw [Memref.set_view_squeeze, Memref.set_view_squeeze]
      exact View.disjoint_slice_of_disj (Memref.whole main_v47_5).view (Rect.unit (s := S4x2x512x1024) ![2, 0, 0, 0] S1x2x512x1024.size inb_S4x2x512x1024_S1x2x512x1024_2_0_0_0) (Rect.unit (s := S4x2x512x1024) ![0, 0, 0, 0] S1x2x512x1024.size inb_S4x2x512x1024_S1x2x512x1024_0_0_0_0) (by decide +kernel)
    have a21 : Disjoint (((Memref.whole main_v47_5).slice (Rect.unit (s := S4x2x512x1024) ![2, 0, 0, 0] S1x2x512x1024.size inb_S4x2x512x1024_S1x2x512x1024_2_0_0_0) (fun _ => rfl)).squeeze S2x512x1024 squeezes_S1x2x512x1024_S2x512x1024).view.set (((Memref.whole main_v47_5).slice (Rect.unit (s := S4x2x512x1024) ![1, 0, 0, 0] S1x2x512x1024.size inb_S4x2x512x1024_S1x2x512x1024_1_0_0_0) (fun _ => rfl)).squeeze S2x512x1024 squeezes_S1x2x512x1024_S2x512x1024).view.set := by
      rw [Memref.set_view_squeeze, Memref.set_view_squeeze]
      exact View.disjoint_slice_of_disj (Memref.whole main_v47_5).view (Rect.unit (s := S4x2x512x1024) ![2, 0, 0, 0] S1x2x512x1024.size inb_S4x2x512x1024_S1x2x512x1024_2_0_0_0) (Rect.unit (s := S4x2x512x1024) ![1, 0, 0, 0] S1x2x512x1024.size inb_S4x2x512x1024_S1x2x512x1024_1_0_0_0) (by decide +kernel)
    have a30 : Disjoint (((Memref.whole main_v47_5).slice (Rect.unit (s := S4x2x512x1024) ![3, 0, 0, 0] S1x2x512x1024.size inb_S4x2x512x1024_S1x2x512x1024_3_0_0_0) (fun _ => rfl)).squeeze S2x512x1024 squeezes_S1x2x512x1024_S2x512x1024).view.set (((Memref.whole main_v47_5).slice (Rect.unit (s := S4x2x512x1024) ![0, 0, 0, 0] S1x2x512x1024.size inb_S4x2x512x1024_S1x2x512x1024_0_0_0_0) (fun _ => rfl)).squeeze S2x512x1024 squeezes_S1x2x512x1024_S2x512x1024).view.set := by
      rw [Memref.set_view_squeeze, Memref.set_view_squeeze]
      exact View.disjoint_slice_of_disj (Memref.whole main_v47_5).view (Rect.unit (s := S4x2x512x1024) ![3, 0, 0, 0] S1x2x512x1024.size inb_S4x2x512x1024_S1x2x512x1024_3_0_0_0) (Rect.unit (s := S4x2x512x1024) ![0, 0, 0, 0] S1x2x512x1024.size inb_S4x2x512x1024_S1x2x512x1024_0_0_0_0) (by decide +kernel)
    have a31 : Disjoint (((Memref.whole main_v47_5).slice (Rect.unit (s := S4x2x512x1024) ![3, 0, 0, 0] S1x2x512x1024.size inb_S4x2x512x1024_S1x2x512x1024_3_0_0_0) (fun _ => rfl)).squeeze S2x512x1024 squeezes_S1x2x512x1024_S2x512x1024).view.set (((Memref.whole main_v47_5).slice (Rect.unit (s := S4x2x512x1024) ![1, 0, 0, 0] S1x2x512x1024.size inb_S4x2x512x1024_S1x2x512x1024_1_0_0_0) (fun _ => rfl)).squeeze S2x512x1024 squeezes_S1x2x512x1024_S2x512x1024).view.set := by
      rw [Memref.set_view_squeeze, Memref.set_view_squeeze]
      exact View.disjoint_slice_of_disj (Memref.whole main_v47_5).view (Rect.unit (s := S4x2x512x1024) ![3, 0, 0, 0] S1x2x512x1024.size inb_S4x2x512x1024_S1x2x512x1024_3_0_0_0) (Rect.unit (s := S4x2x512x1024) ![1, 0, 0, 0] S1x2x512x1024.size inb_S4x2x512x1024_S1x2x512x1024_1_0_0_0) (by decide +kernel)
    have a32 : Disjoint (((Memref.whole main_v47_5).slice (Rect.unit (s := S4x2x512x1024) ![3, 0, 0, 0] S1x2x512x1024.size inb_S4x2x512x1024_S1x2x512x1024_3_0_0_0) (fun _ => rfl)).squeeze S2x512x1024 squeezes_S1x2x512x1024_S2x512x1024).view.set (((Memref.whole main_v47_5).slice (Rect.unit (s := S4x2x512x1024) ![2, 0, 0, 0] S1x2x512x1024.size inb_S4x2x512x1024_S1x2x512x1024_2_0_0_0) (fun _ => rfl)).squeeze S2x512x1024 squeezes_S1x2x512x1024_S2x512x1024).view.set := by
      rw [Memref.set_view_squeeze, Memref.set_view_squeeze]
      exact View.disjoint_slice_of_disj (Memref.whole main_v47_5).view (Rect.unit (s := S4x2x512x1024) ![3, 0, 0, 0] S1x2x512x1024.size inb_S4x2x512x1024_S1x2x512x1024_3_0_0_0) (Rect.unit (s := S4x2x512x1024) ![2, 0, 0, 0] S1x2x512x1024.size inb_S4x2x512x1024_S1x2x512x1024_2_0_0_0) (by decide +kernel)
    have ao10 : Disjoint (((Memref.whole main_v47_6).slice (Rect.unit (s := S4x2x128x1024) ![1, 0, 0, 0] S1x2x128x1024.size inb_S4x2x128x1024_S1x2x128x1024_1_0_0_0) (fun _ => rfl)).squeeze S2x128x1024 squeezes_S1x2x128x1024_S2x128x1024).view.set (((Memref.whole main_v47_6).slice (Rect.unit (s := S4x2x128x1024) ![0, 0, 0, 0] S1x2x128x1024.size inb_S4x2x128x1024_S1x2x128x1024_0_0_0_0) (fun _ => rfl)).squeeze S2x128x1024 squeezes_S1x2x128x1024_S2x128x1024).view.set := by
      rw [Memref.set_view_squeeze, Memref.set_view_squeeze]
      exact View.disjoint_slice_of_disj (Memref.whole main_v47_6).view (Rect.unit (s := S4x2x128x1024) ![1, 0, 0, 0] S1x2x128x1024.size inb_S4x2x128x1024_S1x2x128x1024_1_0_0_0) (Rect.unit (s := S4x2x128x1024) ![0, 0, 0, 0] S1x2x128x1024.size inb_S4x2x128x1024_S1x2x128x1024_0_0_0_0) (by decide +kernel)
    have ao20 : Disjoint (((Memref.whole main_v47_6).slice (Rect.unit (s := S4x2x128x1024) ![2, 0, 0, 0] S1x2x128x1024.size inb_S4x2x128x1024_S1x2x128x1024_2_0_0_0) (fun _ => rfl)).squeeze S2x128x1024 squeezes_S1x2x128x1024_S2x128x1024).view.set (((Memref.whole main_v47_6).slice (Rect.unit (s := S4x2x128x1024) ![0, 0, 0, 0] S1x2x128x1024.size inb_S4x2x128x1024_S1x2x128x1024_0_0_0_0) (fun _ => rfl)).squeeze S2x128x1024 squeezes_S1x2x128x1024_S2x128x1024).view.set := by
      rw [Memref.set_view_squeeze, Memref.set_view_squeeze]
      exact View.disjoint_slice_of_disj (Memref.whole main_v47_6).view (Rect.unit (s := S4x2x128x1024) ![2, 0, 0, 0] S1x2x128x1024.size inb_S4x2x128x1024_S1x2x128x1024_2_0_0_0) (Rect.unit (s := S4x2x128x1024) ![0, 0, 0, 0] S1x2x128x1024.size inb_S4x2x128x1024_S1x2x128x1024_0_0_0_0) (by decide +kernel)
    have ao21 : Disjoint (((Memref.whole main_v47_6).slice (Rect.unit (s := S4x2x128x1024) ![2, 0, 0, 0] S1x2x128x1024.size inb_S4x2x128x1024_S1x2x128x1024_2_0_0_0) (fun _ => rfl)).squeeze S2x128x1024 squeezes_S1x2x128x1024_S2x128x1024).view.set (((Memref.whole main_v47_6).slice (Rect.unit (s := S4x2x128x1024) ![1, 0, 0, 0] S1x2x128x1024.size inb_S4x2x128x1024_S1x2x128x1024_1_0_0_0) (fun _ => rfl)).squeeze S2x128x1024 squeezes_S1x2x128x1024_S2x128x1024).view.set := by
      rw [Memref.set_view_squeeze, Memref.set_view_squeeze]
      exact View.disjoint_slice_of_disj (Memref.whole main_v47_6).view (Rect.unit (s := S4x2x128x1024) ![2, 0, 0, 0] S1x2x128x1024.size inb_S4x2x128x1024_S1x2x128x1024_2_0_0_0) (Rect.unit (s := S4x2x128x1024) ![1, 0, 0, 0] S1x2x128x1024.size inb_S4x2x128x1024_S1x2x128x1024_1_0_0_0) (by decide +kernel)
    have ao30 : Disjoint (((Memref.whole main_v47_6).slice (Rect.unit (s := S4x2x128x1024) ![3, 0, 0, 0] S1x2x128x1024.size inb_S4x2x128x1024_S1x2x128x1024_3_0_0_0) (fun _ => rfl)).squeeze S2x128x1024 squeezes_S1x2x128x1024_S2x128x1024).view.set (((Memref.whole main_v47_6).slice (Rect.unit (s := S4x2x128x1024) ![0, 0, 0, 0] S1x2x128x1024.size inb_S4x2x128x1024_S1x2x128x1024_0_0_0_0) (fun _ => rfl)).squeeze S2x128x1024 squeezes_S1x2x128x1024_S2x128x1024).view.set := by
      rw [Memref.set_view_squeeze, Memref.set_view_squeeze]
      exact View.disjoint_slice_of_disj (Memref.whole main_v47_6).view (Rect.unit (s := S4x2x128x1024) ![3, 0, 0, 0] S1x2x128x1024.size inb_S4x2x128x1024_S1x2x128x1024_3_0_0_0) (Rect.unit (s := S4x2x128x1024) ![0, 0, 0, 0] S1x2x128x1024.size inb_S4x2x128x1024_S1x2x128x1024_0_0_0_0) (by decide +kernel)
    have ao31 : Disjoint (((Memref.whole main_v47_6).slice (Rect.unit (s := S4x2x128x1024) ![3, 0, 0, 0] S1x2x128x1024.size inb_S4x2x128x1024_S1x2x128x1024_3_0_0_0) (fun _ => rfl)).squeeze S2x128x1024 squeezes_S1x2x128x1024_S2x128x1024).view.set (((Memref.whole main_v47_6).slice (Rect.unit (s := S4x2x128x1024) ![1, 0, 0, 0] S1x2x128x1024.size inb_S4x2x128x1024_S1x2x128x1024_1_0_0_0) (fun _ => rfl)).squeeze S2x128x1024 squeezes_S1x2x128x1024_S2x128x1024).view.set := by
      rw [Memref.set_view_squeeze, Memref.set_view_squeeze]
      exact View.disjoint_slice_of_disj (Memref.whole main_v47_6).view (Rect.unit (s := S4x2x128x1024) ![3, 0, 0, 0] S1x2x128x1024.size inb_S4x2x128x1024_S1x2x128x1024_3_0_0_0) (Rect.unit (s := S4x2x128x1024) ![1, 0, 0, 0] S1x2x128x1024.size inb_S4x2x128x1024_S1x2x128x1024_1_0_0_0) (by decide +kernel)
    have ao32 : Disjoint (((Memref.whole main_v47_6).slice (Rect.unit (s := S4x2x128x1024) ![3, 0, 0, 0] S1x2x128x1024.size inb_S4x2x128x1024_S1x2x128x1024_3_0_0_0) (fun _ => rfl)).squeeze S2x128x1024 squeezes_S1x2x128x1024_S2x128x1024).view.set (((Memref.whole main_v47_6).slice (Rect.unit (s := S4x2x128x1024) ![2, 0, 0, 0] S1x2x128x1024.size inb_S4x2x128x1024_S1x2x128x1024_2_0_0_0) (fun _ => rfl)).squeeze S2x128x1024 squeezes_S1x2x128x1024_S2x128x1024).view.set := by
      rw [Memref.set_view_squeeze, Memref.set_view_squeeze]
      exact View.disjoint_slice_of_disj (Memref.whole main_v47_6).view (Rect.unit (s := S4x2x128x1024) ![3, 0, 0, 0] S1x2x128x1024.size inb_S4x2x128x1024_S1x2x128x1024_3_0_0_0) (Rect.unit (s := S4x2x128x1024) ![2, 0, 0, 0] S1x2x128x1024.size inb_S4x2x128x1024_S1x2x128x1024_2_0_0_0) (by decide +kernel)
    sl_exec (disch := first | sl_exact hs | sl_exact he)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H13]; · iexists _; iexact H13
    isplitl [H14]; · iexists _; iexact H14
    isplitl [H15]; · iexists _; iexact H15
    isplitl [H16]; · iexists _; iexact H16
    isplitl [H17]; · iexists _; iexact H17
    isplitl [H20]; · iexists _; iexact H20
    isplitl [H21]; · iexists _; iexact H21
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh12]; · iexact Hh12
    isplitl [Hh18]; · iexact Hh18
    isplitl [Hh19]; · iexact Hh19
    iexists _; iexact HW

end Cert.BwdMidIdeal.Hand

end
-- ==== Proof.BwdMidBody.lean ====
module

public import proofs.«01_k».proof.Proof.BwdMidRun

/-! The `bwd_fc1_out` call as a whole: what its buffers hold after each grid point, point by point, and that every execution
    of the program ends with its arguments as they were, its counters at zero and its results at these contents. -/

@[expose] public section

set_option maxRecDepth 16384

noncomputable section

namespace Cert.BwdMidIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BwdMidIdeal.Gen

variable {F : FTy → Type} [FloatOps F]
variable (m : (ℓ : Loc nD τ sig) → Buf (Elt F) ℓ) (ρ : Dev nD → PrngReg)

/-! ## Up to the call -/

/-- The buffers as the call finds them, after the host lines before it. -/
abbrev V (c : Dev nD) (b : Ref sig .tc) : Buf (Elt F) ((c : Thread nD τ).loc b) :=
  StableHlo.after hostOps0 (fun b => m (c, b)) b

theorem fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ)
    cfgs 0 defs₀ 𝒱₀ m (main (F := F)) (V m) :=
  Pipeline.hmain_prefix cfgs 0 defs₀ 𝒱₀ m main hostOps0 hostOps0_sub fresh main_chain

/-- A buffer no host line writes is found as launched. -/
theorem V_kept (c : Dev nD) (b : Ref sig .tc) (h0 : b ≠ main_v0) (h1 : b ≠ main_v1) (h2 : b ≠ main_v2) (h3 : b ≠ main_v3) (h4 : b ≠ main_v4) (h5 : b ≠ main_v5) (h6 : b ≠ main_v6) (h7 : b ≠ main_v7) (h8 : b ≠ main_v8) (h9 : b ≠ main_v9) (h10 : b ≠ main_v10) (h11 : b ≠ main_v11) (h12 : b ≠ main_v12) (h13 : b ≠ main_v13) (h14 : b ≠ main_v14) (h15 : b ≠ main_v15) (h16 : b ≠ main_v16) (h17 : b ≠ main_v17) (h18 : b ≠ main_v18) (h19 : b ≠ main_v19) (h20 : b ≠ main_v20) (h21 : b ≠ main_v21) (h22 : b ≠ main_v22) (h23 : b ≠ main_v23) (h24 : b ≠ main_v24) (h25 : b ≠ main_v25) (h26 : b ≠ main_v26) (h27 : b ≠ main_v27) (h28 : b ≠ main_v28) (h29 : b ≠ main_v29) (h30 : b ≠ main_v30) (h31 : b ≠ main_v31) (h32 : b ≠ main_v32) (h33 : b ≠ main_v33) (h34 : b ≠ main_v34) (h35 : b ≠ main_v35) (h36 : b ≠ main_v36) (h37 : b ≠ main_v37) (h38 : b ≠ main_v38) (h39 : b ≠ main_v39) (h40 : b ≠ main_v40) (h41 : b ≠ main_v41) (h42 : b ≠ main_v42) (h43 : b ≠ main_v43) (h44 : b ≠ main_v44) (h45 : b ≠ main_v45) (h46 : b ≠ main_v46) (h47 : b ≠ main_cst) (h48 : b ≠ main_cst_0) (h49 : b ≠ main_cst_1) (h50 : b ≠ main_cst_2) (h51 : b ≠ main_cst_3) (h52 : b ≠ main_cst_4) (h53 : b ≠ main_cst_5) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.reshape_writes, Finset.mem_singleton]
    repeat' apply And.intro
    all_goals first | exact StableHlo.devRef_ne_of_ne h0 | exact StableHlo.devRef_ne_of_ne h1 | exact StableHlo.devRef_ne_of_ne h2 | exact StableHlo.devRef_ne_of_ne h3 | exact StableHlo.devRef_ne_of_ne h4 | exact StableHlo.devRef_ne_of_ne h5 | exact StableHlo.devRef_ne_of_ne h6 | exact StableHlo.devRef_ne_of_ne h7 | exact StableHlo.devRef_ne_of_ne h8 | exact StableHlo.devRef_ne_of_ne h9 | exact StableHlo.devRef_ne_of_ne h10 | exact StableHlo.devRef_ne_of_ne h11 | exact StableHlo.devRef_ne_of_ne h12 | exact StableHlo.devRef_ne_of_ne h13 | exact StableHlo.devRef_ne_of_ne h14 | exact StableHlo.devRef_ne_of_ne h15 | exact StableHlo.devRef_ne_of_ne h16 | exact StableHlo.devRef_ne_of_ne h17 | exact StableHlo.devRef_ne_of_ne h18 | exact StableHlo.devRef_ne_of_ne h19 | exact StableHlo.devRef_ne_of_ne h20 | exact StableHlo.devRef_ne_of_ne h21 | exact StableHlo.devRef_ne_of_ne h22 | exact StableHlo.devRef_ne_of_ne h23 | exact StableHlo.devRef_ne_of_ne h24 | exact StableHlo.devRef_ne_of_ne h25 | exact StableHlo.devRef_ne_of_ne h26 | exact StableHlo.devRef_ne_of_ne h27 | exact StableHlo.devRef_ne_of_ne h28 | exact StableHlo.devRef_ne_of_ne h29 | exact StableHlo.devRef_ne_of_ne h30 | exact StableHlo.devRef_ne_of_ne h31 | exact StableHlo.devRef_ne_of_ne h32 | exact StableHlo.devRef_ne_of_ne h33 | exact StableHlo.devRef_ne_of_ne h34 | exact StableHlo.devRef_ne_of_ne h35 | exact StableHlo.devRef_ne_of_ne h36 | exact StableHlo.devRef_ne_of_ne h37 | exact StableHlo.devRef_ne_of_ne h38 | exact StableHlo.devRef_ne_of_ne h39 | exact StableHlo.devRef_ne_of_ne h40 | exact StableHlo.devRef_ne_of_ne h41 | exact StableHlo.devRef_ne_of_ne h42 | exact StableHlo.devRef_ne_of_ne h43 | exact StableHlo.devRef_ne_of_ne h44 | exact StableHlo.devRef_ne_of_ne h45 | exact StableHlo.devRef_ne_of_ne h46 | exact StableHlo.devRef_ne_of_ne h47 | exact StableHlo.devRef_ne_of_ne h48 | exact StableHlo.devRef_ne_of_ne h49 | exact StableHlo.devRef_ne_of_ne h50 | exact StableHlo.devRef_ne_of_ne h51 | exact StableHlo.devRef_ne_of_ne h52 | exact StableHlo.devRef_ne_of_ne h53))

/-- A window's block at a point, read off its array. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's buffer holds its block at every point. -/
theorem before_blk {c : Dev nD} (dat : Dat τ (Elt F) Unit ℕ (Pipeline.UD sig nD τ) ℕ cfg0 c) (w : Fin cfg0.W)
    (hw : (cfg0.win w).isOut = false) (hl : ∀ i, cfg0.idle w i = false)
    (hc : ∀ t t' : Fin cfg0.N, (cfg0.win w).index t = (cfg0.win w).index t' →
      (cfg0.win w).clip (cfg0.grid.coords t) = (cfg0.win w).clip (cfg0.grid.coords t'))
    (hA : dat.A w = V m c (Pipeline.arrRef spec0 w))
    (hk : ∀ t, (cfg0.win w).cut (cfg0.grid.coords t) (dat.after w t) = blk m c w t) (t : Fin cfg0.N) (d) :
    dat.before w t d = dat.fetched w t d :=
  dat.before_in_eq_fetched w hw hl hc (fun t => by rw [hk]; unfold Dat.blockOf blk; rw [hA]) t d

/-! ## The points -/

theorem first_iff : ∀ t : Fin cfg0.N, First (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    have h : First (grid0.coords t) ↔ t.val % 16 = 0 := by
      simp only [First, e0]
      word_cmp
    rw [h]; omega
   : ∀ t : Fin grid0.N, First (grid0.coords t) ↔ t.val = 0)

theorem final_iff : ∀ t : Fin cfg0.N, Final (grid0.coords t) ↔ t.val = 15 :=
  (fun t => by
    have ht : t.val < 16 := Nat.lt_of_lt_of_eq t.isLt N_0
    have e0 : (grid0.coords t 0).val = t.val / 1 % 16 := Pipeline.Grid.coords_val t 0 (by decide) rfl
    have h : Final (grid0.coords t) ↔ t.val % 16 = 15 := by
      simp only [Final, e0]
      word_cmp
    rw [h]; omega
   : ∀ t : Fin grid0.N, Final (grid0.coords t) ↔ t.val = 15)

abbrev buf1 (t : Fin cfg0.N) : Memref sig .tc .vmem S256x4096 .bf16 := win0_0.stage (cfg0.slots t 0)
abbrev whole1 (t : Fin cfg0.N) : (buf1 t).IsWhole := hstage0_0 ((cfg0.slots t 0).cast nbuf0_0)
abbrev buf2 (t : Fin cfg0.N) : Memref sig .tc .vmem S256x1024 .f32 := win0_1.stage (cfg0.slots t 1)
abbrev whole2 (t : Fin cfg0.N) : (buf2 t).IsWhole := hstage0_1 ((cfg0.slots t 1).cast nbuf0_1)
abbrev buf3 (t : Fin cfg0.N) : Memref sig .tc .vmem S256x1024 .f32 := win0_2.stage (cfg0.slots t 2)
abbrev whole3 (t : Fin cfg0.N) : (buf3 t).IsWhole := hstage0_2 ((cfg0.slots t 2).cast nbuf0_2)
abbrev buf4 (t : Fin cfg0.N) : Memref sig .tc .vmem S256x1024 .f32 := win0_3.stage (cfg0.slots t 3)
abbrev whole4 (t : Fin cfg0.N) : (buf4 t).IsWhole := hstage0_3 ((cfg0.slots t 3).cast nbuf0_3)
abbrev buf5 (t : Fin cfg0.N) : Memref sig .tc .vmem S256x1024 .bf16 := win0_4.stage (cfg0.slots t 4)
abbrev whole5 (t : Fin cfg0.N) : (buf5 t).IsWhole := hstage0_4 ((cfg0.slots t 4).cast nbuf0_4)
abbrev buf6 (t : Fin cfg0.N) : Memref sig .tc .vmem S256x1024 .bf16 := win0_5.stage (cfg0.slots t 5)
abbrev whole6 (t : Fin cfg0.N) : (buf6 t).IsWhole := hstage0_5 ((cfg0.slots t 5).cast nbuf0_5)
abbrev buf7 (t : Fin cfg0.N) : Memref sig .tc .vmem S6x1024 .f32 := win0_6.stage (cfg0.slots t 6)
abbrev whole7 (t : Fin cfg0.N) : (buf7 t).IsWhole := hstage0_6 ((cfg0.slots t 6).cast nbuf0_6)
abbrev buf8 (t : Fin cfg0.N) : Memref sig .tc .vmem S1x1024 .f32 := win0_7.stage (cfg0.slots t 7)
abbrev whole8 (t : Fin cfg0.N) : (buf8 t).IsWhole := hstage0_7 ((cfg0.slots t 7).cast nbuf0_7)
abbrev buf9 (t : Fin cfg0.N) : Memref sig .tc .vmem S1x1024 .f32 := win0_8.stage (cfg0.slots t 8)
abbrev whole9 (t : Fin cfg0.N) : (buf9 t).IsWhole := hstage0_8 ((cfg0.slots t 8).cast nbuf0_8)
abbrev buf10 (t : Fin cfg0.N) : Memref sig .tc .vmem S4x1024x1024 .bf16 := win0_9.stage (cfg0.slots t 9)
abbrev whole10 (t : Fin cfg0.N) : (buf10 t).IsWhole := hstage0_9 ((cfg0.slots t 9).cast nbuf0_9)
abbrev buf11 (t : Fin cfg0.N) : Memref sig .tc .vmem S4x256x1024 .bf16 := win0_10.stage (cfg0.slots t 10)
abbrev whole11 (t : Fin cfg0.N) : (buf11 t).IsWhole := hstage0_10 ((cfg0.slots t 10).cast nbuf0_10)
abbrev buf13 (t : Fin cfg0.N) : Memref sig .tc .vmem S256x1024 .f32 := win0_11.stage (cfg0.slots t 11)
abbrev whole13 (t : Fin cfg0.N) : (buf13 t).IsWhole := hstage0_11 ((cfg0.slots t 11).cast nbuf0_11)
abbrev buf14 (t : Fin cfg0.N) : Memref sig .tc .vmem S256x1024 .f32 := win0_12.stage (cfg0.slots t 12)
abbrev whole14 (t : Fin cfg0.N) : (buf14 t).IsWhole := hstage0_12 ((cfg0.slots t 12).cast nbuf0_12)
abbrev buf15 (t : Fin cfg0.N) : Memref sig .tc .vmem S1x1024 .f32 := win0_13.stage (cfg0.slots t 13)
abbrev whole15 (t : Fin cfg0.N) : (buf15 t).IsWhole := hstage0_13 ((cfg0.slots t 13).cast nbuf0_13)
abbrev buf16 (t : Fin cfg0.N) : Memref sig .tc .vmem S1x1024 .f32 := win0_14.stage (cfg0.slots t 14)
abbrev whole16 (t : Fin cfg0.N) : (buf16 t).IsWhole := hstage0_14 ((cfg0.slots t 14).cast nbuf0_14)
abbrev buf17 (t : Fin cfg0.N) : Memref sig .tc .vmem S1x1024 .f32 := win0_15.stage (cfg0.slots t 15)
abbrev whole17 (t : Fin cfg0.N) : (buf17 t).IsWhole := hstage0_15 ((cfg0.slots t 15).cast nbuf0_15)
abbrev scr20 : Memref sig .tc .vmem S4x2x512x1024 .f32 := Memref.whole cc0_scratch0
abbrev view20 : View sig .tc .vmem S4x2x512x1024 .f32 := scr20.view
abbrev scr21 : Memref sig .tc .vmem S4x2x128x1024 .f32 := Memref.whole cc0_scratch1
abbrev view21 : View sig .tc .vmem S4x2x128x1024 .f32 := scr21.view
abbrev view13 : View sig .tc .vmem S256x1024 .f32 := (Memref.whole cc0_stg11_0 : Memref sig .tc .vmem S256x1024 .f32).view
abbrev view14 : View sig .tc .vmem S256x1024 .f32 := (Memref.whole cc0_stg12_0 : Memref sig .tc .vmem S256x1024 .f32).view
abbrev view15 : View sig .tc .vmem S1x1024 .f32 := (Memref.whole cc0_stg13_0 : Memref sig .tc .vmem S1x1024 .f32).view
abbrev view16 : View sig .tc .vmem S1x1024 .f32 := (Memref.whole cc0_stg14_0 : Memref sig .tc .vmem S1x1024 .f32).view
abbrev view17 : View sig .tc .vmem S1x1024 .f32 := (Memref.whole cc0_stg15_0 : Memref sig .tc .vmem S1x1024 .f32).view

/-- What the outputs, the carried scratch and the results written by copies hold after a point. -/
structure State (F : FTy → Type) [FloatOps F] (c : Dev nD) where
  v13 : Vec F S256x1024 .f32
  v14 : Vec F S256x1024 .f32
  v15 : Vec F S1x1024 .f32
  v16 : Vec F S1x1024 .f32
  v17 : Vec F S1x1024 .f32
  v20 : Vec F S4x2x512x1024 .f32
  v21 : Vec F S4x2x128x1024 .f32
  g18 : Inside (F := F) c Dst18
  g19 : Inside (F := F) c Dst19

/-- The stores of a point read back. -/
def after {c : Dev nD} (w : Stores F c)  : State F c where
  v13 := view13.read (Elt F) (view13.writes (Elt F) view13.junk w.p13)
  v14 := view14.read (Elt F) (view14.writes (Elt F) view14.junk w.p14)
  v15 := view15.read (Elt F) (view15.writes (Elt F) view15.junk w.p15)
  v16 := view16.read (Elt F) (view16.writes (Elt F) view16.junk w.p16)
  v17 := view17.read (Elt F) (view17.writes (Elt F) view17.junk w.p17)
  v20 := view20.read (Elt F) (view20.writes (Elt F) view20.junk w.p20)
  v21 := view21.read (Elt F) (view21.writes (Elt F) view21.junk w.p21)
  g18 := w.g18
  g19 := w.g19

/-- The stores reach every element of what they are made to. -/
def Covered {c : Dev nD} (w : Stores F c) : Prop :=
  (∀ y : (S256x1024 : Shape).Idx, ∃ pc ∈ w.p13, y ∈ pc.1.set) ∧ (∀ y : (S256x1024 : Shape).Idx, ∃ pc ∈ w.p14, y ∈ pc.1.set) ∧ (∀ y : (S1x1024 : Shape).Idx, ∃ pc ∈ w.p15, y ∈ pc.1.set) ∧ (∀ y : (S1x1024 : Shape).Idx, ∃ pc ∈ w.p16, y ∈ pc.1.set) ∧ (∀ y : (S1x1024 : Shape).Idx, ∃ pc ∈ w.p17, y ∈ pc.1.set) ∧ (∀ y : (S4x2x512x1024 : Shape).Idx, ∃ pc ∈ w.p20, y ∈ pc.1.set) ∧ (∀ y : (S4x2x128x1024 : Shape).Idx, ∃ pc ∈ w.p21, y ∈ pc.1.set)

section
variable (c : Dev nD) (i : grid0.Coords)
  (arg1 : Memref sig .tc .vmem S256x4096 .bf16) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .bf16) (harg5 : arg5.IsWhole)
  (arg6 : Memref sig .tc .vmem S256x1024 .bf16) (harg6 : arg6.IsWhole)
  (arg7 : Memref sig .tc .vmem S6x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S4x1024x1024 .bf16) (harg10 : arg10.IsWhole)
  (arg11 : Memref sig .tc .vmem S4x256x1024 .bf16) (harg11 : arg11.IsWhole)
  (arg13 : Memref sig .tc .vmem S256x1024 .f32) (harg13 : arg13.IsWhole)
  (arg14 : Memref sig .tc .vmem S256x1024 .f32) (harg14 : arg14.IsWhole)
  (arg15 : Memref sig .tc .vmem S1x1024 .f32) (harg15 : arg15.IsWhole)
  (arg16 : Memref sig .tc .vmem S1x1024 .f32) (harg16 : arg16.IsWhole)
  (arg17 : Memref sig .tc .vmem S1x1024 .f32) (harg17 : arg17.IsWhole)
  (arg20 : Memref sig .tc .vmem S4x2x512x1024 .f32) (harg20 : arg20.IsWhole)
  (arg21 : Memref sig .tc .vmem S4x2x128x1024 .f32) (harg21 : arg21.IsWhole)
  (x1 : Vec F S256x4096 .bf16) (x2 : Vec F S256x1024 .f32) (x3 : Vec F S256x1024 .f32) (x4 : Vec F S256x1024 .f32) (x5 : Vec F S256x1024 .bf16) (x6 : Vec F S256x1024 .bf16) (x7 : Vec F S6x1024 .f32) (x8 : Vec F S1x1024 .f32) (x9 : Vec F S1x1024 .f32) (x10 : Vec F S4x1024x1024 .bf16) (x11 : Vec F S4x256x1024 .bf16)
  (y15 : Vec F S1x1024 .f32) (y16 : Vec F S1x1024 .f32) (y17 : Vec F S1x1024 .f32) (y20 : Vec F S4x2x512x1024 .f32) (y21 : Vec F S4x2x128x1024 .f32)
  (f12 : Inside (F := F) c Src12) (f18 : Inside (F := F) c Dst18) (f19 : Inside (F := F) c Dst19)

theorem coveredA (hs : First i) (he : ¬ Final i) : Covered (runA c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he x1 x2 x3 x4 x5 x6 x7 x8 x9 x10 x11 f12 f18 f19).1 :=
  ⟨View.cover_of_tiledL _ S256x1024.size (by sl_kernel_rfl), View.cover_of_tiledL _ S256x256.size (by sl_kernel_rfl), View.cover_of_tiledL _ S1x1024.size (by sl_kernel_rfl), View.cover_of_tiledL _ S1x1024.size (by sl_kernel_rfl), View.cover_of_tiledL _ S1x1024.size (by sl_kernel_rfl), View.cover_of_wholeMem _ (by sl_whole_mem), View.cover_of_wholeMem _ (by sl_whole_mem)⟩
theorem coveredB (hs : ¬ First i) (he : ¬ Final i) : Covered (runB c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he x1 x2 x3 x4 x5 x6 x7 x8 x9 x10 x11 y15 y16 y17 y20 y21 f12 f18 f19).1 :=
  ⟨View.cover_of_tiledL _ S256x1024.size (by sl_kernel_rfl), View.cover_of_tiledL _ S256x256.size (by sl_kernel_rfl), View.cover_of_tiledL _ S1x1024.size (by sl_kernel_rfl), View.cover_of_tiledL _ S1x1024.size (by sl_kernel_rfl), View.cover_of_tiledL _ S1x1024.size (by sl_kernel_rfl), View.cover_of_tiledL _ S1x2x512x1024.size (by sl_kernel_rfl), View.cover_of_tiledL _ S4x2x128x1024.size (by sl_kernel_rfl)⟩
theorem coveredC (hs : ¬ First i) (he : Final i) : Covered (runC c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he x1 x2 x3 x4 x5 x6 x7 x8 x9 x10 x11 y15 y16 y17 y20 y21 f12 f18 f19).1 :=
  ⟨View.cover_of_tiledL _ S256x1024.size (by sl_kernel_rfl), View.cover_of_tiledL _ S256x256.size (by sl_kernel_rfl), View.cover_of_tiledL _ S1x1024.size (by sl_kernel_rfl), View.cover_of_tiledL _ S1x1024.size (by sl_kernel_rfl), View.cover_of_tiledL _ S1x1024.size (by sl_kernel_rfl), View.cover_of_tiledL _ S1x2x512x1024.size (by sl_kernel_rfl), View.cover_of_tiledL _ S4x2x128x1024.size (by sl_kernel_rfl)⟩
end

/-- The stores of the first point. -/
def storesA (c : Dev nD) (t : Fin cfg0.N) (h : t.val = 0) : Stores F c :=
  (runA c (grid0.coords t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf13 t) (whole13 t) (buf14 t) (whole14 t) (buf15 t) (whole15 t) (buf16 t) (whole16 t) (buf17 t) (whole17 t) scr20 (Memref.isWhole_whole _) scr21 (Memref.isWhole_whole _) ((first_iff t).mpr h) (fun e => by have := (final_iff t).mp e; omega) (blk m c 0 t) (blk m c 1 t) (blk m c 2 t) (blk m c 3 t) (blk m c 4 t) (blk m c 5 t) (blk m c 6 t) (blk m c 7 t) (blk m c 8 t) (blk m c 9 t) (blk m c 10 t) (V m c main_arg9) (V m c main_v47_5) (V m c main_v47_6)).1
/-- The stores of a middle point, over what the point before left. -/
def storesB (c : Dev nD) (t : Fin cfg0.N) (s : State F c) (h : t.val ≠ 0) (h' : t.val ≠ 15) : Stores F c :=
  (runB c (grid0.coords t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf13 t) (whole13 t) (buf14 t) (whole14 t) (buf15 t) (whole15 t) (buf16 t) (whole16 t) (buf17 t) (whole17 t) scr20 (Memref.isWhole_whole _) scr21 (Memref.isWhole_whole _) (fun e => h ((first_iff t).mp e)) (fun e => h' ((final_iff t).mp e)) (blk m c 0 t) (blk m c 1 t) (blk m c 2 t) (blk m c 3 t) (blk m c 4 t) (blk m c 5 t) (blk m c 6 t) (blk m c 7 t) (blk m c 8 t) (blk m c 9 t) (blk m c 10 t) s.v15 s.v16 s.v17 s.v20 s.v21 (V m c main_arg9) s.g18 s.g19).1
/-- The stores of the last point, over what the point before left. -/
def storesC (c : Dev nD) (t : Fin cfg0.N) (s : State F c) (h' : t.val = 15) : Stores F c :=
  (runC c (grid0.coords t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf13 t) (whole13 t) (buf14 t) (whole14 t) (buf15 t) (whole15 t) (buf16 t) (whole16 t) (buf17 t) (whole17 t) scr20 (Memref.isWhole_whole _) scr21 (Memref.isWhole_whole _) (fun e => by have := (first_iff t).mp e; omega) ((final_iff t).mpr h') (blk m c 0 t) (blk m c 1 t) (blk m c 2 t) (blk m c 3 t) (blk m c 4 t) (blk m c 5 t) (blk m c 6 t) (blk m c 7 t) (blk m c 8 t) (blk m c 9 t) (blk m c 10 t) s.v15 s.v16 s.v17 s.v20 s.v21 (V m c main_arg9) s.g18 s.g19).1

/-- What the buffers hold after each point. -/
def state (c : Dev nD) : (n : ℕ) → n < cfg0.N → State F c
  | 0, h => after (storesA m c ⟨0, h⟩ rfl)
  | n + 1, h =>
    if e : n + 1 = 15 then after (storesC m c ⟨n + 1, h⟩ (state c n (by omega)) e)
    else after (storesB m c ⟨n + 1, h⟩ (state c n (by omega)) (Nat.succ_ne_zero n) e)

/-- The state the point before left. -/
abbrev past (c : Dev nD) (t : Fin cfg0.N) : State F c := state m c (t.val - 1) (Nat.lt_of_le_of_lt (Nat.sub_le _ _) t.isLt)

theorem state_A (c : Dev nD) (t : Fin cfg0.N) (h : t.val = 0) :
    state m c t.val t.isLt = after (storesA m c t h)  := by
  obtain ⟨n, hn⟩ := t
  dsimp only at h
  subst h
  rfl

theorem state_B (c : Dev nD) (t : Fin cfg0.N) (h : t.val ≠ 0) (h' : t.val ≠ 15) :
    state m c t.val t.isLt = after (storesB m c t (past m c t) h h')  := by
  obtain ⟨n, hn⟩ := t
  cases n with
  | zero => exact absurd rfl h
  | succ n => exact dif_neg h'

theorem state_C (c : Dev nD) (t : Fin cfg0.N) (h' : t.val = 15) :
    state m c t.val t.isLt = after (storesC m c t (past m c t) h')  := by
  obtain ⟨n, hn⟩ := t
  cases n with
  | zero => exact absurd h' (show ¬ (0 : ℕ) = 15 by decide)
  | succ n => exact dif_pos h'

/-! ## The call's own cells and the arrays it copies -/

abbrev cells : Fin 8 → SemLoc sig := fun j => (![SemLoc.dma 24, SemLoc.dma 25, SemLoc.dma 26, SemLoc.dma 27, SemLoc.dma 28, SemLoc.dma 29, SemLoc.dma 30, SemLoc.dma 31] : Fin 8 → SemLoc sig) j
theorem cells_own : Pipeline.OwnSemFacts spec0 cells := by decide
/-- The cells at zero. -/
abbrev atZero (c : Dev nD) : sProp (Res F) := iprop(semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0)
theorem cells_eq (c : Dev nD) :
    (Pipeline.ownSems0 (Ix := Unit) (Name := ℕ) (U := Pipeline.UD sig nD τ) (Lvl := ℕ) (Val := Elt F) (τ := τ) cells c : sProp (Res F)) = atZero c := by
  rw [Pipeline.ownSems0_eq_of_list c cells [0, 1, 2, 3, 4, 5, 6, 7] (by decide) (by decide)]; rfl
/-- The arrays only read, and the ones the copies write. -/
def readOnly : Finset (Ref sig .tc) := {main_arg9}
def copied : Finset (Ref sig .tc) := {main_v47_5, main_v47_6}
theorem readOnly_sub : readOnly ⊆ Pipeline.restRefs sig spec0 := by decide
theorem copied_sub : copied ⊆ Pipeline.restRefs sig spec0 \ readOnly := by decide

theorem readOnly_eq (c : Dev nD) :
    (bigSep readOnly (fun b => ((c : Thread nD τ).loc b) ↦{fullShare} V m c b) : sProp (Res F)) = iprop(holds c Src12 (V m c main_arg9)) := by
  rw [BI.bigSep_eq_bigSepL_of_eq [main_arg9] (by decide) (by decide)]; rfl
theorem copied_eq (c : Dev nD) (G : (b : Ref sig .tc) → Buf (Elt F) ((c : Thread nD τ).loc b)) :
    (Pipeline.routed copied c G : sProp (Res F)) = iprop(holds c Dst18 (G main_v47_5) ∗ holds c Dst19 (G main_v47_6)) := by
  unfold Pipeline.routed; rw [BI.bigSep_eq_bigSepL_of_eq [main_v47_5, main_v47_6] (by decide) (by decide)]; rfl

/-- The invariant between points: the scratch, the random state, the cells at zero, the arrays read and the ones written. -/
abbrev between (c : Dev nD) (S20 S21 : sProp (Res F)) (g18 : Inside (F := F) c Dst18) (g19 : Inside (F := F) c Dst19) : sProp (Res F) :=
  iprop(iprop(S20 ∗ S21) ∗ (∃ r, prngReg c r) ∗ atZero c ∗ iprop(holds c Src12 (V m c main_arg9)) ∗ iprop(holds c Dst18 g18 ∗ holds c Dst19 g19))

theorem launch_eq (c : Dev nD) (G : (c : Dev nD) → (b : Ref sig .tc) → Buf (Elt F) ((c : Thread nD τ).loc b)) :
    (Pipeline.ΦDRG cells spec0 readOnly copied (V m) G c : sProp (Res F))
      = between m c iprop(∃ d, owns (c : Thread nD τ) scr20 fullShare d) iprop(∃ d, owns (c : Thread nD τ) scr21 fullShare d) (G c main_v47_5) (G c main_v47_6) := by
  rw [Pipeline.ΦDRG_eq, scopedRest0_eq, cells_eq, readOnly_eq, copied_eq]
  simp only [scr20, scr21, owns_whole]; try rfl

def inv (c : Dev nD) : (n : ℕ) → n ≤ cfg0.N → sProp (Res F)
  | 0, _ => Pipeline.ΦDRG cells spec0 readOnly copied (V m) (V m) c
  | n + 1, h => between m c (owns (c : Thread nD τ) scr20 fullShare (state m c n h).v20) (owns (c : Thread nD τ) scr21 fullShare (state m c n h).v21) (state m c n h).g18 (state m c n h).g19

theorem inv_zero (c : Dev nD) (n : ℕ) (h : n ≤ cfg0.N) (e : n = 0) :
    inv m c n h = between m c iprop(∃ d, owns (c : Thread nD τ) scr20 fullShare d) iprop(∃ d, owns (c : Thread nD τ) scr21 fullShare d) (V m c main_v47_5) (V m c main_v47_6) := by
  subst e; exact launch_eq m c (V m)

theorem inv_succ (c : Dev nD) (n : ℕ) (h : n + 1 ≤ cfg0.N) :
    inv m c (n + 1) h = between m c (owns (c : Thread nD τ) scr20 fullShare (state m c n h).v20) (owns (c : Thread nD τ) scr21 fullShare (state m c n h).v21) (state m c n h).g18 (state m c n h).g19 := rfl

theorem inv_pos (c : Dev nD) (n : ℕ) (h : n ≤ cfg0.N) (e : n ≠ 0) :
    inv m c n h = between m c (owns (c : Thread nD τ) scr20 fullShare (state m c (n - 1) (by omega)).v20) (owns (c : Thread nD τ) scr21 fullShare (state m c (n - 1) (by omega)).v21) (state m c (n - 1) (by omega)).g18 (state m c (n - 1) (by omega)).g19 := by
  cases n with
  | zero => exact absurd rfl e
  | succ n => rfl

/-- What the pipeline is told: the arrays, what each point leaves in each window's buffer, the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => blk m c 7 t
    | ⟨8, _⟩ => blk m c 8 t
    | ⟨9, _⟩ => blk m c 9 t
    | ⟨10, _⟩ => blk m c 10 t
    | ⟨11, _⟩ => (state m c t.val t.isLt).v13
    | ⟨12, _⟩ => (state m c t.val t.isLt).v14
    | ⟨13, _⟩ => (state m c t.val t.isLt).v15
    | ⟨14, _⟩ => (state m c t.val t.isLt).v16
    | ⟨15, _⟩ => (state m c t.val t.isLt).v17
    | ⟨_ + 16, h⟩ => absurd h (Nat.not_lt.2 (Nat.le_add_left _ _))
  Φ t := inv m c t.val (Nat.le_of_lt_succ t.isLt)
  q _ := fullShare
  owed _ := 0

theorem arrays (c : Dev nD) (w : Fin cfg0.W) : (dats m 0 c).A w = V m c (Pipeline.arrRef spec0 w) := by
  dsimp only [dats]

theorem inv_start (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = blk m c 0 t := by dsimp only [dats]
theorem after_1 (c : Dev nD) (t : Fin cfg0.N) : (dats m 0 c).after 1 t = blk m c 1 t := by dsimp only [dats]
theorem after_2 (c : Dev nD) (t : Fin cfg0.N) : (dats m 0 c).after 2 t = blk m c 2 t := by dsimp only [dats]
theorem after_3 (c : Dev nD) (t : Fin cfg0.N) : (dats m 0 c).after 3 t = blk m c 3 t := by dsimp only [dats]
theorem after_4 (c : Dev nD) (t : Fin cfg0.N) : (dats m 0 c).after 4 t = blk m c 4 t := by dsimp only [dats]
theorem after_5 (c : Dev nD) (t : Fin cfg0.N) : (dats m 0 c).after 5 t = blk m c 5 t := by dsimp only [dats]
theorem after_6 (c : Dev nD) (t : Fin cfg0.N) : (dats m 0 c).after 6 t = blk m c 6 t := by dsimp only [dats]
theorem after_7 (c : Dev nD) (t : Fin cfg0.N) : (dats m 0 c).after 7 t = blk m c 7 t := by dsimp only [dats]
theorem after_8 (c : Dev nD) (t : Fin cfg0.N) : (dats m 0 c).after 8 t = blk m c 8 t := by dsimp only [dats]
theorem after_9 (c : Dev nD) (t : Fin cfg0.N) : (dats m 0 c).after 9 t = blk m c 9 t := by dsimp only [dats]
theorem after_10 (c : Dev nD) (t : Fin cfg0.N) : (dats m 0 c).after 10 t = blk m c 10 t := by dsimp only [dats]
theorem after_11 (c : Dev nD) (t : Fin cfg0.N) : (dats m 0 c).after 11 t = (state m c t.val t.isLt).v13 := by dsimp only [dats]
theorem after_12 (c : Dev nD) (t : Fin cfg0.N) : (dats m 0 c).after 12 t = (state m c t.val t.isLt).v14 := by dsimp only [dats]
theorem after_13 (c : Dev nD) (t : Fin cfg0.N) : (dats m 0 c).after 13 t = (state m c t.val t.isLt).v15 := by dsimp only [dats]
theorem after_14 (c : Dev nD) (t : Fin cfg0.N) : (dats m 0 c).after 14 t = (state m c t.val t.isLt).v16 := by dsimp only [dats]
theorem after_15 (c : Dev nD) (t : Fin cfg0.N) : (dats m 0 c).after 15 t = (state m c t.val t.isLt).v17 := by dsimp only [dats]
theorem before_0 (c : Dev nD) (t : Fin cfg0.N) (d) : (dats m 0 c).before 0 t d = blk m c 0 t :=
  (before_blk m (dats m 0 c) 0 rfl (fun _ => rfl) (fun _ _ _ => rfl) (arrays m c 0) (fun t => by rw [after_0]; try rfl) t d).trans
    (by unfold Dat.fetched Dat.blockOf blk; rw [arrays]; try rfl)
theorem before_1 (c : Dev nD) (t : Fin cfg0.N) (d) : (dats m 0 c).before 1 t d = blk m c 1 t :=
  (before_blk m (dats m 0 c) 1 rfl (fun _ => rfl) (fun _ _ _ => rfl) (arrays m c 1) (fun t => by rw [after_1]; try rfl) t d).trans
    (by unfold Dat.fetched Dat.blockOf blk; rw [arrays]; try rfl)
theorem before_2 (c : Dev nD) (t : Fin cfg0.N) (d) : (dats m 0 c).before 2 t d = blk m c 2 t :=
  (before_blk m (dats m 0 c) 2 rfl (fun _ => rfl) (fun _ _ _ => rfl) (arrays m c 2) (fun t => by rw [after_2]; try rfl) t d).trans
    (by unfold Dat.fetched Dat.blockOf blk; rw [arrays]; try rfl)
theorem before_3 (c : Dev nD) (t : Fin cfg0.N) (d) : (dats m 0 c).before 3 t d = blk m c 3 t :=
  (before_blk m (dats m 0 c) 3 rfl (fun _ => rfl) (fun _ _ _ => rfl) (arrays m c 3) (fun t => by rw [after_3]; try rfl) t d).trans
    (by unfold Dat.fetched Dat.blockOf blk; rw [arrays]; try rfl)
theorem before_4 (c : Dev nD) (t : Fin cfg0.N) (d) : (dats m 0 c).before 4 t d = blk m c 4 t :=
  (before_blk m (dats m 0 c) 4 rfl (fun _ => rfl) (fun _ _ _ => rfl) (arrays m c 4) (fun t => by rw [after_4]; try rfl) t d).trans
    (by unfold Dat.fetched Dat.blockOf blk; rw [arrays]; try rfl)
theorem before_5 (c : Dev nD) (t : Fin cfg0.N) (d) : (dats m 0 c).before 5 t d = blk m c 5 t :=
  (before_blk m (dats m 0 c) 5 rfl (fun _ => rfl) (fun _ _ _ => rfl) (arrays m c 5) (fun t => by rw [after_5]; try rfl) t d).trans
    (by unfold Dat.fetched Dat.blockOf blk; rw [arrays]; try rfl)
theorem before_6 (c : Dev nD) (t : Fin cfg0.N) (d) : (dats m 0 c).before 6 t d = blk m c 6 t :=
  (before_blk m (dats m 0 c) 6 rfl (fun _ => rfl) (fun _ _ _ => rfl) (arrays m c 6) (fun t => by rw [after_6]; try rfl) t d).trans
    (by unfold Dat.fetched Dat.blockOf blk; rw [arrays]; try rfl)
theorem before_7 (c : Dev nD) (t : Fin cfg0.N) (d) : (dats m 0 c).before 7 t d = blk m c 7 t :=
  (before_blk m (dats m 0 c) 7 rfl (fun _ => rfl) (fun _ _ _ => rfl) (arrays m c 7) (fun t => by rw [after_7]; try rfl) t d).trans
    (by unfold Dat.fetched Dat.blockOf blk; rw [arrays]; try rfl)
theorem before_8 (c : Dev nD) (t : Fin cfg0.N) (d) : (dats m 0 c).before 8 t d = blk m c 8 t :=
  (before_blk m (dats m 0 c) 8 rfl (fun _ => rfl) (fun _ _ _ => rfl) (arrays m c 8) (fun t => by rw [after_8]; try rfl) t d).trans
    (by unfold Dat.fetched Dat.blockOf blk; rw [arrays]; try rfl)
theorem before_9 (c : Dev nD) (t : Fin cfg0.N) (d) : (dats m 0 c).before 9 t d = blk m c 9 t :=
  (before_blk m (dats m 0 c) 9 rfl (fun _ => rfl) (fun _ _ _ => rfl) (arrays m c 9) (fun t => by rw [after_9]; try rfl) t d).trans
    (by unfold Dat.fetched Dat.blockOf blk; rw [arrays]; try rfl)
theorem before_10 (c : Dev nD) (t : Fin cfg0.N) (d) : (dats m 0 c).before 10 t d = blk m c 10 t :=
  (before_blk m (dats m 0 c) 10 rfl (fun _ => rfl) (fun _ _ _ => rfl) (arrays m c 10) (fun t => by rw [after_10]; try rfl) t d).trans
    (by unfold Dat.fetched Dat.blockOf blk; rw [arrays]; try rfl)
theorem before_13 (c : Dev nD) (t : Fin cfg0.N) (h : t.val ≠ 0) (d) : (dats m 0 c).before 13 t d = (past m c t).v15 := by
  have hN : t.val < 16 := lt_of_lt_of_eq t.isLt (show cfg0.N = 16 from N_0)
  rw [Dat.before_out_kept _ 13 rfl t (by omega)
    (Bool.eq_false_iff.mpr fun e => by have := (flush0_13 _).mp e; dsimp only at this; omega) (fun _ => rfl) (fun _ _ => rfl)]
  dsimp only [dats]
theorem before_14 (c : Dev nD) (t : Fin cfg0.N) (h : t.val ≠ 0) (d) : (dats m 0 c).before 14 t d = (past m c t).v16 := by
  have hN : t.val < 16 := lt_of_lt_of_eq t.isLt (show cfg0.N = 16 from N_0)
  rw [Dat.before_out_kept _ 14 rfl t (by omega)
    (Bool.eq_false_iff.mpr fun e => by have := (flush0_14 _).mp e; dsimp only at this; omega) (fun _ => rfl) (fun _ _ => rfl)]
  dsimp only [dats]
theorem before_15 (c : Dev nD) (t : Fin cfg0.N) (h : t.val ≠ 0) (d) : (dats m 0 c).before 15 t d = (past m c t).v17 := by
  have hN : t.val < 16 := lt_of_lt_of_eq t.isLt (show cfg0.N = 16 from N_0)
  rw [Dat.before_out_kept _ 15 rfl t (by omega)
    (Bool.eq_false_iff.mpr fun e => by have := (flush0_15 _).mp e; dsimp only at this; omega) (fun _ => rfl) (fun _ _ => rfl)]
  dsimp only [dats]

/-- What the body is given at a point. -/
def before (c : Dev nD) (t : Fin cfg0.N) : sProp (Res F) :=
  iprop((dats m 0 c).Φ t.castSucc ∗ (dats m 0 c).owesAt () t.castSucc
    ∗ (∃ d, owns (c : Thread nD τ) (buf1 t) fullShare ((dats m 0 c).before 0 t d))
    ∗ (∃ d, owns (c : Thread nD τ) (buf2 t) fullShare ((dats m 0 c).before 1 t d))
    ∗ (∃ d, owns (c : Thread nD τ) (buf3 t) fullShare ((dats m 0 c).before 2 t d))
    ∗ (∃ d, owns (c : Thread nD τ) (buf4 t) fullShare ((dats m 0 c).before 3 t d))
    ∗ (∃ d, owns (c : Thread nD τ) (buf5 t) fullShare ((dats m 0 c).before 4 t d))
    ∗ (∃ d, owns (c : Thread nD τ) (buf6 t) fullShare ((dats m 0 c).before 5 t d))
    ∗ (∃ d, owns (c : Thread nD τ) (buf7 t) fullShare ((dats m 0 c).before 6 t d))
    ∗ (∃ d, owns (c : Thread nD τ) (buf8 t) fullShare ((dats m 0 c).before 7 t d))
    ∗ (∃ d, owns (c : Thread nD τ) (buf9 t) fullShare ((dats m 0 c).before 8 t d))
    ∗ (∃ d, owns (c : Thread nD τ) (buf10 t) fullShare ((dats m 0 c).before 9 t d))
    ∗ (∃ d, owns (c : Thread nD τ) (buf11 t) fullShare ((dats m 0 c).before 10 t d))
    ∗ (∃ d, owns (c : Thread nD τ) (buf13 t) fullShare ((dats m 0 c).before 11 t d))
    ∗ (∃ d, owns (c : Thread nD τ) (buf14 t) fullShare ((dats m 0 c).before 12 t d))
    ∗ (∃ d, owns (c : Thread nD τ) (buf15 t) fullShare ((dats m 0 c).before 13 t d))
    ∗ (∃ d, owns (c : Thread nD τ) (buf16 t) fullShare ((dats m 0 c).before 14 t d))
    ∗ (∃ d, owns (c : Thread nD τ) (buf17 t) fullShare ((dats m 0 c).before 15 t d)))
/-- What it gives back. -/
def given (c : Dev nD) (t : Fin cfg0.N) : sProp (Res F) :=
  iprop((dats m 0 c).Φ t.succ ∗ (dats m 0 c).owesAt () t.succ
    ∗ owns (c : Thread nD τ) (buf1 t) fullShare ((dats m 0 c).after 0 t)
    ∗ owns (c : Thread nD τ) (buf2 t) fullShare ((dats m 0 c).after 1 t)
    ∗ owns (c : Thread nD τ) (buf3 t) fullShare ((dats m 0 c).after 2 t)
    ∗ owns (c : Thread nD τ) (buf4 t) fullShare ((dats m 0 c).after 3 t)
    ∗ owns (c : Thread nD τ) (buf5 t) fullShare ((dats m 0 c).after 4 t)
    ∗ owns (c : Thread nD τ) (buf6 t) fullShare ((dats m 0 c).after 5 t)
    ∗ owns (c : Thread nD τ) (buf7 t) fullShare ((dats m 0 c).after 6 t)
    ∗ owns (c : Thread nD τ) (buf8 t) fullShare ((dats m 0 c).after 7 t)
    ∗ owns (c : Thread nD τ) (buf9 t) fullShare ((dats m 0 c).after 8 t)
    ∗ owns (c : Thread nD τ) (buf10 t) fullShare ((dats m 0 c).after 9 t)
    ∗ owns (c : Thread nD τ) (buf11 t) fullShare ((dats m 0 c).after 10 t)
    ∗ owns (c : Thread nD τ) (buf13 t) fullShare ((dats m 0 c).after 11 t)
    ∗ owns (c : Thread nD τ) (buf14 t) fullShare ((dats m 0 c).after 12 t)
    ∗ owns (c : Thread nD τ) (buf15 t) fullShare ((dats m 0 c).after 13 t)
    ∗ owns (c : Thread nD τ) (buf16 t) fullShare ((dats m 0 c).after 14 t)
    ∗ owns (c : Thread nD τ) (buf17 t) fullShare ((dats m 0 c).after 15 t))

set_option maxHeartbeats 9600000 in
theorem soundA (c : Dev nD) (t : Fin cfg0.N) (h : t.val = 0) :
    before m c t ⊢ wp frame (wpE (defs₀ (F := F)) Variants.none c none) Set.univ (bodyAt0 t) (fun _ => given m c t) := by
  unfold before given bodyAt0
  simp only [before_0, before_1, before_2, before_3, before_4, before_5, before_6, before_7, before_8, before_9, before_10]
  rw [show (dats m 0 c).Φ t.succ = inv m c (t.val + 1) t.isLt from rfl, inv_succ m c t.val t.isLt,
    after_0, after_1, after_2, after_3, after_4, after_5, after_6, after_7, after_8, after_9, after_10, after_11, after_12, after_13, after_14, after_15]
  unfold Dat.owesAt Pipeline.owesWithin
  rw [show (dats m 0 c).owed t.castSucc = 0 from rfl, show (dats m 0 c).owed t.succ = 0 from rfl, inv_start m c t
    , inv_zero m c _ _ h]
  simp only [Nat.add_sub_cancel, state_A m c t h, after, storesA]
  have hc : Covered (runA c (grid0.coords t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf13 t) (whole13 t) (buf14 t) (whole14 t) (buf15 t) (whole15 t) (buf16 t) (whole16 t) (buf17 t) (whole17 t) scr20 (Memref.isWhole_whole _) scr21 (Memref.isWhole_whole _) ((first_iff t).mpr h) (fun e => by have := (final_iff t).mp e; omega) (blk m c 0 t) (blk m c 1 t) (blk m c 2 t) (blk m c 3 t) (blk m c 4 t) (blk m c 5 t) (blk m c 6 t) (blk m c 7 t) (blk m c 8 t) (blk m c 9 t) (blk m c 10 t) (V m c main_arg9) (V m c main_v47_5) (V m c main_v47_6)).1 := coveredA c (grid0.coords t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf13 t) (whole13 t) (buf14 t) (whole14 t) (buf15 t) (whole15 t) (buf16 t) (whole16 t) (buf17 t) (whole17 t) scr20 (Memref.isWhole_whole _) scr21 (Memref.isWhole_whole _) (blk m c 0 t) (blk m c 1 t) (blk m c 2 t) (blk m c 3 t) (blk m c 4 t) (blk m c 5 t) (blk m c 6 t) (blk m c 7 t) (blk m c 8 t) (blk m c 9 t) (blk m c 10 t)  (V m c main_arg9) (V m c main_v47_5) (V m c main_v47_6) ((first_iff t).mpr h) (fun e => by have := (final_iff t).mp e; omega)
  unfold between atZero
  iintro ⟨⟨⟨H20, H21⟩, Hg, ⟨Hq0, Hq1, Hq2, Hq3, Hq4, Hq5, Hq6, Hq7⟩, Hh12, ⟨Hh18, Hh19⟩⟩, ⟨%W, -, HW⟩, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, ⟨%d10, H11⟩, ⟨%d11, H13⟩, ⟨%d12, H14⟩, ⟨%d13, H15⟩, ⟨%d14, H16⟩, ⟨%d15, H17⟩⟩
  iapply ((runA c (grid0.coords t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf13 t) (whole13 t) (buf14 t) (whole14 t) (buf15 t) (whole15 t) (buf16 t) (whole16 t) (buf17 t) (whole17 t) scr20 (Memref.isWhole_whole _) scr21 (Memref.isWhole_whole _) ((first_iff t).mpr h) (fun e => by have := (final_iff t).mp e; omega) (blk m c 0 t) (blk m c 1 t) (blk m c 2 t) (blk m c 3 t) (blk m c 4 t) (blk m c 5 t) (blk m c 6 t) (blk m c 7 t) (blk m c 8 t) (blk m c 9 t) (blk m c 10 t) (V m c main_arg9) (V m c main_v47_5) (V m c main_v47_6)).2 W _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; · iexists _; iexact H13
  isplitl [H14]; · iexists _; iexact H14
  isplitl [H15]; · iexists _; iexact H15
  isplitl [H16]; · iexists _; iexact H16
  isplitl [H17]; · iexists _; iexact H17
  isplitl [H20]; · iexact H20
  isplitl [H21]; · iexact H21
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh12]; · iexact Hh12
  isplitl [Hh18]; · iexact Hh18
  isplitl [Hh19]; · iexact Hh19
  isplitl [HW]; · iexact HW
  iintro ⟨H1, H2, H3, H4, H5, H6, H7, H8, H9, H10, H11, ⟨%e13, H13⟩, ⟨%e14, H14⟩, ⟨%e15, H15⟩, ⟨%e16, H16⟩, ⟨%e17, H17⟩, ⟨%e20, H20⟩, ⟨%e21, H21⟩, Hq0, Hq1, Hq2, Hq3, Hq4, Hq5, Hq6, Hq7, Hh12, Hh18, Hh19, ⟨%W', HW'⟩⟩
  isplitl [H20 H21 Hg Hq0 Hq1 Hq2 Hq3 Hq4 Hq5 Hq6 Hq7 Hh12 Hh18 Hh19]
  · isplitl [H20 H21]
    · skip
      isplitl [H20]
      · skip
        unfold owns; iexists _; isplitr
        swap; · iexact H20
        ipureintro; exact View.read_writes_of_cover _ _ _ _ _ (hc.2.2.2.2.2.1)
      unfold owns; iexists _; isplitr
      swap; · iexact H21
      ipureintro; exact View.read_writes_of_cover _ _ _ _ _ (hc.2.2.2.2.2.2)
    isplitl [Hg]; · iexact Hg
    isplitl [Hq0 Hq1 Hq2 Hq3 Hq4 Hq5 Hq6 Hq7]
    · skip
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh12]; · iexact Hh12
    isplitl [Hh18]; · iexact Hh18
    iexact Hh19
  isplitl [HW']
  · iexists W'; isplitr; · ipureintro; exact fun _ _ => Or.inl trivial
    iexact HW'
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]
  · skip
    unfold owns; iexists _; isplitr
    swap; · iexact H13
    ipureintro; exact View.read_writes_of_cover _ _ _ _ _ (hc.1)
  isplitl [H14]
  · skip
    unfold owns; iexists _; isplitr
    swap; · iexact H14
    ipureintro; exact View.read_writes_of_cover _ _ _ _ _ (hc.2.1)
  isplitl [H15]
  · skip
    unfold owns; iexists _; isplitr
    swap; · iexact H15
    ipureintro; exact View.read_writes_of_cover _ _ _ _ _ (hc.2.2.1)
  isplitl [H16]
  · skip
    unfold owns; iexists _; isplitr
    swap; · iexact H16
    ipureintro; exact View.read_writes_of_cover _ _ _ _ _ (hc.2.2.2.1)
  unfold owns; iexists _; isplitr
  swap; · iexact H17
  ipureintro; exact View.read_writes_of_cover _ _ _ _ _ (hc.2.2.2.2.1)

set_option maxHeartbeats 9600000 in
theorem soundB (c : Dev nD) (t : Fin cfg0.N) (h : t.val ≠ 0) (h' : t.val ≠ 15) :
    before m c t ⊢ wp frame (wpE (defs₀ (F := F)) Variants.none c none) Set.univ (bodyAt0 t) (fun _ => given m c t) := by
  unfold before given bodyAt0
  simp only [before_0, before_1, before_2, before_3, before_4, before_5, before_6, before_7, before_8, before_9, before_10]
  rw [show (dats m 0 c).Φ t.succ = inv m c (t.val + 1) t.isLt from rfl, inv_succ m c t.val t.isLt,
    after_0, after_1, after_2, after_3, after_4, after_5, after_6, after_7, after_8, after_9, after_10, after_11, after_12, after_13, after_14, after_15]
  unfold Dat.owesAt Pipeline.owesWithin
  rw [show (dats m 0 c).owed t.castSucc = 0 from rfl, show (dats m 0 c).owed t.succ = 0 from rfl, inv_start m c t
    , inv_pos m c _ _ h]
  simp only [Nat.add_sub_cancel, state_B m c t h h', after, storesB]
  simp only [before_13 m c t h, before_14 m c t h, before_15 m c t h]
  have hc : Covered (runB c (grid0.coords t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf13 t) (whole13 t) (buf14 t) (whole14 t) (buf15 t) (whole15 t) (buf16 t) (whole16 t) (buf17 t) (whole17 t) scr20 (Memref.isWhole_whole _) scr21 (Memref.isWhole_whole _) (fun e => h ((first_iff t).mp e)) (fun e => h' ((final_iff t).mp e)) (blk m c 0 t) (blk m c 1 t) (blk m c 2 t) (blk m c 3 t) (blk m c 4 t) (blk m c 5 t) (blk m c 6 t) (blk m c 7 t) (blk m c 8 t) (blk m c 9 t) (blk m c 10 t) (past m c t).v15 (past m c t).v16 (past m c t).v17 (past m c t).v20 (past m c t).v21 (V m c main_arg9) (past m c t).g18 (past m c t).g19).1 := coveredB c (grid0.coords t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf13 t) (whole13 t) (buf14 t) (whole14 t) (buf15 t) (whole15 t) (buf16 t) (whole16 t) (buf17 t) (whole17 t) scr20 (Memref.isWhole_whole _) scr21 (Memref.isWhole_whole _) (blk m c 0 t) (blk m c 1 t) (blk m c 2 t) (blk m c 3 t) (blk m c 4 t) (blk m c 5 t) (blk m c 6 t) (blk m c 7 t) (blk m c 8 t) (blk m c 9 t) (blk m c 10 t) (past m c t).v15 (past m c t).v16 (past m c t).v17 (past m c t).v20 (past m c t).v21 (V m c main_arg9) (past m c t).g18 (past m c t).g19 (fun e => h ((first_iff t).mp e)) (fun e => h' ((final_iff t).mp e))
  unfold between atZero
  iintro ⟨⟨⟨H20, H21⟩, Hg, ⟨Hq0, Hq1, Hq2, Hq3, Hq4, Hq5, Hq6, Hq7⟩, Hh12, ⟨Hh18, Hh19⟩⟩, ⟨%W, -, HW⟩, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, ⟨%d10, H11⟩, ⟨%d11, H13⟩, ⟨%d12, H14⟩, ⟨%d13, H15⟩, ⟨%d14, H16⟩, ⟨%d15, H17⟩⟩
  iapply ((runB c (grid0.coords t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf13 t) (whole13 t) (buf14 t) (whole14 t) (buf15 t) (whole15 t) (buf16 t) (whole16 t) (buf17 t) (whole17 t) scr20 (Memref.isWhole_whole _) scr21 (Memref.isWhole_whole _) (fun e => h ((first_iff t).mp e)) (fun e => h' ((final_iff t).mp e)) (blk m c 0 t) (blk m c 1 t) (blk m c 2 t) (blk m c 3 t) (blk m c 4 t) (blk m c 5 t) (blk m c 6 t) (blk m c 7 t) (blk m c 8 t) (blk m c 9 t) (blk m c 10 t) (past m c t).v15 (past m c t).v16 (past m c t).v17 (past m c t).v20 (past m c t).v21 (V m c main_arg9) (past m c t).g18 (past m c t).g19).2 W _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; · iexists _; iexact H13
  isplitl [H14]; · iexists _; iexact H14
  isplitl [H15]; · iexact H15
  isplitl [H16]; · iexact H16
  isplitl [H17]; · iexact H17
  isplitl [H20]; · iexact H20
  isplitl [H21]; · iexact H21
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh12]; · iexact Hh12
  isplitl [Hh18]; · iexact Hh18
  isplitl [Hh19]; · iexact Hh19
  isplitl [HW]; · iexact HW
  iintro ⟨H1, H2, H3, H4, H5, H6, H7, H8, H9, H10, H11, ⟨%e13, H13⟩, ⟨%e14, H14⟩, ⟨%e15, H15⟩, ⟨%e16, H16⟩, ⟨%e17, H17⟩, ⟨%e20, H20⟩, ⟨%e21, H21⟩, Hq0, Hq1, Hq2, Hq3, Hq4, Hq5, Hq6, Hq7, Hh12, Hh18, Hh19, ⟨%W', HW'⟩⟩
  isplitl [H20 H21 Hg Hq0 Hq1 Hq2 Hq3 Hq4 Hq5 Hq6 Hq7 Hh12 Hh18 Hh19]
  · isplitl [H20 H21]
    · skip
      isplitl [H20]
      · skip
        unfold owns; iexists _; isplitr
        swap; · iexact H20
        ipureintro; exact View.read_writes_of_cover _ _ _ _ _ (hc.2.2.2.2.2.1)
      unfold owns; iexists _; isplitr
      swap; · iexact H21
      ipureintro; exact View.read_writes_of_cover _ _ _ _ _ (hc.2.2.2.2.2.2)
    isplitl [Hg]; · iexact Hg
    isplitl [Hq0 Hq1 Hq2 Hq3 Hq4 Hq5 Hq6 Hq7]
    · skip
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh12]; · iexact Hh12
    isplitl [Hh18]; · iexact Hh18
    iexact Hh19
  isplitl [HW']
  · iexists W'; isplitr; · ipureintro; exact fun _ _ => Or.inl trivial
    iexact HW'
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]
  · skip
    unfold owns; iexists _; isplitr
    swap; · iexact H13
    ipureintro; exact View.read_writes_of_cover _ _ _ _ _ (hc.1)
  isplitl [H14]
  · skip
    unfold owns; iexists _; isplitr
    swap; · iexact H14
    ipureintro; exact View.read_writes_of_cover _ _ _ _ _ (hc.2.1)
  isplitl [H15]
  · skip
    unfold owns; iexists _; isplitr
    swap; · iexact H15
    ipureintro; exact View.read_writes_of_cover _ _ _ _ _ (hc.2.2.1)
  isplitl [H16]
  · skip
    unfold owns; iexists _; isplitr
    swap; · iexact H16
    ipureintro; exact View.read_writes_of_cover _ _ _ _ _ (hc.2.2.2.1)
  unfold owns; iexists _; isplitr
  swap; · iexact H17
  ipureintro; exact View.read_writes_of_cover _ _ _ _ _ (hc.2.2.2.2.1)

set_option maxHeartbeats 9600000 in
theorem soundC (c : Dev nD) (t : Fin cfg0.N) (h' : t.val = 15) :
    before m c t ⊢ wp frame (wpE (defs₀ (F := F)) Variants.none c none) Set.univ (bodyAt0 t) (fun _ => given m c t) := by
  unfold before given bodyAt0
  simp only [before_0, before_1, before_2, before_3, before_4, before_5, before_6, before_7, before_8, before_9, before_10]
  rw [show (dats m 0 c).Φ t.succ = inv m c (t.val + 1) t.isLt from rfl, inv_succ m c t.val t.isLt,
    after_0, after_1, after_2, after_3, after_4, after_5, after_6, after_7, after_8, after_9, after_10, after_11, after_12, after_13, after_14, after_15]
  unfold Dat.owesAt Pipeline.owesWithin
  rw [show (dats m 0 c).owed t.castSucc = 0 from rfl, show (dats m 0 c).owed t.succ = 0 from rfl, inv_start m c t
    , inv_pos m c _ _ (by omega)]
  simp only [Nat.add_sub_cancel, state_C m c t h', after, storesC]
  simp only [before_13 m c t (by omega), before_14 m c t (by omega), before_15 m c t (by omega)]
  have hc : Covered (runC c (grid0.coords t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf13 t) (whole13 t) (buf14 t) (whole14 t) (buf15 t) (whole15 t) (buf16 t) (whole16 t) (buf17 t) (whole17 t) scr20 (Memref.isWhole_whole _) scr21 (Memref.isWhole_whole _) (fun e => by have := (first_iff t).mp e; omega) ((final_iff t).mpr h') (blk m c 0 t) (blk m c 1 t) (blk m c 2 t) (blk m c 3 t) (blk m c 4 t) (blk m c 5 t) (blk m c 6 t) (blk m c 7 t) (blk m c 8 t) (blk m c 9 t) (blk m c 10 t) (past m c t).v15 (past m c t).v16 (past m c t).v17 (past m c t).v20 (past m c t).v21 (V m c main_arg9) (past m c t).g18 (past m c t).g19).1 := coveredC c (grid0.coords t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf13 t) (whole13 t) (buf14 t) (whole14 t) (buf15 t) (whole15 t) (buf16 t) (whole16 t) (buf17 t) (whole17 t) scr20 (Memref.isWhole_whole _) scr21 (Memref.isWhole_whole _) (blk m c 0 t) (blk m c 1 t) (blk m c 2 t) (blk m c 3 t) (blk m c 4 t) (blk m c 5 t) (blk m c 6 t) (blk m c 7 t) (blk m c 8 t) (blk m c 9 t) (blk m c 10 t) (past m c t).v15 (past m c t).v16 (past m c t).v17 (past m c t).v20 (past m c t).v21 (V m c main_arg9) (past m c t).g18 (past m c t).g19 (fun e => by have := (first_iff t).mp e; omega) ((final_iff t).mpr h')
  unfold between atZero
  iintro ⟨⟨⟨H20, H21⟩, Hg, ⟨Hq0, Hq1, Hq2, Hq3, Hq4, Hq5, Hq6, Hq7⟩, Hh12, ⟨Hh18, Hh19⟩⟩, ⟨%W, -, HW⟩, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, ⟨%d10, H11⟩, ⟨%d11, H13⟩, ⟨%d12, H14⟩, ⟨%d13, H15⟩, ⟨%d14, H16⟩, ⟨%d15, H17⟩⟩
  iapply ((runC c (grid0.coords t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf13 t) (whole13 t) (buf14 t) (whole14 t) (buf15 t) (whole15 t) (buf16 t) (whole16 t) (buf17 t) (whole17 t) scr20 (Memref.isWhole_whole _) scr21 (Memref.isWhole_whole _) (fun e => by have := (first_iff t).mp e; omega) ((final_iff t).mpr h') (blk m c 0 t) (blk m c 1 t) (blk m c 2 t) (blk m c 3 t) (blk m c 4 t) (blk m c 5 t) (blk m c 6 t) (blk m c 7 t) (blk m c 8 t) (blk m c 9 t) (blk m c 10 t) (past m c t).v15 (past m c t).v16 (past m c t).v17 (past m c t).v20 (past m c t).v21 (V m c main_arg9) (past m c t).g18 (past m c t).g19).2 W _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; · iexists _; iexact H13
  isplitl [H14]; · iexists _; iexact H14
  isplitl [H15]; · iexact H15
  isplitl [H16]; · iexact H16
  isplitl [H17]; · iexact H17
  isplitl [H20]; · iexact H20
  isplitl [H21]; · iexact H21
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh12]; · iexact Hh12
  isplitl [Hh18]; · iexact Hh18
  isplitl [Hh19]; · iexact Hh19
  isplitl [HW]; · iexact HW
  iintro ⟨H1, H2, H3, H4, H5, H6, H7, H8, H9, H10, H11, ⟨%e13, H13⟩, ⟨%e14, H14⟩, ⟨%e15, H15⟩, ⟨%e16, H16⟩, ⟨%e17, H17⟩, ⟨%e20, H20⟩, ⟨%e21, H21⟩, Hq0, Hq1, Hq2, Hq3, Hq4, Hq5, Hq6, Hq7, Hh12, Hh18, Hh19, ⟨%W', HW'⟩⟩
  isplitl [H20 H21 Hg Hq0 Hq1 Hq2 Hq3 Hq4 Hq5 Hq6 Hq7 Hh12 Hh18 Hh19]
  · isplitl [H20 H21]
    · skip
      isplitl [H20]
      · skip
        unfold owns; iexists _; isplitr
        swap; · iexact H20
        ipureintro; exact View.read_writes_of_cover _ _ _ _ _ (hc.2.2.2.2.2.1)
      unfold owns; iexists _; isplitr
      swap; · iexact H21
      ipureintro; exact View.read_writes_of_cover _ _ _ _ _ (hc.2.2.2.2.2.2)
    isplitl [Hg]; · iexact Hg
    isplitl [Hq0 Hq1 Hq2 Hq3 Hq4 Hq5 Hq6 Hq7]
    · skip
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh12]; · iexact Hh12
    isplitl [Hh18]; · iexact Hh18
    iexact Hh19
  isplitl [HW']
  · iexists W'; isplitr; · ipureintro; exact fun _ _ => Or.inl trivial
    iexact HW'
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]
  · skip
    unfold owns; iexists _; isplitr
    swap; · iexact H13
    ipureintro; exact View.read_writes_of_cover _ _ _ _ _ (hc.1)
  isplitl [H14]
  · skip
    unfold owns; iexists _; isplitr
    swap; · iexact H14
    ipureintro; exact View.read_writes_of_cover _ _ _ _ _ (hc.2.1)
  isplitl [H15]
  · skip
    unfold owns; iexists _; isplitr
    swap; · iexact H15
    ipureintro; exact View.read_writes_of_cover _ _ _ _ _ (hc.2.2.1)
  isplitl [H16]
  · skip
    unfold owns; iexists _; isplitr
    swap; · iexact H16
    ipureintro; exact View.read_writes_of_cover _ _ _ _ _ (hc.2.2.2.1)
  unfold owns; iexists _; isplitr
  swap; · iexact H17
  ipureintro; exact View.read_writes_of_cover _ _ _ _ _ (hc.2.2.2.2.1)

theorem sound (c : Dev nD) (t : Fin cfg0.N) :
    before m c t ⊢ wp frame (wpE (defs₀ (F := F)) Variants.none c none) Set.univ (bodyAt0 t) (fun _ => given m c t) := by
  by_cases h : t.val = 0
  · exact soundA m c t h
  · by_cases h' : t.val = 15
    · exact soundC m c t h'
    · exact soundB m c t h h'

theorem table_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, table_row]
  exact triple_restated (sound m c t) rfl .rfl fun _ => .rfl

/-! ## The run -/

/-- The state after the last point. -/
abbrev done (c : Dev nD) : State F c := state m c 15 (by have : cfg0.N = 16 := N_0; omega)

/-- The arrays after the call, as far as the copies write them. -/
def copiedTo (c : Dev nD) : (b : Ref sig .tc) → Buf (Elt F) ((c : Thread nD τ).loc b) :=
  Function.update (Function.update (V m c) main_v47_5 (done m c).g18) main_v47_6 (done m c).g19

theorem copiedTo_18 (c : Dev nD) : copiedTo m c main_v47_5 = (done m c).g18 := by
  unfold copiedTo; rw [Function.update_of_ne (by decide), Function.update_self]
theorem copiedTo_19 (c : Dev nD) : copiedTo m c main_v47_6 = (done m c).g19 := by
  unfold copiedTo; simp only [Function.update_self]

theorem enter (c : Dev nD) : Pipeline.ΦDRG cells spec0 readOnly copied (V m) (V m) c ⊢ (dats m 0 c).Φ 0 := by
  rw [show (dats m 0 c).Φ 0 = inv m c 0 (Nat.zero_le _) from rfl]
  exact Idealize.SL.BI.Entails.refl _

theorem leave (c : Dev nD) : (dats m 0 c).Φ (Fin.last cfg0.N) ⊢ Pipeline.ΦDRG cells spec0 readOnly copied (V m) (copiedTo m) c := by
  have hN : cfg0.N = 16 := N_0
  rw [show (dats m 0 c).Φ (Fin.last cfg0.N) = inv m c (15 + 1) (by omega) from by
      dsimp only [dats]; congr 1, launch_eq, copiedTo_18, copiedTo_19]
  unfold inv between
  iintro ⟨⟨H20, H21⟩, Hg, Hq, Hr, Hw⟩
  isplitl [H20 H21]
  · skip
    isplitl [H20]; · iexists _; iexact H20
    iexists _; iexact H21
  isplitl [Hg]; · iexact Hg
  isplitl [Hq]; · iexact Hq
  isplitl [Hr]; · iexact Hr
  iexact Hw

set_option backward.isDefEq.respectTransparency.types false in
/-- Every execution ends, the windows' arrays at what the points leave in them, the copied results at `copiedTo`, every
    other buffer as the call found it, every counter at zero. -/
theorem run_quiet : θ_run defs (onTc (τ := τ) (main (F := F))) (s₀ m ρ)
    (fun r => (Pipeline.FramePostRG cfgs (dats m) 0 copied (V m) (copiedTo m)) r ∧ r.2.sem = fun _ => 0) :=
  Pipeline.θ_run_frame_dmaRG (Q' := _) cfgs (dats m) (0 : Fin 1) launch0 cells defs₀ Variants.none cells_own readOnly copied
    readOnly_sub copied_sub m ρ main (hbody := fun c => (obligation m c).loose)
    (hshare := fun c => (dats m 0 c).share_full fun _ => rfl) (howed := fun _ _ => rfl) (V := V m)
    (hmain := hmain m Variants.none) (hA := arrays m) (G := copiedTo m) (hin := enter m) (hout := leave m)

/-- The arguments at the end. -/
theorem kept (r : PUnit × MemSt nD τ sig (Elt F)) (h : Pipeline.FramePostRG cfgs (dats m) 0 copied (V m) (copiedTo m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨
    ((h.toR c).2 main_arg0 (Finset.mem_sdiff.mpr ⟨Pipeline.mem_restRefs_of main_arg0 (by decide) (by decide), by decide⟩)).trans (V_kept m c main_arg0 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
    ((h.toR c).1 5).trans (((dats m 0 c).arrAt_in 5 rfl _).trans ((arrays m c 5).trans (V_kept m c main_arg1 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)))),
    ((h.toR c).1 0).trans (((dats m 0 c).arrAt_in 0 rfl _).trans ((arrays m c 0).trans (V_kept m c main_arg2 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)))),
    ((h.toR c).1 1).trans (((dats m 0 c).arrAt_in 1 rfl _).trans ((arrays m c 1).trans (V_kept m c main_arg3 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)))),
    ((h.toR c).1 6).trans (((dats m 0 c).arrAt_in 6 rfl _).trans ((arrays m c 6).trans (V_kept m c main_arg4 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)))),
    ((h.toR c).2 main_arg5 (Finset.mem_sdiff.mpr ⟨Pipeline.mem_restRefs_of main_arg5 (by decide) (by decide), by decide⟩)).trans (V_kept m c main_arg5 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
    ((h.toR c).2 main_arg6 (Finset.mem_sdiff.mpr ⟨Pipeline.mem_restRefs_of main_arg6 (by decide) (by decide), by decide⟩)).trans (V_kept m c main_arg6 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
    ((h.toR c).1 9).trans (((dats m 0 c).arrAt_in 9 rfl _).trans ((arrays m c 9).trans (V_kept m c main_arg7 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)))),
    ((h.toR c).1 10).trans (((dats m 0 c).arrAt_in 10 rfl _).trans ((arrays m c 10).trans (V_kept m c main_arg8 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)))),
    ((h.toR c).2 main_arg9 (Finset.mem_sdiff.mpr ⟨Pipeline.mem_restRefs_of main_arg9 (by decide) (by decide), by decide⟩)).trans (V_kept m c main_arg9 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide))⟩

/-- The program runs, its arguments end unchanged, its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => kept m r h.1 c, h.2⟩) (run_quiet m ρ)

end Cert.BwdMidIdeal.Hand

end
-- ==== Proof.BwdMidMath.lean ====
module

public import proofs.«01_k».proof.Proof.Rms
public import proofs.«01_k».proof.Proof.Slab

/-!
The gradients of the block's middle as sums of real numbers: from the first linear map of the feed-forward half back through its norm, the residual
sum, the norm and gate of the mixers' half and its output map.

Forward: `mix = C Wo`, `x1 = X + unit(mix) · gate`, `h2 = unit(x1) · gain + shift`, and `h2 W1`. Backward from `E` (of `h2 W1`) and `D` (of `x1`).
-/

@[expose] public section

noncomputable section

namespace Cert.BwdMidMath

open Cert.Rms

/-- The call's arrays, as real numbers. -/
structure Inp where
  X : ℕ → ℕ → ℝ
  C : ℕ → ℕ → ℝ
  E : ℕ → ℕ → ℝ
  D : ℕ → ℕ → ℝ
  M : ℕ → ℕ → ℝ
  G1 : ℕ → ℝ
  G2 : ℕ → ℝ
  W1 : ℕ → ℕ → ℕ → ℝ
  Wo : ℕ → ℕ → ℕ → ℝ

namespace Inp
variable (I : Inp)

/-! The forward lines. -/

def mix (s i : ℕ) : ℝ := ∑ a ∈ Finset.range 1024, I.C s a * I.Wo (a / 256) (a % 256) i
def gate (j : ℕ) : ℝ := I.M 2 j * I.G1 j
def x1 (s j : ℕ) : ℝ := I.X s j + unit (I.mix s) j * I.gate j
def gain (j : ℕ) : ℝ := I.G2 j * (1 + I.M 4 j)
def h2 (s j : ℕ) : ℝ := unit (I.x1 s) j * I.gain j + I.M 3 j

/-! The gradients of a row. -/

def dh (s d : ℕ) : ℝ := ∑ a ∈ Finset.range 4096, I.E s a * I.W1 (a / 1024) d (a % 1024)
def dx (s j : ℕ) : ℝ := I.D s j + grad (I.x1 s) (fun j => I.dh s j * I.gain j) j
def dmix (s j : ℕ) : ℝ := grad (I.mix s) (fun j => I.dx s j * I.gate j) j
def dc (s a : ℕ) : ℝ := ∑ i ∈ Finset.range 1024, I.dmix s i * I.Wo (a / 256) (a % 256) i

/-! The sums over the `k` rows from row `n`. -/

def dshift (n k j : ℕ) : ℝ := ∑ s ∈ Finset.range k, I.dh (n + s) j
def da (n k j : ℕ) : ℝ := ∑ s ∈ Finset.range k, I.dh (n + s) j * unit (I.x1 (n + s)) j
def ds (n k j : ℕ) : ℝ := ∑ s ∈ Finset.range k, I.dx (n + s) j * unit (I.mix (n + s)) j
def up (n k a b : ℕ) : ℝ := ∑ s ∈ Finset.range k, I.h2 (n + s) a * I.E (n + s) b
def out (n k a b : ℕ) : ℝ := ∑ s ∈ Finset.range k, I.C (n + s) a * I.dmix (n + s) b
/-- The first map's gradient: block `q`, half `b`, row `r`, column `j`, -/
def dw1 (n k q b r j : ℕ) : ℝ := I.up n k (512 * b + r) (1024 * q + j)
/-- and the output map's. -/
def dwo (n k q b r j : ℕ) : ℝ := I.out n k (256 * q + (128 * b + r)) j

theorem dshift_add (n k j : ℕ) : I.dshift 0 n j + I.dshift n k j = I.dshift 0 (n + k) j := by
  simp only [dshift, Nat.zero_add, Finset.sum_range_add]
theorem da_add (n k j : ℕ) : I.da 0 n j + I.da n k j = I.da 0 (n + k) j := by
  simp only [da, Nat.zero_add, Finset.sum_range_add]
theorem ds_add (n k j : ℕ) : I.ds 0 n j + I.ds n k j = I.ds 0 (n + k) j := by
  simp only [ds, Nat.zero_add, Finset.sum_range_add]
theorem dw1_add (n k q b r j : ℕ) : I.dw1 0 n q b r j + I.dw1 n k q b r j = I.dw1 0 (n + k) q b r j := by
  simp only [dw1, up, Nat.zero_add, Finset.sum_range_add]
theorem dwo_add (n k q b r j : ℕ) : I.dwo 0 n q b r j + I.dwo n k q b r j = I.dwo 0 (n + k) q b r j := by
  simp only [dwo, out, Nat.zero_add, Finset.sum_range_add]

/-- The 4096 columns of the cotangent, one block of the map after the other. -/
theorem dh_blocks (s d : ℕ) : I.dh s d = (∑ k ∈ Finset.range 1024, I.E s (1024 * 0 + k) * I.W1 0 d k)
    + (∑ k ∈ Finset.range 1024, I.E s (1024 * 1 + k) * I.W1 1 d k) + (∑ k ∈ Finset.range 1024, I.E s (1024 * 2 + k) * I.W1 2 d k)
    + ∑ k ∈ Finset.range 1024, I.E s (1024 * 3 + k) * I.W1 3 d k := by
  have e (q k : ℕ) (hk : k ∈ Finset.range 1024) : I.E s (1024 * q + k) * I.W1 ((1024 * q + k) / 1024) d ((1024 * q + k) % 1024)
      = I.E s (1024 * q + k) * I.W1 q d k := by
    have h := Finset.mem_range.mp hk
    rw [Nat.mul_add_div (by norm_num), Nat.div_eq_of_lt h, Nat.mul_add_mod, Nat.mod_eq_of_lt h, Nat.add_zero]
  rw [dh, sum_4096]
  refine congrArg₂ (· + ·) (congrArg₂ (· + ·) (congrArg₂ (· + ·) (Finset.sum_congr rfl fun k hk => ?_) (Finset.sum_congr rfl (e 1)))
    (Finset.sum_congr rfl (e 2))) (Finset.sum_congr rfl (e 3))
  simpa only [Nat.mul_zero, Nat.zero_add] using e 0 k hk

/-- A block of columns through the output map. -/
theorem dc_block (s q r : ℕ) (h : r < 256) : I.dc s (256 * q + r) = ∑ i ∈ Finset.range 1024, I.dmix s i * I.Wo q r i := by
  rw [dc, Nat.mul_add_div (by norm_num), Nat.div_eq_of_lt h, Nat.mul_add_mod, Nat.mod_eq_of_lt h, Nat.add_zero]

end Inp
end Cert.BwdMidMath
-- ==== Proof.BwdMidTile.lean ====
module

public import proofs.«01_k».proof.Proof.BwdMidMath
public import proofs.«01_k».proof.Proof.BwdMidRun

/-! What one step of the call leaves in each of its results. -/

@[expose] public section

set_option maxRecDepth 16384

noncomputable section

namespace Cert.BwdMidIdeal.Hand

open Idealize.ShloMosaic Idealize.ShloMosaic.TcCoe Idealize.SL.Sem
open Cert.BwdMidIdeal Cert.BwdMidIdeal.Gen Cert.MixerOps Cert.Rms Cert.Slab Cert.BwdMidMath
open Cert.MixerMath (coe_sum)

variable (I : Inp) (t : ℕ)

/-! ## The blocks a step reads, and the running results -/

def rows (f : ℕ → ℕ → ℝ) : FVec Ideal S256x1024 .f32 := tab fun r j => ((f (256 * t + r) j : ℝ) : EReal)
def half (f : ℕ → ℕ → ℝ) : FVec Ideal S256x1024 .bf16 := tab fun r j => ((f (256 * t + r) j : ℝ) : EReal)
def line (f : ℕ → ℝ) : FVec Ideal S1x1024 .f32 := tab fun _ j => ((f j : ℝ) : EReal)
def col (f : ℕ → ℝ) : FVec Ideal S256x1 .f32 := tab fun r _ => ((f (256 * t + r) : ℝ) : EReal)
def X1 : Vec Ideal S256x4096 .bf16 := tab fun r a => ((I.E (256 * t + r) a : ℝ) : EReal)
def X7 : Vec Ideal S6x1024 .f32 := tab fun k j => ((I.M k j : ℝ) : EReal)
def X10 : Vec Ideal S4x1024x1024 .bf16 := tab3 fun k a b => ((I.W1 k a b : ℝ) : EReal)
def X11 : Vec Ideal S4x256x1024 .bf16 := tab3 fun k a b => ((I.Wo k a b : ℝ) : EReal)
def Y20 (g : ℕ → ℕ → ℕ → ℕ → ℝ) : Vec Ideal S4x2x512x1024 .f32 := tab4 fun k b r j => ((g k b r j : ℝ) : EReal)
def Y21 (g : ℕ → ℕ → ℕ → ℕ → ℝ) : Vec Ideal S4x2x128x1024 .f32 := tab4 fun k b r j => ((g k b r j : ℝ) : EReal)
def box (g : ℕ → ℕ → ℕ → ℕ → ℝ) (k : ℕ) : FVec Ideal S1x2x512x1024 .f32 := tab4 fun _ b r j => ((g k b r j : ℝ) : EReal)
def Eb (k : ℕ) : FVec Ideal S256x1024 .bf16 := half t fun s a => I.E s (1024 * k + a)
def w1 (k : ℕ) : Vec Ideal S1x1024x1024 .bf16 := tab3 fun _ a b => ((I.W1 k a b : ℝ) : EReal)
def wo (k : ℕ) : Vec Ideal S1x256x1024 .bf16 := tab3 fun _ a b => ((I.Wo k a b : ℝ) : EReal)
/-- One block of columns through the first map. -/
def part (k s d : ℕ) : ℝ := ∑ a ∈ Finset.range 1024, I.E s (1024 * k + a) * I.W1 k d a
def new20 (g : ℕ → ℕ → ℕ → ℕ → ℝ) : ℕ → ℕ → ℕ → ℕ → ℝ := fun k b r j => g k b r j + I.dw1 (256 * t) 256 k b r j
def new21 (g : ℕ → ℕ → ℕ → ℕ → ℝ) : ℕ → ℕ → ℕ → ℕ → ℝ := fun k b r j => g k b r j + I.dwo (256 * t) 256 k b r j

/-! ## The payloads -/

theorem rows_n (f : ℕ → ℕ → EReal) (h hφ) (hacc : 0x00000000#32 = 0x00000000#32) :
    multiReduction (F := Ideal) (s := S256x1024) (φ := .f32) .add (no_index [1]) S256 (tab f) (no_index 0x00000000#32) h hφ hacc
      = tab1 fun a => ∑ b ∈ Finset.range 1024, f a b := rows_tab ..
theorem cols_n (f : ℕ → ℕ → EReal) (h hφ) (hacc : 0x00000000#32 = 0x00000000#32) :
    multiReduction (F := Ideal) (s := S256x1024) (φ := .f32) .add (no_index [0]) S1024 (tab f) (no_index 0x00000000#32) h hφ hacc
      = tab1 fun b => ∑ a ∈ Finset.range 256, f a b := cols_tab ..
theorem dot_h (f g : ℕ → ℕ → EReal) : matmul (F := Ideal) (φ₁ := .bf16) (φ₂ := .bf16) dot_S256x1024_S1024x1024_S256x1024_1_1_0_0_n_n none (tab f) (tab g)
    (tab fun _ _ => 0) = tab fun a b => ∑ i ∈ Finset.range 1024, f a i * g b i := matmul_right _ rfl none f g
theorem dot_c (f g : ℕ → ℕ → EReal) : matmul (F := Ideal) (φ₁ := .bf16) (φ₂ := .bf16) dot_S256x1024_S256x1024_S256x256_1_1_0_0_n_n none (tab f) (tab g)
    (tab fun _ _ => 0) = tab fun a b => ∑ i ∈ Finset.range 1024, f a i * g b i := matmul_right _ rfl none f g
theorem dot_w (f g : ℕ → ℕ → EReal) : matmul (F := Ideal) (φ₁ := .bf16) (φ₂ := .bf16) dot_S256x1024_S256x1024_S1024x1024_0_0_1_1_n_n none (tab f) (tab g)
    (tab fun _ _ => 0) = tab fun a b => ∑ i ∈ Finset.range 256, f i a * g i b := matmul_rows (.inr rfl) _ rfl rfl rfl rfl rfl rfl none f g
theorem halves (f : ℕ → ℕ → EReal) (h) : shapeCast (s := S1024x1024) S2x512x1024 (tab f) h = tab3 fun b r j => f (512 * b + r) j :=
  cast_halves rfl f h
/-- The rows in four blocks of two halves. -/
theorem quarters (f : ℕ → ℕ → EReal) (h) : shapeCast (s := S1024x1024) S4x2x128x1024 (tab f) h = tab4 fun a b r j => f (256 * a + (128 * b + r)) j := by
  funext y
  have l0 : (y 0).val < 4 := (y 0).isLt
  have l1 : (y 1).val < 2 := (y 1).isLt
  have l2 : (y 2).val < 128 := (y 2).isLt
  have lt : 256 * (y 0).val + (128 * (y 1).val + (y 2).val) < 1024 := by omega
  show tab f (Shape.reshapeEquiv h y) = _
  rw [Shape.reshapeEquiv_eq_of_rowMajor h (y := ValueIdx.ix2 ⟨_, lt⟩ (y 3))]
  · rfl
  · rw [rowMajor_val4 _ (2 * (128 * 1024)) (128 * 1024) 1024 rfl rfl rfl, rowMajor_val2 _ 1024 rfl]
    show (256 * (y 0).val + (128 * (y 1).val + (y 2).val)) * 1024 + (y 3).val
      = (y 0).val * (2 * (128 * 1024)) + (y 1).val * (128 * 1024) + (y 2).val * 1024 + (y 3).val
    ring
theorem addf_tab4 {l n p q : ℕ} (f g : ℕ → ℕ → ℕ → ℕ → EReal) :
    addf (F := Ideal) (s := ⟨4, ![l, n, p, q]⟩) (φ := .f32) (tab4 f) (tab4 g) = tab4 fun a b c d => f a b c d + g a b c d := rfl
theorem cast_same (f : ℕ → ℕ → ℕ → ℕ → EReal) (h) : shapeCast (s := S4x2x128x1024) S4x2x128x1024 (tab4 f) h = tab4 f := by
  funext y
  exact congrArg (tab4 f) (Shape.reshapeEquiv_eq_of_rowMajor h rfl)

theorem pay2 : k0_pay2 (F := Ideal) = line fun _ => 0 := by
  simp only [k0_pay2, broadcast_tab, c_zero]
  rfl
theorem pay3 : k0_pay3 (F := Ideal) = line fun _ => 0 := pay2
theorem pay4 : k0_pay4 (F := Ideal) = line fun _ => 0 := pay2
theorem pay5 : k0_pay5 (F := Ideal) = Y20 fun _ _ _ _ => 0 := by
  funext y
  exact c_zero
theorem pay6 : k0_pay6 (F := Ideal) = Y21 fun _ _ _ _ => 0 := by
  funext y
  exact c_zero
theorem pay7 : k0_pay7 (half t I.h2) = half t I.h2 := by simp only [k0_pay7, half, cast_tab]
variable (g : ℕ → ℕ → ℕ → ℕ → ℝ)
theorem pay12 (k : ℕ) : k0_pay12 (half t I.h2) (Eb I t k) (box g k) = box (new20 I t g) k := by
  simp only [k0_pay12, half, Eb, box, zero_tab, dot_w, cast_box, halves, addf_tab3, cast_to_box, coe_sum, ← EReal.coe_mul, ← EReal.coe_add]
  rfl
theorem pay8 (k : ℕ) : k0_pay8 (half t I.h2) (Eb I t k) (box g k) = box (new20 I t g) k := by
  refine Eq.trans ?_ (pay12 I t g k)
  show k0_pay12 (F := Ideal) (k0_pay7 (half t I.h2)) (Eb I t k) (box g k) = _
  rw [pay7]
theorem pay11 (k : ℕ) : k0_pay11 (k0_pay10 (half t I.h2) (Eb I t k) (box g k)) = box (new20 I t g) k := pay8 I t g k
theorem pay14 (k : ℕ) : k0_pay14 (half t I.h2) (Eb I t k) (box g k) = box (new20 I t g) k := pay12 I t g k
theorem pay9 : k0_pay9 (Eb I t 0) (w1 I 0) = rows t (part I 0) := by
  simp only [k0_pay9, Eb, half, w1, cast_tab3, zero_tab, dot_h, coe_sum, ← EReal.coe_mul]
  rfl
theorem pay13 : k0_pay13 (rows t (part I 0)) (Eb I t 1) (w1 I 1) (Eb I t 2) (w1 I 2)
    = rows t fun s d => part I 0 s d + part I 1 s d + part I 2 s d := by
  simp only [k0_pay13, Eb, half, rows, w1, cast_tab3, zero_tab, dot_h, addf_tab, coe_sum, ← EReal.coe_mul, ← EReal.coe_add]
  rfl
theorem pay15 : k0_pay15 (rows t fun s d => part I 0 s d + part I 1 s d + part I 2 s d) (Eb I t 3) (w1 I 3) = rows t I.dh := by
  simp only [k0_pay15, Eb, half, rows, w1, cast_tab3, zero_tab, dot_h, addf_tab, coe_sum, ← EReal.coe_mul, ← EReal.coe_add]
  exact tab_congr fun r _ d _ => congrArg _ (I.dh_blocks _ _).symm
theorem pay16 (f : ℕ → ℕ → ℝ) : k0_pay16 (rows t f) = rows t f := by simp only [k0_pay16, rows, cast_tab]
theorem pay17 (f : ℕ → ℕ → ℝ) : k0_pay17 (rows t f) = col t fun s => rinv (f s) := by
  simp only [k0_pay17, pay16]
  simp only [rows, mulf_tab, ← EReal.coe_mul, rows_n, cast_col, broadcast_tab, c_1024, divf_tab, coe_sum, div_1024, addf_tab, c_eps,
    ← EReal.coe_add]
  exact (rsqrt_tab _).trans (congrArg tab (funext fun r => funext fun _ => rsqrt_power (f (256 * t + r))))
theorem pay18 (f : ℕ → ℕ → ℝ) : k0_pay18 (rows t f) = rows t fun s => unit (f s) := by
  simp only [k0_pay18, pay17, pay16]
  simp only [rows, col, broadcastTo_col, mulf_tab, ← EReal.coe_mul]
  rfl
theorem pay19 : k0_pay19 (line I.G2) (line (I.M 4)) = line I.gain := by
  simp only [k0_pay19, line, cast_tab, broadcast_tab, c_one, addf_tab, mulf_tab, ← EReal.coe_mul, ← EReal.coe_add]
  rfl
theorem pay20 (f : ℕ → ℝ) : k0_pay20 (rows t I.dh) (line f) = line fun j => f j + I.dshift (256 * t) 256 j := by
  simp only [k0_pay20, rows, line, cast_tab, cols_n, cast_row, addf_tab, coe_sum, ← EReal.coe_add]
  rfl
theorem pay21 (f : ℕ → ℝ) : k0_pay21 (rows t I.dh) (rows t fun s => unit (I.x1 s)) (line f) = line fun j => f j + I.da (256 * t) 256 j := by
  simp only [k0_pay21, rows, line, cast_tab, mulf_tab, cols_n, cast_row, addf_tab, coe_sum, ← EReal.coe_mul, ← EReal.coe_add]
  rfl
theorem pay22 : k0_pay22 (rows t I.dh) (col t fun s => rinv (I.x1 s)) (rows t fun s => unit (I.x1 s)) (line I.gain) (rows t I.D) = rows t I.dx := by
  simp only [k0_pay22, rows, line, col, broadcast_tab, broadcastTo_row, mulf_tab, rows_n, cast_col, c_1024, divf_tab, coe_sum, div_1024,
    broadcastTo_col, subf_tab, addf_tab, ← EReal.coe_mul, ← EReal.coe_sub, ← EReal.coe_add]
  rfl
theorem pay23 (f : ℕ → ℕ → ℝ) : k0_pay23 (rows t f) = rows t f := pay16 t f
theorem pay24 (f : ℕ → ℕ → ℝ) : k0_pay24 (rows t f) = col t fun s => rinv (f s) := pay17 t f
theorem pay25 (f : ℕ → ℕ → ℝ) : k0_pay25 (rows t f) (col t fun s => rinv (f s)) = rows t fun s => unit (f s) := by
  simp only [k0_pay25, rows, col, broadcastTo_col, mulf_tab, ← EReal.coe_mul]
  rfl
theorem pay26 (f : ℕ → ℝ) : k0_pay26 (rows t I.dx) (rows t I.mix) (col t fun s => rinv (I.mix s)) (line f) = line fun j => f j + I.ds (256 * t) 256 j := by
  simp only [k0_pay26, pay25]
  simp only [rows, line, cast_tab, mulf_tab, cols_n, cast_row, addf_tab, coe_sum, ← EReal.coe_mul, ← EReal.coe_add]
  rfl
theorem pay27 : k0_pay27 (rows t I.dx) (rows t I.mix) (col t fun s => rinv (I.mix s)) (line (I.M 2)) (line I.G1) = half t I.dmix := by
  simp only [k0_pay27, pay25]
  simp only [rows, line, col, cast_tab, broadcast_tab, broadcastTo_row, mulf_tab, rows_n, cast_col, c_1024, divf_tab, coe_sum, div_1024,
    broadcastTo_col, subf_tab, truncf_tab, ← EReal.coe_mul, ← EReal.coe_sub]
  rfl
theorem pay28 : k0_pay28 (rows t I.dx) (rows t I.mix) (col t fun s => rinv (I.mix s)) (line (I.M 2)) (line I.G1) (Y21 g) (half t I.C) = Y21 (new21 I t g) := by
  simp only [k0_pay28, pay27]
  simp only [half, Y21, zero_tab, dot_w, quarters, addf_tab4, cast_same, coe_sum, ← EReal.coe_mul, ← EReal.coe_add]
  rfl
theorem pay29 (k : ℕ) : k0_pay29 (half t I.dmix) (wo I k) = tab fun r b => ((I.dc (256 * t + r) (256 * k + b) : ℝ) : EReal) := by
  simp only [k0_pay29, half, wo, cast_tab3, zero_tab, dot_c, coe_sum, ← EReal.coe_mul]
  exact tab_congr fun r _ b hb => congrArg _ (I.dc_block _ k b hb).symm

theorem of8 (k : ℕ) {p q b} (hp : p = half t I.h2) (hq : q = Eb I t k) (hb : b = box g k) : k0_pay8 p q b = box (new20 I t g) k := by
  subst hp hq hb; exact pay8 I t g k
theorem of11 (k : ℕ) {p q b} (hp : p = half t I.h2) (hq : q = Eb I t k) (hb : b = box g k) : k0_pay11 (k0_pay10 p q b) = box (new20 I t g) k :=
  of8 I t g k hp hq hb
theorem of12 (k : ℕ) {p q b} (hp : p = half t I.h2) (hq : q = Eb I t k) (hb : b = box g k) : k0_pay12 p q b = box (new20 I t g) k := by
  subst hp hq hb; exact pay12 I t g k
theorem of14 (k : ℕ) {p q b} (hp : p = half t I.h2) (hq : q = Eb I t k) (hb : b = box g k) : k0_pay14 p q b = box (new20 I t g) k :=
  of12 I t g k hp hq hb
theorem of7 {p} (hp : p = half t I.h2) : k0_pay7 p = half t I.h2 := by subst hp; exact pay7 I t
theorem of9 {p q} (hp : p = Eb I t 0) (hq : q = w1 I 0) : k0_pay9 p q = rows t (part I 0) := by subst hp hq; exact pay9 I t
theorem of13 {p q a b d} (hp : p = rows t (part I 0)) (hq : q = Eb I t 1) (ha : a = w1 I 1) (hb : b = Eb I t 2) (hd : d = w1 I 2) :
    k0_pay13 p q a b d = rows t fun s d => part I 0 s d + part I 1 s d + part I 2 s d := by subst hp hq ha hb hd; exact pay13 I t
theorem of15 {p q a} (hp : p = rows t fun s d => part I 0 s d + part I 1 s d + part I 2 s d) (hq : q = Eb I t 3) (ha : a = w1 I 3) :
    k0_pay15 p q a = rows t I.dh := by subst hp hq ha; exact pay15 I t
theorem of17 {f : ℕ → ℕ → ℝ} {p} (hp : p = rows t f) : k0_pay17 p = col t fun s => rinv (f s) := by subst hp; exact pay17 t f
theorem of18 {f : ℕ → ℕ → ℝ} {p} (hp : p = rows t f) : k0_pay18 p = rows t fun s => unit (f s) := by subst hp; exact pay18 t f
theorem of19 {p q} (hp : p = line I.G2) (hq : q = line (I.M 4)) : k0_pay19 p q = line I.gain := by subst hp hq; exact pay19 I
theorem of20 {p q} {f : ℕ → ℝ} (hp : p = rows t I.dh) (hq : q = line f) : k0_pay20 p q = line fun j => f j + I.dshift (256 * t) 256 j := by
  subst hp hq; exact pay20 I t f
theorem of21 {p u q} {f : ℕ → ℝ} (hp : p = rows t I.dh) (hu : u = rows t fun s => unit (I.x1 s)) (hq : q = line f) :
    k0_pay21 p u q = line fun j => f j + I.da (256 * t) 256 j := by subst hp hu hq; exact pay21 I t f
theorem of22 {p r u a d} (hp : p = rows t I.dh) (hr : r = col t fun s => rinv (I.x1 s)) (hu : u = rows t fun s => unit (I.x1 s)) (ha : a = line I.gain)
    (hd : d = rows t I.D) : k0_pay22 p r u a d = rows t I.dx := by subst hp hr hu ha hd; exact pay22 I t
theorem of23 {f : ℕ → ℕ → ℝ} {p} (hp : p = rows t f) : k0_pay23 p = rows t f := by subst hp; exact pay23 t f
theorem of26 {d x r q} {f : ℕ → ℝ} (hd : d = rows t I.dx) (hx : x = rows t I.mix) (hr : r = col t fun s => rinv (I.mix s)) (hq : q = line f) :
    k0_pay26 d x r q = line fun j => f j + I.ds (256 * t) 256 j := by subst hd hx hr hq; exact pay26 I t f
theorem of27 {d x r a b} (hd : d = rows t I.dx) (hx : x = rows t I.mix) (hr : r = col t fun s => rinv (I.mix s)) (ha : a = line (I.M 2)) (hb : b = line I.G1) :
    k0_pay27 d x r a b = half t I.dmix := by subst hd hx hr ha hb; exact pay27 I t
theorem of28 {d x r a b y z} (hd : d = rows t I.dx) (hx : x = rows t I.mix) (hr : r = col t fun s => rinv (I.mix s)) (ha : a = line (I.M 2)) (hb : b = line I.G1)
    (hy : y = Y21 g) (hz : z = half t I.C) : k0_pay28 d x r a b y z = Y21 (new21 I t g) := by subst hd hx hr ha hb hy hz; exact pay28 I t g
theorem of29 (k o : ℕ) {d w} (hd : d = half t I.dmix) (hw : w = wo I k) (ho : o = 256 * k) :
    k0_pay29 d w = tab fun r b => ((I.dc (256 * t + r) (o + b) : ℝ) : EReal) := by subst hd hw ho; exact pay29 I t k
theorem of30 (k o : ℕ) {d w} (hd : d = half t I.dmix) (hw : w = wo I k) (ho : o = 256 * k) :
    k0_pay30 d w = tab fun r b => ((I.dc (256 * t + r) (o + b) : ℝ) : EReal) := of29 I t k o hd hw ho
theorem of31 (k o : ℕ) {d w} (hd : d = half t I.dmix) (hw : w = wo I k) (ho : o = 256 * k) :
    k0_pay31 d w = tab fun r b => ((I.dc (256 * t + r) (o + b) : ℝ) : EReal) := of29 I t k o hd hw ho
theorem of32 (k o : ℕ) {d w} (hd : d = half t I.dmix) (hw : w = wo I k) (ho : o = 256 * k) :
    k0_pay1 d (k0_pay32 w) = tab fun r b => ((I.dc (256 * t + r) (o + b) : ℝ) : EReal) := of29 I t k o hd hw ho

/-! ## Loads -/

theorem load_rows (c : Dev nD) (A : Memref sig .tc .vmem S256x1024 .f32) (hA : A.IsWhole) (f : ℕ → ℕ → ℝ) (inb) :
    View.readAt (κ := Proc.kind (Dev.tc (τ := τ) c).2) (Elt Ideal) (Memref.view (κ := Proc.kind (Dev.tc (τ := τ) c).2) A)
    (Rect.unit (s := S256x1024) ![0, 0] ![256, 1024] inb).toLoadRect (hA.unread (rows t f)) = rows t f :=
  (load_tab (φ := .f32) c A hA 0 0 _ fun r j => ((f (256 * t + r) j : ℝ) : EReal)).trans (tab_congr fun a _ b _ => by simp only [Nat.zero_add])
theorem load_half (c : Dev nD) (A : Memref sig .tc .vmem S256x1024 .bf16) (hA : A.IsWhole) (f : ℕ → ℕ → ℝ) (inb) :
    View.readAt (κ := Proc.kind (Dev.tc (τ := τ) c).2) (Elt Ideal) (Memref.view (κ := Proc.kind (Dev.tc (τ := τ) c).2) A)
    (Rect.unit (s := S256x1024) ![0, 0] ![256, 1024] inb).toLoadRect (hA.unread (half t f)) = half t f :=
  (load_tab (φ := .bf16) c A hA 0 0 _ fun r j => ((f (256 * t + r) j : ℝ) : EReal)).trans (tab_congr fun a _ b _ => by simp only [Nat.zero_add])
theorem load_line (c : Dev nD) (A : Memref sig .tc .vmem S1x1024 .f32) (hA : A.IsWhole) (f : ℕ → ℝ) (inb) :
    View.readAt (κ := Proc.kind (Dev.tc (τ := τ) c).2) (Elt Ideal) (Memref.view (κ := Proc.kind (Dev.tc (τ := τ) c).2) A)
    (Rect.unit (s := S1x1024) ![0, 0] ![1, 1024] inb).toLoadRect (hA.unread (line f)) = line f :=
  (load_tab (φ := .f32) c A hA 0 0 _ fun _ j => ((f j : ℝ) : EReal)).trans (tab_congr fun a _ b _ => by simp only [Nat.zero_add])
theorem load_row (c : Dev nD) (A : Memref sig .tc .vmem S6x1024 .f32) (hA : A.IsWhole) (k : ℕ) (inb) :
    View.readAt (κ := Proc.kind (Dev.tc (τ := τ) c).2) (Elt Ideal) (Memref.view (κ := Proc.kind (Dev.tc (τ := τ) c).2) A)
    (Rect.unit (s := S6x1024) ![k, 0] ![1, 1024] inb).toLoadRect (hA.unread (X7 I)) = line (I.M k) :=
  (load_tab ..).trans (tab_congr fun a ha b _ => by rw [show a = 0 by omega, Nat.zero_add, Nat.add_zero])
theorem load_dp (c : Dev nD) (A : Memref sig .tc .vmem S256x4096 .bf16) (hA : A.IsWhole) (k o : ℕ) (inb) (ho : o = 1024 * k) :
    View.readAt (κ := Proc.kind (Dev.tc (τ := τ) c).2) (Elt Ideal) (Memref.view (κ := Proc.kind (Dev.tc (τ := τ) c).2) A)
    (Rect.unit (s := S256x4096) ![0, o] ![256, 1024] inb).toLoadRect (hA.unread (X1 I t)) = Eb I t k := by
  subst ho
  exact (load_tab (φ := .bf16) c A hA 0 (1024 * k) _ fun r a => ((I.E (256 * t + r) a : ℝ) : EReal)).trans
    (by unfold Eb half; exact tab_congr fun a _ b _ => by rw [Nat.zero_add])
theorem load_w1 (c : Dev nD) (A : Memref sig .tc .vmem S4x1024x1024 .bf16) (hA : A.IsWhole) (k : ℕ) (inb) :
    View.readAt (κ := Proc.kind (Dev.tc (τ := τ) c).2) (Elt Ideal) (Memref.view (κ := Proc.kind (Dev.tc (τ := τ) c).2) A)
    (Rect.unit (s := S4x1024x1024) ![k, 0, 0] ![1, 1024, 1024] inb).toLoadRect (hA.unread (X10 I)) = w1 I k :=
  (load_tab3 (φ := .bf16) c A hA k 0 0 _ fun k a b => ((I.W1 k a b : ℝ) : EReal)).trans
    (tab3_congr fun a ha b _ d _ => by simp only [show a = 0 by omega, Nat.zero_add, Nat.add_zero])
theorem load_wo (c : Dev nD) (A : Memref sig .tc .vmem S4x256x1024 .bf16) (hA : A.IsWhole) (k : ℕ) (inb) :
    View.readAt (κ := Proc.kind (Dev.tc (τ := τ) c).2) (Elt Ideal) (Memref.view (κ := Proc.kind (Dev.tc (τ := τ) c).2) A)
    (Rect.unit (s := S4x256x1024) ![k, 0, 0] ![1, 256, 1024] inb).toLoadRect (hA.unread (X11 I)) = wo I k :=
  (load_tab3 (φ := .bf16) c A hA k 0 0 _ fun k a b => ((I.Wo k a b : ℝ) : EReal)).trans
    (tab3_congr fun a ha b _ d _ => by simp only [show a = 0 by omega, Nat.zero_add, Nat.add_zero])
theorem load_20 (c : Dev nD) (A : Memref sig .tc .vmem S4x2x512x1024 .f32) (hA : A.IsWhole) (k : ℕ) (inb) :
    View.readAt (κ := Proc.kind (Dev.tc (τ := τ) c).2) (Elt Ideal) (Memref.view (κ := Proc.kind (Dev.tc (τ := τ) c).2) A)
    (Rect.unit (s := S4x2x512x1024) ![k, 0, 0, 0] ![1, 2, 512, 1024] inb).toLoadRect (hA.unread (Y20 g)) = box g k :=
  load_box (φ := .f32) c A hA k _ fun k b r j => ((g k b r j : ℝ) : EReal)
theorem load_21 (c : Dev nD) (A : Memref sig .tc .vmem S4x2x128x1024 .f32) (hA : A.IsWhole) (inb) :
    View.readAt (κ := Proc.kind (Dev.tc (τ := τ) c).2) (Elt Ideal) (Memref.view (κ := Proc.kind (Dev.tc (τ := τ) c).2) A)
    (Rect.unit (s := S4x2x128x1024) ![0, 0, 0, 0] ![4, 2, 128, 1024] inb).toLoadRect (hA.unread (Y21 g)) = Y21 g := by
  refine (View.readAt_eq_ld ..).trans ((congrArg (View.ld · _) (hA.read_unread _)).trans ?_)
  funext y
  show ((g (0 + 1 * (y 0).val) (0 + 1 * (y 1).val) (0 + 1 * (y 2).val) (0 + 1 * (y 3).val) : ℝ) : EReal) = _
  simp only [Nat.one_mul, Nat.zero_add]
  rfl
/-- Reading back the four blocks just stored whole. -/
theorem cov_21 (v : View sig .tc .vmem S4x2x128x1024 .f32) (L : List (View.Piece (Elt Ideal) S4x2x128x1024 .f32)) (inb)
    (h : ∀ y, View.canon L y = Y21 g y) :
    v.readCov L (Rect.unit (s := S4x2x128x1024) ![0, 0, 0, 0] ![4, 2, 128, 1024] inb).toLoadRect = Y21 g := by
  funext x
  refine (View.read_writes_junk_apply_eq_canon v _ L).trans ((h _).trans ?_)
  show ((g (0 + 1 * (x 0).val) (0 + 1 * (x 1).val) (0 + 1 * (x 2).val) (0 + 1 * (x 3).val) : ℝ) : EReal) = _
  simp only [Nat.one_mul, Nat.zero_add]
  rfl

/-- Contents read after the four blocks are stored whole. -/
theorem read_whole (A : Memref sig .tc .vmem S4x2x128x1024 .f32) (g : A.view.ty.Contents (Elt Ideal)) (f : ℕ → ℕ → ℕ → ℕ → EReal) (inb)
    (v : FVec Ideal S4x2x128x1024 .f32) (hv : v = tab4 f) (L : List (View.Piece (Elt Ideal) S4x2x128x1024 .f32)) :
    A.view.read (Elt Ideal) (A.view.writes (Elt Ideal) g
      ((⟨Rect.unit (s := S4x2x128x1024) ![0, 0, 0, 0] S4x2x128x1024.size inb, v⟩ : View.Piece (Elt Ideal) S4x2x128x1024 .f32) :: L)) = tab4 f := by
  funext y
  have hc := canon_stack (φ := .f32) inb f v hv L y
  have e : (Rect.unit (s := S4x2x128x1024) ![0, 0, 0, 0] S4x2x128x1024.size inb).emb y = y := by
    refine funext fun a => Fin.ext ?_
    match a with
    | 0 => show 0 + 1 * (y 0).val = (y 0).val; omega
    | 1 => show 0 + 1 * (y 1).val = (y 1).val; omega
    | 2 => show 0 + 1 * (y 2).val = (y 2).val; omega
    | 3 => show 0 + 1 * (y 3).val = (y 3).val; omega
  have hm : y ∈ (Rect.unit (s := S4x2x128x1024) ![0, 0, 0, 0] S4x2x128x1024.size inb).set := by
    have h := Finset.mem_map_of_mem (Rect.unit (s := S4x2x128x1024) ![0, 0, 0, 0] S4x2x128x1024.size inb).emb (Finset.mem_univ y)
    rwa [Rect.map_emb_univ, e] at h
  generalize hP : (⟨Rect.unit (s := S4x2x128x1024) ![0, 0, 0, 0] S4x2x128x1024.size inb, v⟩ : View.Piece (Elt Ideal) S4x2x128x1024 .f32) = P at hc ⊢
  have hy : y ∈ P.1.set := by
    rw [← hP]
    exact hm
  exact (at_head A g P L y hy).trans hc

/-! ## The results of a step -/

section
variable (g15 g16 g17 : ℕ → ℝ) (g20 g21 : ℕ → ℕ → ℕ → ℕ → ℝ) (c : Dev nD) (i : grid0.Coords)
  (arg1 : Memref sig .tc .vmem S256x4096 .bf16) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .bf16) (harg5 : arg5.IsWhole)
  (arg6 : Memref sig .tc .vmem S256x1024 .bf16) (harg6 : arg6.IsWhole)
  (arg7 : Memref sig .tc .vmem S6x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S4x1024x1024 .bf16) (harg10 : arg10.IsWhole)
  (arg11 : Memref sig .tc .vmem S4x256x1024 .bf16) (harg11 : arg11.IsWhole)
  (arg13 : Memref sig .tc .vmem S256x1024 .f32) (harg13 : arg13.IsWhole)
  (arg14 : Memref sig .tc .vmem S256x1024 .f32) (harg14 : arg14.IsWhole)
  (arg15 : Memref sig .tc .vmem S1x1024 .f32) (harg15 : arg15.IsWhole)
  (arg16 : Memref sig .tc .vmem S1x1024 .f32) (harg16 : arg16.IsWhole)
  (arg17 : Memref sig .tc .vmem S1x1024 .f32) (harg17 : arg17.IsWhole)
  (arg20 : Memref sig .tc .vmem S4x2x512x1024 .f32) (harg20 : arg20.IsWhole)
  (arg21 : Memref sig .tc .vmem S4x2x128x1024 .f32) (harg21 : arg21.IsWhole)
  (f12 : Inside (F := Ideal) c Src12) (f18 : Inside (F := Ideal) c Dst18) (f19 : Inside (F := Ideal) c Dst19)

theorem b_r : runB.sl.r (F := Ideal) c arg5 harg5 (half t I.h2) = half t I.h2 := of7 I t (load_half t c arg5 harg5 I.h2 _)
theorem b_r1 : runB.sl.r_1 (F := Ideal) c arg1 harg1 arg10 harg10 (X1 I t) (X10 I) = rows t (part I 0) := of9 I t (load_dp I t c arg1 harg1 0 0 _ rfl) (load_w1 I c arg10 harg10 0 _)
theorem b_r2 : runB.sl.r_2 (F := Ideal) c arg1 harg1 (X1 I t) = Eb I t 1 := load_dp I t c arg1 harg1 1 1024 _ rfl
theorem b_r4 : runB.sl.r_4 (F := Ideal) c arg1 harg1 arg10 harg10 (X1 I t) (X10 I) = rows t fun s d => part I 0 s d + part I 1 s d + part I 2 s d :=
  of13 I t (b_r1 I t c ..) (b_r2 I t c ..) (load_w1 I c arg10 harg10 1 _) (load_dp I t c arg1 harg1 2 2048 _ rfl) (load_w1 I c arg10 harg10 2 _)
theorem b_r5 : runB.sl.r_5 (F := Ideal) c arg1 harg1 (X1 I t) = Eb I t 3 := load_dp I t c arg1 harg1 3 3072 _ rfl
theorem b_r6 : runB.sl.r_6 (F := Ideal) c arg1 harg1 arg10 harg10 (X1 I t) (X10 I) = rows t I.dh := of15 I t (b_r4 I t c ..) (b_r5 I t c ..) (load_w1 I c arg10 harg10 3 _)
theorem b_r7 : runB.sl.r_7 (F := Ideal) c arg3 harg3 (rows t I.x1) = col t fun s => rinv (I.x1 s) := of17 t (load_rows t c arg3 harg3 I.x1 _)
theorem b_r8 : runB.sl.r_8 (F := Ideal) c arg3 harg3 (rows t I.x1) = rows t fun s => unit (I.x1 s) := of18 t (load_rows t c arg3 harg3 I.x1 _)
theorem b_r9 : runB.sl.r_9 (F := Ideal) c arg7 harg7 arg8 harg8 (X7 I) (line I.G2) = line I.gain := of19 I (load_line c arg8 harg8 I.G2 _) (load_row I c arg7 harg7 4 _)
theorem b_r10 : runB.sl.r_10 (F := Ideal) c arg1 harg1 arg2 harg2 arg3 harg3 arg7 harg7 arg8 harg8 arg10 harg10 (X1 I t) (rows t I.D) (rows t I.x1) (X7 I) (line I.G2) (X10 I) = rows t I.dx :=
  of22 I t (b_r6 I t c ..) (b_r7 I t c ..) (b_r8 I t c ..) (b_r9 I c ..) (load_rows t c arg2 harg2 I.D _)
theorem b_r11 : runB.sl.r_11 (F := Ideal) c arg4 harg4 (rows t I.mix) = rows t I.mix := of23 t (load_rows t c arg4 harg4 I.mix _)
theorem b_r12 : runB.sl.r_12 (F := Ideal) c arg4 harg4 (rows t I.mix) = col t fun s => rinv (I.mix s) := of17 t (load_rows t c arg4 harg4 I.mix _)
theorem b_r13 : runB.sl.r_13 (F := Ideal) c arg1 harg1 arg2 harg2 arg3 harg3 arg4 harg4 arg7 harg7 arg8 harg8 arg9 harg9 arg10 harg10 (X1 I t) (rows t I.D) (rows t I.x1) (rows t I.mix) (X7 I) (line I.G2) (line I.G1) (X10 I) = half t I.dmix :=
  of27 I t (b_r10 I t c ..) (b_r11 I t c ..) (b_r12 I t c ..) (load_row I c arg7 harg7 2 _) (load_line c arg9 harg9 I.G1 _)
variable (g : ℕ → ℕ → ℕ → ℕ → ℝ)
theorem b_new0 {b} (hb : b = box g 0) (i5 i1) : k0_pay8 (View.readAt (κ := Proc.kind (Dev.tc (τ := τ) c).2) (Elt Ideal) (Memref.view (κ := Proc.kind (Dev.tc (τ := τ) c).2) arg5)
    (Rect.unit (s := S256x1024) ![0, 0] ![256, 1024] i5).toLoadRect (harg5.unread (half t I.h2))) (View.readAt (κ := Proc.kind (Dev.tc (τ := τ) c).2) (Elt Ideal) (Memref.view (κ := Proc.kind (Dev.tc (τ := τ) c).2) arg1)
    (Rect.unit (s := S256x4096) ![0, 0] ![256, 1024] i1).toLoadRect (harg1.unread (X1 I t))) b
    = box (new20 I t g) 0 := of8 I t g 0 (load_half t c arg5 harg5 I.h2 _) (load_dp I t c arg1 harg1 0 0 _ rfl) hb
theorem b_new1 {b} (hb : b = box g 1) (i5) : k0_pay11 (k0_pay10 (View.readAt (κ := Proc.kind (Dev.tc (τ := τ) c).2) (Elt Ideal) (Memref.view (κ := Proc.kind (Dev.tc (τ := τ) c).2) arg5)
    (Rect.unit (s := S256x1024) ![0, 0] ![256, 1024] i5).toLoadRect (harg5.unread (half t I.h2))) (runB.sl.r_2 (F := Ideal) c arg1 harg1 (X1 I t)) b)
    = box (new20 I t g) 1 := of11 I t g 1 (load_half t c arg5 harg5 I.h2 _) (b_r2 I t c ..) hb
theorem b_new2 {b} (hb : b = box g 2) (i1) : k0_pay12 (runB.sl.r (F := Ideal) c arg5 harg5 (half t I.h2)) (View.readAt (κ := Proc.kind (Dev.tc (τ := τ) c).2) (Elt Ideal) (Memref.view (κ := Proc.kind (Dev.tc (τ := τ) c).2) arg1)
    (Rect.unit (s := S256x4096) ![0, 2048] ![256, 1024] i1).toLoadRect (harg1.unread (X1 I t))) b
    = box (new20 I t g) 2 := of12 I t g 2 (b_r I t c ..) (load_dp I t c arg1 harg1 2 2048 _ rfl) hb
theorem b_new3 {b} (hb : b = box g 3) : k0_pay14 (runB.sl.r (F := Ideal) c arg5 harg5 (half t I.h2)) (runB.sl.r_5 (F := Ideal) c arg1 harg1 (X1 I t)) b
    = box (new20 I t g) 3 := of14 I t g 3 (b_r I t c ..) (b_r5 I t c ..) hb
theorem b_dc (i0 i1 i2 i3 j0 j1 j2 j3) : View.canon (
    (⟨Rect.unit (s := S256x1024) ![0, 768] ![256, 256] i3, k0_pay1 (runB.sl.r_13 (F := Ideal) c arg1 harg1 arg2 harg2 arg3 harg3 arg4 harg4 arg7 harg7 arg8 harg8 arg9 harg9 arg10 harg10 (X1 I t) (rows t I.D) (rows t I.x1) (rows t I.mix) (X7 I) (line I.G2) (line I.G1) (X10 I)) (k0_pay32 (View.readAt (κ := Proc.kind (Dev.tc (τ := τ) c).2) (Elt Ideal) (Memref.view (κ := Proc.kind (Dev.tc (τ := τ) c).2) arg11)
    (Rect.unit (s := S4x256x1024) ![3, 0, 0] ![1, 256, 1024] j3).toLoadRect (harg11.unread (X11 I))))⟩ : View.Piece (Elt Ideal) S256x1024 .f32)
    :: ⟨Rect.unit (s := S256x1024) ![0, 512] ![256, 256] i2, k0_pay31 (runB.sl.r_13 (F := Ideal) c arg1 harg1 arg2 harg2 arg3 harg3 arg4 harg4 arg7 harg7 arg8 harg8 arg9 harg9 arg10 harg10 (X1 I t) (rows t I.D) (rows t I.x1) (rows t I.mix) (X7 I) (line I.G2) (line I.G1) (X10 I)) (View.readAt (κ := Proc.kind (Dev.tc (τ := τ) c).2) (Elt Ideal) (Memref.view (κ := Proc.kind (Dev.tc (τ := τ) c).2) arg11)
    (Rect.unit (s := S4x256x1024) ![2, 0, 0] ![1, 256, 1024] j2).toLoadRect (harg11.unread (X11 I)))⟩
    :: ⟨Rect.unit (s := S256x1024) ![0, 256] ![256, 256] i1, k0_pay30 (runB.sl.r_13 (F := Ideal) c arg1 harg1 arg2 harg2 arg3 harg3 arg4 harg4 arg7 harg7 arg8 harg8 arg9 harg9 arg10 harg10 (X1 I t) (rows t I.D) (rows t I.x1) (rows t I.mix) (X7 I) (line I.G2) (line I.G1) (X10 I)) (View.readAt (κ := Proc.kind (Dev.tc (τ := τ) c).2) (Elt Ideal) (Memref.view (κ := Proc.kind (Dev.tc (τ := τ) c).2) arg11)
    (Rect.unit (s := S4x256x1024) ![1, 0, 0] ![1, 256, 1024] j1).toLoadRect (harg11.unread (X11 I)))⟩
    :: ⟨Rect.unit (s := S256x1024) ![0, 0] ![256, 256] i0, k0_pay29 (runB.sl.r_13 (F := Ideal) c arg1 harg1 arg2 harg2 arg3 harg3 arg4 harg4 arg7 harg7 arg8 harg8 arg9 harg9 arg10 harg10 (X1 I t) (rows t I.D) (rows t I.x1) (rows t I.mix) (X7 I) (line I.G2) (line I.G1) (X10 I)) (View.readAt (κ := Proc.kind (Dev.tc (τ := τ) c).2) (Elt Ideal) (Memref.view (κ := Proc.kind (Dev.tc (τ := τ) c).2) arg11)
    (Rect.unit (s := S4x256x1024) ![0, 0, 0] ![1, 256, 1024] j0).toLoadRect (harg11.unread (X11 I)))⟩ :: [])
    = rows t I.dc :=
  canon_cols (φ := .f32) 256 512 768 rfl rfl rfl rfl _ _ _ _ (fun r a => ((I.dc (256 * t + r) a : ℝ) : EReal)) _ _ _ _
    (of29 I t 0 0 (b_r13 I t c ..) (load_wo I c arg11 harg11 0 _) rfl) (of30 I t 1 256 (b_r13 I t c ..) (load_wo I c arg11 harg11 1 _) rfl)
    (of31 I t 2 512 (b_r13 I t c ..) (load_wo I c arg11 harg11 2 _) rfl) (of32 I t 3 768 (b_r13 I t c ..) (load_wo I c arg11 harg11 3 _) rfl) []

/-! The first step: the running results start from zero. -/

theorem a_v86 : runA.sl.v86 (F := Ideal) c arg15 = line fun _ => 0 := fill_tab c arg15 _ _ _ _ pay2
theorem a_v92 : runA.sl.v92 (F := Ideal) c arg16 = line fun _ => 0 := fill_tab c arg16 _ _ _ _ pay3
theorem a_v126 : runA.sl.v126 (F := Ideal) c arg17 = line fun _ => 0 := fill_tab c arg17 _ _ _ _ pay4
theorem a_H20 (y) : View.canon (runA.sl.H20_1 (F := Ideal)) y = tab4 (fun _ _ _ _ => ((0 : ℝ) : EReal)) y := canon_stack (φ := .f32) _ _ _ pay5 _ y
theorem a_v150 : runA.sl.v150 (F := Ideal) c arg21 = Y21 (fun _ _ _ _ => (0 : ℝ)) := cov_21 _ _ _ _ fun y => canon_stack (φ := .f32) _ _ _ pay6 _ y
theorem a_v6 : runA.sl.v6 (F := Ideal) c arg20 = box (fun _ _ _ _ => (0 : ℝ)) 0 := cov_box (φ := .f32) _ _ 0 _ (fun _ _ _ _ => ((0 : ℝ) : EReal)) fun y _ => a_H20 y
theorem a_v21 : runA.sl.v21 (F := Ideal) c arg1 harg1 arg5 harg5 arg20 (X1 I t) (half t I.h2) = box (fun _ _ _ _ => (0 : ℝ)) 1 :=
  cov_box (φ := .f32) _ _ 1 _ (fun _ _ _ _ => ((0 : ℝ) : EReal)) fun y hy => (canon_miss 0 _ _ _ y (by omega)).trans (a_H20 y)
theorem a_v37 : runA.sl.v37 (F := Ideal) c arg1 harg1 arg5 harg5 arg20 (X1 I t) (half t I.h2) = box (fun _ _ _ _ => (0 : ℝ)) 2 :=
  cov_box (φ := .f32) _ _ 2 _ (fun _ _ _ _ => ((0 : ℝ) : EReal)) fun y hy => (canon_miss 1 _ _ _ y (by omega)).trans ((canon_miss 0 _ _ _ y (by omega)).trans (a_H20 y))
theorem a_v53 : runA.sl.v53 (F := Ideal) c arg1 harg1 arg5 harg5 arg20 (X1 I t) (half t I.h2) = box (fun _ _ _ _ => (0 : ℝ)) 3 :=
  cov_box (φ := .f32) _ _ 3 _ (fun _ _ _ _ => ((0 : ℝ) : EReal)) fun y hy => (canon_miss 2 _ _ _ y (by omega)).trans
    ((canon_miss 1 _ _ _ y (by omega)).trans ((canon_miss 0 _ _ _ y (by omega)).trans (a_H20 y)))

theorem outA_13 (hs : First i) (he : ¬ Final i) : View.canon (runA c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I)  f12 f18 f19).1.p13 = rows t I.dx := by
  unfold runA
  exact canon_tab (φ := .f32) _ _ _ (b_r10 I t c ..) _
theorem outA_14 (hs : First i) (he : ¬ Final i) : View.canon (runA c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I)  f12 f18 f19).1.p14 = rows t I.dc := by
  unfold runA
  exact b_dc I t c ..
theorem outA_15 (hs : First i) (he : ¬ Final i) : View.canon (runA c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I)  f12 f18 f19).1.p15 = line fun j => 0 + I.dshift (256 * t) 256 j := by
  unfold runA
  exact canon_tab (φ := .f32) _ _ _ (of20 I t (b_r6 I t c ..) (a_v86 c ..)) _
theorem outA_16 (hs : First i) (he : ¬ Final i) : View.canon (runA c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I)  f12 f18 f19).1.p16 = line fun j => 0 + I.da (256 * t) 256 j := by
  unfold runA
  exact canon_tab (φ := .f32) _ _ _ (of21 I t (b_r6 I t c ..) (b_r8 I t c ..) (a_v92 c ..)) _
theorem outA_17 (hs : First i) (he : ¬ Final i) : View.canon (runA c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I)  f12 f18 f19).1.p17 = line fun j => 0 + I.ds (256 * t) 256 j := by
  unfold runA
  exact canon_tab (φ := .f32) _ _ _ (of26 I t (b_r10 I t c ..) (b_r11 I t c ..) (b_r12 I t c ..) (a_v126 c ..)) _
theorem outA_20 (hs : First i) (he : ¬ Final i) : View.canon (runA c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I)  f12 f18 f19).1.p20 = Y20 (new20 I t (fun _ _ _ _ => (0 : ℝ))) := by
  unfold runA
  exact canon_boxes (φ := .f32) _ _ _ _ (fun k b r j => ((new20 I t (fun _ _ _ _ => (0 : ℝ)) k b r j : ℝ) : EReal)) _ _ _ _
    (b_new0 I t c (g := (fun _ _ _ _ => (0 : ℝ))) (hb := a_v6 c ..) ..) (b_new1 I t c (g := (fun _ _ _ _ => (0 : ℝ))) (hb := a_v21 I t c ..) ..)
    (b_new2 I t c (g := (fun _ _ _ _ => (0 : ℝ))) (hb := a_v37 I t c ..) ..) (b_new3 I t c (g := (fun _ _ _ _ => (0 : ℝ))) (hb := a_v53 I t c ..) ..) _
theorem outA_21 (hs : First i) (he : ¬ Final i) : View.canon (runA c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I)  f12 f18 f19).1.p21 = Y21 (new21 I t (fun _ _ _ _ => (0 : ℝ))) := by
  unfold runA
  exact funext fun y => canon_stack (φ := .f32) _ _ _ (of28 I t (fun _ _ _ _ => (0 : ℝ)) (b_r10 I t c ..) (b_r11 I t c ..) (b_r12 I t c ..) (load_row I c arg7 harg7 2 _)
    (load_line c arg9 harg9 I.G1 _) (a_v150 c ..) (load_half t c arg6 harg6 I.C _)) _ y

theorem outB_13 (hs : ¬ First i) (he : ¬ Final i) : View.canon (runB c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I) (line g15) (line g16) (line g17) (Y20 g20) (Y21 g21) f12 f18 f19).1.p13 = rows t I.dx := by
  unfold runB
  exact canon_tab (φ := .f32) _ _ _ (b_r10 I t c ..) _
theorem outB_14 (hs : ¬ First i) (he : ¬ Final i) : View.canon (runB c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I) (line g15) (line g16) (line g17) (Y20 g20) (Y21 g21) f12 f18 f19).1.p14 = rows t I.dc := by
  unfold runB
  exact b_dc I t c ..
theorem outB_15 (hs : ¬ First i) (he : ¬ Final i) : View.canon (runB c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I) (line g15) (line g16) (line g17) (Y20 g20) (Y21 g21) f12 f18 f19).1.p15 = line fun j => g15 j + I.dshift (256 * t) 256 j := by
  unfold runB
  exact canon_tab (φ := .f32) _ _ _ (of20 I t (b_r6 I t c ..) (load_line c arg15 harg15 g15 _)) _
theorem outB_16 (hs : ¬ First i) (he : ¬ Final i) : View.canon (runB c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I) (line g15) (line g16) (line g17) (Y20 g20) (Y21 g21) f12 f18 f19).1.p16 = line fun j => g16 j + I.da (256 * t) 256 j := by
  unfold runB
  exact canon_tab (φ := .f32) _ _ _ (of21 I t (b_r6 I t c ..) (b_r8 I t c ..) (load_line c arg16 harg16 g16 _)) _
theorem outB_17 (hs : ¬ First i) (he : ¬ Final i) : View.canon (runB c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I) (line g15) (line g16) (line g17) (Y20 g20) (Y21 g21) f12 f18 f19).1.p17 = line fun j => g17 j + I.ds (256 * t) 256 j := by
  unfold runB
  exact canon_tab (φ := .f32) _ _ _ (of26 I t (b_r10 I t c ..) (b_r11 I t c ..) (b_r12 I t c ..) (load_line c arg17 harg17 g17 _)) _
theorem outB_20 (hs : ¬ First i) (he : ¬ Final i) : View.canon (runB c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I) (line g15) (line g16) (line g17) (Y20 g20) (Y21 g21) f12 f18 f19).1.p20 = Y20 (new20 I t g20) := by
  unfold runB
  exact canon_boxes (φ := .f32) _ _ _ _ (fun k b r j => ((new20 I t g20 k b r j : ℝ) : EReal)) _ _ _ _
    (b_new0 I t c (g := g20) (hb := load_20 g20 c arg20 harg20 0 _) ..) (b_new1 I t c (g := g20) (hb := load_20 g20 c arg20 harg20 1 _) ..)
    (b_new2 I t c (g := g20) (hb := load_20 g20 c arg20 harg20 2 _) ..) (b_new3 I t c (g := g20) (hb := load_20 g20 c arg20 harg20 3 _) ..) _
theorem outB_21 (hs : ¬ First i) (he : ¬ Final i) : View.canon (runB c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I) (line g15) (line g16) (line g17) (Y20 g20) (Y21 g21) f12 f18 f19).1.p21 = Y21 (new21 I t g21) := by
  unfold runB
  exact funext fun y => canon_stack (φ := .f32) _ _ _ (of28 I t g21 (b_r10 I t c ..) (b_r11 I t c ..) (b_r12 I t c ..) (load_row I c arg7 harg7 2 _)
    (load_line c arg9 harg9 I.G1 _) (load_21 g21 c arg21 harg21 _) (load_half t c arg6 harg6 I.C _)) _ y

theorem outC_13 (hs : ¬ First i) (he : Final i) : View.canon (runC c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I) (line g15) (line g16) (line g17) (Y20 g20) (Y21 g21) f12 f18 f19).1.p13 = rows t I.dx := by
  unfold runC
  exact canon_tab (φ := .f32) _ _ _ (b_r10 I t c ..) _
theorem outC_14 (hs : ¬ First i) (he : Final i) : View.canon (runC c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I) (line g15) (line g16) (line g17) (Y20 g20) (Y21 g21) f12 f18 f19).1.p14 = rows t I.dc := by
  unfold runC
  exact b_dc I t c ..
theorem outC_15 (hs : ¬ First i) (he : Final i) : View.canon (runC c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I) (line g15) (line g16) (line g17) (Y20 g20) (Y21 g21) f12 f18 f19).1.p15 = line fun j => g15 j + I.dshift (256 * t) 256 j := by
  unfold runC
  exact canon_tab (φ := .f32) _ _ _ (of20 I t (b_r6 I t c ..) (load_line c arg15 harg15 g15 _)) _
theorem outC_16 (hs : ¬ First i) (he : Final i) : View.canon (runC c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I) (line g15) (line g16) (line g17) (Y20 g20) (Y21 g21) f12 f18 f19).1.p16 = line fun j => g16 j + I.da (256 * t) 256 j := by
  unfold runC
  exact canon_tab (φ := .f32) _ _ _ (of21 I t (b_r6 I t c ..) (b_r8 I t c ..) (load_line c arg16 harg16 g16 _)) _
theorem outC_17 (hs : ¬ First i) (he : Final i) : View.canon (runC c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I) (line g15) (line g16) (line g17) (Y20 g20) (Y21 g21) f12 f18 f19).1.p17 = line fun j => g17 j + I.ds (256 * t) 256 j := by
  unfold runC
  exact canon_tab (φ := .f32) _ _ _ (of26 I t (b_r10 I t c ..) (b_r11 I t c ..) (b_r12 I t c ..) (load_line c arg17 harg17 g17 _)) _
theorem outC_20 (hs : ¬ First i) (he : Final i) : View.canon (runC c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I) (line g15) (line g16) (line g17) (Y20 g20) (Y21 g21) f12 f18 f19).1.p20 = Y20 (new20 I t g20) := by
  unfold runC
  exact canon_boxes (φ := .f32) _ _ _ _ (fun k b r j => ((new20 I t g20 k b r j : ℝ) : EReal)) _ _ _ _
    (b_new0 I t c (g := g20) (hb := load_20 g20 c arg20 harg20 0 _) ..) (b_new1 I t c (g := g20) (hb := load_20 g20 c arg20 harg20 1 _) ..)
    (b_new2 I t c (g := g20) (hb := load_20 g20 c arg20 harg20 2 _) ..) (b_new3 I t c (g := g20) (hb := load_20 g20 c arg20 harg20 3 _) ..) _
theorem outC_21 (hs : ¬ First i) (he : Final i) : View.canon (runC c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I) (line g15) (line g16) (line g17) (Y20 g20) (Y21 g21) f12 f18 f19).1.p21 = Y21 (new21 I t g21) := by
  unfold runC
  exact funext fun y => canon_stack (φ := .f32) _ _ _ (of28 I t g21 (b_r10 I t c ..) (b_r11 I t c ..) (b_r12 I t c ..) (load_row I c arg7 harg7 2 _)
    (load_line c arg9 harg9 I.G1 _) (load_21 g21 c arg21 harg21 _) (load_half t c arg6 harg6 I.C _)) _ y

/-! The last step copies the accumulated blocks out. -/

theorem c_copy0 : runC.sl.dma5 (F := Ideal) c arg1 harg1 arg5 harg5 arg20 harg20 (X1 I t) (half t I.h2) (Y20 g20) = tab3 fun b r j => ((new20 I t g20 0 b r j : ℝ) : EReal) :=
  read_last (φ := .f32) arg20 0 _ _ _ _ _ (fun k b r j => ((new20 I t g20 k b r j : ℝ) : EReal)) _ (b_new0 I t c (g := g20) (hb := load_20 g20 c arg20 harg20 0 _) ..) _
theorem c_copy1 : runC.sl.dma10 (F := Ideal) c arg1 harg1 arg5 harg5 arg20 harg20 (X1 I t) (half t I.h2) (Y20 g20) = tab3 fun b r j => ((new20 I t g20 1 b r j : ℝ) : EReal) :=
  read_last (φ := .f32) arg20 1 _ _ _ _ _ (fun k b r j => ((new20 I t g20 k b r j : ℝ) : EReal)) _ (b_new1 I t c (g := g20) (hb := load_20 g20 c arg20 harg20 1 _) ..) _
theorem c_copy2 : runC.sl.dma15 (F := Ideal) c arg1 harg1 arg5 harg5 arg20 harg20 (X1 I t) (half t I.h2) (Y20 g20) = tab3 fun b r j => ((new20 I t g20 2 b r j : ℝ) : EReal) :=
  read_last (φ := .f32) arg20 2 _ _ _ _ _ (fun k b r j => ((new20 I t g20 k b r j : ℝ) : EReal)) _ (b_new2 I t c (g := g20) (hb := load_20 g20 c arg20 harg20 2 _) ..) _
theorem c_copy3 : runC.sl.dma20 (F := Ideal) c arg1 harg1 arg5 harg5 arg20 harg20 (X1 I t) (half t I.h2) (Y20 g20) = tab3 fun b r j => ((new20 I t g20 3 b r j : ℝ) : EReal) :=
  read_last (φ := .f32) arg20 3 _ _ _ _ _ (fun k b r j => ((new20 I t g20 k b r j : ℝ) : EReal)) _ (b_new3 I t c (g := g20) (hb := load_20 g20 c arg20 harg20 3 _) ..) _
theorem c_H21 : arg21.view.read (Elt Ideal) (arg21.view.writes (Elt Ideal) (harg21.unread (Y21 g21)) (runC.sl.H21_1 (F := Ideal) c arg1 harg1 arg2 harg2 arg3 harg3 arg4 harg4 arg6 harg6 arg7 harg7 arg8 harg8 arg9 harg9 arg10 harg10 arg21 harg21 (X1 I t) (rows t I.D) (rows t I.x1) (rows t I.mix) (half t I.C) (X7 I) (line I.G2) (line I.G1) (X10 I) (Y21 g21))) = Y21 (new21 I t g21) :=
  read_whole arg21 _ _ _ _ (of28 I t g21 (b_r10 I t c ..) (b_r11 I t c ..) (b_r12 I t c ..) (load_row I c arg7 harg7 2 _)
    (load_line c arg9 harg9 I.G1 _) (load_21 g21 c arg21 harg21 _) (load_half t c arg6 harg6 I.C _)) _
theorem c_copied0 : runC.sl.dma43 (F := Ideal) c arg1 harg1 arg2 harg2 arg3 harg3 arg4 harg4 arg6 harg6 arg7 harg7 arg8 harg8 arg9 harg9 arg10 harg10 arg21 harg21 (X1 I t) (rows t I.D) (rows t I.x1) (rows t I.mix) (half t I.C) (X7 I) (line I.G2) (line I.G1) (X10 I) (Y21 g21) = tab3 fun b r j => ((new21 I t g21 0 b r j : ℝ) : EReal) :=
  read_box (φ := .f32) arg21 0 _ _ _ _ (fun k b r j => ((new21 I t g21 k b r j : ℝ) : EReal)) (c_H21 I t g21 c ..)
theorem c_copied1 : runC.sl.dma46 (F := Ideal) c arg1 harg1 arg2 harg2 arg3 harg3 arg4 harg4 arg6 harg6 arg7 harg7 arg8 harg8 arg9 harg9 arg10 harg10 arg21 harg21 (X1 I t) (rows t I.D) (rows t I.x1) (rows t I.mix) (half t I.C) (X7 I) (line I.G2) (line I.G1) (X10 I) (Y21 g21) = tab3 fun b r j => ((new21 I t g21 1 b r j : ℝ) : EReal) :=
  read_box (φ := .f32) arg21 1 _ _ _ _ (fun k b r j => ((new21 I t g21 k b r j : ℝ) : EReal)) (c_H21 I t g21 c ..)
theorem c_copied2 : runC.sl.dma49 (F := Ideal) c arg1 harg1 arg2 harg2 arg3 harg3 arg4 harg4 arg6 harg6 arg7 harg7 arg8 harg8 arg9 harg9 arg10 harg10 arg21 harg21 (X1 I t) (rows t I.D) (rows t I.x1) (rows t I.mix) (half t I.C) (X7 I) (line I.G2) (line I.G1) (X10 I) (Y21 g21) = tab3 fun b r j => ((new21 I t g21 2 b r j : ℝ) : EReal) :=
  read_box (φ := .f32) arg21 2 _ _ _ _ (fun k b r j => ((new21 I t g21 k b r j : ℝ) : EReal)) (c_H21 I t g21 c ..)
theorem c_copied3 : runC.sl.dma52 (F := Ideal) c arg1 harg1 arg2 harg2 arg3 harg3 arg4 harg4 arg6 harg6 arg7 harg7 arg8 harg8 arg9 harg9 arg10 harg10 arg21 harg21 (X1 I t) (rows t I.D) (rows t I.x1) (rows t I.mix) (half t I.C) (X7 I) (line I.G2) (line I.G1) (X10 I) (Y21 g21) = tab3 fun b r j => ((new21 I t g21 3 b r j : ℝ) : EReal) :=
  read_box (φ := .f32) arg21 3 _ _ _ _ (fun k b r j => ((new21 I t g21 k b r j : ℝ) : EReal)) (c_H21 I t g21 c ..)
theorem outC_18 (hs : ¬ First i) (he : Final i) : (runC c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I) (line g15) (line g16) (line g17) (Y20 g20) (Y21 g21) f12 f18 f19).1.g18 = Y20 (new20 I t g20) := by
  unfold runC
  exact put_boxes (φ := .f32) (View.whole main_v47_5) _ _ _ _ _ _ _ _ _ _ _ _ _ (fun k b r j => ((new20 I t g20 k b r j : ℝ) : EReal))
    (c_copy0 I t g20 c ..) (c_copy1 I t g20 c ..) (c_copy2 I t g20 c ..) (c_copy3 I t g20 c ..)
theorem outC_19 (hs : ¬ First i) (he : Final i) : (runC c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg20 harg20 arg21 harg21 hs he (X1 I t) (rows t I.D) (rows t I.x1) (rows t I.mix) (half t I.h2) (half t I.C) (X7 I) (line I.G2) (line I.G1) (X10 I) (X11 I) (line g15) (line g16) (line g17) (Y20 g20) (Y21 g21) f12 f18 f19).1.g19 = Y21 (new21 I t g21) := by
  unfold runC
  exact put_boxes (φ := .f32) (View.whole main_v47_6) _ _ _ _ _ _ _ _ _ _ _ _ _ (fun k b r j => ((new21 I t g21 k b r j : ℝ) : EReal))
    (c_copied0 I t g21 c ..) (c_copied1 I t g21 c ..) (c_copied2 I t g21 c ..) (c_copied3 I t g21 c ..)
end

end Cert.BwdMidIdeal.Hand
-- ==== Proof.BwdMidRef.lean ====
module

public import proofs.«01_k».proof.Proof.BwdMidMath
public import proofs.«01_k».proof.Proof.Gen.BwdMidRefIdeal.Read

/-!
What the reference of the middle gradients computes, one stage after another: each lemma gives a stage's array at an index as the
real number that `BwdMidMath` names.
-/

@[expose] public section

set_option maxRecDepth 16384

noncomputable section

namespace Cert.BwdMidRefIdeal.Hand

open Idealize.ShloMosaic Cert.Rms Cert.MixerOps Cert.MixerHost Cert.BwdMidMath Cert.BwdMidRefIdeal.Gen Cert.BwdMidRefIdeal.Read
open Cert.MixerMath (coe_sum eps)

variable (I : Inp)

/-! ## The arguments -/

def R0 : (⟨S4096x1024, .f32⟩ : BufTy).Contents (Elt Ideal) := tab fun a b => ((I.X a b : ℝ) : EReal)
def R1 : (⟨S4096x1024, .bf16⟩ : BufTy).Contents (Elt Ideal) := tab fun a b => ((I.C a b : ℝ) : EReal)
def R2 : (⟨S4096x4096, .bf16⟩ : BufTy).Contents (Elt Ideal) := tab fun a b => ((I.E a b : ℝ) : EReal)
def R3 : (⟨S4096x1024, .f32⟩ : BufTy).Contents (Elt Ideal) := tab fun a b => ((I.D a b : ℝ) : EReal)
def R4 : (⟨S6x1024, .f32⟩ : BufTy).Contents (Elt Ideal) := tab fun a b => ((I.M a b : ℝ) : EReal)
def R5 : (⟨S1024, .f32⟩ : BufTy).Contents (Elt Ideal) := tab1 fun a => ((I.G1 a : ℝ) : EReal)
def R6 : (⟨S1024, .f32⟩ : BufTy).Contents (Elt Ideal) := tab1 fun a => ((I.G2 a : ℝ) : EReal)
def R7 : (⟨S4x1024x1024, .bf16⟩ : BufTy).Contents (Elt Ideal) := tab3 fun a b c => ((I.W1 a b c : ℝ) : EReal)
def R8 : (⟨S4x256x1024, .bf16⟩ : BufTy).Contents (Elt Ideal) := tab3 fun a b c => ((I.Wo a b c : ℝ) : EReal)

theorem r0 (i : S4096x1024.Idx) : R0 I i = ((I.X (i 0).val (i 1).val : ℝ) : EReal) := rfl
theorem r1 (i : S4096x1024.Idx) : R1 I i = ((I.C (i 0).val (i 1).val : ℝ) : EReal) := rfl
theorem r2 (i : S4096x4096.Idx) : R2 I i = ((I.E (i 0).val (i 1).val : ℝ) : EReal) := rfl
theorem r3 (i : S4096x1024.Idx) : R3 I i = ((I.D (i 0).val (i 1).val : ℝ) : EReal) := rfl
theorem r4 (i : S6x1024.Idx) : R4 I i = ((I.M (i 0).val (i 1).val : ℝ) : EReal) := rfl
theorem r5 (i : S1024.Idx) : R5 I i = ((I.G1 (i 0).val : ℝ) : EReal) := rfl
theorem r6 (i : S1024.Idx) : R6 I i = ((I.G2 (i 0).val : ℝ) : EReal) := rfl
theorem r7 (i : S4x1024x1024.Idx) : R7 I i = ((I.W1 (i 0).val (i 1).val (i 2).val : ℝ) : EReal) := rfl
theorem r8 (i : S4x256x1024.Idx) : R8 I i = ((I.Wo (i 0).val (i 1).val (i 2).val : ℝ) : EReal) := rfl

/-! ## The stages -/

theorem v3 (i) : val_main_v3 (F := Ideal) (R4 I) (R5 I) i = ((I.gate (i 0).val : ℝ) : EReal) := by
  simp only [val_main_v3_apply, val_main_v2_apply, val_main_v1_apply, r4, r5, mul_r, Nat.mod_eq_of_lt (show (i 0).val < 1024 from (i 0).isLt), Nat.add_zero]
  rfl
theorem v8 (i) : val_main_v8 (F := Ideal) (R4 I) (R6 I) i = ((I.gain (i 0).val : ℝ) : EReal) := by
  simp only [val_main_v8_apply, val_main_v7_apply, val_main_v6_apply, val_main_v5_apply, val_main_cst_apply, val_main_v4_apply, r4, r6, w_1, add_r, mul_r,
    Nat.mod_eq_of_lt (show (i 0).val < 1024 from (i 0).isLt), Nat.add_zero]
  rfl
theorem v10 (i) : val_main_v10 (F := Ideal) (R4 I) i = ((I.M 3 (i 0).val : ℝ) : EReal) := by
  simp only [val_main_v10_apply, val_main_v9_apply, r4, Nat.mod_eq_of_lt (show (i 0).val < 1024 from (i 0).isLt), Nat.add_zero]

theorem v13 (i) : val_main_v13 (F := Ideal) (R8 I) i = ((I.Wo ((i 0).val / 256) ((i 0).val % 256) (i 1).val : ℝ) : EReal) := by
  simp only [val_main_v13_apply, val_main_v12_apply, r8, extf_r]
  have h0 : (i 0).val < 1024 := (i 0).isLt
  have h1 : (i 1).val < 1024 := (i 1).isLt
  rw [show ((i 0).val * 1024 + (i 1).val) / 262144 = (i 0).val / 256 by omega,
    show ((i 0).val * 1024 + (i 1).val) / 1024 % 256 = (i 0).val % 256 by omega, show ((i 0).val * 1024 + (i 1).val) % 1024 = (i 1).val by omega]
theorem v52 (i) : val_main_v52 (F := Ideal) (R7 I) i = ((I.W1 ((i 1).val / 1024) (i 0).val ((i 1).val % 1024) : ℝ) : EReal) := by
  simp only [val_main_v52_apply, val_main_v51_apply, val_main_v11_apply, r7, extf_r]
  have h0 : (i 0).val < 1024 := (i 0).isLt
  have h1 : (i 1).val < 4096 := (i 1).isLt
  rw [show ((i 0).val * 4096 + (i 1).val) / 1024 % 4 = (i 1).val / 1024 by omega,
    show ((i 0).val * 4096 + (i 1).val) / 4096 = (i 0).val by omega, show ((i 0).val * 4096 + (i 1).val) % 1024 = (i 1).val % 1024 by omega]
theorem v14 (i) : val_main_v14 (F := Ideal) (R1 I) (R8 I) i = ((I.mix (i 0).val (i 1).val : ℝ) : EReal) := by
  simp only [val_main_v14_apply, val_main_v0_apply, v13, r1, coe_sum, emul_r, extf_r]
  rw [Inp.mix, Finset.sum_range]
theorem v21 (i) : val_main_v21 (F := Ideal) (R1 I) (R8 I) i = ((power (I.mix (i 0).val) : ℝ) : EReal) := by
  simp only [val_main_v21_apply, val_main_v19_apply, val_main_v20_apply, val_main_v17_apply, val_main_v18_apply, val_main_cst_2_apply, val_main_v16_apply,
    val_main_cst_1_apply, val_main_v15_apply, val_main_cst_0_apply, v14, w_0, w_1024, w_eps, add_r, coe_sum, eadd_r, mul_r, zero_add,
    div_r _ _ (by norm_num : (1024 : ℝ) ≠ 0)]
  rw [power, mean, Finset.sum_range]
theorem v22 (i) : val_main_v22 (F := Ideal) (R1 I) (R8 I) i = ((rinv (I.mix (i 0).val) : ℝ) : EReal) := by
  simp only [val_main_v22_apply, v21, rsqrt_r _ (power_pos _)]
  rfl
theorem v23 (i) : val_main_v23 (F := Ideal) (R1 I) (R8 I) i = ((rinv (I.mix (i 0).val) / power (I.mix (i 0).val) : ℝ) : EReal) := by
  simp only [val_main_v23_apply, v21, v22, div_r _ _ (power_pos _).ne']

theorem v25 (i) : val_main_v25 (F := Ideal) (R1 I) (R8 I) i = ((-(1 / 2) * (rinv (I.mix (i 0).val) / power (I.mix (i 0).val)) : ℝ) : EReal) := by
  simp only [val_main_v25_apply, val_main_v24_apply, val_main_cst_3_apply, v23, w_mhalf, mul_r]

theorem v27 (i) : val_main_v27 (F := Ideal) (R1 I) (R8 I) i = ((unit (I.mix (i 0).val) (i 1).val : ℝ) : EReal) := by
  simp only [val_main_v27_apply, val_main_v26_apply, v14, v22, mul_r]
  rfl
theorem v31 (i) : val_main_v31 (F := Ideal) (R0 I) (R1 I) (R4 I) (R5 I) (R8 I) i = ((I.x1 (i 0).val (i 1).val : ℝ) : EReal) := by
  simp only [val_main_v31_apply, val_main_v30_apply, val_main_v29_apply, val_main_v28_apply, v27, v3, r0, add_r, mul_r]
  rfl
theorem v38 (i) : val_main_v38 (F := Ideal) (R0 I) (R1 I) (R4 I) (R5 I) (R8 I) i = ((power (I.x1 (i 0).val) : ℝ) : EReal) := by
  simp only [val_main_v38_apply, val_main_v36_apply, val_main_v37_apply, val_main_v34_apply, val_main_v35_apply, val_main_cst_6_apply, val_main_v33_apply,
    val_main_cst_5_apply, val_main_v32_apply, val_main_cst_4_apply, v31, w_0, w_1024, w_eps, add_r, coe_sum, eadd_r, mul_r, zero_add,
    div_r _ _ (by norm_num : (1024 : ℝ) ≠ 0)]
  rw [power, mean, Finset.sum_range]
theorem v39 (i) : val_main_v39 (F := Ideal) (R0 I) (R1 I) (R4 I) (R5 I) (R8 I) i = ((rinv (I.x1 (i 0).val) : ℝ) : EReal) := by
  simp only [val_main_v39_apply, v38, rsqrt_r _ (power_pos _)]
  rfl
theorem v40 (i) : val_main_v40 (F := Ideal) (R0 I) (R1 I) (R4 I) (R5 I) (R8 I) i = ((rinv (I.x1 (i 0).val) / power (I.x1 (i 0).val) : ℝ) : EReal) := by
  simp only [val_main_v40_apply, v38, v39, div_r _ _ (power_pos _).ne']

theorem v42 (i) : val_main_v42 (F := Ideal) (R0 I) (R1 I) (R4 I) (R5 I) (R8 I) i = ((-(1 / 2) * (rinv (I.x1 (i 0).val) / power (I.x1 (i 0).val)) : ℝ) : EReal) := by
  simp only [val_main_v42_apply, val_main_v41_apply, val_main_cst_7_apply, v40, w_mhalf, mul_r]

theorem v44 (i) : val_main_v44 (F := Ideal) (R0 I) (R1 I) (R4 I) (R5 I) (R8 I) i = ((unit (I.x1 (i 0).val) (i 1).val : ℝ) : EReal) := by
  simp only [val_main_v44_apply, val_main_v43_apply, v31, v39, mul_r]
  rfl
theorem v50 (i) : val_main_v50 (F := Ideal) (R0 I) (R1 I) (R4 I) (R5 I) (R6 I) (R8 I) i = ((I.h2 (i 0).val (i 1).val : ℝ) : EReal) := by
  simp only [val_main_v50_apply, val_main_v47_apply, val_main_v49_apply, val_main_v46_apply, val_main_v48_apply, val_main_v45_apply, v10, v44, v8, add_r,
    mul_r]
  rfl
theorem v57 (i) : val_main_v57 (F := Ideal) (R2 I) (R7 I) i = ((I.dh (i 0).val (i 1).val : ℝ) : EReal) := by
  simp only [val_main_v57_apply, val_main_v54_apply, v52, r2, coe_sum, emul_r, extf_r]
  rw [Inp.dh, Finset.sum_range]
theorem v55 (i) : val_main_v55 (F := Ideal) (R0 I) (R1 I) (R2 I) (R4 I) (R5 I) (R6 I) (R8 I) i = ((I.up 0 4096 (i 1).val (i 0).val : ℝ) : EReal) := by
  simp only [val_main_v55_apply, val_main_v54_apply, v50, r2, coe_sum, emul_r, extf_r]
  rw [Inp.up, Finset.sum_range]
  exact congrArg Real.toEReal (Finset.sum_congr rfl fun k _ => by rw [Nat.zero_add]; exact mul_comm _ _)
theorem v112 (i) : val_main_v112 (F := Ideal) (R0 I) (R1 I) (R2 I) (R4 I) (R5 I) (R6 I) (R8 I) i = ((I.dw1 0 4096 (i 0).val (i 1).val (i 2).val (i 3).val : ℝ) : EReal) := by
  simp only [val_main_v112_apply, val_main_v59_apply, val_main_v58_apply, val_main_v56_apply, v55]
  rw [Inp.dw1]
  have h0 : (i 0).val < 4 := (i 0).isLt
  have h1 : (i 1).val < 2 := (i 1).isLt
  have h2 : (i 2).val < 512 := (i 2).isLt
  have h3 : (i 3).val < 1024 := (i 3).isLt
  rw [show ((((i 0).val * 2 + (i 1).val) * 512 + (i 2).val) * 1024 + (i 3).val) / 1048576 = (i 0).val by omega,
    show ((((i 0).val * 2 + (i 1).val) * 512 + (i 2).val) * 1024 + (i 3).val) / 1024 = ((i 0).val * 2 + (i 1).val) * 512 + (i 2).val by omega,
    show ((((i 0).val * 2 + (i 1).val) * 512 + (i 2).val) * 1024 + (i 3).val) % 1024 = (i 3).val by omega,
    show (((i 0).val * 2 + (i 1).val) * 512 + (i 2).val) % 1024 = 512 * (i 1).val + (i 2).val by omega]
  exact congrArg Real.toEReal (congrArg₂ (I.up 0 4096) (by omega) (by omega))
theorem v109 (i) : val_main_v109 (F := Ideal) (R2 I) (R7 I) i = ((I.dshift 0 4096 (i 1).val : ℝ) : EReal) := by
  simp only [val_main_v109_apply, val_main_v62_apply, val_main_v61_apply, val_main_cst_9_apply, val_main_v60_apply, val_main_cst_8_apply, v57, w_0, coe_sum,
    eadd_r, zero_add, Finset.univ_unique, Finset.sum_singleton, show ((default : Fin 1) : ℕ) = 0 from rfl, Nat.zero_mul, Nat.mul_one, Nat.zero_add,
    Nat.add_zero]
  simp only [Inp.dshift, zero_add, Finset.sum_range]
theorem v110 (i) : val_main_v110 (F := Ideal) (R0 I) (R1 I) (R2 I) (R4 I) (R5 I) (R7 I) (R8 I) i = ((I.da 0 4096 (i 1).val : ℝ) : EReal) := by
  simp only [val_main_v110_apply, val_main_v68_apply, val_main_v65_apply, val_main_cst_11_apply, val_main_v64_apply, val_main_v63_apply,
    val_main_cst_10_apply, v44, v57, w_0, coe_sum, eadd_r, mul_r, zero_add, Finset.univ_unique, Finset.sum_singleton,
    show ((default : Fin 1) : ℕ) = 0 from rfl, Nat.zero_mul, Nat.mul_one, Nat.zero_add, Nat.add_zero]
  simp only [Inp.da, zero_add, Finset.sum_range]
  exact congrArg Real.toEReal (Finset.sum_congr rfl fun k _ => mul_comm _ _)
theorem v67 (i) : val_main_v67 (F := Ideal) (R2 I) (R4 I) (R6 I) (R7 I) i = ((I.dh (i 0).val (i 1).val * I.gain (i 1).val : ℝ) : EReal) := by
  simp only [val_main_v67_apply, val_main_v66_apply, val_main_v45_apply, v57, v8, mul_r]

theorem v70 (i) : val_main_v70 (F := Ideal) (R0 I) (R1 I) (R2 I) (R4 I) (R5 I) (R6 I) (R7 I) (R8 I) i = ((∑ j ∈ Finset.range 1024, I.x1 (i 0).val j * (I.dh (i 0).val j * I.gain j) : ℝ) : EReal) := by
  simp only [val_main_v70_apply, val_main_v69_apply, val_main_cst_12_apply, v31, v67, w_0, coe_sum, eadd_r, mul_r, zero_add]
  rw [Finset.sum_range]
theorem v77 (i) : val_main_v77 (F := Ideal) (R0 I) (R1 I) (R2 I) (R4 I) (R5 I) (R6 I) (R7 I) (R8 I) i = (((∑ j ∈ Finset.range 1024, I.x1 (i 0).val j * (I.dh (i 0).val j * I.gain j)) * (-(1 / 2) * (rinv (I.x1 (i 0).val) / power (I.x1 (i 0).val))) / 1024 : ℝ) : EReal) := by
  simp only [val_main_v77_apply, val_main_v75_apply, val_main_v76_apply, val_main_v71_apply, val_main_cst_13_apply, v42, v70, w_1024, mul_r,
    div_r _ _ (by norm_num : (1024 : ℝ) ≠ 0), show (i 1).val = 0 from Nat.lt_one_iff.mp (i 1).isLt, Finset.univ_unique, Finset.sum_singleton,
    show ((default : Fin 1) : ℕ) = 0 from rfl, Nat.zero_mul, Nat.mul_one, Nat.zero_add, Nat.add_zero]

theorem v83 (i) : val_main_v83 (F := Ideal) (R0 I) (R1 I) (R2 I) (R3 I) (R4 I) (R5 I) (R6 I) (R7 I) (R8 I) i = ((I.dx (i 0).val (i 1).val : ℝ) : EReal) := by
  simp only [val_main_v83_apply, val_main_v81_apply, val_main_v82_apply, val_main_v74_apply, val_main_v80_apply, val_main_v79_apply, val_main_v73_apply,
    val_main_v78_apply, val_main_v72_apply, val_main_cst_14_apply, v31, v39, v67, v77, r3, w_0, add_r, coe_sum, eadd_r, mul_r, zero_add,
    Finset.univ_unique, Finset.sum_singleton, show ((default : Fin 1) : ℕ) = 0 from rfl, Nat.zero_mul, Nat.mul_one, Nat.zero_add, Nat.add_zero]
  refine congrArg Real.toEReal ?_
  rw [Inp.dx, ← grad_lines (I.x1 (i 0).val) (fun j => I.dh (i 0).val j * I.gain j) (i 1).val _ rfl]
  ring
theorem v84 (i) : val_main_v84 (F := Ideal) (R0 I) (R1 I) (R2 I) (R3 I) (R4 I) (R5 I) (R6 I) (R7 I) (R8 I) i = ((I.dx (i 0).val (i 1).val : ℝ) : EReal) := by
  simp only [val_main_v84_apply, v83]
  have h0 : (i 0).val < 4096 := (i 0).isLt
  have h1 : (i 1).val < 1024 := (i 1).isLt
  exact congrArg Real.toEReal (congrArg₂ I.dx (by omega) (by omega))
theorem v111 (i) : val_main_v111 (F := Ideal) (R0 I) (R1 I) (R2 I) (R3 I) (R4 I) (R5 I) (R6 I) (R7 I) (R8 I) i = ((I.ds 0 4096 (i 1).val : ℝ) : EReal) := by
  simp only [val_main_v111_apply, val_main_v90_apply, val_main_v87_apply, val_main_cst_16_apply, val_main_v86_apply, val_main_v85_apply,
    val_main_cst_15_apply, v27, v84, w_0, coe_sum, eadd_r, mul_r, zero_add, Finset.univ_unique, Finset.sum_singleton,
    show ((default : Fin 1) : ℕ) = 0 from rfl, Nat.zero_mul, Nat.mul_one, Nat.zero_add, Nat.add_zero]
  simp only [Inp.ds, zero_add, Finset.sum_range]
  exact congrArg Real.toEReal (Finset.sum_congr rfl fun k _ => mul_comm _ _)
theorem v89 (i) : val_main_v89 (F := Ideal) (R0 I) (R1 I) (R2 I) (R3 I) (R4 I) (R5 I) (R6 I) (R7 I) (R8 I) i = ((I.dx (i 0).val (i 1).val * I.gate (i 1).val : ℝ) : EReal) := by
  simp only [val_main_v89_apply, val_main_v88_apply, val_main_v28_apply, v3, v84, mul_r]

theorem v92 (i) : val_main_v92 (F := Ideal) (R0 I) (R1 I) (R2 I) (R3 I) (R4 I) (R5 I) (R6 I) (R7 I) (R8 I) i = ((∑ j ∈ Finset.range 1024, I.mix (i 0).val j * (I.dx (i 0).val j * I.gate j) : ℝ) : EReal) := by
  simp only [val_main_v92_apply, val_main_v91_apply, val_main_cst_17_apply, v14, v89, w_0, coe_sum, eadd_r, mul_r, zero_add]
  rw [Finset.sum_range]
theorem v98 (i) : val_main_v98 (F := Ideal) (R0 I) (R1 I) (R2 I) (R3 I) (R4 I) (R5 I) (R6 I) (R7 I) (R8 I) i = (((∑ j ∈ Finset.range 1024, I.mix (i 0).val j * (I.dx (i 0).val j * I.gate j)) * (-(1 / 2) * (rinv (I.mix (i 0).val) / power (I.mix (i 0).val))) / 1024 : ℝ) : EReal) := by
  simp only [val_main_v98_apply, val_main_v96_apply, val_main_v97_apply, val_main_v93_apply, val_main_cst_18_apply, v25, v92, w_1024, mul_r,
    div_r _ _ (by norm_num : (1024 : ℝ) ≠ 0), show (i 1).val = 0 from Nat.lt_one_iff.mp (i 1).isLt, Finset.univ_unique, Finset.sum_singleton,
    show ((default : Fin 1) : ℕ) = 0 from rfl, Nat.zero_mul, Nat.mul_one, Nat.zero_add, Nat.add_zero]

theorem v104 (i) : val_main_v104 (F := Ideal) (R0 I) (R1 I) (R2 I) (R3 I) (R4 I) (R5 I) (R6 I) (R7 I) (R8 I) i = ((I.dmix (i 0).val (i 1).val : ℝ) : EReal) := by
  simp only [val_main_v104_apply, val_main_v102_apply, val_main_v103_apply, val_main_v95_apply, val_main_v101_apply, val_main_v100_apply, val_main_v94_apply,
    val_main_v99_apply, val_main_cst_19_apply, v14, v22, v89, v98, w_0, add_r, coe_sum, eadd_r, mul_r, zero_add, Finset.univ_unique,
    Finset.sum_singleton, show ((default : Fin 1) : ℕ) = 0 from rfl, Nat.zero_mul, Nat.mul_one, Nat.zero_add, Nat.add_zero]
  refine congrArg Real.toEReal ?_
  rw [Inp.dmix, ← grad_lines (I.mix (i 0).val) (fun j => I.dx (i 0).val j * I.gate j) (i 1).val _ rfl]
theorem v107 (i) : val_main_v107 (F := Ideal) (R0 I) (R1 I) (R2 I) (R3 I) (R4 I) (R5 I) (R6 I) (R7 I) (R8 I) i = ((I.dc (i 0).val (i 1).val : ℝ) : EReal) := by
  simp only [val_main_v107_apply, v104, v13, coe_sum, emul_r, extf_r]
  rw [Inp.dc, Finset.sum_range]
theorem v105 (i) : val_main_v105 (F := Ideal) (R0 I) (R1 I) (R2 I) (R3 I) (R4 I) (R5 I) (R6 I) (R7 I) (R8 I) i = ((I.out 0 4096 (i 1).val (i 0).val : ℝ) : EReal) := by
  simp only [val_main_v105_apply, val_main_v0_apply, v104, r1, coe_sum, emul_r, extf_r]
  rw [Inp.out, Finset.sum_range]
  exact congrArg Real.toEReal (Finset.sum_congr rfl fun k _ => by rw [Nat.zero_add]; exact mul_comm _ _)
theorem v113 (i) : val_main_v113 (F := Ideal) (R0 I) (R1 I) (R2 I) (R3 I) (R4 I) (R5 I) (R6 I) (R7 I) (R8 I) i = ((I.dwo 0 4096 (i 0).val (i 1).val (i 2).val (i 3).val : ℝ) : EReal) := by
  simp only [val_main_v113_apply, val_main_v108_apply, val_main_v106_apply, v105]
  rw [Inp.dwo]
  have h0 : (i 0).val < 4 := (i 0).isLt
  have h1 : (i 1).val < 2 := (i 1).isLt
  have h2 : (i 2).val < 128 := (i 2).isLt
  have h3 : (i 3).val < 1024 := (i 3).isLt
  exact congrArg Real.toEReal (congrArg₂ (I.out 0 4096) (by omega) (by omega))

end Cert.BwdMidRefIdeal.Hand
-- ==== Proof.BwdMidKernel.lean ====
module

public import proofs.«01_k».proof.Proof.BwdMidBody
public import proofs.«01_k».proof.Proof.BwdMidTile
public import proofs.«01_k».proof.Proof.BwdMidRef

/-! The call's results after its last step. What its host lines make of the saved values' inputs, the reference's own lines make. -/

@[expose] public section

set_option maxRecDepth 16384

noncomputable section

namespace Cert.BwdMidIdeal.Hand

open Idealize.ShloMosaic Idealize.ShloMosaic.TcCoe Idealize.SL.Sem
open Idealize.ShloMosaic.Pipeline (Dat)
open Cert.BwdMidIdeal Cert.BwdMidIdeal.Gen Cert.MixerOps Cert.Rms Cert.Slab Cert.BwdMidMath

variable (m : (ℓ : Loc nD τ sig) → Buf (Elt Ideal) ℓ) (c : Dev nD) (I : Inp) (t : Fin cfg0.N)

/-- The call's arguments are the arrays `I`. -/
structure Holds : Prop where
  a0 : (m ((c : Thread nD τ).loc main_arg0) : Vec Ideal S4096x1024 .f32) = BwdMidRefIdeal.Hand.R0 I
  a1 : (m ((c : Thread nD τ).loc main_arg1) : Vec Ideal S4096x1024 .bf16) = BwdMidRefIdeal.Hand.R1 I
  a2 : (m ((c : Thread nD τ).loc main_arg2) : Vec Ideal S4096x4096 .bf16) = BwdMidRefIdeal.Hand.R2 I
  a3 : (m ((c : Thread nD τ).loc main_arg3) : Vec Ideal S4096x1024 .f32) = BwdMidRefIdeal.Hand.R3 I
  a4 : (m ((c : Thread nD τ).loc main_arg4) : Vec Ideal S6x1024 .f32) = BwdMidRefIdeal.Hand.R4 I
  a5 : (m ((c : Thread nD τ).loc main_arg5) : Vec Ideal S1024 .f32) = BwdMidRefIdeal.Hand.R5 I
  a6 : (m ((c : Thread nD τ).loc main_arg6) : Vec Ideal S1024 .f32) = BwdMidRefIdeal.Hand.R6 I
  a7 : (m ((c : Thread nD τ).loc main_arg7) : Vec Ideal S4x1024x1024 .bf16) = BwdMidRefIdeal.Hand.R7 I
  a8 : (m ((c : Thread nD τ).loc main_arg8) : Vec Ideal S4x256x1024 .bf16) = BwdMidRefIdeal.Hand.R8 I

theorem index0 : win0_0.index t = ![t.val, 0] := (by decide +kernel : ∀ t : Fin grid0.N, win0_0.index t = ![t.val, 0]) t
theorem index1 : win0_1.index t = ![t.val, 0] := (by decide +kernel : ∀ t : Fin grid0.N, win0_1.index t = ![t.val, 0]) t
theorem index2 : win0_2.index t = ![t.val, 0] := (by decide +kernel : ∀ t : Fin grid0.N, win0_2.index t = ![t.val, 0]) t
theorem index3 : win0_3.index t = ![t.val, 0] := (by decide +kernel : ∀ t : Fin grid0.N, win0_3.index t = ![t.val, 0]) t
theorem index4 : win0_4.index t = ![t.val, 0] := (by decide +kernel : ∀ t : Fin grid0.N, win0_4.index t = ![t.val, 0]) t
theorem index5 : win0_5.index t = ![t.val, 0] := (by decide +kernel : ∀ t : Fin grid0.N, win0_5.index t = ![t.val, 0]) t
theorem index6 : win0_6.index t = ![0, 0] := (by decide +kernel : ∀ t : Fin grid0.N, win0_6.index t = ![0, 0]) t
theorem index7 : win0_7.index t = ![0, 0] := (by decide +kernel : ∀ t : Fin grid0.N, win0_7.index t = ![0, 0]) t
theorem index8 : win0_8.index t = ![0, 0] := (by decide +kernel : ∀ t : Fin grid0.N, win0_8.index t = ![0, 0]) t
theorem index9 : win0_9.index t = ![0, 0, 0] := (by decide +kernel : ∀ t : Fin grid0.N, win0_9.index t = ![0, 0, 0]) t
theorem index10 : win0_10.index t = ![0, 0, 0] := (by decide +kernel : ∀ t : Fin grid0.N, win0_10.index t = ![0, 0, 0]) t
theorem index11 : win0_11.index t = ![t.val, 0] := (by decide +kernel : ∀ t : Fin grid0.N, win0_11.index t = ![t.val, 0]) t
theorem index12 : win0_12.index t = ![t.val, 0] := (by decide +kernel : ∀ t : Fin grid0.N, win0_12.index t = ![t.val, 0]) t

variable {m c I}

/-! ## The arrays the call reads -/

theorem V_mix (h : Holds m c I) : (V m c main_v3 : Vec Ideal S4096x1024 .f32) = tab fun s j => ((I.mix s j : ℝ) : EReal) := by
  entry_read
  rw [h.a1, h.a8]
  exact funext (BwdMidRefIdeal.Hand.v14 I)
theorem V_x1 (h : Holds m c I) : (V m c main_v20 : Vec Ideal S4096x1024 .f32) = tab fun s j => ((I.x1 s j : ℝ) : EReal) := by
  entry_read
  rw [h.a0, h.a1, h.a4, h.a5, h.a8]
  exact funext (BwdMidRefIdeal.Hand.v31 I)
theorem V_h2 (h : Holds m c I) : (V m c main_v44 : Vec Ideal S4096x1024 .bf16) = tab fun s j => ((I.h2 s j : ℝ) : EReal) := by
  entry_read
  rw [h.a0, h.a1, h.a4, h.a5, h.a6, h.a8]
  exact funext (BwdMidRefIdeal.Hand.v50 I)
theorem V_g2 (h : Holds m c I) : (V m c main_v45 : Vec Ideal S1x1024 .f32) = line I.G2 := by
  funext i
  obtain ⟨r, j, rfl⟩ : ∃ (r : Fin 1) (j : Fin 1024), i = ValueIdx.ix2 r j := ⟨i 0, i 1, ValueIdx.eq_ix2 i⟩
  entry_read
  rw [h.a6]
  pointwise
  rfl
theorem V_g1 (h : Holds m c I) : (V m c main_v46 : Vec Ideal S1x1024 .f32) = line I.G1 := by
  funext i
  obtain ⟨r, j, rfl⟩ : ∃ (r : Fin 1) (j : Fin 1024), i = ValueIdx.ix2 r j := ⟨i 0, i 1, ValueIdx.eq_ix2 i⟩
  entry_read
  rw [h.a5]
  pointwise
  rfl
theorem V_e (h : Holds m c I) : (V m c main_arg2 : Vec Ideal S4096x4096 .bf16) = tab fun s a => ((I.E s a : ℝ) : EReal) := by
  entry_read
  exact h.a2
theorem V_d (h : Holds m c I) : (V m c main_arg3 : Vec Ideal S4096x1024 .f32) = tab fun s j => ((I.D s j : ℝ) : EReal) := by
  entry_read
  exact h.a3
theorem V_c (h : Holds m c I) : (V m c main_arg1 : Vec Ideal S4096x1024 .bf16) = tab fun s j => ((I.C s j : ℝ) : EReal) := by
  entry_read
  exact h.a1
theorem V_m (h : Holds m c I) : (V m c main_arg4 : Vec Ideal S6x1024 .f32) = X7 I := by
  entry_read
  exact h.a4
theorem V_w1 (h : Holds m c I) : (V m c main_arg7 : Vec Ideal S4x1024x1024 .bf16) = X10 I := by
  entry_read
  exact h.a7
theorem V_wo (h : Holds m c I) : (V m c main_arg8 : Vec Ideal S4x256x1024 .bf16) = X11 I := by
  entry_read
  exact h.a8

theorem blk0 (h : Holds m c I) : blk m c 0 t = X1 I t.val := by
  unfold blk
  rw [show V m c (Pipeline.arrRef spec0 0) = _ from V_e h]
  funext y
  blk_simp [index0, tab]
  show _ = ((I.E (256 * t.val + (y 0).val) (y 1).val : ℝ) : EReal)
  rw [Nat.mul_comm 256]
theorem blk1 (h : Holds m c I) : blk m c 1 t = rows t.val I.D := by
  unfold blk
  rw [show V m c (Pipeline.arrRef spec0 1) = _ from V_d h]
  funext y
  blk_simp [index1, tab]
  show _ = ((I.D (256 * t.val + (y 0).val) (y 1).val : ℝ) : EReal)
  rw [Nat.mul_comm 256]
theorem blk2 (h : Holds m c I) : blk m c 2 t = rows t.val I.x1 := by
  unfold blk
  rw [show V m c (Pipeline.arrRef spec0 2) = _ from V_x1 h]
  funext y
  blk_simp [index2, tab]
  show _ = ((I.x1 (256 * t.val + (y 0).val) (y 1).val : ℝ) : EReal)
  rw [Nat.mul_comm 256]
theorem blk3 (h : Holds m c I) : blk m c 3 t = rows t.val I.mix := by
  unfold blk
  rw [show V m c (Pipeline.arrRef spec0 3) = _ from V_mix h]
  funext y
  blk_simp [index3, tab]
  show _ = ((I.mix (256 * t.val + (y 0).val) (y 1).val : ℝ) : EReal)
  rw [Nat.mul_comm 256]
theorem blk4 (h : Holds m c I) : blk m c 4 t = half t.val I.h2 := by
  unfold blk
  rw [show V m c (Pipeline.arrRef spec0 4) = _ from V_h2 h]
  funext y
  blk_simp [index4, tab]
  show _ = ((I.h2 (256 * t.val + (y 0).val) (y 1).val : ℝ) : EReal)
  rw [Nat.mul_comm 256]
theorem blk5 (h : Holds m c I) : blk m c 5 t = half t.val I.C := by
  unfold blk
  rw [show V m c (Pipeline.arrRef spec0 5) = _ from V_c h]
  funext y
  blk_simp [index5, tab]
  show _ = ((I.C (256 * t.val + (y 0).val) (y 1).val : ℝ) : EReal)
  rw [Nat.mul_comm 256]
theorem blk6 (h : Holds m c I) : blk m c 6 t = X7 I := by
  unfold blk
  rw [show V m c (Pipeline.arrRef spec0 6) = _ from V_m h]
  funext y
  blk_simp [index6, tab, tab3]
  exact congrArg _ (by blk_ext [index6])
theorem blk7 (h : Holds m c I) : blk m c 7 t = line I.G2 := by
  unfold blk
  rw [show V m c (Pipeline.arrRef spec0 7) = _ from V_g2 h]
  funext y
  blk_simp [index7, tab, tab3]
  exact congrArg _ (by blk_ext [index7])
theorem blk8 (h : Holds m c I) : blk m c 8 t = line I.G1 := by
  unfold blk
  rw [show V m c (Pipeline.arrRef spec0 8) = _ from V_g1 h]
  funext y
  blk_simp [index8, tab, tab3]
  exact congrArg _ (by blk_ext [index8])
theorem blk9 (h : Holds m c I) : blk m c 9 t = X10 I := by
  unfold blk
  rw [show V m c (Pipeline.arrRef spec0 9) = _ from V_w1 h]
  funext y
  blk_simp [index9, tab, tab3]
  exact congrArg _ (by blk_ext [index9])
theorem blk10 (h : Holds m c I) : blk m c 10 t = X11 I := by
  unfold blk
  rw [show V m c (Pipeline.arrRef spec0 10) = _ from V_wo h]
  funext y
  blk_simp [index10, tab, tab3]
  exact congrArg _ (by blk_ext [index10])

/-! ## The results after each step -/

variable (I) in
/-- What the results hold after the first `n` rows, the last `256` of them in step `k`. -/
structure Sums (k n : ℕ) (s : State Ideal c) : Prop where
  v13 : s.v13 = rows k I.dx
  v14 : s.v14 = rows k I.dc
  v15 : s.v15 = line (I.dshift 0 n)
  v16 : s.v16 = line (I.da 0 n)
  v17 : s.v17 = line (I.ds 0 n)
  v20 : s.v20 = Y20 (I.dw1 0 n)
  v21 : s.v21 = Y21 (I.dwo 0 n)

theorem Y20_congr {f g : ℕ → ℕ → ℕ → ℕ → ℝ} (h : ∀ k b r j, f k b r j = g k b r j) : Y20 f = Y20 g :=
  congrArg Y20 (funext fun k => funext fun b => funext fun r => funext fun j => h k b r j)
theorem Y21_congr {f g : ℕ → ℕ → ℕ → ℕ → ℝ} (h : ∀ k b r j, f k b r j = g k b r j) : Y21 f = Y21 g :=
  congrArg Y21 (funext fun k => funext fun b => funext fun r => funext fun j => h k b r j)
theorem held_congr {k n n' : ℕ} {s : State Ideal c} (e : n = n') (h : Sums I k n s) : Sums I k n' s := e ▸ h

theorem after_v13 (w : Stores Ideal c) : (after w).v13 = View.canon w.p13 := read_stores view13 w.p13
theorem after_v14 (w : Stores Ideal c) : (after w).v14 = View.canon w.p14 := read_stores view14 w.p14
theorem after_v15 (w : Stores Ideal c) : (after w).v15 = View.canon w.p15 := read_stores view15 w.p15
theorem after_v16 (w : Stores Ideal c) : (after w).v16 = View.canon w.p16 := read_stores view16 w.p16
theorem after_v17 (w : Stores Ideal c) : (after w).v17 = View.canon w.p17 := read_stores view17 w.p17
theorem after_v20 (w : Stores Ideal c) : (after w).v20 = View.canon w.p20 := read_stores view20 w.p20
theorem after_v21 (w : Stores Ideal c) : (after w).v21 = View.canon w.p21 := read_stores view21 w.p21

theorem held_A (h : Holds m c I) (ht : t.val = 0) : Sums I t.val 256 (after (storesA m c t ht)) := by
  unfold storesA
  rw [blk0 t h, blk1 t h, blk2 t h, blk3 t h, blk4 t h, blk5 t h, blk6 t h, blk7 t h, blk8 t h, blk9 t h, blk10 t h]
  exact ⟨(after_v13 _).trans (outA_13 ..), (after_v14 _).trans (outA_14 ..),
    ((after_v15 _).trans (outA_15 ..)).trans (congrArg line (funext fun j => by rw [ht, zero_add])),
    ((after_v16 _).trans (outA_16 ..)).trans (congrArg line (funext fun j => by rw [ht, zero_add])),
    ((after_v17 _).trans (outA_17 ..)).trans (congrArg line (funext fun j => by rw [ht, zero_add])),
    (after_v20 _).trans ((outA_20 ..).trans (Y20_congr fun k b r j => by simp only [new20, new21, ht, mul_zero, zero_add])),
    (after_v21 _).trans ((outA_21 ..).trans (Y21_congr fun k b r j => by simp only [new20, new21, ht, mul_zero, zero_add]))⟩

theorem held_B (h : Holds m c I) {k : ℕ} {s : State Ideal c} (hs : Sums I k (256 * t.val) s) (a : t.val ≠ 0) (b : t.val ≠ 15) :
    Sums I t.val (256 * t.val + 256) (after (storesB m c t s a b)) := by
  unfold storesB
  rw [blk0 t h, blk1 t h, blk2 t h, blk3 t h, blk4 t h, blk5 t h, blk6 t h, blk7 t h, blk8 t h, blk9 t h, blk10 t h, hs.v15, hs.v16, hs.v17, hs.v20, hs.v21]
  exact ⟨(after_v13 _).trans (outB_13 ..), (after_v14 _).trans (outB_14 ..),
    ((after_v15 _).trans (outB_15 ..)).trans (congrArg line (funext fun j => I.dshift_add _ _ _)),
    ((after_v16 _).trans (outB_16 ..)).trans (congrArg line (funext fun j => I.da_add _ _ _)),
    ((after_v17 _).trans (outB_17 ..)).trans (congrArg line (funext fun j => I.ds_add _ _ _)),
    (after_v20 _).trans ((outB_20 ..).trans (Y20_congr fun k b r j => I.dw1_add _ _ _ _ _ _)),
    (after_v21 _).trans ((outB_21 ..).trans (Y21_congr fun k b r j => I.dwo_add _ _ _ _ _ _))⟩
theorem held_C (h : Holds m c I) {k : ℕ} {s : State Ideal c} (hs : Sums I k (256 * t.val) s) (b : t.val = 15) :
    Sums I t.val (256 * t.val + 256) (after (storesC m c t s b)) := by
  unfold storesC
  rw [blk0 t h, blk1 t h, blk2 t h, blk3 t h, blk4 t h, blk5 t h, blk6 t h, blk7 t h, blk8 t h, blk9 t h, blk10 t h, hs.v15, hs.v16, hs.v17, hs.v20, hs.v21]
  exact ⟨(after_v13 _).trans (outC_13 ..), (after_v14 _).trans (outC_14 ..),
    ((after_v15 _).trans (outC_15 ..)).trans (congrArg line (funext fun j => I.dshift_add _ _ _)),
    ((after_v16 _).trans (outC_16 ..)).trans (congrArg line (funext fun j => I.da_add _ _ _)),
    ((after_v17 _).trans (outC_17 ..)).trans (congrArg line (funext fun j => I.ds_add _ _ _)),
    (after_v20 _).trans ((outC_20 ..).trans (Y20_congr fun k b r j => I.dw1_add _ _ _ _ _ _)),
    (after_v21 _).trans ((outC_21 ..).trans (Y21_congr fun k b r j => I.dwo_add _ _ _ _ _ _))⟩

theorem state_held (h : Holds m c I) : ∀ (n : ℕ) (hn : n < cfg0.N), Sums I n (256 * n + 256) (state m c n hn)
  | 0, hn => by
    rw [state_A m c ⟨0, hn⟩ rfl]
    exact held_A ⟨0, hn⟩ h rfl
  | n + 1, hn => by
    have hp := state_held h n (Nat.lt_of_succ_lt hn)
    by_cases e : n + 1 = 15
    · rw [state_C m c ⟨n + 1, hn⟩ e]
      exact held_C ⟨n + 1, hn⟩ h (held_congr (by show 256 * n + 256 = 256 * (n + 1); omega) hp) e
    · rw [state_B m c ⟨n + 1, hn⟩ (Nat.succ_ne_zero n) e]
      exact held_B ⟨n + 1, hn⟩ h (held_congr (by show 256 * n + 256 = 256 * (n + 1); omega) hp) (Nat.succ_ne_zero n) e

theorem copied_g18 (h : Holds m c I) : (done m c).g18 = Y20 (I.dw1 0 4096) := by
  have hN : cfg0.N = 16 := N_0
  have hp : Sums I 14 (256 * 15) (state m c 14 (by omega)) := state_held h 14 (by omega)
  unfold done
  rw [show state m c 15 _ = _ from state_C m c ⟨15, by omega⟩ rfl]
  show (storesC m c ⟨15, by omega⟩ (state m c 14 (by omega)) rfl).g18 = _
  unfold storesC
  rw [blk0 _ h, blk1 _ h, blk2 _ h, blk3 _ h, blk4 _ h, blk5 _ h, blk6 _ h, blk7 _ h, blk8 _ h, blk9 _ h, blk10 _ h, hp.v15, hp.v16, hp.v17, hp.v20, hp.v21]
  exact (outC_18 ..).trans (Y20_congr fun k b r j => I.dw1_add _ _ _ _ _ _)
theorem copied_g19 (h : Holds m c I) : (done m c).g19 = Y21 (I.dwo 0 4096) := by
  have hN : cfg0.N = 16 := N_0
  have hp : Sums I 14 (256 * 15) (state m c 14 (by omega)) := state_held h 14 (by omega)
  unfold done
  rw [show state m c 15 _ = _ from state_C m c ⟨15, by omega⟩ rfl]
  show (storesC m c ⟨15, by omega⟩ (state m c 14 (by omega)) rfl).g19 = _
  unfold storesC
  rw [blk0 _ h, blk1 _ h, blk2 _ h, blk3 _ h, blk4 _ h, blk5 _ h, blk6 _ h, blk7 _ h, blk8 _ h, blk9 _ h, blk10 _ h, hp.v15, hp.v16, hp.v17, hp.v20, hp.v21]
  exact (outC_19 ..).trans (Y21_congr fun k b r j => I.dwo_add _ _ _ _ _ _)

/-! ## The arrays after the last step -/

theorem final11 (h : Holds m c I) : (dats m 0 c).arrAt 11 cfg0.N = (tab fun s j => ((I.dx s j : ℝ) : EReal) : Vec Ideal S4096x1024 .f32) :=
  (dats m 0 c).arrAt_eq_of_covers 11 _ (by decide +kernel) fun t hf y => by
    blk_simp
    rw [after_11, (state_held h t.val t.isLt).v13]
    blk_simp [index11, tab]
    show ((I.dx (256 * t.val + (y 0).val) (y 1).val : ℝ) : EReal) = _
    rw [Nat.mul_comm 256]
theorem final12 (h : Holds m c I) : (dats m 0 c).arrAt 12 cfg0.N = (tab fun s j => ((I.dc s j : ℝ) : EReal) : Vec Ideal S4096x1024 .f32) :=
  (dats m 0 c).arrAt_eq_of_covers 12 _ (by decide +kernel) fun t hf y => by
    blk_simp
    rw [after_12, (state_held h t.val t.isLt).v14]
    blk_simp [index12, tab]
    show ((I.dc (256 * t.val + (y 0).val) (y 1).val : ℝ) : EReal) = _
    rw [Nat.mul_comm 256]
theorem final13 (h : Holds m c I) : (dats m 0 c).arrAt 13 cfg0.N = line (I.dshift 0 4096) :=
  (dats m 0 c).arrAt_eq_of_after_last 13 t0_15 (by decide +kernel) _ fun j => by
    blk_simp
    rw [after_13, (state_held h _ _).v15]
    rfl
theorem final14 (h : Holds m c I) : (dats m 0 c).arrAt 14 cfg0.N = line (I.da 0 4096) :=
  (dats m 0 c).arrAt_eq_of_after_last 14 t0_15 (by decide +kernel) _ fun j => by
    blk_simp
    rw [after_14, (state_held h _ _).v16]
    rfl
theorem final15 (h : Holds m c I) : (dats m 0 c).arrAt 15 cfg0.N = line (I.ds 0 4096) :=
  (dats m 0 c).arrAt_eq_of_after_last 15 t0_15 (by decide +kernel) _ fun j => by
    blk_simp
    rw [after_15, (state_held h _ _).v17]
    rfl

end Cert.BwdMidIdeal.Hand
-- ==== Proof.BwdMidPre.lean ====
module

public import proofs.«01_k».proof.Pre_finite_mid
public import proofs.«01_k».proof.Proof.LossPre

/-!
What the precondition of the middle of the block's gradient says: every entry of its arrays is a real number.
-/

@[expose] public section

noncomputable section

namespace Cert.BwdMidPre

open Idealize.ShloMosaic Cert.MixerPre Cert.LossPre

open Cert.Pre_finite_mid in
/-- The precondition read: the arrays have real entries. -/
theorem reals [Facts] (x0 : FVec Ideal S4096x1024 .f32) (x1 : FVec Ideal S4096x1024 .bf16) (x2 : FVec Ideal S4096x4096 .bf16) (x3 : FVec Ideal S4096x1024 .f32) (x4 : FVec Ideal S6x1024 .f32) (x5 : FVec Ideal S1024 .f32) (x6 : FVec Ideal S1024 .f32) (x7 : FVec Ideal S4x1024x1024 .bf16) (x8 : FVec Ideal S4x256x1024 .bf16) (x9 : FVec Ideal S4x2x256x1024 .bf16)
    (h : fn (F := Ideal) x0 x1 x2 x3 x4 x5 x6 x7 x8 x9 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) ∧ (∀ i, ∃ r : ℝ, x4 i = (r : EReal)) ∧ (∀ i, ∃ r : ℝ, x5 i = (r : EReal)) ∧ (∀ i, ∃ r : ℝ, x6 i = (r : EReal)) ∧ (∀ i, ∃ r : ℝ, x7 i = (r : EReal)) ∧ (∀ i, ∃ r : ℝ, x8 i = (r : EReal)) := by
  have h0 := congrFun h fun k => k.elim0
  simp only [fn, fn_part1, fn_part2] at h0
  obtain ⟨h0, e8⟩ := and_one h0
  obtain ⟨h0, e7⟩ := and_one h0
  obtain ⟨h0, e6⟩ := and_one h0
  obtain ⟨h0, e5⟩ := and_one h0
  obtain ⟨h0, e4⟩ := and_one h0
  obtain ⟨h0, e3⟩ := and_one h0
  obtain ⟨h0, e2⟩ := and_one h0
  obtain ⟨e0, e1⟩ := and_one h0
  exact ⟨all_real x0 _ _ _ _ e0, all_real_half x1 _ _ _ _ e1, all_real_half x2 _ _ _ _ e2, all_real x3 _ _ _ _ e3, all_real x4 _ _ _ _ e4, all_real x5 _ _ _ _ e5, all_real x6 _ _ _ _ e6, all_real_half x7 _ _ _ _ e7, all_real_half x8 _ _ _ _ e8⟩

end Cert.BwdMidPre
-- ==== Proof.BwdMid.lean ====
module

public import proofs.«01_k».proof.Defs
public import proofs.«01_k».proof.Proof.Mixer
public import proofs.«01_k».proof.Proof.BwdMidKernel
public import proofs.«01_k».proof.Proof.BwdMidRef
public import proofs.«01_k».proof.Proof.BwdMidPre
public import proofs.«01_k».proof.Proof.Gen.Pre_finite_mid
public import proofs.«01_k».proof.Proof.Gen.BwdMid
public import proofs.«01_k».proof.Proof.Gen.BwdMid.Skeleton
public import proofs.«01_k».proof.Proof.Gen.BwdMidRefIdeal.Run
public import proofs.«01_k».proof.Proof.Gen.BwdMidRefIdeal.Read

/-!
The middle of the block's gradient: the kernel and the reference end with the same gradients.
-/

@[expose] public section

noncomputable section

namespace Cert.Proof.BwdMid

open Idealize.ShloMosaic Idealize.ShloMosaic.TcCoe Idealize.SL.Sem Cert.MixerOps Cert.BwdMidMath
open Cert.Proof.Mixer (flat1 flat2 flat3 tab1_flat tab_flat tab3_flat)

/-- The kernel's text is one and the same over machine words and over the reals: what its frame says of words, in the words of the other. -/
theorem frame_text : Cert.quiescent_BwdMid =
    ∀ (m : (ℓ : Loc Cert.BwdMidIdeal.nD Cert.BwdMidIdeal.τ Cert.BwdMidIdeal.sig) → Buf (Elt Bits) ℓ) (g : Dev Cert.BwdMidIdeal.nD → PrngReg), Cert.Pre_BwdMid m →
    θ_run (Cert.BwdMidIdeal.defs (F := Bits)) (onTc (τ := Cert.BwdMidIdeal.τ) (Cert.BwdMidIdeal.main (F := Bits))) ⟨m, fun _ => 0, g⟩ (fun r => (∀ c : Dev Cert.BwdMidIdeal.nD,
      r.2.mem ((c.tc : Thread Cert.BwdMidIdeal.nD Cert.BwdMidIdeal.τ).loc Cert.BwdMidIdeal.main_arg0) = m ((c.tc : Thread Cert.BwdMidIdeal.nD Cert.BwdMidIdeal.τ).loc Cert.BwdMidIdeal.main_arg0)
      ∧ r.2.mem ((c.tc : Thread Cert.BwdMidIdeal.nD Cert.BwdMidIdeal.τ).loc Cert.BwdMidIdeal.main_arg1) = m ((c.tc : Thread Cert.BwdMidIdeal.nD Cert.BwdMidIdeal.τ).loc Cert.BwdMidIdeal.main_arg1)
      ∧ r.2.mem ((c.tc : Thread Cert.BwdMidIdeal.nD Cert.BwdMidIdeal.τ).loc Cert.BwdMidIdeal.main_arg2) = m ((c.tc : Thread Cert.BwdMidIdeal.nD Cert.BwdMidIdeal.τ).loc Cert.BwdMidIdeal.main_arg2)
      ∧ r.2.mem ((c.tc : Thread Cert.BwdMidIdeal.nD Cert.BwdMidIdeal.τ).loc Cert.BwdMidIdeal.main_arg3) = m ((c.tc : Thread Cert.BwdMidIdeal.nD Cert.BwdMidIdeal.τ).loc Cert.BwdMidIdeal.main_arg3)
      ∧ r.2.mem ((c.tc : Thread Cert.BwdMidIdeal.nD Cert.BwdMidIdeal.τ).loc Cert.BwdMidIdeal.main_arg4) = m ((c.tc : Thread Cert.BwdMidIdeal.nD Cert.BwdMidIdeal.τ).loc Cert.BwdMidIdeal.main_arg4)
      ∧ r.2.mem ((c.tc : Thread Cert.BwdMidIdeal.nD Cert.BwdMidIdeal.τ).loc Cert.BwdMidIdeal.main_arg5) = m ((c.tc : Thread Cert.BwdMidIdeal.nD Cert.BwdMidIdeal.τ).loc Cert.BwdMidIdeal.main_arg5)
      ∧ r.2.mem ((c.tc : Thread Cert.BwdMidIdeal.nD Cert.BwdMidIdeal.τ).loc Cert.BwdMidIdeal.main_arg6) = m ((c.tc : Thread Cert.BwdMidIdeal.nD Cert.BwdMidIdeal.τ).loc Cert.BwdMidIdeal.main_arg6)
      ∧ r.2.mem ((c.tc : Thread Cert.BwdMidIdeal.nD Cert.BwdMidIdeal.τ).loc Cert.BwdMidIdeal.main_arg7) = m ((c.tc : Thread Cert.BwdMidIdeal.nD Cert.BwdMidIdeal.τ).loc Cert.BwdMidIdeal.main_arg7)
      ∧ r.2.mem ((c.tc : Thread Cert.BwdMidIdeal.nD Cert.BwdMidIdeal.τ).loc Cert.BwdMidIdeal.main_arg8) = m ((c.tc : Thread Cert.BwdMidIdeal.nD Cert.BwdMidIdeal.τ).loc Cert.BwdMidIdeal.main_arg8)
      ∧ r.2.mem ((c.tc : Thread Cert.BwdMidIdeal.nD Cert.BwdMidIdeal.τ).loc Cert.BwdMidIdeal.main_arg9) = m ((c.tc : Thread Cert.BwdMidIdeal.nD Cert.BwdMidIdeal.τ).loc Cert.BwdMidIdeal.main_arg9))
      ∧ r.2.sem = fun _ => 0) := by sl_kernel_rfl

theorem frame : Cert.quiescent_BwdMid := frame_text ▸ fun m ρ _ => Cert.BwdMidIdeal.Hand.frame (F := Bits) m ρ

theorem frame_ideal : Cert.quiescent_BwdMidIdeal := fun m ρ _ => Cert.BwdMidIdeal.Hand.frame m ρ

theorem frame_ideal_finite : Cert.quiescent_BwdMidIdeal_pre_finite_mid := fun m ρ _ => Cert.BwdMidIdeal.Hand.frame m ρ

theorem frame_ref : Cert.quiescent_BwdMidRefIdeal := fun m ρ _ =>
  (θ_run Cert.BwdMidRefIdeal.defs _ _).mono (fun r h => ⟨fun c => (h c).2.2.2.2.2.2.2, sem_eq_zero_of_no_sems rfl r.2⟩)
    (Cert.BwdMidRefIdeal.Value.run (F := Ideal) m ρ)

theorem frame_ref_finite : Cert.quiescent_BwdMidRefIdeal_pre_finite_mid := fun m ρ _ => frame_ref m ρ trivial

variable (m : (ℓ : Loc Cert.BwdMidIdeal.nD Cert.BwdMidIdeal.τ Cert.BwdMidIdeal.sig) → Buf (Elt Ideal) ℓ) (c : Dev Cert.BwdMidIdeal.nD)

/-- The kernel's arguments on a device, as real numbers. -/
def inp : Inp where
  X := flat2 (m := 4096) (n := 1024) (m ((c.tc : Thread Cert.BwdMidIdeal.nD Cert.BwdMidIdeal.τ).loc Cert.BwdMidIdeal.main_arg0))
  C := flat2 (m := 4096) (n := 1024) (m ((c.tc : Thread Cert.BwdMidIdeal.nD Cert.BwdMidIdeal.τ).loc Cert.BwdMidIdeal.main_arg1))
  E := flat2 (m := 4096) (n := 4096) (m ((c.tc : Thread Cert.BwdMidIdeal.nD Cert.BwdMidIdeal.τ).loc Cert.BwdMidIdeal.main_arg2))
  D := flat2 (m := 4096) (n := 1024) (m ((c.tc : Thread Cert.BwdMidIdeal.nD Cert.BwdMidIdeal.τ).loc Cert.BwdMidIdeal.main_arg3))
  M := flat2 (m := 6) (n := 1024) (m ((c.tc : Thread Cert.BwdMidIdeal.nD Cert.BwdMidIdeal.τ).loc Cert.BwdMidIdeal.main_arg4))
  G1 := flat1 (m := 1024) (m ((c.tc : Thread Cert.BwdMidIdeal.nD Cert.BwdMidIdeal.τ).loc Cert.BwdMidIdeal.main_arg5))
  G2 := flat1 (m := 1024) (m ((c.tc : Thread Cert.BwdMidIdeal.nD Cert.BwdMidIdeal.τ).loc Cert.BwdMidIdeal.main_arg6))
  W1 := flat3 (k := 4) (m := 1024) (n := 1024) (m ((c.tc : Thread Cert.BwdMidIdeal.nD Cert.BwdMidIdeal.τ).loc Cert.BwdMidIdeal.main_arg7))
  Wo := flat3 (k := 4) (m := 256) (n := 1024) (m ((c.tc : Thread Cert.BwdMidIdeal.nD Cert.BwdMidIdeal.τ).loc Cert.BwdMidIdeal.main_arg8))

theorem holds (h : Cert.Pre_BwdMidIdeal_finite_mid m) : Cert.BwdMidIdeal.Hand.Holds m c (inp m c) := by
  obtain ⟨h0, h1, h2, h3, h4, h5, h6, h7, h8⟩ := Cert.BwdMidPre.reals _ _ _ _ _ _ _ _ _ _ (h c)
  exact ⟨tab_flat _ h0, tab_flat _ h1, tab_flat _ h2, tab_flat _ h3, tab_flat _ h4, tab1_flat _ h5, tab1_flat _ h6, tab3_flat _ h7, tab3_flat _ h8⟩

set_option maxHeartbeats 2000000 in
open Cert.BwdMidIdeal.Hand Cert.BwdMidRefIdeal.Hand Cert.BwdMidIdeal in
theorem algebraic : Cert.algebraic_BwdMidIdeal_BwdMidRefIdeal_pre_finite_mid := by
  intro m ρ m' ρ' pre hagree
  refine ⟨fun c => tab fun s j => ((inp m c).dx s j : EReal), fun c => tab fun s j => ((inp m c).dc s j : EReal), fun c => line ((inp m c).dshift 0 4096), fun c => line ((inp m c).da 0 4096), fun c => line ((inp m c).ds 0 4096), fun c => Y20 ((inp m c).dw1 0 4096), fun c => Y21 ((inp m c).dwo 0 4096), ?_, ?_⟩
  · refine (θ_run Cert.BwdMidIdeal.defs _ _).mono (fun r h c => ?_) (Cert.BwdMidIdeal.Hand.run_quiet m ρ)
    have H := holds m c pre
    exact ⟨((h.1.toR c).1 11).trans (final11 H),
      ((h.1.toR c).1 12).trans (final12 H),
      ((h.1.toR c).1 13).trans (final13 H),
      ((h.1.toR c).1 14).trans (final14 H),
      ((h.1.toR c).1 15).trans (final15 H),
      ((h.1.written c (by decide : main_v47_5 ∈ copied)).trans (copiedTo_18 m c)).trans (copied_g18 H),
      ((h.1.written c (by decide : main_v47_6 ∈ copied)).trans (copiedTo_19 m c)).trans (copied_g19 H), Cert.BwdMidIdeal.Hand.kept m r h.1 c⟩
  · refine (θ_run Cert.BwdMidRefIdeal.defs _ _).mono (fun _ h c => ?_) (Cert.BwdMidRefIdeal.Value.run (F := Ideal) m' ρ')
    obtain ⟨e0, e1, e2, e3, e4, e5, e6, args⟩ := h c
    obtain ⟨a0, a1, a2, a3, a4, a5, a6, a7, a8, a9⟩ := hagree c
    have H := holds m c pre
    have b0 : m' ((c.tc : Thread Cert.BwdMidRefIdeal.nD Cert.BwdMidRefIdeal.τ).loc Cert.BwdMidRefIdeal.main_arg0) = R0 (inp m c) := a0.trans H.a0
    have b1 : m' ((c.tc : Thread Cert.BwdMidRefIdeal.nD Cert.BwdMidRefIdeal.τ).loc Cert.BwdMidRefIdeal.main_arg1) = R1 (inp m c) := a1.trans H.a1
    have b2 : m' ((c.tc : Thread Cert.BwdMidRefIdeal.nD Cert.BwdMidRefIdeal.τ).loc Cert.BwdMidRefIdeal.main_arg2) = R2 (inp m c) := a2.trans H.a2
    have b3 : m' ((c.tc : Thread Cert.BwdMidRefIdeal.nD Cert.BwdMidRefIdeal.τ).loc Cert.BwdMidRefIdeal.main_arg3) = R3 (inp m c) := a3.trans H.a3
    have b4 : m' ((c.tc : Thread Cert.BwdMidRefIdeal.nD Cert.BwdMidRefIdeal.τ).loc Cert.BwdMidRefIdeal.main_arg4) = R4 (inp m c) := a4.trans H.a4
    have b5 : m' ((c.tc : Thread Cert.BwdMidRefIdeal.nD Cert.BwdMidRefIdeal.τ).loc Cert.BwdMidRefIdeal.main_arg5) = R5 (inp m c) := a5.trans H.a5
    have b6 : m' ((c.tc : Thread Cert.BwdMidRefIdeal.nD Cert.BwdMidRefIdeal.τ).loc Cert.BwdMidRefIdeal.main_arg6) = R6 (inp m c) := a6.trans H.a6
    have b7 : m' ((c.tc : Thread Cert.BwdMidRefIdeal.nD Cert.BwdMidRefIdeal.τ).loc Cert.BwdMidRefIdeal.main_arg7) = R7 (inp m c) := a7.trans H.a7
    have b8 : m' ((c.tc : Thread Cert.BwdMidRefIdeal.nD Cert.BwdMidRefIdeal.τ).loc Cert.BwdMidRefIdeal.main_arg8) = R8 (inp m c) := a8.trans H.a8
    refine ⟨e0.trans ?_, e1.trans ?_, e2.trans ?_, e3.trans ?_, e4.trans ?_, e5.trans ?_, e6.trans ?_, args⟩
    · refine (Cert.BwdMidRefIdeal.Read.val_main_v83_eq ..).trans ?_
      rw [b0, b1, b2, b3, b4, b5, b6, b7, b8]
      exact funext (v83 (inp m c))
    · refine (Cert.BwdMidRefIdeal.Read.val_main_v107_eq ..).trans ?_
      rw [b0, b1, b2, b3, b4, b5, b6, b7, b8]
      exact funext (v107 (inp m c))
    · refine (Cert.BwdMidRefIdeal.Read.val_main_v109_eq ..).trans ?_
      rw [b2, b7]
      exact funext (v109 (inp m c))
    · refine (Cert.BwdMidRefIdeal.Read.val_main_v110_eq ..).trans ?_
      rw [b0, b1, b2, b4, b5, b7, b8]
      exact funext (v110 (inp m c))
    · refine (Cert.BwdMidRefIdeal.Read.val_main_v111_eq ..).trans ?_
      rw [b0, b1, b2, b3, b4, b5, b6, b7, b8]
      exact funext (v111 (inp m c))
    · refine (Cert.BwdMidRefIdeal.Read.val_main_v112_eq ..).trans ?_
      rw [b0, b1, b2, b4, b5, b6, b8]
      exact funext (v112 (inp m c))
    · refine (Cert.BwdMidRefIdeal.Read.val_main_v113_eq ..).trans ?_
      rw [b0, b1, b2, b3, b4, b5, b6, b7, b8]
      exact funext (v113 (inp m c))

end Cert.Proof.BwdMid
-- ==== Proof.lean ====
module

public import proofs.«01_k».proof.Defs
public import proofs.«01_k».proof.Proof.Gen.ModGrads
public import proofs.«01_k».proof.Proof.Gen.ModGrads.Skeleton
public import proofs.«01_k».proof.Proof.Gen.ModGrads.Launch
public import proofs.«01_k».proof.Proof.Gen.ModGrads.Points
public import proofs.«01_k».proof.Proof.Gen.ModGrads.Frame
public import proofs.«01_k».proof.Proof.Gen.ModGradsIdeal
public import proofs.«01_k».proof.Proof.Gen.ModGradsIdeal.Skeleton
public import proofs.«01_k».proof.Proof.Gen.ModGradsIdeal.Launch
public import proofs.«01_k».proof.Proof.Gen.ModGradsIdeal.Points
public import proofs.«01_k».proof.Proof.Gen.ModGradsIdeal.Frame
public import proofs.«01_k».proof.Proof.Gen.ModGradsRefIdeal
public import proofs.«01_k».proof.Proof.Gen.ModGradsIdeal.Value
public import proofs.«01_k».proof.Proof.Gen.ModGradsRefIdeal.Run
public import proofs.«01_k».proof.Proof.Gen.ModGradsRefIdeal.Read
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_finite_loss
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerRefIdeal
public import proofs.«01_k».proof.Proof.Gen.MixerIdeal.Value
public import proofs.«01_k».proof.Proof.Gen.MixerRefIdeal.Run
public import proofs.«01_k».proof.Proof.Gen.MixerRefIdeal.Read
public import proofs.«01_k».proof.Proof.Gen.Pre_finite
public import proofs.«01_k».proof.Proof.ModGrads
public import proofs.«01_k».proof.Proof.Mixer
public import proofs.«01_k».proof.Proof.Loss
public import proofs.«01_k».proof.Proof.Gen.BwdIn
public import proofs.«01_k».proof.Proof.Gen.BwdInIdeal
public import proofs.«01_k».proof.Proof.Gen.BwdIn.Skeleton
public import proofs.«01_k».proof.Proof.Gen.BwdInIdeal.Skeleton
public import proofs.«01_k».proof.Proof.Gen.BwdIn.Launch
public import proofs.«01_k».proof.Proof.Gen.BwdInIdeal.Launch
public import proofs.«01_k».proof.Proof.Gen.BwdIn.Points
public import proofs.«01_k».proof.Proof.Gen.BwdInIdeal.Points
public import proofs.«01_k».proof.Proof.Gen.BwdInRefIdeal
public import proofs.«01_k».proof.Proof.Gen.BwdInRefIdeal.Run
public import proofs.«01_k».proof.Proof.Gen.BwdInRefIdeal.Read
public import proofs.«01_k».proof.Proof.Gen.Pre_finite_in
public import proofs.«01_k».proof.Proof.BwdIn
public import proofs.«01_k».proof.Proof.Gen.BwdFc2
public import proofs.«01_k».proof.Proof.Gen.BwdFc2Ideal
public import proofs.«01_k».proof.Proof.Gen.BwdFc2.Skeleton
public import proofs.«01_k».proof.Proof.Gen.BwdFc2Ideal.Skeleton
public import proofs.«01_k».proof.Proof.Gen.BwdFc2.Launch
public import proofs.«01_k».proof.Proof.Gen.BwdFc2Ideal.Launch
public import proofs.«01_k».proof.Proof.Gen.BwdFc2.Points
public import proofs.«01_k».proof.Proof.Gen.BwdFc2Ideal.Points
public import proofs.«01_k».proof.Proof.Gen.BwdFc2RefIdeal
public import proofs.«01_k».proof.Proof.Gen.BwdFc2RefIdeal.Run
public import proofs.«01_k».proof.Proof.Gen.BwdFc2RefIdeal.Read
public import proofs.«01_k».proof.Proof.BwdFc2
public import proofs.«01_k».proof.Proof.Gen.BwdMid
public import proofs.«01_k».proof.Proof.Gen.BwdMidIdeal
public import proofs.«01_k».proof.Proof.Gen.BwdMid.Skeleton
public import proofs.«01_k».proof.Proof.Gen.BwdMidIdeal.Skeleton
public import proofs.«01_k».proof.Proof.Gen.BwdMid.Launch
public import proofs.«01_k».proof.Proof.Gen.BwdMidIdeal.Launch
public import proofs.«01_k».proof.Proof.Gen.BwdMid.Points
public import proofs.«01_k».proof.Proof.Gen.BwdMidIdeal.Points
public import proofs.«01_k».proof.Proof.Gen.BwdMidRefIdeal
public import proofs.«01_k».proof.Proof.Gen.BwdMidRefIdeal.Run
public import proofs.«01_k».proof.Proof.Gen.BwdMidRefIdeal.Read
public import proofs.«01_k».proof.Proof.Gen.Pre_finite_mid
public import proofs.«01_k».proof.Proof.BwdMid
public import Idealize.ShloMosaic.Adequacy
public import Idealize.ShloMosaic.Init

@[expose] public section

noncomputable section

namespace Cert.Proof

open Idealize.ShloMosaic Idealize.SL.Sem Cert.ModGrads

theorem claim : Cert.Claim :=
  ⟨Cert.ModGrads.Gen.facts, Cert.ModGradsIdeal.Gen.facts, Cert.ModGradsRefIdeal.Gen.facts,
    Cert.Mixer.Gen.facts, Cert.MixerIdeal.Gen.facts, Cert.MixerRefIdeal.Gen.facts,
    Cert.Loss.Gen.facts, Cert.LossIdeal.Gen.facts, Cert.LossRefIdeal.Gen.facts, Cert.BwdIn.Gen.facts, Cert.BwdInIdeal.Gen.facts, Cert.BwdInRefIdeal.Gen.facts, Cert.BwdFc2.Gen.facts, Cert.BwdFc2Ideal.Gen.facts, Cert.BwdFc2RefIdeal.Gen.facts, Cert.BwdMid.Gen.facts, Cert.BwdMidIdeal.Gen.facts, Cert.BwdMidRefIdeal.Gen.facts,
    Cert.Pre_finite.Gen.facts, Cert.Pre_finite_loss.Gen.facts, Cert.Pre_finite_in.Gen.facts, Cert.Pre_finite_mid.Gen.facts,
    fun m ρ _ => Cert.ModGrads.Gen.frame m ρ, fun m ρ _ => Cert.ModGradsIdeal.Gen.frame m ρ, ModGrads.frame_ref,
    fun m ρ _ => Cert.Mixer.Gen.frame m ρ, fun m ρ _ => Cert.MixerIdeal.Gen.frame m ρ, fun m ρ _ => Cert.MixerIdeal.Gen.frame m ρ,
    Mixer.frame_ref, Mixer.frame_ref_finite,
    fun m ρ _ => Cert.Loss.Gen.frame m ρ, fun m ρ _ => Cert.LossIdeal.Gen.frame m ρ, fun m ρ _ => Cert.LossIdeal.Gen.frame m ρ,
    Loss.frame_ref, Loss.frame_ref_finite,
    BwdIn.frame, BwdIn.frame_ideal, BwdIn.frame_ideal_finite, BwdIn.frame_ref, BwdIn.frame_ref_finite,
    BwdFc2.frame, BwdFc2.frame_ideal, BwdFc2.frame_ref,
    BwdMid.frame, BwdMid.frame_ideal, BwdMid.frame_ideal_finite, BwdMid.frame_ref, BwdMid.frame_ref_finite,
    trivial, ModGrads.algebraic, Mixer.preserves, Mixer.algebraic, trivial, Loss.algebraic, trivial, BwdIn.algebraic, trivial, BwdFc2.algebraic, trivial, BwdMid.algebraic⟩

end Cert.Proof

end
